-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_U2 (m : (ℓ : Loc Cert.U2.nD Cert.U2.τ Cert.U2.sig) → Buf (Elt Bits) ℓ) : Prop :=
  True

def Pre_U2Ideal (m : (ℓ : Loc Cert.U2Ideal.nD Cert.U2Ideal.τ Cert.U2Ideal.sig) → Buf (Elt Ideal) ℓ) : Prop :=
  True

def Pre_U2RefIdeal (m : (ℓ : Loc Cert.U2RefIdeal.nD Cert.U2RefIdeal.τ Cert.U2RefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Qu (m : (ℓ : Loc Cert.Qu.nD Cert.Qu.τ Cert.Qu.sig) → Buf (Elt Bits) ℓ) : Prop :=
  True

def Pre_QuIdeal (m : (ℓ : Loc Cert.QuIdeal.nD Cert.QuIdeal.τ Cert.QuIdeal.sig) → Buf (Elt Ideal) ℓ) : Prop :=
  True

def Pre_QuRefIdeal (m : (ℓ : Loc Cert.QuRefIdeal.nD Cert.QuRefIdeal.τ Cert.QuRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_Wglu (m : (ℓ : Loc Cert.Wglu.nD Cert.Wglu.τ Cert.Wglu.sig) → Buf (Elt Bits) ℓ) : Prop :=
  True

def Pre_WgluIdeal (m : (ℓ : Loc Cert.WgluIdeal.nD Cert.WgluIdeal.τ Cert.WgluIdeal.sig) → Buf (Elt Ideal) ℓ) : Prop :=
  True

def Pre_WgluRefIdeal (m : (ℓ : Loc Cert.WgluRefIdeal.nD Cert.WgluRefIdeal.τ Cert.WgluRefIdeal.sig) → Buf (Elt Ideal) ℓ) : Prop :=
  True

def Pre_Gy (m : (ℓ : Loc Cert.Gy.nD Cert.Gy.τ Cert.Gy.sig) → Buf (Elt Bits) ℓ) : Prop :=
  True

def Pre_GyIdeal (m : (ℓ : Loc Cert.GyIdeal.nD Cert.GyIdeal.τ Cert.GyIdeal.sig) → Buf (Elt Ideal) ℓ) : Prop :=
  True

def Pre_GyRefIdeal (m : (ℓ : Loc Cert.GyRefIdeal.nD Cert.GyRefIdeal.τ Cert.GyRefIdeal.sig) → Buf (Elt Ideal) ℓ) : Prop :=
  True

def Pre_Hs (m : (ℓ : Loc Cert.Hs.nD Cert.Hs.τ Cert.Hs.sig) → Buf (Elt Bits) ℓ) : Prop :=
  True

def Pre_HsIdeal (m : (ℓ : Loc Cert.HsIdeal.nD Cert.HsIdeal.τ Cert.HsIdeal.sig) → Buf (Elt Ideal) ℓ) : Prop :=
  True

def Pre_HsRefIdeal (m : (ℓ : Loc Cert.HsRefIdeal.nD Cert.HsRefIdeal.τ Cert.HsRefIdeal.sig) → Buf (Elt Ideal) ℓ) : Prop :=
  True

def Pre_Fqkv (m : (ℓ : Loc Cert.Fqkv.nD Cert.Fqkv.τ Cert.Fqkv.sig) → Buf (Elt Bits) ℓ) : Prop :=
  True

def Pre_FqkvIdeal (m : (ℓ : Loc Cert.FqkvIdeal.nD Cert.FqkvIdeal.τ Cert.FqkvIdeal.sig) → Buf (Elt Ideal) ℓ) : Prop :=
  True

def Pre_FqkvRefIdeal (m : (ℓ : Loc Cert.FqkvRefIdeal.nD Cert.FqkvRefIdeal.τ Cert.FqkvRefIdeal.sig) → Buf (Elt Ideal) ℓ) : Prop :=
  True

def Pre_Fm (m : (ℓ : Loc Cert.Fm.nD Cert.Fm.τ Cert.Fm.sig) → Buf (Elt Bits) ℓ) : Prop :=
  True

def Pre_FmIdeal (m : (ℓ : Loc Cert.FmIdeal.nD Cert.FmIdeal.τ Cert.FmIdeal.sig) → Buf (Elt Ideal) ℓ) : Prop :=
  True

def Pre_FmRefIdeal (m : (ℓ : Loc Cert.FmRefIdeal.nD Cert.FmRefIdeal.τ Cert.FmRefIdeal.sig) → Buf (Elt Ideal) ℓ) : Prop :=
  True

def Pre_Fglu (m : (ℓ : Loc Cert.Fglu.nD Cert.Fglu.τ Cert.Fglu.sig) → Buf (Elt Bits) ℓ) : Prop :=
  True

def Pre_FgluIdeal (m : (ℓ : Loc Cert.FgluIdeal.nD Cert.FgluIdeal.τ Cert.FgluIdeal.sig) → Buf (Elt Ideal) ℓ) : Prop :=
  True

def Pre_FgluRefIdeal (m : (ℓ : Loc Cert.FgluRefIdeal.nD Cert.FgluRefIdeal.τ Cert.FgluRefIdeal.sig) → Buf (Elt Ideal) ℓ) : Prop :=
  True

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_Fup (m : (ℓ : Loc Cert.Fup.nD Cert.Fup.τ Cert.Fup.sig) → Buf (Elt Bits) ℓ) : Prop :=
  True

def Pre_FupIdeal (m : (ℓ : Loc Cert.FupIdeal.nD Cert.FupIdeal.τ Cert.FupIdeal.sig) → Buf (Elt Ideal) ℓ) : Prop :=
  True

def Pre_FupRefIdeal (m : (ℓ : Loc Cert.FupRefIdeal.nD Cert.FupRefIdeal.τ Cert.FupRefIdeal.sig) → Buf (Elt Ideal) ℓ) : Prop :=
  True

def Pre_Fatt (m : (ℓ : Loc Cert.Fatt.nD Cert.Fatt.τ Cert.Fatt.sig) → Buf (Elt Bits) ℓ) : Prop :=
  True

def Pre_FattIdeal (m : (ℓ : Loc Cert.FattIdeal.nD Cert.FattIdeal.τ Cert.FattIdeal.sig) → Buf (Elt Ideal) ℓ) : Prop :=
  True

def Pre_FattRefIdeal (m : (ℓ : Loc Cert.FattRefIdeal.nD Cert.FattRefIdeal.τ Cert.FattRefIdeal.sig) → Buf (Elt Ideal) ℓ) : Prop :=
  True

def Pre_Fconv (m : (ℓ : Loc Cert.Fconv.nD Cert.Fconv.τ Cert.Fconv.sig) → Buf (Elt Bits) ℓ) : Prop :=
  True

def Pre_FconvIdeal (m : (ℓ : Loc Cert.FconvIdeal.nD Cert.FconvIdeal.τ Cert.FconvIdeal.sig) → Buf (Elt Ideal) ℓ) : Prop :=
  True

def Pre_FconvRefIdeal (m : (ℓ : Loc Cert.FconvRefIdeal.nD Cert.FconvRefIdeal.τ Cert.FconvRefIdeal.sig) → Buf (Elt Ideal) ℓ) : Prop :=
  True

def Pre_ActB (m : (ℓ : Loc Cert.ActB.nD Cert.ActB.τ Cert.ActB.sig) → Buf (Elt Bits) ℓ) : Prop :=
  True

def Pre_ActBIdeal (m : (ℓ : Loc Cert.ActBIdeal.nD Cert.ActBIdeal.τ Cert.ActBIdeal.sig) → Buf (Elt Ideal) ℓ) : Prop :=
  True

def Pre_ActBRefIdeal (m : (ℓ : Loc Cert.ActBRefIdeal.nD Cert.ActBRefIdeal.τ Cert.ActBRefIdeal.sig) → Buf (Elt Ideal) ℓ) : Prop :=
  True

def Pre_GeluB (m : (ℓ : Loc Cert.GeluB.nD Cert.GeluB.τ Cert.GeluB.sig) → Buf (Elt Bits) ℓ) : Prop :=
  True

def Pre_GeluBIdeal (m : (ℓ : Loc Cert.GeluBIdeal.nD Cert.GeluBIdeal.τ Cert.GeluBIdeal.sig) → Buf (Elt Ideal) ℓ) : Prop :=
  True

def Pre_GeluBRefIdeal (m : (ℓ : Loc Cert.GeluBRefIdeal.nD Cert.GeluBRefIdeal.τ Cert.GeluBRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_U2 [hU2 : Cert.U2.Facts] : Prop :=
  ∀ (m : (ℓ : Loc Cert.U2.nD Cert.U2.τ Cert.U2.sig) → Buf (Elt Bits) ℓ) (g : Dev Cert.U2.nD → PrngReg), Pre_U2 m →
    θ_run (Cert.U2.defs (F := Bits)) (onTc (τ := Cert.U2.τ) (Cert.U2.main (F := Bits))) ⟨m, fun _ => 0, g⟩ (fun r => (∀ c : Dev Cert.U2.nD,
      r.2.mem ((c.tc : Thread Cert.U2.nD Cert.U2.τ).loc Cert.U2.main_arg0) = m ((c.tc : Thread Cert.U2.nD Cert.U2.τ).loc Cert.U2.main_arg0)
      ∧ r.2.mem ((c.tc : Thread Cert.U2.nD Cert.U2.τ).loc Cert.U2.main_arg1) = m ((c.tc : Thread Cert.U2.nD Cert.U2.τ).loc Cert.U2.main_arg1))
      ∧ r.2.sem = fun _ => 0)

def quiescent_U2Ideal [hU2Ideal : Cert.U2Ideal.Facts] : Prop :=
  ∀ (m : (ℓ : Loc Cert.U2Ideal.nD Cert.U2Ideal.τ Cert.U2Ideal.sig) → Buf (Elt Ideal) ℓ) (g : Dev Cert.U2Ideal.nD → PrngReg), Pre_U2Ideal m →
    θ_run (Cert.U2Ideal.defs (F := Ideal)) (onTc (τ := Cert.U2Ideal.τ) (Cert.U2Ideal.main (F := Ideal))) ⟨m, fun _ => 0, g⟩ (fun r => (∀ c : Dev Cert.U2Ideal.nD,
      r.2.mem ((c.tc : Thread Cert.U2Ideal.nD Cert.U2Ideal.τ).loc Cert.U2Ideal.main_arg0) = m ((c.tc : Thread Cert.U2Ideal.nD Cert.U2Ideal.τ).loc Cert.U2Ideal.main_arg0)
      ∧ r.2.mem ((c.tc : Thread Cert.U2Ideal.nD Cert.U2Ideal.τ).loc Cert.U2Ideal.main_arg1) = m ((c.tc : Thread Cert.U2Ideal.nD Cert.U2Ideal.τ).loc Cert.U2Ideal.main_arg1))
      ∧ r.2.sem = fun _ => 0)

def quiescent_U2RefIdeal [hU2RefIdeal : Cert.U2RefIdeal.Facts] : Prop :=
  ∀ (m : (ℓ : Loc Cert.U2RefIdeal.nD Cert.U2RefIdeal.τ Cert.U2RefIdeal.sig) → Buf (Elt Ideal) ℓ) (g : Dev Cert.U2RefIdeal.nD → PrngReg), Pre_U2RefIdeal m →
    θ_run (Cert.U2RefIdeal.defs (F := Ideal)) (onTc (τ := Cert.U2RefIdeal.τ) (Cert.U2RefIdeal.main (F := Ideal))) ⟨m, fun _ => 0, g⟩ (fun r => (∀ c : Dev Cert.U2RefIdeal.nD,
      r.2.mem ((c.tc : Thread Cert.U2RefIdeal.nD Cert.U2RefIdeal.τ).loc Cert.U2RefIdeal.main_arg0) = m ((c.tc : Thread Cert.U2RefIdeal.nD Cert.U2RefIdeal.τ).loc Cert.U2RefIdeal.main_arg0)
      ∧ r.2.mem ((c.tc : Thread Cert.U2RefIdeal.nD Cert.U2RefIdeal.τ).loc Cert.U2RefIdeal.main_arg1) = m ((c.tc : Thread Cert.U2RefIdeal.nD Cert.U2RefIdeal.τ).loc Cert.U2RefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Qu [hQu : Cert.Qu.Facts] : Prop :=
  ∀ (m : (ℓ : Loc Cert.Qu.nD Cert.Qu.τ Cert.Qu.sig) → Buf (Elt Bits) ℓ) (g : Dev Cert.Qu.nD → PrngReg), Pre_Qu m →
    θ_run (Cert.Qu.defs (F := Bits)) (onTc (τ := Cert.Qu.τ) (Cert.Qu.main (F := Bits))) ⟨m, fun _ => 0, g⟩ (fun r => (∀ c : Dev Cert.Qu.nD,
      r.2.mem ((c.tc : Thread Cert.Qu.nD Cert.Qu.τ).loc Cert.Qu.main_arg0) = m ((c.tc : Thread Cert.Qu.nD Cert.Qu.τ).loc Cert.Qu.main_arg0)
      ∧ r.2.mem ((c.tc : Thread Cert.Qu.nD Cert.Qu.τ).loc Cert.Qu.main_arg1) = m ((c.tc : Thread Cert.Qu.nD Cert.Qu.τ).loc Cert.Qu.main_arg1))
      ∧ r.2.sem = fun _ => 0)

def quiescent_QuIdeal [hQuIdeal : Cert.QuIdeal.Facts] : Prop :=
  ∀ (m : (ℓ : Loc Cert.QuIdeal.nD Cert.QuIdeal.τ Cert.QuIdeal.sig) → Buf (Elt Ideal) ℓ) (g : Dev Cert.QuIdeal.nD → PrngReg), Pre_QuIdeal m →
    θ_run (Cert.QuIdeal.defs (F := Ideal)) (onTc (τ := Cert.QuIdeal.τ) (Cert.QuIdeal.main (F := Ideal))) ⟨m, fun _ => 0, g⟩ (fun r => (∀ c : Dev Cert.QuIdeal.nD,
      r.2.mem ((c.tc : Thread Cert.QuIdeal.nD Cert.QuIdeal.τ).loc Cert.QuIdeal.main_arg0) = m ((c.tc : Thread Cert.QuIdeal.nD Cert.QuIdeal.τ).loc Cert.QuIdeal.main_arg0)
      ∧ r.2.mem ((c.tc : Thread Cert.QuIdeal.nD Cert.QuIdeal.τ).loc Cert.QuIdeal.main_arg1) = m ((c.tc : Thread Cert.QuIdeal.nD Cert.QuIdeal.τ).loc Cert.QuIdeal.main_arg1))
      ∧ r.2.sem = fun _ => 0)

def quiescent_QuRefIdeal [hQuRefIdeal : Cert.QuRefIdeal.Facts] : Prop :=
  ∀ (m : (ℓ : Loc Cert.QuRefIdeal.nD Cert.QuRefIdeal.τ Cert.QuRefIdeal.sig) → Buf (Elt Ideal) ℓ) (g : Dev Cert.QuRefIdeal.nD → PrngReg), Pre_QuRefIdeal m →
    θ_run (Cert.QuRefIdeal.defs (F := Ideal)) (onTc (τ := Cert.QuRefIdeal.τ) (Cert.QuRefIdeal.main (F := Ideal))) ⟨m, fun _ => 0, g⟩ (fun r => (∀ c : Dev Cert.QuRefIdeal.nD,
      r.2.mem ((c.tc : Thread Cert.QuRefIdeal.nD Cert.QuRefIdeal.τ).loc Cert.QuRefIdeal.main_arg0) = m ((c.tc : Thread Cert.QuRefIdeal.nD Cert.QuRefIdeal.τ).loc Cert.QuRefIdeal.main_arg0)
      ∧ r.2.mem ((c.tc : Thread Cert.QuRefIdeal.nD Cert.QuRefIdeal.τ).loc Cert.QuRefIdeal.main_arg1) = m ((c.tc : Thread Cert.QuRefIdeal.nD Cert.QuRefIdeal.τ).loc Cert.QuRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1))
      ∧ r.2.sem = fun _ => 0)

def quiescent_Wglu [hWglu : Cert.Wglu.Facts] : Prop :=
  ∀ (m : (ℓ : Loc Cert.Wglu.nD Cert.Wglu.τ Cert.Wglu.sig) → Buf (Elt Bits) ℓ) (g : Dev Cert.Wglu.nD → PrngReg), Pre_Wglu m →
    θ_run (Cert.Wglu.defs (F := Bits)) (onTc (τ := Cert.Wglu.τ) (Cert.Wglu.main (F := Bits))) ⟨m, fun _ => 0, g⟩ (fun r => (∀ c : Dev Cert.Wglu.nD,
      r.2.mem ((c.tc : Thread Cert.Wglu.nD Cert.Wglu.τ).loc Cert.Wglu.main_arg0) = m ((c.tc : Thread Cert.Wglu.nD Cert.Wglu.τ).loc Cert.Wglu.main_arg0)
      ∧ r.2.mem ((c.tc : Thread Cert.Wglu.nD Cert.Wglu.τ).loc Cert.Wglu.main_arg1) = m ((c.tc : Thread Cert.Wglu.nD Cert.Wglu.τ).loc Cert.Wglu.main_arg1))
      ∧ r.2.sem = fun _ => 0)

def quiescent_WgluIdeal [hWgluIdeal : Cert.WgluIdeal.Facts] : Prop :=
  ∀ (m : (ℓ : Loc Cert.WgluIdeal.nD Cert.WgluIdeal.τ Cert.WgluIdeal.sig) → Buf (Elt Ideal) ℓ) (g : Dev Cert.WgluIdeal.nD → PrngReg), Pre_WgluIdeal m →
    θ_run (Cert.WgluIdeal.defs (F := Ideal)) (onTc (τ := Cert.WgluIdeal.τ) (Cert.WgluIdeal.main (F := Ideal))) ⟨m, fun _ => 0, g⟩ (fun r => (∀ c : Dev Cert.WgluIdeal.nD,
      r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
      ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1))
      ∧ r.2.sem = fun _ => 0)

def quiescent_WgluRefIdeal [hWgluRefIdeal : Cert.WgluRefIdeal.Facts] : Prop :=
  ∀ (m : (ℓ : Loc Cert.WgluRefIdeal.nD Cert.WgluRefIdeal.τ Cert.WgluRefIdeal.sig) → Buf (Elt Ideal) ℓ) (g : Dev Cert.WgluRefIdeal.nD → PrngReg), Pre_WgluRefIdeal m →
    θ_run (Cert.WgluRefIdeal.defs (F := Ideal)) (onTc (τ := Cert.WgluRefIdeal.τ) (Cert.WgluRefIdeal.main (F := Ideal))) ⟨m, fun _ => 0, g⟩ (fun r => (∀ c : Dev Cert.WgluRefIdeal.nD,
      r.2.mem ((c.tc : Thread Cert.WgluRefIdeal.nD Cert.WgluRefIdeal.τ).loc Cert.WgluRefIdeal.main_arg0) = m ((c.tc : Thread Cert.WgluRefIdeal.nD Cert.WgluRefIdeal.τ).loc Cert.WgluRefIdeal.main_arg0)
      ∧ r.2.mem ((c.tc : Thread Cert.WgluRefIdeal.nD Cert.WgluRefIdeal.τ).loc Cert.WgluRefIdeal.main_arg1) = m ((c.tc : Thread Cert.WgluRefIdeal.nD Cert.WgluRefIdeal.τ).loc Cert.WgluRefIdeal.main_arg1))
      ∧ r.2.sem = fun _ => 0)

def quiescent_Gy [hGy : Cert.Gy.Facts] : Prop :=
  ∀ (m : (ℓ : Loc Cert.Gy.nD Cert.Gy.τ Cert.Gy.sig) → Buf (Elt Bits) ℓ) (g : Dev Cert.Gy.nD → PrngReg), Pre_Gy m →
    θ_run (Cert.Gy.defs (F := Bits)) (onTc (τ := Cert.Gy.τ) (Cert.Gy.main (F := Bits))) ⟨m, fun _ => 0, g⟩ (fun r => (∀ c : Dev Cert.Gy.nD,
      r.2.mem ((c.tc : Thread Cert.Gy.nD Cert.Gy.τ).loc Cert.Gy.main_arg0) = m ((c.tc : Thread Cert.Gy.nD Cert.Gy.τ).loc Cert.Gy.main_arg0)
      ∧ r.2.mem ((c.tc : Thread Cert.Gy.nD Cert.Gy.τ).loc Cert.Gy.main_arg1) = m ((c.tc : Thread Cert.Gy.nD Cert.Gy.τ).loc Cert.Gy.main_arg1))
      ∧ r.2.sem = fun _ => 0)

def quiescent_GyIdeal [hGyIdeal : Cert.GyIdeal.Facts] : Prop :=
  ∀ (m : (ℓ : Loc Cert.GyIdeal.nD Cert.GyIdeal.τ Cert.GyIdeal.sig) → Buf (Elt Ideal) ℓ) (g : Dev Cert.GyIdeal.nD → PrngReg), Pre_GyIdeal m →
    θ_run (Cert.GyIdeal.defs (F := Ideal)) (onTc (τ := Cert.GyIdeal.τ) (Cert.GyIdeal.main (F := Ideal))) ⟨m, fun _ => 0, g⟩ (fun r => (∀ c : Dev Cert.GyIdeal.nD,
      r.2.mem ((c.tc : Thread Cert.GyIdeal.nD Cert.GyIdeal.τ).loc Cert.GyIdeal.main_arg0) = m ((c.tc : Thread Cert.GyIdeal.nD Cert.GyIdeal.τ).loc Cert.GyIdeal.main_arg0)
      ∧ r.2.mem ((c.tc : Thread Cert.GyIdeal.nD Cert.GyIdeal.τ).loc Cert.GyIdeal.main_arg1) = m ((c.tc : Thread Cert.GyIdeal.nD Cert.GyIdeal.τ).loc Cert.GyIdeal.main_arg1))
      ∧ r.2.sem = fun _ => 0)

def quiescent_GyRefIdeal [hGyRefIdeal : Cert.GyRefIdeal.Facts] : Prop :=
  ∀ (m : (ℓ : Loc Cert.GyRefIdeal.nD Cert.GyRefIdeal.τ Cert.GyRefIdeal.sig) → Buf (Elt Ideal) ℓ) (g : Dev Cert.GyRefIdeal.nD → PrngReg), Pre_GyRefIdeal m →
    θ_run (Cert.GyRefIdeal.defs (F := Ideal)) (onTc (τ := Cert.GyRefIdeal.τ) (Cert.GyRefIdeal.main (F := Ideal))) ⟨m, fun _ => 0, g⟩ (fun r => (∀ c : Dev Cert.GyRefIdeal.nD,
      r.2.mem ((c.tc : Thread Cert.GyRefIdeal.nD Cert.GyRefIdeal.τ).loc Cert.GyRefIdeal.main_arg0) = m ((c.tc : Thread Cert.GyRefIdeal.nD Cert.GyRefIdeal.τ).loc Cert.GyRefIdeal.main_arg0)
      ∧ r.2.mem ((c.tc : Thread Cert.GyRefIdeal.nD Cert.GyRefIdeal.τ).loc Cert.GyRefIdeal.main_arg1) = m ((c.tc : Thread Cert.GyRefIdeal.nD Cert.GyRefIdeal.τ).loc Cert.GyRefIdeal.main_arg1))
      ∧ r.2.sem = fun _ => 0)

def quiescent_Hs [hHs : Cert.Hs.Facts] : Prop :=
  ∀ (m : (ℓ : Loc Cert.Hs.nD Cert.Hs.τ Cert.Hs.sig) → Buf (Elt Bits) ℓ) (g : Dev Cert.Hs.nD → PrngReg), Pre_Hs m →
    θ_run (Cert.Hs.defs (F := Bits)) (onTc (τ := Cert.Hs.τ) (Cert.Hs.main (F := Bits))) ⟨m, fun _ => 0, g⟩ (fun r => (∀ c : Dev Cert.Hs.nD,
      r.2.mem ((c.tc : Thread Cert.Hs.nD Cert.Hs.τ).loc Cert.Hs.main_arg0) = m ((c.tc : Thread Cert.Hs.nD Cert.Hs.τ).loc Cert.Hs.main_arg0)
      ∧ r.2.mem ((c.tc : Thread Cert.Hs.nD Cert.Hs.τ).loc Cert.Hs.main_arg1) = m ((c.tc : Thread Cert.Hs.nD Cert.Hs.τ).loc Cert.Hs.main_arg1))
      ∧ r.2.sem = fun _ => 0)

def quiescent_HsIdeal [hHsIdeal : Cert.HsIdeal.Facts] : Prop :=
  ∀ (m : (ℓ : Loc Cert.HsIdeal.nD Cert.HsIdeal.τ Cert.HsIdeal.sig) → Buf (Elt Ideal) ℓ) (g : Dev Cert.HsIdeal.nD → PrngReg), Pre_HsIdeal m →
    θ_run (Cert.HsIdeal.defs (F := Ideal)) (onTc (τ := Cert.HsIdeal.τ) (Cert.HsIdeal.main (F := Ideal))) ⟨m, fun _ => 0, g⟩ (fun r => (∀ c : Dev Cert.HsIdeal.nD,
      r.2.mem ((c.tc : Thread Cert.HsIdeal.nD Cert.HsIdeal.τ).loc Cert.HsIdeal.main_arg0) = m ((c.tc : Thread Cert.HsIdeal.nD Cert.HsIdeal.τ).loc Cert.HsIdeal.main_arg0)
      ∧ r.2.mem ((c.tc : Thread Cert.HsIdeal.nD Cert.HsIdeal.τ).loc Cert.HsIdeal.main_arg1) = m ((c.tc : Thread Cert.HsIdeal.nD Cert.HsIdeal.τ).loc Cert.HsIdeal.main_arg1))
      ∧ r.2.sem = fun _ => 0)

def quiescent_HsRefIdeal [hHsRefIdeal : Cert.HsRefIdeal.Facts] : Prop :=
  ∀ (m : (ℓ : Loc Cert.HsRefIdeal.nD Cert.HsRefIdeal.τ Cert.HsRefIdeal.sig) → Buf (Elt Ideal) ℓ) (g : Dev Cert.HsRefIdeal.nD → PrngReg), Pre_HsRefIdeal m →
    θ_run (Cert.HsRefIdeal.defs (F := Ideal)) (onTc (τ := Cert.HsRefIdeal.τ) (Cert.HsRefIdeal.main (F := Ideal))) ⟨m, fun _ => 0, g⟩ (fun r => (∀ c : Dev Cert.HsRefIdeal.nD,
      r.2.mem ((c.tc : Thread Cert.HsRefIdeal.nD Cert.HsRefIdeal.τ).loc Cert.HsRefIdeal.main_arg0) = m ((c.tc : Thread Cert.HsRefIdeal.nD Cert.HsRefIdeal.τ).loc Cert.HsRefIdeal.main_arg0)
      ∧ r.2.mem ((c.tc : Thread Cert.HsRefIdeal.nD Cert.HsRefIdeal.τ).loc Cert.HsRefIdeal.main_arg1) = m ((c.tc : Thread Cert.HsRefIdeal.nD Cert.HsRefIdeal.τ).loc Cert.HsRefIdeal.main_arg1))
      ∧ r.2.sem = fun _ => 0)

def quiescent_Fqkv [hFqkv : Cert.Fqkv.Facts] : Prop :=
  ∀ (m : (ℓ : Loc Cert.Fqkv.nD Cert.Fqkv.τ Cert.Fqkv.sig) → Buf (Elt Bits) ℓ) (g : Dev Cert.Fqkv.nD → PrngReg), Pre_Fqkv m →
    θ_run (Cert.Fqkv.defs (F := Bits)) (onTc (τ := Cert.Fqkv.τ) (Cert.Fqkv.main (F := Bits))) ⟨m, fun _ => 0, g⟩ (fun r => (∀ c : Dev Cert.Fqkv.nD,
      r.2.mem ((c.tc : Thread Cert.Fqkv.nD Cert.Fqkv.τ).loc Cert.Fqkv.main_arg0) = m ((c.tc : Thread Cert.Fqkv.nD Cert.Fqkv.τ).loc Cert.Fqkv.main_arg0)
      ∧ r.2.mem ((c.tc : Thread Cert.Fqkv.nD Cert.Fqkv.τ).loc Cert.Fqkv.main_arg1) = m ((c.tc : Thread Cert.Fqkv.nD Cert.Fqkv.τ).loc Cert.Fqkv.main_arg1))
      ∧ r.2.sem = fun _ => 0)

def quiescent_FqkvIdeal [hFqkvIdeal : Cert.FqkvIdeal.Facts] : Prop :=
  ∀ (m : (ℓ : Loc Cert.FqkvIdeal.nD Cert.FqkvIdeal.τ Cert.FqkvIdeal.sig) → Buf (Elt Ideal) ℓ) (g : Dev Cert.FqkvIdeal.nD → PrngReg), Pre_FqkvIdeal m →
    θ_run (Cert.FqkvIdeal.defs (F := Ideal)) (onTc (τ := Cert.FqkvIdeal.τ) (Cert.FqkvIdeal.main (F := Ideal))) ⟨m, fun _ => 0, g⟩ (fun r => (∀ c : Dev Cert.FqkvIdeal.nD,
      r.2.mem ((c.tc : Thread Cert.FqkvIdeal.nD Cert.FqkvIdeal.τ).loc Cert.FqkvIdeal.main_arg0) = m ((c.tc : Thread Cert.FqkvIdeal.nD Cert.FqkvIdeal.τ).loc Cert.FqkvIdeal.main_arg0)
      ∧ r.2.mem ((c.tc : Thread Cert.FqkvIdeal.nD Cert.FqkvIdeal.τ).loc Cert.FqkvIdeal.main_arg1) = m ((c.tc : Thread Cert.FqkvIdeal.nD Cert.FqkvIdeal.τ).loc Cert.FqkvIdeal.main_arg1))
      ∧ r.2.sem = fun _ => 0)

def quiescent_FqkvRefIdeal [hFqkvRefIdeal : Cert.FqkvRefIdeal.Facts] : Prop :=
  ∀ (m : (ℓ : Loc Cert.FqkvRefIdeal.nD Cert.FqkvRefIdeal.τ Cert.FqkvRefIdeal.sig) → Buf (Elt Ideal) ℓ) (g : Dev Cert.FqkvRefIdeal.nD → PrngReg), Pre_FqkvRefIdeal m →
    θ_run (Cert.FqkvRefIdeal.defs (F := Ideal)) (onTc (τ := Cert.FqkvRefIdeal.τ) (Cert.FqkvRefIdeal.main (F := Ideal))) ⟨m, fun _ => 0, g⟩ (fun r => (∀ c : Dev Cert.FqkvRefIdeal.nD,
      r.2.mem ((c.tc : Thread Cert.FqkvRefIdeal.nD Cert.FqkvRefIdeal.τ).loc Cert.FqkvRefIdeal.main_arg0) = m ((c.tc : Thread Cert.FqkvRefIdeal.nD Cert.FqkvRefIdeal.τ).loc Cert.FqkvRefIdeal.main_arg0)
      ∧ r.2.mem ((c.tc : Thread Cert.FqkvRefIdeal.nD Cert.FqkvRefIdeal.τ).loc Cert.FqkvRefIdeal.main_arg1) = m ((c.tc : Thread Cert.FqkvRefIdeal.nD Cert.FqkvRefIdeal.τ).loc Cert.FqkvRefIdeal.main_arg1))
      ∧ r.2.sem = fun _ => 0)

def quiescent_Fm [hFm : Cert.Fm.Facts] : Prop :=
  ∀ (m : (ℓ : Loc Cert.Fm.nD Cert.Fm.τ Cert.Fm.sig) → Buf (Elt Bits) ℓ) (g : Dev Cert.Fm.nD → PrngReg), Pre_Fm m →
    θ_run (Cert.Fm.defs (F := Bits)) (onTc (τ := Cert.Fm.τ) (Cert.Fm.main (F := Bits))) ⟨m, fun _ => 0, g⟩ (fun r => (∀ c : Dev Cert.Fm.nD,
      r.2.mem ((c.tc : Thread Cert.Fm.nD Cert.Fm.τ).loc Cert.Fm.main_arg0) = m ((c.tc : Thread Cert.Fm.nD Cert.Fm.τ).loc Cert.Fm.main_arg0)
      ∧ r.2.mem ((c.tc : Thread Cert.Fm.nD Cert.Fm.τ).loc Cert.Fm.main_arg1) = m ((c.tc : Thread Cert.Fm.nD Cert.Fm.τ).loc Cert.Fm.main_arg1))
      ∧ r.2.sem = fun _ => 0)

def quiescent_FmIdeal [hFmIdeal : Cert.FmIdeal.Facts] : Prop :=
  ∀ (m : (ℓ : Loc Cert.FmIdeal.nD Cert.FmIdeal.τ Cert.FmIdeal.sig) → Buf (Elt Ideal) ℓ) (g : Dev Cert.FmIdeal.nD → PrngReg), Pre_FmIdeal m →
    θ_run (Cert.FmIdeal.defs (F := Ideal)) (onTc (τ := Cert.FmIdeal.τ) (Cert.FmIdeal.main (F := Ideal))) ⟨m, fun _ => 0, g⟩ (fun r => (∀ c : Dev Cert.FmIdeal.nD,
      r.2.mem ((c.tc : Thread Cert.FmIdeal.nD Cert.FmIdeal.τ).loc Cert.FmIdeal.main_arg0) = m ((c.tc : Thread Cert.FmIdeal.nD Cert.FmIdeal.τ).loc Cert.FmIdeal.main_arg0)
      ∧ r.2.mem ((c.tc : Thread Cert.FmIdeal.nD Cert.FmIdeal.τ).loc Cert.FmIdeal.main_arg1) = m ((c.tc : Thread Cert.FmIdeal.nD Cert.FmIdeal.τ).loc Cert.FmIdeal.main_arg1))
      ∧ r.2.sem = fun _ => 0)

def quiescent_FmRefIdeal [hFmRefIdeal : Cert.FmRefIdeal.Facts] : Prop :=
  ∀ (m : (ℓ : Loc Cert.FmRefIdeal.nD Cert.FmRefIdeal.τ Cert.FmRefIdeal.sig) → Buf (Elt Ideal) ℓ) (g : Dev Cert.FmRefIdeal.nD → PrngReg), Pre_FmRefIdeal m →
    θ_run (Cert.FmRefIdeal.defs (F := Ideal)) (onTc (τ := Cert.FmRefIdeal.τ) (Cert.FmRefIdeal.main (F := Ideal))) ⟨m, fun _ => 0, g⟩ (fun r => (∀ c : Dev Cert.FmRefIdeal.nD,
      r.2.mem ((c.tc : Thread Cert.FmRefIdeal.nD Cert.FmRefIdeal.τ).loc Cert.FmRefIdeal.main_arg0) = m ((c.tc : Thread Cert.FmRefIdeal.nD Cert.FmRefIdeal.τ).loc Cert.FmRefIdeal.main_arg0)
      ∧ r.2.mem ((c.tc : Thread Cert.FmRefIdeal.nD Cert.FmRefIdeal.τ).loc Cert.FmRefIdeal.main_arg1) = m ((c.tc : Thread Cert.FmRefIdeal.nD Cert.FmRefIdeal.τ).loc Cert.FmRefIdeal.main_arg1))
      ∧ r.2.sem = fun _ => 0)

def quiescent_Fglu [hFglu : Cert.Fglu.Facts] : Prop :=
  ∀ (m : (ℓ : Loc Cert.Fglu.nD Cert.Fglu.τ Cert.Fglu.sig) → Buf (Elt Bits) ℓ) (g : Dev Cert.Fglu.nD → PrngReg), Pre_Fglu m →
    θ_run (Cert.Fglu.defs (F := Bits)) (onTc (τ := Cert.Fglu.τ) (Cert.Fglu.main (F := Bits))) ⟨m, fun _ => 0, g⟩ (fun r => (∀ c : Dev Cert.Fglu.nD,
      r.2.mem ((c.tc : Thread Cert.Fglu.nD Cert.Fglu.τ).loc Cert.Fglu.main_arg0) = m ((c.tc : Thread Cert.Fglu.nD Cert.Fglu.τ).loc Cert.Fglu.main_arg0)
      ∧ r.2.mem ((c.tc : Thread Cert.Fglu.nD Cert.Fglu.τ).loc Cert.Fglu.main_arg1) = m ((c.tc : Thread Cert.Fglu.nD Cert.Fglu.τ).loc Cert.Fglu.main_arg1))
      ∧ r.2.sem = fun _ => 0)

def quiescent_FgluIdeal [hFgluIdeal : Cert.FgluIdeal.Facts] : Prop :=
  ∀ (m : (ℓ : Loc Cert.FgluIdeal.nD Cert.FgluIdeal.τ Cert.FgluIdeal.sig) → Buf (Elt Ideal) ℓ) (g : Dev Cert.FgluIdeal.nD → PrngReg), Pre_FgluIdeal m →
    θ_run (Cert.FgluIdeal.defs (F := Ideal)) (onTc (τ := Cert.FgluIdeal.τ) (Cert.FgluIdeal.main (F := Ideal))) ⟨m, fun _ => 0, g⟩ (fun r => (∀ c : Dev Cert.FgluIdeal.nD,
      r.2.mem ((c.tc : Thread Cert.FgluIdeal.nD Cert.FgluIdeal.τ).loc Cert.FgluIdeal.main_arg0) = m ((c.tc : Thread Cert.FgluIdeal.nD Cert.FgluIdeal.τ).loc Cert.FgluIdeal.main_arg0)
      ∧ r.2.mem ((c.tc : Thread Cert.FgluIdeal.nD Cert.FgluIdeal.τ).loc Cert.FgluIdeal.main_arg1) = m ((c.tc : Thread Cert.FgluIdeal.nD Cert.FgluIdeal.τ).loc Cert.FgluIdeal.main_arg1))
      ∧ r.2.sem = fun _ => 0)

def quiescent_FgluRefIdeal [hFgluRefIdeal : Cert.FgluRefIdeal.Facts] : Prop :=
  ∀ (m : (ℓ : Loc Cert.FgluRefIdeal.nD Cert.FgluRefIdeal.τ Cert.FgluRefIdeal.sig) → Buf (Elt Ideal) ℓ) (g : Dev Cert.FgluRefIdeal.nD → PrngReg), Pre_FgluRefIdeal m →
    θ_run (Cert.FgluRefIdeal.defs (F := Ideal)) (onTc (τ := Cert.FgluRefIdeal.τ) (Cert.FgluRefIdeal.main (F := Ideal))) ⟨m, fun _ => 0, g⟩ (fun r => (∀ c : Dev Cert.FgluRefIdeal.nD,
      r.2.mem ((c.tc : Thread Cert.FgluRefIdeal.nD Cert.FgluRefIdeal.τ).loc Cert.FgluRefIdeal.main_arg0) = m ((c.tc : Thread Cert.FgluRefIdeal.nD Cert.FgluRefIdeal.τ).loc Cert.FgluRefIdeal.main_arg0)
      ∧ r.2.mem ((c.tc : Thread Cert.FgluRefIdeal.nD Cert.FgluRefIdeal.τ).loc Cert.FgluRefIdeal.main_arg1) = m ((c.tc : Thread Cert.FgluRefIdeal.nD Cert.FgluRefIdeal.τ).loc Cert.FgluRefIdeal.main_arg1))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1))
      ∧ r.2.sem = fun _ => 0)

def quiescent_Fup [hFup : Cert.Fup.Facts] : Prop :=
  ∀ (m : (ℓ : Loc Cert.Fup.nD Cert.Fup.τ Cert.Fup.sig) → Buf (Elt Bits) ℓ) (g : Dev Cert.Fup.nD → PrngReg), Pre_Fup m →
    θ_run (Cert.Fup.defs (F := Bits)) (onTc (τ := Cert.Fup.τ) (Cert.Fup.main (F := Bits))) ⟨m, fun _ => 0, g⟩ (fun r => (∀ c : Dev Cert.Fup.nD,
      r.2.mem ((c.tc : Thread Cert.Fup.nD Cert.Fup.τ).loc Cert.Fup.main_arg0) = m ((c.tc : Thread Cert.Fup.nD Cert.Fup.τ).loc Cert.Fup.main_arg0)
      ∧ r.2.mem ((c.tc : Thread Cert.Fup.nD Cert.Fup.τ).loc Cert.Fup.main_arg1) = m ((c.tc : Thread Cert.Fup.nD Cert.Fup.τ).loc Cert.Fup.main_arg1))
      ∧ r.2.sem = fun _ => 0)

def quiescent_FupIdeal [hFupIdeal : Cert.FupIdeal.Facts] : Prop :=
  ∀ (m : (ℓ : Loc Cert.FupIdeal.nD Cert.FupIdeal.τ Cert.FupIdeal.sig) → Buf (Elt Ideal) ℓ) (g : Dev Cert.FupIdeal.nD → PrngReg), Pre_FupIdeal m →
    θ_run (Cert.FupIdeal.defs (F := Ideal)) (onTc (τ := Cert.FupIdeal.τ) (Cert.FupIdeal.main (F := Ideal))) ⟨m, fun _ => 0, g⟩ (fun r => (∀ c : Dev Cert.FupIdeal.nD,
      r.2.mem ((c.tc : Thread Cert.FupIdeal.nD Cert.FupIdeal.τ).loc Cert.FupIdeal.main_arg0) = m ((c.tc : Thread Cert.FupIdeal.nD Cert.FupIdeal.τ).loc Cert.FupIdeal.main_arg0)
      ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ r.2.sem = fun _ => 0)

def quiescent_FupRefIdeal [hFupRefIdeal : Cert.FupRefIdeal.Facts] : Prop :=
  ∀ (m : (ℓ : Loc Cert.FupRefIdeal.nD Cert.FupRefIdeal.τ Cert.FupRefIdeal.sig) → Buf (Elt Ideal) ℓ) (g : Dev Cert.FupRefIdeal.nD → PrngReg), Pre_FupRefIdeal m →
    θ_run (Cert.FupRefIdeal.defs (F := Ideal)) (onTc (τ := Cert.FupRefIdeal.τ) (Cert.FupRefIdeal.main (F := Ideal))) ⟨m, fun _ => 0, g⟩ (fun r => (∀ c : Dev Cert.FupRefIdeal.nD,
      r.2.mem ((c.tc : Thread Cert.FupRefIdeal.nD Cert.FupRefIdeal.τ).loc Cert.FupRefIdeal.main_arg0) = m ((c.tc : Thread Cert.FupRefIdeal.nD Cert.FupRefIdeal.τ).loc Cert.FupRefIdeal.main_arg0)
      ∧ r.2.mem ((c.tc : Thread Cert.FupRefIdeal.nD Cert.FupRefIdeal.τ).loc Cert.FupRefIdeal.main_arg1) = m ((c.tc : Thread Cert.FupRefIdeal.nD Cert.FupRefIdeal.τ).loc Cert.FupRefIdeal.main_arg1))
      ∧ r.2.sem = fun _ => 0)

def quiescent_Fatt [hFatt : Cert.Fatt.Facts] : Prop :=
  ∀ (m : (ℓ : Loc Cert.Fatt.nD Cert.Fatt.τ Cert.Fatt.sig) → Buf (Elt Bits) ℓ) (g : Dev Cert.Fatt.nD → PrngReg), Pre_Fatt m →
    θ_run (Cert.Fatt.defs (F := Bits)) (onTc (τ := Cert.Fatt.τ) (Cert.Fatt.main (F := Bits))) ⟨m, fun _ => 0, g⟩ (fun r => (∀ c : Dev Cert.Fatt.nD,
      r.2.mem ((c.tc : Thread Cert.Fatt.nD Cert.Fatt.τ).loc Cert.Fatt.main_arg0) = m ((c.tc : Thread Cert.Fatt.nD Cert.Fatt.τ).loc Cert.Fatt.main_arg0))
      ∧ r.2.sem = fun _ => 0)

def quiescent_FattIdeal [hFattIdeal : Cert.FattIdeal.Facts] : Prop :=
  ∀ (m : (ℓ : Loc Cert.FattIdeal.nD Cert.FattIdeal.τ Cert.FattIdeal.sig) → Buf (Elt Ideal) ℓ) (g : Dev Cert.FattIdeal.nD → PrngReg), Pre_FattIdeal m →
    θ_run (Cert.FattIdeal.defs (F := Ideal)) (onTc (τ := Cert.FattIdeal.τ) (Cert.FattIdeal.main (F := Ideal))) ⟨m, fun _ => 0, g⟩ (fun r => (∀ c : Dev Cert.FattIdeal.nD,
      r.2.mem ((c.tc : Thread Cert.FattIdeal.nD Cert.FattIdeal.τ).loc Cert.FattIdeal.main_arg0) = m ((c.tc : Thread Cert.FattIdeal.nD Cert.FattIdeal.τ).loc Cert.FattIdeal.main_arg0))
      ∧ r.2.sem = fun _ => 0)

def quiescent_FattRefIdeal [hFattRefIdeal : Cert.FattRefIdeal.Facts] : Prop :=
  ∀ (m : (ℓ : Loc Cert.FattRefIdeal.nD Cert.FattRefIdeal.τ Cert.FattRefIdeal.sig) → Buf (Elt Ideal) ℓ) (g : Dev Cert.FattRefIdeal.nD → PrngReg), Pre_FattRefIdeal m →
    θ_run (Cert.FattRefIdeal.defs (F := Ideal)) (onTc (τ := Cert.FattRefIdeal.τ) (Cert.FattRefIdeal.main (F := Ideal))) ⟨m, fun _ => 0, g⟩ (fun r => (∀ c : Dev Cert.FattRefIdeal.nD,
      r.2.mem ((c.tc : Thread Cert.FattRefIdeal.nD Cert.FattRefIdeal.τ).loc Cert.FattRefIdeal.main_arg0) = m ((c.tc : Thread Cert.FattRefIdeal.nD Cert.FattRefIdeal.τ).loc Cert.FattRefIdeal.main_arg0))
      ∧ r.2.sem = fun _ => 0)

def quiescent_Fconv [hFconv : Cert.Fconv.Facts] : Prop :=
  ∀ (m : (ℓ : Loc Cert.Fconv.nD Cert.Fconv.τ Cert.Fconv.sig) → Buf (Elt Bits) ℓ) (g : Dev Cert.Fconv.nD → PrngReg), Pre_Fconv m →
    θ_run (Cert.Fconv.defs (F := Bits)) (onTc (τ := Cert.Fconv.τ) (Cert.Fconv.main (F := Bits))) ⟨m, fun _ => 0, g⟩ (fun r => (∀ c : Dev Cert.Fconv.nD,
      r.2.mem ((c.tc : Thread Cert.Fconv.nD Cert.Fconv.τ).loc Cert.Fconv.main_arg0) = m ((c.tc : Thread Cert.Fconv.nD Cert.Fconv.τ).loc Cert.Fconv.main_arg0)
      ∧ r.2.mem ((c.tc : Thread Cert.Fconv.nD Cert.Fconv.τ).loc Cert.Fconv.main_arg1) = m ((c.tc : Thread Cert.Fconv.nD Cert.Fconv.τ).loc Cert.Fconv.main_arg1)
      ∧ r.2.mem ((c.tc : Thread Cert.Fconv.nD Cert.Fconv.τ).loc Cert.Fconv.main_arg2) = m ((c.tc : Thread Cert.Fconv.nD Cert.Fconv.τ).loc Cert.Fconv.main_arg2))
      ∧ r.2.sem = fun _ => 0)

def quiescent_FconvIdeal [hFconvIdeal : Cert.FconvIdeal.Facts] : Prop :=
  ∀ (m : (ℓ : Loc Cert.FconvIdeal.nD Cert.FconvIdeal.τ Cert.FconvIdeal.sig) → Buf (Elt Ideal) ℓ) (g : Dev Cert.FconvIdeal.nD → PrngReg), Pre_FconvIdeal m →
    θ_run (Cert.FconvIdeal.defs (F := Ideal)) (onTc (τ := Cert.FconvIdeal.τ) (Cert.FconvIdeal.main (F := Ideal))) ⟨m, fun _ => 0, g⟩ (fun r => (∀ c : Dev Cert.FconvIdeal.nD,
      r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
      ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1)
      ∧ r.2.mem ((c.tc : Thread Cert.FconvIdeal.nD Cert.FconvIdeal.τ).loc Cert.FconvIdeal.main_arg2) = m ((c.tc : Thread Cert.FconvIdeal.nD Cert.FconvIdeal.τ).loc Cert.FconvIdeal.main_arg2))
      ∧ r.2.sem = fun _ => 0)

def quiescent_FconvRefIdeal [hFconvRefIdeal : Cert.FconvRefIdeal.Facts] : Prop :=
  ∀ (m : (ℓ : Loc Cert.FconvRefIdeal.nD Cert.FconvRefIdeal.τ Cert.FconvRefIdeal.sig) → Buf (Elt Ideal) ℓ) (g : Dev Cert.FconvRefIdeal.nD → PrngReg), Pre_FconvRefIdeal m →
    θ_run (Cert.FconvRefIdeal.defs (F := Ideal)) (onTc (τ := Cert.FconvRefIdeal.τ) (Cert.FconvRefIdeal.main (F := Ideal))) ⟨m, fun _ => 0, g⟩ (fun r => (∀ c : Dev Cert.FconvRefIdeal.nD,
      r.2.mem ((c.tc : Thread Cert.FconvRefIdeal.nD Cert.FconvRefIdeal.τ).loc Cert.FconvRefIdeal.main_arg0) = m ((c.tc : Thread Cert.FconvRefIdeal.nD Cert.FconvRefIdeal.τ).loc Cert.FconvRefIdeal.main_arg0)
      ∧ r.2.mem ((c.tc : Thread Cert.FconvRefIdeal.nD Cert.FconvRefIdeal.τ).loc Cert.FconvRefIdeal.main_arg1) = m ((c.tc : Thread Cert.FconvRefIdeal.nD Cert.FconvRefIdeal.τ).loc Cert.FconvRefIdeal.main_arg1)
      ∧ r.2.mem ((c.tc : Thread Cert.FconvRefIdeal.nD Cert.FconvRefIdeal.τ).loc Cert.FconvRefIdeal.main_arg2) = m ((c.tc : Thread Cert.FconvRefIdeal.nD Cert.FconvRefIdeal.τ).loc Cert.FconvRefIdeal.main_arg2))
      ∧ r.2.sem = fun _ => 0)

def quiescent_ActB [hActB : Cert.ActB.Facts] : Prop :=
  ∀ (m : (ℓ : Loc Cert.ActB.nD Cert.ActB.τ Cert.ActB.sig) → Buf (Elt Bits) ℓ) (g : Dev Cert.ActB.nD → PrngReg), Pre_ActB m →
    θ_run (Cert.ActB.defs (F := Bits)) (onTc (τ := Cert.ActB.τ) (Cert.ActB.main (F := Bits))) ⟨m, fun _ => 0, g⟩ (fun r => (∀ c : Dev Cert.ActB.nD,
      r.2.mem ((c.tc : Thread Cert.ActB.nD Cert.ActB.τ).loc Cert.ActB.main_arg0) = m ((c.tc : Thread Cert.ActB.nD Cert.ActB.τ).loc Cert.ActB.main_arg0)
      ∧ r.2.mem ((c.tc : Thread Cert.ActB.nD Cert.ActB.τ).loc Cert.ActB.main_arg1) = m ((c.tc : Thread Cert.ActB.nD Cert.ActB.τ).loc Cert.ActB.main_arg1)
      ∧ r.2.mem ((c.tc : Thread Cert.ActB.nD Cert.ActB.τ).loc Cert.ActB.main_arg2) = m ((c.tc : Thread Cert.ActB.nD Cert.ActB.τ).loc Cert.ActB.main_arg2))
      ∧ r.2.sem = fun _ => 0)

def quiescent_ActBIdeal [hActBIdeal : Cert.ActBIdeal.Facts] : Prop :=
  ∀ (m : (ℓ : Loc Cert.ActBIdeal.nD Cert.ActBIdeal.τ Cert.ActBIdeal.sig) → Buf (Elt Ideal) ℓ) (g : Dev Cert.ActBIdeal.nD → PrngReg), Pre_ActBIdeal m →
    θ_run (Cert.ActBIdeal.defs (F := Ideal)) (onTc (τ := Cert.ActBIdeal.τ) (Cert.ActBIdeal.main (F := Ideal))) ⟨m, fun _ => 0, g⟩ (fun r => (∀ c : Dev Cert.ActBIdeal.nD,
      r.2.mem ((c.tc : Thread Cert.ActBIdeal.nD Cert.ActBIdeal.τ).loc Cert.ActBIdeal.main_arg0) = m ((c.tc : Thread Cert.ActBIdeal.nD Cert.ActBIdeal.τ).loc Cert.ActBIdeal.main_arg0)
      ∧ r.2.mem ((c.tc : Thread Cert.ActBIdeal.nD Cert.ActBIdeal.τ).loc Cert.ActBIdeal.main_arg1) = m ((c.tc : Thread Cert.ActBIdeal.nD Cert.ActBIdeal.τ).loc Cert.ActBIdeal.main_arg1)
      ∧ r.2.mem ((c.tc : Thread Cert.ActBIdeal.nD Cert.ActBIdeal.τ).loc Cert.ActBIdeal.main_arg2) = m ((c.tc : Thread Cert.ActBIdeal.nD Cert.ActBIdeal.τ).loc Cert.ActBIdeal.main_arg2))
      ∧ r.2.sem = fun _ => 0)

def quiescent_ActBRefIdeal [hActBRefIdeal : Cert.ActBRefIdeal.Facts] : Prop :=
  ∀ (m : (ℓ : Loc Cert.ActBRefIdeal.nD Cert.ActBRefIdeal.τ Cert.ActBRefIdeal.sig) → Buf (Elt Ideal) ℓ) (g : Dev Cert.ActBRefIdeal.nD → PrngReg), Pre_ActBRefIdeal m →
    θ_run (Cert.ActBRefIdeal.defs (F := Ideal)) (onTc (τ := Cert.ActBRefIdeal.τ) (Cert.ActBRefIdeal.main (F := Ideal))) ⟨m, fun _ => 0, g⟩ (fun r => (∀ c : Dev Cert.ActBRefIdeal.nD,
      r.2.mem ((c.tc : Thread Cert.ActBRefIdeal.nD Cert.ActBRefIdeal.τ).loc Cert.ActBRefIdeal.main_arg0) = m ((c.tc : Thread Cert.ActBRefIdeal.nD Cert.ActBRefIdeal.τ).loc Cert.ActBRefIdeal.main_arg0)
      ∧ r.2.mem ((c.tc : Thread Cert.ActBRefIdeal.nD Cert.ActBRefIdeal.τ).loc Cert.ActBRefIdeal.main_arg1) = m ((c.tc : Thread Cert.ActBRefIdeal.nD Cert.ActBRefIdeal.τ).loc Cert.ActBRefIdeal.main_arg1)
      ∧ r.2.mem ((c.tc : Thread Cert.ActBRefIdeal.nD Cert.ActBRefIdeal.τ).loc Cert.ActBRefIdeal.main_arg2) = m ((c.tc : Thread Cert.ActBRefIdeal.nD Cert.ActBRefIdeal.τ).loc Cert.ActBRefIdeal.main_arg2))
      ∧ r.2.sem = fun _ => 0)

def quiescent_GeluB [hGeluB : Cert.GeluB.Facts] : Prop :=
  ∀ (m : (ℓ : Loc Cert.GeluB.nD Cert.GeluB.τ Cert.GeluB.sig) → Buf (Elt Bits) ℓ) (g : Dev Cert.GeluB.nD → PrngReg), Pre_GeluB m →
    θ_run (Cert.GeluB.defs (F := Bits)) (onTc (τ := Cert.GeluB.τ) (Cert.GeluB.main (F := Bits))) ⟨m, fun _ => 0, g⟩ (fun r => (∀ c : Dev Cert.GeluB.nD,
      r.2.mem ((c.tc : Thread Cert.GeluB.nD Cert.GeluB.τ).loc Cert.GeluB.main_arg0) = m ((c.tc : Thread Cert.GeluB.nD Cert.GeluB.τ).loc Cert.GeluB.main_arg0)
      ∧ r.2.mem ((c.tc : Thread Cert.GeluB.nD Cert.GeluB.τ).loc Cert.GeluB.main_arg1) = m ((c.tc : Thread Cert.GeluB.nD Cert.GeluB.τ).loc Cert.GeluB.main_arg1))
      ∧ r.2.sem = fun _ => 0)

def quiescent_GeluBIdeal [hGeluBIdeal : Cert.GeluBIdeal.Facts] : Prop :=
  ∀ (m : (ℓ : Loc Cert.GeluBIdeal.nD Cert.GeluBIdeal.τ Cert.GeluBIdeal.sig) → Buf (Elt Ideal) ℓ) (g : Dev Cert.GeluBIdeal.nD → PrngReg), Pre_GeluBIdeal m →
    θ_run (Cert.GeluBIdeal.defs (F := Ideal)) (onTc (τ := Cert.GeluBIdeal.τ) (Cert.GeluBIdeal.main (F := Ideal))) ⟨m, fun _ => 0, g⟩ (fun r => (∀ c : Dev Cert.GeluBIdeal.nD,
      r.2.mem ((c.tc : Thread Cert.GeluBIdeal.nD Cert.GeluBIdeal.τ).loc Cert.GeluBIdeal.main_arg0) = m ((c.tc : Thread Cert.GeluBIdeal.nD Cert.GeluBIdeal.τ).loc Cert.GeluBIdeal.main_arg0)
      ∧ r.2.mem ((c.tc : Thread Cert.GeluBIdeal.nD Cert.GeluBIdeal.τ).loc Cert.GeluBIdeal.main_arg1) = m ((c.tc : Thread Cert.GeluBIdeal.nD Cert.GeluBIdeal.τ).loc Cert.GeluBIdeal.main_arg1))
      ∧ r.2.sem = fun _ => 0)

def quiescent_GeluBRefIdeal [hGeluBRefIdeal : Cert.GeluBRefIdeal.Facts] : Prop :=
  ∀ (m : (ℓ : Loc Cert.GeluBRefIdeal.nD Cert.GeluBRefIdeal.τ Cert.GeluBRefIdeal.sig) → Buf (Elt Ideal) ℓ) (g : Dev Cert.GeluBRefIdeal.nD → PrngReg), Pre_GeluBRefIdeal m →
    θ_run (Cert.GeluBRefIdeal.defs (F := Ideal)) (onTc (τ := Cert.GeluBRefIdeal.τ) (Cert.GeluBRefIdeal.main (F := Ideal))) ⟨m, fun _ => 0, g⟩ (fun r => (∀ c : Dev Cert.GeluBRefIdeal.nD,
      r.2.mem ((c.tc : Thread Cert.GeluBRefIdeal.nD Cert.GeluBRefIdeal.τ).loc Cert.GeluBRefIdeal.main_arg0) = m ((c.tc : Thread Cert.GeluBRefIdeal.nD Cert.GeluBRefIdeal.τ).loc Cert.GeluBRefIdeal.main_arg0)
      ∧ r.2.mem ((c.tc : Thread Cert.GeluBRefIdeal.nD Cert.GeluBRefIdeal.τ).loc Cert.GeluBRefIdeal.main_arg1) = m ((c.tc : Thread Cert.GeluBRefIdeal.nD Cert.GeluBRefIdeal.τ).loc Cert.GeluBRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v567) = v0 c
          ∧ r.2.mem ((c.tc : Thread Cert.ReferenceIdeal.nD Cert.ReferenceIdeal.τ).loc Cert.ReferenceIdeal.main_v565) = v1 c
          ∧ r.2.mem ((c.tc : Thread Cert.ReferenceIdeal.nD Cert.ReferenceIdeal.τ).loc Cert.ReferenceIdeal.main_v226) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Attn_AttnIdeal : Prop :=
  IdealRules.named_const.Statement Cert.AttnIdeal.κ "floor" .f32 0xC2D00000#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v57) = v0 c
          ∧ r.2.mem ((c.tc : Thread Cert.AttnRefIdeal.nD Cert.AttnRefIdeal.τ).loc Cert.AttnRefIdeal.main_v55) = v1 c
          ∧ r.2.mem ((c.tc : Thread Cert.AttnRefIdeal.nD Cert.AttnRefIdeal.τ).loc Cert.AttnRefIdeal.main_v53) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v5) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_U2_U2Ideal : Prop :=
  True

def algebraic_U2Ideal_U2RefIdeal [hU2Ideal : Cert.U2Ideal.Facts] [hU2RefIdeal : Cert.U2RefIdeal.Facts] : Prop :=
  ∀ (m : (ℓ : Loc Cert.U2Ideal.nD Cert.U2Ideal.τ Cert.U2Ideal.sig) → Buf (Elt Ideal) ℓ) (g : Dev Cert.U2Ideal.nD → PrngReg)
    (m' : (ℓ : Loc Cert.U2RefIdeal.nD Cert.U2RefIdeal.τ Cert.U2RefIdeal.sig) → Buf (Elt Ideal) ℓ) (g' : Dev Cert.U2RefIdeal.nD → PrngReg), Pre_U2Ideal m →
    (∀ c : Dev Cert.U2Ideal.nD,
      m' ((c.tc : Thread Cert.U2RefIdeal.nD Cert.U2RefIdeal.τ).loc Cert.U2RefIdeal.main_arg0) = m ((c.tc : Thread Cert.U2Ideal.nD Cert.U2Ideal.τ).loc Cert.U2Ideal.main_arg0)
      ∧ m' ((c.tc : Thread Cert.U2RefIdeal.nD Cert.U2RefIdeal.τ).loc Cert.U2RefIdeal.main_arg1) = m ((c.tc : Thread Cert.U2Ideal.nD Cert.U2Ideal.τ).loc Cert.U2Ideal.main_arg1)) →
    ∃ (v0 : (c : Dev Cert.U2Ideal.nD) → Buf (Elt Ideal) ((c.tc : Thread Cert.U2Ideal.nD Cert.U2Ideal.τ).loc Cert.U2Ideal.main_v0)),
      θ_run (Cert.U2Ideal.defs (F := Ideal)) (onTc (τ := Cert.U2Ideal.τ) (Cert.U2Ideal.main (F := Ideal))) ⟨m, fun _ => 0, g⟩ (fun r => ∀ c : Dev Cert.U2Ideal.nD,
          r.2.mem ((c.tc : Thread Cert.U2Ideal.nD Cert.U2Ideal.τ).loc Cert.U2Ideal.main_v0) = v0 c
          ∧ r.2.mem ((c.tc : Thread Cert.U2Ideal.nD Cert.U2Ideal.τ).loc Cert.U2Ideal.main_arg0) = m ((c.tc : Thread Cert.U2Ideal.nD Cert.U2Ideal.τ).loc Cert.U2Ideal.main_arg0)
          ∧ r.2.mem ((c.tc : Thread Cert.U2Ideal.nD Cert.U2Ideal.τ).loc Cert.U2Ideal.main_arg1) = m ((c.tc : Thread Cert.U2Ideal.nD Cert.U2Ideal.τ).loc Cert.U2Ideal.main_arg1))
      ∧ θ_run (Cert.U2RefIdeal.defs (F := Ideal)) (onTc (τ := Cert.U2RefIdeal.τ) (Cert.U2RefIdeal.main (F := Ideal))) ⟨m', fun _ => 0, g'⟩ (fun r => ∀ c : Dev Cert.U2RefIdeal.nD,
          r.2.mem ((c.tc : Thread Cert.U2RefIdeal.nD Cert.U2RefIdeal.τ).loc Cert.U2RefIdeal.main_v4) = v0 c
          ∧ r.2.mem ((c.tc : Thread Cert.U2RefIdeal.nD Cert.U2RefIdeal.τ).loc Cert.U2RefIdeal.main_arg0) = m' ((c.tc : Thread Cert.U2RefIdeal.nD Cert.U2RefIdeal.τ).loc Cert.U2RefIdeal.main_arg0)
          ∧ r.2.mem ((c.tc : Thread Cert.U2RefIdeal.nD Cert.U2RefIdeal.τ).loc Cert.U2RefIdeal.main_arg1) = m' ((c.tc : Thread Cert.U2RefIdeal.nD Cert.U2RefIdeal.τ).loc Cert.U2RefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Qu_QuIdeal : Prop :=
  True

def algebraic_QuIdeal_QuRefIdeal [hQuIdeal : Cert.QuIdeal.Facts] [hQuRefIdeal : Cert.QuRefIdeal.Facts] : Prop :=
  ∀ (m : (ℓ : Loc Cert.QuIdeal.nD Cert.QuIdeal.τ Cert.QuIdeal.sig) → Buf (Elt Ideal) ℓ) (g : Dev Cert.QuIdeal.nD → PrngReg)
    (m' : (ℓ : Loc Cert.QuRefIdeal.nD Cert.QuRefIdeal.τ Cert.QuRefIdeal.sig) → Buf (Elt Ideal) ℓ) (g' : Dev Cert.QuRefIdeal.nD → PrngReg), Pre_QuIdeal m →
    (∀ c : Dev Cert.QuIdeal.nD,
      m' ((c.tc : Thread Cert.QuRefIdeal.nD Cert.QuRefIdeal.τ).loc Cert.QuRefIdeal.main_arg0) = m ((c.tc : Thread Cert.QuIdeal.nD Cert.QuIdeal.τ).loc Cert.QuIdeal.main_arg0)
      ∧ m' ((c.tc : Thread Cert.QuRefIdeal.nD Cert.QuRefIdeal.τ).loc Cert.QuRefIdeal.main_arg1) = m ((c.tc : Thread Cert.QuIdeal.nD Cert.QuIdeal.τ).loc Cert.QuIdeal.main_arg1)) →
    ∃ (v0 : (c : Dev Cert.QuIdeal.nD) → Buf (Elt Ideal) ((c.tc : Thread Cert.QuIdeal.nD Cert.QuIdeal.τ).loc Cert.QuIdeal.main_v0)),
      θ_run (Cert.QuIdeal.defs (F := Ideal)) (onTc (τ := Cert.QuIdeal.τ) (Cert.QuIdeal.main (F := Ideal))) ⟨m, fun _ => 0, g⟩ (fun r => ∀ c : Dev Cert.QuIdeal.nD,
          r.2.mem ((c.tc : Thread Cert.QuIdeal.nD Cert.QuIdeal.τ).loc Cert.QuIdeal.main_v0) = v0 c
          ∧ r.2.mem ((c.tc : Thread Cert.QuIdeal.nD Cert.QuIdeal.τ).loc Cert.QuIdeal.main_arg0) = m ((c.tc : Thread Cert.QuIdeal.nD Cert.QuIdeal.τ).loc Cert.QuIdeal.main_arg0)
          ∧ r.2.mem ((c.tc : Thread Cert.QuIdeal.nD Cert.QuIdeal.τ).loc Cert.QuIdeal.main_arg1) = m ((c.tc : Thread Cert.QuIdeal.nD Cert.QuIdeal.τ).loc Cert.QuIdeal.main_arg1))
      ∧ θ_run (Cert.QuRefIdeal.defs (F := Ideal)) (onTc (τ := Cert.QuRefIdeal.τ) (Cert.QuRefIdeal.main (F := Ideal))) ⟨m', fun _ => 0, g'⟩ (fun r => ∀ c : Dev Cert.QuRefIdeal.nD,
          r.2.mem ((c.tc : Thread Cert.QuRefIdeal.nD Cert.QuRefIdeal.τ).loc Cert.QuRefIdeal.main_v4) = v0 c
          ∧ r.2.mem ((c.tc : Thread Cert.QuRefIdeal.nD Cert.QuRefIdeal.τ).loc Cert.QuRefIdeal.main_arg0) = m' ((c.tc : Thread Cert.QuRefIdeal.nD Cert.QuRefIdeal.τ).loc Cert.QuRefIdeal.main_arg0)
          ∧ r.2.mem ((c.tc : Thread Cert.QuRefIdeal.nD Cert.QuRefIdeal.τ).loc Cert.QuRefIdeal.main_arg1) = m' ((c.tc : Thread Cert.QuRefIdeal.nD Cert.QuRefIdeal.τ).loc Cert.QuRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v5) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v5) = v0 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1))

def preserves_Wglu_WgluIdeal : Prop :=
  True

def algebraic_WgluIdeal_WgluRefIdeal [hWgluIdeal : Cert.WgluIdeal.Facts] [hWgluRefIdeal : Cert.WgluRefIdeal.Facts] : Prop :=
  ∀ (m : (ℓ : Loc Cert.WgluIdeal.nD Cert.WgluIdeal.τ Cert.WgluIdeal.sig) → Buf (Elt Ideal) ℓ) (g : Dev Cert.WgluIdeal.nD → PrngReg)
    (m' : (ℓ : Loc Cert.WgluRefIdeal.nD Cert.WgluRefIdeal.τ Cert.WgluRefIdeal.sig) → Buf (Elt Ideal) ℓ) (g' : Dev Cert.WgluRefIdeal.nD → PrngReg), Pre_WgluIdeal m →
    (∀ c : Dev Cert.WgluIdeal.nD,
      m' ((c.tc : Thread Cert.WgluRefIdeal.nD Cert.WgluRefIdeal.τ).loc Cert.WgluRefIdeal.main_arg0) = m ((c.tc : Thread Cert.WgluIdeal.nD Cert.WgluIdeal.τ).loc Cert.WgluIdeal.main_arg0)
      ∧ m' ((c.tc : Thread Cert.WgluRefIdeal.nD Cert.WgluRefIdeal.τ).loc Cert.WgluRefIdeal.main_arg1) = m ((c.tc : Thread Cert.WgluIdeal.nD Cert.WgluIdeal.τ).loc Cert.WgluIdeal.main_arg1)) →
    ∃ (v0 : (c : Dev Cert.WgluIdeal.nD) → Buf (Elt Ideal) ((c.tc : Thread Cert.WgluIdeal.nD Cert.WgluIdeal.τ).loc Cert.WgluIdeal.main_v0)),
      θ_run (Cert.WgluIdeal.defs (F := Ideal)) (onTc (τ := Cert.WgluIdeal.τ) (Cert.WgluIdeal.main (F := Ideal))) ⟨m, fun _ => 0, g⟩ (fun r => ∀ c : Dev Cert.WgluIdeal.nD,
          r.2.mem ((c.tc : Thread Cert.WgluIdeal.nD Cert.WgluIdeal.τ).loc Cert.WgluIdeal.main_v0) = v0 c
          ∧ r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
          ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1))
      ∧ θ_run (Cert.WgluRefIdeal.defs (F := Ideal)) (onTc (τ := Cert.WgluRefIdeal.τ) (Cert.WgluRefIdeal.main (F := Ideal))) ⟨m', fun _ => 0, g'⟩ (fun r => ∀ c : Dev Cert.WgluRefIdeal.nD,
          r.2.mem ((c.tc : Thread Cert.WgluRefIdeal.nD Cert.WgluRefIdeal.τ).loc Cert.WgluRefIdeal.main_v5) = v0 c
          ∧ r.2.mem ((c.tc : Thread Cert.WgluRefIdeal.nD Cert.WgluRefIdeal.τ).loc Cert.WgluRefIdeal.main_arg0) = m' ((c.tc : Thread Cert.WgluRefIdeal.nD Cert.WgluRefIdeal.τ).loc Cert.WgluRefIdeal.main_arg0)
          ∧ r.2.mem ((c.tc : Thread Cert.WgluRefIdeal.nD Cert.WgluRefIdeal.τ).loc Cert.WgluRefIdeal.main_arg1) = m' ((c.tc : Thread Cert.WgluRefIdeal.nD Cert.WgluRefIdeal.τ).loc Cert.WgluRefIdeal.main_arg1))

def preserves_Gy_GyIdeal : Prop :=
  True

def algebraic_GyIdeal_GyRefIdeal [hGyIdeal : Cert.GyIdeal.Facts] [hGyRefIdeal : Cert.GyRefIdeal.Facts] : Prop :=
  ∀ (m : (ℓ : Loc Cert.GyIdeal.nD Cert.GyIdeal.τ Cert.GyIdeal.sig) → Buf (Elt Ideal) ℓ) (g : Dev Cert.GyIdeal.nD → PrngReg)
    (m' : (ℓ : Loc Cert.GyRefIdeal.nD Cert.GyRefIdeal.τ Cert.GyRefIdeal.sig) → Buf (Elt Ideal) ℓ) (g' : Dev Cert.GyRefIdeal.nD → PrngReg), Pre_GyIdeal m →
    (∀ c : Dev Cert.GyIdeal.nD,
      m' ((c.tc : Thread Cert.GyRefIdeal.nD Cert.GyRefIdeal.τ).loc Cert.GyRefIdeal.main_arg0) = m ((c.tc : Thread Cert.GyIdeal.nD Cert.GyIdeal.τ).loc Cert.GyIdeal.main_arg0)
      ∧ m' ((c.tc : Thread Cert.GyRefIdeal.nD Cert.GyRefIdeal.τ).loc Cert.GyRefIdeal.main_arg1) = m ((c.tc : Thread Cert.GyIdeal.nD Cert.GyIdeal.τ).loc Cert.GyIdeal.main_arg1)) →
    ∃ (v0 : (c : Dev Cert.GyIdeal.nD) → Buf (Elt Ideal) ((c.tc : Thread Cert.GyIdeal.nD Cert.GyIdeal.τ).loc Cert.GyIdeal.main_v0)),
      θ_run (Cert.GyIdeal.defs (F := Ideal)) (onTc (τ := Cert.GyIdeal.τ) (Cert.GyIdeal.main (F := Ideal))) ⟨m, fun _ => 0, g⟩ (fun r => ∀ c : Dev Cert.GyIdeal.nD,
          r.2.mem ((c.tc : Thread Cert.GyIdeal.nD Cert.GyIdeal.τ).loc Cert.GyIdeal.main_v0) = v0 c
          ∧ r.2.mem ((c.tc : Thread Cert.GyIdeal.nD Cert.GyIdeal.τ).loc Cert.GyIdeal.main_arg0) = m ((c.tc : Thread Cert.GyIdeal.nD Cert.GyIdeal.τ).loc Cert.GyIdeal.main_arg0)
          ∧ r.2.mem ((c.tc : Thread Cert.GyIdeal.nD Cert.GyIdeal.τ).loc Cert.GyIdeal.main_arg1) = m ((c.tc : Thread Cert.GyIdeal.nD Cert.GyIdeal.τ).loc Cert.GyIdeal.main_arg1))
      ∧ θ_run (Cert.GyRefIdeal.defs (F := Ideal)) (onTc (τ := Cert.GyRefIdeal.τ) (Cert.GyRefIdeal.main (F := Ideal))) ⟨m', fun _ => 0, g'⟩ (fun r => ∀ c : Dev Cert.GyRefIdeal.nD,
          r.2.mem ((c.tc : Thread Cert.GyRefIdeal.nD Cert.GyRefIdeal.τ).loc Cert.GyRefIdeal.main_v4) = v0 c
          ∧ r.2.mem ((c.tc : Thread Cert.GyRefIdeal.nD Cert.GyRefIdeal.τ).loc Cert.GyRefIdeal.main_arg0) = m' ((c.tc : Thread Cert.GyRefIdeal.nD Cert.GyRefIdeal.τ).loc Cert.GyRefIdeal.main_arg0)
          ∧ r.2.mem ((c.tc : Thread Cert.GyRefIdeal.nD Cert.GyRefIdeal.τ).loc Cert.GyRefIdeal.main_arg1) = m' ((c.tc : Thread Cert.GyRefIdeal.nD Cert.GyRefIdeal.τ).loc Cert.GyRefIdeal.main_arg1))

def preserves_Hs_HsIdeal : Prop :=
  True

def algebraic_HsIdeal_HsRefIdeal [hHsIdeal : Cert.HsIdeal.Facts] [hHsRefIdeal : Cert.HsRefIdeal.Facts] : Prop :=
  ∀ (m : (ℓ : Loc Cert.HsIdeal.nD Cert.HsIdeal.τ Cert.HsIdeal.sig) → Buf (Elt Ideal) ℓ) (g : Dev Cert.HsIdeal.nD → PrngReg)
    (m' : (ℓ : Loc Cert.HsRefIdeal.nD Cert.HsRefIdeal.τ Cert.HsRefIdeal.sig) → Buf (Elt Ideal) ℓ) (g' : Dev Cert.HsRefIdeal.nD → PrngReg), Pre_HsIdeal m →
    (∀ c : Dev Cert.HsIdeal.nD,
      m' ((c.tc : Thread Cert.HsRefIdeal.nD Cert.HsRefIdeal.τ).loc Cert.HsRefIdeal.main_arg0) = m ((c.tc : Thread Cert.HsIdeal.nD Cert.HsIdeal.τ).loc Cert.HsIdeal.main_arg0)
      ∧ m' ((c.tc : Thread Cert.HsRefIdeal.nD Cert.HsRefIdeal.τ).loc Cert.HsRefIdeal.main_arg1) = m ((c.tc : Thread Cert.HsIdeal.nD Cert.HsIdeal.τ).loc Cert.HsIdeal.main_arg1)) →
    ∃ (v0 : (c : Dev Cert.HsIdeal.nD) → Buf (Elt Ideal) ((c.tc : Thread Cert.HsIdeal.nD Cert.HsIdeal.τ).loc Cert.HsIdeal.main_v0)),
      θ_run (Cert.HsIdeal.defs (F := Ideal)) (onTc (τ := Cert.HsIdeal.τ) (Cert.HsIdeal.main (F := Ideal))) ⟨m, fun _ => 0, g⟩ (fun r => ∀ c : Dev Cert.HsIdeal.nD,
          r.2.mem ((c.tc : Thread Cert.HsIdeal.nD Cert.HsIdeal.τ).loc Cert.HsIdeal.main_v0) = v0 c
          ∧ r.2.mem ((c.tc : Thread Cert.HsIdeal.nD Cert.HsIdeal.τ).loc Cert.HsIdeal.main_arg0) = m ((c.tc : Thread Cert.HsIdeal.nD Cert.HsIdeal.τ).loc Cert.HsIdeal.main_arg0)
          ∧ r.2.mem ((c.tc : Thread Cert.HsIdeal.nD Cert.HsIdeal.τ).loc Cert.HsIdeal.main_arg1) = m ((c.tc : Thread Cert.HsIdeal.nD Cert.HsIdeal.τ).loc Cert.HsIdeal.main_arg1))
      ∧ θ_run (Cert.HsRefIdeal.defs (F := Ideal)) (onTc (τ := Cert.HsRefIdeal.τ) (Cert.HsRefIdeal.main (F := Ideal))) ⟨m', fun _ => 0, g'⟩ (fun r => ∀ c : Dev Cert.HsRefIdeal.nD,
          r.2.mem ((c.tc : Thread Cert.HsRefIdeal.nD Cert.HsRefIdeal.τ).loc Cert.HsRefIdeal.main_v4) = v0 c
          ∧ r.2.mem ((c.tc : Thread Cert.HsRefIdeal.nD Cert.HsRefIdeal.τ).loc Cert.HsRefIdeal.main_arg0) = m' ((c.tc : Thread Cert.HsRefIdeal.nD Cert.HsRefIdeal.τ).loc Cert.HsRefIdeal.main_arg0)
          ∧ r.2.mem ((c.tc : Thread Cert.HsRefIdeal.nD Cert.HsRefIdeal.τ).loc Cert.HsRefIdeal.main_arg1) = m' ((c.tc : Thread Cert.HsRefIdeal.nD Cert.HsRefIdeal.τ).loc Cert.HsRefIdeal.main_arg1))

def preserves_Fqkv_FqkvIdeal : Prop :=
  True

def algebraic_FqkvIdeal_FqkvRefIdeal [hFqkvIdeal : Cert.FqkvIdeal.Facts] [hFqkvRefIdeal : Cert.FqkvRefIdeal.Facts] : Prop :=
  ∀ (m : (ℓ : Loc Cert.FqkvIdeal.nD Cert.FqkvIdeal.τ Cert.FqkvIdeal.sig) → Buf (Elt Ideal) ℓ) (g : Dev Cert.FqkvIdeal.nD → PrngReg)
    (m' : (ℓ : Loc Cert.FqkvRefIdeal.nD Cert.FqkvRefIdeal.τ Cert.FqkvRefIdeal.sig) → Buf (Elt Ideal) ℓ) (g' : Dev Cert.FqkvRefIdeal.nD → PrngReg), Pre_FqkvIdeal m →
    (∀ c : Dev Cert.FqkvIdeal.nD,
      m' ((c.tc : Thread Cert.FqkvRefIdeal.nD Cert.FqkvRefIdeal.τ).loc Cert.FqkvRefIdeal.main_arg0) = m ((c.tc : Thread Cert.FqkvIdeal.nD Cert.FqkvIdeal.τ).loc Cert.FqkvIdeal.main_arg0)
      ∧ m' ((c.tc : Thread Cert.FqkvRefIdeal.nD Cert.FqkvRefIdeal.τ).loc Cert.FqkvRefIdeal.main_arg1) = m ((c.tc : Thread Cert.FqkvIdeal.nD Cert.FqkvIdeal.τ).loc Cert.FqkvIdeal.main_arg1)) →
    ∃ (v0 : (c : Dev Cert.FqkvIdeal.nD) → Buf (Elt Ideal) ((c.tc : Thread Cert.FqkvIdeal.nD Cert.FqkvIdeal.τ).loc Cert.FqkvIdeal.main_v0)),
      θ_run (Cert.FqkvIdeal.defs (F := Ideal)) (onTc (τ := Cert.FqkvIdeal.τ) (Cert.FqkvIdeal.main (F := Ideal))) ⟨m, fun _ => 0, g⟩ (fun r => ∀ c : Dev Cert.FqkvIdeal.nD,
          r.2.mem ((c.tc : Thread Cert.FqkvIdeal.nD Cert.FqkvIdeal.τ).loc Cert.FqkvIdeal.main_v0) = v0 c
          ∧ r.2.mem ((c.tc : Thread Cert.FqkvIdeal.nD Cert.FqkvIdeal.τ).loc Cert.FqkvIdeal.main_arg0) = m ((c.tc : Thread Cert.FqkvIdeal.nD Cert.FqkvIdeal.τ).loc Cert.FqkvIdeal.main_arg0)
          ∧ r.2.mem ((c.tc : Thread Cert.FqkvIdeal.nD Cert.FqkvIdeal.τ).loc Cert.FqkvIdeal.main_arg1) = m ((c.tc : Thread Cert.FqkvIdeal.nD Cert.FqkvIdeal.τ).loc Cert.FqkvIdeal.main_arg1))
      ∧ θ_run (Cert.FqkvRefIdeal.defs (F := Ideal)) (onTc (τ := Cert.FqkvRefIdeal.τ) (Cert.FqkvRefIdeal.main (F := Ideal))) ⟨m', fun _ => 0, g'⟩ (fun r => ∀ c : Dev Cert.FqkvRefIdeal.nD,
          r.2.mem ((c.tc : Thread Cert.FqkvRefIdeal.nD Cert.FqkvRefIdeal.τ).loc Cert.FqkvRefIdeal.main_v3) = v0 c
          ∧ r.2.mem ((c.tc : Thread Cert.FqkvRefIdeal.nD Cert.FqkvRefIdeal.τ).loc Cert.FqkvRefIdeal.main_arg0) = m' ((c.tc : Thread Cert.FqkvRefIdeal.nD Cert.FqkvRefIdeal.τ).loc Cert.FqkvRefIdeal.main_arg0)
          ∧ r.2.mem ((c.tc : Thread Cert.FqkvRefIdeal.nD Cert.FqkvRefIdeal.τ).loc Cert.FqkvRefIdeal.main_arg1) = m' ((c.tc : Thread Cert.FqkvRefIdeal.nD Cert.FqkvRefIdeal.τ).loc Cert.FqkvRefIdeal.main_arg1))

def preserves_Fm_FmIdeal : Prop :=
  True

def algebraic_FmIdeal_FmRefIdeal [hFmIdeal : Cert.FmIdeal.Facts] [hFmRefIdeal : Cert.FmRefIdeal.Facts] : Prop :=
  ∀ (m : (ℓ : Loc Cert.FmIdeal.nD Cert.FmIdeal.τ Cert.FmIdeal.sig) → Buf (Elt Ideal) ℓ) (g : Dev Cert.FmIdeal.nD → PrngReg)
    (m' : (ℓ : Loc Cert.FmRefIdeal.nD Cert.FmRefIdeal.τ Cert.FmRefIdeal.sig) → Buf (Elt Ideal) ℓ) (g' : Dev Cert.FmRefIdeal.nD → PrngReg), Pre_FmIdeal m →
    (∀ c : Dev Cert.FmIdeal.nD,
      m' ((c.tc : Thread Cert.FmRefIdeal.nD Cert.FmRefIdeal.τ).loc Cert.FmRefIdeal.main_arg0) = m ((c.tc : Thread Cert.FmIdeal.nD Cert.FmIdeal.τ).loc Cert.FmIdeal.main_arg0)
      ∧ m' ((c.tc : Thread Cert.FmRefIdeal.nD Cert.FmRefIdeal.τ).loc Cert.FmRefIdeal.main_arg1) = m ((c.tc : Thread Cert.FmIdeal.nD Cert.FmIdeal.τ).loc Cert.FmIdeal.main_arg1)) →
    ∃ (v0 : (c : Dev Cert.FmIdeal.nD) → Buf (Elt Ideal) ((c.tc : Thread Cert.FmIdeal.nD Cert.FmIdeal.τ).loc Cert.FmIdeal.main_v0)),
      θ_run (Cert.FmIdeal.defs (F := Ideal)) (onTc (τ := Cert.FmIdeal.τ) (Cert.FmIdeal.main (F := Ideal))) ⟨m, fun _ => 0, g⟩ (fun r => ∀ c : Dev Cert.FmIdeal.nD,
          r.2.mem ((c.tc : Thread Cert.FmIdeal.nD Cert.FmIdeal.τ).loc Cert.FmIdeal.main_v0) = v0 c
          ∧ r.2.mem ((c.tc : Thread Cert.FmIdeal.nD Cert.FmIdeal.τ).loc Cert.FmIdeal.main_arg0) = m ((c.tc : Thread Cert.FmIdeal.nD Cert.FmIdeal.τ).loc Cert.FmIdeal.main_arg0)
          ∧ r.2.mem ((c.tc : Thread Cert.FmIdeal.nD Cert.FmIdeal.τ).loc Cert.FmIdeal.main_arg1) = m ((c.tc : Thread Cert.FmIdeal.nD Cert.FmIdeal.τ).loc Cert.FmIdeal.main_arg1))
      ∧ θ_run (Cert.FmRefIdeal.defs (F := Ideal)) (onTc (τ := Cert.FmRefIdeal.τ) (Cert.FmRefIdeal.main (F := Ideal))) ⟨m', fun _ => 0, g'⟩ (fun r => ∀ c : Dev Cert.FmRefIdeal.nD,
          r.2.mem ((c.tc : Thread Cert.FmRefIdeal.nD Cert.FmRefIdeal.τ).loc Cert.FmRefIdeal.main_v2) = v0 c
          ∧ r.2.mem ((c.tc : Thread Cert.FmRefIdeal.nD Cert.FmRefIdeal.τ).loc Cert.FmRefIdeal.main_arg0) = m' ((c.tc : Thread Cert.FmRefIdeal.nD Cert.FmRefIdeal.τ).loc Cert.FmRefIdeal.main_arg0)
          ∧ r.2.mem ((c.tc : Thread Cert.FmRefIdeal.nD Cert.FmRefIdeal.τ).loc Cert.FmRefIdeal.main_arg1) = m' ((c.tc : Thread Cert.FmRefIdeal.nD Cert.FmRefIdeal.τ).loc Cert.FmRefIdeal.main_arg1))

def preserves_Fglu_FgluIdeal : Prop :=
  True

def algebraic_FgluIdeal_FgluRefIdeal [hFgluIdeal : Cert.FgluIdeal.Facts] [hFgluRefIdeal : Cert.FgluRefIdeal.Facts] : Prop :=
  ∀ (m : (ℓ : Loc Cert.FgluIdeal.nD Cert.FgluIdeal.τ Cert.FgluIdeal.sig) → Buf (Elt Ideal) ℓ) (g : Dev Cert.FgluIdeal.nD → PrngReg)
    (m' : (ℓ : Loc Cert.FgluRefIdeal.nD Cert.FgluRefIdeal.τ Cert.FgluRefIdeal.sig) → Buf (Elt Ideal) ℓ) (g' : Dev Cert.FgluRefIdeal.nD → PrngReg), Pre_FgluIdeal m →
    (∀ c : Dev Cert.FgluIdeal.nD,
      m' ((c.tc : Thread Cert.FgluRefIdeal.nD Cert.FgluRefIdeal.τ).loc Cert.FgluRefIdeal.main_arg0) = m ((c.tc : Thread Cert.FgluIdeal.nD Cert.FgluIdeal.τ).loc Cert.FgluIdeal.main_arg0)
      ∧ m' ((c.tc : Thread Cert.FgluRefIdeal.nD Cert.FgluRefIdeal.τ).loc Cert.FgluRefIdeal.main_arg1) = m ((c.tc : Thread Cert.FgluIdeal.nD Cert.FgluIdeal.τ).loc Cert.FgluIdeal.main_arg1)) →
    ∃ (v0 : (c : Dev Cert.FgluIdeal.nD) → Buf (Elt Ideal) ((c.tc : Thread Cert.FgluIdeal.nD Cert.FgluIdeal.τ).loc Cert.FgluIdeal.main_v0)),
      θ_run (Cert.FgluIdeal.defs (F := Ideal)) (onTc (τ := Cert.FgluIdeal.τ) (Cert.FgluIdeal.main (F := Ideal))) ⟨m, fun _ => 0, g⟩ (fun r => ∀ c : Dev Cert.FgluIdeal.nD,
          r.2.mem ((c.tc : Thread Cert.FgluIdeal.nD Cert.FgluIdeal.τ).loc Cert.FgluIdeal.main_v0) = v0 c
          ∧ r.2.mem ((c.tc : Thread Cert.FgluIdeal.nD Cert.FgluIdeal.τ).loc Cert.FgluIdeal.main_arg0) = m ((c.tc : Thread Cert.FgluIdeal.nD Cert.FgluIdeal.τ).loc Cert.FgluIdeal.main_arg0)
          ∧ r.2.mem ((c.tc : Thread Cert.FgluIdeal.nD Cert.FgluIdeal.τ).loc Cert.FgluIdeal.main_arg1) = m ((c.tc : Thread Cert.FgluIdeal.nD Cert.FgluIdeal.τ).loc Cert.FgluIdeal.main_arg1))
      ∧ θ_run (Cert.FgluRefIdeal.defs (F := Ideal)) (onTc (τ := Cert.FgluRefIdeal.τ) (Cert.FgluRefIdeal.main (F := Ideal))) ⟨m', fun _ => 0, g'⟩ (fun r => ∀ c : Dev Cert.FgluRefIdeal.nD,
          r.2.mem ((c.tc : Thread Cert.FgluRefIdeal.nD Cert.FgluRefIdeal.τ).loc Cert.FgluRefIdeal.main_v2) = v0 c
          ∧ r.2.mem ((c.tc : Thread Cert.FgluRefIdeal.nD Cert.FgluRefIdeal.τ).loc Cert.FgluRefIdeal.main_arg0) = m' ((c.tc : Thread Cert.FgluRefIdeal.nD Cert.FgluRefIdeal.τ).loc Cert.FgluRefIdeal.main_arg0)
          ∧ r.2.mem ((c.tc : Thread Cert.FgluRefIdeal.nD Cert.FgluRefIdeal.τ).loc Cert.FgluRefIdeal.main_arg1) = m' ((c.tc : Thread Cert.FgluRefIdeal.nD Cert.FgluRefIdeal.τ).loc Cert.FgluRefIdeal.main_arg1))

def preserves_Ff_FfIdeal : Prop :=
  True

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)) →
    ∃ (v0 : (c : Dev Cert.FfIdeal.nD) → Buf (Elt Ideal) ((c.tc : Thread Cert.FfIdeal.nD Cert.FfIdeal.τ).loc Cert.FfIdeal.main_v0)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v0) = v0 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v2) = v0 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1))

def preserves_Fup_FupIdeal : Prop :=
  True

def algebraic_FupIdeal_FupRefIdeal [hFupIdeal : Cert.FupIdeal.Facts] [hFupRefIdeal : Cert.FupRefIdeal.Facts] : Prop :=
  ∀ (m : (ℓ : Loc Cert.FupIdeal.nD Cert.FupIdeal.τ Cert.FupIdeal.sig) → Buf (Elt Ideal) ℓ) (g : Dev Cert.FupIdeal.nD → PrngReg)
    (m' : (ℓ : Loc Cert.FupRefIdeal.nD Cert.FupRefIdeal.τ Cert.FupRefIdeal.sig) → Buf (Elt Ideal) ℓ) (g' : Dev Cert.FupRefIdeal.nD → PrngReg), Pre_FupIdeal m →
    (∀ c : Dev Cert.FupIdeal.nD,
      m' ((c.tc : Thread Cert.FupRefIdeal.nD Cert.FupRefIdeal.τ).loc Cert.FupRefIdeal.main_arg0) = m ((c.tc : Thread Cert.FupIdeal.nD Cert.FupIdeal.τ).loc Cert.FupIdeal.main_arg0)
      ∧ m' ((c.tc : Thread Cert.FupRefIdeal.nD Cert.FupRefIdeal.τ).loc Cert.FupRefIdeal.main_arg1) = m ((c.tc : Thread Cert.FupIdeal.nD Cert.FupIdeal.τ).loc Cert.FupIdeal.main_arg1)) →
    ∃ (v0 : (c : Dev Cert.FupIdeal.nD) → Buf (Elt Ideal) ((c.tc : Thread Cert.FupIdeal.nD Cert.FupIdeal.τ).loc Cert.FupIdeal.main_v0_0)) (v1 : (c : Dev Cert.FupIdeal.nD) → Buf (Elt Ideal) ((c.tc : Thread Cert.FupIdeal.nD Cert.FupIdeal.τ).loc Cert.FupIdeal.main_v0_1)) (v2 : (c : Dev Cert.FupIdeal.nD) → Buf (Elt Ideal) ((c.tc : Thread Cert.FupIdeal.nD Cert.FupIdeal.τ).loc Cert.FupIdeal.main_v0_2)),
      θ_run (Cert.FupIdeal.defs (F := Ideal)) (onTc (τ := Cert.FupIdeal.τ) (Cert.FupIdeal.main (F := Ideal))) ⟨m, fun _ => 0, g⟩ (fun r => ∀ c : Dev Cert.FupIdeal.nD,
          r.2.mem ((c.tc : Thread Cert.FupIdeal.nD Cert.FupIdeal.τ).loc Cert.FupIdeal.main_v0_0) = v0 c
          ∧ r.2.mem ((c.tc : Thread Cert.FupIdeal.nD Cert.FupIdeal.τ).loc Cert.FupIdeal.main_v0_1) = v1 c
          ∧ r.2.mem ((c.tc : Thread Cert.FupIdeal.nD Cert.FupIdeal.τ).loc Cert.FupIdeal.main_v0_2) = v2 c
          ∧ r.2.mem ((c.tc : Thread Cert.FupIdeal.nD Cert.FupIdeal.τ).loc Cert.FupIdeal.main_arg0) = m ((c.tc : Thread Cert.FupIdeal.nD Cert.FupIdeal.τ).loc Cert.FupIdeal.main_arg0)
          ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ θ_run (Cert.FupRefIdeal.defs (F := Ideal)) (onTc (τ := Cert.FupRefIdeal.τ) (Cert.FupRefIdeal.main (F := Ideal))) ⟨m', fun _ => 0, g'⟩ (fun r => ∀ c : Dev Cert.FupRefIdeal.nD,
          r.2.mem ((c.tc : Thread Cert.FupRefIdeal.nD Cert.FupRefIdeal.τ).loc Cert.FupRefIdeal.main_v8) = v0 c
          ∧ r.2.mem ((c.tc : Thread Cert.FupRefIdeal.nD Cert.FupRefIdeal.τ).loc Cert.FupRefIdeal.main_v9) = v1 c
          ∧ r.2.mem ((c.tc : Thread Cert.FupRefIdeal.nD Cert.FupRefIdeal.τ).loc Cert.FupRefIdeal.main_v12) = v2 c
          ∧ r.2.mem ((c.tc : Thread Cert.FupRefIdeal.nD Cert.FupRefIdeal.τ).loc Cert.FupRefIdeal.main_arg0) = m' ((c.tc : Thread Cert.FupRefIdeal.nD Cert.FupRefIdeal.τ).loc Cert.FupRefIdeal.main_arg0)
          ∧ r.2.mem ((c.tc : Thread Cert.FupRefIdeal.nD Cert.FupRefIdeal.τ).loc Cert.FupRefIdeal.main_arg1) = m' ((c.tc : Thread Cert.FupRefIdeal.nD Cert.FupRefIdeal.τ).loc Cert.FupRefIdeal.main_arg1))

def preserves_Fatt_FattIdeal : Prop :=
  IdealRules.named_const.Statement Cert.FattIdeal.κ "floor" .f32 0xC2D00000#32 ⊥

def algebraic_FattIdeal_FattRefIdeal [hFattIdeal : Cert.FattIdeal.Facts] [hFattRefIdeal : Cert.FattRefIdeal.Facts] : Prop :=
  ∀ (m : (ℓ : Loc Cert.FattIdeal.nD Cert.FattIdeal.τ Cert.FattIdeal.sig) → Buf (Elt Ideal) ℓ) (g : Dev Cert.FattIdeal.nD → PrngReg)
    (m' : (ℓ : Loc Cert.FattRefIdeal.nD Cert.FattRefIdeal.τ Cert.FattRefIdeal.sig) → Buf (Elt Ideal) ℓ) (g' : Dev Cert.FattRefIdeal.nD → PrngReg), Pre_FattIdeal m →
    (∀ c : Dev Cert.FattIdeal.nD,
      m' ((c.tc : Thread Cert.FattRefIdeal.nD Cert.FattRefIdeal.τ).loc Cert.FattRefIdeal.main_arg0) = m ((c.tc : Thread Cert.FattIdeal.nD Cert.FattIdeal.τ).loc Cert.FattIdeal.main_arg0)) →
    ∃ (v0 : (c : Dev Cert.FattIdeal.nD) → Buf (Elt Ideal) ((c.tc : Thread Cert.FattIdeal.nD Cert.FattIdeal.τ).loc Cert.FattIdeal.main_v0)),
      θ_run (Cert.FattIdeal.defs (F := Ideal)) (onTc (τ := Cert.FattIdeal.τ) (Cert.FattIdeal.main (F := Ideal))) ⟨m, fun _ => 0, g⟩ (fun r => ∀ c : Dev Cert.FattIdeal.nD,
          r.2.mem ((c.tc : Thread Cert.FattIdeal.nD Cert.FattIdeal.τ).loc Cert.FattIdeal.main_v0) = v0 c
          ∧ r.2.mem ((c.tc : Thread Cert.FattIdeal.nD Cert.FattIdeal.τ).loc Cert.FattIdeal.main_arg0) = m ((c.tc : Thread Cert.FattIdeal.nD Cert.FattIdeal.τ).loc Cert.FattIdeal.main_arg0))
      ∧ θ_run (Cert.FattRefIdeal.defs (F := Ideal)) (onTc (τ := Cert.FattRefIdeal.τ) (Cert.FattRefIdeal.main (F := Ideal))) ⟨m', fun _ => 0, g'⟩ (fun r => ∀ c : Dev Cert.FattRefIdeal.nD,
          r.2.mem ((c.tc : Thread Cert.FattRefIdeal.nD Cert.FattRefIdeal.τ).loc Cert.FattRefIdeal.main_v32) = v0 c
          ∧ r.2.mem ((c.tc : Thread Cert.FattRefIdeal.nD Cert.FattRefIdeal.τ).loc Cert.FattRefIdeal.main_arg0) = m' ((c.tc : Thread Cert.FattRefIdeal.nD Cert.FattRefIdeal.τ).loc Cert.FattRefIdeal.main_arg0))

def preserves_Fconv_FconvIdeal : Prop :=
  True

def algebraic_FconvIdeal_FconvRefIdeal [hFconvIdeal : Cert.FconvIdeal.Facts] [hFconvRefIdeal : Cert.FconvRefIdeal.Facts] : Prop :=
  ∀ (m : (ℓ : Loc Cert.FconvIdeal.nD Cert.FconvIdeal.τ Cert.FconvIdeal.sig) → Buf (Elt Ideal) ℓ) (g : Dev Cert.FconvIdeal.nD → PrngReg)
    (m' : (ℓ : Loc Cert.FconvRefIdeal.nD Cert.FconvRefIdeal.τ Cert.FconvRefIdeal.sig) → Buf (Elt Ideal) ℓ) (g' : Dev Cert.FconvRefIdeal.nD → PrngReg), Pre_FconvIdeal m →
    (∀ c : Dev Cert.FconvIdeal.nD,
      m' ((c.tc : Thread Cert.FconvRefIdeal.nD Cert.FconvRefIdeal.τ).loc Cert.FconvRefIdeal.main_arg0) = m ((c.tc : Thread Cert.FconvIdeal.nD Cert.FconvIdeal.τ).loc Cert.FconvIdeal.main_arg0)
      ∧ m' ((c.tc : Thread Cert.FconvRefIdeal.nD Cert.FconvRefIdeal.τ).loc Cert.FconvRefIdeal.main_arg1) = m ((c.tc : Thread Cert.FconvIdeal.nD Cert.FconvIdeal.τ).loc Cert.FconvIdeal.main_arg1)
      ∧ m' ((c.tc : Thread Cert.FconvRefIdeal.nD Cert.FconvRefIdeal.τ).loc Cert.FconvRefIdeal.main_arg2) = m ((c.tc : Thread Cert.FconvIdeal.nD Cert.FconvIdeal.τ).loc Cert.FconvIdeal.main_arg2)) →
    ∃ (v0 : (c : Dev Cert.FconvIdeal.nD) → Buf (Elt Ideal) ((c.tc : Thread Cert.FconvIdeal.nD Cert.FconvIdeal.τ).loc Cert.FconvIdeal.main_v0)),
      θ_run (Cert.FconvIdeal.defs (F := Ideal)) (onTc (τ := Cert.FconvIdeal.τ) (Cert.FconvIdeal.main (F := Ideal))) ⟨m, fun _ => 0, g⟩ (fun r => ∀ c : Dev Cert.FconvIdeal.nD,
          r.2.mem ((c.tc : Thread Cert.FconvIdeal.nD Cert.FconvIdeal.τ).loc Cert.FconvIdeal.main_v0) = v0 c
          ∧ r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
          ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1)
          ∧ r.2.mem ((c.tc : Thread Cert.FconvIdeal.nD Cert.FconvIdeal.τ).loc Cert.FconvIdeal.main_arg2) = m ((c.tc : Thread Cert.FconvIdeal.nD Cert.FconvIdeal.τ).loc Cert.FconvIdeal.main_arg2))
      ∧ θ_run (Cert.FconvRefIdeal.defs (F := Ideal)) (onTc (τ := Cert.FconvRefIdeal.τ) (Cert.FconvRefIdeal.main (F := Ideal))) ⟨m', fun _ => 0, g'⟩ (fun r => ∀ c : Dev Cert.FconvRefIdeal.nD,
          r.2.mem ((c.tc : Thread Cert.FconvRefIdeal.nD Cert.FconvRefIdeal.τ).loc Cert.FconvRefIdeal.main_v221) = v0 c
          ∧ r.2.mem ((c.tc : Thread Cert.FconvRefIdeal.nD Cert.FconvRefIdeal.τ).loc Cert.FconvRefIdeal.main_arg0) = m' ((c.tc : Thread Cert.FconvRefIdeal.nD Cert.FconvRefIdeal.τ).loc Cert.FconvRefIdeal.main_arg0)
          ∧ r.2.mem ((c.tc : Thread Cert.FconvRefIdeal.nD Cert.FconvRefIdeal.τ).loc Cert.FconvRefIdeal.main_arg1) = m' ((c.tc : Thread Cert.FconvRefIdeal.nD Cert.FconvRefIdeal.τ).loc Cert.FconvRefIdeal.main_arg1)
          ∧ r.2.mem ((c.tc : Thread Cert.FconvRefIdeal.nD Cert.FconvRefIdeal.τ).loc Cert.FconvRefIdeal.main_arg2) = m' ((c.tc : Thread Cert.FconvRefIdeal.nD Cert.FconvRefIdeal.τ).loc Cert.FconvRefIdeal.main_arg2))

def preserves_ActB_ActBIdeal : Prop :=
  True

def algebraic_ActBIdeal_ActBRefIdeal [hActBIdeal : Cert.ActBIdeal.Facts] [hActBRefIdeal : Cert.ActBRefIdeal.Facts] : Prop :=
  ∀ (m : (ℓ : Loc Cert.ActBIdeal.nD Cert.ActBIdeal.τ Cert.ActBIdeal.sig) → Buf (Elt Ideal) ℓ) (g : Dev Cert.ActBIdeal.nD → PrngReg)
    (m' : (ℓ : Loc Cert.ActBRefIdeal.nD Cert.ActBRefIdeal.τ Cert.ActBRefIdeal.sig) → Buf (Elt Ideal) ℓ) (g' : Dev Cert.ActBRefIdeal.nD → PrngReg), Pre_ActBIdeal m →
    (∀ c : Dev Cert.ActBIdeal.nD,
      m' ((c.tc : Thread Cert.ActBRefIdeal.nD Cert.ActBRefIdeal.τ).loc Cert.ActBRefIdeal.main_arg0) = m ((c.tc : Thread Cert.ActBIdeal.nD Cert.ActBIdeal.τ).loc Cert.ActBIdeal.main_arg0)
      ∧ m' ((c.tc : Thread Cert.ActBRefIdeal.nD Cert.ActBRefIdeal.τ).loc Cert.ActBRefIdeal.main_arg1) = m ((c.tc : Thread Cert.ActBIdeal.nD Cert.ActBIdeal.τ).loc Cert.ActBIdeal.main_arg1)
      ∧ m' ((c.tc : Thread Cert.ActBRefIdeal.nD Cert.ActBRefIdeal.τ).loc Cert.ActBRefIdeal.main_arg2) = m ((c.tc : Thread Cert.ActBIdeal.nD Cert.ActBIdeal.τ).loc Cert.ActBIdeal.main_arg2)) →
    ∃ (v0 : (c : Dev Cert.ActBIdeal.nD) → Buf (Elt Ideal) ((c.tc : Thread Cert.ActBIdeal.nD Cert.ActBIdeal.τ).loc Cert.ActBIdeal.main_v0)),
      θ_run (Cert.ActBIdeal.defs (F := Ideal)) (onTc (τ := Cert.ActBIdeal.τ) (Cert.ActBIdeal.main (F := Ideal))) ⟨m, fun _ => 0, g⟩ (fun r => ∀ c : Dev Cert.ActBIdeal.nD,
          r.2.mem ((c.tc : Thread Cert.ActBIdeal.nD Cert.ActBIdeal.τ).loc Cert.ActBIdeal.main_v0) = v0 c
          ∧ r.2.mem ((c.tc : Thread Cert.ActBIdeal.nD Cert.ActBIdeal.τ).loc Cert.ActBIdeal.main_arg0) = m ((c.tc : Thread Cert.ActBIdeal.nD Cert.ActBIdeal.τ).loc Cert.ActBIdeal.main_arg0)
          ∧ r.2.mem ((c.tc : Thread Cert.ActBIdeal.nD Cert.ActBIdeal.τ).loc Cert.ActBIdeal.main_arg1) = m ((c.tc : Thread Cert.ActBIdeal.nD Cert.ActBIdeal.τ).loc Cert.ActBIdeal.main_arg1)
          ∧ r.2.mem ((c.tc : Thread Cert.ActBIdeal.nD Cert.ActBIdeal.τ).loc Cert.ActBIdeal.main_arg2) = m ((c.tc : Thread Cert.ActBIdeal.nD Cert.ActBIdeal.τ).loc Cert.ActBIdeal.main_arg2))
      ∧ θ_run (Cert.ActBRefIdeal.defs (F := Ideal)) (onTc (τ := Cert.ActBRefIdeal.τ) (Cert.ActBRefIdeal.main (F := Ideal))) ⟨m', fun _ => 0, g'⟩ (fun r => ∀ c : Dev Cert.ActBRefIdeal.nD,
          r.2.mem ((c.tc : Thread Cert.ActBRefIdeal.nD Cert.ActBRefIdeal.τ).loc Cert.ActBRefIdeal.main_v9) = v0 c
          ∧ r.2.mem ((c.tc : Thread Cert.ActBRefIdeal.nD Cert.ActBRefIdeal.τ).loc Cert.ActBRefIdeal.main_arg0) = m' ((c.tc : Thread Cert.ActBRefIdeal.nD Cert.ActBRefIdeal.τ).loc Cert.ActBRefIdeal.main_arg0)
          ∧ r.2.mem ((c.tc : Thread Cert.ActBRefIdeal.nD Cert.ActBRefIdeal.τ).loc Cert.ActBRefIdeal.main_arg1) = m' ((c.tc : Thread Cert.ActBRefIdeal.nD Cert.ActBRefIdeal.τ).loc Cert.ActBRefIdeal.main_arg1)
          ∧ r.2.mem ((c.tc : Thread Cert.ActBRefIdeal.nD Cert.ActBRefIdeal.τ).loc Cert.ActBRefIdeal.main_arg2) = m' ((c.tc : Thread Cert.ActBRefIdeal.nD Cert.ActBRefIdeal.τ).loc Cert.ActBRefIdeal.main_arg2))

def preserves_GeluB_GeluBIdeal : Prop :=
  True

def algebraic_GeluBIdeal_GeluBRefIdeal [hGeluBIdeal : Cert.GeluBIdeal.Facts] [hGeluBRefIdeal : Cert.GeluBRefIdeal.Facts] : Prop :=
  ∀ (m : (ℓ : Loc Cert.GeluBIdeal.nD Cert.GeluBIdeal.τ Cert.GeluBIdeal.sig) → Buf (Elt Ideal) ℓ) (g : Dev Cert.GeluBIdeal.nD → PrngReg)
    (m' : (ℓ : Loc Cert.GeluBRefIdeal.nD Cert.GeluBRefIdeal.τ Cert.GeluBRefIdeal.sig) → Buf (Elt Ideal) ℓ) (g' : Dev Cert.GeluBRefIdeal.nD → PrngReg), Pre_GeluBIdeal m →
    (∀ c : Dev Cert.GeluBIdeal.nD,
      m' ((c.tc : Thread Cert.GeluBRefIdeal.nD Cert.GeluBRefIdeal.τ).loc Cert.GeluBRefIdeal.main_arg0) = m ((c.tc : Thread Cert.GeluBIdeal.nD Cert.GeluBIdeal.τ).loc Cert.GeluBIdeal.main_arg0)
      ∧ m' ((c.tc : Thread Cert.GeluBRefIdeal.nD Cert.GeluBRefIdeal.τ).loc Cert.GeluBRefIdeal.main_arg1) = m ((c.tc : Thread Cert.GeluBIdeal.nD Cert.GeluBIdeal.τ).loc Cert.GeluBIdeal.main_arg1)) →
    ∃ (v0 : (c : Dev Cert.GeluBIdeal.nD) → Buf (Elt Ideal) ((c.tc : Thread Cert.GeluBIdeal.nD Cert.GeluBIdeal.τ).loc Cert.GeluBIdeal.main_v0)),
      θ_run (Cert.GeluBIdeal.defs (F := Ideal)) (onTc (τ := Cert.GeluBIdeal.τ) (Cert.GeluBIdeal.main (F := Ideal))) ⟨m, fun _ => 0, g⟩ (fun r => ∀ c : Dev Cert.GeluBIdeal.nD,
          r.2.mem ((c.tc : Thread Cert.GeluBIdeal.nD Cert.GeluBIdeal.τ).loc Cert.GeluBIdeal.main_v0) = v0 c
          ∧ r.2.mem ((c.tc : Thread Cert.GeluBIdeal.nD Cert.GeluBIdeal.τ).loc Cert.GeluBIdeal.main_arg0) = m ((c.tc : Thread Cert.GeluBIdeal.nD Cert.GeluBIdeal.τ).loc Cert.GeluBIdeal.main_arg0)
          ∧ r.2.mem ((c.tc : Thread Cert.GeluBIdeal.nD Cert.GeluBIdeal.τ).loc Cert.GeluBIdeal.main_arg1) = m ((c.tc : Thread Cert.GeluBIdeal.nD Cert.GeluBIdeal.τ).loc Cert.GeluBIdeal.main_arg1))
      ∧ θ_run (Cert.GeluBRefIdeal.defs (F := Ideal)) (onTc (τ := Cert.GeluBRefIdeal.τ) (Cert.GeluBRefIdeal.main (F := Ideal))) ⟨m', fun _ => 0, g'⟩ (fun r => ∀ c : Dev Cert.GeluBRefIdeal.nD,
          r.2.mem ((c.tc : Thread Cert.GeluBRefIdeal.nD Cert.GeluBRefIdeal.τ).loc Cert.GeluBRefIdeal.main_v32) = v0 c
          ∧ r.2.mem ((c.tc : Thread Cert.GeluBRefIdeal.nD Cert.GeluBRefIdeal.τ).loc Cert.GeluBRefIdeal.main_arg0) = m' ((c.tc : Thread Cert.GeluBRefIdeal.nD Cert.GeluBRefIdeal.τ).loc Cert.GeluBRefIdeal.main_arg0)
          ∧ r.2.mem ((c.tc : Thread Cert.GeluBRefIdeal.nD Cert.GeluBRefIdeal.τ).loc Cert.GeluBRefIdeal.main_arg1) = m' ((c.tc : Thread Cert.GeluBRefIdeal.nD Cert.GeluBRefIdeal.τ).loc Cert.GeluBRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hGu : Cert.Gu.Facts) (hGuIdeal : Cert.GuIdeal.Facts) (hGuRefIdeal : Cert.GuRefIdeal.Facts) (hU2 : Cert.U2.Facts) (hU2Ideal : Cert.U2Ideal.Facts) (hU2RefIdeal : Cert.U2RefIdeal.Facts) (hQkv : Cert.Qkv.Facts) (hQkvIdeal : Cert.QkvIdeal.Facts) (hQkvRefIdeal : Cert.QkvRefIdeal.Facts) (hQu : Cert.Qu.Facts) (hQuIdeal : Cert.QuIdeal.Facts) (hQuRefIdeal : Cert.QuRefIdeal.Facts) (hWo : Cert.Wo.Facts) (hWoIdeal : Cert.WoIdeal.Facts) (hWoRefIdeal : Cert.WoRefIdeal.Facts) (hO : Cert.O.Facts) (hOIdeal : Cert.OIdeal.Facts) (hORefIdeal : Cert.ORefIdeal.Facts) (hWglu : Cert.Wglu.Facts) (hWgluIdeal : Cert.WgluIdeal.Facts) (hWgluRefIdeal : Cert.WgluRefIdeal.Facts) (hGy : Cert.Gy.Facts) (hGyIdeal : Cert.GyIdeal.Facts) (hGyRefIdeal : Cert.GyRefIdeal.Facts) (hHs : Cert.Hs.Facts) (hHsIdeal : Cert.HsIdeal.Facts) (hHsRefIdeal : Cert.HsRefIdeal.Facts) (hFqkv : Cert.Fqkv.Facts) (hFqkvIdeal : Cert.FqkvIdeal.Facts) (hFqkvRefIdeal : Cert.FqkvRefIdeal.Facts) (hFm : Cert.Fm.Facts) (hFmIdeal : Cert.FmIdeal.Facts) (hFmRefIdeal : Cert.FmRefIdeal.Facts) (hFglu : Cert.Fglu.Facts) (hFgluIdeal : Cert.FgluIdeal.Facts) (hFgluRefIdeal : Cert.FgluRefIdeal.Facts) (hFf : Cert.Ff.Facts) (hFfIdeal : Cert.FfIdeal.Facts) (hFfRefIdeal : Cert.FfRefIdeal.Facts) (hFup : Cert.Fup.Facts) (hFupIdeal : Cert.FupIdeal.Facts) (hFupRefIdeal : Cert.FupRefIdeal.Facts) (hFatt : Cert.Fatt.Facts) (hFattIdeal : Cert.FattIdeal.Facts) (hFattRefIdeal : Cert.FattRefIdeal.Facts) (hFconv : Cert.Fconv.Facts) (hFconvIdeal : Cert.FconvIdeal.Facts) (hFconvRefIdeal : Cert.FconvRefIdeal.Facts) (hActB : Cert.ActB.Facts) (hActBIdeal : Cert.ActBIdeal.Facts) (hActBRefIdeal : Cert.ActBRefIdeal.Facts) (hGeluB : Cert.GeluB.Facts) (hGeluBIdeal : Cert.GeluBIdeal.Facts) (hGeluBRefIdeal : Cert.GeluBRefIdeal.Facts) (hGate : Cert.Gate.Facts) (hGateIdeal : Cert.GateIdeal.Facts) (hGateRefIdeal : Cert.GateRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActRefIdeal (hActRefIdeal := hActRefIdeal)
    ∧ quiescent_Gu (hGu := hGu)
    ∧ quiescent_GuIdeal (hGuIdeal := hGuIdeal)
    ∧ quiescent_GuRefIdeal (hGuRefIdeal := hGuRefIdeal)
    ∧ quiescent_U2 (hU2 := hU2)
    ∧ quiescent_U2Ideal (hU2Ideal := hU2Ideal)
    ∧ quiescent_U2RefIdeal (hU2RefIdeal := hU2RefIdeal)
    ∧ quiescent_Qkv (hQkv := hQkv)
    ∧ quiescent_QkvIdeal (hQkvIdeal := hQkvIdeal)
    ∧ quiescent_QkvRefIdeal (hQkvRefIdeal := hQkvRefIdeal)
    ∧ quiescent_Qu (hQu := hQu)
    ∧ quiescent_QuIdeal (hQuIdeal := hQuIdeal)
    ∧ quiescent_QuRefIdeal (hQuRefIdeal := hQuRefIdeal)
    ∧ quiescent_Wo (hWo := hWo)
    ∧ quiescent_WoIdeal (hWoIdeal := hWoIdeal)
    ∧ quiescent_WoRefIdeal (hWoRefIdeal := hWoRefIdeal)
    ∧ quiescent_O (hO := hO)
    ∧ quiescent_OIdeal (hOIdeal := hOIdeal)
    ∧ quiescent_ORefIdeal (hORefIdeal := hORefIdeal)
    ∧ quiescent_Wglu (hWglu := hWglu)
    ∧ quiescent_WgluIdeal (hWgluIdeal := hWgluIdeal)
    ∧ quiescent_WgluRefIdeal (hWgluRefIdeal := hWgluRefIdeal)
    ∧ quiescent_Gy (hGy := hGy)
    ∧ quiescent_GyIdeal (hGyIdeal := hGyIdeal)
    ∧ quiescent_GyRefIdeal (hGyRefIdeal := hGyRefIdeal)
    ∧ quiescent_Hs (hHs := hHs)
    ∧ quiescent_HsIdeal (hHsIdeal := hHsIdeal)
    ∧ quiescent_HsRefIdeal (hHsRefIdeal := hHsRefIdeal)
    ∧ quiescent_Fqkv (hFqkv := hFqkv)
    ∧ quiescent_FqkvIdeal (hFqkvIdeal := hFqkvIdeal)
    ∧ quiescent_FqkvRefIdeal (hFqkvRefIdeal := hFqkvRefIdeal)
    ∧ quiescent_Fm (hFm := hFm)
    ∧ quiescent_FmIdeal (hFmIdeal := hFmIdeal)
    ∧ quiescent_FmRefIdeal (hFmRefIdeal := hFmRefIdeal)
    ∧ quiescent_Fglu (hFglu := hFglu)
    ∧ quiescent_FgluIdeal (hFgluIdeal := hFgluIdeal)
    ∧ quiescent_FgluRefIdeal (hFgluRefIdeal := hFgluRefIdeal)
    ∧ quiescent_Ff (hFf := hFf)
    ∧ quiescent_FfIdeal (hFfIdeal := hFfIdeal)
    ∧ quiescent_FfRefIdeal (hFfRefIdeal := hFfRefIdeal)
    ∧ quiescent_Fup (hFup := hFup)
    ∧ quiescent_FupIdeal (hFupIdeal := hFupIdeal)
    ∧ quiescent_FupRefIdeal (hFupRefIdeal := hFupRefIdeal)
    ∧ quiescent_Fatt (hFatt := hFatt)
    ∧ quiescent_FattIdeal (hFattIdeal := hFattIdeal)
    ∧ quiescent_FattRefIdeal (hFattRefIdeal := hFattRefIdeal)
    ∧ quiescent_Fconv (hFconv := hFconv)
    ∧ quiescent_FconvIdeal (hFconvIdeal := hFconvIdeal)
    ∧ quiescent_FconvRefIdeal (hFconvRefIdeal := hFconvRefIdeal)
    ∧ quiescent_ActB (hActB := hActB)
    ∧ quiescent_ActBIdeal (hActBIdeal := hActBIdeal)
    ∧ quiescent_ActBRefIdeal (hActBRefIdeal := hActBRefIdeal)
    ∧ quiescent_GeluB (hGeluB := hGeluB)
    ∧ quiescent_GeluBIdeal (hGeluBIdeal := hGeluBIdeal)
    ∧ quiescent_GeluBRefIdeal (hGeluBRefIdeal := hGeluBRefIdeal)
    ∧ quiescent_Gate (hGate := hGate)
    ∧ quiescent_GateIdeal (hGateIdeal := hGateIdeal)
    ∧ quiescent_GateRefIdeal (hGateRefIdeal := hGateRefIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal (hActIdeal := hActIdeal) (hActRefIdeal := hActRefIdeal)
    ∧ preserves_Gu_GuIdeal
    ∧ algebraic_GuIdeal_GuRefIdeal (hGuIdeal := hGuIdeal) (hGuRefIdeal := hGuRefIdeal)
    ∧ preserves_U2_U2Ideal
    ∧ algebraic_U2Ideal_U2RefIdeal (hU2Ideal := hU2Ideal) (hU2RefIdeal := hU2RefIdeal)
    ∧ preserves_Qkv_QkvIdeal
    ∧ algebraic_QkvIdeal_QkvRefIdeal (hQkvIdeal := hQkvIdeal) (hQkvRefIdeal := hQkvRefIdeal)
    ∧ preserves_Qu_QuIdeal
    ∧ algebraic_QuIdeal_QuRefIdeal (hQuIdeal := hQuIdeal) (hQuRefIdeal := hQuRefIdeal)
    ∧ preserves_Wo_WoIdeal
    ∧ algebraic_WoIdeal_WoRefIdeal (hWoIdeal := hWoIdeal) (hWoRefIdeal := hWoRefIdeal)
    ∧ preserves_O_OIdeal
    ∧ algebraic_OIdeal_ORefIdeal (hOIdeal := hOIdeal) (hORefIdeal := hORefIdeal)
    ∧ preserves_Wglu_WgluIdeal
    ∧ algebraic_WgluIdeal_WgluRefIdeal (hWgluIdeal := hWgluIdeal) (hWgluRefIdeal := hWgluRefIdeal)
    ∧ preserves_Gy_GyIdeal
    ∧ algebraic_GyIdeal_GyRefIdeal (hGyIdeal := hGyIdeal) (hGyRefIdeal := hGyRefIdeal)
    ∧ preserves_Hs_HsIdeal
    ∧ algebraic_HsIdeal_HsRefIdeal (hHsIdeal := hHsIdeal) (hHsRefIdeal := hHsRefIdeal)
    ∧ preserves_Fqkv_FqkvIdeal
    ∧ algebraic_FqkvIdeal_FqkvRefIdeal (hFqkvIdeal := hFqkvIdeal) (hFqkvRefIdeal := hFqkvRefIdeal)
    ∧ preserves_Fm_FmIdeal
    ∧ algebraic_FmIdeal_FmRefIdeal (hFmIdeal := hFmIdeal) (hFmRefIdeal := hFmRefIdeal)
    ∧ preserves_Fglu_FgluIdeal
    ∧ algebraic_FgluIdeal_FgluRefIdeal (hFgluIdeal := hFgluIdeal) (hFgluRefIdeal := hFgluRefIdeal)
    ∧ preserves_Ff_FfIdeal
    ∧ algebraic_FfIdeal_FfRefIdeal (hFfIdeal := hFfIdeal) (hFfRefIdeal := hFfRefIdeal)
    ∧ preserves_Fup_FupIdeal
    ∧ algebraic_FupIdeal_FupRefIdeal (hFupIdeal := hFupIdeal) (hFupRefIdeal := hFupRefIdeal)
    ∧ preserves_Fatt_FattIdeal
    ∧ algebraic_FattIdeal_FattRefIdeal (hFattIdeal := hFattIdeal) (hFattRefIdeal := hFattRefIdeal)
    ∧ preserves_Fconv_FconvIdeal
    ∧ algebraic_FconvIdeal_FconvRefIdeal (hFconvIdeal := hFconvIdeal) (hFconvRefIdeal := hFconvRefIdeal)
    ∧ preserves_ActB_ActBIdeal
    ∧ algebraic_ActBIdeal_ActBRefIdeal (hActBIdeal := hActBIdeal) (hActBRefIdeal := hActBRefIdeal)
    ∧ preserves_GeluB_GeluBIdeal
    ∧ algebraic_GeluBIdeal_GeluBRefIdeal (hGeluBIdeal := hGeluBIdeal) (hGeluBRefIdeal := hGeluBRefIdeal)
    ∧ preserves_Gate_GateIdeal
    ∧ algebraic_GateIdeal_GateRefIdeal (hGateIdeal := hGateIdeal) (hGateRefIdeal := hGateRefIdeal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x1024 : S_.BroadcastsInDim S8192x1024 (![] : Fin 0 → Fin S8192x1024.rank)

variable [Facts]

def fn {F : FTy → Type} [FloatOps F] (main_arg0 : FVec F S8192x3072 .bf16) (main_arg1 : FVec F S8192x1024 .bf16) : IVec S8192x3072 1 × IVec S8192x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  (main_v3, main_v7)
-- ==== Kernel.lean ====
abbrev S8192x1024 : Shape := ⟨2, ![8192, 1024]⟩
abbrev S31x1024 : Shape := ⟨2, ![31, 1024]⟩
abbrev S1x1024 : Shape := ⟨2, ![1, 1024]⟩
abbrev S512x1024 : Shape := ⟨2, ![512, 1024]⟩
abbrev S32x1024 : Shape := ⟨2, ![32, 1024]⟩
abbrev S544x1024 : Shape := ⟨2, ![544, 1024]⟩
abbrev S1024 : Shape := ⟨1, ![1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S8192x1024, .f32⟩
  | .hbm, ⟨4, _⟩ => ⟨S31x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S512x1024, .f32⟩
  | .local _ .vmem, ⟨10, _⟩ => ⟨S512x1024, .f32⟩
  | .local _ .vmem, ⟨11, _⟩ => ⟨S31x1024, .f32⟩
  | .local _ .vmem, ⟨12, _⟩ => ⟨S1x1024, .f32⟩
  | .local _ .vmem, ⟨13, _⟩ => ⟨S544x1024, .f32⟩
  | .local _ .vmem, ⟨14, _⟩ => ⟨S544x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_206 : BitVec 32 := 0#32
  let v307 : BitVec 1 := Scalar.cmpi .eq arg0 c0_i32_206
  let v308 : BitVec 32 := Scalar.extui v307
  let c0_i32_207 : BitVec 32 := 0#32
  let v309 : BitVec 1 := Scalar.cmpi .ne v308 c0_i32_207
  v309

def k0_cond2 (i : grid0.Coords) : BitVec 1 :=
  let arg0 : BitVec 32 := BitVec.ofNat 32 (i 0).val
  let c0_i32_208 : BitVec 32 := 0#32
  let v310 : BitVec 1 := Scalar.cmpi .sgt arg0 c0_i32_208
  let v311 : BitVec 32 := Scalar.extui v310
  let c0_i32_209 : BitVec 32 := 0#32
  let v312 : BitVec 1 := Scalar.cmpi .ne v311 c0_i32_209
  v312

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S31x1024 : Shape := ⟨2, ![31, 1024]⟩
abbrev S_ : Shape := ⟨0, ![]⟩
abbrev S1x1024 : Shape := ⟨2, ![1, 1024]⟩
abbrev S30x1024 : Shape := ⟨2, ![30, 1024]⟩
abbrev S8222x1024 : Shape := ⟨2, ![8222, 1024]⟩
abbrev S1024 : Shape := ⟨1, ![1024]⟩

abbrev nBuf : Space → Nat
  | .hbm => 700
  | .vmem => 0
  | .smem => 0
  | _ => 0

abbrev hbmTy0_0 (i : Nat) : BufTy := match i % 128 with
  | 0 => ⟨S8192x1024, .f32⟩
  | 1 => ⟨S8192x1024, .f32⟩
  | 2 => ⟨S31x1024, .f32⟩
  | 3 => ⟨S_, .f32⟩
  | 4 => ⟨S1x1024, .f32⟩
  | 5 => ⟨S_, .f32⟩
  | 6 => ⟨S30x1024, .f32⟩
  | 7 => ⟨S8222x1024, .f32⟩
  | 8 => ⟨S_, .f32⟩
  | 9 => ⟨S30x1024, .f32⟩
  | 10 => ⟨S1x1024, .f32⟩
  | 11 => ⟨S1024, .f32⟩
  | 12 => ⟨S1x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S1x1024, .f32⟩
  | 20 => ⟨S1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S1x1024, .f32⟩
  | 27 => ⟨S1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S1x1024, .f32⟩
  | 69 => ⟨S1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S1x1024, .f32⟩
  | 85 => ⟨S8192x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S8192x1024, .f32⟩
  | 117 => ⟨S1x1024, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S8192x1024, .f32⟩
  | 124 => ⟨S1x1024, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S1x1024, .f32⟩
  | 11 => ⟨S1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S1x1024, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S8222x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S_, .f32⟩
  | 127 => ⟨S8222x1024, .f32⟩
  | _ => ⟨S8192x1024, .f32⟩

abbrev hbmTy0_2 (i : Nat) : BufTy := match i % 128 with
  | 0 => ⟨S8222x1024, .f32⟩
  | 1 => ⟨S_, .f32⟩
  | 2 => ⟨S1024, .f32⟩
  | 3 => ⟨S1x1024, .f32⟩
  | 4 => ⟨S_, .f32⟩
  | 5 => ⟨S31x1024, .f32⟩
  | 6 => ⟨S31x1024, .f32⟩
  | 7 => ⟨S8192x1024, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S_, .f32⟩
  | 14 => ⟨S8222x1024, .f32⟩
  | 15 => ⟨S8222x1024, .f32⟩
  | 16 => ⟨S_, .f32⟩
  | 17 => ⟨S1024, .f32⟩
  | 18 => ⟨S1x1024, .f32⟩
  | 19 => ⟨S_, .f32⟩
  | 20 => ⟨S31x1024, .f32⟩
  | 21 => ⟨S31x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S_, .f32⟩
  | 29 => ⟨S8222x1024, .f32⟩
  | 30 => ⟨S8222x1024, .f32⟩
  | 31 => ⟨S_, .f32⟩
  | 32 => ⟨S1024, .f32⟩
  | 33 => ⟨S1x1024, .f32⟩
  | 34 => ⟨S_, .f32⟩
  | 35 => ⟨S31x1024, .f32⟩
  | 36 => ⟨S31x1024, .f32⟩
  | 37 => ⟨S8192x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S_, .f32⟩
  | 44 => ⟨S8222x1024, .f32⟩
  | 45 => ⟨S8222x1024, .f32⟩
  | 46 => ⟨S_, .f32⟩
  | 47 => ⟨S1024, .f32⟩
  | 48 => ⟨S1x1024, .f32⟩
  | 49 => ⟨S_, .f32⟩
  | 50 => ⟨S31x1024, .f32⟩
  | 51 => ⟨S31x1024, .f32⟩
  | 52 => ⟨S8192x1024, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S_, .f32⟩
  | 59 => ⟨S8222x1024, .f32⟩
  | 60 => ⟨S8222x1024, .f32⟩
  | 61 => ⟨S_, .f32⟩
  | 62 => ⟨S1024, .f32⟩
  | 63 => ⟨S1x1024, .f32⟩
  | 64 => ⟨S_, .f32⟩
  | 65 => ⟨S31x1024, .f32⟩
  | 66 => ⟨S31x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S_, .f32⟩
  | 74 => ⟨S8222x1024, .f32⟩
  | 75 => ⟨S8222x1024, .f32⟩
  | 76 => ⟨S_, .f32⟩
  | 77 => ⟨S1024, .f32⟩
  | 78 => ⟨S1x1024, .f32⟩
  | 79 => ⟨S_, .f32⟩
  | 80 => ⟨S31x1024, .f32⟩
  | 81 => ⟨S31x1024, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S_, .f32⟩
  | 89 => ⟨S8222x1024, .f32⟩
  | 90 => ⟨S8222x1024, .f32⟩
  | 91 => ⟨S_, .f32⟩
  | 92 => ⟨S1024, .f32⟩
  | 93 => ⟨S1x1024, .f32⟩
  | 94 => ⟨S_, .f32⟩
  | 95 => ⟨S31x1024, .f32⟩
  | 96 => ⟨S31x1024, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S8222x1024, .f32⟩
  | 105 => ⟨S8222x1024, .f32⟩
  | 106 => ⟨S_, .f32⟩
  | 107 => ⟨S1024, .f32⟩
  | 108 => ⟨S1x1024, .f32⟩
  | 109 => ⟨S_, .f32⟩
  | 110 => ⟨S31x1024, .f32⟩
  | 111 => ⟨S31x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S8222x1024, .f32⟩
  | 120 => ⟨S8222x1024, .f32⟩
  | 121 => ⟨S_, .f32⟩
  | 122 => ⟨S1024, .f32⟩
  | 123 => ⟨S1x1024, .f32⟩
  | 124 => ⟨S_, .f32⟩
  | 125 => ⟨S31x1024, .f32⟩
  | 126 => ⟨S31x1024, .f32⟩
  | 127 => ⟨S8192x1024, .f32⟩
  | _ => ⟨S8192x1024, .f32⟩

abbrev hbmTy0_3 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S_, .f32⟩
  | 6 => ⟨S8222x1024, .f32⟩
  | 7 => ⟨S8222x1024, .f32⟩
  | 8 => ⟨S_, .f32⟩
  | 9 => ⟨S1024, .f32⟩
  | 10 => ⟨S1x1024, .f32⟩
  | 11 => ⟨S_, .f32⟩
  | 12 => ⟨S31x1024, .f32⟩
  | 13 => ⟨S31x1024, .f32⟩
  | 14 => ⟨S8192x1024, .f32⟩
  | 15 => ⟨S8192x1024, .f32⟩
  | 16 => ⟨S8192x1024, .f32⟩
  | 17 => ⟨S_, .f32⟩
  | 18 => ⟨S1024, .f32⟩
  | 19 => ⟨S1x1024, .f32⟩
  | 20 => ⟨S_, .f32⟩
  | 21 => ⟨S8222x1024, .f32⟩
  | 22 => ⟨S8222x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S8192x1024, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S_, .f32⟩
  | 36 => ⟨S8222x1024, .f32⟩
  | 37 => ⟨S8222x1024, .f32⟩
  | 38 => ⟨S_, .f32⟩
  | 39 => ⟨S1024, .f32⟩
  | 40 => ⟨S1x1024, .f32⟩
  | 41 => ⟨S_, .f32⟩
  | 42 => ⟨S31x1024, .f32⟩
  | 43 => ⟨S31x1024, .f32⟩
  | 44 => ⟨S8192x1024, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S_, .f32⟩
  | 51 => ⟨S8222x1024, .f32⟩
  | 52 => ⟨S8222x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S_, .f32⟩
  | 66 => ⟨S8222x1024, .f32⟩
  | 67 => ⟨S8222x1024, .f32⟩
  | 68 => ⟨S_, .f32⟩
  | 69 => ⟨S1024, .f32⟩
  | 70 => ⟨S1x1024, .f32⟩
  | 71 => ⟨S_, .f32⟩
  | 72 => ⟨S31x1024, .f32⟩
  | 73 => ⟨S31x1024, .f32⟩
  | 74 => ⟨S8192x1024, .f32⟩
  | 75 => ⟨S8192x1024, .f32⟩
  | 76 => ⟨S8192x1024, .f32⟩
  | 77 => ⟨S_, .f32⟩
  | 78 => ⟨S1024, .f32⟩
  | 79 => ⟨S1x1024, .f32⟩
  | 80 => ⟨S_, .f32⟩
  | 81 => ⟨S8222x1024, .f32⟩
  | 82 => ⟨S8222x1024, .f32⟩
  | 83 => ⟨S_, .f32⟩
  | 84 => ⟨S1024, .f32⟩
  | 85 => ⟨S1x1024, .f32⟩
  | 86 => ⟨S_, .f32⟩
  | 87 => ⟨S31x1024, .f32⟩
  | 88 => ⟨S31x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S_, .f32⟩
  | 96 => ⟨S8222x1024, .f32⟩
  | 97 => ⟨S8222x1024, .f32⟩
  | 98 => ⟨S_, .f32⟩
  | 99 => ⟨S1024, .f32⟩
  | 100 => ⟨S1x1024, .f32⟩
  | 101 => ⟨S_, .f32⟩
  | 102 => ⟨S31x1024, .f32⟩
  | 103 => ⟨S31x1024, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S8222x1024, .f32⟩
  | 112 => ⟨S8222x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S_, .f32⟩
  | 126 => ⟨S8222x1024, .f32⟩
  | 127 => ⟨S8222x1024, .f32⟩
  | _ => ⟨S8192x1024, .f32⟩

abbrev hbmTy0_4 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S31x1024, .f32⟩
  | 6 => ⟨S8192x1024, .f32⟩
  | 7 => ⟨S8192x1024, .f32⟩
  | 8 => ⟨S8192x1024, .f32⟩
  | 9 => ⟨S_, .f32⟩
  | 10 => ⟨S1024, .f32⟩
  | 11 => ⟨S1x1024, .f32⟩
  | 12 => ⟨S_, .f32⟩
  | 13 => ⟨S8222x1024, .f32⟩
  | 14 => ⟨S8222x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S8192x1024, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S_, .f32⟩
  | 28 => ⟨S8222x1024, .f32⟩
  | 29 => ⟨S8222x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S31x1024, .f32⟩
  | 36 => ⟨S8192x1024, .f32⟩
  | 37 => ⟨S8192x1024, .f32⟩
  | 38 => ⟨S8192x1024, .f32⟩
  | 39 => ⟨S_, .f32⟩
  | 40 => ⟨S1024, .f32⟩
  | 41 => ⟨S1x1024, .f32⟩
  | 42 => ⟨S_, .f32⟩
  | 43 => ⟨S8222x1024, .f32⟩
  | 44 => ⟨S8222x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S8192x1024, .f32⟩
  | 52 => ⟨S8192x1024, .f32⟩
  | 53 => ⟨S8192x1024, .f32⟩
  | 54 => ⟨S_, .f32⟩
  | 55 => ⟨S1024, .f32⟩
  | 56 => ⟨S1x1024, .f32⟩
  | 57 => ⟨S_, .f32⟩
  | 58 => ⟨S8222x1024, .f32⟩
  | 59 => ⟨S8222x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S31x1024, .f32⟩
  | 66 => ⟨S8192x1024, .f32⟩
  | 67 => ⟨S8192x1024, .f32⟩
  | 68 => ⟨S8192x1024, .f32⟩
  | 69 => ⟨S_, .f32⟩
  | 70 => ⟨S1024, .f32⟩
  | 71 => ⟨S1x1024, .f32⟩
  | 72 => ⟨S_, .f32⟩
  | 73 => ⟨S8222x1024, .f32⟩
  | 74 => ⟨S8222x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S8192x1024, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S8222x1024, .f32⟩
  | 89 => ⟨S8222x1024, .f32⟩
  | 90 => ⟨S_, .f32⟩
  | 91 => ⟨S1024, .f32⟩
  | 92 => ⟨S1x1024, .f32⟩
  | 93 => ⟨S_, .f32⟩
  | 94 => ⟨S31x1024, .f32⟩
  | 95 => ⟨S31x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S_, .f32⟩
  | 103 => ⟨S8222x1024, .f32⟩
  | 104 => ⟨S8222x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S8222x1024, .f32⟩
  | 119 => ⟨S8222x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S8192x1024, .f32⟩
  | 127 => ⟨S8192x1024, .f32⟩
  | _ => ⟨S8192x1024, .f32⟩

abbrev hbmTy0_5 (i : Nat) : BufTy := match i % 128 with
  | 0 => ⟨S8192x1024, .f32⟩
  | 1 => ⟨S_, .f32⟩
  | 2 => ⟨S1024, .f32⟩
  | 3 => ⟨S1x1024, .f32⟩
  | 4 => ⟨S_, .f32⟩
  | 5 => ⟨S8222x1024, .f32⟩
  | 6 => ⟨S8222x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S8192x1024, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S_, .f32⟩
  | 20 => ⟨S8222x1024, .f32⟩
  | 21 => ⟨S8222x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S8192x1024, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S_, .f32⟩
  | 35 => ⟨S8222x1024, .f32⟩
  | 36 => ⟨S8222x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S8192x1024, .f32⟩
  | 44 => ⟨S8192x1024, .f32⟩
  | 45 => ⟨S8192x1024, .f32⟩
  | 46 => ⟨S_, .f32⟩
  | 47 => ⟨S1024, .f32⟩
  | 48 => ⟨S1x1024, .f32⟩
  | 49 => ⟨S_, .f32⟩
  | 50 => ⟨S8222x1024, .f32⟩
  | 51 => ⟨S8222x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S30x1024, .f32⟩
  | 59 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_cst_3 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_cst_4 : Ref sig .tc := ⟨.hbm, 238, rfl⟩
abbrev main_v230 : Ref sig .tc := ⟨.hbm, 239, rfl⟩
abbrev main_v231 : Ref sig .tc := ⟨.hbm, 240, rfl⟩
abbrev main_cst_5 : Ref sig .tc := ⟨.hbm, 241, rfl⟩
abbrev main_v232 : Ref sig .tc := ⟨.hbm, 242, rfl⟩
abbrev main_cst_6 : Ref sig .tc := ⟨.hbm, 243, rfl⟩
abbrev main_v233 : Ref sig .tc := ⟨.hbm, 244, rfl⟩
abbrev main_v234 : Ref sig .tc := ⟨.hbm, 245, rfl⟩
abbrev main_cst_7 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_8 : Ref sig .tc := ⟨.hbm, 251, rfl⟩
abbrev main_v239 : Ref sig .tc := ⟨.hbm, 252, rfl⟩
abbrev main_v240 : Ref sig .tc := ⟨.hbm, 253, rfl⟩
abbrev main_cst_9 : Ref sig .tc := ⟨.hbm, 254, rfl⟩
abbrev main_v241 : Ref sig .tc := ⟨.hbm, 255, rfl⟩
abbrev main_v242 : Ref sig .tc := ⟨.hbm, 256, rfl⟩
abbrev main_cst_10 : Ref sig .tc := ⟨.hbm, 257, rfl⟩
abbrev main_v243 : Ref sig .tc := ⟨.hbm, 258, rfl⟩
abbrev main_v244 : Ref sig .tc := ⟨.hbm, 259, rfl⟩
abbrev main_cst_11 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_cst_14 : Ref sig .tc := ⟨.hbm, 272, rfl⟩
abbrev main_v254 : Ref sig .tc := ⟨.hbm, 273, rfl⟩
abbrev main_v255 : Ref sig .tc := ⟨.hbm, 274, rfl⟩
abbrev main_cst_15 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_cst_18 : Ref sig .tc := ⟨.hbm, 287, rfl⟩
abbrev main_v265 : Ref sig .tc := ⟨.hbm, 288, rfl⟩
abbrev main_v266 : Ref sig .tc := ⟨.hbm, 289, rfl⟩
abbrev main_cst_19 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_cst_20 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_cst_22 : Ref sig .tc := ⟨.hbm, 302, rfl⟩
abbrev main_v276 : Ref sig .tc := ⟨.hbm, 303, rfl⟩
abbrev main_v277 : Ref sig .tc := ⟨.hbm, 304, rfl⟩
abbrev main_cst_23 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_cst_24 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_cst_26 : Ref sig .tc := ⟨.hbm, 317, rfl⟩
abbrev main_v287 : Ref sig .tc := ⟨.hbm, 318, rfl⟩
abbrev main_v288 : Ref sig .tc := ⟨.hbm, 319, rfl⟩
abbrev main_cst_27 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_cst_28 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_cst_30 : Ref sig .tc := ⟨.hbm, 332, rfl⟩
abbrev main_v298 : Ref sig .tc := ⟨.hbm, 333, rfl⟩
abbrev main_v299 : Ref sig .tc := ⟨.hbm, 334, rfl⟩
abbrev main_cst_31 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_cst_32 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_cst_34 : Ref sig .tc := ⟨.hbm, 347, rfl⟩
abbrev main_v309 : Ref sig .tc := ⟨.hbm, 348, rfl⟩
abbrev main_v310 : Ref sig .tc := ⟨.hbm, 349, rfl⟩
abbrev main_cst_35 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_cst_36 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_cst_38 : Ref sig .tc := ⟨.hbm, 362, rfl⟩
abbrev main_v320 : Ref sig .tc := ⟨.hbm, 363, rfl⟩
abbrev main_v321 : Ref sig .tc := ⟨.hbm, 364, rfl⟩
abbrev main_cst_39 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_cst_40 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_cst_42 : Ref sig .tc := ⟨.hbm, 377, rfl⟩
abbrev main_v331 : Ref sig .tc := ⟨.hbm, 378, rfl⟩
abbrev main_v332 : Ref sig .tc := ⟨.hbm, 379, rfl⟩
abbrev main_cst_43 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_cst_44 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_cst_46 : Ref sig .tc := ⟨.hbm, 392, rfl⟩
abbrev main_v342 : Ref sig .tc := ⟨.hbm, 393, rfl⟩
abbrev main_v343 : Ref sig .tc := ⟨.hbm, 394, rfl⟩
abbrev main_cst_47 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_cst_48 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_cst_50 : Ref sig .tc := ⟨.hbm, 407, rfl⟩
abbrev main_v353 : Ref sig .tc := ⟨.hbm, 408, rfl⟩
abbrev main_v354 : Ref sig .tc := ⟨.hbm, 409, rfl⟩
abbrev main_cst_51 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_cst_52 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_cst_54 : Ref sig .tc := ⟨.hbm, 422, rfl⟩
abbrev main_v364 : Ref sig .tc := ⟨.hbm, 423, rfl⟩
abbrev main_v365 : Ref sig .tc := ⟨.hbm, 424, rfl⟩
abbrev main_cst_55 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_cst_56 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_cst_58 : Ref sig .tc := ⟨.hbm, 437, rfl⟩
abbrev main_v375 : Ref sig .tc := ⟨.hbm, 438, rfl⟩
abbrev main_v376 : Ref sig .tc := ⟨.hbm, 439, rfl⟩
abbrev main_cst_59 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_cst_60 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_cst_62 : Ref sig .tc := ⟨.hbm, 452, rfl⟩
abbrev main_v386 : Ref sig .tc := ⟨.hbm, 453, rfl⟩
abbrev main_v387 : Ref sig .tc := ⟨.hbm, 454, rfl⟩
abbrev main_cst_63 : Ref sig .tc := ⟨.hbm, 455, rfl⟩
abbrev main_v388 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_cst_64 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_cst_66 : Ref sig .tc := ⟨.hbm, 467, rfl⟩
abbrev main_v397 : Ref sig .tc := ⟨.hbm, 468, rfl⟩
abbrev main_v398 : Ref sig .tc := ⟨.hbm, 469, rfl⟩
abbrev main_cst_67 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_cst_68 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_cst_70 : Ref sig .tc := ⟨.hbm, 482, rfl⟩
abbrev main_v408 : Ref sig .tc := ⟨.hbm, 483, rfl⟩
abbrev main_v409 : Ref sig .tc := ⟨.hbm, 484, rfl⟩
abbrev main_cst_71 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_cst_72 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_cst_74 : Ref sig .tc := ⟨.hbm, 497, rfl⟩
abbrev main_v419 : Ref sig .tc := ⟨.hbm, 498, rfl⟩
abbrev main_v420 : Ref sig .tc := ⟨.hbm, 499, rfl⟩
abbrev main_cst_75 : Ref sig .tc := ⟨.hbm, 500, rfl⟩
abbrev main_v421 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_cst_76 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_cst_78 : Ref sig .tc := ⟨.hbm, 512, rfl⟩
abbrev main_v430 : Ref sig .tc := ⟨.hbm, 513, rfl⟩
abbrev main_v431 : Ref sig .tc := ⟨.hbm, 514, rfl⟩
abbrev main_cst_79 : Ref sig .tc := ⟨.hbm, 515, rfl⟩
abbrev main_v432 : Ref sig .tc := ⟨.hbm, 516, rfl⟩
abbrev main_v433 : Ref sig .tc := ⟨.hbm, 517, rfl⟩
abbrev main_v434 : Ref sig .tc := ⟨.hbm, 518, rfl⟩
abbrev main_v435 : Ref sig .tc := ⟨.hbm, 519, rfl⟩
abbrev main_v436 : Ref sig .tc := ⟨.hbm, 520, rfl⟩
abbrev main_cst_80 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_cst_82 : Ref sig .tc := ⟨.hbm, 527, rfl⟩
abbrev main_v441 : Ref sig .tc := ⟨.hbm, 528, rfl⟩
abbrev main_v442 : Ref sig .tc := ⟨.hbm, 529, rfl⟩
abbrev main_cst_83 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_cst_84 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_cst_86 : Ref sig .tc := ⟨.hbm, 542, rfl⟩
abbrev main_v452 : Ref sig .tc := ⟨.hbm, 543, rfl⟩
abbrev main_v453 : Ref sig .tc := ⟨.hbm, 544, rfl⟩
abbrev main_cst_87 : Ref sig .tc := ⟨.hbm, 545, rfl⟩
abbrev main_v454 : Ref sig .tc := ⟨.hbm, 546, rfl⟩
abbrev main_v455 : Ref sig .tc := ⟨.hbm, 547, rfl⟩
abbrev main_v456 : Ref sig .tc := ⟨.hbm, 548, rfl⟩
abbrev main_v457 : Ref sig .tc := ⟨.hbm, 549, rfl⟩
abbrev main_v458 : Ref sig .tc := ⟨.hbm, 550, rfl⟩
abbrev main_cst_88 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_cst_90 : Ref sig .tc := ⟨.hbm, 557, rfl⟩
abbrev main_v463 : Ref sig .tc := ⟨.hbm, 558, rfl⟩
abbrev main_v464 : Ref sig .tc := ⟨.hbm, 559, rfl⟩
abbrev main_cst_91 : Ref sig .tc := ⟨.hbm, 560, rfl⟩
abbrev main_v465 : Ref sig .tc := ⟨.hbm, 561, rfl⟩
abbrev main_v466 : Ref sig .tc := ⟨.hbm, 562, rfl⟩
abbrev main_v467 : Ref sig .tc := ⟨.hbm, 563, rfl⟩
abbrev main_v468 : Ref sig .tc := ⟨.hbm, 564, rfl⟩
abbrev main_v469 : Ref sig .tc := ⟨.hbm, 565, rfl⟩
abbrev main_cst_92 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_cst_94 : Ref sig .tc := ⟨.hbm, 572, rfl⟩
abbrev main_v474 : Ref sig .tc := ⟨.hbm, 573, rfl⟩
abbrev main_v475 : Ref sig .tc := ⟨.hbm, 574, rfl⟩
abbrev main_cst_95 : Ref sig .tc := ⟨.hbm, 575, rfl⟩
abbrev main_v476 : Ref sig .tc := ⟨.hbm, 576, rfl⟩
abbrev main_v477 : Ref sig .tc := ⟨.hbm, 577, rfl⟩
abbrev main_v478 : Ref sig .tc := ⟨.hbm, 578, rfl⟩
abbrev main_v479 : Ref sig .tc := ⟨.hbm, 579, rfl⟩
abbrev main_v480 : Ref sig .tc := ⟨.hbm, 580, rfl⟩
abbrev main_cst_96 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_cst_98 : Ref sig .tc := ⟨.hbm, 587, rfl⟩
abbrev main_v485 : Ref sig .tc := ⟨.hbm, 588, rfl⟩
abbrev main_v486 : Ref sig .tc := ⟨.hbm, 589, rfl⟩
abbrev main_cst_99 : Ref sig .tc := ⟨.hbm, 590, rfl⟩
abbrev main_v487 : Ref sig .tc := ⟨.hbm, 591, rfl⟩
abbrev main_v488 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_cst_100 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_cst_102 : Ref sig .tc := ⟨.hbm, 602, rfl⟩
abbrev main_v496 : Ref sig .tc := ⟨.hbm, 603, rfl⟩
abbrev main_v497 : Ref sig .tc := ⟨.hbm, 604, rfl⟩
abbrev main_cst_103 : Ref sig .tc := ⟨.hbm, 605, rfl⟩
abbrev main_v498 : Ref sig .tc := ⟨.hbm, 606, rfl⟩
abbrev main_v499 : Ref sig .tc := ⟨.hbm, 607, rfl⟩
abbrev main_v500 : Ref sig .tc := ⟨.hbm, 608, rfl⟩
abbrev main_v501 : Ref sig .tc := ⟨.hbm, 609, rfl⟩
abbrev main_v502 : Ref sig .tc := ⟨.hbm, 610, rfl⟩
abbrev main_cst_104 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_cst_106 : Ref sig .tc := ⟨.hbm, 617, rfl⟩
abbrev main_v507 : Ref sig .tc := ⟨.hbm, 618, rfl⟩
abbrev main_v508 : Ref sig .tc := ⟨.hbm, 619, rfl⟩
abbrev main_cst_107 : Ref sig .tc := ⟨.hbm, 620, rfl⟩
abbrev main_v509 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_v513 : Ref sig .tc := ⟨.hbm, 625, rfl⟩
abbrev main_cst_108 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_cst_110 : Ref sig .tc := ⟨.hbm, 632, rfl⟩
abbrev main_v518 : Ref sig .tc := ⟨.hbm, 633, rfl⟩
abbrev main_v519 : Ref sig .tc := ⟨.hbm, 634, rfl⟩
abbrev main_cst_111 : Ref sig .tc := ⟨.hbm, 635, rfl⟩
abbrev main_v520 : Ref sig .tc := ⟨.hbm, 636, rfl⟩
abbrev main_v521 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_cst_112 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_cst_114 : Ref sig .tc := ⟨.hbm, 647, rfl⟩
abbrev main_v529 : Ref sig .tc := ⟨.hbm, 648, rfl⟩
abbrev main_v530 : Ref sig .tc := ⟨.hbm, 649, rfl⟩
abbrev main_cst_115 : Ref sig .tc := ⟨.hbm, 650, rfl⟩
abbrev main_v531 : Ref sig .tc := ⟨.hbm, 651, rfl⟩
abbrev main_v532 : Ref sig .tc := ⟨.hbm, 652, rfl⟩
abbrev main_v533 : Ref sig .tc := ⟨.hbm, 653, rfl⟩
abbrev main_v534 : Ref sig .tc := ⟨.hbm, 654, rfl⟩
abbrev main_v535 : Ref sig .tc := ⟨.hbm, 655, rfl⟩
abbrev main_cst_116 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_cst_118 : Ref sig .tc := ⟨.hbm, 662, rfl⟩
abbrev main_v540 : Ref sig .tc := ⟨.hbm, 663, rfl⟩
abbrev main_v541 : Ref sig .tc := ⟨.hbm, 664, rfl⟩
abbrev main_cst_119 : Ref sig .tc := ⟨.hbm, 665, rfl⟩
abbrev main_v542 : Ref sig .tc := ⟨.hbm, 666, rfl⟩
abbrev main_v543 : Ref sig .tc := ⟨.hbm, 667, rfl⟩
abbrev main_v544 : Ref sig .tc := ⟨.hbm, 668, rfl⟩
abbrev main_v545 : Ref sig .tc := ⟨.hbm, 669, rfl⟩
abbrev main_v546 : Ref sig .tc := ⟨.hbm, 670, rfl⟩
abbrev main_cst_120 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_cst_122 : Ref sig .tc := ⟨.hbm, 677, rfl⟩
abbrev main_v551 : Ref sig .tc := ⟨.hbm, 678, rfl⟩
abbrev main_v552 : Ref sig .tc := ⟨.hbm, 679, rfl⟩
abbrev main_cst_123 : Ref sig .tc := ⟨.hbm, 680, rfl⟩
abbrev main_v553 : Ref sig .tc := ⟨.hbm, 681, rfl⟩
abbrev main_v554 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_cst_124 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_cst_126 : Ref sig .tc := ⟨.hbm, 692, rfl⟩
abbrev main_v562 : Ref sig .tc := ⟨.hbm, 693, rfl⟩
abbrev main_v563 : Ref sig .tc := ⟨.hbm, 694, rfl⟩
abbrev main_cst_127 : Ref sig .tc := ⟨.hbm, 695, rfl⟩
abbrev main_v564 : Ref sig .tc := ⟨.hbm, 696, rfl⟩
abbrev main_v565 : Ref sig .tc := ⟨.hbm, 697, rfl⟩
abbrev main_v566 : Ref sig .tc := ⟨.hbm, 698, rfl⟩
abbrev main_v567 : Ref sig .tc := ⟨.hbm, 699, rfl⟩

abbrev nD : Nat := 1
abbrev τ : Topo := Topo.v7x

variable {F : FTy → Type} [FloatOps F]
-- ==== Attn.lean ====
abbrev S8192x3072 : Shape := ⟨2, ![8192, 3072]⟩
abbrev S8192x1024 : Shape := ⟨2, ![8192, 1024]⟩
abbrev S128x256 : Shape := ⟨2, ![128, 256]⟩
abbrev S8192x256 : Shape := ⟨2, ![8192, 256]⟩
abbrev S64x128x128 : Shape := ⟨3, ![64, 128, 128]⟩
abbrev S2 : Shape := ⟨1, ![2]⟩
abbrev S128x128 : Shape := ⟨2, ![128, 128]⟩
abbrev S128x1 : Shape := ⟨2, ![128, 1]⟩
abbrev S1x128x128 : Shape := ⟨3, ![1, 128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S128x256, .bf16⟩
  | .local _ .vmem, ⟨7, _⟩ => ⟨S128x256, .bf16⟩
  | .local _ .vmem, ⟨8, _⟩ => ⟨S128x256, .f32⟩
  | .local _ .vmem, ⟨9, _⟩ => ⟨S128x256, .f32⟩
  | .local _ .vmem, ⟨10, _⟩ => ⟨S8192x256, .f32⟩
  | .local _ .vmem, ⟨11, _⟩ => ⟨S8192x256, .f32⟩
  | .local _ .vmem, ⟨12, _⟩ => ⟨S64x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c128_i32 : BitVec 32 := 128#32
  let v43 : BitVec 32 := Scalar.muli arg1 c128_i32
  v43
def k0_off1 (i : grid0.Coords) : Fin 2 → Nat :=
  let arg1 : BitVec 32 := BitVec.ofNat 32 (i 1).val
  let c128_i32 : BitVec 32 := 128#32
  let v43 : BitVec 32 := Scalar.muli arg1 c128_i32
  let v44 : BitVec 32 := v43
  let v45 : Index := Scalar.indexCast v44
  let c0_14 : Index := 0#32
  ![v45.toNat, 0]
def k0_cond2 (i : grid0.Coords) : BitVec 1 :=
  let arg1 : BitVec 32 := BitVec.ofNat 32 (i 1).val
  let v82 : BitVec 32 := Scalar.subi arg1 arg1
  let c4_i32 : BitVec 32 := 4#32
  let v83 : BitVec 1 := Scalar.cmpi .slt v82 c4_i32
  let v84 : BitVec 32 := Scalar.extui v83
  let c0_i32_27 : BitVec 32 := 0#32
  let v85 : BitVec 1 := Scalar.cmpi .ne v84 c0_i32_27
  v85

def k0_off2 (i : grid0.Coords) (c0_i32_148 : BitVec 32) : Fin 3 → Nat :=
  let c0_i32_146 : BitVec 32 := 0#32
  let arg1 : BitVec 32 := BitVec.ofNat 32 (i 1).val
  let v433 : BitVec 32 := Scalar.subi arg1 arg1
  let v434 : BitVec 32 := Scalar.addi c0_i32_146 v433
  let c4_i32_147 : BitVec 32 := 4#32
  let v435 : BitVec 32 := Scalar.muli v434 c4_i32_147
  let v436 : BitVec 32 := Scalar.addi v435 c0_i32_148
  let v437 : Index := Scalar.indexCast v436
  let c0_149 : Index := 0#32
  let c0_150 : Index := 0#32
  ![v437.toNat, 0, 0]
def k0_cond3 (i : grid0.Coords) : BitVec 1 :=
  let arg1 : BitVec 32 := BitVec.ofNat 32 (i 1).val
  let v129 : BitVec 32 := Scalar.subi arg1 arg1
  let c4_i32_43 : BitVec 32 := 4#32
  let v130 : BitVec 1 := Scalar.cmpi .slt v129 c4_i32_43
  let v131 : BitVec 32 := Scalar.extui v130
  let c0_i32_44 : BitVec 32 := 0#32
  let v132 : BitVec 1 := Scalar.cmpi .ne v131 c0_i32_44
  v132

def k0_off3 (i : grid0.Coords) (c0_i32_148 : BitVec 32) : Fin 3 → Nat :=
  let c4_i32_146 : BitVec 32 := 4#32
  let arg1 : BitVec 32 := BitVec.ofNat 32 (i 1).val
  let v433 : BitVec 32 := Scalar.subi arg1 arg1
  let v434 : BitVec 32 := Scalar.addi c4_i32_146 v433
  let c4_i32_147 : BitVec 32 := 4#32
  let v435 : BitVec 32 := Scalar.muli v434 c4_i32_147
  let v436 : BitVec 32 := Scalar.addi v435 c0_i32_148
  let v437 : Index := Scalar.indexCast v436
  let c0_149 : Index := 0#32
  let c0_150 : Index := 0#32
  ![v437.toNat, 0, 0]
def k0_off4 (i : grid0.Coords) : Fin 2 → Nat :=
  let arg1 : BitVec 32 := BitVec.ofNat 32 (i 1).val
  let c128_i32 : BitVec 32 := 128#32
  let v43 : BitVec 32 := Scalar.muli arg1 c128_i32
  let v44 : BitVec 32 := v43
  let v139 : Index := Scalar.indexCast v44
  let c128_47 : Index := 128#32
  ![v139.toNat, 128]
def k0_cond4 (i : grid0.Coords) : BitVec 1 :=
  let arg1 : BitVec 32 := BitVec.ofNat 32 (i 1).val
  let v176 : BitVec 32 := Scalar.subi arg1 arg1
  let c4_i32_60 : BitVec 32 := 4#32
  let v177 : BitVec 1 := Scalar.cmpi .slt v176 c4_i32_60
  let v178 : BitVec 32 := Scalar.extui v177
  let c0_i32_61 : BitVec 32 := 0#32
  let v179 : BitVec 1 := Scalar.cmpi .ne v178 c0_i32_61
  v179

def k0_off5 (i : grid0.Coords) (c0_i32_147 : BitVec 32) : Fin 3 → Nat :=
  let c8_i32 : BitVec 32 := 8#32
  let arg1 : BitVec 32 := BitVec.ofNat 32 (i 1).val
  let v433 : BitVec 32 := Scalar.subi arg1 arg1
  let v434 : BitVec 32 := Scalar.addi c8_i32 v433
  let c4_i32_146 : BitVec 32 := 4#32
  let v435 : BitVec 32 := Scalar.muli v434 c4_i32_146
  let v436 : BitVec 32 := Scalar.addi v435 c0_i32_147
  let v437 : Index := Scalar.indexCast v436
  let c0_148 : Index := 0#32
  let c0_149 : Index := 0#32
  ![v437.toNat, 0, 0]
def k0_cond5 (i : grid0.Coords) : BitVec 1 :=
  let arg1 : BitVec 32 := BitVec.ofNat 32 (i 1).val
  let v223 : BitVec 32 := Scalar.subi arg1 arg1
  let c4_i32_77 : BitVec 32 := 4#32
  let v224 : BitVec 1 := Scalar.cmpi .slt v223 c4_i32_77
  let v225 : BitVec 32 := Scalar.extui v224
  let c0_i32_78 : BitVec 32 := 0#32
  let v226 : BitVec 1 := Scalar.cmpi .ne v225 c0_i32_78
  v226

def k0_off6 (i : grid0.Coords) (c0_i32_147 : BitVec 32) : Fin 3 → Nat :=
  let c12_i32 : BitVec 32 := 12#32
  let arg1 : BitVec 32 := BitVec.ofNat 32 (i 1).val
  let v433 : BitVec 32 := Scalar.subi arg1 arg1
  let v434 : BitVec 32 := Scalar.addi c12_i32 v433
  let c4_i32_146 : BitVec 32 := 4#32
  let v435 : BitVec 32 := Scalar.muli v434 c4_i32_146
  let v436 : BitVec 32 := Scalar.addi v435 c0_i32_147
  let v437 : Index := Scalar.indexCast v436
  let c0_148 : Index := 0#32
  let c0_149 : Index := 0#32
  ![v437.toNat, 0, 0]
def k0_mult2 (i : grid0.Coords) (arg13 : BitVec 32) : BitVec 32 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  v436

def k0_off7 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v438 : Index := Scalar.indexCast v437
  let c0_148 : Index := 0#32
  ![v438.toNat, 0]
def k0_off8 (i : grid0.Coords) (arg13 : BitVec 32) (c0_i32_210 : BitVec 32) : Fin 3 → Nat :=
  let c0_i32_208 : BitVec 32 := 0#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v610 : BitVec 32 := Scalar.subi arg1 v435
  let v611 : BitVec 32 := Scalar.addi c0_i32_208 v610
  let c4_i32_209 : BitVec 32 := 4#32
  let v612 : BitVec 32 := Scalar.muli v611 c4_i32_209
  let v613 : BitVec 32 := Scalar.addi v612 c0_i32_210
  let v614 : Index := Scalar.indexCast v613
  let c0_211 : Index := 0#32
  let c0_212 : Index := 0#32
  ![v614.toNat, 0, 0]
def k0_cond6 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v471 : BitVec 32 := Scalar.subi arg1 v435
  let c4_i32_159 : BitVec 32 := 4#32
  let v472 : BitVec 1 := Scalar.cmpi .slt v471 c4_i32_159
  let v473 : BitVec 32 := Scalar.extui v472
  let c0_i32_160 : BitVec 32 := 0#32
  let v474 : BitVec 1 := Scalar.cmpi .ne v473 c0_i32_160
  v474

def k0_off9 (i : grid0.Coords) (arg13 : BitVec 32) (c0_i32_210 : BitVec 32) : Fin 3 → Nat :=
  let c4_i32_208 : BitVec 32 := 4#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v610 : BitVec 32 := Scalar.subi arg1 v435
  let v611 : BitVec 32 := Scalar.addi c4_i32_208 v610
  let c4_i32_209 : BitVec 32 := 4#32
  let v612 : BitVec 32 := Scalar.muli v611 c4_i32_209
  let v613 : BitVec 32 := Scalar.addi v612 c0_i32_210
  let v614 : Index := Scalar.indexCast v613
  let c0_211 : Index := 0#32
  let c0_212 : Index := 0#32
  ![v614.toNat, 0, 0]
def k0_cond7 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v514 : BitVec 32 := Scalar.subi arg1 v435
  let c4_i32_174 : BitVec 32 := 4#32
  let v515 : BitVec 1 := Scalar.cmpi .slt v514 c4_i32_174
  let v516 : BitVec 32 := Scalar.extui v515
  let c0_i32_175 : BitVec 32 := 0#32
  let v517 : BitVec 1 := Scalar.cmpi .ne v516 c0_i32_175
  v517

def k0_off10 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v524 : Index := Scalar.indexCast v437
  let c128_178 : Index := 128#32
  ![v524.toNat, 128]
def k0_off11 (i : grid0.Coords) (arg13 : BitVec 32) (c0_i32_209 : BitVec 32) : Fin 3 → Nat :=
  let c8_i32 : BitVec 32 := 8#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v610 : BitVec 32 := Scalar.subi arg1 v435
  let v611 : BitVec 32 := Scalar.addi c8_i32 v610
  let c4_i32_208 : BitVec 32 := 4#32
  let v612 : BitVec 32 := Scalar.muli v611 c4_i32_208
  let v613 : BitVec 32 := Scalar.addi v612 c0_i32_209
  let v614 : Index := Scalar.indexCast v613
  let c0_210 : Index := 0#32
  let c0_211 : Index := 0#32
  ![v614.toNat, 0, 0]
def k0_cond8 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v557 : BitVec 32 := Scalar.subi arg1 v435
  let c4_i32_189 : BitVec 32 := 4#32
  let v558 : BitVec 1 := Scalar.cmpi .slt v557 c4_i32_189
  let v559 : BitVec 32 := Scalar.extui v558
  let c0_i32_190 : BitVec 32 := 0#32
  let v560 : BitVec 1 := Scalar.cmpi .ne v559 c0_i32_190
  v560

def k0_off12 (i : grid0.Coords) (arg13 : BitVec 32) (c0_i32_209 : BitVec 32) : Fin 3 → Nat :=
  let c12_i32 : BitVec 32 := 12#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v610 : BitVec 32 := Scalar.subi arg1 v435
  let v611 : BitVec 32 := Scalar.addi c12_i32 v610
  let c4_i32_208 : BitVec 32 := 4#32
  let v612 : BitVec 32 := Scalar.muli v611 c4_i32_208
  let v613 : BitVec 32 := Scalar.addi v612 c0_i32_209
  let v614 : Index := Scalar.indexCast v613
  let c0_210 : Index := 0#32
  let c0_211 : Index := 0#32
  ![v614.toNat, 0, 0]
def k0_cond9 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v600 : BitVec 32 := Scalar.subi arg1 v435
  let c4_i32_204 : BitVec 32 := 4#32
  let v601 : BitVec 1 := Scalar.cmpi .slt v600 c4_i32_204
  let v602 : BitVec 32 := Scalar.extui v601
  let c0_i32_205 : BitVec 32 := 0#32
  let v603 : BitVec 1 := Scalar.cmpi .ne v602 c0_i32_205
  v603

def k0_chk1 (i : grid0.Coords) (arg13 : BitVec 32) : Prop :=
  (128 ∣ (k0_mult2 i arg13).toNat) ∧
  (∀ a, (k0_off7 i arg13) a + S128x128.size a ≤ S8192x256.size a) ∧
  (∀ (k0_h6 : k0_cond6 i arg13 = 1#1), ∀ (r : Fin 4), ∀ a, (k0_off8 i arg13 (BitVec.ofNat 32 r.val)) a + S1x128x128.size a ≤ S64x128x128.size a) ∧
  (∀ (k0_h7 : k0_cond7 i arg13 = 1#1), ∀ (r : Fin 4), ∀ a, (k0_off9 i arg13 (BitVec.ofNat 32 r.val)) a + S1x128x128.size a ≤ S64x128x128.size a) ∧
  (∀ a, (k0_off10 i arg13) a + S128x128.size a ≤ S8192x256.size a) ∧
  (∀ (k0_h8 : k0_cond8 i arg13 = 1#1), ∀ (r : Fin 4), ∀ a, (k0_off11 i arg13 (BitVec.ofNat 32 r.val)) a + S1x128x128.size a ≤ S64x128x128.size a) ∧
  (∀ (k0_h9 : k0_cond9 i arg13 = 1#1), ∀ (r : Fin 4), ∀ a, (k0_off12 i arg13 (BitVec.ofNat 32 r.val)) a + S1x128x128.size a ≤ S64x128x128.size a)
theorem k0_mult2_dvd : ∀ (i : grid0.Coords) (arg13 : BitVec 32) (k0_hw1 : k0_chk1 i arg13), 128 ∣ (k0_mult2 i arg13).toNat := fun i arg13 k0_hw1 => k0_hw1.1
theorem k0_off7_inb : ∀ (i : grid0.Coords) (arg13 : BitVec 32) (k0_hw1 : k0_chk1 i arg13), ∀ a, (k0_off7 i arg13) a + S128x128.size a ≤ S8192x256.size a := fun i arg13 k0_hw1 => k0_hw1.2.1
theorem k0_off8_inb : ∀ (i : grid0.Coords) (arg13 : BitVec 32) (k0_hw1 : k0_chk1 i arg13), ∀ (k0_h6 : k0_cond6 i arg13 = 1#1), ∀ (r : Fin 4), ∀ a, (k0_off8 i arg13 (BitVec.ofNat 32 r.val)) a + S1x128x128.size a ≤ S64x128x128.size a := fun i arg13 k0_hw1 k0_h6 r => k0_hw1.2.2.1 k0_h6 r
theorem k0_off9_inb : ∀ (i : grid0.Coords) (arg13 : BitVec 32) (k0_hw1 : k0_chk1 i arg13), ∀ (k0_h7 : k0_cond7 i arg13 = 1#1), ∀ (r : Fin 4), ∀ a, (k0_off9 i arg13 (BitVec.ofNat 32 r.val)) a + S1x128x128.size a ≤ S64x128x128.size a := fun i arg13 k0_hw1 k0_h7 r => k0_hw1.2.2.2.1 k0_h7 r
theorem k0_off10_inb : ∀ (i : grid0.Coords) (arg13 : BitVec 32) (k0_hw1 : k0_chk1 i arg13), ∀ a, (k0_off10 i arg13) a + S128x128.size a ≤ S8192x256.size a := fun i arg13 k0_hw1 => k0_hw1.2.2.2.2.1
theorem k0_off11_inb : ∀ (i : grid0.Coords) (arg13 : BitVec 32) (k0_hw1 : k0_chk1 i arg13), ∀ (k0_h8 : k0_cond8 i arg13 = 1#1), ∀ (r : Fin 4), ∀ a, (k0_off11 i arg13 (BitVec.ofNat 32 r.val)) a + S1x128x128.size a ≤ S64x128x128.size a := fun i arg13 k0_hw1 k0_h8 r => k0_hw1.2.2.2.2.2.1 k0_h8 r
theorem k0_off12_inb : ∀ (i : grid0.Coords) (arg13 : BitVec 32) (k0_hw1 : k0_chk1 i arg13), ∀ (k0_h9 : k0_cond9 i arg13 = 1#1), ∀ (r : Fin 4), ∀ a, (k0_off12 i arg13 (BitVec.ofNat 32 r.val)) a + S1x128x128.size a ≤ S64x128x128.size a := fun i arg13 k0_hw1 k0_h9 r => k0_hw1.2.2.2.2.2.2 k0_h9 r

def k0_mult3 (i : grid0.Coords) : BitVec 32 :=
  let arg1 : BitVec 32 := BitVec.ofNat 32 (i 1).val
  let c128_i32_83 : BitVec 32 := 128#32
  let v235 : BitVec 32 := Scalar.muli arg1 c128_i32_83
  v235
def k0_cond10 (i : grid0.Coords) : BitVec 1 :=
  let arg1 : BitVec 32 := BitVec.ofNat 32 (i 1).val
  let v239 : BitVec 32 := Scalar.subi arg1 arg1
  let c4_i32_85 : BitVec 32 := 4#32
  let v240 : BitVec 1 := Scalar.cmpi .slt v239 c4_i32_85
  let v241 : BitVec 32 := Scalar.extui v240
  let c0_i32_86 : BitVec 32 := 0#32
  let v242 : BitVec 1 := Scalar.cmpi .ne v241 c0_i32_86
  v242

def k0_off13 (i : grid0.Coords) (c0_i32_148 : BitVec 32) : Fin 3 → Nat :=
  let c0_i32_146 : BitVec 32 := 0#32
  let arg1 : BitVec 32 := BitVec.ofNat 32 (i 1).val
  let v433 : BitVec 32 := Scalar.subi arg1 arg1
  let v434 : BitVec 32 := Scalar.addi c0_i32_146 v433
  let c4_i32_147 : BitVec 32 := 4#32
  let v435 : BitVec 32 := Scalar.muli v434 c4_i32_147
  let v436 : BitVec 32 := Scalar.addi v435 c0_i32_148
  let v437 : Index := Scalar.indexCast v436
  let c0_149 : Index := 0#32
  let c0_150 : Index := 0#32
  ![v437.toNat, 0, 0]
def k0_off14 (i : grid0.Coords) : Fin 2 → Nat :=
  let arg1 : BitVec 32 := BitVec.ofNat 32 (i 1).val
  let c128_i32_83 : BitVec 32 := 128#32
  let v235 : BitVec 32 := Scalar.muli arg1 c128_i32_83
  let v236 : BitVec 32 := v235
  let v433 : Index := Scalar.indexCast v236
  let c0_146 : Index := 0#32
  ![v433.toNat, 0]
def k0_cond11 (i : grid0.Coords) : BitVec 1 :=
  let arg1 : BitVec 32 := BitVec.ofNat 32 (i 1).val
  let v278 : BitVec 32 := Scalar.subi arg1 arg1
  let c4_i32_97 : BitVec 32 := 4#32
  let v279 : BitVec 1 := Scalar.cmpi .slt v278 c4_i32_97
  let v280 : BitVec 32 := Scalar.extui v279
  let c0_i32_98 : BitVec 32 := 0#32
  let v281 : BitVec 1 := Scalar.cmpi .ne v280 c0_i32_98
  v281

def k0_off15 (i : grid0.Coords) (c0_i32_148 : BitVec 32) : Fin 3 → Nat :=
  let c4_i32_146 : BitVec 32 := 4#32
  let arg1 : BitVec 32 := BitVec.ofNat 32 (i 1).val
  let v433 : BitVec 32 := Scalar.subi arg1 arg1
  let v434 : BitVec 32 := Scalar.addi c4_i32_146 v433
  let c4_i32_147 : BitVec 32 := 4#32
  let v435 : BitVec 32 := Scalar.muli v434 c4_i32_147
  let v436 : BitVec 32 := Scalar.addi v435 c0_i32_148
  let v437 : Index := Scalar.indexCast v436
  let c0_149 : Index := 0#32
  let c0_150 : Index := 0#32
  ![v437.toNat, 0, 0]
def k0_off16 (i : grid0.Coords) : Fin 2 → Nat :=
  let arg1 : BitVec 32 := BitVec.ofNat 32 (i 1).val
  let c128_i32_83 : BitVec 32 := 128#32
  let v235 : BitVec 32 := Scalar.muli arg1 c128_i32_83
  let v236 : BitVec 32 := v235
  let v433 : Index := Scalar.indexCast v236
  let c0_146 : Index := 0#32
  ![v433.toNat, 0]
def k0_cond12 (i : grid0.Coords) : BitVec 1 :=
  let arg1 : BitVec 32 := BitVec.ofNat 32 (i 1).val
  let v319 : BitVec 32 := Scalar.subi arg1 arg1
  let c4_i32_109 : BitVec 32 := 4#32
  let v320 : BitVec 1 := Scalar.cmpi .slt v319 c4_i32_109
  let v321 : BitVec 32 := Scalar.extui v320
  let c0_i32_110 : BitVec 32 := 0#32
  let v322 : BitVec 1 := Scalar.cmpi .ne v321 c0_i32_110
  v322

def k0_off17 (i : grid0.Coords) (c0_i32_147 : BitVec 32) : Fin 3 → Nat :=
  let c8_i32 : BitVec 32 := 8#32
  let arg1 : BitVec 32 := BitVec.ofNat 32 (i 1).val
  let v433 : BitVec 32 := Scalar.subi arg1 arg1
  let v434 : BitVec 32 := Scalar.addi c8_i32 v433
  let c4_i32_146 : BitVec 32 := 4#32
  let v435 : BitVec 32 := Scalar.muli v434 c4_i32_146
  let v436 : BitVec 32 := Scalar.addi v435 c0_i32_147
  let v437 : Index := Scalar.indexCast v436
  let c0_148 : Index := 0#32
  let c0_149 : Index := 0#32
  ![v437.toNat, 0, 0]
def k0_off18 (i : grid0.Coords) : Fin 2 → Nat :=
  let arg1 : BitVec 32 := BitVec.ofNat 32 (i 1).val
  let c128_i32_83 : BitVec 32 := 128#32
  let v235 : BitVec 32 := Scalar.muli arg1 c128_i32_83
  let v236 : BitVec 32 := v235
  let v433 : Index := Scalar.indexCast v236
  let c128_146 : Index := 128#32
  ![v433.toNat, 128]
def k0_cond13 (i : grid0.Coords) : BitVec 1 :=
  let arg1 : BitVec 32 := BitVec.ofNat 32 (i 1).val
  let v358 : BitVec 32 := Scalar.subi arg1 arg1
  let c4_i32_121 : BitVec 32 := 4#32
  let v359 : BitVec 1 := Scalar.cmpi .slt v358 c4_i32_121
  let v360 : BitVec 32 := Scalar.extui v359
  let c0_i32_122 : BitVec 32 := 0#32
  let v361 : BitVec 1 := Scalar.cmpi .ne v360 c0_i32_122
  v361

def k0_off19 (i : grid0.Coords) (c0_i32_147 : BitVec 32) : Fin 3 → Nat :=
  let c12_i32 : BitVec 32 := 12#32
  let arg1 : BitVec 32 := BitVec.ofNat 32 (i 1).val
  let v433 : BitVec 32 := Scalar.subi arg1 arg1
  let v434 : BitVec 32 := Scalar.addi c12_i32 v433
  let c4_i32_146 : BitVec 32 := 4#32
  let v435 : BitVec 32 := Scalar.muli v434 c4_i32_146
  let v436 : BitVec 32 := Scalar.addi v435 c0_i32_147
  let v437 : Index := Scalar.indexCast v436
  let c0_148 : Index := 0#32
  let c0_149 : Index := 0#32
  ![v437.toNat, 0, 0]
def k0_off20 (i : grid0.Coords) : Fin 2 → Nat :=
  let arg1 : BitVec 32 := BitVec.ofNat 32 (i 1).val
  let c128_i32_83 : BitVec 32 := 128#32
  let v235 : BitVec 32 := Scalar.muli arg1 c128_i32_83
  let v236 : BitVec 32 := v235
  let v433 : Index := Scalar.indexCast v236
  let c128_146 : Index := 128#32
  ![v433.toNat, 128]
def k0_mult4 (i : grid0.Coords) (arg13 : BitVec 32) : BitVec 32 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  v436

def k0_off21 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v438 : Index := Scalar.indexCast v437
  let c0_148 : Index := 0#32
  ![v438.toNat, 0]
def k0_off22 (i : grid0.Coords) (arg13 : BitVec 32) (c0_i32_202 : BitVec 32) : Fin 3 → Nat :=
  let c0_i32_200 : BitVec 32 := 0#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v618 : BitVec 32 := Scalar.subi arg1 v435
  let v619 : BitVec 32 := Scalar.addi c0_i32_200 v618
  let c4_i32_201 : BitVec 32 := 4#32
  let v620 : BitVec 32 := Scalar.muli v619 c4_i32_201
  let v621 : BitVec 32 := Scalar.addi v620 c0_i32_202
  let v622 : Index := Scalar.indexCast v621
  let c0_203 : Index := 0#32
  let c0_204 : Index := 0#32
  ![v622.toNat, 0, 0]
def k0_cond14 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v440 : BitVec 32 := Scalar.subi arg1 v435
  let c4_i32_149 : BitVec 32 := 4#32
  let v441 : BitVec 1 := Scalar.cmpi .slt v440 c4_i32_149
  let v442 : BitVec 32 := Scalar.extui v441
  let c0_i32_150 : BitVec 32 := 0#32
  let v443 : BitVec 1 := Scalar.cmpi .ne v442 c0_i32_150
  v443

def k0_off23 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v618 : Index := Scalar.indexCast v437
  let c0_200 : Index := 0#32
  ![v618.toNat, 0]
def k0_off24 (i : grid0.Coords) (arg13 : BitVec 32) (c0_i32_202 : BitVec 32) : Fin 3 → Nat :=
  let c4_i32_200 : BitVec 32 := 4#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v618 : BitVec 32 := Scalar.subi arg1 v435
  let v619 : BitVec 32 := Scalar.addi c4_i32_200 v618
  let c4_i32_201 : BitVec 32 := 4#32
  let v620 : BitVec 32 := Scalar.muli v619 c4_i32_201
  let v621 : BitVec 32 := Scalar.addi v620 c0_i32_202
  let v622 : Index := Scalar.indexCast v621
  let c0_203 : Index := 0#32
  let c0_204 : Index := 0#32
  ![v622.toNat, 0, 0]
def k0_cond15 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v477 : BitVec 32 := Scalar.subi arg1 v435
  let c4_i32_160 : BitVec 32 := 4#32
  let v478 : BitVec 1 := Scalar.cmpi .slt v477 c4_i32_160
  let v479 : BitVec 32 := Scalar.extui v478
  let c0_i32_161 : BitVec 32 := 0#32
  let v480 : BitVec 1 := Scalar.cmpi .ne v479 c0_i32_161
  v480

def k0_off25 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v618 : Index := Scalar.indexCast v437
  let c0_200 : Index := 0#32
  ![v618.toNat, 0]
def k0_off26 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v514 : Index := Scalar.indexCast v437
  let c128_170 : Index := 128#32
  ![v514.toNat, 128]
def k0_off27 (i : grid0.Coords) (arg13 : BitVec 32) (c0_i32_201 : BitVec 32) : Fin 3 → Nat :=
  let c8_i32 : BitVec 32 := 8#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v618 : BitVec 32 := Scalar.subi arg1 v435
  let v619 : BitVec 32 := Scalar.addi c8_i32 v618
  let c4_i32_200 : BitVec 32 := 4#32
  let v620 : BitVec 32 := Scalar.muli v619 c4_i32_200
  let v621 : BitVec 32 := Scalar.addi v620 c0_i32_201
  let v622 : Index := Scalar.indexCast v621
  let c0_202 : Index := 0#32
  let c0_203 : Index := 0#32
  ![v622.toNat, 0, 0]
def k0_cond16 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v516 : BitVec 32 := Scalar.subi arg1 v435
  let c4_i32_171 : BitVec 32 := 4#32
  let v517 : BitVec 1 := Scalar.cmpi .slt v516 c4_i32_171
  let v518 : BitVec 32 := Scalar.extui v517
  let c0_i32_172 : BitVec 32 := 0#32
  let v519 : BitVec 1 := Scalar.cmpi .ne v518 c0_i32_172
  v519

def k0_off28 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v618 : Index := Scalar.indexCast v437
  let c128_200 : Index := 128#32
  ![v618.toNat, 128]
def k0_off29 (i : grid0.Coords) (arg13 : BitVec 32) (c0_i32_201 : BitVec 32) : Fin 3 → Nat :=
  let c12_i32 : BitVec 32 := 12#32
  let arg1 : BitVec 32 := BitVec.ofNat 32 (i 1).val
  let c1_i32_146 : BitVec 32 := 1#32
  let v434 : BitVec 32 := Scalar.subi arg1 c1_i32_146
  let v435 : BitVec 32 := Scalar.subi v434 arg13
  let v618 : BitVec 32 := Scalar.subi arg1 v435
  let v619 : BitVec 32 := Scalar.addi c12_i32 v618
  let c4_i32_200 : BitVec 32 := 4#32
  let v620 : BitVec 32 := Scalar.muli v619 c4_i32_200
  let v621 : BitVec 32 := Scalar.addi v620 c0_i32_201
  let v622 : Index := Scalar.indexCast v621
  let c0_202 : Index := 0#32
  let c0_203 : Index := 0#32
  ![v622.toNat, 0, 0]
def k0_cond17 (i : grid0.Coords) (arg13 : BitVec 32) : BitVec 1 :=
  let arg1 : BitVec 32 := BitVec.ofNat 32 (i 1).val
  let c1_i32_146 : BitVec 32 := 1#32
  let v434 : BitVec 32 := Scalar.subi arg1 c1_i32_146
  let v435 : BitVec 32 := Scalar.subi v434 arg13
  let v553 : BitVec 32 := Scalar.subi arg1 v435
  let c4_i32_182 : BitVec 32 := 4#32
  let v554 : BitVec 1 := Scalar.cmpi .slt v553 c4_i32_182
  let v555 : BitVec 32 := Scalar.extui v554
  let c0_i32_183 : BitVec 32 := 0#32
  let v556 : BitVec 1 := Scalar.cmpi .ne v555 c0_i32_183
  v556

def k0_off30 (i : grid0.Coords) (arg13 : BitVec 32) : Fin 2 → Nat :=
  let arg1 : BitVec 32 := BitVec.ofNat 32 (i 1).val
  let c1_i32_146 : BitVec 32 := 1#32
  let v434 : BitVec 32 := Scalar.subi arg1 c1_i32_146
  let v435 : BitVec 32 := Scalar.subi v434 arg13
  let c128_i32_147 : BitVec 32 := 128#32
  let v436 : BitVec 32 := Scalar.muli v435 c128_i32_147
  let v437 : BitVec 32 := v436
  let v618 : Index := Scalar.indexCast v437
  let c128_200 : Index := 128#32
  ![v618.toNat, 128]

def k0_chk2 (i : grid0.Coords) (arg13 : BitVec 32) : Prop :=
  (128 ∣ (k0_mult4 i arg13).toNat) ∧
  (∀ a, (k0_off21 i arg13) a + S128x128.size a ≤ S8192x256.size a) ∧
  (∀ (k0_h14 : k0_cond14 i arg13 = 1#1), ∀ (r : Fin 4), ∀ a, (k0_off22 i arg13 (BitVec.ofNat 32 r.val)) a + S1x128x128.size a ≤ S64x128x128.size a) ∧
  (∀ (k0_h14 : ¬(k0_cond14 i arg13 = 1#1)), ∀ a, (k0_off23 i arg13) a + S128x128.size a ≤ S8192x256.size a) ∧
  (∀ (k0_h15 : k0_cond15 i arg13 = 1#1), ∀ (r : Fin 4), ∀ a, (k0_off24 i arg13 (BitVec.ofNat 32 r.val)) a + S1x128x128.size a ≤ S64x128x128.size a) ∧
  (∀ (k0_h15 : ¬(k0_cond15 i arg13 = 1#1)), ∀ a, (k0_off25 i arg13) a + S128x128.size a ≤ S8192x256.size a) ∧
  (∀ a, (k0_off26 i arg13) a + S128x128.size a ≤ S8192x256.size a) ∧
  (∀ (k0_h16 : k0_cond16 i arg13 = 1#1), ∀ (r : Fin 4), ∀ a, (k0_off27 i arg13 (BitVec.ofNat 32 r.val)) a + S1x128x128.size a ≤ S64x128x128.size a) ∧
  (∀ (k0_h16 : ¬(k0_cond16 i arg13 = 1#1)), ∀ a, (k0_off28 i arg13) a + S128x128.size a ≤ S8192x256.size a) ∧
  (∀ (k0_h17 : k0_cond17 i arg13 = 1#1), ∀ (r : Fin 4), ∀ a, (k0_off29 i arg13 (BitVec.ofNat 32 r.val)) a + S1x128x128.size a ≤ S64x128x128.size a) ∧
  (∀ (k0_h17 : ¬(k0_cond17 i arg13 = 1#1)), ∀ a, (k0_off30 i arg13) a + S128x128.size a ≤ S8192x256.size a)
theorem k0_mult4_dvd : ∀ (i : grid0.Coords) (arg13 : BitVec 32) (k0_hw2 : k0_chk2 i arg13), 128 ∣ (k0_mult4 i arg13).toNat := fun i arg13 k0_hw2 => k0_hw2.1
theorem k0_off21_inb : ∀ (i : grid0.Coords) (arg13 : BitVec 32) (k0_hw2 : k0_chk2 i arg13), ∀ a, (k0_off21 i arg13) a + S128x128.size a ≤ S8192x256.size a := fun i arg13 k0_hw2 => k0_hw2.2.1
theorem k0_off22_inb : ∀ (i : grid0.Coords) (arg13 : BitVec 32) (k0_hw2 : k0_chk2 i arg13), ∀ (k0_h14 : k0_cond14 i arg13 = 1#1), ∀ (r : Fin 4), ∀ a, (k0_off22 i arg13 (BitVec.ofNat 32 r.val)) a + S1x128x128.size a ≤ S64x128x128.size a := fun i arg13 k0_hw2 k0_h14 r => k0_hw2.2.2.1 k0_h14 r
theorem k0_off23_inb : ∀ (i : grid0.Coords) (arg13 : BitVec 32) (k0_hw2 : k0_chk2 i arg13), ∀ (k0_h14 : ¬(k0_cond14 i arg13 = 1#1)), ∀ a, (k0_off23 i arg13) a + S128x128.size a ≤ S8192x256.size a := fun i arg13 k0_hw2 k0_h14 => k0_hw2.2.2.2.1 k0_h14
theorem k0_off24_inb : ∀ (i : grid0.Coords) (arg13 : BitVec 32) (k0_hw2 : k0_chk2 i arg13), ∀ (k0_h15 : k0_cond15 i arg13 = 1#1), ∀ (r : Fin 4), ∀ a, (k0_off24 i arg13 (BitVec.ofNat 32 r.val)) a + S1x128x128.size a ≤ S64x128x128.size a := fun i arg13 k0_hw2 k0_h15 r => k0_hw2.2.2.2.2.1 k0_h15 r
theorem k0_off25_inb : ∀ (i : grid0.Coords) (arg13 : BitVec 32) (k0_hw2 : k0_chk2 i arg13), ∀ (k0_h15 : ¬(k0_cond15 i arg13 = 1#1)), ∀ a, (k0_off25 i arg13) a + S128x128.size a ≤ S8192x256.size a := fun i arg13 k0_hw2 k0_h15 => k0_hw2.2.2.2.2.2.1 k0_h15
theorem k0_off26_inb : ∀ (i : grid0.Coords) (arg13 : BitVec 32) (k0_hw2 : k0_chk2 i arg13), ∀ a, (k0_off26 i arg13) a + S128x128.size a ≤ S8192x256.size a := fun i arg13 k0_hw2 => k0_hw2.2.2.2.2.2.2.1
theorem k0_off27_inb : ∀ (i : grid0.Coords) (arg13 : BitVec 32) (k0_hw2 : k0_chk2 i arg13), ∀ (k0_h16 : k0_cond16 i arg13 = 1#1), ∀ (r : Fin 4), ∀ a, (k0_off27 i arg13 (BitVec.ofNat 32 r.val)) a + S1x128x128.size a ≤ S64x128x128.size a := fun i arg13 k0_hw2 k0_h16 r => k0_hw2.2.2.2.2.2.2.2.1 k0_h16 r
theorem k0_off28_inb : ∀ (i : grid0.Coords) (arg13 : BitVec 32) (k0_hw2 : k0_chk2 i arg13), ∀ (k0_h16 : ¬(k0_cond16 i arg13 = 1#1)), ∀ a, (k0_off28 i arg13) a + S128x128.size a ≤ S8192x256.size a := fun i arg13 k0_hw2 k0_h16 => k0_hw2.2.2.2.2.2.2.2.2.1 k0_h16
theorem k0_off29_inb : ∀ (i : grid0.Coords) (arg13 : BitVec 32) (k0_hw2 : k0_chk2 i arg13), ∀ (k0_h17 : k0_cond17 i arg13 = 1#1), ∀ (r : Fin 4), ∀ a, (k0_off29 i arg13 (BitVec.ofNat 32 r.val)) a + S1x128x128.size a ≤ S64x128x128.size a := fun i arg13 k0_hw2 k0_h17 r => k0_hw2.2.2.2.2.2.2.2.2.2.1 k0_h17 r
theorem k0_off30_inb : ∀ (i : grid0.Coords) (arg13 : BitVec 32) (k0_hw2 : k0_chk2 i arg13), ∀ (k0_h17 : ¬(k0_cond17 i arg13 = 1#1)), ∀ a, (k0_off30 i arg13) a + S128x128.size a ≤ S8192x256.size a := fun i arg13 k0_hw2 k0_h17 => k0_hw2.2.2.2.2.2.2.2.2.2.2 k0_h17

def k0_cond18 (i : grid0.Coords) : BitVec 1 :=
  let arg1 : BitVec 32 := BitVec.ofNat 32 (i 1).val
  let c63_i32 : BitVec 32 := 63#32
  let v430 : BitVec 1 := Scalar.cmpi .eq arg1 c63_i32
  let v431 : BitVec 32 := Scalar.extui v430
  let c0_i32_145 : BitVec 32 := 0#32
  let v432 : BitVec 1 := Scalar.cmpi .ne v431 c0_i32_145
  v432

def k0_mult5 (i : grid0.Coords) : BitVec 32 :=
  let arg0 : BitVec 32 := BitVec.ofNat 32 (i 0).val
  let c256_i32 : BitVec 32 := 256#32
  let v433 : BitVec 32 := Scalar.muli arg0 c256_i32
  v433
def k0_off31 (i : grid0.Coords) : Fin 2 → Nat :=
  let c0_i32_147 : BitVec 32 := 0#32
  let arg0 : BitVec 32 := BitVec.ofNat 32 (i 0).val
  let c256_i32 : BitVec 32 := 256#32
  let v433 : BitVec 32 := Scalar.muli arg0 c256_i32
  let v434 : BitVec 32 := v433
  ![0, v434.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "floor" => some ⊥
  | _ => none
-- ==== AttnRefIdeal.lean ====
abbrev S8192x3072 : Shape := ⟨2, ![8192, 3072]⟩
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 180
  | .vmem => 0
  | .smem => 0
  | _ => 0

abbrev hbmTy0_0 (i : Nat) : BufTy := match i % 128 with
  | 0 => ⟨S8192x3072, .bf16⟩
  | 1 => ⟨S8192x1024, .bf16⟩
  | 2 => ⟨S8192x3072, .f32⟩
  | 3 => ⟨S8192x1024, .f32⟩
  | 4 => ⟨S8192x1024, .f32⟩
  | 5 => ⟨S8192x1024, .f32⟩
  | 6 => ⟨S8192x16x64, .f32⟩
  | 7 => ⟨S16x8192x64, .f32⟩
  | 8 => ⟨S8192x16x64, .f32⟩
  | 9 => ⟨S16x8192x64, .f32⟩
  | 10 => ⟨S8192x16x64, .f32⟩
  | 11 => ⟨S16x8192x64, .f32⟩
  | 12 => ⟨S16x8192x8192, .f32⟩
  | 13 => ⟨S_, .f32⟩
  | 14 => ⟨S16x8192x8192, .f32⟩
  | 15 => ⟨S16x8192x8192, .f32⟩
  | 16 => ⟨S8192, .i32⟩
  | 17 => ⟨S1x8192, .i32⟩
  | 18 => ⟨S8192, .i32⟩
  | 19 => ⟨S8192x1, .i32⟩
  | 20 => ⟨S8192x8192, .i32⟩
  | 21 => ⟨S8192x8192, .i32⟩
  | 22 => ⟨S8192x8192, .i1⟩
  | 23 => ⟨S16x8192x8192, .f32⟩
  | 24 => ⟨S_, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .i1⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .i1⟩
  | 41 => ⟨S_, .f32⟩
  | 42 => ⟨S16x8192x8192, .f32⟩
  | 43 => ⟨S16x8192x8192, .f32⟩
  | 44 => ⟨S_, .f32⟩
  | 45 => ⟨S16x8192x8192, .f32⟩
  | 46 => ⟨S16x8192x8192, .i1⟩
  | 47 => ⟨S_, .f32⟩
  | 48 => ⟨S16x8192x8192, .f32⟩
  | 49 => ⟨S16x8192x8192, .f32⟩
  | 50 => ⟨S16x8192x8192, .f32⟩
  | 51 => ⟨S16x8192x8192, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x8192x8192, .f32⟩
  | 60 => ⟨S16x8192x8192, .i1⟩
  | 61 => ⟨S_, .f32⟩
  | 62 => ⟨S16x8192x8192, .f32⟩
  | 63 => ⟨S16x8192x8192, .f32⟩
  | 64 => ⟨S16x8192x8192, .f32⟩
  | 65 => ⟨S16x8192x8192, .f32⟩
  | 66 => ⟨S16x8192x8192, .f32⟩
  | 67 => ⟨S_, .f32⟩
  | 68 => ⟨S16x8192x8192, .f32⟩
  | 69 => ⟨S16x8192x8192, .f32⟩
  | 70 => ⟨S16x8192x8192, .f32⟩
  | 71 => ⟨S16x8192x8192, .f32⟩
  | 72 => ⟨S16x8192x8192, .f32⟩
  | 73 => ⟨S_, .f32⟩
  | 74 => ⟨S16x8192x8192, .f32⟩
  | 75 => ⟨S16x8192x8192, .f32⟩
  | 76 => ⟨S16x8192x8192, .f32⟩
  | 77 => ⟨S16x8192x8192, .f32⟩
  | 78 => ⟨S16x8192x8192, .i1⟩
  | 79 => ⟨S16x8192x8192, .f32⟩
  | 80 => ⟨S16x8192x8192, .f32⟩
  | 81 => ⟨S16x8192x8192, .f32⟩
  | 82 => ⟨S16x8192x8192, .f32⟩
  | 83 => ⟨S16x8192x8192, .f32⟩
  | 84 => ⟨S16x8192x8192, .f32⟩
  | 85 => ⟨S16x8192x8192, .f32⟩
  | 86 => ⟨S16x8192x8192, .f32⟩
  | 87 => ⟨S_, .f32⟩
  | 88 => ⟨S16x8192x8192, .f32⟩
  | 89 => ⟨S16x8192x8192, .i1⟩
  | 90 => ⟨S_, .f32⟩
  | 91 => ⟨S16x8192x8192, .f32⟩
  | 92 => ⟨S16x8192x8192, .f32⟩
  | 93 => ⟨S_, .f32⟩
  | 94 => ⟨S16x8192x8192, .f32⟩
  | 95 => ⟨S16x8192x8192, .i1⟩
  | 96 => ⟨S_, .f32⟩
  | 97 => ⟨S16x8192x8192, .f32⟩
  | 98 => ⟨S16x8192x8192, .f32⟩
  | 99 => ⟨S16x8192x8192, .f32⟩
  | 100 => ⟨S16x8192x8192, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S16x8192x8192, .f32⟩
  | 109 => ⟨S16x8192x8192, .i1⟩
  | 110 => ⟨S_, .f32⟩
  | 111 => ⟨S16x8192x8192, .f32⟩
  | 112 => ⟨S16x8192x8192, .f32⟩
  | 113 => ⟨S16x8192x8192, .f32⟩
  | 114 => ⟨S16x8192x8192, .f32⟩
  | 115 => ⟨S16x8192x8192, .f32⟩
  | 116 => ⟨S_, .f32⟩
  | 117 => ⟨S16x8192x8192, .f32⟩
  | 118 => ⟨S16x8192x8192, .f32⟩
  | 119 => ⟨S16x8192x8192, .f32⟩
  | 120 => ⟨S_, .f32⟩
  | 121 => ⟨S_, .f32⟩
  | 122 => ⟨S16x8192x8192, .i1⟩
  | 123 => ⟨S16x8192x8192, .f32⟩
  | 124 => ⟨S16x8192x8192, .f32⟩
  | 125 => ⟨S_, .f32⟩
  | 126 => ⟨S16x8192x8192, .f32⟩
  | 127 => ⟨S_, .f32⟩
  | _ => ⟨S8192x3072, .bf16⟩

abbrev hbmTy0_1 (i : Nat) : BufTy := match i % 128 with
  | 0 => ⟨S_, .f32⟩
  | 1 => ⟨S16x8192x8192, .f32⟩
  | 2 => ⟨S16x8192x8192, .f32⟩
  | 3 => ⟨S16x8192x8192, .f32⟩
  | 4 => ⟨S16x8192x8192, .f32⟩
  | 5 => ⟨S_, .f32⟩
  | 6 => ⟨S_, .f32⟩
  | 7 => ⟨S16x8192x8192, .i1⟩
  | 8 => ⟨S16x8192x8192, .f32⟩
  | 9 => ⟨S16x8192x8192, .f32⟩
  | 10 => ⟨S_, .f32⟩
  | 11 => ⟨S16x8192x8192, .f32⟩
  | 12 => ⟨S16x8192x64, .f32⟩
  | 13 => ⟨S8192x16x64, .f32⟩
  | 14 => ⟨S8192x1024, .f32⟩
  | 15 => ⟨S8192x1024, .f32⟩
  | 16 => ⟨S8192x16x64, .f32⟩
  | 17 => ⟨S16x8192x64, .f32⟩
  | 18 => ⟨S16x64x8192, .f32⟩
  | 19 => ⟨S16x8192x64, .f32⟩
  | 20 => ⟨S16x8192x8192, .f32⟩
  | 21 => ⟨S_, .f32⟩
  | 22 => ⟨S16x8192x8192, .f32⟩
  | 23 => ⟨S16x8192x8192, .f32⟩
  | 24 => ⟨S16x8192x8192, .f32⟩
  | 25 => ⟨S16x8192x8192, .f32⟩
  | 26 => ⟨S_, .f32⟩
  | 27 => ⟨S_, .f32⟩
  | 28 => ⟨S16x8192x8192, .f32⟩
  | 29 => ⟨S16x8192x8192, .f32⟩
  | 30 => ⟨S_, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S_, .f32⟩
  | 42 => ⟨S16x8192x8192, .f32⟩
  | 43 => ⟨S16x8192x8192, .f32⟩
  | 44 => ⟨S16x8192x64, .f32⟩
  | 45 => ⟨S16x8192x64, .f32⟩
  | 46 => ⟨S8192x16x64, .f32⟩
  | 47 => ⟨S8192x1024, .f32⟩
  | 48 => ⟨S8192x16x64, .f32⟩
  | 49 => ⟨S8192x1024, .f32⟩
  | 50 => ⟨S8192x16x64, .f32⟩
  | 51 => ⟨S8192x1024, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_v21 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1_0 : Ref sig .tc := ⟨.hbm, 86, rfl⟩
abbrev main_call1_call0_cst_0 : Ref sig .tc := ⟨.hbm, 87, rfl⟩
abbrev main_call1_call0_v13 : Ref sig .tc := ⟨.hbm, 88, rfl⟩
abbrev main_call1_call0_v14 : Ref sig .tc := ⟨.hbm, 89, rfl⟩
abbrev main_call1_call0_cst_1 : Ref sig .tc := ⟨.hbm, 90, rfl⟩
abbrev main_call1_call0_v15 : Ref sig .tc := ⟨.hbm, 91, rfl⟩
abbrev main_call1_call0_v16 : Ref sig .tc := ⟨.hbm, 92, rfl⟩
abbrev main_call1_call0_cst_2 : Ref sig .tc := ⟨.hbm, 93, rfl⟩
abbrev main_call1_call0_v17 : Ref sig .tc := ⟨.hbm, 94, rfl⟩
abbrev main_call1_call0_v18 : Ref sig .tc := ⟨.hbm, 95, rfl⟩
abbrev main_call1_call0_cst_3 : Ref sig .tc := ⟨.hbm, 96, rfl⟩
abbrev main_call1_call0_v19 : Ref sig .tc := ⟨.hbm, 97, rfl⟩
abbrev main_call1_call0_v20 : Ref sig .tc := ⟨.hbm, 98, rfl⟩
abbrev main_call1_call0_v21 : Ref sig .tc := ⟨.hbm, 99, rfl⟩
abbrev main_v22_1 : Ref sig .tc := ⟨.hbm, 100, rfl⟩
abbrev main_call1_call0_cst_4 : Ref sig .tc := ⟨.hbm, 101, rfl⟩
abbrev main_call1_call0_cst_5 : Ref sig .tc := ⟨.hbm, 102, rfl⟩
abbrev main_call1_call0_v23 : Ref sig .tc := ⟨.hbm, 103, rfl⟩
abbrev main_call1_call0_cst_6 : Ref sig .tc := ⟨.hbm, 104, rfl⟩
abbrev main_call1_call0_cst_7 : Ref sig .tc := ⟨.hbm, 105, rfl⟩
abbrev main_call1_call0_v24 : Ref sig .tc := ⟨.hbm, 106, rfl⟩
abbrev main_call1_call0_cst_8 : Ref sig .tc := ⟨.hbm, 107, rfl⟩
abbrev main_call1_call0_v25 : Ref sig .tc := ⟨.hbm, 108, rfl⟩
abbrev main_call1_call0_v26 : Ref sig .tc := ⟨.hbm, 109, rfl⟩
abbrev main_call1_call0_cst_9 : Ref sig .tc := ⟨.hbm, 110, rfl⟩
abbrev main_call1_call0_v27 : Ref sig .tc := ⟨.hbm, 111, rfl⟩
abbrev main_call1_call0_v28 : Ref sig .tc := ⟨.hbm, 112, rfl⟩
abbrev main_call1_call0_v29 : Ref sig .tc := ⟨.hbm, 113, rfl⟩
abbrev main_call1_call0_v30 : Ref sig .tc := ⟨.hbm, 114, rfl⟩
abbrev main_call1_call0_v31 : Ref sig .tc := ⟨.hbm, 115, rfl⟩
abbrev main_call1_call0_cst_10 : Ref sig .tc := ⟨.hbm, 116, rfl⟩
abbrev main_call1_call0_v32 : Ref sig .tc := ⟨.hbm, 117, rfl⟩
abbrev main_v22_2 : Ref sig .tc := ⟨.hbm, 118, rfl⟩
abbrev main_v22_0 : Ref sig .tc := ⟨.hbm, 119, rfl⟩
abbrev main_cst_0 : Ref sig .tc := ⟨.hbm, 120, rfl⟩
abbrev main_call2_v0 : Ref sig .tc := ⟨.hbm, 121, rfl⟩
abbrev main_v23_1 : Ref sig .tc := ⟨.hbm, 122, rfl⟩
abbrev main_call2_v2 : Ref sig .tc := ⟨.hbm, 123, rfl⟩
abbrev main_v23_0 : Ref sig .tc := ⟨.hbm, 124, rfl⟩
abbrev main_call2_cst : Ref sig .tc := ⟨.hbm, 125, rfl⟩
abbrev main_v23_2 : Ref sig .tc := ⟨.hbm, 126, rfl⟩
abbrev main_call3_cst : Ref sig .tc := ⟨.hbm, 127, rfl⟩
abbrev main_call3_v0 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call5_cst : Ref sig .tc := ⟨.hbm, 149, rfl⟩
abbrev main_call5_v0 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_call6_cst : Ref sig .tc := ⟨.hbm, 154, rfl⟩
abbrev main_call6_v0 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_call8_v0 : Ref sig .tc := ⟨.hbm, 161, rfl⟩
abbrev main_call8_v1 : Ref sig .tc := ⟨.hbm, 162, rfl⟩
abbrev main_v44 : Ref sig .tc := ⟨.hbm, 163, rfl⟩
abbrev main_v45 : Ref sig .tc := ⟨.hbm, 164, rfl⟩
abbrev main_call9_v0 : Ref sig .tc := ⟨.hbm, 165, rfl⟩
abbrev main_call9_v1 : Ref sig .tc := ⟨.hbm, 166, rfl⟩
abbrev main_v46 : Ref sig .tc := ⟨.hbm, 167, rfl⟩
abbrev main_v47 : Ref sig .tc := ⟨.hbm, 168, rfl⟩
abbrev main_cst_2 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Act.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gu.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== U2.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== U2RefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Qkv.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qu.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QuRefIdeal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x3072, .f32⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wo.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== O.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ORefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wglu.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgluRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gy.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GyRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Hs.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HsRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Fqkv.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FqkvRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Fm.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FmRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fglu.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FgluRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ff.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fup.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FupRefIdeal.lean ====
abbrev S8192x1024 : Shape := ⟨2, ![8192, 1024]⟩
abbrev S1024x5632 : Shape := ⟨2, ![1024, 5632]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S1024x2816, .bf16⟩
  | .hbm, ⟨7, _⟩ => ⟨S8192x1024, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Fatt.lean ====
abbrev S8192x3072 : Shape := ⟨2, ![8192, 3072]⟩
abbrev S8192x1024 : Shape := ⟨2, ![8192, 1024]⟩
abbrev S128x512 : Shape := ⟨2, ![128, 512]⟩
abbrev S8192x512 : Shape := ⟨2, ![8192, 512]⟩
abbrev S128x128 : Shape := ⟨2, ![128, 128]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .local _ .vmem, ⟨0, _⟩ => ⟨S128x512, .bf16⟩
  | .local _ .vmem, ⟨1, _⟩ => ⟨S128x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S128x512, .bf16⟩
  | .local _ .vmem, ⟨7, _⟩ => ⟨S128x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v37 : BitVec 32 := Scalar.muli arg1 c128_i32
  v37
def k0_off1 (i : grid0.Coords) : Fin 2 → Nat :=
  let arg1 : BitVec 32 := BitVec.ofNat 32 (i 1).val
  let c128_i32 : BitVec 32 := 128#32
  let v37 : BitVec 32 := Scalar.muli arg1 c128_i32
  let v38 : BitVec 32 := v37
  let v39 : Index := Scalar.indexCast v38
  let c0_12 : Index := 0#32
  ![v39.toNat, 0]
def k0_off2 (i : grid0.Coords) : Fin 2 → Nat :=
  let arg1 : BitVec 32 := BitVec.ofNat 32 (i 1).val
  let c128_i32 : BitVec 32 := 128#32
  let v37 : BitVec 32 := Scalar.muli arg1 c128_i32
  let v38 : BitVec 32 := v37
  let v121 : Index := Scalar.indexCast v38
  let c128_40 : Index := 128#32
  ![v121.toNat, 128]
def k0_off3 (i : grid0.Coords) : Fin 2 → Nat :=
  let arg1 : BitVec 32 := BitVec.ofNat 32 (i 1).val
  let c128_i32 : BitVec 32 := 128#32
  let v37 : BitVec 32 := Scalar.muli arg1 c128_i32
  let v38 : BitVec 32 := v37
  let v203 : Index := Scalar.indexCast v38
  let c256_68 : Index := 256#32
  ![v203.toNat, 256]
def k0_off4 (i : grid0.Coords) : Fin 2 → Nat :=
  let arg1 : BitVec 32 := BitVec.ofNat 32 (i 1).val
  let c128_i32 : BitVec 32 := 128#32
  let v37 : BitVec 32 := Scalar.muli arg1 c128_i32
  let v38 : BitVec 32 := v37
  let v285 : Index := Scalar.indexCast v38
  let c384_96 : Index := 384#32
  ![v285.toNat, 384]
def k0_mult2 (i : grid0.Coords) (arg6 : BitVec 32) : BitVec 32 :=
  let arg1 : BitVec 32 := BitVec.ofNat 32 (i 1).val
  let c1_i32_132 : BitVec 32 := 1#32
  let v381 : BitVec 32 := Scalar.subi arg1 c1_i32_132
  let v382 : BitVec 32 := Scalar.subi v381 arg6
  let c128_i32_133 : BitVec 32 := 128#32
  let v383 : BitVec 32 := Scalar.muli v382 c128_i32_133
  v383

def k0_off5 (i : grid0.Coords) (arg6 : BitVec 32) : Fin 2 → Nat :=
  let arg1 : BitVec 32 := BitVec.ofNat 32 (i 1).val
  let c1_i32_132 : BitVec 32 := 1#32
  let v381 : BitVec 32 := Scalar.subi arg1 c1_i32_132
  let v382 : BitVec 32 := Scalar.subi v381 arg6
  let c128_i32_133 : BitVec 32 := 128#32
  let v383 : BitVec 32 := Scalar.muli v382 c128_i32_133
  let v384 : BitVec 32 := v383
  let v385 : Index := Scalar.indexCast v384
  let c0_134 : Index := 0#32
  ![v385.toNat, 0]
def k0_off6 (i : grid0.Coords) (arg6 : BitVec 32) : Fin 2 → Nat :=
  let arg1 : BitVec 32 := BitVec.ofNat 32 (i 1).val
  let c1_i32_132 : BitVec 32 := 1#32
  let v381 : BitVec 32 := Scalar.subi arg1 c1_i32_132
  let v382 : BitVec 32 := Scalar.subi v381 arg6
  let c128_i32_133 : BitVec 32 := 128#32
  let v383 : BitVec 32 := Scalar.muli v382 c128_i32_133
  let v384 : BitVec 32 := v383
  let v459 : Index := Scalar.indexCast v384
  let c128_158 : Index := 128#32
  ![v459.toNat, 128]
def k0_off7 (i : grid0.Coords) (arg6 : BitVec 32) : Fin 2 → Nat :=
  let arg1 : BitVec 32 := BitVec.ofNat 32 (i 1).val
  let c1_i32_132 : BitVec 32 := 1#32
  let v381 : BitVec 32 := Scalar.subi arg1 c1_i32_132
  let v382 : BitVec 32 := Scalar.subi v381 arg6
  let c128_i32_133 : BitVec 32 := 128#32
  let v383 : BitVec 32 := Scalar.muli v382 c128_i32_133
  let v384 : BitVec 32 := v383
  let v533 : Index := Scalar.indexCast v384
  let c256_182 : Index := 256#32
  ![v533.toNat, 256]
def k0_off8 (i : grid0.Coords) (arg6 : BitVec 32) : Fin 2 → Nat :=
  let arg1 : BitVec 32 := BitVec.ofNat 32 (i 1).val
  let c1_i32_132 : BitVec 32 := 1#32
  let v381 : BitVec 32 := Scalar.subi arg1 c1_i32_132
  let v382 : BitVec 32 := Scalar.subi v381 arg6
  let c128_i32_133 : BitVec 32 := 128#32
  let v383 : BitVec 32 := Scalar.muli v382 c128_i32_133
  let v384 : BitVec 32 := v383
  let v607 : Index := Scalar.indexCast v384
  let c384_206 : Index := 384#32
  ![v607.toNat, 384]

def k0_chk1 (i : grid0.Coords) (arg6 : BitVec 32) : Prop :=
  (128 ∣ (k0_mult2 i arg6).toNat) ∧
  (∀ a, (k0_off5 i arg6) a + S128x128.size a ≤ S8192x512.size a) ∧
  (∀ a, (k0_off6 i arg6) a + S128x128.size a ≤ S8192x512.size a) ∧
  (∀ a, (k0_off7 i arg6) a + S128x128.size a ≤ S8192x512.size a) ∧
  (∀ a, (k0_off8 i arg6) a + S128x128.size a ≤ S8192x512.size a)
theorem k0_mult2_dvd : ∀ (i : grid0.Coords) (arg6 : BitVec 32) (k0_hw1 : k0_chk1 i arg6), 128 ∣ (k0_mult2 i arg6).toNat := fun i arg6 k0_hw1 => k0_hw1.1
theorem k0_off5_inb : ∀ (i : grid0.Coords) (arg6 : BitVec 32) (k0_hw1 : k0_chk1 i arg6), ∀ a, (k0_off5 i arg6) a + S128x128.size a ≤ S8192x512.size a := fun i arg6 k0_hw1 => k0_hw1.2.1
theorem k0_off6_inb : ∀ (i : grid0.Coords) (arg6 : BitVec 32) (k0_hw1 : k0_chk1 i arg6), ∀ a, (k0_off6 i arg6) a + S128x128.size a ≤ S8192x512.size a := fun i arg6 k0_hw1 => k0_hw1.2.2.1
theorem k0_off7_inb : ∀ (i : grid0.Coords) (arg6 : BitVec 32) (k0_hw1 : k0_chk1 i arg6), ∀ a, (k0_off7 i arg6) a + S128x128.size a ≤ S8192x512.size a := fun i arg6 k0_hw1 => k0_hw1.2.2.2.1
theorem k0_off8_inb : ∀ (i : grid0.Coords) (arg6 : BitVec 32) (k0_hw1 : k0_chk1 i arg6), ∀ a, (k0_off8 i arg6) a + S128x128.size a ≤ S8192x512.size a := fun i arg6 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FattIdeal.lean ====
variable {F : FTy → Type} [FloatOps F] [Named F]
def κ : String → Option EReal := fun
  | "floor" => some ⊥
  | _ => none
-- ==== FattRefIdeal.lean ====
abbrev S8192x3072 : Shape := ⟨2, ![8192, 3072]⟩
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S8192x16x64, .f32⟩
  | .hbm, ⟨10, _⟩ => ⟨S16x8192x64, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S16x8192x8192, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S16x8192x8192, .i1⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S_, .f32⟩
  | .hbm, ⟨57, _⟩ => ⟨S16x8192x8192, .i1⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S_, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S_, .f32⟩
  | .hbm, ⟨67, _⟩ => ⟨S_, .f32⟩
  | .hbm, ⟨68, _⟩ => ⟨S16x8192x8192, .i1⟩
  | .hbm, ⟨69, _⟩ => ⟨S16x8192x8192, .f32⟩
  | .hbm, ⟨70, _⟩ => ⟨S16x8192x8192, .f32⟩
  | .hbm, ⟨71, _⟩ => ⟨S16x8192x64, .f32⟩
  | .hbm, ⟨72, _⟩ => ⟨S8192x16x64, .f32⟩
  | .hbm, ⟨73, _⟩ => ⟨S8192x1024, .f32⟩
  | .hbm, ⟨74, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_call3_cst : Ref sig .tc := ⟨.hbm, 60, rfl⟩
abbrev main_call3_v0 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Fconv.lean ====
abbrev S8192x1024 : Shape := ⟨2, ![8192, 1024]⟩
abbrev S31x1024 : Shape := ⟨2, ![31, 1024]⟩
abbrev S1x1024 : Shape := ⟨2, ![1, 1024]⟩
abbrev S512x1024 : Shape := ⟨2, ![512, 1024]⟩
abbrev S32x1024 : Shape := ⟨2, ![32, 1024]⟩
abbrev S544x1024 : Shape := ⟨2, ![544, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S31x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S31x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S544x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FconvRefIdeal.lean ====
abbrev S8192x1024 : Shape := ⟨2, ![8192, 1024]⟩
abbrev S31x1024 : Shape := ⟨2, ![31, 1024]⟩
abbrev S1x1024 : Shape := ⟨2, ![1, 1024]⟩
abbrev S_ : Shape := ⟨0, ![]⟩
abbrev S30x1024 : Shape := ⟨2, ![30, 1024]⟩
abbrev S8222x1024 : Shape := ⟨2, ![8222, 1024]⟩
abbrev S1024 : Shape := ⟨1, ![1024]⟩

abbrev nBuf : Space → Nat
  | .hbm => 227
  | .vmem => 0
  | .smem => 0
  | _ => 0

abbrev hbmTy0_0 (i : Nat) : BufTy := match i % 128 with
  | 0 => ⟨S8192x1024, .f32⟩
  | 1 => ⟨S31x1024, .f32⟩
  | 2 => ⟨S1x1024, .f32⟩
  | 3 => ⟨S_, .f32⟩
  | 4 => ⟨S30x1024, .f32⟩
  | 5 => ⟨S8222x1024, .f32⟩
  | 6 => ⟨S1x1024, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S1x1024, .f32⟩
  | 16 => ⟨S1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S1x1024, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S1x1024, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S1x1024, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S1x1024, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S1x1024, .f32⟩
  | _ => ⟨S8192x1024, .f32⟩

abbrev hbmTy0_1 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S8192x1024, .f32⟩
  | 5 => ⟨S8192x1024, .f32⟩
  | 6 => ⟨S1x1024, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S1x1024, .f32⟩
  | 63 => ⟨S1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S1x1024, .f32⟩
  | 70 => ⟨S1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S1x1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩

abbrev nD : Nat := 1
abbrev τ : Topo := Topo.v7x

variable {F : FTy → Type} [FloatOps F]
-- ==== ActB.lean ====
abbrev S8192x2816 : Shape := ⟨2, ![8192, 2816]⟩
abbrev S8192x5632 : Shape := ⟨2, ![8192, 5632]⟩
abbrev S256x2816 : Shape := ⟨2, ![256, 2816]⟩
abbrev S256x5632 : Shape := ⟨2, ![256, 5632]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActBRefIdeal.lean ====
abbrev S8192x2816 : Shape := ⟨2, ![8192, 2816]⟩
abbrev S_ : Shape := ⟨0, ![]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== GeluB.lean ====
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GeluBRefIdeal.lean ====
abbrev S8192x1024 : Shape := ⟨2, ![8192, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Gate.lean ====
abbrev S8192x2048 : Shape := ⟨2, ![8192, 2048]⟩
abbrev S1x2048 : Shape := ⟨2, ![1, 2048]⟩
abbrev S8192x1024 : Shape := ⟨2, ![8192, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S8192x2048 : Shape := ⟨2, ![8192, 2048]⟩
abbrev S1x2048 : Shape := ⟨2, ![1, 2048]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.ConvSpec.lean ====
/-
  The depthwise convolution's three gradients over the extended reals, element by element.

  Rows are counted by natural numbers: `row x n c` is row `n` of an array read at column `c`, and zero past the last
  row; `past x n c` is row `n - 30`, and zero before the first row (the causal padding).
    `dhAt`  the gradient of the input: every tap `k` times the output's gradient `30 - k` rows later,
    `dwAt`  the gradient of tap `k`: the output's gradient times the input `30 - k` rows earlier, summed over the rows,
    `dbAt`  the gradient of the bias: the output's gradient summed over the rows.
-/
module

public import Idealize.ShloMosaic.Lib.Pipeline.Value
public import Idealize.ShloMosaic.Lib.ValueIdxCore
public import Idealize.ShloMosaic.Lib.IdealHost
public import Idealize.ShloMosaic.PureOps.Ideal

@[expose] public section

noncomputable section

open Idealize.ShloMosaic Idealize.ShloMosaic.ValueIdx Finset

namespace Conv

/-- Row `n` at column `c`, zero past the last row. -/
def row {R : ℕ} (x : (⟨2, ![R, 1024]⟩ : Shape).Idx → EReal) (n : ℕ) (c : Fin 1024) : EReal :=
  if h : n < R then x (ix2 ⟨n, h⟩ c) else 0

/-- Row `n - 30` at column `c`, zero for `n < 30`. -/
def past {R : ℕ} (x : (⟨2, ![R, 1024]⟩ : Shape).Idx → EReal) (n : ℕ) (c : Fin 1024) : EReal :=
  if n < 30 then 0 else row x (n - 30) c

theorem row_lt {R : ℕ} (x : (⟨2, ![R, 1024]⟩ : Shape).Idx → EReal) {n : ℕ} (h : n < R) (c : Fin 1024) :
    row x n c = x (ix2 ⟨n, h⟩ c) := dif_pos h

theorem row_ge {R : ℕ} (x : (⟨2, ![R, 1024]⟩ : Shape).Idx → EReal) {n : ℕ} (h : R ≤ n) (c : Fin 1024) :
    row x n c = 0 := dif_neg (by omega)

/-- An element of an array is a row read at a column. -/
theorem at_row {R : ℕ} (x : (⟨2, ![R, 1024]⟩ : Shape).Idx → EReal) (i : (⟨2, ![R, 1024]⟩ : Shape).Idx) {n : ℕ}
    {c : Fin 1024} (h0 : (i 0).val = n) (h1 : (i 1).val = c.val) : x i = row x n c := by
  subst h0
  rw [row_lt x (idx2_lt0 i)]
  refine congrArg x (funext fun a => ?_)
  match a with
  | ⟨0, _⟩ => rfl
  | ⟨1, _⟩ => exact Fin.ext h1

section
variable (h d : (⟨2, ![8192, 1024]⟩ : Shape).Idx → EReal) (w : (⟨2, ![31, 1024]⟩ : Shape).Idx → EReal)

/-- The gradient of the convolution's input at row `r`, column `c`. -/
def dhAt (r : ℕ) (c : Fin 1024) : EReal := ∑ k ∈ range 31, row w k c * row d (30 - k + r) c

/-- The gradient of tap `k` at column `c`. -/
def dwAt (k : ℕ) (c : Fin 1024) : EReal := ∑ n ∈ range 8192, row d n c * past h (k + n) c

/-- The gradient of the bias at column `c`. -/
def dbAt (c : Fin 1024) : EReal := ∑ n ∈ range 8192, row d n c

end

end Conv

end
-- ==== Proof.ConvRef.lean ====
/-
  The reference's three results, read: the gradients `jax.vjp` writes for the sum of 31 shifted products are `Conv.dhAt`,
  `Conv.dwAt`, `Conv.dbAt`. Two lemmas per tap read its padded product and its padded row sum (the
  text of a tap differs from the next one's in the tap's number only); the sums over the taps are then the chains of
  additions read off.
-/
module

public import proofs.«01_k».proof.Proof.ConvSpec
public import proofs.«01_k».proof.Proof.Gen.ReferenceIdeal.Read

@[expose] public section

set_option maxRecDepth 16384

noncomputable section

open Idealize.ShloMosaic Idealize.ShloMosaic.ValueIdx Finset Conv

namespace Cert.ReferenceIdeal.Taps

open Cert.ReferenceIdeal Cert.ReferenceIdeal.Gen Cert.ReferenceIdeal.Read

abbrev Arr (s : Shape) := (⟨s, .f32⟩ : BufTy).Contents (Elt Ideal)

theorem zeroWord : (FloatOps.ofBits .f32 0x00000000#32 : Ideal .f32) = (0 : EReal) := Ideal.ofBits_zero_f32

/-- A product with tap `lo`'s weight, padded by `lo` rows before and read `30 + r` rows down. -/
theorem padded (lo hi : ℕ) (x : Arr S8192x1024) (v : S_.Idx → EReal) (w : Fin 1024 → EReal) (d : Arr S8192x1024)
    (hp : S8192x1024.Pads ![lo, 0] ![hi, 0] ![0, 0] S8222x1024) (hu : 0 < S_.numel)
    (hv : v (Shape.Idx.first hu) = 0) (hx : ∀ i : S8192x1024.Idx, x i = w (i 1) * row d (i 0).val (i 1)) (hlo : lo ≤ 30)
    (i : S8222x1024.Idx) (r : ℕ) (c : Fin 1024) (h0 : (i 0).val = 30 + r) (h1 : i 1 = c) :
    pad S8222x1024 ![lo, 0] ![hi, 0] ![0, 0] x v hp hu i = w c * row d (30 - lo + r) c := by
  subst h1
  have hi1 : (i 1).val < 1024 := idx2_lt1 i
  unfold pad
  by_cases hr : 30 - lo + r < 8192
  · rw [dif_pos (by
      intro a
      match a with
      | ⟨0, _⟩ => show lo ≤ (i 0).val ∧ ((i 0).val - lo) % (0 + 1) = 0 ∧ ((i 0).val - lo) / (0 + 1) < 8192; omega
      | ⟨1, _⟩ => show 0 ≤ (i 1).val ∧ ((i 1).val - 0) % (0 + 1) = 0 ∧ ((i 1).val - 0) / (0 + 1) < 1024; omega), hx]
    have e0 : ((i 0).val - lo) / (0 + 1) = 30 - lo + r := by omega
    have e1 : ((i 1).val - 0) / (0 + 1) = (i 1).val := by omega
    refine congr_arg₂ (· * ·) (congrArg w (Fin.ext e1)) ?_
    exact congr_arg₂ (row d) e0 (Fin.ext e1)
  · rw [dif_neg (by
      intro h
      have h' : lo ≤ (i 0).val ∧ ((i 0).val - lo) % (0 + 1) = 0 ∧ ((i 0).val - lo) / (0 + 1) < 8192 := h (0 : Fin 2)
      omega), hv]
    exact ((congrArg (w _ * ·) (row_ge d (by omega) _)).trans (mul_zero _)).symm

/-- One row, padded by `lo` rows before. -/
theorem placed (lo hi : ℕ) (x : Arr S1x1024) (v : S_.Idx → EReal) (f : Fin 1024 → EReal)
    (hp : S1x1024.Pads ![lo, 0] ![hi, 0] ![0, 0] S31x1024) (hu : 0 < S_.numel)
    (hv : v (Shape.Idx.first hu) = 0) (hx : ∀ i : S1x1024.Idx, x i = f (i 1)) (i : S31x1024.Idx) :
    pad S31x1024 ![lo, 0] ![hi, 0] ![0, 0] x v hp hu i = if (i 0).val = lo then f (i 1) else 0 := by
  have hi1 : (i 1).val < 1024 := idx2_lt1 i
  unfold pad
  by_cases hr : (i 0).val = lo
  · rw [dif_pos (by
      intro a
      match a with
      | ⟨0, _⟩ => show lo ≤ (i 0).val ∧ ((i 0).val - lo) % (0 + 1) = 0 ∧ ((i 0).val - lo) / (0 + 1) < 1; omega
      | ⟨1, _⟩ => show 0 ≤ (i 1).val ∧ ((i 1).val - 0) % (0 + 1) = 0 ∧ ((i 1).val - 0) / (0 + 1) < 1024; omega), hx, if_pos hr]
    have e1 : ((i 1).val - 0) / (0 + 1) = (i 1).val := by omega
    exact congrArg f (Fin.ext e1)
  · rw [dif_neg (by
      intro h
      have h' : lo ≤ (i 0).val ∧ ((i 0).val - lo) % (0 + 1) = 0 ∧ ((i 0).val - lo) / (0 + 1) < 1 := h (0 : Fin 2)
      omega), hv, if_neg hr]

/-- The padded input of the forward pass. -/
theorem joined (x0 : Arr S8192x1024) (i : S8222x1024.Idx) (n : ℕ) (c : Fin 1024) (h0 : (i 0).val = n) (h1 : (i 1).val = c.val) :
    val_main_v2 x0 i = past x0 n c := by
  subst h0
  have hi0 : (i 0).val < 8222 := idx2_lt0 i
  unfold val_main_v2 past
  by_cases hn : (i 0).val < 30
  · rw [if_pos hn, concatenate_pair_apply_left (s₁ := S30x1024) (s₂ := S8192x1024) 0 _ _ _ i rfl (ix2 (n0 := 30) (n1 := 1024) ⟨(i 0).val, hn⟩ ⟨(i 1).val, idx2_lt1 i⟩)
      (fun b => match b with | ⟨0, _⟩ => rfl | ⟨1, _⟩ => rfl), val_main_v1_apply, val_main_cst_0_apply]
    exact zeroWord
  · rw [if_neg hn, concatenate_pair_apply_right (s₁ := S30x1024) (s₂ := S8192x1024) 0 _ _ _ i rfl rfl (ix2 (n0 := 8192) (n1 := 1024) ⟨(i 0).val - 30, by omega⟩ ⟨(i 1).val, idx2_lt1 i⟩)
      (fun b => match b with | ⟨0, _⟩ => fun h => absurd rfl h | ⟨1, _⟩ => fun _ => rfl)
      (by show (i 0).val - 30 + 30 = (i 0).val; omega)]
    exact at_row x0 _ rfl h1

/-- The output's gradient as the gradients of the products read it. -/
theorem grad (x1 : Arr S8192x1024) (i : S8192x1024.Idx) : val_main_v224 x1 i = row x1 (i 0).val (i 1) := by
  rw [val_main_v224_apply]
  have hi0 : (i 0).val < 8192 := idx2_lt0 i
  have hi1 : (i 1).val < 1024 := idx2_lt1 i
  refine at_row x1 _ ?_ ?_
  · show ((i 0).val * 1024 + (i 1).val) / 1024 = (i 0).val; omega
  · show ((i 0).val * 1024 + (i 1).val) % 1024 = (i 1).val; omega

/-- A tap, broadcast over the rows. -/
theorem weight (k : ℕ) (x1 : Arr S31x1024) (hw : S31x1024.Slices ![k, 0] S1x1024) (i : S8192x1024.Idx) :
    broadcastInDim S8192x1024 ![0, 1] bcast_S1x1024_S8192x1024_0_1 (broadcastInDim S1x1024 ![1] bcast_S1024_S1x1024_1
      (shapeCast S1024 (extractStridedSlice S1x1024 ![k, 0] x1 hw) shapeCasts_S1x1024_S1024)) i = row x1 k (i 1) := by
  have h1 : (i 1).val < 1024 := idx2_lt1 i
  have hk : k + 1 ≤ 31 := hw.2 0
  rw [broadcastInDim_apply _ bcast_S1x1024_S8192x1024_0_1 _ i (idx_main_v555 i) (fun a => match a with | ⟨0, _⟩ => rfl | ⟨1, _⟩ => rfl),
    broadcastInDim_apply _ bcast_S1024_S1x1024_1 _ _ (idx_main_v6 (idx_main_v555 i)) (fun a => match a with | ⟨0, _⟩ => rfl),
    shapeCast_apply _ shapeCasts_S1x1024_S1024 _ (idx_main_v5 (idx_main_v6 (idx_main_v555 i)))
      (by rewrite [Shape.rowMajor_val_two, Shape.rowMajor_val_one]; show 0 * 1024 + (i 1).val % 1024 = (i 1).val; omega)]
  exact (extractStridedSlice_apply ![k, 0] x1 hw _ (ix2 ⟨k, hk⟩ (i 1)) (fun a => match a with
    | ⟨0, _⟩ => rfl
    | ⟨1, _⟩ => by show (i 1).val = 0 + (i 1).val % 1024; omega)).trans (at_row x1 _ rfl rfl)

/-- A tap's row sum. -/
theorem tally (k : ℕ) (x0 x1 : Arr S8192x1024) (hx : S8222x1024.Slices ![k, 0] S8192x1024) (q : S1x1024.Idx) :
    broadcastInDim S1x1024 ![1] bcast_S1024_S1x1024_1 (Host.reduceAdd (F := Ideal) (φ := .f32) (shapeCast S1x1024 (Host.reduceAdd (F := Ideal) (φ := .f32) (mulf (F := Ideal) (φ := .f32) (val_main_v224 x1)
      (extractStridedSlice S8192x1024 ![k, 0] (val_main_v2 x0) hx)) (val_main_cst_120 (F := Ideal)) reducesTo_S8192x1024_S1024_d0 h_S_) shapeCasts_S1024_S1x1024)
      (val_main_cst_122 (F := Ideal)) reducesTo_S1x1024_S1024_d0 h_S_) q = dwAt x0 x1 k (q 1) := by
  have hY : ∀ i, mulf (F := Ideal) (φ := .f32) (val_main_v224 x1) (extractStridedSlice S8192x1024 ![k, 0] (val_main_v2 x0) hx) i
      = row x1 (i 0).val (i 1) * past x0 (k + (i 0).val) (i 1) := fun i => by
    have h0 : (i 0).val < 8192 := idx2_lt0 i
    have hk : k + 8192 ≤ 8222 := hx.2 0
    exact congrArg₂ (· * ·) (grad x1 i) ((extractStridedSlice_apply ![k, 0] _ hx i (ix2 ⟨k + (i 0).val, by omega⟩ (i 1)) (fun a => match a with
      | ⟨0, _⟩ => rfl
      | ⟨1, _⟩ => (Nat.zero_add _).symm)).trans (joined x0 _ _ _ rfl rfl))
  generalize mulf (F := Ideal) (φ := .f32) (val_main_v224 x1) (extractStridedSlice S8192x1024 ![k, 0] (val_main_v2 x0) hx) = Y at hY ⊢
  have hS : ∀ j : S1024.Idx, Host.reduceAdd (F := Ideal) (φ := .f32) Y (val_main_cst_120 (F := Ideal)) reducesTo_S8192x1024_S1024_d0 h_S_ j = dwAt x0 x1 k (j 0) := fun j => by
    simp only [Host.reduceAdd, Ideal.hostReduceAdd_def]
    rw [Ideal.hostReduceAdd_single reducesTo_S8192x1024_S1024_d0 (by decide)]
    refine ((congrArg (· + _) zeroWord).trans (zero_add _)).trans (Eq.trans ?_ (Finset.sum_range (fun n => row x1 n (j 0) * past x0 (k + n) (j 0))).symm)
    exact Finset.sum_congr rfl fun n _ => hY _
  generalize Host.reduceAdd (F := Ideal) (φ := .f32) Y (val_main_cst_120 (F := Ideal)) reducesTo_S8192x1024_S1024_d0 h_S_ = Z at hS ⊢
  rw [broadcastInDim_apply _ bcast_S1024_S1x1024_1 _ q (idx_main_v552 q) (fun a => match a with | ⟨0, _⟩ => rfl)]
  simp only [Host.reduceAdd, Ideal.hostReduceAdd_def]
  rw [Ideal.hostReduceAdd_single reducesTo_S1x1024_S1024_d0 (by decide)]
  refine ((congrArg (· + _) zeroWord).trans (zero_add _)).trans ((Finset.sum_congr rfl fun n _ => (shapeCast_apply Z shapeCasts_S1024_S1x1024 _ (idx_main_v552 q)
    (by rewrite [Shape.rowMajor_val_one, Shape.rowMajor_val_two]; have hn : n.val < 1 := n.isLt; show (q 1).val = n.val * 1024 + (q 1).val; omega)).trans (hS _)).trans ?_)
  show ∑ _n : Fin 1, dwAt x0 x1 k (q 1) = _
  rw [Fin.sum_univ_one]

section
variable (x0 x1 : Arr S8192x1024) (x2 : Arr S31x1024) (I : S8222x1024.Idx) (r : ℕ) (c : Fin 1024) (j : S31x1024.Idx)

theorem dh0 (h0 : (I 0).val = 30 + r) (h1 : I 1 = c) :
    val_main_v560 x1 x2 I = row x2 0 c * row x1 (30 - 0 + r) c := by
  unfold val_main_v560
  exact padded 0 30 _ _ (row x2 0) x1 _ _ zeroWord (fun i => congrArg₂ (· * ·) (weight 0 x2 _ i) (grad x1 i)) (by decide) I r c h0 h1
theorem dw0 :
    val_main_v564 x0 x1 j = if (j 0).val = 0 then dwAt x0 x1 0 (j 1) else 0 := by
  unfold val_main_v564
  exact placed 0 30 _ _ (dwAt x0 x1 0) _ _ zeroWord (tally 0 x0 x1 _) j
theorem dh1 (h0 : (I 0).val = 30 + r) (h1 : I 1 = c) :
    val_main_v549 x1 x2 I = row x2 1 c * row x1 (30 - 1 + r) c := by
  unfold val_main_v549
  exact padded 1 29 _ _ (row x2 1) x1 _ _ zeroWord (fun i => congrArg₂ (· * ·) (weight 1 x2 _ i) (grad x1 i)) (by decide) I r c h0 h1
theorem dw1 :
    val_main_v553 x0 x1 j = if (j 0).val = 1 then dwAt x0 x1 1 (j 1) else 0 := by
  unfold val_main_v553
  exact placed 1 29 _ _ (dwAt x0 x1 1) _ _ zeroWord (tally 1 x0 x1 _) j
theorem dh2 (h0 : (I 0).val = 30 + r) (h1 : I 1 = c) :
    val_main_v538 x1 x2 I = row x2 2 c * row x1 (30 - 2 + r) c := by
  unfold val_main_v538
  exact padded 2 28 _ _ (row x2 2) x1 _ _ zeroWord (fun i => congrArg₂ (· * ·) (weight 2 x2 _ i) (grad x1 i)) (by decide) I r c h0 h1
theorem dw2 :
    val_main_v542 x0 x1 j = if (j 0).val = 2 then dwAt x0 x1 2 (j 1) else 0 := by
  unfold val_main_v542
  exact placed 2 28 _ _ (dwAt x0 x1 2) _ _ zeroWord (tally 2 x0 x1 _) j
theorem dh3 (h0 : (I 0).val = 30 + r) (h1 : I 1 = c) :
    val_main_v527 x1 x2 I = row x2 3 c * row x1 (30 - 3 + r) c := by
  unfold val_main_v527
  exact padded 3 27 _ _ (row x2 3) x1 _ _ zeroWord (fun i => congrArg₂ (· * ·) (weight 3 x2 _ i) (grad x1 i)) (by decide) I r c h0 h1
theorem dw3 :
    val_main_v531 x0 x1 j = if (j 0).val = 3 then dwAt x0 x1 3 (j 1) else 0 := by
  unfold val_main_v531
  exact placed 3 27 _ _ (dwAt x0 x1 3) _ _ zeroWord (tally 3 x0 x1 _) j
theorem dh4 (h0 : (I 0).val = 30 + r) (h1 : I 1 = c) :
    val_main_v516 x1 x2 I = row x2 4 c * row x1 (30 - 4 + r) c := by
  unfold val_main_v516
  exact padded 4 26 _ _ (row x2 4) x1 _ _ zeroWord (fun i => congrArg₂ (· * ·) (weight 4 x2 _ i) (grad x1 i)) (by decide) I r c h0 h1
theorem dw4 :
    val_main_v520 x0 x1 j = if (j 0).val = 4 then dwAt x0 x1 4 (j 1) else 0 := by
  unfold val_main_v520
  exact placed 4 26 _ _ (dwAt x0 x1 4) _ _ zeroWord (tally 4 x0 x1 _) j
theorem dh5 (h0 : (I 0).val = 30 + r) (h1 : I 1 = c) :
    val_main_v505 x1 x2 I = row x2 5 c * row x1 (30 - 5 + r) c := by
  unfold val_main_v505
  exact padded 5 25 _ _ (row x2 5) x1 _ _ zeroWord (fun i => congrArg₂ (· * ·) (weight 5 x2 _ i) (grad x1 i)) (by decide) I r c h0 h1
theorem dw5 :
    val_main_v509 x0 x1 j = if (j 0).val = 5 then dwAt x0 x1 5 (j 1) else 0 := by
  unfold val_main_v509
  exact placed 5 25 _ _ (dwAt x0 x1 5) _ _ zeroWord (tally 5 x0 x1 _) j
theorem dh6 (h0 : (I 0).val = 30 + r) (h1 : I 1 = c) :
    val_main_v494 x1 x2 I = row x2 6 c * row x1 (30 - 6 + r) c := by
  unfold val_main_v494
  exact padded 6 24 _ _ (row x2 6) x1 _ _ zeroWord (fun i => congrArg₂ (· * ·) (weight 6 x2 _ i) (grad x1 i)) (by decide) I r c h0 h1
theorem dw6 :
    val_main_v498 x0 x1 j = if (j 0).val = 6 then dwAt x0 x1 6 (j 1) else 0 := by
  unfold val_main_v498
  exact placed 6 24 _ _ (dwAt x0 x1 6) _ _ zeroWord (tally 6 x0 x1 _) j
theorem dh7 (h0 : (I 0).val = 30 + r) (h1 : I 1 = c) :
    val_main_v483 x1 x2 I = row x2 7 c * row x1 (30 - 7 + r) c := by
  unfold val_main_v483
  exact padded 7 23 _ _ (row x2 7) x1 _ _ zeroWord (fun i => congrArg₂ (· * ·) (weight 7 x2 _ i) (grad x1 i)) (by decide) I r c h0 h1
theorem dw7 :
    val_main_v487 x0 x1 j = if (j 0).val = 7 then dwAt x0 x1 7 (j 1) else 0 := by
  unfold val_main_v487
  exact placed 7 23 _ _ (dwAt x0 x1 7) _ _ zeroWord (tally 7 x0 x1 _) j
theorem dh8 (h0 : (I 0).val = 30 + r) (h1 : I 1 = c) :
    val_main_v472 x1 x2 I = row x2 8 c * row x1 (30 - 8 + r) c := by
  unfold val_main_v472
  exact padded 8 22 _ _ (row x2 8) x1 _ _ zeroWord (fun i => congrArg₂ (· * ·) (weight 8 x2 _ i) (grad x1 i)) (by decide) I r c h0 h1
theorem dw8 :
    val_main_v476 x0 x1 j = if (j 0).val = 8 then dwAt x0 x1 8 (j 1) else 0 := by
  unfold val_main_v476
  exact placed 8 22 _ _ (dwAt x0 x1 8) _ _ zeroWord (tally 8 x0 x1 _) j
theorem dh9 (h0 : (I 0).val = 30 + r) (h1 : I 1 = c) :
    val_main_v461 x1 x2 I = row x2 9 c * row x1 (30 - 9 + r) c := by
  unfold val_main_v461
  exact padded 9 21 _ _ (row x2 9) x1 _ _ zeroWord (fun i => congrArg₂ (· * ·) (weight 9 x2 _ i) (grad x1 i)) (by decide) I r c h0 h1
theorem dw9 :
    val_main_v465 x0 x1 j = if (j 0).val = 9 then dwAt x0 x1 9 (j 1) else 0 := by
  unfold val_main_v465
  exact placed 9 21 _ _ (dwAt x0 x1 9) _ _ zeroWord (tally 9 x0 x1 _) j
theorem dh10 (h0 : (I 0).val = 30 + r) (h1 : I 1 = c) :
    val_main_v450 x1 x2 I = row x2 10 c * row x1 (30 - 10 + r) c := by
  unfold val_main_v450
  exact padded 10 20 _ _ (row x2 10) x1 _ _ zeroWord (fun i => congrArg₂ (· * ·) (weight 10 x2 _ i) (grad x1 i)) (by decide) I r c h0 h1
theorem dw10 :
    val_main_v454 x0 x1 j = if (j 0).val = 10 then dwAt x0 x1 10 (j 1) else 0 := by
  unfold val_main_v454
  exact placed 10 20 _ _ (dwAt x0 x1 10) _ _ zeroWord (tally 10 x0 x1 _) j
theorem dh11 (h0 : (I 0).val = 30 + r) (h1 : I 1 = c) :
    val_main_v439 x1 x2 I = row x2 11 c * row x1 (30 - 11 + r) c := by
  unfold val_main_v439
  exact padded 11 19 _ _ (row x2 11) x1 _ _ zeroWord (fun i => congrArg₂ (· * ·) (weight 11 x2 _ i) (grad x1 i)) (by decide) I r c h0 h1
theorem dw11 :
    val_main_v443 x0 x1 j = if (j 0).val = 11 then dwAt x0 x1 11 (j 1) else 0 := by
  unfold val_main_v443
  exact placed 11 19 _ _ (dwAt x0 x1 11) _ _ zeroWord (tally 11 x0 x1 _) j
theorem dh12 (h0 : (I 0).val = 30 + r) (h1 : I 1 = c) :
    val_main_v428 x1 x2 I = row x2 12 c * row x1 (30 - 12 + r) c := by
  unfold val_main_v428
  exact padded 12 18 _ _ (row x2 12) x1 _ _ zeroWord (fun i => congrArg₂ (· * ·) (weight 12 x2 _ i) (grad x1 i)) (by decide) I r c h0 h1
theorem dw12 :
    val_main_v432 x0 x1 j = if (j 0).val = 12 then dwAt x0 x1 12 (j 1) else 0 := by
  unfold val_main_v432
  exact placed 12 18 _ _ (dwAt x0 x1 12) _ _ zeroWord (tally 12 x0 x1 _) j
theorem dh13 (h0 : (I 0).val = 30 + r) (h1 : I 1 = c) :
    val_main_v417 x1 x2 I = row x2 13 c * row x1 (30 - 13 + r) c := by
  unfold val_main_v417
  exact padded 13 17 _ _ (row x2 13) x1 _ _ zeroWord (fun i => congrArg₂ (· * ·) (weight 13 x2 _ i) (grad x1 i)) (by decide) I r c h0 h1
theorem dw13 :
    val_main_v421 x0 x1 j = if (j 0).val = 13 then dwAt x0 x1 13 (j 1) else 0 := by
  unfold val_main_v421
  exact placed 13 17 _ _ (dwAt x0 x1 13) _ _ zeroWord (tally 13 x0 x1 _) j
theorem dh14 (h0 : (I 0).val = 30 + r) (h1 : I 1 = c) :
    val_main_v406 x1 x2 I = row x2 14 c * row x1 (30 - 14 + r) c := by
  unfold val_main_v406
  exact padded 14 16 _ _ (row x2 14) x1 _ _ zeroWord (fun i => congrArg₂ (· * ·) (weight 14 x2 _ i) (grad x1 i)) (by decide) I r c h0 h1
theorem dw14 :
    val_main_v410 x0 x1 j = if (j 0).val = 14 then dwAt x0 x1 14 (j 1) else 0 := by
  unfold val_main_v410
  exact placed 14 16 _ _ (dwAt x0 x1 14) _ _ zeroWord (tally 14 x0 x1 _) j
theorem dh15 (h0 : (I 0).val = 30 + r) (h1 : I 1 = c) :
    val_main_v395 x1 x2 I = row x2 15 c * row x1 (30 - 15 + r) c := by
  unfold val_main_v395
  exact padded 15 15 _ _ (row x2 15) x1 _ _ zeroWord (fun i => congrArg₂ (· * ·) (weight 15 x2 _ i) (grad x1 i)) (by decide) I r c h0 h1
theorem dw15 :
    val_main_v399 x0 x1 j = if (j 0).val = 15 then dwAt x0 x1 15 (j 1) else 0 := by
  unfold val_main_v399
  exact placed 15 15 _ _ (dwAt x0 x1 15) _ _ zeroWord (tally 15 x0 x1 _) j
theorem dh16 (h0 : (I 0).val = 30 + r) (h1 : I 1 = c) :
    val_main_v384 x1 x2 I = row x2 16 c * row x1 (30 - 16 + r) c := by
  unfold val_main_v384
  exact padded 16 14 _ _ (row x2 16) x1 _ _ zeroWord (fun i => congrArg₂ (· * ·) (weight 16 x2 _ i) (grad x1 i)) (by decide) I r c h0 h1
theorem dw16 :
    val_main_v388 x0 x1 j = if (j 0).val = 16 then dwAt x0 x1 16 (j 1) else 0 := by
  unfold val_main_v388
  exact placed 16 14 _ _ (dwAt x0 x1 16) _ _ zeroWord (tally 16 x0 x1 _) j
theorem dh17 (h0 : (I 0).val = 30 + r) (h1 : I 1 = c) :
    val_main_v373 x1 x2 I = row x2 17 c * row x1 (30 - 17 + r) c := by
  unfold val_main_v373
  exact padded 17 13 _ _ (row x2 17) x1 _ _ zeroWord (fun i => congrArg₂ (· * ·) (weight 17 x2 _ i) (grad x1 i)) (by decide) I r c h0 h1
theorem dw17 :
    val_main_v377 x0 x1 j = if (j 0).val = 17 then dwAt x0 x1 17 (j 1) else 0 := by
  unfold val_main_v377
  exact placed 17 13 _ _ (dwAt x0 x1 17) _ _ zeroWord (tally 17 x0 x1 _) j
theorem dh18 (h0 : (I 0).val = 30 + r) (h1 : I 1 = c) :
    val_main_v362 x1 x2 I = row x2 18 c * row x1 (30 - 18 + r) c := by
  unfold val_main_v362
  exact padded 18 12 _ _ (row x2 18) x1 _ _ zeroWord (fun i => congrArg₂ (· * ·) (weight 18 x2 _ i) (grad x1 i)) (by decide) I r c h0 h1
theorem dw18 :
    val_main_v366 x0 x1 j = if (j 0).val = 18 then dwAt x0 x1 18 (j 1) else 0 := by
  unfold val_main_v366
  exact placed 18 12 _ _ (dwAt x0 x1 18) _ _ zeroWord (tally 18 x0 x1 _) j
theorem dh19 (h0 : (I 0).val = 30 + r) (h1 : I 1 = c) :
    val_main_v351 x1 x2 I = row x2 19 c * row x1 (30 - 19 + r) c := by
  unfold val_main_v351
  exact padded 19 11 _ _ (row x2 19) x1 _ _ zeroWord (fun i => congrArg₂ (· * ·) (weight 19 x2 _ i) (grad x1 i)) (by decide) I r c h0 h1
theorem dw19 :
    val_main_v355 x0 x1 j = if (j 0).val = 19 then dwAt x0 x1 19 (j 1) else 0 := by
  unfold val_main_v355
  exact placed 19 11 _ _ (dwAt x0 x1 19) _ _ zeroWord (tally 19 x0 x1 _) j
theorem dh20 (h0 : (I 0).val = 30 + r) (h1 : I 1 = c) :
    val_main_v340 x1 x2 I = row x2 20 c * row x1 (30 - 20 + r) c := by
  unfold val_main_v340
  exact padded 20 10 _ _ (row x2 20) x1 _ _ zeroWord (fun i => congrArg₂ (· * ·) (weight 20 x2 _ i) (grad x1 i)) (by decide) I r c h0 h1
theorem dw20 :
    val_main_v344 x0 x1 j = if (j 0).val = 20 then dwAt x0 x1 20 (j 1) else 0 := by
  unfold val_main_v344
  exact placed 20 10 _ _ (dwAt x0 x1 20) _ _ zeroWord (tally 20 x0 x1 _) j
theorem dh21 (h0 : (I 0).val = 30 + r) (h1 : I 1 = c) :
    val_main_v329 x1 x2 I = row x2 21 c * row x1 (30 - 21 + r) c := by
  unfold val_main_v329
  exact padded 21 9 _ _ (row x2 21) x1 _ _ zeroWord (fun i => congrArg₂ (· * ·) (weight 21 x2 _ i) (grad x1 i)) (by decide) I r c h0 h1
theorem dw21 :
    val_main_v333 x0 x1 j = if (j 0).val = 21 then dwAt x0 x1 21 (j 1) else 0 := by
  unfold val_main_v333
  exact placed 21 9 _ _ (dwAt x0 x1 21) _ _ zeroWord (tally 21 x0 x1 _) j
theorem dh22 (h0 : (I 0).val = 30 + r) (h1 : I 1 = c) :
    val_main_v318 x1 x2 I = row x2 22 c * row x1 (30 - 22 + r) c := by
  unfold val_main_v318
  exact padded 22 8 _ _ (row x2 22) x1 _ _ zeroWord (fun i => congrArg₂ (· * ·) (weight 22 x2 _ i) (grad x1 i)) (by decide) I r c h0 h1
theorem dw22 :
    val_main_v322 x0 x1 j = if (j 0).val = 22 then dwAt x0 x1 22 (j 1) else 0 := by
  unfold val_main_v322
  exact placed 22 8 _ _ (dwAt x0 x1 22) _ _ zeroWord (tally 22 x0 x1 _) j
theorem dh23 (h0 : (I 0).val = 30 + r) (h1 : I 1 = c) :
    val_main_v307 x1 x2 I = row x2 23 c * row x1 (30 - 23 + r) c := by
  unfold val_main_v307
  exact padded 23 7 _ _ (row x2 23) x1 _ _ zeroWord (fun i => congrArg₂ (· * ·) (weight 23 x2 _ i) (grad x1 i)) (by decide) I r c h0 h1
theorem dw23 :
    val_main_v311 x0 x1 j = if (j 0).val = 23 then dwAt x0 x1 23 (j 1) else 0 := by
  unfold val_main_v311
  exact placed 23 7 _ _ (dwAt x0 x1 23) _ _ zeroWord (tally 23 x0 x1 _) j
theorem dh24 (h0 : (I 0).val = 30 + r) (h1 : I 1 = c) :
    val_main_v296 x1 x2 I = row x2 24 c * row x1 (30 - 24 + r) c := by
  unfold val_main_v296
  exact padded 24 6 _ _ (row x2 24) x1 _ _ zeroWord (fun i => congrArg₂ (· * ·) (weight 24 x2 _ i) (grad x1 i)) (by decide) I r c h0 h1
theorem dw24 :
    val_main_v300 x0 x1 j = if (j 0).val = 24 then dwAt x0 x1 24 (j 1) else 0 := by
  unfold val_main_v300
  exact placed 24 6 _ _ (dwAt x0 x1 24) _ _ zeroWord (tally 24 x0 x1 _) j
theorem dh25 (h0 : (I 0).val = 30 + r) (h1 : I 1 = c) :
    val_main_v285 x1 x2 I = row x2 25 c * row x1 (30 - 25 + r) c := by
  unfold val_main_v285
  exact padded 25 5 _ _ (row x2 25) x1 _ _ zeroWord (fun i => congrArg₂ (· * ·) (weight 25 x2 _ i) (grad x1 i)) (by decide) I r c h0 h1
theorem dw25 :
    val_main_v289 x0 x1 j = if (j 0).val = 25 then dwAt x0 x1 25 (j 1) else 0 := by
  unfold val_main_v289
  exact placed 25 5 _ _ (dwAt x0 x1 25) _ _ zeroWord (tally 25 x0 x1 _) j
theorem dh26 (h0 : (I 0).val = 30 + r) (h1 : I 1 = c) :
    val_main_v274 x1 x2 I = row x2 26 c * row x1 (30 - 26 + r) c := by
  unfold val_main_v274
  exact padded 26 4 _ _ (row x2 26) x1 _ _ zeroWord (fun i => congrArg₂ (· * ·) (weight 26 x2 _ i) (grad x1 i)) (by decide) I r c h0 h1
theorem dw26 :
    val_main_v278 x0 x1 j = if (j 0).val = 26 then dwAt x0 x1 26 (j 1) else 0 := by
  unfold val_main_v278
  exact placed 26 4 _ _ (dwAt x0 x1 26) _ _ zeroWord (tally 26 x0 x1 _) j
theorem dh27 (h0 : (I 0).val = 30 + r) (h1 : I 1 = c) :
    val_main_v263 x1 x2 I = row x2 27 c * row x1 (30 - 27 + r) c := by
  unfold val_main_v263
  exact padded 27 3 _ _ (row x2 27) x1 _ _ zeroWord (fun i => congrArg₂ (· * ·) (weight 27 x2 _ i) (grad x1 i)) (by decide) I r c h0 h1
theorem dw27 :
    val_main_v267 x0 x1 j = if (j 0).val = 27 then dwAt x0 x1 27 (j 1) else 0 := by
  unfold val_main_v267
  exact placed 27 3 _ _ (dwAt x0 x1 27) _ _ zeroWord (tally 27 x0 x1 _) j
theorem dh28 (h0 : (I 0).val = 30 + r) (h1 : I 1 = c) :
    val_main_v252 x1 x2 I = row x2 28 c * row x1 (30 - 28 + r) c := by
  unfold val_main_v252
  exact padded 28 2 _ _ (row x2 28) x1 _ _ zeroWord (fun i => congrArg₂ (· * ·) (weight 28 x2 _ i) (grad x1 i)) (by decide) I r c h0 h1
theorem dw28 :
    val_main_v256 x0 x1 j = if (j 0).val = 28 then dwAt x0 x1 28 (j 1) else 0 := by
  unfold val_main_v256
  exact placed 28 2 _ _ (dwAt x0 x1 28) _ _ zeroWord (tally 28 x0 x1 _) j
theorem dh29 (h0 : (I 0).val = 30 + r) (h1 : I 1 = c) :
    val_main_v241 x1 x2 I = row x2 29 c * row x1 (30 - 29 + r) c := by
  unfold val_main_v241
  exact padded 29 1 _ _ (row x2 29) x1 _ _ zeroWord (fun i => congrArg₂ (· * ·) (weight 29 x2 _ i) (grad x1 i)) (by decide) I r c h0 h1
theorem dw29 :
    val_main_v245 x0 x1 j = if (j 0).val = 29 then dwAt x0 x1 29 (j 1) else 0 := by
  unfold val_main_v245
  exact placed 29 1 _ _ (dwAt x0 x1 29) _ _ zeroWord (tally 29 x0 x1 _) j
theorem dh30 (h0 : (I 0).val = 30 + r) (h1 : I 1 = c) :
    val_main_v232 x1 x2 I = row x2 30 c * row x1 (30 - 30 + r) c := by
  unfold val_main_v232
  exact padded 30 0 _ _ (row x2 30) x1 _ _ zeroWord (fun i => congrArg₂ (· * ·) (weight 30 x2 _ i) (grad x1 i)) (by decide) I r c h0 h1
theorem dw30 :
    val_main_v235 x0 x1 j = if (j 0).val = 30 then dwAt x0 x1 30 (j 1) else 0 := by
  unfold val_main_v235
  exact placed 30 0 _ _ (dwAt x0 x1 30) _ _ zeroWord (tally 30 x0 x1 _) j
end

/-! ### The three results -/

theorem dh_eq (x1 : Arr S8192x1024) (x2 : Arr S31x1024) (i : S8192x1024.Idx) :
    val_main_v567 x1 x2 i = dhAt x1 x2 (i 0).val (i 1) := by
  rw [val_main_v567_apply]
  generalize hI : idx_main_v567 i = I
  have h0 : (I 0).val = 30 + (i 0).val := by subst hI; rfl
  have h1 : I 1 = i 1 := by subst hI; rfl
  simp only [val_main_v561_apply, val_main_v550_apply, val_main_v539_apply, val_main_v528_apply, val_main_v517_apply, val_main_v506_apply, val_main_v495_apply, val_main_v484_apply, val_main_v473_apply, val_main_v462_apply, val_main_v451_apply, val_main_v440_apply, val_main_v429_apply, val_main_v418_apply, val_main_v407_apply, val_main_v396_apply, val_main_v385_apply, val_main_v374_apply, val_main_v363_apply, val_main_v352_apply, val_main_v341_apply, val_main_v330_apply, val_main_v319_apply, val_main_v308_apply, val_main_v297_apply, val_main_v286_apply, val_main_v275_apply, val_main_v264_apply, val_main_v253_apply, val_main_v242_apply, Ideal.addf_def]
  rw [dh0 x1 x2 I _ _ h0 h1, dh1 x1 x2 I _ _ h0 h1, dh2 x1 x2 I _ _ h0 h1, dh3 x1 x2 I _ _ h0 h1, dh4 x1 x2 I _ _ h0 h1, dh5 x1 x2 I _ _ h0 h1, dh6 x1 x2 I _ _ h0 h1, dh7 x1 x2 I _ _ h0 h1, dh8 x1 x2 I _ _ h0 h1, dh9 x1 x2 I _ _ h0 h1, dh10 x1 x2 I _ _ h0 h1, dh11 x1 x2 I _ _ h0 h1, dh12 x1 x2 I _ _ h0 h1, dh13 x1 x2 I _ _ h0 h1, dh14 x1 x2 I _ _ h0 h1, dh15 x1 x2 I _ _ h0 h1, dh16 x1 x2 I _ _ h0 h1, dh17 x1 x2 I _ _ h0 h1, dh18 x1 x2 I _ _ h0 h1, dh19 x1 x2 I _ _ h0 h1, dh20 x1 x2 I _ _ h0 h1, dh21 x1 x2 I _ _ h0 h1, dh22 x1 x2 I _ _ h0 h1, dh23 x1 x2 I _ _ h0 h1, dh24 x1 x2 I _ _ h0 h1, dh25 x1 x2 I _ _ h0 h1, dh26 x1 x2 I _ _ h0 h1, dh27 x1 x2 I _ _ h0 h1, dh28 x1 x2 I _ _ h0 h1, dh29 x1 x2 I _ _ h0 h1, dh30 x1 x2 I _ _ h0 h1]
  unfold dhAt
  rw [← Finset.sum_range_reflect]
  simp only [Finset.sum_range_succ, Finset.sum_range_zero, zero_add]

theorem dw_eq (x0 x1 : Arr S8192x1024) (i : S31x1024.Idx) :
    val_main_v565 x0 x1 i = dwAt x0 x1 (i 0).val (i 1) := by
  simp only [val_main_v565_apply, val_main_v554_apply, val_main_v543_apply, val_main_v532_apply, val_main_v521_apply, val_main_v510_apply, val_main_v499_apply, val_main_v488_apply, val_main_v477_apply, val_main_v466_apply, val_main_v455_apply, val_main_v444_apply, val_main_v433_apply, val_main_v422_apply, val_main_v411_apply, val_main_v400_apply, val_main_v389_apply, val_main_v378_apply, val_main_v367_apply, val_main_v356_apply, val_main_v345_apply, val_main_v334_apply, val_main_v323_apply, val_main_v312_apply, val_main_v301_apply, val_main_v290_apply, val_main_v279_apply, val_main_v268_apply, val_main_v257_apply, val_main_v246_apply, Ideal.addf_def, dw0, dw1, dw2, dw3, dw4, dw5, dw6, dw7, dw8, dw9, dw10, dw11, dw12, dw13, dw14, dw15, dw16, dw17, dw18, dw19, dw20, dw21, dw22, dw23, dw24, dw25, dw26, dw27, dw28, dw29, dw30]
  have h0 : (i 0).val < 31 := idx2_lt0 i
  generalize (i 0).val = k at h0 ⊢
  have key : ∑ n ∈ range 31, (if k = 30 - n then dwAt x0 x1 (30 - n) (i 1) else 0) = dwAt x0 x1 k (i 1) := by
    rw [Finset.sum_range_reflect (fun n => if k = n then dwAt x0 x1 n (i 1) else 0) 31, Finset.sum_ite_eq, if_pos (Finset.mem_range.mpr h0)]
  rw [← key]
  simp only [Finset.sum_range_succ, Finset.sum_range_zero, zero_add]

theorem db_eq (x1 : Arr S8192x1024) (i : S1x1024.Idx) : val_main_v226 x1 i = dbAt x1 (i 1) := by
  have hi0 : (i 0).val < 1 := idx2_lt0 i
  rw [val_main_v226_apply, val_main_v225_apply]
  unfold dbAt
  rw [Finset.sum_range]
  refine ((congrArg (· + _) zeroWord).trans (zero_add _)).trans (Finset.sum_congr rfl fun n _ => at_row x1 _ rfl ?_)
  show (i 0).val * 1024 + (i 1).val = (i 1).val; omega

end Cert.ReferenceIdeal.Taps

end
-- ==== Proof.ConvKer.lean ====
module

public import proofs.«01_k».proof.Proof.ConvSpec
public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.ValueIdx Idealize.ShloMosaic.TcCoe Finset Conv

namespace Cert.KernelIdeal.Taps

open Cert.KernelIdeal Cert.KernelIdeal.Gen Cert.KernelIdeal.Value

variable (m : (ℓ : Loc nD τ sig) → Buf (Elt Ideal) ℓ)

theorem at_congr (G : ℕ → Fin 1024 → EReal) {n n' : ℕ} {c c' : Fin 1024} (hn : n = n') (hc : c.val = c'.val) : G n c = G n' c' := by
  rw [hn, Fin.ext hc]

abbrev H (c : Dev nD) : (⟨2, ![8192, 1024]⟩ : Shape).Idx → EReal := m ((c : Thread nD τ).loc main_arg0)
abbrev D (c : Dev nD) : (⟨2, ![8192, 1024]⟩ : Shape).Idx → EReal := m ((c : Thread nD τ).loc main_arg1)
abbrev W (c : Dev nD) : (⟨2, ![31, 1024]⟩ : Shape).Idx → EReal := m ((c : Thread nD τ).loc main_arg2)

theorem idxs : ∀ t : Fin cfg0.N, win0_0.index t = ![t.val, 0] ∧ win0_1.index t = ![16 * t.val - 1, 0] ∧ win0_2.index t = ![t.val, 0]
    ∧ win0_3.index t = ![min (16 * t.val + 16) 255, 0] ∧ win0_4.index t = ![0, 0] ∧ win0_5.index t = ![t.val, 0]
    ∧ (grid0.coords t 0).val = t.val :=
  (by decide +kernel : ∀ t : Fin grid0.N, _)

theorem pt (t : Fin cfg0.N) : t.val < 16 := lt_of_lt_of_eq t.isLt N_0

theorem blkD (c : Dev nD) (t : Fin cfg0.N) (y : S512x1024.Idx) :
    (iblk m c 2 t : S512x1024.Idx → EReal) y = row (D m c) (512 * t.val + (y 0).val) (y 1) := by
  refine Eq.trans ?_ (at_row (D m c) (ValueIdx.ix2 ⟨512 * t.val + (y 0).val, by have := pt t; have := idx2_lt0 y; omega⟩ (y 1)) rfl rfl)
  blk_ext [iblk, V, (idxs t).2.2.1]

theorem blkH (c : Dev nD) (t : Fin cfg0.N) (y : S512x1024.Idx) :
    (iblk m c 0 t : S512x1024.Idx → EReal) y = row (H m c) (512 * t.val + (y 0).val) (y 1) := by
  refine Eq.trans ?_ (at_row (H m c) (ValueIdx.ix2 ⟨512 * t.val + (y 0).val, by have := pt t; have := idx2_lt0 y; omega⟩ (y 1)) rfl rfl)
  blk_ext [iblk, V, (idxs t).1]

theorem blkW (c : Dev nD) (t : Fin cfg0.N) (y : S31x1024.Idx) :
    (iblk m c 4 t : S31x1024.Idx → EReal) y = row (W m c) (y 0).val (y 1) := by
  refine Eq.trans ?_ (at_row (W m c) y rfl rfl)
  blk_ext [iblk, V, (idxs t).2.2.2.2.1]

theorem blkHalo (c : Dev nD) (t : Fin cfg0.N) (y : S32x1024.Idx) (h : 1 ≤ t.val) :
    (iblk m c 1 t : S32x1024.Idx → EReal) y = row (H m c) (512 * t.val + (y 0).val - 32) (y 1) := by
  refine Eq.trans ?_ (at_row (H m c) (ValueIdx.ix2 ⟨512 * t.val + (y 0).val - 32, by have := pt t; have := idx2_lt0 y; omega⟩ (y 1)) rfl rfl)
  blk_ext [iblk, V, (idxs t).2.1]

theorem blkTail (c : Dev nD) (t : Fin cfg0.N) (y : S32x1024.Idx) (h : t.val < 15) :
    (iblk m c 3 t : S32x1024.Idx → EReal) y = row (D m c) (512 * t.val + (512 + (y 0).val)) (y 1) := by
  refine Eq.trans ?_ (at_row (D m c) (ValueIdx.ix2 ⟨512 * t.val + (512 + (y 0).val), by have := pt t; have := idx2_lt0 y; omega⟩ (y 1)) rfl rfl)
  blk_ext [iblk, V, (idxs t).2.2.2.1]

/-- The output cotangent's rows from row `o` of the tile's window on. -/
def dshift (c : Dev nD) (t : Fin cfg0.N) (o : ℕ) : S512x1024.Idx → EReal := fun j => row (D m c) (512 * t.val + (o + (j 0).val)) (j 1)

/-- The input's rows, `32 - o` rows before the tile. -/
def hshift (c : Dev nD) (t : Fin cfg0.N) (o : ℕ) : S512x1024.Idx → EReal := fun j => past (H m c) (512 * t.val + (o + (j 0).val) - 2) (j 1)

/-- A row of the taps. -/
def tap (c : Dev nD) (k : ℕ) : S1x1024.Idx → EReal := fun j => row (W m c) k (j 1)

theorem tail_piece (c : Dev nD) (t : Fin cfg0.N) (x : S32x1024.Idx) :
    k0_pay9 (F := Ideal) (grid0.coords t) (iblk m c 3 t) x = row (D m c) (512 * t.val + (512 + (x 0).val)) (x 1) := by
  have h := pt t
  have hc := (idxs t).2.2.2.2.2.2
  unfold k0_pay9
  by_cases ht : t.val < 15
  · rw [← blkTail m c t x ht]
    have e : Scalar.cmpi .slt (BitVec.ofNat 32 (grid0.coords t 0).val) 15#32 = 1#1 := by
      rw [hc]; interval_cases t.val <;> first | rfl | omega
    pointwise [e]
  · refine Eq.trans ?_ (row_ge (D m c) (n := 512 * t.val + (512 + (x 0).val)) (by omega) (x 1)).symm
    have e : Scalar.cmpi .slt (BitVec.ofNat 32 (grid0.coords t 0).val) 15#32 = 0#1 := by
      rw [hc]; interval_cases t.val <;> first | rfl | omega
    pointwise [e]

theorem head_piece (c : Dev nD) (t : Fin cfg0.N) (x : S32x1024.Idx) :
    k0_pay6 (F := Ideal) (grid0.coords t) (iblk m c 1 t) x = past (H m c) (512 * t.val + (x 0).val - 2) (x 1) := by
  have h := pt t
  have hc := (idxs t).2.2.2.2.2.2
  have hx := idx2_lt0 x
  unfold k0_pay6
  by_cases ht : 1 ≤ t.val
  · unfold past
    rw [if_neg (by omega), show 512 * t.val + (x 0).val - 2 - 30 = 512 * t.val + (x 0).val - 32 by omega, ← blkHalo m c t x ht]
    have e : Scalar.cmpi .sgt (BitVec.ofNat 32 (grid0.coords t 0).val) 0#32 = 1#1 := by
      rw [hc]; interval_cases t.val <;> first | rfl | omega
    pointwise [e]
  · unfold past
    rw [if_pos (by omega)]
    have e : Scalar.cmpi .sgt (BitVec.ofNat 32 (grid0.coords t 0).val) 0#32 = 0#1 := by
      rw [hc]; interval_cases t.val <;> first | rfl | omega
    pointwise [e]

theorem dcov (c : Dev nD) (t : Fin cfg0.N) (o : ℕ) (inb : ∀ a : Fin S544x1024.rank, (![o, 0] : Fin 2 → ℕ) a + (![512, 1024] : Fin 2 → ℕ) a ≤ S544x1024.size a) :
    View.readCov (κ := Proc.kind (Proc.tc : Proc τ)) (sp := .vmem) (s := S544x1024) (e := .f32) (Val := Elt Ideal) (View.whole (κ := Kind.tc) cc0_scratch1)
      [⟨Rect.unit ![512, 0] ![32, 1024] inb_S544x1024_S32x1024_512_0, k0_pay9 (F := Ideal) (grid0.coords t) (iblk m c 3 t)⟩,
        ⟨Rect.unit ![0, 0] ![512, 1024] inb_S544x1024_S512x1024_0_0, k0_pay8 (F := Ideal) (iblk m c 2 t)⟩]
      (Rect.unit ![o, 0] ![512, 1024] inb).toLoadRect = dshift m c t o := by
  have ho : o + 512 ≤ 544 := inb 0
  rw [View.readCov_eq_canon']
  funext j
  have hj : (j 0).val < 512 := idx2_lt0 (show (⟨2, ![512, 1024]⟩ : Shape).Idx from j)
  have hj1 : (j 1).val < 1024 := idx2_lt1 (show (⟨2, ![512, 1024]⟩ : Shape).Idx from j)
  have e0 : (((Rect.unit ![o, 0] ![512, 1024] inb).toLoadRect.idx j : S544x1024.Idx) 0).val = o + (j 0).val := Rect.idx_unit_val _ _ _ j 0
  have e1 : (((Rect.unit ![o, 0] ![512, 1024] inb).toLoadRect.idx j : S544x1024.Idx) 1).val = (j 1).val := (Rect.idx_unit_val _ _ _ j 1).trans (Nat.zero_add _)
  refine (View.canon_append_of_piecesOf (fun y : S544x1024.Idx => row (D m c) (512 * t.val + (y 0).val) (y 1)) [] [_, _] ⟨fun x => ?_, fun x => ?_, trivial⟩ _ ?_).trans ?_
  · have a0 : (((Rect.unit ![512, 0] ![32, 1024] inb_S544x1024_S32x1024_512_0).emb x : S544x1024.Idx) 0).val = 512 + (x 0).val := ValueKit.rect_emb_unit_val _ _ _ x 0
    have a1 : (((Rect.unit ![512, 0] ![32, 1024] inb_S544x1024_S32x1024_512_0).emb x : S544x1024.Idx) 1).val = (x 1).val := (ValueKit.rect_emb_unit_val _ _ _ x 1).trans (Nat.zero_add _)
    exact (tail_piece m c t x).trans (at_congr (row (D m c)) (by rw [a0]) a1.symm)
  · have a0 : (((Rect.unit ![0, 0] ![512, 1024] inb_S544x1024_S512x1024_0_0).emb x : S544x1024.Idx) 0).val = 0 + (x 0).val := ValueKit.rect_emb_unit_val _ _ _ x 0
    have a1 : (((Rect.unit ![0, 0] ![512, 1024] inb_S544x1024_S512x1024_0_0).emb x : S544x1024.Idx) 1).val = (x 1).val := (ValueKit.rect_emb_unit_val _ _ _ x 1).trans (Nat.zero_add _)
    refine Eq.trans (?_ : _ = (iblk m c 2 t : S512x1024.Idx → EReal) x) ((blkD m c t x).trans (at_congr (row (D m c)) (by rw [a0, Nat.zero_add]) a1.symm))
    unfold k0_pay8
    pointwise
  · rcases Nat.lt_or_ge (o + (j 0).val) 512 with h | h
    · refine ⟨_, List.mem_cons_of_mem _ List.mem_cons_self, (Rect.mem_set_unit (inb := inb_S544x1024_S512x1024_0_0)).2 fun a => ?_⟩
      match a with
      | ⟨0, _⟩ => exact ⟨le_of_le_of_eq (Nat.zero_le _) rfl, by rw [show (((Rect.unit ![o, 0] ![512, 1024] inb).toLoadRect.idx j : S544x1024.Idx) ⟨0, by decide⟩).val = _ from e0]; show _ < 0 + 512; omega⟩
      | ⟨1, _⟩ => exact ⟨Nat.zero_le _, by rw [show (((Rect.unit ![o, 0] ![512, 1024] inb).toLoadRect.idx j : S544x1024.Idx) ⟨1, by decide⟩).val = _ from e1]; show _ < 0 + 1024; omega⟩
    · refine ⟨_, List.mem_cons_self, (Rect.mem_set_unit (inb := inb_S544x1024_S32x1024_512_0)).2 fun a => ?_⟩
      match a with
      | ⟨0, _⟩ =>
        rw [show (((Rect.unit ![o, 0] ![512, 1024] inb).toLoadRect.idx j : S544x1024.Idx) ⟨0, by decide⟩).val = _ from e0]
        show 512 ≤ _ ∧ _ < 512 + 32
        omega
      | ⟨1, _⟩ => exact ⟨Nat.zero_le _, by rw [show (((Rect.unit ![o, 0] ![512, 1024] inb).toLoadRect.idx j : S544x1024.Idx) ⟨1, by decide⟩).val = _ from e1]; show _ < 0 + 1024; omega⟩
  · exact at_congr (fun n => row (D m c) n) (by rw [e0]) e1

theorem hcov (c : Dev nD) (t : Fin cfg0.N) (o : ℕ) (inb : ∀ a : Fin S544x1024.rank, (![o, 0] : Fin 2 → ℕ) a + (![512, 1024] : Fin 2 → ℕ) a ≤ S544x1024.size a) :
    View.readCov (κ := Proc.kind (Proc.tc : Proc τ)) (sp := .vmem) (s := S544x1024) (e := .f32) (Val := Elt Ideal) (View.whole (κ := Kind.tc) cc0_scratch0)
      [⟨Rect.unit ![32, 0] ![512, 1024] inb_S544x1024_S512x1024_32_0, k0_pay7 (F := Ideal) (iblk m c 0 t)⟩,
        ⟨Rect.unit ![0, 0] ![32, 1024] inb_S544x1024_S32x1024_0_0, k0_pay6 (F := Ideal) (grid0.coords t) (iblk m c 1 t)⟩]
      (Rect.unit ![o, 0] ![512, 1024] inb).toLoadRect = hshift m c t o := by
  have ho : o + 512 ≤ 544 := inb 0
  rw [View.readCov_eq_canon']
  funext j
  have hj : (j 0).val < 512 := idx2_lt0 (show (⟨2, ![512, 1024]⟩ : Shape).Idx from j)
  have hj1 : (j 1).val < 1024 := idx2_lt1 (show (⟨2, ![512, 1024]⟩ : Shape).Idx from j)
  have e0 : (((Rect.unit ![o, 0] ![512, 1024] inb).toLoadRect.idx j : S544x1024.Idx) 0).val = o + (j 0).val := Rect.idx_unit_val _ _ _ j 0
  have e1 : (((Rect.unit ![o, 0] ![512, 1024] inb).toLoadRect.idx j : S544x1024.Idx) 1).val = (j 1).val := (Rect.idx_unit_val _ _ _ j 1).trans (Nat.zero_add _)
  refine (View.canon_append_of_piecesOf (fun y : S544x1024.Idx => past (H m c) (512 * t.val + (y 0).val - 2) (y 1)) [] [_, _] ⟨fun x => ?_, fun x => ?_, trivial⟩ _ ?_).trans ?_
  · have a0 : (((Rect.unit ![32, 0] ![512, 1024] inb_S544x1024_S512x1024_32_0).emb x : S544x1024.Idx) 0).val = 32 + (x 0).val := ValueKit.rect_emb_unit_val _ _ _ x 0
    have a1 : (((Rect.unit ![32, 0] ![512, 1024] inb_S544x1024_S512x1024_32_0).emb x : S544x1024.Idx) 1).val = (x 1).val := (ValueKit.rect_emb_unit_val _ _ _ x 1).trans (Nat.zero_add _)
    refine Eq.trans (?_ : _ = (iblk m c 0 t : S512x1024.Idx → EReal) x) ((blkH m c t x).trans ?_)
    · unfold k0_pay7
      pointwise
    · refine (at_congr (row (H m c)) ?_ a1.symm).trans (if_neg (by rw [a0]; omega)).symm
      rw [a0]
      omega
  · have a0 : (((Rect.unit ![0, 0] ![32, 1024] inb_S544x1024_S32x1024_0_0).emb x : S544x1024.Idx) 0).val = 0 + (x 0).val := ValueKit.rect_emb_unit_val _ _ _ x 0
    have a1 : (((Rect.unit ![0, 0] ![32, 1024] inb_S544x1024_S32x1024_0_0).emb x : S544x1024.Idx) 1).val = (x 1).val := (ValueKit.rect_emb_unit_val _ _ _ x 1).trans (Nat.zero_add _)
    exact (head_piece m c t x).trans (at_congr (past (H m c)) (by rw [a0, Nat.zero_add]) a1.symm)
  · rcases Nat.lt_or_ge (o + (j 0).val) 32 with h | h
    · refine ⟨_, List.mem_cons_of_mem _ List.mem_cons_self, (Rect.mem_set_unit (inb := inb_S544x1024_S32x1024_0_0)).2 fun a => ?_⟩
      match a with
      | ⟨0, _⟩ => exact ⟨le_of_le_of_eq (Nat.zero_le _) rfl, by rw [show (((Rect.unit ![o, 0] ![512, 1024] inb).toLoadRect.idx j : S544x1024.Idx) ⟨0, by decide⟩).val = _ from e0]; show _ < 0 + 32; omega⟩
      | ⟨1, _⟩ => exact ⟨Nat.zero_le _, by rw [show (((Rect.unit ![o, 0] ![512, 1024] inb).toLoadRect.idx j : S544x1024.Idx) ⟨1, by decide⟩).val = _ from e1]; show _ < 0 + 1024; omega⟩
    · refine ⟨_, List.mem_cons_self, (Rect.mem_set_unit (inb := inb_S544x1024_S512x1024_32_0)).2 fun a => ?_⟩
      match a with
      | ⟨0, _⟩ =>
        rw [show (((Rect.unit ![o, 0] ![512, 1024] inb).toLoadRect.idx j : S544x1024.Idx) ⟨0, by decide⟩).val = _ from e0]
        show 32 ≤ _ ∧ _ < 32 + 512
        omega
      | ⟨1, _⟩ => exact ⟨Nat.zero_le _, by rw [show (((Rect.unit ![o, 0] ![512, 1024] inb).toLoadRect.idx j : S544x1024.Idx) ⟨1, by decide⟩).val = _ from e1]; show _ < 0 + 1024; omega⟩
  · exact at_congr (fun n => past (H m c) n) (by rw [e0]) e1

theorem wld (c : Dev nD) (t : Fin cfg0.N) (k : ℕ) (inb : ∀ a, ![k, 0] a + ![1, 1024] a ≤ S31x1024.size a) :
    View.ld (iblk m c 4 t : S31x1024.Idx → EReal) (Rect.unit ![k, 0] ![1, 1024] inb) = tap m c k := by
  funext j
  have hj : (j 0).val < 1 := idx2_lt0 (show (⟨2, ![1, 1024]⟩ : Shape).Idx from j)
  refine (blkW m c t _).trans (at_congr (row (W m c)) ?_ ?_)
  · refine (Rect.idx_unit_val _ _ _ j 0).trans ?_
    show k + (j 0).val = k
    omega
  · exact (Rect.idx_unit_val _ _ _ j 1).trans (Nat.zero_add _)

/-- The input's gradient at a row of tile `t`. -/
def tileDh (c : Dev nD) (t : Fin cfg0.N) : S512x1024.Idx → EReal := fun y => dhAt (D m c) (W m c) (512 * t.val + (y 0).val) (y 1)

/-- Tile `t`'s part of tap `k`'s gradient. -/
def tileDw (c : Dev nD) (t : ℕ) (k : ℕ) (b : Fin 1024) : EReal := ∑ r ∈ range 512, row (D m c) (512 * t + r) b * past (H m c) (k + (512 * t + r)) b

/-- Tile `t`'s part of the bias's gradient. -/
def tileDb (c : Dev nD) (t : ℕ) (b : Fin 1024) : EReal := ∑ r ∈ range 512, row (D m c) (512 * t + r) b

theorem dshift_apply (c : Dev nD) (t : Fin cfg0.N) (o : ℕ) (y : S512x1024.Idx) :
    dshift m c t o y = row (D m c) (o + (512 * t.val + (y 0).val)) (y 1) := at_congr (row (D m c)) (by omega) rfl

theorem tap_apply (c : Dev nD) (k : ℕ) (b : Fin 1024) : tap m c k (Idealize.ShloMosaic.ix2 0 b) = row (W m c) k b := rfl

theorem term5 (c : Dev nD) (t : Fin cfg0.N) (y : S512x1024.Idx) :
    (outsAt0 m c t.val t.isLt).1 y = tileDh m c t y := by
  have key : (outsAt0 m c t.val t.isLt).1 y = ∑ k ∈ range 31, tap m c k (Idealize.ShloMosaic.ix2 0 (y 1)) * dshift m c t (30 - k) y := by
    simp only [Finset.sum_range_succ, Finset.range_zero, Finset.sum_empty, Nat.reduceSub, Nat.sub_zero]
    by_cases h0 : t.val % 16 = 0
    · rw [outsAt0_A m c t h0 (by have := pt t; omega)]
      frame_out
      simp only [dcov, hcov, wld]
      pointwise [k0_pay1, k0_pay10, k0_pay11, k0_pay15, k0_pay20, k0_pay25, k0_pay29, k0_pay31, k0_pay35, k0_pay40, k0_pay45, k0_pay49, k0_pay51]
    · rw [outsAt0_B m c t h0 (by omega)]
      frame_out
      simp only [dcov, hcov, wld]
      pointwise [k0_pay1, k0_pay10, k0_pay11, k0_pay15, k0_pay20, k0_pay25, k0_pay29, k0_pay31, k0_pay35, k0_pay40, k0_pay45, k0_pay49, k0_pay51]
  rw [key]
  unfold tileDh dhAt
  exact Finset.sum_congr rfl fun k _ => by rw [dshift_apply]; rfl

/-- A product of two tiles, summed down its rows. -/
theorem lane (c : Dev nD) (t : Fin cfg0.N) (k : ℕ) (i : S1x1024.Idx) (b : Fin 1024) (hb : (i 1).val = b.val) (hr : S512x1024.Reduces [0] S1024) (hs : S1024.ShapeCasts S1x1024) (h1) :
   shapeCast S1x1024 (multiReduction (F := Ideal) (φ := .f32) .add [0] S1024 (mulf (F := Ideal) (φ := .f32) (iblk m c 2 t) (hshift m c t (k + 2))) 0x00000000#32 hr h1 rfl) hs i
     = tileDw m c t.val k b := by
  have hb' : (i 1 : Fin 1024) = b := Fin.ext hb
  pointwise
  unfold tileDw
  rw [Finset.sum_range]
  refine Finset.sum_congr rfl fun r _ => congrArg₂ (· * ·) ((blkD m c t _).trans (at_congr (row (D m c)) rfl hb)) ?_
  exact at_congr (past (H m c)) (show 512 * t.val + (k + 2 + r.val) - 2 = k + (512 * t.val + r.val) by omega) hb

theorem taps (c : Dev nD) (t : Fin cfg0.N) (y : S31x1024.Idx) (k : ℕ) (b : Fin 1024) (hk : (y 0).val = k) (hb : (y 1).val = b.val) :
    k0_pay2 (F := Ideal) (k0_pay12 (iblk m c 2 t) (hshift m c t 2)) (k0_pay13 (iblk m c 2 t) (hshift m c t 3)) (k0_pay14 (iblk m c 2 t) (hshift m c t 4)) (k0_pay16 (iblk m c 2 t) (hshift m c t 5)) (k0_pay17 (iblk m c 2 t) (hshift m c t 6)) (k0_pay18 (iblk m c 2 t) (hshift m c t 7)) (k0_pay19 (iblk m c 2 t) (hshift m c t 8)) (k0_pay21 (iblk m c 2 t) (hshift m c t 9)) (k0_pay22 (iblk m c 2 t) (hshift m c t 10)) (k0_pay23 (iblk m c 2 t) (hshift m c t 11)) (k0_pay24 (iblk m c 2 t) (hshift m c t 12)) (k0_pay26 (iblk m c 2 t) (hshift m c t 13)) (k0_pay27 (iblk m c 2 t) (hshift m c t 14)) (k0_pay28 (iblk m c 2 t) (hshift m c t 15)) (k0_pay30 (iblk m c 2 t) (hshift m c t 16)) (k0_pay32 (iblk m c 2 t) (hshift m c t 17)) (k0_pay33 (iblk m c 2 t) (hshift m c t 18)) (k0_pay34 (iblk m c 2 t) (hshift m c t 19)) (k0_pay36 (iblk m c 2 t) (hshift m c t 20)) (k0_pay37 (iblk m c 2 t) (hshift m c t 21)) (k0_pay38 (iblk m c 2 t) (hshift m c t 22)) (k0_pay39 (iblk m c 2 t) (hshift m c t 23)) (k0_pay41 (iblk m c 2 t) (hshift m c t 24)) (k0_pay42 (iblk m c 2 t) (hshift m c t 25)) (k0_pay43 (iblk m c 2 t) (hshift m c t 26)) (k0_pay44 (iblk m c 2 t) (hshift m c t 27)) (k0_pay46 (iblk m c 2 t) (hshift m c t 28)) (k0_pay47 (iblk m c 2 t) (hshift m c t 29)) (k0_pay48 (iblk m c 2 t) (hshift m c t 30)) (k0_pay50 (iblk m c 2 t) (hshift m c t 31)) (mulf (iblk m c 2 t) (hshift m c t 32)) y = tileDw m c t.val k b := by
  unfold k0_pay2
  concat_tiles i h
  all_goals
    rw [hk] at h
    subst h
    have hi : (i 1).val = b.val := by omega
    exact lane m c t _ i b hi _ _ _

theorem term6_A (c : Dev nD) (t : Fin cfg0.N) (h0 : t.val % 16 = 0) (y : S31x1024.Idx) (k : ℕ) (b : Fin 1024) (hk : (y 0).val = k) (hb : (y 1).val = b.val) :
    (outsAt0 m c t.val t.isLt).2.1 y = tileDw m c t.val k b := by
  rw [outsAt0_A m c t h0 (by have := pt t; omega)]
  frame_out
  simp only [dcov, hcov, wld]
  exact taps m c t y k b hk hb

theorem term6_B (c : Dev nD) (t : Fin cfg0.N) (h0 : ¬ t.val % 16 = 0) (y : S31x1024.Idx) (k : ℕ) (b : Fin 1024) (hk : (y 0).val = k) (hb : (y 1).val = b.val)  :
    (outsAt0 m c t.val t.isLt).2.1 y = (outsAt0 m c (t.val - 1) (Nat.lt_of_le_of_lt (Nat.sub_le _ _) t.isLt)).2.1 y + tileDw m c t.val k b := by
  rw [outsAt0_B m c t h0 (by omega)]
  frame_out
  simp only [dcov, hcov, wld]
  rw [← taps m c t y k b hk hb]
  unfold k0_pay4
  pointwise

theorem bias (c : Dev nD) (t : Fin cfg0.N) (i : S1x1024.Idx) (b : Fin 1024) (hb : (i 1).val = b.val) :
    k0_pay3 (F := Ideal) (iblk m c 2 t) i = tileDb m c t.val b := by
  unfold k0_pay3
  pointwise
  unfold tileDb
  rw [Finset.sum_range]
  exact Finset.sum_congr rfl fun r _ => (blkD m c t _).trans (at_congr (row (D m c)) rfl hb)

theorem term7_A (c : Dev nD) (t : Fin cfg0.N) (h0 : t.val % 16 = 0) (y : S1x1024.Idx) (b : Fin 1024) (hb : (y 1).val = b.val) :
    (outsAt0 m c t.val t.isLt).2.2 y = tileDb m c t.val b := by
  rw [outsAt0_A m c t h0 (by have := pt t; omega)]
  frame_out
  exact bias m c t y b hb

theorem term7_B (c : Dev nD) (t : Fin cfg0.N) (h0 : ¬ t.val % 16 = 0) (y : S1x1024.Idx) (b : Fin 1024) (hb : (y 1).val = b.val)  :
    (outsAt0 m c t.val t.isLt).2.2 y = (outsAt0 m c (t.val - 1) (Nat.lt_of_le_of_lt (Nat.sub_le _ _) t.isLt)).2.2 y + tileDb m c t.val b := by
  rw [outsAt0_B m c t h0 (by omega)]
  frame_out
  rw [← bias m c t y b hb]
  unfold k0_pay5
  pointwise

theorem last : (15 : ℕ) < cfg0.N := by decide +kernel

theorem acc6 (c : Dev nD) (y : S31x1024.Idx) (k : ℕ) (b : Fin 1024) (hk : (y 0).val = k) (hb : (y 1).val = b.val) :
    ∀ (n : ℕ) (h : n < cfg0.N), (outsAt0 m c n h).2.1 y = ∑ t ∈ range (n + 1), tileDw m c t k b
  | 0, h => by
    rw [term6_A m c ⟨0, h⟩ rfl y k b hk hb, Finset.sum_range_one]
  | n + 1, h => by
    have h16 := pt ⟨n + 1, h⟩
    rw [Finset.sum_range_succ, ← acc6 c y k b hk hb n (by omega)]
    exact term6_B m c ⟨n + 1, h⟩ (by show ¬(n + 1) % 16 = 0; have : n + 1 < 16 := h16; omega) y k b hk hb

theorem acc7 (c : Dev nD) (y : S1x1024.Idx) (b : Fin 1024) (hb : (y 1).val = b.val) :
    ∀ (n : ℕ) (h : n < cfg0.N), (outsAt0 m c n h).2.2 y = ∑ t ∈ range (n + 1), tileDb m c t b
  | 0, h => by
    rw [term7_A m c ⟨0, h⟩ rfl y b hb, Finset.sum_range_one]
  | n + 1, h => by
    have h16 := pt ⟨n + 1, h⟩
    rw [Finset.sum_range_succ, ← acc7 c y b hb n (by omega)]
    exact term7_B m c ⟨n + 1, h⟩ (by show ¬(n + 1) % 16 = 0; have : n + 1 < 16 := h16; omega) y b hb

theorem tiles (f : ℕ → EReal) : ∑ t ∈ range 16, ∑ r ∈ range 512, f (512 * t + r) = ∑ n ∈ range 8192, f n := by
  rw [show 8192 = 16 * 512 from rfl, Finset.sum_range_mul_split]
  exact Finset.sum_congr rfl fun t _ => Finset.sum_congr rfl fun r _ => by rw [Nat.mul_comm 512 t]

theorem dh_eq (c : Dev nD) (i : S8192x1024.Idx) :
    (dats m 0 c).arrAt 5 cfg0.N i = dhAt (D m c) (W m c) (i 0).val (i 1) := by
  refine congrFun (a := i) (g := fun i : S8192x1024.Idx => dhAt (D m c) (W m c) (i 0).val (i 1)) ?_
  refine (dats m 0 c).arrAt_eq_of_covers 5 _ (by decide +kernel) fun t hf y => ?_
  blk_simp
  rw [after0_5]
  refine (term5 m c t y).trans (at_congr (dhAt (D m c) (W m c)) ?_ ?_)
  · show 512 * t.val + (y 0).val = win0_5.index t 0 * 512 + (y 0).val
    rw [(idxs t).2.2.2.2.2.1, Nat.mul_comm]
    rfl
  · blk_simp [(idxs t).2.2.2.2.2.1]

theorem dw_eq (c : Dev nD) (i : S31x1024.Idx) :
    (dats m 0 c).arrAt 6 cfg0.N i = dwAt (H m c) (D m c) (i 0).val (i 1) := by
  refine congrFun (a := i) (g := fun i : S31x1024.Idx => dwAt (H m c) (D m c) (i 0).val (i 1)) ?_
  refine (dats m 0 c).arrAt_eq_of_after_last 6 t0_15 (by decide +kernel) _ fun j => ?_
  blk_simp
  rw [after0_6]
  refine (acc6 m c j (j 0).val (j 1) rfl rfl 15 last).trans ?_
  exact tiles fun n => row (D m c) n (j 1) * past (H m c) ((j 0).val + n) (j 1)

theorem db_eq (c : Dev nD) (i : S1x1024.Idx) :
    (dats m 0 c).arrAt 7 cfg0.N i = dbAt (D m c) (i 1) := by
  refine congrFun (a := i) (g := fun i : S1x1024.Idx => dbAt (D m c) (i 1)) ?_
  refine (dats m 0 c).arrAt_eq_of_after_last 7 t0_15 (by decide +kernel) _ fun j => ?_
  blk_simp
  rw [after0_7]
  refine (acc7 m c j (j 1) rfl 15 last).trans ?_
  exact tiles fun n => row (D m c) n (j 1)

end Cert.KernelIdeal.Taps

end
-- ==== Proof.Fconv.lean ====
/-
  The forward depthwise convolution: kernel and reference end with `Conv.fwdAt` of the same three arrays.
-/
module

public import proofs.«01_k».proof.Proof.ConvRef
public import proofs.«01_k».proof.Proof.ConvKer
public import proofs.«01_k».proof.Proof.Gen.FconvIdeal.Value
public import proofs.«01_k».proof.Proof.Gen.Fconv.Frame
public import proofs.«01_k».proof.Proof.Gen.FconvRefIdeal.Read
public import proofs.«01_k».proof.Defs

@[expose] public section

set_option maxRecDepth 16384

noncomputable section

open Idealize.ShloMosaic Idealize.ShloMosaic.ValueIdx Idealize.ShloMosaic.TcCoe Finset Conv

/-- The causal depthwise convolution of width 31 with a bias, at row `n`, column `c`. -/
def Conv.fwdAt (h : (⟨2, ![8192, 1024]⟩ : Shape).Idx → EReal) (w : (⟨2, ![31, 1024]⟩ : Shape).Idx → EReal) (b : (⟨2, ![1, 1024]⟩ : Shape).Idx → EReal)
    (n : ℕ) (c : Fin 1024) : EReal := row b 0 c + ∑ k ∈ range 31, row w k c * past h (k + n) c

namespace Cert.FconvRefIdeal.Taps

open Cert.FconvRefIdeal Cert.FconvRefIdeal.Gen Cert.FconvRefIdeal.Read

open Cert.ReferenceIdeal.Taps (Arr weight joined)

/-- One tap's product. -/
theorem term (k : ℕ) (x0 : Arr S8192x1024) (x1 : Arr S31x1024) (hw : S31x1024.Slices ![k, 0] S1x1024) (hx : S8222x1024.Slices ![k, 0] S8192x1024) (i : S8192x1024.Idx) :
    mulf (F := Ideal) (φ := .f32) (broadcastInDim S8192x1024 ![0, 1] bcast_S1x1024_S8192x1024_0_1 (broadcastInDim S1x1024 ![1] bcast_S1024_S1x1024_1
      (shapeCast _ (extractStridedSlice S1x1024 ![k, 0] x1 hw) shapeCasts_S1x1024_S1024))) (extractStridedSlice S8192x1024 ![k, 0] (val_main_v1 x0) hx) i
      = row x1 k (i 1) * past x0 (k + (i 0).val) (i 1) := by
  have h0 : (i 0).val < 8192 := idx2_lt0 i
  have hk : k + 8192 ≤ 8222 := hx.2 0
  exact congrArg₂ (· * ·) (weight k x1 hw i) ((extractStridedSlice_apply ![k, 0] (val_main_v1 x0) hx i (ValueIdx.ix2 ⟨k + (i 0).val, by omega⟩ (i 1)) (fun a => match a with
    | ⟨0, _⟩ => rfl
    | ⟨1, _⟩ => (Nat.zero_add _).symm)).trans (joined x0 _ _ _ rfl rfl))

theorem value (x0 : Arr S8192x1024) (x1 : Arr S31x1024) (x2 : Arr S1x1024) (i : S8192x1024.Idx) :
    val_main_v221 x0 x1 x2 i = fwdAt x0 x1 x2 (i 0).val (i 1) := by
  unfold fwdAt
  simp only [val_main_v221_apply, val_main_v220_apply, val_main_v9_apply, val_main_v8_apply, val_main_v16_apply, val_main_v23_apply, val_main_v30_apply, val_main_v37_apply, val_main_v44_apply, val_main_v51_apply, val_main_v58_apply, val_main_v65_apply, val_main_v72_apply, val_main_v79_apply, val_main_v86_apply, val_main_v93_apply, val_main_v100_apply, val_main_v107_apply, val_main_v114_apply, val_main_v121_apply, val_main_v128_apply, val_main_v135_apply, val_main_v142_apply, val_main_v149_apply, val_main_v156_apply, val_main_v163_apply, val_main_v170_apply, val_main_v177_apply, val_main_v184_apply, val_main_v191_apply, val_main_v198_apply, val_main_v205_apply, val_main_v212_apply, val_main_v219_apply, val_main_cst_0_apply, Ideal.addf_def, sum_range_succ, range_zero, sum_empty]
  rw [add_comm]
  refine congrArg₂ (· + ·) (at_row x2 _ rfl rfl) ?_
  iterate 31 refine congrArg₂ (· + ·) ?_ (term _ x0 x1 _ _ i)
  exact Ideal.ofBits_zero_f32

end Cert.FconvRefIdeal.Taps

namespace Cert.FconvIdeal.Taps

open Cert.KernelIdeal.Taps (at_congr)
open Cert.FconvIdeal Cert.FconvIdeal.Gen Cert.FconvIdeal.Value

variable (m : (ℓ : Loc nD τ sig) → Buf (Elt Ideal) ℓ)

abbrev H (c : Dev nD) : (⟨2, ![8192, 1024]⟩ : Shape).Idx → EReal := m ((c : Thread nD τ).loc main_arg0)
abbrev W (c : Dev nD) : (⟨2, ![31, 1024]⟩ : Shape).Idx → EReal := m ((c : Thread nD τ).loc main_arg1)
abbrev B (c : Dev nD) : (⟨2, ![1, 1024]⟩ : Shape).Idx → EReal := m ((c : Thread nD τ).loc main_arg2)

theorem idxs : ∀ t : Fin cfg0.N, win0_0.index t = ![t.val, 0] ∧ win0_1.index t = ![16 * t.val - 1, 0] ∧ win0_2.index t = ![0, 0]
    ∧ win0_3.index t = ![0, 0] ∧ win0_4.index t = ![t.val, 0] ∧ (grid0.coords t 0).val = t.val :=
  (by decide +kernel : ∀ t : Fin grid0.N, _)

theorem pt (t : Fin cfg0.N) : t.val < 16 := lt_of_lt_of_eq t.isLt N_0

theorem blkH (c : Dev nD) (t : Fin cfg0.N) (y : S512x1024.Idx) :
    (iblk m c 0 t : S512x1024.Idx → EReal) y = row (H m c) (512 * t.val + (y 0).val) (y 1) := by
  refine Eq.trans ?_ (at_row (H m c) (ValueIdx.ix2 ⟨512 * t.val + (y 0).val, by have := pt t; have := idx2_lt0 y; omega⟩ (y 1)) rfl rfl)
  blk_ext [iblk, V, (idxs t).1]

theorem blkW (c : Dev nD) (t : Fin cfg0.N) (y : S31x1024.Idx) :
    (iblk m c 2 t : S31x1024.Idx → EReal) y = row (W m c) (y 0).val (y 1) := by
  refine Eq.trans ?_ (at_row (W m c) y rfl rfl)
  blk_ext [iblk, V, (idxs t).2.2.1]

theorem blkB (c : Dev nD) (t : Fin cfg0.N) (y : S1x1024.Idx) : (iblk m c 3 t : S1x1024.Idx → EReal) y = row (B m c) 0 (y 1) := by
  refine Eq.trans ?_ (at_row (B m c) y (by have := idx2_lt0 y; omega) rfl)
  blk_ext [iblk, V, (idxs t).2.2.2.1]

theorem blkHalo (c : Dev nD) (t : Fin cfg0.N) (y : S32x1024.Idx) (h : 1 ≤ t.val) :
    (iblk m c 1 t : S32x1024.Idx → EReal) y = row (H m c) (512 * t.val + (y 0).val - 32) (y 1) := by
  refine Eq.trans ?_ (at_row (H m c) (ValueIdx.ix2 ⟨512 * t.val + (y 0).val - 32, by have := pt t; have := idx2_lt0 y; omega⟩ (y 1)) rfl rfl)
  blk_ext [iblk, V, (idxs t).2.1]

/-- The input's rows, `32 - o` rows before the tile. -/
def hshift (c : Dev nD) (t : Fin cfg0.N) (o : ℕ) : S512x1024.Idx → EReal := fun j => past (H m c) (512 * t.val + (o + (j 0).val) - 2) (j 1)

/-- A row of the taps. -/
def tap (c : Dev nD) (k : ℕ) : S1x1024.Idx → EReal := fun j => row (W m c) k (j 1)

theorem head_piece (c : Dev nD) (t : Fin cfg0.N) (x : S32x1024.Idx) :
    k0_pay2 (F := Ideal) (grid0.coords t) (iblk m c 1 t) x = past (H m c) (512 * t.val + (x 0).val - 2) (x 1) := by
  have h := pt t
  have hc := (idxs t).2.2.2.2.2
  have hx := idx2_lt0 x
  unfold k0_pay2
  by_cases ht : 1 ≤ t.val
  · unfold past
    rw [if_neg (by omega), show 512 * t.val + (x 0).val - 2 - 30 = 512 * t.val + (x 0).val - 32 by omega, ← blkHalo m c t x ht]
    have e : Scalar.cmpi .sgt (BitVec.ofNat 32 (grid0.coords t 0).val) 0#32 = 1#1 := by
      rw [hc]; interval_cases t.val <;> first | rfl | omega
    pointwise [e]
  · unfold past
    rw [if_pos (by omega)]
    have e : Scalar.cmpi .sgt (BitVec.ofNat 32 (grid0.coords t 0).val) 0#32 = 0#1 := by
      rw [hc]; interval_cases t.val <;> first | rfl | omega
    pointwise [e]

theorem hcov (c : Dev nD) (t : Fin cfg0.N) (o : ℕ) (inb : ∀ a : Fin S544x1024.rank, (![o, 0] : Fin 2 → ℕ) a + (![512, 1024] : Fin 2 → ℕ) a ≤ S544x1024.size a) :
    View.readCov (κ := Proc.kind (Proc.tc : Proc τ)) (sp := .vmem) (s := S544x1024) (e := .f32) (Val := Elt Ideal) (View.whole (κ := Kind.tc) cc0_scratch0)
      [⟨Rect.unit ![32, 0] ![512, 1024] inb_S544x1024_S512x1024_32_0, k0_pay3 (F := Ideal) (iblk m c 0 t)⟩,
        ⟨Rect.unit ![0, 0] ![32, 1024] inb_S544x1024_S32x1024_0_0, k0_pay2 (F := Ideal) (grid0.coords t) (iblk m c 1 t)⟩]
      (Rect.unit ![o, 0] ![512, 1024] inb).toLoadRect = hshift m c t o := by
  have ho : o + 512 ≤ 544 := inb 0
  rw [View.readCov_eq_canon']
  funext j
  have hj : (j 0).val < 512 := idx2_lt0 (show (⟨2, ![512, 1024]⟩ : Shape).Idx from j)
  have hj1 : (j 1).val < 1024 := idx2_lt1 (show (⟨2, ![512, 1024]⟩ : Shape).Idx from j)
  have e0 : (((Rect.unit ![o, 0] ![512, 1024] inb).toLoadRect.idx j : S544x1024.Idx) 0).val = o + (j 0).val := Rect.idx_unit_val _ _ _ j 0
  have e1 : (((Rect.unit ![o, 0] ![512, 1024] inb).toLoadRect.idx j : S544x1024.Idx) 1).val = (j 1).val := (Rect.idx_unit_val _ _ _ j 1).trans (Nat.zero_add _)
  refine (View.canon_append_of_piecesOf (fun y : S544x1024.Idx => past (H m c) (512 * t.val + (y 0).val - 2) (y 1)) [] [_, _] ⟨fun x => ?_, fun x => ?_, trivial⟩ _ ?_).trans ?_
  · have a0 : (((Rect.unit ![32, 0] ![512, 1024] inb_S544x1024_S512x1024_32_0).emb x : S544x1024.Idx) 0).val = 32 + (x 0).val := ValueKit.rect_emb_unit_val _ _ _ x 0
    have a1 : (((Rect.unit ![32, 0] ![512, 1024] inb_S544x1024_S512x1024_32_0).emb x : S544x1024.Idx) 1).val = (x 1).val := (ValueKit.rect_emb_unit_val _ _ _ x 1).trans (Nat.zero_add _)
    refine Eq.trans (?_ : _ = (iblk m c 0 t : S512x1024.Idx → EReal) x) ((blkH m c t x).trans ?_)
    · unfold k0_pay3
      pointwise
    · refine (at_congr (row (H m c)) ?_ a1.symm).trans (if_neg (by rw [a0]; omega)).symm
      rw [a0]
      omega
  · have a0 : (((Rect.unit ![0, 0] ![32, 1024] inb_S544x1024_S32x1024_0_0).emb x : S544x1024.Idx) 0).val = 0 + (x 0).val := ValueKit.rect_emb_unit_val _ _ _ x 0
    have a1 : (((Rect.unit ![0, 0] ![32, 1024] inb_S544x1024_S32x1024_0_0).emb x : S544x1024.Idx) 1).val = (x 1).val := (ValueKit.rect_emb_unit_val _ _ _ x 1).trans (Nat.zero_add _)
    exact (head_piece m c t x).trans (at_congr (past (H m c)) (by rw [a0, Nat.zero_add]) a1.symm)
  · rcases Nat.lt_or_ge (o + (j 0).val) 32 with h | h
    · refine ⟨_, List.mem_cons_of_mem _ List.mem_cons_self, (Rect.mem_set_unit (inb := inb_S544x1024_S32x1024_0_0)).2 fun a => ?_⟩
      match a with
      | ⟨0, _⟩ => exact ⟨le_of_le_of_eq (Nat.zero_le _) rfl, by rw [show (((Rect.unit ![o, 0] ![512, 1024] inb).toLoadRect.idx j : S544x1024.Idx) ⟨0, by decide⟩).val = _ from e0]; show _ < 0 + 32; omega⟩
      | ⟨1, _⟩ => exact ⟨Nat.zero_le _, by rw [show (((Rect.unit ![o, 0] ![512, 1024] inb).toLoadRect.idx j : S544x1024.Idx) ⟨1, by decide⟩).val = _ from e1]; show _ < 0 + 1024; omega⟩
    · refine ⟨_, List.mem_cons_self, (Rect.mem_set_unit (inb := inb_S544x1024_S512x1024_32_0)).2 fun a => ?_⟩
      match a with
      | ⟨0, _⟩ =>
        rw [show (((Rect.unit ![o, 0] ![512, 1024] inb).toLoadRect.idx j : S544x1024.Idx) ⟨0, by decide⟩).val = _ from e0]
        show 32 ≤ _ ∧ _ < 32 + 512
        omega
      | ⟨1, _⟩ => exact ⟨Nat.zero_le _, by rw [show (((Rect.unit ![o, 0] ![512, 1024] inb).toLoadRect.idx j : S544x1024.Idx) ⟨1, by decide⟩).val = _ from e1]; show _ < 0 + 1024; omega⟩
  · exact at_congr (fun n => past (H m c) n) (by rw [e0]) e1

theorem wld (c : Dev nD) (t : Fin cfg0.N) (k : ℕ) (inb : ∀ a, ![k, 0] a + ![1, 1024] a ≤ S31x1024.size a) :
    View.ld (iblk m c 2 t : S31x1024.Idx → EReal) (Rect.unit ![k, 0] ![1, 1024] inb) = tap m c k := by
  funext j
  have hj : (j 0).val < 1 := idx2_lt0 (show (⟨2, ![1, 1024]⟩ : Shape).Idx from j)
  refine (blkW m c t _).trans (at_congr (row (W m c)) ?_ ?_)
  · refine (Rect.idx_unit_val _ _ _ j 0).trans ?_
    show k + (j 0).val = k
    omega
  · exact (Rect.idx_unit_val _ _ _ j 1).trans (Nat.zero_add _)

theorem tile (c : Dev nD) (t : Fin cfg0.N) (y : S512x1024.Idx) :
    outsAt0 m c t y = fwdAt (H m c) (W m c) (B m c) (512 * t.val + (y 0).val) (y 1) := by
  have key : outsAt0 m c t y = row (B m c) 0 (y 1) + ∑ k ∈ range 31, tap m c k (Idealize.ShloMosaic.ix2 0 (y 1)) * hshift m c t (k + 2) y := by
    rw [show row (B m c) 0 (y 1) = _ from (blkB m c t (Idealize.ShloMosaic.ix2 0 (y 1))).symm]
    simp only [sum_range_succ, range_zero, sum_empty, zero_add, ← add_assoc, Nat.reduceAdd]
    unfold outsAt0
    frame_out
    simp only [hcov, wld]
    pointwise [k0_pay1, k0_pay4, k0_pay5, k0_pay6, k0_pay7, k0_pay8, k0_pay9]
  rw [key]
  exact congrArg (_ + ·) (sum_congr rfl fun k _ => congrArg (_ * ·) (at_congr (past (H m c)) (by omega) rfl))

theorem value (c : Dev nD) (i : S8192x1024.Idx) :
    (dats m 0 c).arrAt 4 cfg0.N i = fwdAt (H m c) (W m c) (B m c) (i 0).val (i 1) := by
  refine congrFun (a := i) (g := fun i : S8192x1024.Idx => fwdAt (H m c) (W m c) (B m c) (i 0).val (i 1)) ?_
  refine (dats m 0 c).arrAt_eq_of_covers 4 _ (by decide +kernel) fun t hf y => ?_
  blk_simp
  rw [after0_4]
  refine (tile m c t y).trans (at_congr (fwdAt (H m c) (W m c) (B m c)) ?_ ?_)
  · show 512 * t.val + (y 0).val = win0_4.index t 0 * 512 + (y 0).val
    rw [(idxs t).2.2.2.2.1, Nat.mul_comm]
    rfl
  · blk_simp [(idxs t).2.2.2.2.1]

theorem frame_ref : Cert.quiescent_FconvRefIdeal := fun m ρ _ =>
  (θ_run Cert.FconvRefIdeal.defs _ _).mono
    (fun r h => ⟨fun c => (h c).2, sem_eq_zero_of_no_sems (by decide) r.2⟩)
    (Cert.FconvRefIdeal.Value.run (F := Ideal) m ρ)

theorem algebraic : Cert.algebraic_FconvIdeal_FconvRefIdeal := by
  intro m ρ m' ρ' _ hagree
  refine ⟨fun c => (dats m 0 c).arrAt 4 cfg0.N, run_blocks m ρ, ?_⟩
  refine (θ_run Cert.FconvRefIdeal.defs _ _).mono (fun r h c => ⟨(h c).1.trans ?_, (h c).2⟩) (Cert.FconvRefIdeal.Value.run (F := Ideal) m' ρ')
  rw [Cert.FconvRefIdeal.Read.val_main_v221_eq]
  funext i
  refine (Cert.FconvRefIdeal.Taps.value _ _ _ i).trans (Eq.trans ?_ (value m c i).symm)
  exact congrFun (congrFun (congr (congrArg₂ fwdAt (hagree c).1 (hagree c).2.1) (hagree c).2.2) _) _

end Cert.FconvIdeal.Taps

end
-- ==== Proof.Elem.lean ====
/- The calls that work entry by entry, `ActB`, `GeluB`, `Gate`, compute their references. -/
module

public import proofs.«01_k».proof.Defs
public import proofs.«01_k».proof.Proof.Gen.ActB.Frame
public import proofs.«01_k».proof.Proof.Gen.ActBIdeal.Value
public import proofs.«01_k».proof.Proof.Gen.ActBRefIdeal.Read
public import proofs.«01_k».proof.Proof.Gen.GeluB.Frame
public import proofs.«01_k».proof.Proof.Gen.GeluBIdeal.Value
public import proofs.«01_k».proof.Proof.Gen.GeluBRefIdeal.Read
public import proofs.«01_k».proof.Proof.Gen.Gate.Frame
public import proofs.«01_k».proof.Proof.Gen.GateIdeal.Value
public import proofs.«01_k».proof.Proof.Gen.GateRefIdeal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.ValueIdx Idealize.ShloMosaic.TcCoe Idealize.SL.Sem

namespace Cert.GeluBIdeal.Rows

open Cert.GeluBIdeal Cert.GeluBIdeal.Gen Cert.GeluBRefIdeal.Read

variable (m : (ℓ : Loc nD τ sig) → Buf (Elt Ideal) ℓ) (c : Dev nD)

theorem idxs : ∀ t : Fin cfg0.N, win0_0.index t = ![t.val, 0] ∧ win0_1.index t = ![t.val, 0] ∧ win0_2.index t = ![t.val, 0] :=
  (by decide +kernel : ∀ t : Fin grid0.N, _)

theorem pay (a b : S256x1024.Idx → EReal) (A B : S8192x1024.Idx → EReal) (y : S256x1024.Idx) (i : S8192x1024.Idx) (ha : a y = A i) (hb : b y = B i) :
    k0_pay1 (F := Ideal) a b y = val_main_v32 (F := Ideal) A B i := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_cst_apply, val_main_cst_0_apply, val_main_cst_1_apply, val_main_cst_2_apply, val_main_cst_3_apply, val_main_cst_4_apply, val_main_cst_5_apply, val_main_cst_6_apply, val_main_cst_7_apply, val_main_cst_8_apply, ← ha, ← hb]
  unfold k0_pay1
  pointwise
  rw [mul_comm (a y) (a y * a y)]

theorem value : (dats m 0 c).arrAt 2 cfg0.N = val_main_v32 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  refine pay _ _ _ _ y _ ?_ ?_
  · blk_ext [iblk, V, (idxs t).1, (idxs t).2.2]
  · blk_ext [iblk, V, (idxs t).2.1, (idxs t).2.2]

theorem frame_ref : quiescent_GeluBRefIdeal := fun m ρ _ =>
  (θ_run GeluBRefIdeal.defs _ _).mono (fun r h => ⟨fun c => (h c).2, sem_eq_zero_of_no_sems (by decide) r.2⟩) (GeluBRefIdeal.Value.run (F := Ideal) m ρ)

theorem algebraic : algebraic_GeluBIdeal_GeluBRefIdeal := by
  intro m ρ m' ρ' _ hagree
  refine ⟨fun c => (dats m 0 c).arrAt 2 cfg0.N, Value.run_blocks m ρ, ?_⟩
  refine (θ_run GeluBRefIdeal.defs _ _).mono (fun r h c => ⟨(h c).1.trans ?_, (h c).2⟩) (GeluBRefIdeal.Value.run (F := Ideal) m' ρ')
  refine (val_main_v32_eq _ _).trans (Eq.trans ?_ (value m c).symm)
  rw [(hagree c).1, (hagree c).2]

end Cert.GeluBIdeal.Rows

namespace Cert.GateIdeal.Rows

open Cert.GateIdeal Cert.GateIdeal.Gen Cert.GateRefIdeal.Read

variable (m : (ℓ : Loc nD τ sig) → Buf (Elt Ideal) ℓ) (c : Dev nD)

theorem idxs : ∀ t : Fin cfg0.N, win0_0.index t = ![t.val, 0] ∧ win0_1.index t = ![0, 0] ∧ win0_2.index t = ![t.val, 0] :=
  (by decide +kernel : ∀ t : Fin grid0.N, _)

theorem pay (a : S256x2048.Idx → EReal) (b : S1x2048.Idx → EReal) (A : S8192x2048.Idx → EReal) (y : S256x1024.Idx) (i : S8192x1024.Idx)
    (ha : ∀ k : Fin 2048, a (ValueIdx.ix2 (y 0) k) = A (ValueIdx.ix2 (i 0) k)) (h1 : (y 1).val = (i 1).val) :
    k0_pay1 (F := Ideal) a b y = val_main_v10 (F := Ideal) A b i := by
  simp only [val_main_v0_apply, val_main_v1_apply, val_main_v2_apply, val_main_v3_apply, val_main_v4_apply, val_main_v5_apply, val_main_v6_apply, val_main_v7_apply, val_main_v8_apply, val_main_v9_apply, val_main_v10_apply, val_main_cst_apply, val_main_cst_0_apply]
  unfold k0_pay1
  have hy : (y 1).val < 1024 := idx2_lt1 y
  pointwise
  have e0 : ∀ j : S8192x2048.Idx, idx_main_v0 j = ValueIdx.ix2 0 (j 1) := fun j => by
    funext d
    match d with | ⟨0, _⟩ => rfl | ⟨1, _⟩ => rfl
  have e2 : idx_main_v2 i = ValueIdx.ix2 (i 0) ⟨(y 1).val, by omega⟩ := by
    funext d
    match d with | ⟨0, _⟩ => rfl | ⟨1, _⟩ => exact Fin.ext h1.symm
  have e3 : idx_main_v3 i = ValueIdx.ix2 (i 0) ⟨1024 + (y 1).val, by omega⟩ := by
    funext d
    match d with | ⟨0, _⟩ => rfl | ⟨1, _⟩ => exact Fin.ext (congrArg (1024 + ·) h1.symm)
  rw [show A (idx_main_v2 i) = _ from (congrArg A e2).trans (ha _).symm, show A (idx_main_v3 i) = _ from (congrArg A e3).trans (ha _).symm,
    show b (idx_main_v0 (idx_main_v2 i)) = _ from congrArg b ((e0 _).trans (congrArg (fun j => ValueIdx.ix2 0 (j 1)) e2)),
    show b (idx_main_v0 (idx_main_v3 i)) = _ from congrArg b ((e0 _).trans (congrArg (fun j => ValueIdx.ix2 0 (j 1)) e3))]
  rfl

theorem value : (dats m 0 c).arrAt 2 cfg0.N = val_main_v10 (F := Ideal) (m ((c : Thread nD τ).loc main_arg0)) (m ((c : Thread nD τ).loc main_arg1)) := by
  have hb : ∀ t : Fin cfg0.N, (iblk m c 1 t : S1x2048.Idx → EReal) = m ((c : Thread nD τ).loc main_arg1) := fun t => by
    funext y
    blk_ext [iblk, V, (idxs t).2.1]
  refine (dats m 0 c).arrAt_eq_of_covers 2 _ (by decide +kernel) fun t hf y => ?_
  blk_simp
  rw [after0_2]
  unfold out0_2
  frame_out
  rw [show iblk m c 1 t = _ from hb t]
  refine pay _ _ _ y _ (fun k => ?_) ?_
  · blk_ext [iblk, V, (idxs t).1, (idxs t).2.2]
    show t.val * 256 + (y 0).val = (((View.whole main_v0).slice (win0_2.rect t)).emb y 0).val
    blk_simp [(idxs t).2.2]
  · blk_simp [(idxs t).2.2]

theorem frame_ref : quiescent_GateRefIdeal := fun m ρ _ =>
  (θ_run GateRefIdeal.defs _ _).mono (fun r h => ⟨fun c => (h c).2, sem_eq_zero_of_no_sems (by decide) r.2⟩) (GateRefIdeal.Value.run (F := Ideal) m ρ)

theorem algebraic : algebraic_GateIdeal_GateRefIdeal := by
  intro m ρ m' ρ' _ hagree
  refine ⟨fun c => (dats m 0 c).arrAt 2 cfg0.N, Value.run_blocks m ρ, ?_⟩
  refine (θ_run GateRefIdeal.defs _ _).mono (fun r h c => ⟨(h c).1.trans ?_, (h c).2⟩) (GateRefIdeal.Value.run (F := Ideal) m' ρ')
  refine (val_main_v10_eq _ _).trans (Eq.trans ?_ (value m c).symm)
  rw [(hagree c).1, (hagree c).2]

end Cert.GateIdeal.Rows

namespace Cert.ActBIdeal.Rows

open Cert.ActBIdeal Cert.ActBIdeal.Gen Cert.ActBRefIdeal.Read

variable (m : (ℓ : Loc nD τ sig) → Buf (Elt Ideal) ℓ) (c : Dev nD)

theorem idxs : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem pay (a b d : S256x2816.Idx → EReal) (A B D : S8192x2816.Idx → EReal) (y : S256x5632.Idx) (i : S8192x5632.Idx)
    (ha : ∀ k : Fin 2816, a (ValueIdx.ix2 (y 0) k) = A (ValueIdx.ix2 (i 0) k)) (hb : ∀ k : Fin 2816, b (ValueIdx.ix2 (y 0) k) = B (ValueIdx.ix2 (i 0) k))
    (hd : ∀ k : Fin 2816, d (ValueIdx.ix2 (y 0) k) = D (ValueIdx.ix2 (i 0) k)) (h1 : (y 1).val = (i 1).val) :
    k0_pay1 (F := Ideal) a b d y = val_main_v9 (F := Ideal) A B D i := by
  rw [val_main_v9_apply]
  unfold k0_pay1 val_main_v8
  have hi1 : (i 1).val < 5632 := idx2_lt1 i
  refine (show ∀ (v : S256x5632.Idx → EReal) (w : S8192x5632.Idx → EReal), v y = w i → truncf (F := Ideal) (φ := .f32) .bf16 v bitsLt_bf16_f32 y = FloatOps.truncf (F := Ideal) (φ := .f32) .bf16 ActBRefIdeal.Gen.bitsLt_bf16_f32 (w i) from fun v w h => h) _ _ ?_
  by_cases hn : (i 1).val < 2816
  · rw [concatenate_pair_apply_left (s₁ := S8192x2816) (s₂ := S8192x2816) 1 _ _ _ i rfl (ValueIdx.ix2 (n0 := 8192) (n1 := 2816) (i 0) ⟨(i 1).val, hn⟩) (fun b => match b with | ⟨0, _⟩ => rfl | ⟨1, _⟩ => rfl),
      concatenate_pair_apply_left (s₁ := S256x2816) (s₂ := S256x2816) 1 _ _ _ y rfl (ValueIdx.ix2 (n0 := 256) (n1 := 2816) (y 0) ⟨(i 1).val, hn⟩) (fun b => match b with | ⟨0, _⟩ => rfl | ⟨1, _⟩ => h1.symm)]
    simp only [val_main_v0_apply, val_main_v1_apply, val_main_v2_0_apply, val_main_v2_1_apply, val_main_v2_2_apply, val_main_v3_apply, val_main_v4_apply, val_main_v5_apply, val_main_v6_apply, val_main_v7_apply, val_main_call0_v0_apply, val_main_call0_v1_apply, val_main_call0_v2_apply, val_main_call0_v3_apply, val_main_call0_v4_apply, val_main_call0_v6_apply, val_main_call0_v7_apply, val_main_call1_v0_apply, val_main_call1_v1_apply, val_main_call1_v2_apply, val_main_call0_cst_apply, val_main_call0_cst_0_apply, val_main_call0_cst_1_apply]
    pointwise [← ha, ← hb, ← hd]
    rfl
  · rw [concatenate_pair_apply_right (s₁ := S8192x2816) (s₂ := S8192x2816) 1 _ _ _ i rfl rfl (ValueIdx.ix2 (n0 := 8192) (n1 := 2816) (i 0) ⟨(i 1).val - 2816, by omega⟩)
        (fun b => match b with | ⟨0, _⟩ => fun _ => rfl | ⟨1, _⟩ => fun h => absurd rfl h) (by show (i 1).val - 2816 + 2816 = (i 1).val; omega),
      concatenate_pair_apply_right (s₁ := S256x2816) (s₂ := S256x2816) 1 _ _ _ y rfl rfl (ValueIdx.ix2 (n0 := 256) (n1 := 2816) (y 0) ⟨(i 1).val - 2816, by omega⟩)
        (fun b => match b with | ⟨0, _⟩ => fun _ => rfl | ⟨1, _⟩ => fun h => absurd rfl h) (by show (i 1).val - 2816 + 2816 = (y 1).val; omega)]
    simp only [val_main_v0_apply, val_main_v1_apply, val_main_v2_0_apply, val_main_v2_1_apply, val_main_v2_2_apply, val_main_v3_apply, val_main_v4_apply, val_main_v5_apply, val_main_v6_apply, val_main_v7_apply, val_main_call0_v0_apply, val_main_call0_v1_apply, val_main_call0_v2_apply, val_main_call0_v3_apply, val_main_call0_v4_apply, val_main_call0_v6_apply, val_main_call0_v7_apply, val_main_call1_v0_apply, val_main_call1_v1_apply, val_main_call1_v2_apply, val_main_call0_cst_apply, val_main_call0_cst_0_apply, val_main_call0_cst_1_apply]
    pointwise [← ha, ← hb, ← hd]
    rfl

theorem value : (dats m 0 c).arrAt 3 cfg0.N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  refine pay _ _ _ _ _ _ y _ (fun k => ?_) (fun k => ?_) (fun k => ?_) ?_
  · blk_ext [iblk, V, (idxs t).1, (idxs t).2.2.2]
    show t.val * 256 + (y 0).val = (((View.whole main_v0).slice (win0_3.rect t)).emb y 0).val
    blk_simp [(idxs t).2.2.2]
  · blk_ext [iblk, V, (idxs t).2.1, (idxs t).2.2.2]
    show t.val * 256 + (y 0).val = (((View.whole main_v0).slice (win0_3.rect t)).emb y 0).val
    blk_simp [(idxs t).2.2.2]
  · blk_ext [iblk, V, (idxs t).2.2.1, (idxs t).2.2.2]
    show t.val * 256 + (y 0).val = (((View.whole main_v0).slice (win0_3.rect t)).emb y 0).val
    blk_simp [(idxs t).2.2.2]
  · blk_simp [(idxs t).2.2.2]

theorem frame_ref : quiescent_ActBRefIdeal := fun m ρ _ =>
  (θ_run ActBRefIdeal.defs _ _).mono (fun r h => ⟨fun c => (h c).2, sem_eq_zero_of_no_sems (by decide) r.2⟩) (ActBRefIdeal.Value.run (F := Ideal) m ρ)

theorem algebraic : algebraic_ActBIdeal_ActBRefIdeal := by
  intro m ρ m' ρ' _ hagree
  refine ⟨fun c => (dats m 0 c).arrAt 3 cfg0.N, Value.run_blocks m ρ, ?_⟩
  refine (θ_run ActBRefIdeal.defs _ _).mono (fun r h c => ⟨(h c).1.trans ?_, (h c).2⟩) (ActBRefIdeal.Value.run (F := Ideal) m' ρ')
  refine (val_main_v9_eq _ _ _).trans (Eq.trans ?_ (value m c).symm)
  rw [(hagree c).1, (hagree c).2.1, (hagree c).2.2]

end Cert.ActBIdeal.Rows

end
-- ==== Proof.AttnOwn.lean ====
/-
  Loads and stores through a memref a core owns: a load by a rectangle continues at the part of the memref's values the
  rectangle picks (`pick`), a store by a rectangle leaves the memref's values with that part replaced (`Rect.overlay`).
-/
module

public import Idealize.ShloMosaic.Lib.Memref
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

/-- The values a rectangle picks. -/
def pick {s : Shape} {α : Type} (r : Rect s) (X : s.Idx → α) : r.shape.Idx → α := fun j => X (r.emb j)

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

/-- What a memref reads after a store through it by a rectangle. -/
theorem read_write_access {κ : Kind} {sp : Space} {s : Shape} {e : EltTy} (m : Memref sig κ sp s e) (r : Rect s)
    (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    show _ = r.overlay (m.view.read Val f) w (r.emb i)
    rw [Rect.overlay_emb]
    exact congrFun ((m.access r).read_write_univ f w) i
  · rw [Rect.overlay_of_not_mem _ _ _ hj, View.read_apply, View.read_apply, View.write_of_not_mem]
    rw [show (m.access r).setOn Finset.univ = (m.view.slice r).set from rfl]
    rw [View.set_slice, Finset.mem_map' m.view.emb]; exact hj

variable [Preorder Lvl] {defs : Defs nD τ sig Val Λ} {𝒱 : Variants} {c : Thread nD τ}
  {bd : Option 𝒱.V} {Γ : PendingWaitsCtx sig Ix} {E : Set Name}
variable {s : Shape} {e : EltTy} {α : Type} {Q : α → sProp (MT nD τ sig Ix Val Name U Lvl)}

/-- A load by a rectangle from an owned memref. -/
theorem ld {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (pick r X)) Q)
        -∗ wp frame (wpE' defs 𝒱 c bd Γ) E (.op (.load m r.toLoadRect hl) k) Q) := by
  unfold owns
  iintro ⟨%f, %hf, H⟩ Hk
  have hr : (m.access r).read Val f = pick r X := by
    subst hf; rfl
  iapply (wp_load_rect 𝒱 c bd E (m := m) (r := r) (hl := hl) (View.set_slice_subset _ _)) $$ H
  iintro H
  rw [hr]
  iapply Hk
  iexists f
  isplitr
  · ipureintro; exact hf
  iexact H

/-- A store by a rectangle, whole, through an owned memref. -/
theorem st {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (w := w) (hx := hx) (hm := hm) (View.set_slice_subset _ _)) $$ H
  iintro H
  iapply Hk
  iexists ((m.access r).write Val f w Finset.univ)
  isplitr
  · ipureintro
    rw [read_write_access, hf]
  iexact H

end Cert.Own

end
-- ==== Proof.AttnModel.lean ====
/-
  The attention gradient kernel as functions of the values in its buffers: each value it computes at a grid point, each
  state of its buffers, and its two walks as recursions on the tiles left.
-/
module

public import proofs.«01_k».proof.Proof.Gen.AttnIdeal.Skeleton
public import proofs.«01_k».proof.Proof.AttnOwn

@[expose] public section

noncomputable section

namespace Cert.AttnIdeal.Run

open Cert.AttnIdeal Cert.AttnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The labels are entered at the number of trips left. -/
abbrev 𝒱₀ : Variants := Variants.nat

/-! ### The counter's arithmetic -/

theorem cmpi_slt (x : BitVec 32) (n : Fin 64) (hx : x.toNat ≤ n.val) (h : Scalar.cmpi .slt x (BitVec.ofNat 32 n.val) = 1#1) :
    x.toNat < n.val := by
  have hn := n.isLt
  rcases Nat.lt_or_ge x.toNat n.val with h' | h'
  · exact h'
  have e : x = BitVec.ofNat 32 n.val := BitVec.eq_of_toNat_eq (by rw [BitVec.toNat_ofNat, Nat.mod_eq_of_lt (by omega)]; omega)
  subst e
  revert h; revert n
  decide

/-- The test passes only below the row's tile. -/
theorem lt_of_test (x : BitVec 32) (n : Fin 64) (y : BitVec 1) (hx : x.toNat ≤ n.val)
    (h : Scalar.andi (Scalar.cmpi .slt x (BitVec.ofNat 32 n.val)) y = 1#1) : x.toNat < n.val := by
  refine cmpi_slt x n hx ?_
  generalize Scalar.cmpi .slt x (BitVec.ofNat 32 n.val) = z at h
  revert z y; decide

theorem toNat_addi (x : BitVec 32) (n : Fin 64) (h : x.toNat < n.val) : (Scalar.addi x 1#32).toNat = x.toNat + 1 := by
  have := n.isLt
  show (x + 1#32).toNat = _
  rw [BitVec.toNat_add]
  show (x.toNat + 1) % 2 ^ 32 = _
  omega

theorem toNat_addi_le (x : BitVec 32) (n : Fin 64) (h : x.toNat < n.val) : (Scalar.addi x 1#32).toNat ≤ n.val := by
  rw [toNat_addi x n h]; omega

/-- The point of the first column group at the row's tile `n`. -/
def pt (n : Fin 64) : grid0.Coords := fun a => match a with | ⟨0, _⟩ => (0 : Fin 4) | ⟨1, _⟩ => n

theorem chk1_all : ∀ n : Fin 64, ∀ j : Fin 64, j.val < n.val → k0_chk1 (pt n) (BitVec.ofNat 32 j.val) := by
  decide +kernel
theorem chk2_all : ∀ n : Fin 64, ∀ j : Fin 64, j.val < n.val → k0_chk2 (pt n) (BitVec.ofNat 32 j.val) := by
  decide +kernel

theorem ofNat_toNat64 (x : BitVec 32) (n : Fin 64) (h : x.toNat < n.val) :
    x = BitVec.ofNat 32 (⟨x.toNat, lt_trans h n.isLt⟩ : Fin 64).val := by
  refine BitVec.eq_of_toNat_eq ?_
  have := n.isLt
  rw [BitVec.toNat_ofNat, Nat.mod_eq_of_lt]; omega

theorem chk1_of_lt (i : grid0.Coords) (x : BitVec 32) (h : x.toNat < (i 1).val) : k0_chk1 i x := by
  have := chk1_all (i 1) ⟨x.toNat, lt_trans h (i 1).isLt⟩ h
  rw [← ofNat_toNat64 x (i 1) h] at this
  exact this
theorem chk2_of_lt (i : grid0.Coords) (x : BitVec 32) (h : x.toNat < (i 1).val) : k0_chk2 i x := by
  have := chk2_all (i 1) ⟨x.toNat, lt_trans h (i 1).isLt⟩ h
  rw [← ofNat_toNat64 x (i 1) h] at this
  exact this

/-! ### The values -/

/-- The values the label 1 is called with: the grid point, the buffers it reads and writes, the values of the whole walk,
    then the counter and the carried rows. -/
structure W1C (F : FTy → Type) where
  i : grid0.Coords
  (X3 X4 : S8192x256.Idx → Elt F .bf16)
  v5 : Vec F S128x128 .bf16
  v33 : FVec F S128x128 .bf16
  v19 : Vec F S128x128 .bf16
  X11 : S64x128x128.Idx → Elt F .f32
  (v6 v20 : FVec F S128x128 .bf16)
  (v12 v26 : Vec F S128x128 .bf16)
  (v13 v27 : FVec F S128x128 .bf16)
  arg13 : BitVec 32
  (arg14 arg15 arg16 arg17 arg18 arg19 arg20 arg21 : FVec F S128x1 .f32)
  h13 : arg13.toNat ≤ (i 1).val

/-- The test of the walk: the counter below the row's tile, and some row not yet at the floor. -/
def W1C.test (c : W1C F) : Prop :=
  Scalar.andi (Scalar.cmpi .slt c.arg13 (BitVec.ofNat 32 (c.i 1).val))
    (Scalar.cmpf .ogt (k0_pay1 c.arg14 c.arg15 c.arg16 c.arg17) (Named.named κ "floor" 0xC2D00000#32)) = 1#1
theorem W1C.lt (c : W1C F) (h : c.test) : c.arg13.toNat < (c.i 1).val := lt_of_test _ (c.i 1) _ c.h13 h
theorem W1C.chk (c : W1C F) (h : c.test) : k0_chk1 c.i c.arg13 := chk1_of_lt _ _ (c.lt h)
abbrev W1C.arg1 (c : W1C F) : BitVec 32 := BitVec.ofNat 32 (c.i 1).val
namespace W1C
variable (c : W1C F) (h : c.test)
def v433 (h : c.test) : BitVec 32 := Scalar.addi c.arg13 1#32
def v434 (h : c.test) : BitVec 32 := Scalar.subi c.arg1 1#32
def v435 : BitVec 32 := Scalar.subi (c.v434 h) c.arg13
def v436 : BitVec 32 := Scalar.muli (c.v435 h) 128#32
def v437 : BitVec 32 := c.v436 h
def v439 := Own.pick (.unit (s := S8192x256) (k0_off7 c.i c.arg13) S128x128.size (k0_off7_inb c.i c.arg13 (c.chk h))) c.X3
def v441 := Own.pick (.unit (s := S8192x256) (k0_off7 c.i c.arg13) S128x128.size (k0_off7_inb c.i c.arg13 (c.chk h))) c.X4
def X11_1 : S64x128x128.Idx → Elt F .f32 := if k0_h6 : k0_cond6 c.i c.arg13 = 1#1 then Rect.overlay (.unit (s := S64x128x128) (k0_off8 c.i c.arg13 3#32) S1x128x128.size (k0_off8_inb c.i c.arg13 (c.chk h) k0_h6 3)) (Rect.overlay (.unit (s := S64x128x128) (k0_off8 c.i c.arg13 2#32) S1x128x128.size (k0_off8_inb c.i c.arg13 (c.chk h) k0_h6 2)) (Rect.overlay (.unit (s := S64x128x128) (k0_off8 c.i c.arg13 1#32) S1x128x128.size (k0_off8_inb c.i c.arg13 (c.chk h) k0_h6 1)) (Rect.overlay (.unit (s := S64x128x128) (k0_off8 c.i c.arg13 0#32) S1x128x128.size (k0_off8_inb c.i c.arg13 (c.chk h) k0_h6 0)) c.X11 (k0_pay161 c.v5 (c.v439 h))) (k0_pay162 c.v5 (c.v439 h))) (k0_pay163 c.v5 c.v33 c.arg14 (c.v439 h))) (k0_pay164 c.v5 c.v33 c.v19 c.arg14 (c.v439 h) (c.v441 h)) else c.X11
def v456 := k0_pay157 c.v5 (c.v439 h)
def v470 := k0_pay160 c.v5 c.v33 c.v19 c.arg14 (c.v439 h) (c.v441 h)
def v482 := Own.pick (.unit (s := S8192x256) (k0_off7 c.i c.arg13) S128x128.size (k0_off7_inb c.i c.arg13 (c.chk h))) c.X3
def v484 := Own.pick (.unit (s := S8192x256) (k0_off7 c.i c.arg13) S128x128.size (k0_off7_inb c.i c.arg13 (c.chk h))) c.X4
def X11_2 : S64x128x128.Idx → Elt F .f32 := if k0_h7 : k0_cond7 c.i c.arg13 = 1#1 then Rect.overlay (.unit (s := S64x128x128) (k0_off9 c.i c.arg13 3#32) S1x128x128.size (k0_off9_inb c.i c.arg13 (c.chk h) k0_h7 3)) (Rect.overlay (.unit (s := S64x128x128) (k0_off9 c.i c.arg13 2#32) S1x128x128.size (k0_off9_inb c.i c.arg13 (c.chk h) k0_h7 2)) (Rect.overlay (.unit (s := S64x128x128) (k0_off9 c.i c.arg13 1#32) S1x128x128.size (k0_off9_inb c.i c.arg13 (c.chk h) k0_h7 1)) (Rect.overlay (.unit (s := S64x128x128) (k0_off9 c.i c.arg13 0#32) S1x128x128.size (k0_off9_inb c.i c.arg13 (c.chk h) k0_h7 0)) ((c.X11_1 h)) (k0_pay173 c.v6 (c.v482 h))) (k0_pay174 c.v6 (c.v482 h))) (k0_pay175 c.v33 c.v6 c.arg15 (c.v482 h))) (k0_pay176 c.v33 c.v6 c.v20 c.arg15 (c.v482 h) (c.v484 h)) else (c.X11_1 h)
def v477 := k0_pay165 c.arg14 (c.v456 h)
def v480 := k0_pay166 c.arg18 (c.v470 h)
def v499 := k0_pay169 c.v6 (c.v482 h)
def v513 := k0_pay172 c.v33 c.v6 c.v20 c.arg15 (c.v482 h) (c.v484 h)
def v525 := Own.pick (.unit (s := S8192x256) (k0_off10 c.i c.arg13) S128x128.size (k0_off10_inb c.i c.arg13 (c.chk h))) c.X3
def v527 := Own.pick (.unit (s := S8192x256) (k0_off10 c.i c.arg13) S128x128.size (k0_off10_inb c.i c.arg13 (c.chk h))) c.X4
def X11_3 : S64x128x128.Idx → Elt F .f32 := if k0_h8 : k0_cond8 c.i c.arg13 = 1#1 then Rect.overlay (.unit (s := S64x128x128) (k0_off11 c.i c.arg13 3#32) S1x128x128.size (k0_off11_inb c.i c.arg13 (c.chk h) k0_h8 3)) (Rect.overlay (.unit (s := S64x128x128) (k0_off11 c.i c.arg13 2#32) S1x128x128.size (k0_off11_inb c.i c.arg13 (c.chk h) k0_h8 2)) (Rect.overlay (.unit (s := S64x128x128) (k0_off11 c.i c.arg13 1#32) S1x128x128.size (k0_off11_inb c.i c.arg13 (c.chk h) k0_h8 1)) (Rect.overlay (.unit (s := S64x128x128) (k0_off11 c.i c.arg13 0#32) S1x128x128.size (k0_off11_inb c.i c.arg13 (c.chk h) k0_h8 0)) ((c.X11_2 h)) (k0_pay185 c.v12 (c.v525 h))) (k0_pay186 c.v12 (c.v525 h))) (k0_pay187 c.v33 c.v12 c.arg16 (c.v525 h))) (k0_pay188 c.v33 c.v12 c.v26 c.arg16 (c.v525 h) (c.v527 h)) else (c.X11_2 h)
def v520 := k0_pay177 c.arg15 (c.v499 h)
def v523 := k0_pay178 c.arg19 (c.v513 h)
def v556 := k0_pay184 c.v33 c.v12 c.v26 c.arg16 (c.v525 h) (c.v527 h)
def v561 := k0_pay189 c.v12 (c.v525 h)
def v568 := Own.pick (.unit (s := S8192x256) (k0_off10 c.i c.arg13) S128x128.size (k0_off10_inb c.i c.arg13 (c.chk h))) c.X3
def v570 := Own.pick (.unit (s := S8192x256) (k0_off10 c.i c.arg13) S128x128.size (k0_off10_inb c.i c.arg13 (c.chk h))) c.X4
def X11_4 : S64x128x128.Idx → Elt F .f32 := if k0_h9 : k0_cond9 c.i c.arg13 = 1#1 then Rect.overlay (.unit (s := S64x128x128) (k0_off12 c.i c.arg13 3#32) S1x128x128.size (k0_off12_inb c.i c.arg13 (c.chk h) k0_h9 3)) (Rect.overlay (.unit (s := S64x128x128) (k0_off12 c.i c.arg13 2#32) S1x128x128.size (k0_off12_inb c.i c.arg13 (c.chk h) k0_h9 2)) (Rect.overlay (.unit (s := S64x128x128) (k0_off12 c.i c.arg13 1#32) S1x128x128.size (k0_off12_inb c.i c.arg13 (c.chk h) k0_h9 1)) (Rect.overlay (.unit (s := S64x128x128) (k0_off12 c.i c.arg13 0#32) S1x128x128.size (k0_off12_inb c.i c.arg13 (c.chk h) k0_h9 0)) ((c.X11_3 h)) (k0_pay198 c.v13 (c.v568 h))) (k0_pay199 c.v13 (c.v568 h))) (k0_pay200 c.v33 c.v13 c.arg17 (c.v568 h))) (k0_pay201 c.v33 c.v13 c.v27 c.arg17 (c.v568 h) (c.v570 h)) else (c.X11_3 h)
def v563 := k0_pay190 c.arg16 (c.v561 h)
def v566 := k0_pay191 c.arg20 (c.v556 h)
def v599 := k0_pay197 c.v33 c.v13 c.v27 c.arg17 (c.v568 h) (c.v570 h)
def v605 := k0_pay202 c.v13 (c.v568 h)

end W1C

/-- One trip of the walk. -/
def W1C.step (c : W1C F) (h : c.test) : W1C F :=
  { c with X11 := c.X11_4 h, arg13 := c.v433 h, arg14 := c.v477 h, arg15 := c.v520 h, arg16 := c.v563 h, arg17 := k0_pay2 c.arg17 (c.v605 h), arg18 := c.v480 h, arg19 := c.v523 h, arg20 := c.v566 h, arg21 := k0_pay3 c.arg21 (c.v599 h), h13 := toNat_addi_le _ (c.i 1) (c.lt h) }
theorem W1C.step_lt (c : W1C F) (h : c.test) :
    ((c.step h).i 1).val - (c.step h).arg13.toNat < (c.i 1).val - c.arg13.toNat := by
  show (c.i 1).val - (Scalar.addi c.arg13 1#32).toNat < _
  have := c.lt h; rw [toNat_addi _ (c.i 1) this]; omega
instance (c : W1C F) : Decidable c.test := inferInstanceAs (Decidable (_ = _))
/-- The walk to its end: trips while the test passes. -/
def W1C.final (c : W1C F) : W1C F := if h : c.test then (c.step h).final else c
termination_by (c.i 1).val - c.arg13.toNat
decreasing_by exact c.step_lt h
theorem W1C.final_pos (c : W1C F) (h : c.test) : c.final = (c.step h).final := by
  rw [W1C.final, dif_pos h]
theorem W1C.final_neg (c : W1C F) (h : ¬c.test) : c.final = c := by
  rw [W1C.final, dif_neg h]
/-- What every trip keeps holds at the walk's end. -/
theorem W1C.final_ind (P : W1C F → Prop) (hs : ∀ c h, P c → P (c.step h)) (c : W1C F) (hc : P c) : P c.final := by
  suffices H : ∀ n, ∀ c : W1C F, (c.i 1).val - c.arg13.toNat = n → P c → P c.final from H _ c rfl hc
  intro n
  induction n using Nat.strong_induction_on with
  | _ n ih =>
    intro c hn hc
    by_cases h : c.test
    · rw [c.final_pos h]; exact ih _ (hn ▸ c.step_lt h) (c.step h) rfl (hs c h hc)
    · rw [c.final_neg h]; exact hc

theorem W1C.final_X3 (c : W1C F) : c.final.X3 = c.X3 := W1C.final_ind (fun c' => c'.X3 = c.X3) (fun _ _ h => h) c rfl

theorem W1C.final_X4 (c : W1C F) : c.final.X4 = c.X4 := W1C.final_ind (fun c' => c'.X4 = c.X4) (fun _ _ h => h) c rfl

/-- The values the label 2 is called with: the grid point, the buffers it reads and writes, the values of the whole walk,
    then the counter and the carried rows. -/
structure W2C (F : FTy → Type) where
  i : grid0.Coords
  X3 : S8192x256.Idx → Elt F .bf16
  X11 : S64x128x128.Idx → Elt F .f32
  X4 : S8192x256.Idx → Elt F .bf16
  v5 : Vec F S128x128 .bf16
  v33 : FVec F S128x128 .bf16
  v19 : Vec F S128x128 .bf16
  v37 : FVec F S128x128 .bf16
  v233_5 : FVec F S128x1 .f32
  (v6 v20 : FVec F S128x128 .bf16)
  v233_6 : FVec F S128x1 .f32
  (v12 v26 : Vec F S128x128 .bf16)
  v233_7 : FVec F S128x1 .f32
  (v13 v27 : FVec F S128x128 .bf16)
  v233_8 : FVec F S128x1 .f32
  (X9 X10 : S8192x256.Idx → Elt F .f32)
  arg13 : BitVec 32
  (arg14 arg15 arg16 arg17 arg18 arg19 arg20 arg21 : FVec F S128x1 .f32)
  (arg22 arg23 arg24 arg25 : FVec F S128x128 .f32)
  h13 : arg13.toNat ≤ (i 1).val

/-- The test of the walk: the counter below the row's tile, and some row not yet at the floor. -/
def W2C.test (c : W2C F) : Prop :=
  Scalar.andi (Scalar.cmpi .slt c.arg13 (BitVec.ofNat 32 (c.i 1).val))
    (Scalar.cmpf .ogt (k0_pay4 c.arg14 c.arg15 c.arg16 c.arg17) (Named.named κ "floor" 0xC2D00000#32)) = 1#1
theorem W2C.lt (c : W2C F) (h : c.test) : c.arg13.toNat < (c.i 1).val := lt_of_test _ (c.i 1) _ c.h13 h
theorem W2C.chk (c : W2C F) (h : c.test) : k0_chk2 c.i c.arg13 := chk2_of_lt _ _ (c.lt h)
abbrev W2C.arg1 (c : W2C F) : BitVec 32 := BitVec.ofNat 32 (c.i 1).val
namespace W2C
variable (c : W2C F) (h : c.test)
def v433 (h : c.test) : BitVec 32 := Scalar.addi c.arg13 1#32
def v434 (h : c.test) : BitVec 32 := Scalar.subi c.arg1 1#32
def v435 : BitVec 32 := Scalar.subi (c.v434 h) c.arg13
def v436 : BitVec 32 := Scalar.muli (c.v435 h) 128#32
def v437 : BitVec 32 := c.v436 h
def v439 := Own.pick (.unit (s := S8192x256) (k0_off21 c.i c.arg13) S128x128.size (k0_off21_inb c.i c.arg13 (c.chk h))) c.X3
def v444 : FVec F S128x128 .f32 × FVec F S128x128 .f32 × FVec F S128x128 .f32 × FVec F S128x128 .f32 := if k0_h14 : k0_cond14 c.i c.arg13 = 1#1 then (k0_pay203 (Own.pick (.unit (s := S64x128x128) (k0_off22 c.i c.arg13 0#32) S1x128x128.size (k0_off22_inb c.i c.arg13 (c.chk h) k0_h14 0)) c.X11), k0_pay204 (Own.pick (.unit (s := S64x128x128) (k0_off22 c.i c.arg13 1#32) S1x128x128.size (k0_off22_inb c.i c.arg13 (c.chk h) k0_h14 1)) c.X11), k0_pay205 (Own.pick (.unit (s := S64x128x128) (k0_off22 c.i c.arg13 2#32) S1x128x128.size (k0_off22_inb c.i c.arg13 (c.chk h) k0_h14 2)) c.X11), k0_pay206 (Own.pick (.unit (s := S64x128x128) (k0_off22 c.i c.arg13 3#32) S1x128x128.size (k0_off22_inb c.i c.arg13 (c.chk h) k0_h14 3)) c.X11)) else (k0_pay209 c.v5 (c.v439 h), k0_pay210 c.v5 (c.v439 h), k0_pay211 c.v5 c.v33 c.arg14 (c.v439 h), k0_pay212 c.v5 c.v33 c.v19 c.arg14 (c.v439 h) (Own.pick (.unit (s := S8192x256) (k0_off23 c.i c.arg13) S128x128.size (k0_off23_inb c.i c.arg13 (c.chk h) k0_h14)) c.X4))
def v444_0 := (c.v444 h).1
def v444_1 := (c.v444 h).2.1
def v444_2 := (c.v444 h).2.2.1
def v444_3 := (c.v444 h).2.2.2
def v476 := Own.pick (.unit (s := S8192x256) (k0_off21 c.i c.arg13) S128x128.size (k0_off21_inb c.i c.arg13 (c.chk h))) c.X3
def v464 := k0_pay214 c.v5 c.v37 c.v233_5 c.arg18 (c.v444_0 h) (c.v444_1 h) (c.v444_3 h)
def v466 := k0_pay215 c.v19 (c.v444_2 h)
def v468 := k0_pay216 c.v37 c.v233_5 c.arg18 c.arg22 (c.v439 h) (c.v444_0 h) (c.v444_1 h) (c.v444_3 h)
def v471 := k0_pay217 c.arg14 (c.v444_0 h)
def v474 := k0_pay218 c.arg18 (c.v444_3 h)
def v481 : FVec F S128x128 .f32 × FVec F S128x128 .f32 × FVec F S128x128 .f32 × FVec F S128x128 .f32 := if k0_h15 : k0_cond15 c.i c.arg13 = 1#1 then (k0_pay219 (Own.pick (.unit (s := S64x128x128) (k0_off24 c.i c.arg13 0#32) S1x128x128.size (k0_off24_inb c.i c.arg13 (c.chk h) k0_h15 0)) c.X11), k0_pay220 (Own.pick (.unit (s := S64x128x128) (k0_off24 c.i c.arg13 1#32) S1x128x128.size (k0_off24_inb c.i c.arg13 (c.chk h) k0_h15 1)) c.X11), k0_pay221 (Own.pick (.unit (s := S64x128x128) (k0_off24 c.i c.arg13 2#32) S1x128x128.size (k0_off24_inb c.i c.arg13 (c.chk h) k0_h15 2)) c.X11), k0_pay222 (Own.pick (.unit (s := S64x128x128) (k0_off24 c.i c.arg13 3#32) S1x128x128.size (k0_off24_inb c.i c.arg13 (c.chk h) k0_h15 3)) c.X11)) else (k0_pay225 c.v6 (c.v476 h), k0_pay226 c.v6 (c.v476 h), k0_pay227 c.v33 c.v6 c.arg15 (c.v476 h), k0_pay228 c.v33 c.v6 c.v20 c.arg15 (c.v476 h) (Own.pick (.unit (s := S8192x256) (k0_off25 c.i c.arg13) S128x128.size (k0_off25_inb c.i c.arg13 (c.chk h) k0_h15)) c.X4))
def v481_0 := (c.v481 h).1
def v481_1 := (c.v481 h).2.1
def v481_2 := (c.v481 h).2.2.1
def v481_3 := (c.v481 h).2.2.2
def v515 := Own.pick (.unit (s := S8192x256) (k0_off26 c.i c.arg13) S128x128.size (k0_off26_inb c.i c.arg13 (c.chk h))) c.X3
def v520 : FVec F S128x128 .f32 × FVec F S128x128 .f32 × FVec F S128x128 .f32 × FVec F S128x128 .f32 := if k0_h16 : k0_cond16 c.i c.arg13 = 1#1 then (k0_pay235 (Own.pick (.unit (s := S64x128x128) (k0_off27 c.i c.arg13 0#32) S1x128x128.size (k0_off27_inb c.i c.arg13 (c.chk h) k0_h16 0)) c.X11), k0_pay236 (Own.pick (.unit (s := S64x128x128) (k0_off27 c.i c.arg13 1#32) S1x128x128.size (k0_off27_inb c.i c.arg13 (c.chk h) k0_h16 1)) c.X11), k0_pay237 (Own.pick (.unit (s := S64x128x128) (k0_off27 c.i c.arg13 2#32) S1x128x128.size (k0_off27_inb c.i c.arg13 (c.chk h) k0_h16 2)) c.X11), k0_pay238 (Own.pick (.unit (s := S64x128x128) (k0_off27 c.i c.arg13 3#32) S1x128x128.size (k0_off27_inb c.i c.arg13 (c.chk h) k0_h16 3)) c.X11)) else (k0_pay241 c.v12 (c.v515 h), k0_pay242 c.v12 (c.v515 h), k0_pay243 c.v33 c.v12 c.arg16 (c.v515 h), k0_pay244 c.v33 c.v12 c.v26 c.arg16 (c.v515 h) (Own.pick (.unit (s := S8192x256) (k0_off28 c.i c.arg13) S128x128.size (k0_off28_inb c.i c.arg13 (c.chk h) k0_h16)) c.X4))
def v520_0 := (c.v520 h).1
def v520_1 := (c.v520 h).2.1
def v520_2 := (c.v520 h).2.2.1
def v520_3 := (c.v520 h).2.2.2
def v504 := k0_pay230 c.v37 c.v6 c.v233_6 c.arg19 (c.v464 h) (c.v481_0 h) (c.v481_1 h) (c.v481_3 h)
def v505 := k0_pay231 c.v20 (c.v466 h) (c.v481_2 h)
def v507 := k0_pay232 c.v37 c.v233_6 c.arg19 c.arg23 (c.v476 h) (c.v481_0 h) (c.v481_1 h) (c.v481_3 h)
def v510 := k0_pay233 c.arg15 (c.v481_0 h)
def v513 := k0_pay234 c.arg19 (c.v481_3 h)
def v521 := k0_pay245 (c.v520_3 h)
def v523 := k0_pay246 (c.v520_3 h)
def v552 := Own.pick (.unit (s := S8192x256) (k0_off26 c.i c.arg13) S128x128.size (k0_off26_inb c.i c.arg13 (c.chk h))) c.X3
def v557 : FVec F S128x128 .f32 × FVec F S128x128 .f32 × FVec F S128x128 .f32 × FVec F S128x128 .f32 := if k0_h17 : k0_cond17 c.i c.arg13 = 1#1 then (k0_pay253 (Own.pick (.unit (s := S64x128x128) (k0_off29 c.i c.arg13 0#32) S1x128x128.size (k0_off29_inb c.i c.arg13 (c.chk h) k0_h17 0)) c.X11), k0_pay254 (Own.pick (.unit (s := S64x128x128) (k0_off29 c.i c.arg13 1#32) S1x128x128.size (k0_off29_inb c.i c.arg13 (c.chk h) k0_h17 1)) c.X11), k0_pay255 (Own.pick (.unit (s := S64x128x128) (k0_off29 c.i c.arg13 2#32) S1x128x128.size (k0_off29_inb c.i c.arg13 (c.chk h) k0_h17 2)) c.X11), k0_pay256 (Own.pick (.unit (s := S64x128x128) (k0_off29 c.i c.arg13 3#32) S1x128x128.size (k0_off29_inb c.i c.arg13 (c.chk h) k0_h17 3)) c.X11)) else (k0_pay259 c.v13 (c.v552 h), k0_pay260 c.v13 (c.v552 h), k0_pay261 c.v33 c.v13 c.arg17 (c.v552 h), k0_pay262 c.v33 c.v13 c.v27 c.arg17 (c.v552 h) (Own.pick (.unit (s := S8192x256) (k0_off30 c.i c.arg13) S128x128.size (k0_off30_inb c.i c.arg13 (c.chk h) k0_h17)) c.X4))
def v557_0 := (c.v557 h).1
def v557_1 := (c.v557 h).2.1
def v557_2 := (c.v557 h).2.2.1
def v557_3 := (c.v557 h).2.2.2
def v540 := k0_pay248 c.v37 c.v12 c.v233_7 c.arg20 (c.v520_0 h) (c.v520_1 h) (c.v520_3 h) (c.v521 h) (c.v523 h)
def v542 := k0_pay249 c.v26 (c.v520_2 h)
def v544 := k0_pay250 c.v37 c.v233_7 c.arg20 c.arg24 (c.v515 h) (c.v520_0 h) (c.v520_1 h) (c.v520_3 h) (c.v521 h) (c.v523 h)
def v547 := k0_pay251 c.arg16 (c.v520_0 h)
def v550 := k0_pay252 c.arg20 (c.v520_3 h)
def v568 := k0_pay263 c.v37 c.v233_8 c.arg21 (c.v557_3 h)
def v570 := k0_pay264 (c.v557_0 h) (c.v557_3 h)
def v591 := Own.pick (.unit (s := S8192x256) (k0_off21 c.i c.arg13) S128x128.size (k0_off21_inb c.i c.arg13 (c.chk h))) c.X9
def v594 := Own.pick (.unit (s := S8192x256) (k0_off21 c.i c.arg13) S128x128.size (k0_off21_inb c.i c.arg13 (c.chk h))) c.X9
def X9_1 : S8192x256.Idx → Elt F .f32 := Rect.overlay (.unit (s := S8192x256) (k0_off21 c.i c.arg13) S128x128.size (k0_off21_inb c.i c.arg13 (c.chk h))) c.X9 (k0_pay269 (c.v504 h) (c.v591 h))
def v598 := Own.pick (.unit (s := S8192x256) (k0_off21 c.i c.arg13) S128x128.size (k0_off21_inb c.i c.arg13 (c.chk h))) c.X10
def v601 := Own.pick (.unit (s := S8192x256) (k0_off21 c.i c.arg13) S128x128.size (k0_off21_inb c.i c.arg13 (c.chk h))) c.X10
def X10_1 : S8192x256.Idx → Elt F .f32 := Rect.overlay (.unit (s := S8192x256) (k0_off21 c.i c.arg13) S128x128.size (k0_off21_inb c.i c.arg13 (c.chk h))) c.X10 (k0_pay270 (c.v505 h) (c.v598 h))
def v605 := Own.pick (.unit (s := S8192x256) (k0_off26 c.i c.arg13) S128x128.size (k0_off26_inb c.i c.arg13 (c.chk h))) (c.X9_1 h)
def v608 := Own.pick (.unit (s := S8192x256) (k0_off26 c.i c.arg13) S128x128.size (k0_off26_inb c.i c.arg13 (c.chk h))) (c.X9_1 h)
def X9_2 : S8192x256.Idx → Elt F .f32 := Rect.overlay (.unit (s := S8192x256) (k0_off26 c.i c.arg13) S128x128.size (k0_off26_inb c.i c.arg13 (c.chk h))) (c.X9_1 h) (k0_pay271 c.v13 (c.v540 h) (c.v557_1 h) (c.v568 h) (c.v570 h) (c.v605 h))
def v612 := Own.pick (.unit (s := S8192x256) (k0_off26 c.i c.arg13) S128x128.size (k0_off26_inb c.i c.arg13 (c.chk h))) (c.X10_1 h)
def v583 := k0_pay266 c.arg25 (c.v552 h) (c.v557_1 h) (c.v568 h) (c.v570 h)
def v586 := k0_pay267 c.arg17 (c.v557_0 h)
def v589 := k0_pay268 c.arg21 (c.v557_3 h)
def v613 := k0_pay272 c.v27 (c.v542 h) (c.v557_2 h) (c.v612 h)
def v615 := Own.pick (.unit (s := S8192x256) (k0_off26 c.i c.arg13) S128x128.size (k0_off26_inb c.i c.arg13 (c.chk h))) (c.X10_1 h)
def X10_2 : S8192x256.Idx → Elt F .f32 := Rect.overlay (.unit (s := S8192x256) (k0_off26 c.i c.arg13) S128x128.size (k0_off26_inb c.i c.arg13 (c.chk h))) (c.X10_1 h) (k0_pay5 (c.v613 h))

end W2C

/-- One trip of the walk. -/
def W2C.step (c : W2C F) (h : c.test) : W2C F :=
  { c with X9 := c.X9_2 h, X10 := c.X10_2 h, arg13 := c.v433 h, arg14 := c.v471 h, arg15 := c.v510 h, arg16 := c.v547 h, arg17 := c.v586 h, arg18 := c.v474 h, arg19 := c.v513 h, arg20 := c.v550 h, arg21 := c.v589 h, arg22 := c.v468 h, arg23 := c.v507 h, arg24 := c.v544 h, arg25 := c.v583 h, h13 := toNat_addi_le _ (c.i 1) (c.lt h) }
theorem W2C.step_lt (c : W2C F) (h : c.test) :
    ((c.step h).i 1).val - (c.step h).arg13.toNat < (c.i 1).val - c.arg13.toNat := by
  show (c.i 1).val - (Scalar.addi c.arg13 1#32).toNat < _
  have := c.lt h; rw [toNat_addi _ (c.i 1) this]; omega
instance (c : W2C F) : Decidable c.test := inferInstanceAs (Decidable (_ = _))
/-- The walk to its end: trips while the test passes. -/
def W2C.final (c : W2C F) : W2C F := if h : c.test then (c.step h).final else c
termination_by (c.i 1).val - c.arg13.toNat
decreasing_by exact c.step_lt h
theorem W2C.final_pos (c : W2C F) (h : c.test) : c.final = (c.step h).final := by
  rw [W2C.final, dif_pos h]
theorem W2C.final_neg (c : W2C F) (h : ¬c.test) : c.final = c := by
  rw [W2C.final, dif_neg h]
/-- What every trip keeps holds at the walk's end. -/
theorem W2C.final_ind (P : W2C F → Prop) (hs : ∀ c h, P c → P (c.step h)) (c : W2C F) (hc : P c) : P c.final := by
  suffices H : ∀ n, ∀ c : W2C F, (c.i 1).val - c.arg13.toNat = n → P c → P c.final from H _ c rfl hc
  intro n
  induction n using Nat.strong_induction_on with
  | _ n ih =>
    intro c hn hc
    by_cases h : c.test
    · rw [c.final_pos h]; exact ih _ (hn ▸ c.step_lt h) (c.step h) rfl (hs c h hc)
    · rw [c.final_neg h]; exact hc

theorem W2C.final_X3 (c : W2C F) : c.final.X3 = c.X3 := W2C.final_ind (fun c' => c'.X3 = c.X3) (fun _ _ h => h) c rfl

theorem W2C.final_X11 (c : W2C F) : c.final.X11 = c.X11 := W2C.final_ind (fun c' => c'.X11 = c.X11) (fun _ _ h => h) c rfl

theorem W2C.final_X4 (c : W2C F) : c.final.X4 = c.X4 := W2C.final_ind (fun c' => c'.X4 = c.X4) (fun _ _ h => h) c rfl

/-- The values the kernel body is run with at a grid point: the point and what its buffers hold. -/
structure BodyC (F : FTy → Type) where
  i : grid0.Coords
  X2 : S128x256.Idx → Elt F .bf16
  (X3 X4 : S8192x256.Idx → Elt F .bf16)
  X5 : S128x256.Idx → Elt F .bf16
  X6 : S128x256.Idx → Elt F .f32
  (X9 X10 : S8192x256.Idx → Elt F .f32)
  X11 : S64x128x128.Idx → Elt F .f32
namespace BodyC
variable (b : BodyC F)
def arg0 : BitVec 32 := BitVec.ofNat 32 (b.i 0).val
def arg1 : BitVec 32 := BitVec.ofNat 32 (b.i 1).val
def v0 := Own.pick (.unit (s := S128x256) ![0, 0] S128x128.size inb_S128x256_S128x128_0_0) b.X2
def v7 := Own.pick (.unit (s := S128x256) ![0, 128] S128x128.size inb_S128x256_S128x128_0_128) b.X2
def v14 := Own.pick (.unit (s := S128x256) ![0, 0] S128x128.size inb_S128x256_S128x128_0_0) b.X5
def v21 := Own.pick (.unit (s := S128x256) ![0, 128] S128x128.size inb_S128x256_S128x128_0_128) b.X5
def v39 : BitVec 1 := Scalar.cmpi .eq b.arg1 0#32
def v40 : BitVec 32 := Scalar.extui b.v39
def v3 (b : BodyC F) := k0_pay6
def v5 := k0_pay8 b.v0
def v6 := k0_pay9 b.v0
def v12 := k0_pay12 b.v7
def v13 := k0_pay13 b.v7
def v19 := k0_pay16 b.v14
def v20 := k0_pay17 b.v14
def v26 := k0_pay20 b.v21
def v27 := k0_pay21 b.v21
def v33 (b : BodyC F) := k0_pay22 (F := F)
def v37 (b : BodyC F) := k0_pay23 (F := F)
def v38 (b : BodyC F) := k0_pay24
def X9_1 : S8192x256.Idx → Elt F .f32 := if k0_h1 : (Scalar.cmpi .ne b.v40 0#32) = 1#1 then Rect.overlay (.unit (s := S8192x256) ![0, 0] S8192x256.size inb_S8192x256_S8192x256_0_0) (b.X9) (k0_pay25 (F := F)) else b.X9
def X10_1 : S8192x256.Idx → Elt F .f32 := if k0_h1 : (Scalar.cmpi .ne b.v40 0#32) = 1#1 then Rect.overlay (.unit (s := S8192x256) ![0, 0] S8192x256.size inb_S8192x256_S8192x256_0_0) (b.X10) (k0_pay26 (F := F)) else b.X10
def v43 : BitVec 32 := Scalar.muli b.arg1 128#32
def v44 : BitVec 32 := b.v43
def v46 := Own.pick (.unit (s := S8192x256) (k0_off1 b.i) S128x128.size (k0_off1_inb b.i)) b.X3
def v48 := Own.pick (.unit (s := S8192x256) (k0_off1 b.i) S128x128.size (k0_off1_inb b.i)) b.X4
def v82 : BitVec 32 := Scalar.subi b.arg1 b.arg1
def v42 (b : BodyC F) := k0_pay27 (F := F)
def v65 := k0_pay30 b.v5 b.v38 b.v46
def v66 := k0_pay31 b.v5 b.v46
def v79 := k0_pay32 b.v5 b.v33 b.v38 b.v46
def v81 := k0_pay33 b.v5 b.v19 b.v33 b.v38 b.v46 b.v48
def c4_i32 (b : BodyC F) := 4#32
def X11_1 : S64x128x128.Idx → Elt F .f32 := if k0_h2 : k0_cond2 b.i = 1#1 then Rect.overlay (.unit (s := S64x128x128) (k0_off2 b.i 3#32) S1x128x128.size (k0_off2_inb b.i k0_h2 3)) (Rect.overlay (.unit (s := S64x128x128) (k0_off2 b.i 2#32) S1x128x128.size (k0_off2_inb b.i k0_h2 2)) (Rect.overlay (.unit (s := S64x128x128) (k0_off2 b.i 1#32) S1x128x128.size (k0_off2_inb b.i k0_h2 1)) (Rect.overlay (.unit (s := S64x128x128) (k0_off2 b.i 0#32) S1x128x128.size (k0_off2_inb b.i k0_h2 0)) (b.X11) (k0_pay34 b.v65)) (k0_pay35 b.v66)) (k0_pay36 b.v79)) (k0_pay37 b.v81) else b.X11
def v93 := Own.pick (.unit (s := S8192x256) (k0_off1 b.i) S128x128.size (k0_off1_inb b.i)) b.X3
def v95 := Own.pick (.unit (s := S8192x256) (k0_off1 b.i) S128x128.size (k0_off1_inb b.i)) b.X4
def v88 := k0_pay38 b.v42 b.v65
def v91 := k0_pay39 b.v42 b.v81
def v112 := k0_pay42 b.v6 b.v38 b.v93
def v113 := k0_pay43 b.v6 b.v93
def v126 := k0_pay44 b.v6 b.v33 b.v38 b.v42 b.v93
def X11_2 : S64x128x128.Idx → Elt F .f32 := if k0_h3 : k0_cond3 b.i = 1#1 then Rect.overlay (.unit (s := S64x128x128) (k0_off3 b.i 3#32) S1x128x128.size (k0_off3_inb b.i k0_h3 3)) (Rect.overlay (.unit (s := S64x128x128) (k0_off3 b.i 2#32) S1x128x128.size (k0_off3_inb b.i k0_h3 2)) (Rect.overlay (.unit (s := S64x128x128) (k0_off3 b.i 1#32) S1x128x128.size (k0_off3_inb b.i k0_h3 1)) (Rect.overlay (.unit (s := S64x128x128) (k0_off3 b.i 0#32) S1x128x128.size (k0_off3_inb b.i k0_h3 0)) (b.X11_1) (k0_pay46 b.v112)) (k0_pay47 b.v113)) (k0_pay48 b.v126)) (k0_pay49 b.v20 b.v95 b.v126) else b.X11_1
def v140 := Own.pick (.unit (s := S8192x256) (k0_off4 b.i) S128x128.size (k0_off4_inb b.i)) b.X3
def v142 := Own.pick (.unit (s := S8192x256) (k0_off4 b.i) S128x128.size (k0_off4_inb b.i)) b.X4
def v135 := k0_pay50 b.v42 b.v112
def v138 := k0_pay51 b.v20 b.v42 b.v95 b.v126
def v159 := k0_pay54 b.v12 b.v38 b.v140
def v160 := k0_pay55 b.v12 b.v140
def v168 := k0_pay56 b.v12 b.v33 b.v38 b.v140
def v169 := k0_pay57 b.v42
def X11_3 : S64x128x128.Idx → Elt F .f32 := if k0_h4 : k0_cond4 b.i = 1#1 then Rect.overlay (.unit (s := S64x128x128) (k0_off5 b.i 3#32) S1x128x128.size (k0_off5_inb b.i k0_h4 3)) (Rect.overlay (.unit (s := S64x128x128) (k0_off5 b.i 2#32) S1x128x128.size (k0_off5_inb b.i k0_h4 2)) (Rect.overlay (.unit (s := S64x128x128) (k0_off5 b.i 1#32) S1x128x128.size (k0_off5_inb b.i k0_h4 1)) (Rect.overlay (.unit (s := S64x128x128) (k0_off5 b.i 0#32) S1x128x128.size (k0_off5_inb b.i k0_h4 0)) (b.X11_2) (k0_pay60 b.v159)) (k0_pay61 b.v160)) (k0_pay62 b.v38 b.v168 b.v169)) (k0_pay63 b.v26 b.v38 b.v142 b.v168 b.v169) else b.X11_2
def v187 := Own.pick (.unit (s := S8192x256) (k0_off4 b.i) S128x128.size (k0_off4_inb b.i)) b.X3
def v189 := Own.pick (.unit (s := S8192x256) (k0_off4 b.i) S128x128.size (k0_off4_inb b.i)) b.X4
def v182 := k0_pay64 b.v42 b.v159
def v185 := k0_pay65 b.v26 b.v38 b.v42 b.v142 b.v168 b.v169
def v206 := k0_pay68 b.v13 b.v38 b.v187
def v207 := k0_pay69 b.v13 b.v187
def v211 := k0_pay71 b.v13 b.v38 b.v187
def v212 := k0_pay72 b.v13 b.v33 b.v38 b.v187
def X11_4 : S64x128x128.Idx → Elt F .f32 := if k0_h5 : k0_cond5 b.i = 1#1 then Rect.overlay (.unit (s := S64x128x128) (k0_off6 b.i 3#32) S1x128x128.size (k0_off6_inb b.i k0_h5 3)) (Rect.overlay (.unit (s := S64x128x128) (k0_off6 b.i 2#32) S1x128x128.size (k0_off6_inb b.i k0_h5 2)) (Rect.overlay (.unit (s := S64x128x128) (k0_off6 b.i 1#32) S1x128x128.size (k0_off6_inb b.i k0_h5 1)) (Rect.overlay (.unit (s := S64x128x128) (k0_off6 b.i 0#32) S1x128x128.size (k0_off6_inb b.i k0_h5 0)) (b.X11_3) (k0_pay75 b.v206)) (k0_pay76 b.v207)) (k0_pay77 b.v33 b.v38 b.v42 b.v207 b.v211 b.v212)) (k0_pay78 b.v27 b.v33 b.v38 b.v42 b.v189 b.v207 b.v211 b.v212) else b.X11_3
def w1 : W1C F := { i := b.i, X3 := b.X3, X4 := b.X4, v5 := b.v5, v33 := b.v33, v19 := b.v19, X11 := b.X11_4, v6 := b.v6, v20 := b.v20, v12 := b.v12, v26 := b.v26, v13 := b.v13, v27 := b.v27, arg13 := 0#32, arg14 := b.v88, arg15 := b.v135, arg16 := b.v182, arg17 := k0_pay79 b.v42 b.v206, arg18 := b.v91, arg19 := b.v138, arg20 := b.v185, arg21 := k0_pay80 b.v27 b.v33 b.v38 b.v42 b.v189 b.v207 b.v211 b.v212, h13 := Nat.zero_le _ }
def w1e : W1C F := b.w1.final
def v233_0 := b.w1e.arg13
def v233_1 := b.w1e.arg14
def v233_2 := b.w1e.arg15
def v233_3 := b.w1e.arg16
def v233_4 := b.w1e.arg17
def v233_5 := b.w1e.arg18
def v233_6 := b.w1e.arg19
def v233_7 := b.w1e.arg20
def v233_8 := b.w1e.arg21
def X11_5 : S64x128x128.Idx → Elt F .f32 := b.w1e.X11
def v235 : BitVec 32 := Scalar.muli b.arg1 128#32
def v236 : BitVec 32 := b.v235
def v238 := Own.pick (.unit (s := S8192x256) (k0_off1 b.i) S128x128.size (k0_off1_inb b.i)) b.X3
def v243 : FVec F S128x128 .f32 × FVec F S128x128 .f32 × FVec F S128x128 .f32 × FVec F S128x128 .f32 := if k0_h10 : k0_cond10 b.i = 1#1 then (k0_pay82 (Own.pick (.unit (s := S64x128x128) (k0_off13 b.i 0#32) S1x128x128.size (k0_off13_inb b.i k0_h10 0)) (b.X11_5)), k0_pay83 (Own.pick (.unit (s := S64x128x128) (k0_off13 b.i 1#32) S1x128x128.size (k0_off13_inb b.i k0_h10 1)) (b.X11_5)), k0_pay84 (Own.pick (.unit (s := S64x128x128) (k0_off13 b.i 2#32) S1x128x128.size (k0_off13_inb b.i k0_h10 2)) (b.X11_5)), k0_pay85 (Own.pick (.unit (s := S64x128x128) (k0_off13 b.i 3#32) S1x128x128.size (k0_off13_inb b.i k0_h10 3)) (b.X11_5))) else (k0_pay88 b.v5 b.v38 b.v238, k0_pay89 b.v5 b.v238, k0_pay90 b.v5 b.v33 b.v38 b.v42 b.v238, k0_pay91 b.v5 b.v19 b.v33 b.v38 b.v42 b.v238 (Own.pick (.unit (s := S8192x256) (k0_off14 b.i) S128x128.size (k0_off14_inb b.i k0_h10)) (b.X4)))
def v243_0 := b.v243.1
def v243_1 := b.v243.2.1
def v243_2 := b.v243.2.2.1
def v243_3 := b.v243.2.2.2
def v234 (b : BodyC F) := k0_pay81 (F := F)
def v254 := k0_pay92 b.v37 b.v42 b.v233_5 b.v243_3
def v256 := k0_pay93 b.v243_0 b.v243_3
def v277 := Own.pick (.unit (s := S8192x256) (k0_off1 b.i) S128x128.size (k0_off1_inb b.i)) b.X3
def v282 : FVec F S128x128 .f32 × FVec F S128x128 .f32 × FVec F S128x128 .f32 × FVec F S128x128 .f32 := if k0_h11 : k0_cond11 b.i = 1#1 then (k0_pay100 (Own.pick (.unit (s := S64x128x128) (k0_off15 b.i 0#32) S1x128x128.size (k0_off15_inb b.i k0_h11 0)) (b.X11_5)), k0_pay101 (Own.pick (.unit (s := S64x128x128) (k0_off15 b.i 1#32) S1x128x128.size (k0_off15_inb b.i k0_h11 1)) (b.X11_5)), k0_pay102 (Own.pick (.unit (s := S64x128x128) (k0_off15 b.i 2#32) S1x128x128.size (k0_off15_inb b.i k0_h11 2)) (b.X11_5)), k0_pay103 (Own.pick (.unit (s := S64x128x128) (k0_off15 b.i 3#32) S1x128x128.size (k0_off15_inb b.i k0_h11 3)) (b.X11_5))) else (k0_pay106 b.v6 b.v38 b.v277, k0_pay107 b.v6 b.v277, k0_pay108 b.v6 b.v33 b.v38 b.v42 b.v277, k0_pay109 b.v6 b.v20 b.v33 b.v38 b.v42 b.v277 (Own.pick (.unit (s := S8192x256) (k0_off16 b.i) S128x128.size (k0_off16_inb b.i k0_h11)) (b.X4)))
def v282_0 := b.v282.1
def v282_1 := b.v282.2.1
def v282_2 := b.v282.2.2.1
def v282_3 := b.v282.2.2.2
def v265 := k0_pay95 b.v5 b.v38 b.v243_1 b.v254 b.v256
def v267 := k0_pay96 b.v19 b.v243_2
def v269 := k0_pay97 b.v38 b.v234 b.v238 b.v243_1 b.v254 b.v256
def v272 := k0_pay98 b.v42 b.v243_0
def v275 := k0_pay99 b.v42 b.v243_3
def v302 := k0_pay110 b.v37 b.v38 b.v42 b.v233_6 b.v282_0 b.v282_1 b.v282_3
def v318 := Own.pick (.unit (s := S8192x256) (k0_off4 b.i) S128x128.size (k0_off4_inb b.i)) b.X3
def v323 : FVec F S128x128 .f32 × FVec F S128x128 .f32 × FVec F S128x128 .f32 × FVec F S128x128 .f32 := if k0_h12 : k0_cond12 b.i = 1#1 then (k0_pay117 (Own.pick (.unit (s := S64x128x128) (k0_off17 b.i 0#32) S1x128x128.size (k0_off17_inb b.i k0_h12 0)) (b.X11_5)), k0_pay118 (Own.pick (.unit (s := S64x128x128) (k0_off17 b.i 1#32) S1x128x128.size (k0_off17_inb b.i k0_h12 1)) (b.X11_5)), k0_pay119 (Own.pick (.unit (s := S64x128x128) (k0_off17 b.i 2#32) S1x128x128.size (k0_off17_inb b.i k0_h12 2)) (b.X11_5)), k0_pay120 (Own.pick (.unit (s := S64x128x128) (k0_off17 b.i 3#32) S1x128x128.size (k0_off17_inb b.i k0_h12 3)) (b.X11_5))) else (k0_pay123 b.v12 b.v38 b.v318, k0_pay124 b.v12 b.v318, k0_pay125 b.v12 b.v33 b.v38 b.v42 b.v318, k0_pay126 b.v12 b.v26 b.v33 b.v38 b.v42 b.v318 (Own.pick (.unit (s := S8192x256) (k0_off18 b.i) S128x128.size (k0_off18_inb b.i k0_h12)) (b.X4)))
def v323_0 := b.v323.1
def v323_1 := b.v323.2.1
def v323_2 := b.v323.2.2.1
def v323_3 := b.v323.2.2.2
def cst_117 (b : BodyC F) : FVec F S128x128 .f32 := constant S128x128 .f32 0x00000000#32
def v307 := k0_pay112 b.v6 b.v265 b.v302
def v308 := k0_pay113 b.v20 b.v267 b.v282_2
def v310 := k0_pay114 b.v234 b.v277 b.v302
def v313 := k0_pay115 b.v42 b.v282_0
def v316 := k0_pay116 b.v42 b.v282_3
def v344 := k0_pay127 b.v37 b.v38 b.v42 b.v233_7 b.v323_0 b.v323_1 b.v323_3
def v345 := k0_pay128 b.v12 b.v37 b.v38 b.v42 b.v233_7 b.v323_0 b.v323_1 b.v323_3
def v347 := k0_pay129 b.v26 b.v323_2
def v357 := Own.pick (.unit (s := S8192x256) (k0_off4 b.i) S128x128.size (k0_off4_inb b.i)) b.X3
def v362 : FVec F S128x128 .f32 × FVec F S128x128 .f32 × FVec F S128x128 .f32 × FVec F S128x128 .f32 := if k0_h13 : k0_cond13 b.i = 1#1 then (k0_pay133 (Own.pick (.unit (s := S64x128x128) (k0_off19 b.i 0#32) S1x128x128.size (k0_off19_inb b.i k0_h13 0)) (b.X11_5)), k0_pay134 (Own.pick (.unit (s := S64x128x128) (k0_off19 b.i 1#32) S1x128x128.size (k0_off19_inb b.i k0_h13 1)) (b.X11_5)), k0_pay135 (Own.pick (.unit (s := S64x128x128) (k0_off19 b.i 2#32) S1x128x128.size (k0_off19_inb b.i k0_h13 2)) (b.X11_5)), k0_pay136 (Own.pick (.unit (s := S64x128x128) (k0_off19 b.i 3#32) S1x128x128.size (k0_off19_inb b.i k0_h13 3)) (b.X11_5))) else (k0_pay139 b.v13 b.v38 b.v357, k0_pay140 b.v13 b.v357, k0_pay141 b.v13 b.v33 b.v38 b.v42 b.v357, k0_pay142 b.v13 b.v27 b.v33 b.v38 b.v42 b.v357 (Own.pick (.unit (s := S8192x256) (k0_off20 b.i) S128x128.size (k0_off20_inb b.i k0_h13)) (b.X4)))
def v362_0 := b.v362.1
def v362_1 := b.v362.2.1
def v362_2 := b.v362.2.2.1
def v362_3 := b.v362.2.2.2
def v349 := k0_pay130 b.v234 b.v318 b.v344 b.cst_117
def v352 := k0_pay131 b.v42 b.v323_0
def v355 := k0_pay132 b.v42 b.v323_3
def v387 := k0_pay144 b.v13 b.v37 b.v38 b.v42 b.v233_8 b.v345 b.v362_0 b.v362_1 b.v362_3
def v388 := k0_pay145 b.v27 b.v347 b.v362_2
def v390 := k0_pay146 b.v37 b.v38 b.v42 b.v233_8 b.v234 b.v357 b.v362_0 b.v362_1 b.v362_3
def v393 := k0_pay147 b.v42 b.v362_0
def v398 := Own.pick (.unit (s := S8192x256) (k0_off1 b.i) S128x128.size (k0_off1_inb b.i)) b.X9_1
def v401 := Own.pick (.unit (s := S8192x256) (k0_off1 b.i) S128x128.size (k0_off1_inb b.i)) b.X9_1
def X9_2 : S8192x256.Idx → Elt F .f32 := Rect.overlay (.unit (s := S8192x256) (k0_off1 b.i) S128x128.size (k0_off1_inb b.i)) (b.X9_1) (k0_pay149 b.v307 b.v398)
def v405 := Own.pick (.unit (s := S8192x256) (k0_off1 b.i) S128x128.size (k0_off1_inb b.i)) b.X10_1
def v408 := Own.pick (.unit (s := S8192x256) (k0_off1 b.i) S128x128.size (k0_off1_inb b.i)) b.X10_1
def X10_2 : S8192x256.Idx → Elt F .f32 := Rect.overlay (.unit (s := S8192x256) (k0_off1 b.i) S128x128.size (k0_off1_inb b.i)) (b.X10_1) (k0_pay150 b.v308 b.v405)
def v412 := Own.pick (.unit (s := S8192x256) (k0_off4 b.i) S128x128.size (k0_off4_inb b.i)) b.X9_2
def v415 := Own.pick (.unit (s := S8192x256) (k0_off4 b.i) S128x128.size (k0_off4_inb b.i)) b.X9_2
def X9_3 : S8192x256.Idx → Elt F .f32 := Rect.overlay (.unit (s := S8192x256) (k0_off4 b.i) S128x128.size (k0_off4_inb b.i)) (b.X9_2) (k0_pay151 b.v387 b.v412)
def v419 := Own.pick (.unit (s := S8192x256) (k0_off4 b.i) S128x128.size (k0_off4_inb b.i)) b.X10_2
def v422 := Own.pick (.unit (s := S8192x256) (k0_off4 b.i) S128x128.size (k0_off4_inb b.i)) b.X10_2
def X10_3 : S8192x256.Idx → Elt F .f32 := Rect.overlay (.unit (s := S8192x256) (k0_off4 b.i) S128x128.size (k0_off4_inb b.i)) (b.X10_2) (k0_pay152 b.v388 b.v419)
def w2 : W2C F := { i := b.i, X3 := b.X3, X11 := b.X11_5, X4 := b.X4, v5 := b.v5, v33 := b.v33, v19 := b.v19, v37 := b.v37, v233_5 := b.v233_5, v6 := b.v6, v20 := b.v20, v233_6 := b.v233_6, v12 := b.v12, v26 := b.v26, v233_7 := b.v233_7, v13 := b.v13, v27 := b.v27, v233_8 := b.v233_8, X9 := b.X9_3, X10 := b.X10_3, arg13 := 0#32, arg14 := b.v272, arg15 := b.v313, arg16 := b.v352, arg17 := b.v393, arg18 := b.v275, arg19 := b.v316, arg20 := b.v355, arg21 := k0_pay148 b.v42 b.v362_3, arg22 := b.v269, arg23 := b.v310, arg24 := b.v349, arg25 := b.v390, h13 := Nat.zero_le _ }
def w2e : W2C F := b.w2.final
def v425_0 := b.w2e.arg13
def v425_1 := b.w2e.arg14
def v425_2 := b.w2e.arg15
def v425_3 := b.w2e.arg16
def v425_4 := b.w2e.arg17
def v425_5 := b.w2e.arg18
def v425_6 := b.w2e.arg19
def v425_7 := b.w2e.arg20
def v425_8 := b.w2e.arg21
def v425_9 := b.w2e.arg22
def v425_10 := b.w2e.arg23
def v425_11 := b.w2e.arg24
def v425_12 := b.w2e.arg25
def X9_4 : S8192x256.Idx → Elt F .f32 := b.w2e.X9
def X10_4 : S8192x256.Idx → Elt F .f32 := b.w2e.X10
def v427 := Own.pick (.unit (s := S128x256) ![0, 0] S128x128.size inb_S128x256_S128x128_0_0) b.X6
def X6_1 : S128x256.Idx → Elt F .f32 := Rect.overlay (.unit (s := S128x256) ![0, 0] S128x128.size inb_S128x256_S128x128_0_0) (b.X6) (k0_pay153 b.v3 b.v425_9 b.v425_10)
def v429 := Own.pick (.unit (s := S128x256) ![0, 128] S128x128.size inb_S128x256_S128x128_0_128) b.X6_1
def X6_2 : S128x256.Idx → Elt F .f32 := Rect.overlay (.unit (s := S128x256) ![0, 128] S128x128.size inb_S128x256_S128x128_0_128) (b.X6_1) (k0_pay154 b.v3 b.v425_11 b.v425_12)

end BodyC

/-- The trips left. -/
def W1C.left (c : W1C F) : ℕ := (c.i 1).val - c.arg13.toNat

/-- The trips left. -/
def W2C.left (c : W2C F) : ℕ := (c.i 1).val - c.arg13.toNat

end Cert.AttnIdeal.Run

end
-- ==== Proof.AttnWalk.lean ====
/-
  The two walks, run to their ends: the parts of a trip, then the trips.
-/
module

public import proofs.«01_k».proof.Proof.AttnModel
public import Idealize.ShloMosaic.Lib.Pipeline.FrameValue

@[expose] public section

noncomputable section

namespace Cert.AttnIdeal.Run

open Cert.AttnIdeal Cert.AttnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
open W1C
variable (c : W1C F) (h : c.test) (d : Dev nD) (bd : Option 𝒱₀.V) (E : Set ℕ) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole) {q3 q4 : PosShare TreeShare}

theorem k0_part11_spec (K : _ → sProp 𝕄) :
    iprop((ownsTc d arg3 q3 c.X3 ∗ ownsTc d arg4 q4 c.X4 ∗ ownsTc d arg11 fullShare c.X11)
      ∗ ((ownsTc d arg3 q3 c.X3 ∗ ownsTc d arg4 q4 c.X4 ∗ ownsTc d arg11 fullShare (c.X11_1 h)) -∗ K ⟨c.chk h, c.v433 h, c.v435 h, c.v437 h, c.v456 h, c.v470 h⟩))
      ⊢ wp frame (wpE (defs₀ (F := F)) 𝒱₀ (d : Thread nD τ) bd) E
          (k0_part11 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1) K := by
  rw [k0_part11_eq_skeleton]; unfold k0_part11_skel
  simp only [Prog.lift, Prog.bind_op, Prog.bind_ret, Prog.pure_eq_ret]
  iintro ⟨⟨H3, H4, H11⟩, HK⟩
  iapply (wp_assume _ _ _ _ (c.chk h))
  iapply Own.ld $$ H3; iintro H3
  iapply Own.ld $$ H4; iintro H4
  by_cases k0_h6 : k0_cond6 c.i c.arg13 = 1#1
  on_goal 1 =>
    rw [dif_pos k0_h6, show (c.X11_1 h) = _ from dif_pos k0_h6]
    iterate 4 (iapply Own.ld $$ H11; iintro H11; iapply Own.st $$ H11; iintro H11)
  on_goal 2 =>
    rw [dif_neg k0_h6, show (c.X11_1 h) = _ from dif_neg k0_h6]
  all_goals
    simp -failIfUnchanged only [v433, v434, v435, v436, v437, v439, v441, v456, v470]
    rw [wp_ret]; imodintro
    iapply HK
    iframe

theorem k0_part12_spec (K : _ → sProp 𝕄) :
    iprop((ownsTc d arg3 q3 c.X3 ∗ ownsTc d arg4 q4 c.X4 ∗ ownsTc d arg11 fullShare (c.X11_1 h))
      ∗ ((ownsTc d arg3 q3 c.X3 ∗ ownsTc d arg4 q4 c.X4 ∗ ownsTc d arg11 fullShare (c.X11_2 h)) -∗ K ⟨c.v477 h, c.v480 h, c.v499 h, c.v513 h⟩))
      ⊢ wp frame (wpE (defs₀ (F := F)) 𝒱₀ (d : Thread nD τ) bd) E
          (k0_part12 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v456 h) (c.v470 h)) K := by
  rw [k0_part12_eq_skeleton]; unfold k0_part12_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h7 : k0_cond7 c.i c.arg13 = 1#1
  on_goal 1 =>
    rw [dif_pos k0_h7, show (c.X11_2 h) = _ from dif_pos k0_h7]
    iterate 4 (iapply Own.ld $$ H11; iintro H11; iapply Own.st $$ H11; iintro H11)
  on_goal 2 =>
    rw [dif_neg k0_h7, show (c.X11_2 h) = _ from dif_neg k0_h7]
  all_goals
    simp -failIfUnchanged only [v482, v484, v477, v480, v499, v513]
    rw [wp_ret]; imodintro
    iapply HK
    iframe

theorem k0_part13_spec (K : _ → sProp 𝕄) :
    iprop((ownsTc d arg3 q3 c.X3 ∗ ownsTc d arg4 q4 c.X4 ∗ ownsTc d arg11 fullShare (c.X11_2 h))
      ∗ ((ownsTc d arg3 q3 c.X3 ∗ ownsTc d arg4 q4 c.X4 ∗ ownsTc d arg11 fullShare (c.X11_3 h)) -∗ K ⟨c.v520 h, c.v523 h, c.v556 h, c.v561 h⟩))
      ⊢ wp frame (wpE (defs₀ (F := F)) 𝒱₀ (d : Thread nD τ) bd) E
          (k0_part13 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v499 h) (c.v513 h)) K := by
  rw [k0_part13_eq_skeleton]; unfold k0_part13_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h8 : k0_cond8 c.i c.arg13 = 1#1
  on_goal 1 =>
    rw [dif_pos k0_h8, show (c.X11_3 h) = _ from dif_pos k0_h8]
    iterate 4 (iapply Own.ld $$ H11; iintro H11; iapply Own.st $$ H11; iintro H11)
  on_goal 2 =>
    rw [dif_neg k0_h8, show (c.X11_3 h) = _ from dif_neg k0_h8]
  all_goals
    simp -failIfUnchanged only [v525, v527, v520, v523, v556, v561]
    rw [wp_ret]; imodintro
    iapply HK
    iframe

theorem k0_part14_spec (K : _ → sProp 𝕄) :
    iprop((ownsTc d arg3 q3 c.X3 ∗ ownsTc d arg4 q4 c.X4 ∗ ownsTc d arg11 fullShare (c.X11_3 h))
      ∗ ((ownsTc d arg3 q3 c.X3 ∗ ownsTc d arg4 q4 c.X4 ∗ ownsTc d arg11 fullShare (c.X11_4 h)) -∗ K ⟨c.v563 h, c.v566 h, c.v599 h, c.v605 h⟩))
      ⊢ wp frame (wpE (defs₀ (F := F)) 𝒱₀ (d : Thread nD τ) bd) E
          (k0_part14 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v556 h) (c.v561 h)) K := by
  rw [k0_part14_eq_skeleton]; unfold k0_part14_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h9 : k0_cond9 c.i c.arg13 = 1#1
  on_goal 1 =>
    rw [dif_pos k0_h9, show (c.X11_4 h) = _ from dif_pos k0_h9]
    iterate 4 (iapply Own.ld $$ H11; iintro H11; iapply Own.st $$ H11; iintro H11)
  on_goal 2 =>
    rw [dif_neg k0_h9, show (c.X11_4 h) = _ from dif_neg k0_h9]
  all_goals
    simp -failIfUnchanged only [v568, v570, v563, v566, v599, v605]
    rw [wp_ret]; imodintro
    iapply HK
    iframe

end

attribute [local irreducible] k0_part11 k0_part12 k0_part13 k0_part14

section
variable (c : W1C F) (d : Dev nD) (E : Set ℕ) (q3 q4 : PosShare TreeShare) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole)

/-- The walk from `c`: holding its buffers it returns them and the carried values as at the walk's end. -/
def W1C.spec : sWPT 𝕄 (BitVec 32 × FVec F S128x1 .f32 × FVec F S128x1 .f32 × FVec F S128x1 .f32 × FVec F S128x1 .f32 × FVec F S128x1 .f32 × FVec F S128x1 .f32 × FVec F S128x1 .f32 × FVec F S128x1 .f32) := do
  sWPT.consume iprop(ownsTc d arg3 q3 c.X3 ∗ ownsTc d arg4 q4 c.X4 ∗ ownsTc d arg11 fullShare c.X11)
  sWPT.produce iprop(ownsTc d arg3 q3 (c.final.X3) ∗ ownsTc d arg4 q4 (c.final.X4) ∗ ownsTc d arg11 fullShare (c.final.X11))
  pure (c.final.arg13, c.final.arg14, c.final.arg15, c.final.arg16, c.final.arg17, c.final.arg18, c.final.arg19, c.final.arg20, c.final.arg21)

theorem W1C.spec_apply (K : _ → sProp 𝕄) : W1C.spec c d q3 q4 arg3 arg4 arg11 K
    = iprop((ownsTc d arg3 q3 c.X3 ∗ ownsTc d arg4 q4 c.X4 ∗ ownsTc d arg11 fullShare c.X11) ∗ ((ownsTc d arg3 q3 (c.final.X3) ∗ ownsTc d arg4 q4 (c.final.X4) ∗ ownsTc d arg11 fullShare (c.final.X11)) -∗ K (c.final.arg13, c.final.arg14, c.final.arg15, c.final.arg16, c.final.arg17, c.final.arg18, c.final.arg19, c.final.arg20, c.final.arg21))) := rfl

theorem W1C.body_le (n : ℕ) (ih : ∀ c' : W1C F, c'.left < n → W1C.spec c' d q3 q4 arg3 arg4 arg11
      ≤ wp frame (wpE (defs₀ (F := F)) 𝒱₀ (d : Thread nD τ) (some c'.left)) E
        (defs₀ (F := F) .tc 1 ⟨c'.i, arg3, harg3, arg4, harg4, c'.v5, c'.v33, c'.v19, arg11, harg11, c'.v6, c'.v20, c'.v12, c'.v26, c'.v13, c'.v27, c'.arg13, c'.arg14, c'.arg15, c'.arg16, c'.arg17, c'.arg18, c'.arg19, c'.arg20, c'.arg21⟩))
    (hn : c.left = n) (K : _ → sProp 𝕄) : W1C.spec c d q3 q4 arg3 arg4 arg11 K
      ⊢ wp frame (wpE (defs₀ (F := F)) 𝒱₀ (d : Thread nD τ) (some n)) E (cc0_while1 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21) K := by
  rw [W1C.spec_apply, cc0_while1_eq_skeleton]; unfold cc0_while1_skel
  simp only [Prog.lift, Prog.bind_op, Prog.bind_ret, Prog.pure_eq_ret]
  iintro ⟨⟨H3, H4, H11⟩, HK⟩
  by_cases h : c.test
  on_goal 1 =>
    have h' : Scalar.andi (Scalar.cmpi .slt c.arg13 (BitVec.ofNat 32 (c.i 1).val))
      (Scalar.cmpf .ogt (k0_pay1 c.arg14 c.arg15 c.arg16 c.arg17) (Named.named κ "floor" 0xC2D00000#32)) = 1#1 := h
    rw [if_pos h', W1C.final_pos c h]
    rw [wp_bind]
    iapply (k0_part11_spec c h d (some n) E arg3 harg3 arg4 harg4 arg11 harg11)
    isplitl [H3 H4 H11]
    · iframe
    iintro ⟨H3, H4, H11⟩
    dsimp only
    rw [wp_bind]
    iapply (k0_part12_spec c h d (some n) E arg3 harg3 arg4 harg4 arg11 harg11)
    isplitl [H3 H4 H11]
    · iframe
    iintro ⟨H3, H4, H11⟩
    dsimp only
    rw [wp_bind]
    iapply (k0_part13_spec c h d (some n) E arg3 harg3 arg4 harg4 arg11 harg11)
    isplitl [H3 H4 H11]
    · iframe
    iintro ⟨H3, H4, H11⟩
    dsimp only
    rw [wp_bind]
    iapply (k0_part14_spec c h d (some n) E arg3 harg3 arg4 harg4 arg11 harg11)
    isplitl [H3 H4 H11]
    · iframe
    iintro ⟨H3, H4, H11⟩
    dsimp only
    iapply (wp_call_spec 𝒱₀ (d : Thread nD τ) (some n) E (W1C.spec (c.step h) d q3 q4 arg3 arg4 arg11) (c.step h).left
      (fun u hu => by cases hu; exact hn ▸ c.step_lt h) (ih (c.step h) (hn ▸ c.step_lt h)))
    rw [W1C.spec_apply]
    isplitl [H3 H4 H11]
    · isplitl [H3]; iexact H3; isplitl [H4]; iexact H4; iexact H11
    iintro ⟨H3, H4, H11⟩
  on_goal 2 =>
    have h' : ¬ Scalar.andi (Scalar.cmpi .slt c.arg13 (BitVec.ofNat 32 (c.i 1).val))
      (Scalar.cmpf .ogt (k0_pay1 c.arg14 c.arg15 c.arg16 c.arg17) (Named.named κ "floor" 0xC2D00000#32)) = 1#1 := h
    rw [if_neg h', W1C.final_neg c h]
  all_goals
    rw [wp_ret]; imodintro
    iapply HK
    iframe

end

theorem W1C.spec_le (c : W1C F) (d : Dev nD) (E : Set ℕ) (q3 q4 : PosShare TreeShare) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole) :
    W1C.spec c d q3 q4 arg3 arg4 arg11 ≤ wp frame (wpE (defs₀ (F := F)) 𝒱₀ (d : Thread nD τ) (some c.left)) E
        (defs₀ (F := F) .tc 1 ⟨c.i, arg3, harg3, arg4, harg4, c.v5, c.v33, c.v19, arg11, harg11, c.v6, c.v20, c.v12, c.v26, c.v13, c.v27, c.arg13, c.arg14, c.arg15, c.arg16, c.arg17, c.arg18, c.arg19, c.arg20, c.arg21⟩) := by
  suffices h : ∀ n, ∀ c : W1C F, c.left = n → W1C.spec c d q3 q4 arg3 arg4 arg11 ≤ wp frame (wpE (defs₀ (F := F)) 𝒱₀ (d : Thread nD τ) (some c.left)) E
        (defs₀ (F := F) .tc 1 ⟨c.i, arg3, harg3, arg4, harg4, c.v5, c.v33, c.v19, arg11, harg11, c.v6, c.v20, c.v12, c.v26, c.v13, c.v27, c.arg13, c.arg14, c.arg15, c.arg16, c.arg17, c.arg18, c.arg19, c.arg20, c.arg21⟩) from h _ c rfl
  intro n
  induction n using Nat.strong_induction_on with
  | _ n ih =>
    intro c hc K
    have := W1C.body_le c d E q3 q4 arg3 harg3 arg4 harg4 arg11 harg11 n (fun c' h => ih _ h c' rfl) hc K
    rw [hc]
    exact this

section
open W2C
variable (c : W2C F) (h : c.test) (d : Dev nD) (bd : Option 𝒱₀.V) (E : Set ℕ) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole) {q3 q4 : PosShare TreeShare}

theorem k0_part15_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.chk h, c.v433 h, c.v435 h, c.v437 h, c.v464 h, c.v466 h, c.v468 h, c.v471 h, c.v474 h, c.v476 h⟩))
      ⊢ wp frame (wpE (defs₀ (F := F)) 𝒱₀ (d : Thread nD τ) bd) E
          (k0_part15 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1) K := by
  rw [k0_part15_eq_skeleton]; unfold k0_part15_skel
  simp only [Prog.lift, Prog.bind_op, Prog.bind_ret, Prog.pure_eq_ret]
  iintro ⟨⟨H3, H4, H11, H9, H10⟩, HK⟩
  iapply (wp_assume _ _ _ _ (c.chk h))
  iapply Own.ld $$ H3; iintro H3
  by_cases k0_h14 : k0_cond14 c.i c.arg13 = 1#1
  on_goal 1 =>
    rw [dif_pos k0_h14]
    have e_v444 : (c.v444 h) = _ := dif_pos k0_h14
    iterate 4 (iapply Own.ld $$ H11; iintro H11)
  on_goal 2 =>
    rw [dif_neg k0_h14]
    have e_v444 : (c.v444 h) = _ := dif_neg k0_h14
    iapply Own.ld $$ H4; iintro H4
  all_goals
    iapply Own.ld $$ H3; iintro H3
    simp -failIfUnchanged only [W2C.v433, W2C.v434, W2C.v435, W2C.v436, W2C.v437, W2C.v439, W2C.v444_0, W2C.v444_1, W2C.v444_2, W2C.v444_3, W2C.v476, W2C.v464, W2C.v466, W2C.v468, W2C.v471, W2C.v474, e_v444]
    rw [wp_ret]; imodintro
    iapply HK
    iframe

theorem k0_part16_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.v504 h, c.v505 h, c.v507 h, c.v510 h, c.v513 h, c.v515 h, c.v520_0 h, c.v520_1 h, c.v520_2 h, c.v520_3 h, c.v521 h, c.v523 h⟩))
      ⊢ wp frame (wpE (defs₀ (F := F)) 𝒱₀ (d : Thread nD τ) bd) E
          (k0_part16 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1 (c.chk h) (c.v435 h) (c.v437 h) (c.v464 h) (c.v466 h) (c.v476 h)) K := by
  rw [k0_part16_eq_skeleton]; unfold k0_part16_skel
  simp only [Prog.lift, Prog.bind_op, Prog.bind_ret, Prog.pure_eq_ret]
  iintro ⟨⟨H3, H4, H11, H9, H10⟩, HK⟩
  by_cases k0_h15 : k0_cond15 c.i c.arg13 = 1#1
  on_goal 1 =>
    rw [dif_pos k0_h15]
    have e_v481 : (c.v481 h) = _ := dif_pos k0_h15
    iterate 4 (iapply Own.ld $$ H11; iintro H11)
  on_goal 2 =>
    rw [dif_neg k0_h15]
    have e_v481 : (c.v481 h) = _ := dif_neg k0_h15
    iapply Own.ld $$ H4; iintro H4
  all_goals
    iapply Own.ld $$ H3; iintro H3
    by_cases k0_h16 : k0_cond16 c.i c.arg13 = 1#1
    on_goal 1 =>
      rw [dif_pos k0_h16]
      have e_v520 : (c.v520 h) = _ := dif_pos k0_h16
      iterate 4 (iapply Own.ld $$ H11; iintro H11)
    on_goal 2 =>
      rw [dif_neg k0_h16]
      have e_v520 : (c.v520 h) = _ := dif_neg k0_h16
      iapply Own.ld $$ H4; iintro H4
    all_goals
      simp -failIfUnchanged only [W2C.v481_0, W2C.v481_1, W2C.v481_2, W2C.v481_3, W2C.v515, W2C.v520_0, W2C.v520_1, W2C.v520_2, W2C.v520_3, W2C.v504, W2C.v505, W2C.v507, W2C.v510, W2C.v513, W2C.v521, W2C.v523, e_v481, e_v520]
      rw [wp_ret]; imodintro
      iapply HK
      iframe

theorem k0_part17_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.v540 h, c.v542 h, c.v544 h, c.v547 h, c.v550 h, c.v552 h, c.v557_0 h, c.v557_1 h, c.v557_2 h, c.v557_3 h, c.v568 h, c.v570 h⟩))
      ⊢ wp frame (wpE (defs₀ (F := F)) 𝒱₀ (d : Thread nD τ) bd) E
          (k0_part17 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1 (c.chk h) (c.v435 h) (c.v437 h) (c.v515 h) (c.v520_0 h) (c.v520_1 h) (c.v520_2 h) (c.v520_3 h) (c.v521 h) (c.v523 h)) K := by
  rw [k0_part17_eq_skeleton]; unfold k0_part17_skel
  simp only [Prog.lift, Prog.bind_op, Prog.bind_ret, Prog.pure_eq_ret]
  iintro ⟨⟨H3, H4, H11, H9, H10⟩, HK⟩
  iapply Own.ld $$ H3; iintro H3
  by_cases k0_h17 : k0_cond17 c.i c.arg13 = 1#1
  on_goal 1 =>
    rw [dif_pos k0_h17]
    have e_v557 : (c.v557 h) = _ := dif_pos k0_h17
    iterate 4 (iapply Own.ld $$ H11; iintro H11)
  on_goal 2 =>
    rw [dif_neg k0_h17]
    have e_v557 : (c.v557 h) = _ := dif_neg k0_h17
    iapply Own.ld $$ H4; iintro H4
  all_goals
    simp -failIfUnchanged only [W2C.v552, W2C.v557_0, W2C.v557_1, W2C.v557_2, W2C.v557_3, W2C.v540, W2C.v542, W2C.v544, W2C.v547, W2C.v550, W2C.v568, W2C.v570, e_v557]
    rw [wp_ret]; imodintro
    iapply HK
    iframe

theorem k0_part18_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare (c.X9_2 h) ∗ ownsTc d arg10 fullShare (c.X10_1 h)) -∗ K ⟨c.v583 h, c.v586 h, c.v589 h, c.v613 h⟩))
      ⊢ wp frame (wpE (defs₀ (F := F)) 𝒱₀ (d : Thread nD τ) bd) E
          (k0_part18 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 (c.chk h) (c.v437 h) (c.v504 h) (c.v505 h) (c.v540 h) (c.v542 h) (c.v552 h) (c.v557_0 h) (c.v557_1 h) (c.v557_2 h) (c.v557_3 h) (c.v568 h) (c.v570 h)) K := by
  rw [k0_part18_eq_skeleton]; unfold k0_part18_skel
  simp only [Prog.lift, Prog.bind_op, Prog.bind_ret, Prog.pure_eq_ret]
  iintro ⟨⟨H3, H4, H11, H9, H10⟩, HK⟩
  iterate 2 (iapply Own.ld $$ H9; iintro H9)
  iapply Own.st $$ H9; iintro H9
  iterate 2 (iapply Own.ld $$ H10; iintro H10)
  iapply Own.st $$ H10; iintro H10
  iterate 2 (iapply Own.ld $$ H9; iintro H9)
  iapply Own.st $$ H9; iintro H9
  iapply Own.ld $$ H10; iintro H10
  simp -failIfUnchanged only [v591, v594, X9_1, v598, v601, X10_1, v605, v608, X9_2, v612, v583, v586, v589, v613]
  rw [wp_ret]; imodintro
  iapply HK
  iframe

end

attribute [local irreducible] k0_part15 k0_part16 k0_part17 k0_part18

section
variable (c : W2C F) (d : Dev nD) (E : Set ℕ) (q3 q4 : PosShare TreeShare) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole)

/-- The walk from `c`: holding its buffers it returns them and the carried values as at the walk's end. -/
def W2C.spec : sWPT 𝕄 (BitVec 32 × FVec F S128x1 .f32 × FVec F S128x1 .f32 × FVec F S128x1 .f32 × FVec F S128x1 .f32 × FVec F S128x1 .f32 × FVec F S128x1 .f32 × FVec F S128x1 .f32 × FVec F S128x1 .f32 × FVec F S128x128 .f32 × FVec F S128x128 .f32 × FVec F S128x128 .f32 × FVec F S128x128 .f32) := do
  sWPT.consume iprop(ownsTc d arg3 q3 c.X3 ∗ ownsTc d arg4 q4 c.X4 ∗ ownsTc d arg11 fullShare c.X11 ∗ ownsTc d arg9 fullShare c.X9 ∗ ownsTc d arg10 fullShare c.X10)
  sWPT.produce iprop(ownsTc d arg3 q3 (c.final.X3) ∗ ownsTc d arg4 q4 (c.final.X4) ∗ ownsTc d arg11 fullShare (c.final.X11) ∗ ownsTc d arg9 fullShare (c.final.X9) ∗ ownsTc d arg10 fullShare (c.final.X10))
  pure (c.final.arg13, c.final.arg14, c.final.arg15, c.final.arg16, c.final.arg17, c.final.arg18, c.final.arg19, c.final.arg20, c.final.arg21, c.final.arg22, c.final.arg23, c.final.arg24, c.final.arg25)

theorem W2C.spec_apply (K : _ → sProp 𝕄) : W2C.spec c d q3 q4 arg3 arg11 arg4 arg9 arg10 K
    = iprop((ownsTc d arg3 q3 c.X3 ∗ ownsTc d arg4 q4 c.X4 ∗ ownsTc d arg11 fullShare c.X11 ∗ ownsTc d arg9 fullShare c.X9 ∗ ownsTc d arg10 fullShare c.X10) ∗ ((ownsTc d arg3 q3 (c.final.X3) ∗ ownsTc d arg4 q4 (c.final.X4) ∗ ownsTc d arg11 fullShare (c.final.X11) ∗ ownsTc d arg9 fullShare (c.final.X9) ∗ ownsTc d arg10 fullShare (c.final.X10)) -∗ K (c.final.arg13, c.final.arg14, c.final.arg15, c.final.arg16, c.final.arg17, c.final.arg18, c.final.arg19, c.final.arg20, c.final.arg21, c.final.arg22, c.final.arg23, c.final.arg24, c.final.arg25))) := rfl

theorem W2C.body_le (n : ℕ) (ih : ∀ c' : W2C F, c'.left < n → W2C.spec c' d q3 q4 arg3 arg11 arg4 arg9 arg10
      ≤ wp frame (wpE (defs₀ (F := F)) 𝒱₀ (d : Thread nD τ) (some c'.left)) E
        (defs₀ (F := F) .tc 2 ⟨c'.i, arg3, harg3, arg11, harg11, arg4, harg4, c'.v5, c'.v33, c'.v19, c'.v37, c'.v233_5, c'.v6, c'.v20, c'.v233_6, c'.v12, c'.v26, c'.v233_7, c'.v13, c'.v27, c'.v233_8, arg9, harg9, arg10, harg10, c'.arg13, c'.arg14, c'.arg15, c'.arg16, c'.arg17, c'.arg18, c'.arg19, c'.arg20, c'.arg21, c'.arg22, c'.arg23, c'.arg24, c'.arg25⟩))
    (hn : c.left = n) (K : _ → sProp 𝕄) : W2C.spec c d q3 q4 arg3 arg11 arg4 arg9 arg10 K
      ⊢ wp frame (wpE (defs₀ (F := F)) 𝒱₀ (d : Thread nD τ) (some n)) E (cc0_while2 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25) K := by
  rw [W2C.spec_apply, cc0_while2_eq_skeleton]; unfold cc0_while2_skel
  simp only [Prog.lift, Prog.bind_op, Prog.bind_ret, Prog.pure_eq_ret]
  iintro ⟨⟨H3, H4, H11, H9, H10⟩, HK⟩
  by_cases h : c.test
  on_goal 1 =>
    have h' : Scalar.andi (Scalar.cmpi .slt c.arg13 (BitVec.ofNat 32 (c.i 1).val))
      (Scalar.cmpf .ogt (k0_pay4 c.arg14 c.arg15 c.arg16 c.arg17) (Named.named κ "floor" 0xC2D00000#32)) = 1#1 := h
    rw [if_pos h', W2C.final_pos c h]
    rw [wp_bind]
    iapply (k0_part15_spec c h d (some n) E arg3 harg3 arg11 harg11 arg4 harg4 arg9 harg9 arg10 harg10)
    isplitl [H3 H4 H11 H9 H10]
    · iframe
    iintro ⟨H3, H4, H11, H9, H10⟩
    dsimp only
    rw [wp_bind]
    iapply (k0_part16_spec c h d (some n) E arg3 harg3 arg11 harg11 arg4 harg4 arg9 harg9 arg10 harg10)
    isplitl [H3 H4 H11 H9 H10]
    · iframe
    iintro ⟨H3, H4, H11, H9, H10⟩
    dsimp only
    rw [wp_bind]
    iapply (k0_part17_spec c h d (some n) E arg3 harg3 arg11 harg11 arg4 harg4 arg9 harg9 arg10 harg10)
    isplitl [H3 H4 H11 H9 H10]
    · iframe
    iintro ⟨H3, H4, H11, H9, H10⟩
    dsimp only
    rw [wp_bind]
    iapply (k0_part18_spec c h d (some n) E arg3 harg3 arg11 harg11 arg4 harg4 arg9 harg9 arg10 harg10)
    isplitl [H3 H4 H11 H9 H10]
    · iframe
    iintro ⟨H3, H4, H11, H9, H10⟩
    dsimp only
    iapply Own.ld $$ H10; iintro H10
    iapply Own.st $$ H10; iintro H10
    iapply (wp_call_spec 𝒱₀ (d : Thread nD τ) (some n) E (W2C.spec (c.step h) d q3 q4 arg3 arg11 arg4 arg9 arg10) (c.step h).left
      (fun u hu => by cases hu; exact hn ▸ c.step_lt h) (ih (c.step h) (hn ▸ c.step_lt h)))
    rw [W2C.spec_apply]
    isplitl [H3 H4 H11 H9 H10]
    · isplitl [H3]; iexact H3; isplitl [H4]; iexact H4; isplitl [H11]; iexact H11; isplitl [H9]; iexact H9; iexact H10
    iintro ⟨H3, H4, H11, H9, H10⟩
  on_goal 2 =>
    have h' : ¬ Scalar.andi (Scalar.cmpi .slt c.arg13 (BitVec.ofNat 32 (c.i 1).val))
      (Scalar.cmpf .ogt (k0_pay4 c.arg14 c.arg15 c.arg16 c.arg17) (Named.named κ "floor" 0xC2D00000#32)) = 1#1 := h
    rw [if_neg h', W2C.final_neg c h]
  all_goals
    rw [wp_ret]; imodintro
    iapply HK
    iframe

end

theorem W2C.spec_le (c : W2C F) (d : Dev nD) (E : Set ℕ) (q3 q4 : PosShare TreeShare) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole) :
    W2C.spec c d q3 q4 arg3 arg11 arg4 arg9 arg10 ≤ wp frame (wpE (defs₀ (F := F)) 𝒱₀ (d : Thread nD τ) (some c.left)) E
        (defs₀ (F := F) .tc 2 ⟨c.i, arg3, harg3, arg11, harg11, arg4, harg4, c.v5, c.v33, c.v19, c.v37, c.v233_5, c.v6, c.v20, c.v233_6, c.v12, c.v26, c.v233_7, c.v13, c.v27, c.v233_8, arg9, harg9, arg10, harg10, c.arg13, c.arg14, c.arg15, c.arg16, c.arg17, c.arg18, c.arg19, c.arg20, c.arg21, c.arg22, c.arg23, c.arg24, c.arg25⟩) := by
  suffices h : ∀ n, ∀ c : W2C F, c.left = n → W2C.spec c d q3 q4 arg3 arg11 arg4 arg9 arg10 ≤ wp frame (wpE (defs₀ (F := F)) 𝒱₀ (d : Thread nD τ) (some c.left)) E
        (defs₀ (F := F) .tc 2 ⟨c.i, arg3, harg3, arg11, harg11, arg4, harg4, c.v5, c.v33, c.v19, c.v37, c.v233_5, c.v6, c.v20, c.v233_6, c.v12, c.v26, c.v233_7, c.v13, c.v27, c.v233_8, arg9, harg9, arg10, harg10, c.arg13, c.arg14, c.arg15, c.arg16, c.arg17, c.arg18, c.arg19, c.arg20, c.arg21, c.arg22, c.arg23, c.arg24, c.arg25⟩) from h _ c rfl
  intro n
  induction n using Nat.strong_induction_on with
  | _ n ih =>
    intro c hc K
    have := W2C.body_le c d E q3 q4 arg3 harg3 arg11 harg11 arg4 harg4 arg9 harg9 arg10 harg10 n (fun c' h => ih _ h c' rfl) hc K
    rw [hc]
    exact this

end Cert.AttnIdeal.Run

end
-- ==== Proof.AttnBody.lean ====
/-
  The body at a grid point, run whole: its ten parts one after the other, then, at the last row tile of a head group, the
  two copies of the group's sums out to the columns they belong in.
-/
module

public import proofs.«01_k».proof.Proof.AttnWalk

@[expose] public section

noncomputable section

namespace Cert.AttnIdeal.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (EC : UEmb Counters (MT nD τ sig Ix Val Name U Lvl)) (𝒱 : Variants) (c : Thread nD τ)
  (bd : Option 𝒱.V)
variable {s : Shape} {e : EltTy} {α : Type} {Q : α → sProp (MT nD τ sig Ix Val Name U Lvl)} {sp sp' : Space}

/-- Issuing a copy between two owned memrefs on a cell at zero: what comes back at the wait is the destination at the
    source's values, and the source. -/
theorem wp_copy_own [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Transfers.Flight EC c sm ι N iprop(owns c dst fullShare X ∗ owns c src q X)
              -∗ wp frame (wpE defs 𝒱 c bd) Set.univ (k ⟨⟩) Q)
          -∗ wp frame (wpE defs 𝒱 c bd) Set.univ (.op (.enqueueDmaAs src (.here dst) .same sm hsrc hdst hsem) k) Q) := by
  unfold owns
  iintro ⟨⟨%f, %hf, Hs⟩, ⟨%g, %hg, Hd⟩, Hv⟩ Hk
  iapply (Transfers.wp_dmaLocal EC 𝒱 c bd (via := .same) (hsem := hsem) ι N hN hN0 (Finset.Subset.refl _)) $$ [Hs Hd Hv]
  · iframe
  iintro HF
  iapply Hk
  iapply (Transfers.Flight_mono EC c ?_) $$ HF
  iintro ⟨Hd, Hs⟩
  isplitl [Hd]
  · iexists (dst.view.write Val g (ReadAs.same.apply (src.view.read Val f)) Finset.univ)
    isplitr
    · ipureintro
      rw [View.read_write_univ]; exact hf
    iexact Hd
  · iexists f
    isplitr
    · ipureintro; exact hf
    iexact Hs

end Cert.AttnIdeal.Own

namespace Cert.AttnIdeal.Run

open Cert.AttnIdeal Cert.AttnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

open BodyC
variable (b : BodyC F) (d : Dev nD) (E : Set ℕ) (arg2 : Memref sig .tc .vmem S128x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S128x256 .bf16) (harg5 : arg5.IsWhole) (arg6 : Memref sig .tc .vmem S128x256 .f32) (harg6 : arg6.IsWhole) (arg7 : Memref sig .tc .hbm S8192x1024 .f32) (harg7 : arg7.IsWhole) (arg8 : Memref sig .tc .hbm S8192x1024 .f32) (harg8 : arg8.IsWhole) (arg9 : Memref sig .tc .vmem S8192x256 .f32) (harg9 : arg9.IsWhole) (arg10 : Memref sig .tc .vmem S8192x256 .f32) (harg10 : arg10.IsWhole) (arg11 : Memref sig .tc .vmem S64x128x128 .f32) (harg11 : arg11.IsWhole) (arg12 : DmaSems sig S2) (q2 q3 q4 q5 : PosShare TreeShare)

/-- The buffers a part holds, at the given values of those it writes. -/
abbrev held (X6 : S128x256.Idx → Elt F .f32) (X9 X10 : S8192x256.Idx → Elt F .f32) (X11 : S64x128x128.Idx → Elt F .f32) : sProp 𝕄 :=
  iprop(ownsTc d arg2 q2 b.X2 ∗ ownsTc d arg3 q3 b.X3 ∗ ownsTc d arg4 q4 b.X4 ∗ ownsTc d arg5 q5 b.X5 ∗ ownsTc d arg6 fullShare X6
    ∗ ownsTc d arg9 fullShare X9 ∗ ownsTc d arg10 fullShare X10 ∗ ownsTc d arg11 fullShare X11)

variable {q2 q3 q4 q5}

theorem k0_part1_spec (K : _ → sProp 𝕄) :
    iprop(held b d arg2 arg3 arg4 arg5 arg6 arg9 arg10 arg11 q2 q3 q4 q5 b.X6 b.X9 b.X10 b.X11
      ∗ (held b d arg2 arg3 arg4 arg5 arg6 arg9 arg10 arg11 q2 q3 q4 q5 b.X6 b.X9 b.X10 b.X11 -∗ K ⟨b.arg0, b.arg1, b.v3, b.v5, b.v6, b.v12, b.v13, b.v19, b.v20, b.v26, b.v27, b.v33, b.v37, b.v38, b.v40⟩))
      ⊢ wp frame (wpE (defs₀ (F := F)) 𝒱₀ (d : Thread nD τ) none) E
          (k0_part1 b.i arg2 harg2 arg3 harg3 arg4 harg4 arg5 harg5 arg6 harg6 arg7 harg7 arg8 harg8 arg9 harg9 arg10 harg10 arg11 harg11 arg12) K := by
  rw [k0_part1_eq_skeleton]; unfold held k0_part1_skel
  simp only [Prog.lift, Prog.bind_op, Prog.bind_ret, Prog.pure_eq_ret]
  iintro ⟨⟨H2, H3, H4, H5, H6, H9, H10, H11⟩, HK⟩
  iterate 2 (iapply Own.ld $$ H2; iintro H2)
  iterate 2 (iapply Own.ld $$ H5; iintro H5)
  simp -failIfUnchanged only [arg0, arg1, v0, v7, v14, v21, v39, v40, v3, v5, v6, v12, v13, v19, v20, v26, v27, v33, v37, v38]
  rw [wp_ret]; imodintro
  iapply HK
  iframe

theorem k0_part2_spec (K : _ → sProp 𝕄) :
    iprop(held b d arg2 arg3 arg4 arg5 arg6 arg9 arg10 arg11 q2 q3 q4 q5 b.X6 b.X9 b.X10 b.X11
      ∗ (held b d arg2 arg3 arg4 arg5 arg6 arg9 arg10 arg11 q2 q3 q4 q5 b.X6 b.X9_1 b.X10_1 b.X11 -∗ K ⟨b.v42, b.v44, b.v65, b.v66, b.v79, b.v81, b.v82, b.c4_i32⟩))
      ⊢ wp frame (wpE (defs₀ (F := F)) 𝒱₀ (d : Thread nD τ) none) E
          (k0_part2 b.i arg2 harg2 arg3 harg3 arg4 harg4 arg5 harg5 arg6 harg6 arg7 harg7 arg8 harg8 arg9 harg9 arg10 harg10 arg11 harg11 arg12 b.arg1 b.v5 b.v19 b.v33 b.v38 b.v40) K := by
  rw [k0_part2_eq_skeleton]; unfold held k0_part2_skel
  simp only [Prog.lift, Prog.bind_op, Prog.bind_ret, Prog.pure_eq_ret]
  iintro ⟨⟨H2, H3, H4, H5, H6, H9, H10, H11⟩, HK⟩
  by_cases k0_h1 : (Scalar.cmpi .ne b.v40 0#32) = 1#1
  on_goal 1 =>
    rw [dif_pos k0_h1, show b.X9_1 = _ from dif_pos k0_h1, show b.X10_1 = _ from dif_pos k0_h1]
    iapply Own.ld $$ H9; iintro H9
    iapply Own.st $$ H9; iintro H9
    iapply Own.ld $$ H10; iintro H10
    iapply Own.st $$ H10; iintro H10
  on_goal 2 =>
    rw [dif_neg k0_h1, show b.X9_1 = _ from dif_neg k0_h1, show b.X10_1 = _ from dif_neg k0_h1]
  all_goals
    iapply Own.ld $$ H3; iintro H3
    iapply Own.ld $$ H4; iintro H4
    simp -failIfUnchanged only [v43, v44, v46, v48, v82, v42, v65, v66, v79, v81, c4_i32]
    rw [wp_ret]; imodintro
    iapply HK
    iframe

theorem k0_part3_spec (K : _ → sProp 𝕄) :
    iprop(held b d arg2 arg3 arg4 arg5 arg6 arg9 arg10 arg11 q2 q3 q4 q5 b.X6 b.X9_1 b.X10_1 b.X11
      ∗ (held b d arg2 arg3 arg4 arg5 arg6 arg9 arg10 arg11 q2 q3 q4 q5 b.X6 b.X9_1 b.X10_1 b.X11_1 -∗ K ⟨b.v88, b.v91, b.v95, b.v112, b.v113, b.v126⟩))
      ⊢ wp frame (wpE (defs₀ (F := F)) 𝒱₀ (d : Thread nD τ) none) E
          (k0_part3 b.i arg2 harg2 arg3 harg3 arg4 harg4 arg5 harg5 arg6 harg6 arg7 harg7 arg8 harg8 arg9 harg9 arg10 harg10 arg11 harg11 arg12 b.arg1 b.v6 b.v33 b.v38 b.v42 b.v44 b.v65 b.v66 b.v79 b.v81 b.v82 b.c4_i32) K := by
  rw [k0_part3_eq_skeleton]; unfold held k0_part3_skel
  simp only [Prog.lift, Prog.bind_op, Prog.bind_ret, Prog.pure_eq_ret]
  iintro ⟨⟨H2, H3, H4, H5, H6, H9, H10, H11⟩, HK⟩
  by_cases k0_h2 : k0_cond2 b.i = 1#1
  on_goal 1 =>
    rw [dif_pos k0_h2, show b.X11_1 = _ from dif_pos k0_h2]
    iterate 4 (iapply Own.ld $$ H11; iintro H11; iapply Own.st $$ H11; iintro H11)
  on_goal 2 =>
    rw [dif_neg k0_h2, show b.X11_1 = _ from dif_neg k0_h2]
  all_goals
    iapply Own.ld $$ H3; iintro H3
    iapply Own.ld $$ H4; iintro H4
    simp -failIfUnchanged only [v93, v95, v88, v91, v112, v113, v126]
    rw [wp_ret]; imodintro
    iapply HK
    iframe

theorem k0_part4_spec (K : _ → sProp 𝕄) :
    iprop(held b d arg2 arg3 arg4 arg5 arg6 arg9 arg10 arg11 q2 q3 q4 q5 b.X6 b.X9_1 b.X10_1 b.X11_1
      ∗ (held b d arg2 arg3 arg4 arg5 arg6 arg9 arg10 arg11 q2 q3 q4 q5 b.X6 b.X9_1 b.X10_1 b.X11_2 -∗ K ⟨b.v135, b.v138, b.v142, b.v159, b.v160, b.v168, b.v169⟩))
      ⊢ wp frame (wpE (defs₀ (F := F)) 𝒱₀ (d : Thread nD τ) none) E
          (k0_part4 b.i arg2 harg2 arg3 harg3 arg4 harg4 arg5 harg5 arg6 harg6 arg7 harg7 arg8 harg8 arg9 harg9 arg10 harg10 arg11 harg11 arg12 b.arg1 b.v12 b.v20 b.v33 b.v38 b.v42 b.v44 b.v95 b.v112 b.v113 b.v126) K := by
  rw [k0_part4_eq_skeleton]; unfold held k0_part4_skel
  simp only [Prog.lift, Prog.bind_op, Prog.bind_ret, Prog.pure_eq_ret]
  iintro ⟨⟨H2, H3, H4, H5, H6, H9, H10, H11⟩, HK⟩
  by_cases k0_h3 : k0_cond3 b.i = 1#1
  on_goal 1 =>
    rw [dif_pos k0_h3, show b.X11_2 = _ from dif_pos k0_h3]
    iterate 4 (iapply Own.ld $$ H11; iintro H11; iapply Own.st $$ H11; iintro H11)
  on_goal 2 =>
    rw [dif_neg k0_h3, show b.X11_2 = _ from dif_neg k0_h3]
  all_goals
    iapply Own.ld $$ H3; iintro H3
    iapply Own.ld $$ H4; iintro H4
    simp -failIfUnchanged only [v140, v142, v135, v138, v159, v160, v168, v169]
    rw [wp_ret]; imodintro
    iapply HK
    iframe

theorem k0_part5_spec (K : _ → sProp 𝕄) :
    iprop(held b d arg2 arg3 arg4 arg5 arg6 arg9 arg10 arg11 q2 q3 q4 q5 b.X6 b.X9_1 b.X10_1 b.X11_2
      ∗ (held b d arg2 arg3 arg4 arg5 arg6 arg9 arg10 arg11 q2 q3 q4 q5 b.X6 b.X9_1 b.X10_1 b.X11_3 -∗ K ⟨b.v182, b.v185, b.v189, b.v206, b.v207, b.v211, b.v212⟩))
      ⊢ wp frame (wpE (defs₀ (F := F)) 𝒱₀ (d : Thread nD τ) none) E
          (k0_part5 b.i arg2 harg2 arg3 harg3 arg4 harg4 arg5 harg5 arg6 harg6 arg7 harg7 arg8 harg8 arg9 harg9 arg10 harg10 arg11 harg11 arg12 b.arg1 b.v13 b.v26 b.v33 b.v38 b.v42 b.v44 b.v142 b.v159 b.v160 b.v168 b.v169) K := by
  rw [k0_part5_eq_skeleton]; unfold held k0_part5_skel
  simp only [Prog.lift, Prog.bind_op, Prog.bind_ret, Prog.pure_eq_ret]
  iintro ⟨⟨H2, H3, H4, H5, H6, H9, H10, H11⟩, HK⟩
  by_cases k0_h4 : k0_cond4 b.i = 1#1
  on_goal 1 =>
    rw [dif_pos k0_h4, show b.X11_3 = _ from dif_pos k0_h4]
    iterate 4 (iapply Own.ld $$ H11; iintro H11; iapply Own.st $$ H11; iintro H11)
  on_goal 2 =>
    rw [dif_neg k0_h4, show b.X11_3 = _ from dif_neg k0_h4]
  all_goals
    iapply Own.ld $$ H3; iintro H3
    iapply Own.ld $$ H4; iintro H4
    simp -failIfUnchanged only [v187, v189, v182, v185, v206, v207, v211, v212]
    rw [wp_ret]; imodintro
    iapply HK
    iframe

theorem k0_part6_spec (K : _ → sProp 𝕄) :
    iprop(held b d arg2 arg3 arg4 arg5 arg6 arg9 arg10 arg11 q2 q3 q4 q5 b.X6 b.X9_1 b.X10_1 b.X11_3
      ∗ (held b d arg2 arg3 arg4 arg5 arg6 arg9 arg10 arg11 q2 q3 q4 q5 b.X6 b.X9_1 b.X10_1 b.X11_5 -∗ K ⟨b.v233_5, b.v233_6, b.v233_7, b.v233_8, b.v234, b.v236, b.v238, b.v243_0, b.v243_1, b.v243_2, b.v243_3, b.v254, b.v256⟩))
      ⊢ wp frame (wpE (defs₀ (F := F)) 𝒱₀ (d : Thread nD τ) none) E
          (k0_part6 b.i arg2 harg2 arg3 harg3 arg4 harg4 arg5 harg5 arg6 harg6 arg7 harg7 arg8 harg8 arg9 harg9 arg10 harg10 arg11 harg11 arg12 b.arg1 b.v5 b.v6 b.v12 b.v13 b.v19 b.v20 b.v26 b.v27 b.v33 b.v37 b.v38 b.v42 b.v88 b.v91 b.v135 b.v138 b.v182 b.v185 b.v189 b.v206 b.v207 b.v211 b.v212) K := by
  rw [k0_part6_eq_skeleton]; unfold held k0_part6_skel
  simp only [Prog.lift, Prog.bind_op, Prog.bind_ret, Prog.pure_eq_ret]
  iintro ⟨⟨H2, H3, H4, H5, H6, H9, H10, H11⟩, HK⟩
  by_cases k0_h5 : k0_cond5 b.i = 1#1
  on_goal 1 =>
    rw [dif_pos k0_h5]
    iterate 4 (iapply Own.ld $$ H11; iintro H11; iapply Own.st $$ H11; iintro H11)
    iapply (wp_call_spec 𝒱₀ (d : Thread nD τ) none E (W1C.spec b.w1 d q3 q4 arg3 arg4 arg11) (W1C.left b.w1)
      (fun u hu => nomatch hu) (W1C.spec_le b.w1 d E q3 q4 arg3 harg3 arg4 harg4 arg11 harg11))
    rw [W1C.spec_apply]
    rw [W1C.final_X3 b.w1, W1C.final_X4 b.w1, show W1C.X3 b.w1 = b.X3 from rfl, show W1C.X4 b.w1 = b.X4 from rfl]
    isplitl [H3 H4 H11]
    · isplitl [H3]; · iexact H3
      isplitl [H4]; · iexact H4
      rw [show W1C.X11 b.w1 = b.X11_4 from rfl, show b.X11_4 = _ from dif_pos k0_h5]; iexact H11
  on_goal 2 =>
    rw [dif_neg k0_h5]
    iapply (wp_call_spec 𝒱₀ (d : Thread nD τ) none E (W1C.spec b.w1 d q3 q4 arg3 arg4 arg11) (W1C.left b.w1)
      (fun u hu => nomatch hu) (W1C.spec_le b.w1 d E q3 q4 arg3 harg3 arg4 harg4 arg11 harg11))
    rw [W1C.spec_apply]
    rw [W1C.final_X3 b.w1, W1C.final_X4 b.w1, show W1C.X3 b.w1 = b.X3 from rfl, show W1C.X4 b.w1 = b.X4 from rfl]
    isplitl [H3 H4 H11]
    · isplitl [H3]; · iexact H3
      isplitl [H4]; · iexact H4
      rw [show W1C.X11 b.w1 = b.X11_4 from rfl, show b.X11_4 = _ from dif_neg k0_h5]; iexact H11
  all_goals
    iintro ⟨H3, H4, H11⟩
    dsimp only
    iapply Own.ld $$ H3; iintro H3
    by_cases k0_h10 : k0_cond10 b.i = 1#1
    on_goal 1 =>
      rw [dif_pos k0_h10]
      have e_v243 : b.v243 = _ := dif_pos k0_h10
      iterate 4 (iapply Own.ld $$ H11; iintro H11)
    on_goal 2 =>
      rw [dif_neg k0_h10]
      have e_v243 : b.v243 = _ := dif_neg k0_h10
      iapply Own.ld $$ H4; iintro H4
    all_goals
      simp -failIfUnchanged only [BodyC.w1e, BodyC.v233_0, BodyC.v233_1, BodyC.v233_2, BodyC.v233_3, BodyC.v233_4, BodyC.v233_5, BodyC.v233_6, BodyC.v233_7, BodyC.v233_8, BodyC.X11_5, BodyC.v235, BodyC.v236, BodyC.v238, BodyC.v243_0, BodyC.v243_1, BodyC.v243_2, BodyC.v243_3, BodyC.v234, BodyC.v254, BodyC.v256, e_v243]
      rw [wp_ret]; imodintro
      iapply HK
      iframe

theorem k0_part7_spec (K : _ → sProp 𝕄) :
    iprop(held b d arg2 arg3 arg4 arg5 arg6 arg9 arg10 arg11 q2 q3 q4 q5 b.X6 b.X9_1 b.X10_1 b.X11_5
      ∗ (held b d arg2 arg3 arg4 arg5 arg6 arg9 arg10 arg11 q2 q3 q4 q5 b.X6 b.X9_1 b.X10_1 b.X11_5 -∗ K ⟨b.v265, b.v267, b.v269, b.v272, b.v275, b.v277, b.v282_0, b.v282_2, b.v282_3, b.v302⟩))
      ⊢ wp frame (wpE (defs₀ (F := F)) 𝒱₀ (d : Thread nD τ) none) E
          (k0_part7 b.i arg2 harg2 arg3 harg3 arg4 harg4 arg5 harg5 arg6 harg6 arg7 harg7 arg8 harg8 arg9 harg9 arg10 harg10 arg11 harg11 arg12 b.arg1 b.v5 b.v6 b.v19 b.v20 b.v33 b.v37 b.v38 b.v42 b.v233_6 b.v234 b.v236 b.v238 b.v243_0 b.v243_1 b.v243_2 b.v243_3 b.v254 b.v256) K := by
  rw [k0_part7_eq_skeleton]; unfold held k0_part7_skel
  simp only [Prog.lift, Prog.bind_op, Prog.bind_ret, Prog.pure_eq_ret]
  iintro ⟨⟨H2, H3, H4, H5, H6, H9, H10, H11⟩, HK⟩
  iapply Own.ld $$ H3; iintro H3
  by_cases k0_h11 : k0_cond11 b.i = 1#1
  on_goal 1 =>
    rw [dif_pos k0_h11]
    have e_v282 : b.v282 = _ := dif_pos k0_h11
    iterate 4 (iapply Own.ld $$ H11; iintro H11)
  on_goal 2 =>
    rw [dif_neg k0_h11]
    have e_v282 : b.v282 = _ := dif_neg k0_h11
    iapply Own.ld $$ H4; iintro H4
  all_goals
    simp -failIfUnchanged only [BodyC.v277, BodyC.v282_0, BodyC.v282_1, BodyC.v282_2, BodyC.v282_3, BodyC.v265, BodyC.v267, BodyC.v269, BodyC.v272, BodyC.v275, BodyC.v302, e_v282]
    rw [wp_ret]; imodintro
    iapply HK
    iframe

theorem k0_part8_spec (K : _ → sProp 𝕄) :
    iprop(held b d arg2 arg3 arg4 arg5 arg6 arg9 arg10 arg11 q2 q3 q4 q5 b.X6 b.X9_1 b.X10_1 b.X11_5
      ∗ (held b d arg2 arg3 arg4 arg5 arg6 arg9 arg10 arg11 q2 q3 q4 q5 b.X6 b.X9_1 b.X10_1 b.X11_5 -∗ K ⟨b.v307, b.v308, b.v310, b.v313, b.v316, b.v318, b.v323_0, b.v323_3, b.v344, b.v345, b.v347, b.cst_117⟩))
      ⊢ wp frame (wpE (defs₀ (F := F)) 𝒱₀ (d : Thread nD τ) none) E
          (k0_part8 b.i arg2 harg2 arg3 harg3 arg4 harg4 arg5 harg5 arg6 harg6 arg7 harg7 arg8 harg8 arg9 harg9 arg10 harg10 arg11 harg11 arg12 b.arg1 b.v6 b.v12 b.v20 b.v26 b.v33 b.v37 b.v38 b.v42 b.v233_7 b.v234 b.v236 b.v265 b.v267 b.v277 b.v282_0 b.v282_2 b.v282_3 b.v302) K := by
  rw [k0_part8_eq_skeleton]; unfold held k0_part8_skel
  simp only [Prog.lift, Prog.bind_op, Prog.bind_ret, Prog.pure_eq_ret]
  iintro ⟨⟨H2, H3, H4, H5, H6, H9, H10, H11⟩, HK⟩
  iapply Own.ld $$ H3; iintro H3
  by_cases k0_h12 : k0_cond12 b.i = 1#1
  on_goal 1 =>
    rw [dif_pos k0_h12]
    have e_v323 : b.v323 = _ := dif_pos k0_h12
    iterate 4 (iapply Own.ld $$ H11; iintro H11)
  on_goal 2 =>
    rw [dif_neg k0_h12]
    have e_v323 : b.v323 = _ := dif_neg k0_h12
    iapply Own.ld $$ H4; iintro H4
  all_goals
    simp -failIfUnchanged only [BodyC.v318, BodyC.v323_0, BodyC.v323_1, BodyC.v323_2, BodyC.v323_3, BodyC.cst_117, BodyC.v307, BodyC.v308, BodyC.v310, BodyC.v313, BodyC.v316, BodyC.v344, BodyC.v345, BodyC.v347, e_v323]
    rw [wp_ret]; imodintro
    iapply HK
    iframe

theorem k0_part9_spec (K : _ → sProp 𝕄) :
    iprop(held b d arg2 arg3 arg4 arg5 arg6 arg9 arg10 arg11 q2 q3 q4 q5 b.X6 b.X9_1 b.X10_1 b.X11_5
      ∗ (held b d arg2 arg3 arg4 arg5 arg6 arg9 arg10 arg11 q2 q3 q4 q5 b.X6 b.X9_1 b.X10_1 b.X11_5 -∗ K ⟨b.v349, b.v352, b.v355, b.v362_3, b.v387, b.v388, b.v390, b.v393⟩))
      ⊢ wp frame (wpE (defs₀ (F := F)) 𝒱₀ (d : Thread nD τ) none) E
          (k0_part9 b.i arg2 harg2 arg3 harg3 arg4 harg4 arg5 harg5 arg6 harg6 arg7 harg7 arg8 harg8 arg9 harg9 arg10 harg10 arg11 harg11 arg12 b.arg1 b.v13 b.v27 b.v33 b.v37 b.v38 b.v42 b.v233_8 b.v234 b.v236 b.v318 b.v323_0 b.v323_3 b.v344 b.v345 b.v347 b.cst_117) K := by
  rw [k0_part9_eq_skeleton]; unfold held k0_part9_skel
  simp only [Prog.lift, Prog.bind_op, Prog.bind_ret, Prog.pure_eq_ret]
  iintro ⟨⟨H2, H3, H4, H5, H6, H9, H10, H11⟩, HK⟩
  iapply Own.ld $$ H3; iintro H3
  by_cases k0_h13 : k0_cond13 b.i = 1#1
  on_goal 1 =>
    rw [dif_pos k0_h13]
    have e_v362 : b.v362 = _ := dif_pos k0_h13
    iterate 4 (iapply Own.ld $$ H11; iintro H11)
  on_goal 2 =>
    rw [dif_neg k0_h13]
    have e_v362 : b.v362 = _ := dif_neg k0_h13
    iapply Own.ld $$ H4; iintro H4
  all_goals
    simp -failIfUnchanged only [BodyC.v357, BodyC.v362_0, BodyC.v362_1, BodyC.v362_2, BodyC.v362_3, BodyC.v349, BodyC.v352, BodyC.v355, BodyC.v387, BodyC.v388, BodyC.v390, BodyC.v393, e_v362]
    rw [wp_ret]; imodintro
    iapply HK
    iframe

theorem k0_part10_spec (K : _ → sProp 𝕄) :
    iprop(held b d arg2 arg3 arg4 arg5 arg6 arg9 arg10 arg11 q2 q3 q4 q5 b.X6 b.X9_1 b.X10_1 b.X11_5
      ∗ (held b d arg2 arg3 arg4 arg5 arg6 arg9 arg10 arg11 q2 q3 q4 q5 b.X6_2 b.X9_4 b.X10_4 b.X11_5 -∗ K ⟨⟩))
      ⊢ wp frame (wpE (defs₀ (F := F)) 𝒱₀ (d : Thread nD τ) none) E
          (k0_part10 b.i arg2 harg2 arg3 harg3 arg4 harg4 arg5 harg5 arg6 harg6 arg7 harg7 arg8 harg8 arg9 harg9 arg10 harg10 arg11 harg11 arg12 b.arg1 b.v3 b.v5 b.v6 b.v12 b.v13 b.v19 b.v20 b.v26 b.v27 b.v33 b.v37 b.v42 b.v233_5 b.v233_6 b.v233_7 b.v233_8 b.v236 b.v269 b.v272 b.v275 b.v307 b.v308 b.v310 b.v313 b.v316 b.v349 b.v352 b.v355 b.v362_3 b.v387 b.v388 b.v390 b.v393) K := by
  rw [k0_part10_eq_skeleton]; unfold held k0_part10_skel
  simp only [Prog.lift, Prog.bind_op, Prog.bind_ret, Prog.pure_eq_ret]
  iintro ⟨⟨H2, H3, H4, H5, H6, H9, H10, H11⟩, HK⟩
  iterate 2 (iapply Own.ld $$ H9; iintro H9)
  iapply Own.st $$ H9; iintro H9
  iterate 2 (iapply Own.ld $$ H10; iintro H10)
  iapply Own.st $$ H10; iintro H10
  iterate 2 (iapply Own.ld $$ H9; iintro H9)
  iapply Own.st $$ H9; iintro H9
  iterate 2 (iapply Own.ld $$ H10; iintro H10)
  iapply Own.st $$ H10; iintro H10
  iapply (wp_call_spec 𝒱₀ (d : Thread nD τ) none E (W2C.spec b.w2 d q3 q4 arg3 arg11 arg4 arg9 arg10) (W2C.left b.w2)
    (fun u hu => nomatch hu) (W2C.spec_le b.w2 d E q3 q4 arg3 harg3 arg11 harg11 arg4 harg4 arg9 harg9 arg10 harg10))
  rw [W2C.spec_apply]
  rw [W2C.final_X3 b.w2, W2C.final_X4 b.w2, W2C.final_X11 b.w2, show W2C.X3 b.w2 = b.X3 from rfl, show W2C.X4 b.w2 = b.X4 from rfl, show W2C.X11 b.w2 = b.X11_5 from rfl]
  isplitl [H3 H4 H11 H9 H10]
  · iframe; isplitl [H9]; iexact H9; iexact H10
  iintro ⟨H3, H4, H11, H9, H10⟩
  dsimp only
  iterate 2 (iapply Own.ld $$ H6; iintro H6; iapply Own.st $$ H6; iintro H6)
  simp -failIfUnchanged only [v398, v401, X9_2, v405, v408, X10_2, v412, v415, X9_3, v419, v422, X10_3, w2e, v425_0, v425_1, v425_2, v425_3, v425_4, v425_5, v425_6, v425_7, v425_8, v425_9, v425_10, v425_11, v425_12, X9_4, X10_4, v427, X6_1, v429, X6_2]
  rw [wp_ret]; imodintro
  iapply HK
  iframe

/-- The sums' columns of an array after the body: rewritten by the group's sums at the group's last row tile. -/
def outCols (i : grid0.Coords) (Y : FVec F S8192x1024 .f32) (X : FVec F S8192x256 .f32) : FVec F S8192x1024 .f32 :=
  if h : k0_cond18 i = 1#1 then
    (Rect.unit (s := S8192x1024) (k0_off31 i) S8192x256.size (k0_off31_inb i h)).overlay Y X
  else Y

theorem numel_pos : 0 < S8192x256.numel := by decide

attribute [local irreducible] k0_part1 k0_part2 k0_part3 k0_part4 k0_part5 k0_part6 k0_part7 k0_part8 k0_part9 k0_part10

/-- The body at a grid point. -/
theorem body_spec (Y7 Y8 : FVec F S8192x1024 .f32) (W : Waits sig Unit)
    (K : PUnit → sProp 𝕄) :
    iprop((ownsTc d arg2 q2 b.X2 ∗ ownsTc d arg3 q3 b.X3 ∗ ownsTc d arg4 q4 b.X4 ∗ ownsTc d arg5 q5 b.X5 ∗ ownsTc d arg6 fullShare b.X6 ∗ ownsTc d arg9 fullShare b.X9 ∗ ownsTc d arg10 fullShare b.X10 ∗ ownsTc d arg11 fullShare b.X11
        ∗ ownsTc d arg7 fullShare Y7 ∗ ownsTc d arg8 fullShare Y8
        ∗ semVal ((d : Thread nD τ), .dma ((arg12.slice (Rect.unit (s := S2) ![0] S1.size inb_S2_S1_0)).squeeze S_ squeezes_S1_S_).sem) 0
        ∗ semVal ((d : Thread nD τ), .dma ((arg12.slice (Rect.unit (s := S2) ![1] S1.size inb_S2_S1_1)).squeeze S_ squeezes_S1_S_).sem) 0
        ∗ owes (d : Thread nD τ) 0 W)
      ∗ ((ownsTc d arg2 q2 b.X2 ∗ ownsTc d arg3 q3 b.X3 ∗ ownsTc d arg4 q4 b.X4 ∗ ownsTc d arg5 q5 b.X5 ∗ ownsTc d arg6 fullShare b.X6_2 ∗ ownsTc d arg9 fullShare b.X9_4 ∗ ownsTc d arg10 fullShare b.X10_4 ∗ ownsTc d arg11 fullShare b.X11_5
        ∗ ownsTc d arg7 fullShare (outCols b.i Y7 b.X9_4) ∗ ownsTc d arg8 fullShare (outCols b.i Y8 b.X10_4)
        ∗ semVal ((d : Thread nD τ), .dma ((arg12.slice (Rect.unit (s := S2) ![0] S1.size inb_S2_S1_0)).squeeze S_ squeezes_S1_S_).sem) 0
        ∗ semVal ((d : Thread nD τ), .dma ((arg12.slice (Rect.unit (s := S2) ![1] S1.size inb_S2_S1_1)).squeeze S_ squeezes_S1_S_).sem) 0
        ∗ (∃ W', owes (d : Thread nD τ) 0 W')) -∗ K ⟨⟩))
      ⊢ wp frame (wpE (defs₀ (F := F)) 𝒱₀ (d : Thread nD τ) none) Set.univ
          (cc0_sb_bwd_4 b.i arg2 harg2 arg3 harg3 arg4 harg4 arg5 harg5 arg6 harg6 arg7 harg7 arg8 harg8 arg9 harg9 arg10 harg10 arg11 harg11 arg12) K := by
  rw [cc0_sb_bwd_4_eq_skeleton]; unfold cc0_sb_bwd_4_skel
  iintro ⟨⟨H2, H3, H4, H5, H6, H9, H10, H11, H7, H8, Hv0, Hv1, HW⟩, HK⟩
  iterate 10
    rw [wp_bind]
    first
      | iapply (k0_part1_spec b d _ _ _ _ _ _ _ _ _ _ _ _ _ _ _ _ _ _ _ _ _ _)
      | iapply (k0_part2_spec b d _ _ _ _ _ _ _ _ _ _ _ _ _ _ _ _ _ _ _ _ _ _)
      | iapply (k0_part3_spec b d _ _ _ _ _ _ _ _ _ _ _ _ _ _ _ _ _ _ _ _ _ _)
      | iapply (k0_part4_spec b d _ _ _ _ _ _ _ _ _ _ _ _ _ _ _ _ _ _ _ _ _ _)
      | iapply (k0_part5_spec b d _ _ _ _ _ _ _ _ _ _ _ _ _ _ _ _ _ _ _ _ _ _)
      | iapply (k0_part6_spec b d _ _ _ _ _ _ _ _ _ _ _ _ _ _ _ _ _ _ _ _ _ _)
      | iapply (k0_part7_spec b d _ _ _ _ _ _ _ _ _ _ _ _ _ _ _ _ _ _ _ _ _ _)
      | iapply (k0_part8_spec b d _ _ _ _ _ _ _ _ _ _ _ _ _ _ _ _ _ _ _ _ _ _)
      | iapply (k0_part9_spec b d _ _ _ _ _ _ _ _ _ _ _ _ _ _ _ _ _ _ _ _ _ _)
      | iapply (k0_part10_spec b d _ _ _ _ _ _ _ _ _ _ _ _ _ _ _ _ _ _ _ _ _ _)
    unfold held; isplitl [H2 H3 H4 H5 H6 H9 H10 H11]; iframe
    iintro ⟨H2, H3, H4, H5, H6, H9, H10, H11⟩
    try dsimp only
  by_cases k0_h18 : k0_cond18 b.i = 1#1
  on_goal 1 =>
    rw [dif_pos k0_h18]
    simp only [Prog.lift, Prog.bind_op, Prog.bind_ret, Prog.pure_eq_ret, bind_pure]
    ihave H7 := (owns_slice_split (d : Thread nD τ) arg7 fullShare (Rect.unit (s := S8192x1024) (k0_off31 b.i) S8192x256.size (k0_off31_inb b.i k0_h18)) (fun _ => rfl) Y7) $$ H7
    ihave H8 := (owns_slice_split (d : Thread nD τ) arg8 fullShare (Rect.unit (s := S8192x1024) (k0_off31 b.i) S8192x256.size (k0_off31_inb b.i k0_h18)) (fun _ => rfl) Y8) $$ H8
    icases H7 with ⟨H7, ⟨%f7, %hf7, R7⟩⟩
    icases H8 with ⟨H8, ⟨%f8, %hf8, R8⟩⟩
    iapply (Own.wp_copy_own (countersEmb (U := Pipeline.UD sig nD τ)) 𝒱₀ (d : Thread nD τ) none () _ rfl (View.amount_pos _ _ numel_pos)) $$ [H9 H7 Hv0]
    · iframe
    iintro HF0
    iapply (Own.wp_copy_own (countersEmb (U := Pipeline.UD sig nD τ)) 𝒱₀ (d : Thread nD τ) none () _ rfl (View.amount_pos _ _ numel_pos)) $$ [H10 H8 Hv1]
    · iframe
    iintro HF1
    iapply (Transfers.wp_waitLocal (countersEmb (U := Pipeline.UD sig nD τ)) 𝒱₀ (d : Thread nD τ) none () rfl) $$ [HF0 HW]
    · iframe
    iintro ⟨⟨H7, H9⟩, Hv0, HW⟩
    iapply (Transfers.wp_waitLocal (countersEmb (U := Pipeline.UD sig nD τ)) 𝒱₀ (d : Thread nD τ) none () rfl) $$ [HF1 HW]
    · iframe
    iintro ⟨⟨H8, H10⟩, Hv1, HW⟩
    rw [wp_ret]; imodintro
    ihave H7 := (owns_slice_join (d : Thread nD τ) arg7 fullShare (Rect.unit (s := S8192x1024) (k0_off31 b.i) S8192x256.size (k0_off31_inb b.i k0_h18)) (fun _ => rfl) b.X9_4 f7) $$ [H7 R7]
    · iframe
    ihave H8 := (owns_slice_join (d : Thread nD τ) arg8 fullShare (Rect.unit (s := S8192x1024) (k0_off31 b.i) S8192x256.size (k0_off31_inb b.i k0_h18)) (fun _ => rfl) b.X10_4 f8) $$ [H8 R8]
    · iframe
    iapply HK
    rw [hf7, hf8, show outCols b.i Y7 b.X9_4 = _ from dif_pos k0_h18, show outCols b.i Y8 b.X10_4 = _ from dif_pos k0_h18]
  on_goal 2 =>
    rw [dif_neg k0_h18]
    simp only [Prog.lift, Prog.bind_op, Prog.bind_ret, Prog.pure_eq_ret, bind_pure]
    rw [wp_ret]; imodintro
    iapply HK
    rw [show outCols b.i Y7 b.X9_4 = _ from dif_neg k0_h18, show outCols b.i Y8 b.X10_4 = _ from dif_neg k0_h18]
  all_goals
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H7]; · iexact H7
    isplitl [H8]; · iexact H8
    isplitl [Hv0]; · iexact Hv0
    isplitl [Hv1]; · iexact Hv1
    iexists _; iexact HW

end Cert.AttnIdeal.Run

end
-- ==== Proof.AttnFrame.lean ====
/-
  The attention gradient kernel's frame: the body's run at every grid point, its scratch buffers and the two results it
  copies out itself held at some contents between points.
-/
module

public import proofs.«01_k».proof.Proof.AttnBody
public import proofs.«01_k».proof.Proof.Gen.AttnIdeal.Launch
public import proofs.«01_k».proof.Proof.Gen.AttnIdeal.Points
public import Idealize.ShloMosaic.Lib.Pipeline.Frame
public import Idealize.ShloMosaic.Lib.Pipeline.FrameBody
public import Idealize.ShloMosaic.Lib.Pipeline.FrameValue

@[expose] public section

noncomputable section

namespace Cert.AttnIdeal.Run

open Cert.AttnIdeal Cert.AttnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The results the body copies out itself. -/
def R0 : Finset (Ref sig .tc) := {main_v0_1, main_v0_2}

/-- The buffers as the region finds them. -/
abbrev V (c : Dev nD) (b : Ref sig .tc) : Buf (Elt F) ((c : Thread nD τ).loc b) := m ((c : Thread nD τ).loc b)

theorem hmain : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's two cells. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl

theorem R0_sub : R0 ⊆ Pipeline.restRefs sig spec0 \ ∅ := by decide

abbrev scM9 : Memref sig .tc .vmem S8192x256 .f32 := Memref.whole cc0_scratch0
abbrev scM10 : Memref sig .tc .vmem S8192x256 .f32 := Memref.whole cc0_scratch1
abbrev scM11 : Memref sig .tc .vmem S64x128x128 .f32 := Memref.whole cc0_scratch2
abbrev hbM7 : Memref sig .tc .hbm S8192x1024 .f32 := Memref.whole main_v0_1
abbrev hbM8 : Memref sig .tc .hbm S8192x1024 .f32 := Memref.whole main_v0_2

/-- The scratch buffers, each owned at some contents. -/
theorem scoped_eq (c : Dev nD) :
    (Pipeline.scopedRest (Ix := Unit) (Name := ℕ) (U := Pipeline.UD sig nD τ) (Lvl := ℕ) (Val := Elt F) spec0 c : sProp 𝕄)
      = iprop((∃ d, owns (c : Thread nD τ) scM9 fullShare d) ∗ (∃ d, owns (c : Thread nD τ) scM10 fullShare d)
          ∗ (∃ d, owns (c : Thread nD τ) scM11 fullShare d)) := by
  rw [scopedRest0_eq]
  simp only [scM9, scM10, scM11, owns_whole]; try rfl

theorem owned_eq (c : Dev nD) :
    (Pipeline.owned R0 c : sProp 𝕄)
      = iprop((∃ d, owns (c : Thread nD τ) hbM7 fullShare d) ∗ (∃ d, owns (c : Thread nD τ) hbM8 fullShare d)) := by
  unfold Pipeline.owned; rw [BI.bigSep_eq_bigSepL_of_eq [main_v0_1, main_v0_2] (by decide) (by decide)]
  simp only [hbM7, hbM8, owns_whole]; rfl

theorem PhiDR0_eq (c : Dev nD) :
    (Pipeline.ΦDR osem0 spec0 ∅ R0 (V m) c : sProp 𝕄)
      = iprop(iprop((∃ d, owns (c : Thread nD τ) scM9 fullShare d) ∗ (∃ d, owns (c : Thread nD τ) scM10 fullShare d)
                ∗ (∃ d, owns (c : Thread nD τ) scM11 fullShare d))
          ∗ (∃ r, prngReg c r)
          ∗ iprop(semVal ((c : Thread nD τ), SemLoc.dma 10) 0 ∗ semVal ((c : Thread nD τ), SemLoc.dma 11) 0)
          ∗ (BI.emp : sProp 𝕄)
          ∗ iprop((∃ d, owns (c : Thread nD τ) hbM7 fullShare d) ∗ (∃ d, owns (c : Thread nD τ) hbM8 fullShare d))) := by
  rw [Pipeline.ΦDR_eq, scoped_eq, ownSems00_eq, owned_eq, BI.bigSep_empty]

/-- The frame's data: nothing is said of what the body leaves. -/
def fdats (_ : Fin 1) (c : Dev nD) : Dat τ (Elt F) Unit ℕ (Pipeline.UD sig nD τ) ℕ (cfg0 (F := F)) c where
  A w := V m c (Pipeline.arrRef spec0 w)
  after w t := fun _ => Classical.choice inferInstance
  Φ _ := Pipeline.ΦDR osem0 spec0 ∅ R0 (V m) c
  q w := Pipeline.shareOf spec0 w
  owed _ := 0

def bodyPre (c : Dev nD) (t : Fin (cfg0 (F := F)).N) : sProp 𝕄 :=
  iprop((fdats m 0 c).Φ t.castSucc ∗ (fdats m 0 c).owesAt () t.castSucc
    ∗ (∃ X, owns (c : Thread nD τ) (st0_0 (F := F) t) fullShare X)
    ∗ (∃ X, owns (c : Thread nD τ) (st0_1 (F := F) t) fullShare X)
    ∗ (∃ X, owns (c : Thread nD τ) (st0_2 (F := F) t) fullShare X)
    ∗ (∃ X, owns (c : Thread nD τ) (st0_3 (F := F) t) fullShare X)
    ∗ (∃ X, owns (c : Thread nD τ) (st0_4 (F := F) t) fullShare X))
def bodyPost (c : Dev nD) (t : Fin (cfg0 (F := F)).N) : sProp 𝕄 :=
  iprop((fdats m 0 c).Φ t.succ ∗ (fdats m 0 c).owesAt () t.succ
    ∗ (∃ X, owns (c : Thread nD τ) (st0_0 (F := F) t) fullShare X)
    ∗ (∃ X, owns (c : Thread nD τ) (st0_1 (F := F) t) fullShare X)
    ∗ (∃ X, owns (c : Thread nD τ) (st0_2 (F := F) t) fullShare X)
    ∗ (∃ X, owns (c : Thread nD τ) (st0_3 (F := F) t) fullShare X)
    ∗ (∃ X, owns (c : Thread nD τ) (st0_4 (F := F) t) fullShare X))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  rw [show (fdats m 0 c).Φ t.succ = (fdats m 0 c).Φ t.castSucc from rfl]
  rw [show (fdats m 0 c).Φ t.castSucc = Pipeline.ΦDR osem0 spec0 ∅ R0 (V m) c from rfl, PhiDR0_eq]
  unfold Dat.owesAt Pipeline.owesWithin
  rw [show (fdats m 0 c).owed t.castSucc = 0 from rfl, show (fdats m 0 c).owed t.succ = 0 from rfl]
  iintro ⟨⟨⟨⟨%X9, H9⟩, ⟨%X10, H10⟩, ⟨%X11, H11⟩⟩, Hg, ⟨Hq0, Hq1⟩, He, ⟨⟨%Y7, H7⟩, ⟨%Y8, H8⟩⟩⟩, ⟨%W, -, HW⟩, ⟨%X2, H2⟩, ⟨%X3, H3⟩, ⟨%X4, H4⟩, ⟨%X5, H5⟩, ⟨%X6, H6⟩⟩
  iapply (body_spec ⟨grid0.coords t, X2, X3, X4, X5, X6, X9, X10, X11⟩ c _ _ _ _ _ _ _ _ _ _ _ _ _ _ _ _ _ _ _ _ _ Y7 Y8 W)
  isplitl [H2 H3 H4 H5 H6 H9 H10 H11 H7 H8 Hq0 Hq1 HW]
  · isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H7]; · iexact H7
    isplitl [H8]; · iexact H8
    isplitl [Hq0]; · iexact Hq0
    isplitl [Hq1]; · iexact Hq1
    iexact HW
  iintro ⟨H2, H3, H4, H5, H6, H9, H10, H11, H7, H8, Hq0, Hq1, ⟨%W', HW'⟩⟩
  isplitl [H9 H10 H11 Hg Hq0 Hq1 He H7 H8]
  · isplitl [H9 H10 H11]
    · isplitl [H9]; · iexists _; iexact H9
      isplitl [H10]; · iexists _; iexact H10
      iexists _; iexact H11
    isplitl [Hg]; · iexact Hg
    isplitl [Hq0 Hq1]
    · isplitl [Hq0]; · iexact Hq0
      iexact Hq1
    isplitl [He]; · iexact He
    isplitl [H7]; · iexists _; iexact H7
    iexists _; iexact H8
  isplitl [HW']
  · iexists W'; isplitr; · ipureintro; exact fun _ _ => Or.inl trivial
    iexact HW'
  isplitl [H2]; · iexists _; iexact H2
  isplitl [H3]; · iexists _; iexact H3
  isplitl [H4]; · iexists _; iexact H4
  isplitl [H5]; · iexists _; iexact H5
  iexists _; iexact H6

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (fdats (F := F) m 0 c) (defs₀ (F := F)) 𝒱₀ () Set.univ (fun _ => true) := fun t => by
  simp only [bigSep_W0]
  exact triple_restated (sound_body m c t) (congrArg _ (defs₀_row t).symm) .rfl fun _ => .rfl

set_option backward.isDefEq.respectTransparency.types false in
theorem run_frame : θ_run defs (onTc (τ := τ) (main (F := F))) (s₀ m ρ) (fun r =>
    Pipeline.RDat.FramePostR (cfg0 (F := F)) (fun c => (fdats m 0 c).toRForget (fun _ => true)) R0 (V m) r ∧ r.2.sem = fun _ => 0) :=
  Pipeline.θ_run_frame_dmaR_forget_shared (Q' := _) cfgs (fdats m) (0 : Fin 1) launch₀0 osem0 defs₀ 𝒱₀ (fun _ => true) ownSemFacts0 ∅ R0
    (Finset.empty_subset _) R0_sub m ρ main
    (hbody := fun c => (body_obligation m c).loose) (hq := fun _ _ _ => rfl)
    (howed := fun _ _ => rfl) (V := V m) (hmain := hmain m) (hA := fun _ _ => rfl)
    (hin := fun _ => .rfl) (hout := fun _ => .rfl)

/-- The frame: the run ends, the arguments are as they were, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨h.1.arr_in c 0 rfl, h.1.arr_in c 3 rfl⟩, h.2⟩) (run_frame m ρ)

end Cert.AttnIdeal.Run

end
-- ==== Proof.BitsModel.lean ====
/-
  The printed kernel computes the same functions of the values in its buffers as its ideal reading, the bound of its walks
  being the constant as printed.
-/
module

public import proofs.«01_k».proof.Proof.Gen.Attn.Skeleton
public import proofs.«01_k».proof.Proof.AttnModel

@[expose] public section

namespace Cert.Attn.Run

open Idealize.ShloMosaic

/-- A named constant is the constant as printed. -/
@[reducible] def plain {F : FTy → Type} [FloatOps F] : Named F := ⟨fun _ _ _ bits => Scalar.ofBits _ bits⟩

end Cert.Attn.Run

end
-- ==== Proof.BitsWalk.lean ====
/-
  The two walks, run to their ends: the parts of a trip, then the trips.
-/
module

public import proofs.«01_k».proof.Proof.BitsModel
public import Idealize.ShloMosaic.Lib.Pipeline.FrameValue

@[expose] public section

noncomputable section

namespace Cert.Attn.Run

open Cert.Attn Cert.Attn.Gen
open Cert.AttnIdeal.Run (W1C W2C BodyC 𝒱₀)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] plain

local notation "𝕄" => MT nD τ sig Unit (Elt F) ℕ (Pipeline.UD sig nD τ) ℕ

section
open Cert.AttnIdeal.Run.W1C
variable (c : W1C F) (h : c.test) (d : Dev nD) (bd : Option 𝒱₀.V) (E : Set ℕ) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole) {q3 q4 : PosShare TreeShare}

theorem k0_part11_spec (K : _ → sProp 𝕄) :
    iprop((ownsTc d arg3 q3 c.X3 ∗ ownsTc d arg4 q4 c.X4 ∗ ownsTc d arg11 fullShare c.X11)
      ∗ ((ownsTc d arg3 q3 c.X3 ∗ ownsTc d arg4 q4 c.X4 ∗ ownsTc d arg11 fullShare (c.X11_1 h)) -∗ K ⟨c.chk h, c.v433 h, c.v435 h, c.v437 h, c.v456 h, c.v470 h⟩))
      ⊢ wp frame (wpE (defs₀ (F := F)) 𝒱₀ (d : Thread nD τ) bd) E
          (k0_part11 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1) K := by
  rw [k0_part11_eq_skeleton]; unfold k0_part11_skel
  simp only [Prog.lift, Prog.bind_op, Prog.bind_ret, Prog.pure_eq_ret]
  iintro ⟨⟨H3, H4, H11⟩, HK⟩
  iapply (wp_assume _ _ _ _ (c.chk h))
  iapply Own.ld $$ H3; iintro H3
  iapply Own.ld $$ H4; iintro H4
  by_cases k0_h6 : k0_cond6 c.i c.arg13 = 1#1
  on_goal 1 =>
    rw [dif_pos k0_h6, show (c.X11_1 h) = _ from dif_pos k0_h6]
    iterate 4 (iapply Own.ld $$ H11; iintro H11; iapply Own.st $$ H11; iintro H11)
  on_goal 2 =>
    rw [dif_neg k0_h6, show (c.X11_1 h) = _ from dif_neg k0_h6]
  all_goals
    simp -failIfUnchanged only [v433, v434, v435, v436, v437, v439, v441, v456, v470]
    rw [wp_ret]; imodintro
    ihave HK := HK $$ [H3 H4 H11]
    · isplitl [H3]; iexact H3; isplitl [H4]; iexact H4; iexact H11
    iapply (Entails.of_eq ?_) $$ HK; rfl

theorem k0_part12_spec (K : _ → sProp 𝕄) :
    iprop((ownsTc d arg3 q3 c.X3 ∗ ownsTc d arg4 q4 c.X4 ∗ ownsTc d arg11 fullShare (c.X11_1 h))
      ∗ ((ownsTc d arg3 q3 c.X3 ∗ ownsTc d arg4 q4 c.X4 ∗ ownsTc d arg11 fullShare (c.X11_2 h)) -∗ K ⟨c.v477 h, c.v480 h, c.v499 h, c.v513 h⟩))
      ⊢ wp frame (wpE (defs₀ (F := F)) 𝒱₀ (d : Thread nD τ) bd) E
          (k0_part12 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v456 h) (c.v470 h)) K := by
  rw [k0_part12_eq_skeleton]; unfold k0_part12_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h7 : k0_cond7 c.i c.arg13 = 1#1
  on_goal 1 =>
    rw [dif_pos k0_h7, show (c.X11_2 h) = _ from dif_pos k0_h7]
    iterate 4 (iapply Own.ld $$ H11; iintro H11; iapply Own.st $$ H11; iintro H11)
  on_goal 2 =>
    rw [dif_neg k0_h7, show (c.X11_2 h) = _ from dif_neg k0_h7]
  all_goals
    simp -failIfUnchanged only [v482, v484, v477, v480, v499, v513]
    rw [wp_ret]; imodintro
    ihave HK := HK $$ [H3 H4 H11]
    · isplitl [H3]; iexact H3; isplitl [H4]; iexact H4; iexact H11
    iapply (Entails.of_eq ?_) $$ HK; rfl

theorem k0_part13_spec (K : _ → sProp 𝕄) :
    iprop((ownsTc d arg3 q3 c.X3 ∗ ownsTc d arg4 q4 c.X4 ∗ ownsTc d arg11 fullShare (c.X11_2 h))
      ∗ ((ownsTc d arg3 q3 c.X3 ∗ ownsTc d arg4 q4 c.X4 ∗ ownsTc d arg11 fullShare (c.X11_3 h)) -∗ K ⟨c.v520 h, c.v523 h, c.v556 h, c.v561 h⟩))
      ⊢ wp frame (wpE (defs₀ (F := F)) 𝒱₀ (d : Thread nD τ) bd) E
          (k0_part13 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v499 h) (c.v513 h)) K := by
  rw [k0_part13_eq_skeleton]; unfold k0_part13_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h8 : k0_cond8 c.i c.arg13 = 1#1
  on_goal 1 =>
    rw [dif_pos k0_h8, show (c.X11_3 h) = _ from dif_pos k0_h8]
    iterate 4 (iapply Own.ld $$ H11; iintro H11; iapply Own.st $$ H11; iintro H11)
  on_goal 2 =>
    rw [dif_neg k0_h8, show (c.X11_3 h) = _ from dif_neg k0_h8]
  all_goals
    simp -failIfUnchanged only [v525, v527, v520, v523, v556, v561]
    rw [wp_ret]; imodintro
    ihave HK := HK $$ [H3 H4 H11]
    · isplitl [H3]; iexact H3; isplitl [H4]; iexact H4; iexact H11
    iapply (Entails.of_eq ?_) $$ HK; rfl

theorem k0_part14_spec (K : _ → sProp 𝕄) :
    iprop((ownsTc d arg3 q3 c.X3 ∗ ownsTc d arg4 q4 c.X4 ∗ ownsTc d arg11 fullShare (c.X11_3 h))
      ∗ ((ownsTc d arg3 q3 c.X3 ∗ ownsTc d arg4 q4 c.X4 ∗ ownsTc d arg11 fullShare (c.X11_4 h)) -∗ K ⟨c.v563 h, c.v566 h, c.v599 h, c.v605 h⟩))
      ⊢ wp frame (wpE (defs₀ (F := F)) 𝒱₀ (d : Thread nD τ) bd) E
          (k0_part14 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21 c.arg1 (c.chk h) (c.v435 h) (c.v437 h) (c.v556 h) (c.v561 h)) K := by
  rw [k0_part14_eq_skeleton]; unfold k0_part14_skel
  simp only [Prog.lift, Prog.bind_op, Prog.bind_ret, Prog.pure_eq_ret]
  iintro ⟨⟨H3, H4, H11⟩, HK⟩
  iapply Own.ld $$ H3; iintro H3
  iapply Own.ld $$ H4; iintro H4
  by_cases k0_h9 : k0_cond9 c.i c.arg13 = 1#1
  on_goal 1 =>
    rw [dif_pos k0_h9, show (c.X11_4 h) = _ from dif_pos k0_h9]
    iterate 4 (iapply Own.ld $$ H11; iintro H11; iapply Own.st $$ H11; iintro H11)
  on_goal 2 =>
    rw [dif_neg k0_h9, show (c.X11_4 h) = _ from dif_neg k0_h9]
  all_goals
    simp -failIfUnchanged only [v568, v570, v563, v566, v599, v605]
    rw [wp_ret]; imodintro
    ihave HK := HK $$ [H3 H4 H11]
    · isplitl [H3]; iexact H3; isplitl [H4]; iexact H4; iexact H11
    iapply (Entails.of_eq ?_) $$ HK; rfl

end

attribute [local irreducible] k0_part11 k0_part12 k0_part13 k0_part14

section
variable (c : W1C F) (d : Dev nD) (E : Set ℕ) (q3 q4 : PosShare TreeShare) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole)

/-- The walk from `c`: holding its buffers it returns them and the carried values as at the walk's end. -/
def spec1 : sWPT 𝕄 (BitVec 32 × FVec F S128x1 .f32 × FVec F S128x1 .f32 × FVec F S128x1 .f32 × FVec F S128x1 .f32 × FVec F S128x1 .f32 × FVec F S128x1 .f32 × FVec F S128x1 .f32 × FVec F S128x1 .f32) := do
  sWPT.consume iprop(ownsTc d arg3 q3 c.X3 ∗ ownsTc d arg4 q4 c.X4 ∗ ownsTc d arg11 fullShare c.X11)
  sWPT.produce iprop(ownsTc d arg3 q3 (c.final.X3) ∗ ownsTc d arg4 q4 (c.final.X4) ∗ ownsTc d arg11 fullShare (c.final.X11))
  pure (c.final.arg13, c.final.arg14, c.final.arg15, c.final.arg16, c.final.arg17, c.final.arg18, c.final.arg19, c.final.arg20, c.final.arg21)

theorem spec1_apply (K : _ → sProp 𝕄) : spec1 c d q3 q4 arg3 arg4 arg11 K
    = iprop((ownsTc d arg3 q3 c.X3 ∗ ownsTc d arg4 q4 c.X4 ∗ ownsTc d arg11 fullShare c.X11) ∗ ((ownsTc d arg3 q3 (c.final.X3) ∗ ownsTc d arg4 q4 (c.final.X4) ∗ ownsTc d arg11 fullShare (c.final.X11)) -∗ K (c.final.arg13, c.final.arg14, c.final.arg15, c.final.arg16, c.final.arg17, c.final.arg18, c.final.arg19, c.final.arg20, c.final.arg21))) := rfl

theorem body_le1 (n : ℕ) (ih : ∀ c' : W1C F, c'.left < n → spec1 c' d q3 q4 arg3 arg4 arg11
      ≤ wp frame (wpE (defs₀ (F := F)) 𝒱₀ (d : Thread nD τ) (some c'.left)) E
        (defs₀ (F := F) .tc 1 ⟨c'.i, arg3, harg3, arg4, harg4, c'.v5, c'.v33, c'.v19, arg11, harg11, c'.v6, c'.v20, c'.v12, c'.v26, c'.v13, c'.v27, c'.arg13, c'.arg14, c'.arg15, c'.arg16, c'.arg17, c'.arg18, c'.arg19, c'.arg20, c'.arg21⟩))
    (hn : c.left = n) (K : _ → sProp 𝕄) : spec1 c d q3 q4 arg3 arg4 arg11 K
      ⊢ wp frame (wpE (defs₀ (F := F)) 𝒱₀ (d : Thread nD τ) (some n)) E (cc0_while1 c.i arg3 harg3 arg4 harg4 c.v5 c.v33 c.v19 arg11 harg11 c.v6 c.v20 c.v12 c.v26 c.v13 c.v27 c.arg13 c.arg14 c.arg15 c.arg16 c.arg17 c.arg18 c.arg19 c.arg20 c.arg21) K := by
  rw [spec1_apply, cc0_while1_eq_skeleton]; unfold cc0_while1_skel
  simp only [Prog.lift, Prog.bind_op, Prog.bind_ret, Prog.pure_eq_ret]
  iintro ⟨⟨H3, H4, H11⟩, HK⟩
  by_cases h : c.test
  on_goal 1 =>
    have h' : Scalar.andi (Scalar.cmpi .slt c.arg13 (BitVec.ofNat 32 (c.i 1).val))
      (Scalar.cmpf .ogt (k0_pay1 c.arg14 c.arg15 c.arg16 c.arg17) (Scalar.ofBits .f32 0xC2D00000#32)) = 1#1 := h
    rw [if_pos h', W1C.final_pos c h]
    rw [wp_bind]
    iapply (k0_part11_spec c h d (some n) E arg3 harg3 arg4 harg4 arg11 harg11)
    isplitl [H3 H4 H11]
    · isplitl [H3]; iexact H3; isplitl [H4]; iexact H4; iexact H11
    iintro ⟨H3, H4, H11⟩
    dsimp only
    rw [wp_bind]
    iapply (k0_part12_spec c h d (some n) E arg3 harg3 arg4 harg4 arg11 harg11)
    isplitl [H3 H4 H11]
    · isplitl [H3]; iexact H3; isplitl [H4]; iexact H4; iexact H11
    iintro ⟨H3, H4, H11⟩
    dsimp only
    rw [wp_bind]
    iapply (k0_part13_spec c h d (some n) E arg3 harg3 arg4 harg4 arg11 harg11)
    isplitl [H3 H4 H11]
    · isplitl [H3]; iexact H3; isplitl [H4]; iexact H4; iexact H11
    iintro ⟨H3, H4, H11⟩
    dsimp only
    rw [wp_bind]
    iapply (k0_part14_spec c h d (some n) E arg3 harg3 arg4 harg4 arg11 harg11)
    isplitl [H3 H4 H11]
    · isplitl [H3]; iexact H3; isplitl [H4]; iexact H4; iexact H11
    iintro ⟨H3, H4, H11⟩
    dsimp only
    iapply (wp_call_spec 𝒱₀ (d : Thread nD τ) (some n) E (spec1 (c.step h) d q3 q4 arg3 arg4 arg11) (c.step h).left
      (fun u hu => by cases hu; exact hn ▸ c.step_lt h) (ih (c.step h) (hn ▸ c.step_lt h)))
    rw [spec1_apply]
    isplitl [H3 H4 H11]
    · isplitl [H3]; iexact H3; isplitl [H4]; iexact H4; iexact H11
    iintro ⟨H3, H4, H11⟩
  on_goal 2 =>
    have h' : ¬ Scalar.andi (Scalar.cmpi .slt c.arg13 (BitVec.ofNat 32 (c.i 1).val))
      (Scalar.cmpf .ogt (k0_pay1 c.arg14 c.arg15 c.arg16 c.arg17) (Scalar.ofBits .f32 0xC2D00000#32)) = 1#1 := h
    rw [if_neg h', W1C.final_neg c h]
  all_goals
    rw [wp_ret]; imodintro
    ihave HK := HK $$ [H3 H4 H11]
    · isplitl [H3]; iexact H3; isplitl [H4]; iexact H4; iexact H11
    iapply (Entails.of_eq ?_) $$ HK; rfl

end

theorem spec1_le (c : W1C F) (d : Dev nD) (E : Set ℕ) (q3 q4 : PosShare TreeShare) (arg3 : Memref sig .tc .vmem S8192x256 .bf16) (harg3 : arg3.IsWhole) (arg4 : Memref sig .tc .vmem S8192x256 .bf16) (harg4 : arg4.IsWhole) (arg11 : Memref sig .tc .vmem S64x128x128 .f32) (harg11 : arg11.IsWhole) :
    spec1 c d q3 q4 arg3 arg4 arg11 ≤ wp frame (wpE (defs₀ (F := F)) 𝒱₀ (d : Thread nD τ) (some c.left)) E
        (defs₀ (F := F) .tc 1 ⟨c.i, arg3, harg3, arg4, harg4, c.v5, c.v33, c.v19, arg11, harg11, c.v6, c.v20, c.v12, c.v26, c.v13, c.v27, c.arg13, c.arg14, c.arg15, c.arg16, c.arg17, c.arg18, c.arg19, c.arg20, c.arg21⟩) := by
  suffices h : ∀ n, ∀ c : W1C F, c.left = n → spec1 c d q3 q4 arg3 arg4 arg11 ≤ wp frame (wpE (defs₀ (F := F)) 𝒱₀ (d : Thread nD τ) (some c.left)) E
        (defs₀ (F := F) .tc 1 ⟨c.i, arg3, harg3, arg4, harg4, c.v5, c.v33, c.v19, arg11, harg11, c.v6, c.v20, c.v12, c.v26, c.v13, c.v27, c.arg13, c.arg14, c.arg15, c.arg16, c.arg17, c.arg18, c.arg19, c.arg20, c.arg21⟩) from h _ c rfl
  intro n
  induction n using Nat.strong_induction_on with
  | _ n ih =>
    intro c hc K
    have := body_le1 c d E q3 q4 arg3 harg3 arg4 harg4 arg11 harg11 n (fun c' h => ih _ h c' rfl) hc K
    rw [hc]
    exact this

section
open Cert.AttnIdeal.Run.W2C
variable (c : W2C F) (h : c.test) (d : Dev nD) (bd : Option 𝒱₀.V) (E : Set ℕ) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole) {q3 q4 : PosShare TreeShare}

theorem k0_part15_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.chk h, c.v433 h, c.v435 h, c.v437 h, c.v464 h, c.v466 h, c.v468 h, c.v471 h, c.v474 h, c.v476 h⟩))
      ⊢ wp frame (wpE (defs₀ (F := F)) 𝒱₀ (d : Thread nD τ) bd) E
          (k0_part15 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1) K := by
  rw [k0_part15_eq_skeleton]; unfold k0_part15_skel
  simp only [Prog.lift, Prog.bind_op, Prog.bind_ret, Prog.pure_eq_ret]
  iintro ⟨⟨H3, H4, H11, H9, H10⟩, HK⟩
  iapply (wp_assume _ _ _ _ (c.chk h))
  iapply Own.ld $$ H3; iintro H3
  by_cases k0_h14 : k0_cond14 c.i c.arg13 = 1#1
  on_goal 1 =>
    rw [dif_pos k0_h14]
    have e_v444 : (c.v444 h) = _ := dif_pos k0_h14
    iterate 4 (iapply Own.ld $$ H11; iintro H11)
  on_goal 2 =>
    rw [dif_neg k0_h14]
    have e_v444 : (c.v444 h) = _ := dif_neg k0_h14
    iapply Own.ld $$ H4; iintro H4
  all_goals
    iapply Own.ld $$ H3; iintro H3
    simp -failIfUnchanged only [W2C.v433, W2C.v434, W2C.v435, W2C.v436, W2C.v437, W2C.v439, W2C.v444_0, W2C.v444_1, W2C.v444_2, W2C.v444_3, W2C.v476, W2C.v464, W2C.v466, W2C.v468, W2C.v471, W2C.v474, e_v444]
    rw [wp_ret]; imodintro
    ihave HK := HK $$ [H3 H4 H11 H9 H10]
    · isplitl [H3]; iexact H3; isplitl [H4]; iexact H4; isplitl [H11]; iexact H11; isplitl [H9]; iexact H9; iexact H10
    iapply (Entails.of_eq ?_) $$ HK; rfl

theorem k0_part16_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.v504 h, c.v505 h, c.v507 h, c.v510 h, c.v513 h, c.v515 h, c.v520_0 h, c.v520_1 h, c.v520_2 h, c.v520_3 h, c.v521 h, c.v523 h⟩))
      ⊢ wp frame (wpE (defs₀ (F := F)) 𝒱₀ (d : Thread nD τ) bd) E
          (k0_part16 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1 (c.chk h) (c.v435 h) (c.v437 h) (c.v464 h) (c.v466 h) (c.v476 h)) K := by
  rw [k0_part16_eq_skeleton]; unfold k0_part16_skel
  simp only [Prog.lift, Prog.bind_op, Prog.bind_ret, Prog.pure_eq_ret]
  iintro ⟨⟨H3, H4, H11, H9, H10⟩, HK⟩
  by_cases k0_h15 : k0_cond15 c.i c.arg13 = 1#1
  on_goal 1 =>
    rw [dif_pos k0_h15]
    have e_v481 : (c.v481 h) = _ := dif_pos k0_h15
    iterate 4 (iapply Own.ld $$ H11; iintro H11)
  on_goal 2 =>
    rw [dif_neg k0_h15]
    have e_v481 : (c.v481 h) = _ := dif_neg k0_h15
    iapply Own.ld $$ H4; iintro H4
  all_goals
    iapply Own.ld $$ H3; iintro H3
    by_cases k0_h16 : k0_cond16 c.i c.arg13 = 1#1
    on_goal 1 =>
      rw [dif_pos k0_h16]
      have e_v520 : (c.v520 h) = _ := dif_pos k0_h16
      iterate 4 (iapply Own.ld $$ H11; iintro H11)
    on_goal 2 =>
      rw [dif_neg k0_h16]
      have e_v520 : (c.v520 h) = _ := dif_neg k0_h16
      iapply Own.ld $$ H4; iintro H4
    all_goals
      simp -failIfUnchanged only [W2C.v481_0, W2C.v481_1, W2C.v481_2, W2C.v481_3, W2C.v515, W2C.v520_0, W2C.v520_1, W2C.v520_2, W2C.v520_3, W2C.v504, W2C.v505, W2C.v507, W2C.v510, W2C.v513, W2C.v521, W2C.v523, e_v481, e_v520]
      rw [wp_ret]; imodintro
      ihave HK := HK $$ [H3 H4 H11 H9 H10]
      · isplitl [H3]; iexact H3; isplitl [H4]; iexact H4; isplitl [H11]; iexact H11; isplitl [H9]; iexact H9; iexact H10
      iapply (Entails.of_eq ?_) $$ HK; rfl

theorem k0_part17_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare c.X9 ∗ ownsTc d arg10 fullShare c.X10) -∗ K ⟨c.v540 h, c.v542 h, c.v544 h, c.v547 h, c.v550 h, c.v552 h, c.v557_0 h, c.v557_1 h, c.v557_2 h, c.v557_3 h, c.v568 h, c.v570 h⟩))
      ⊢ wp frame (wpE (defs₀ (F := F)) 𝒱₀ (d : Thread nD τ) bd) E
          (k0_part17 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 c.arg1 (c.chk h) (c.v435 h) (c.v437 h) (c.v515 h) (c.v520_0 h) (c.v520_1 h) (c.v520_2 h) (c.v520_3 h) (c.v521 h) (c.v523 h)) K := by
  rw [k0_part17_eq_skeleton]; unfold k0_part17_skel
  simp only [Prog.lift, Prog.bind_op, Prog.bind_ret, Prog.pure_eq_ret]
  iintro ⟨⟨H3, H4, H11, H9, H10⟩, HK⟩
  iapply Own.ld $$ H3; iintro H3
  by_cases k0_h17 : k0_cond17 c.i c.arg13 = 1#1
  on_goal 1 =>
    rw [dif_pos k0_h17]
    have e_v557 : (c.v557 h) = _ := dif_pos k0_h17
    iterate 4 (iapply Own.ld $$ H11; iintro H11)
  on_goal 2 =>
    rw [dif_neg k0_h17]
    have e_v557 : (c.v557 h) = _ := dif_neg k0_h17
    iapply Own.ld $$ H4; iintro H4
  all_goals
    simp -failIfUnchanged only [W2C.v552, W2C.v557_0, W2C.v557_1, W2C.v557_2, W2C.v557_3, W2C.v540, W2C.v542, W2C.v544, W2C.v547, W2C.v550, W2C.v568, W2C.v570, e_v557]
    rw [wp_ret]; imodintro
    ihave HK := HK $$ [H3 H4 H11 H9 H10]
    · isplitl [H3]; iexact H3; isplitl [H4]; iexact H4; isplitl [H11]; iexact H11; isplitl [H9]; iexact H9; iexact H10
    iapply (Entails.of_eq ?_) $$ HK; rfl

theorem k0_part18_spec (K : _ → sProp 𝕄) :
    iprop((ownsTc d arg3 q3 c.X3 ∗ ownsTc d arg4 q4 c.X4 ∗ ownsTc d arg11 fullShare c.X11 ∗ ownsTc d arg9 fullShare c.X9 ∗ ownsTc d arg10 fullShare c.X10)
      ∗ ((ownsTc d arg3 q3 c.X3 ∗ ownsTc d arg4 q4 c.X4 ∗ ownsTc d arg11 fullShare c.X11 ∗ ownsTc d arg9 fullShare (c.X9_2 h) ∗ ownsTc d arg10 fullShare (c.X10_1 h)) -∗ K ⟨c.v583 h, c.v586 h, c.v589 h, c.v613 h⟩))
      ⊢ wp frame (wpE (defs₀ (F := F)) 𝒱₀ (d : Thread nD τ) bd) E
          (k0_part18 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25 (c.chk h) (c.v437 h) (c.v504 h) (c.v505 h) (c.v540 h) (c.v542 h) (c.v552 h) (c.v557_0 h) (c.v557_1 h) (c.v557_2 h) (c.v557_3 h) (c.v568 h) (c.v570 h)) K := by
  rw [k0_part18_eq_skeleton]; unfold k0_part18_skel
  simp only [Prog.lift, Prog.bind_op, Prog.bind_ret, Prog.pure_eq_ret]
  iintro ⟨⟨H3, H4, H11, H9, H10⟩, HK⟩
  iterate 2 (iapply Own.ld $$ H9; iintro H9)
  iapply Own.st $$ H9; iintro H9
  iterate 2 (iapply Own.ld $$ H10; iintro H10)
  iapply Own.st $$ H10; iintro H10
  iterate 2 (iapply Own.ld $$ H9; iintro H9)
  iapply Own.st $$ H9; iintro H9
  iapply Own.ld $$ H10; iintro H10
  simp -failIfUnchanged only [v591, v594, X9_1, v598, v601, X10_1, v605, v608, X9_2, v612, v583, v586, v589, v613]
  rw [wp_ret]; imodintro
  ihave HK := HK $$ [H3 H4 H11 H9 H10]
  · isplitl [H3]; iexact H3; isplitl [H4]; iexact H4; isplitl [H11]; iexact H11; isplitl [H9]; iexact H9; iexact H10
  iapply (Entails.of_eq ?_) $$ HK; rfl

end

attribute [local irreducible] k0_part15 k0_part16 k0_part17 k0_part18

section
variable (c : W2C F) (d : Dev nD) (E : Set ℕ) (q3 q4 : PosShare TreeShare) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole)

/-- The walk from `c`: holding its buffers it returns them and the carried values as at the walk's end. -/
def spec2 : sWPT 𝕄 (BitVec 32 × FVec F S128x1 .f32 × FVec F S128x1 .f32 × FVec F S128x1 .f32 × FVec F S128x1 .f32 × FVec F S128x1 .f32 × FVec F S128x1 .f32 × FVec F S128x1 .f32 × FVec F S128x1 .f32 × FVec F S128x128 .f32 × FVec F S128x128 .f32 × FVec F S128x128 .f32 × FVec F S128x128 .f32) := do
  sWPT.consume iprop(ownsTc d arg3 q3 c.X3 ∗ ownsTc d arg4 q4 c.X4 ∗ ownsTc d arg11 fullShare c.X11 ∗ ownsTc d arg9 fullShare c.X9 ∗ ownsTc d arg10 fullShare c.X10)
  sWPT.produce iprop(ownsTc d arg3 q3 (c.final.X3) ∗ ownsTc d arg4 q4 (c.final.X4) ∗ ownsTc d arg11 fullShare (c.final.X11) ∗ ownsTc d arg9 fullShare (c.final.X9) ∗ ownsTc d arg10 fullShare (c.final.X10))
  pure (c.final.arg13, c.final.arg14, c.final.arg15, c.final.arg16, c.final.arg17, c.final.arg18, c.final.arg19, c.final.arg20, c.final.arg21, c.final.arg22, c.final.arg23, c.final.arg24, c.final.arg25)

theorem spec2_apply (K : _ → sProp 𝕄) : spec2 c d q3 q4 arg3 arg11 arg4 arg9 arg10 K
    = iprop((ownsTc d arg3 q3 c.X3 ∗ ownsTc d arg4 q4 c.X4 ∗ ownsTc d arg11 fullShare c.X11 ∗ ownsTc d arg9 fullShare c.X9 ∗ ownsTc d arg10 fullShare c.X10) ∗ ((ownsTc d arg3 q3 (c.final.X3) ∗ ownsTc d arg4 q4 (c.final.X4) ∗ ownsTc d arg11 fullShare (c.final.X11) ∗ ownsTc d arg9 fullShare (c.final.X9) ∗ ownsTc d arg10 fullShare (c.final.X10)) -∗ K (c.final.arg13, c.final.arg14, c.final.arg15, c.final.arg16, c.final.arg17, c.final.arg18, c.final.arg19, c.final.arg20, c.final.arg21, c.final.arg22, c.final.arg23, c.final.arg24, c.final.arg25))) := rfl

theorem body_le2 (n : ℕ) (ih : ∀ c' : W2C F, c'.left < n → spec2 c' d q3 q4 arg3 arg11 arg4 arg9 arg10
      ≤ wp frame (wpE (defs₀ (F := F)) 𝒱₀ (d : Thread nD τ) (some c'.left)) E
        (defs₀ (F := F) .tc 2 ⟨c'.i, arg3, harg3, arg11, harg11, arg4, harg4, c'.v5, c'.v33, c'.v19, c'.v37, c'.v233_5, c'.v6, c'.v20, c'.v233_6, c'.v12, c'.v26, c'.v233_7, c'.v13, c'.v27, c'.v233_8, arg9, harg9, arg10, harg10, c'.arg13, c'.arg14, c'.arg15, c'.arg16, c'.arg17, c'.arg18, c'.arg19, c'.arg20, c'.arg21, c'.arg22, c'.arg23, c'.arg24, c'.arg25⟩))
    (hn : c.left = n) (K : _ → sProp 𝕄) : spec2 c d q3 q4 arg3 arg11 arg4 arg9 arg10 K
      ⊢ wp frame (wpE (defs₀ (F := F)) 𝒱₀ (d : Thread nD τ) (some n)) E (cc0_while2 c.i arg3 harg3 arg11 harg11 arg4 harg4 c.v5 c.v33 c.v19 c.v37 c.v233_5 c.v6 c.v20 c.v233_6 c.v12 c.v26 c.v233_7 c.v13 c.v27 c.v233_8 arg9 harg9 arg10 harg10 c.arg13 c.arg14 c.arg15 c.arg16 c.arg17 c.arg18 c.arg19 c.arg20 c.arg21 c.arg22 c.arg23 c.arg24 c.arg25) K := by
  rw [spec2_apply, cc0_while2_eq_skeleton]; unfold cc0_while2_skel
  simp only [Prog.lift, Prog.bind_op, Prog.bind_ret, Prog.pure_eq_ret]
  iintro ⟨⟨H3, H4, H11, H9, H10⟩, HK⟩
  by_cases h : c.test
  on_goal 1 =>
    have h' : Scalar.andi (Scalar.cmpi .slt c.arg13 (BitVec.ofNat 32 (c.i 1).val))
      (Scalar.cmpf .ogt (k0_pay4 c.arg14 c.arg15 c.arg16 c.arg17) (Scalar.ofBits .f32 0xC2D00000#32)) = 1#1 := h
    rw [if_pos h', W2C.final_pos c h]
    rw [wp_bind]
    iapply (k0_part15_spec c h d (some n) E arg3 harg3 arg11 harg11 arg4 harg4 arg9 harg9 arg10 harg10)
    isplitl [H3 H4 H11 H9 H10]
    · isplitl [H3]; iexact H3; isplitl [H4]; iexact H4; isplitl [H11]; iexact H11; isplitl [H9]; iexact H9; iexact H10
    iintro ⟨H3, H4, H11, H9, H10⟩
    dsimp only
    rw [wp_bind]
    iapply (k0_part16_spec c h d (some n) E arg3 harg3 arg11 harg11 arg4 harg4 arg9 harg9 arg10 harg10)
    isplitl [H3 H4 H11 H9 H10]
    · isplitl [H3]; iexact H3; isplitl [H4]; iexact H4; isplitl [H11]; iexact H11; isplitl [H9]; iexact H9; iexact H10
    iintro ⟨H3, H4, H11, H9, H10⟩
    dsimp only
    rw [wp_bind]
    iapply (k0_part17_spec c h d (some n) E arg3 harg3 arg11 harg11 arg4 harg4 arg9 harg9 arg10 harg10)
    isplitl [H3 H4 H11 H9 H10]
    · isplitl [H3]; iexact H3; isplitl [H4]; iexact H4; isplitl [H11]; iexact H11; isplitl [H9]; iexact H9; iexact H10
    iintro ⟨H3, H4, H11, H9, H10⟩
    dsimp only
    rw [wp_bind]
    iapply (k0_part18_spec c h d (some n) E arg3 harg3 arg11 harg11 arg4 harg4 arg9 harg9 arg10 harg10)
    isplitl [H3 H4 H11 H9 H10]
    · isplitl [H3]; iexact H3; isplitl [H4]; iexact H4; isplitl [H11]; iexact H11; isplitl [H9]; iexact H9; iexact H10
    iintro ⟨H3, H4, H11, H9, H10⟩
    dsimp only
    iapply Own.ld $$ H10; iintro H10
    iapply Own.st $$ H10; iintro H10
    iapply (wp_call_spec 𝒱₀ (d : Thread nD τ) (some n) E (spec2 (c.step h) d q3 q4 arg3 arg11 arg4 arg9 arg10) (c.step h).left
      (fun u hu => by cases hu; exact hn ▸ c.step_lt h) (ih (c.step h) (hn ▸ c.step_lt h)))
    rw [spec2_apply]
    isplitl [H3 H4 H11 H9 H10]
    · isplitl [H3]; iexact H3; isplitl [H4]; iexact H4; isplitl [H11]; iexact H11; isplitl [H9]; iexact H9; iexact H10
    iintro ⟨H3, H4, H11, H9, H10⟩
  on_goal 2 =>
    have h' : ¬ Scalar.andi (Scalar.cmpi .slt c.arg13 (BitVec.ofNat 32 (c.i 1).val))
      (Scalar.cmpf .ogt (k0_pay4 c.arg14 c.arg15 c.arg16 c.arg17) (Scalar.ofBits .f32 0xC2D00000#32)) = 1#1 := h
    rw [if_neg h', W2C.final_neg c h]
  all_goals
    rw [wp_ret]; imodintro
    ihave HK := HK $$ [H3 H4 H11 H9 H10]
    · isplitl [H3]; iexact H3; isplitl [H4]; iexact H4; isplitl [H11]; iexact H11; isplitl [H9]; iexact H9; iexact H10
    iapply (Entails.of_eq ?_) $$ HK; rfl

end

theorem spec2_le (c : W2C F) (d : Dev nD) (E : Set ℕ) (q3 q4 : PosShare TreeShare) (arg3 : Memref sig .tc .vmem S8192x256 .bf16) (harg3 : arg3.IsWhole) (arg11 : Memref sig .tc .vmem S64x128x128 .f32) (harg11 : arg11.IsWhole) (arg4 : Memref sig .tc .vmem S8192x256 .bf16) (harg4 : arg4.IsWhole) (arg9 : Memref sig .tc .vmem S8192x256 .f32) (harg9 : arg9.IsWhole) (arg10 : Memref sig .tc .vmem S8192x256 .f32) (harg10 : arg10.IsWhole) :
    spec2 c d q3 q4 arg3 arg11 arg4 arg9 arg10 ≤ wp frame (wpE (defs₀ (F := F)) 𝒱₀ (d : Thread nD τ) (some c.left)) E
        (defs₀ (F := F) .tc 2 ⟨c.i, arg3, harg3, arg11, harg11, arg4, harg4, c.v5, c.v33, c.v19, c.v37, c.v233_5, c.v6, c.v20, c.v233_6, c.v12, c.v26, c.v233_7, c.v13, c.v27, c.v233_8, arg9, harg9, arg10, harg10, c.arg13, c.arg14, c.arg15, c.arg16, c.arg17, c.arg18, c.arg19, c.arg20, c.arg21, c.arg22, c.arg23, c.arg24, c.arg25⟩) := by
  suffices h : ∀ n, ∀ c : W2C F, c.left = n → spec2 c d q3 q4 arg3 arg11 arg4 arg9 arg10 ≤ wp frame (wpE (defs₀ (F := F)) 𝒱₀ (d : Thread nD τ) (some c.left)) E
        (defs₀ (F := F) .tc 2 ⟨c.i, arg3, harg3, arg11, harg11, arg4, harg4, c.v5, c.v33, c.v19, c.v37, c.v233_5, c.v6, c.v20, c.v233_6, c.v12, c.v26, c.v233_7, c.v13, c.v27, c.v233_8, arg9, harg9, arg10, harg10, c.arg13, c.arg14, c.arg15, c.arg16, c.arg17, c.arg18, c.arg19, c.arg20, c.arg21, c.arg22, c.arg23, c.arg24, c.arg25⟩) from h _ c rfl
  intro n
  induction n using Nat.strong_induction_on with
  | _ n ih =>
    intro c hc K
    have := body_le2 c d E q3 q4 arg3 harg3 arg11 harg11 arg4 harg4 arg9 harg9 arg10 harg10 n (fun c' h => ih _ h c' rfl) hc K
    rw [hc]
    exact this

end Cert.Attn.Run

end
-- ==== Proof.AttnBits.lean ====
/-
  The frames of the attention gradient: the printed kernel, its idealisation, and the reference.
-/
module

public import proofs.«01_k».proof.Proof.AttnFrame
public import proofs.«01_k».proof.Proof.BitsFrame
public import proofs.«01_k».proof.Proof.Gen.AttnRefIdeal.Run
public import proofs.«01_k».proof.Defs

@[expose] public section

noncomputable section

namespace Cert.AttnIdeal.Run

open Idealize.ShloMosaic Idealize.ShloMosaic.TcCoe

theorem frame_attn : Cert.quiescent_Attn := fun m ρ _ => Cert.Attn.Run.frame (F := Bits) m ρ
theorem frame_attnIdeal : Cert.quiescent_AttnIdeal := fun m ρ _ => frame (F := Ideal) m ρ

theorem frame_attnRef : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

theorem preserves_attn : Cert.preserves_Attn_AttnIdeal := ⟨rfl, fun _ => rfl, rfl⟩

end Cert.AttnIdeal.Run

end
-- ==== Proof.ProdSpec.lean ====
/-
  The products over the extended reals, element by element: `tn` contracts the first axes (the weights' gradient), `nt` the
  second ones (the input's gradient), and `nn` is the forward product. Rows and columns are counted by natural numbers.
-/
module

public import Idealize.ShloMosaic.Lib.Pipeline.Value
public import Idealize.ShloMosaic.Lib.ValueIdxCore
public import Idealize.ShloMosaic.Lib.IdealHost
public import Idealize.ShloMosaic.PureOps.Ideal
public import Idealize.ShloMosaic.Lib.Pipeline.ValueKit
public import Idealize.ShloMosaic.Lib.Pipeline.ReadBack
public import Idealize.ShloMosaic.Lib.Pointwise
public import proofs.«01_k».proof.Defs

@[expose] public section

noncomputable section

open Idealize.ShloMosaic Idealize.ShloMosaic.ValueIdx Finset

namespace Prod

/-- The entry at row `n` and column `k`, zero outside. -/
def ent {R C : ℕ} (x : (⟨2, ![R, C]⟩ : Shape).Idx → EReal) (n k : ℕ) : EReal :=
  if h : n < R ∧ k < C then x (ValueIdx.ix2 ⟨n, h.1⟩ ⟨k, h.2⟩) else 0

theorem at_ent {R C : ℕ} (x : (⟨2, ![R, C]⟩ : Shape).Idx → EReal) (i : (⟨2, ![R, C]⟩ : Shape).Idx) {n k : ℕ}
    (h0 : (i 0).val = n) (h1 : (i 1).val = k) : x i = ent x n k := by
  subst h0 h1
  unfold ent
  rw [dif_pos ⟨idx2_lt0 i, idx2_lt1 i⟩]
  refine congrArg x (funext fun a => ?_)
  match a with
  | ⟨0, _⟩ => rfl
  | ⟨1, _⟩ => rfl

theorem ent_congr {R C : ℕ} (x : (⟨2, ![R, C]⟩ : Shape).Idx → EReal) {n n' k k' : ℕ} (hn : n = n') (hk : k = k') :
    ent x n k = ent x n' k' := by rw [hn, hk]

theorem ent_ix {R C : ℕ} (x : (⟨2, ![R, C]⟩ : Shape).Idx → EReal) {n k : ℕ} (h : n < R) (h' : k < C) : x (ValueIdx.ix2 ⟨n, h⟩ ⟨k, h'⟩) = ent x n k :=
  at_ent x _ rfl rfl

/-- A running sum kept between the points of a tile, `P` of them, written out at the last. -/
theorem tile_total {N : ℕ} (P : ℕ) (hP : 2 ≤ P) (S O : ∀ n, n < N → EReal) (f : ℕ → EReal) (I : ℕ → Prop)
    (hI : ∀ n, (n + 1) % P ≠ 0 → I (n + 1) → I n) (hA : ∀ n h, n % P = 0 → I n → S n h = f 0)
    (hB : ∀ n h, 1 ≤ n % P ∧ n % P ≤ P - 2 → I n → S n h = S (n - 1) (Nat.lt_of_le_of_lt (Nat.sub_le _ _) h) + f (n % P))
    (hC : ∀ n h, n % P = P - 1 → I n → O n h = S (n - 1) (Nat.lt_of_le_of_lt (Nat.sub_le _ _) h) + f (P - 1))
    (n : ℕ) (h : n < N) (hn : n % P = P - 1) (i : I n) : O n h = ∑ k ∈ range P, f k := by
  have next : ∀ n, (n + 1) % P ≠ 0 → (n + 1) % P = n % P + 1 := fun n e => by
    have l := Nat.mod_lt n (show 0 < P by omega)
    rw [Nat.add_mod, Nat.mod_eq_of_lt (show 1 < P by omega)] at e ⊢
    by_cases g : n % P + 1 = P
    · rw [g, Nat.mod_self] at e; exact absurd rfl e
    · exact Nat.mod_eq_of_lt (by omega)
  have sums : ∀ n h, n % P < P - 1 → I n → S n h = ∑ k ∈ range (n % P + 1), f k := by
    intro n
    induction n with
    | zero => intro h _ i; rw [hA 0 h (Nat.zero_mod P) i, Nat.zero_mod, Finset.sum_range_one]
    | succ n ih =>
      intro h hk i
      by_cases h0 : (n + 1) % P = 0
      · rw [hA _ h h0 i, h0, Finset.sum_range_one]
      · have e := next n h0
        rw [hB _ h ⟨by omega, by omega⟩ i, e, Finset.sum_range_succ]
        exact congrArg (· + _) (ih (Nat.lt_of_succ_lt h) (by omega) (hI n h0 i))
  obtain ⟨n, rfl⟩ : ∃ l, n = l + 1 := ⟨n - 1, by
    rcases Nat.eq_zero_or_pos n with e | e
    · rw [e, Nat.zero_mod] at hn; omega
    · omega⟩
  have e := next n (by omega)
  have s := sums n (Nat.lt_of_succ_lt h) (by omega) (hI n (by omega) i)
  refine (hC _ h hn i).trans ((congrArg (· + f (P - 1)) s).trans ?_)
  rw [show n % P + 1 = P - 1 by omega, ← Finset.sum_range_succ, show P - 1 + 1 = P by omega]

/-- The sum over `K` rows from row `o` on of the two columns' products. -/
def tnFrom {R C C' : ℕ} (a : (⟨2, ![R, C]⟩ : Shape).Idx → EReal) (b : (⟨2, ![R, C']⟩ : Shape).Idx → EReal) (o K r c : ℕ) : EReal :=
  ∑ n ∈ range K, ent a (o + n) r * ent b (o + n) c

/-- The sum over `K` columns from column `o` on of the two rows' products. -/
def ntFrom {R R' C : ℕ} (a : (⟨2, ![R, C]⟩ : Shape).Idx → EReal) (b : (⟨2, ![R', C]⟩ : Shape).Idx → EReal) (o K r c : ℕ) : EReal :=
  ∑ n ∈ range K, ent a r (o + n) * ent b c (o + n)

/-- The sum over `K` columns of the first and rows of the second from `o` on. -/
def nnFrom {R C C' : ℕ} (a : (⟨2, ![R, C]⟩ : Shape).Idx → EReal) (b : (⟨2, ![C, C']⟩ : Shape).Idx → EReal) (o K r c : ℕ) : EReal :=
  ∑ n ∈ range K, ent a r (o + n) * ent b (o + n) c

theorem tiles (A B : ℕ) (f : ℕ → EReal) : ∑ t ∈ range A, ∑ r ∈ range B, f (B * t + r) = ∑ n ∈ range (A * B), f n := by
  rw [Finset.sum_range_mul_split]
  exact Finset.sum_congr rfl fun t _ => Finset.sum_congr rfl fun r _ => by rw [Nat.mul_comm B t]

theorem tn_tiles {R C C' : ℕ} (a : (⟨2, ![R, C]⟩ : Shape).Idx → EReal) (b : (⟨2, ![R, C']⟩ : Shape).Idx → EReal) (A B r c : ℕ) :
    ∑ t ∈ range A, tnFrom a b (B * t) B r c = tnFrom a b 0 (A * B) r c := by
  unfold tnFrom
  simp only [Nat.zero_add]
  exact tiles A B fun n => ent a n r * ent b n c

theorem nt_tiles {R R' C : ℕ} (a : (⟨2, ![R, C]⟩ : Shape).Idx → EReal) (b : (⟨2, ![R', C]⟩ : Shape).Idx → EReal) (A B r c : ℕ) :
    ∑ t ∈ range A, ntFrom a b (B * t) B r c = ntFrom a b 0 (A * B) r c := by
  unfold ntFrom
  simp only [Nat.zero_add]
  exact tiles A B fun n => ent a r n * ent b c n

theorem nn_tiles {R C C' : ℕ} (a : (⟨2, ![R, C]⟩ : Shape).Idx → EReal) (b : (⟨2, ![C, C']⟩ : Shape).Idx → EReal) (A B r c : ℕ) :
    ∑ t ∈ range A, nnFrom a b (B * t) B r c = nnFrom a b 0 (A * B) r c := by
  unfold nnFrom
  simp only [Nat.zero_add]
  exact tiles A B fun n => ent a r n * ent b n c

end Prod

end
-- ==== Proof.Prod3.lean ====
/- The tiled products `Gu`, `Qu`, `Gy`, `Fglu` compute the whole ones. -/
module

public import proofs.«01_k».proof.Proof.ProdSpec
public import proofs.«01_k».proof.Proof.Gen.GuIdeal.Value
public import proofs.«01_k».proof.Proof.Gen.GuRefIdeal.Run
public import proofs.«01_k».proof.Proof.Gen.GuRefIdeal.Read
public import proofs.«01_k».proof.Proof.Gen.QuIdeal.Value
public import proofs.«01_k».proof.Proof.Gen.QuRefIdeal.Run
public import proofs.«01_k».proof.Proof.Gen.QuRefIdeal.Read
public import proofs.«01_k».proof.Proof.Gen.GyIdeal.Value
public import proofs.«01_k».proof.Proof.Gen.GyRefIdeal.Run
public import proofs.«01_k».proof.Proof.Gen.GyRefIdeal.Read
public import proofs.«01_k».proof.Proof.Gen.FgluIdeal.Value
public import proofs.«01_k».proof.Proof.Gen.FgluRefIdeal.Run
public import proofs.«01_k».proof.Proof.Gen.FgluRefIdeal.Read

@[expose] public section

set_option maxRecDepth 16384

noncomputable section

open Idealize.ShloMosaic Idealize.ShloMosaic.ValueIdx Idealize.ShloMosaic.TcCoe Finset Prod

namespace Cert.GuRefIdeal.Product

open Read

theorem value (x0 : (⟨S8192x1024, .bf16⟩ : BufTy).Contents (Elt Ideal)) (x1 : (⟨S8192x5632, .bf16⟩ : BufTy).Contents (Elt Ideal)) :
    val_main_v5 x0 x1 = fun i : S1024x5632.Idx => tnFrom x0 x1 0 8192 (i 0).val (i 1).val := by
  funext i
  rw [val_main_v5_apply, val_main_v4_apply]
  unfold tnFrom
  rw [Finset.sum_range]
  refine Finset.sum_congr rfl fun k _ => (mul_comm _ _).trans ?_
  rw [val_main_v0_apply, val_main_v1_apply, Nat.zero_add]
  exact congrArg₂ (· * ·) (at_ent x0 _ rfl rfl) (at_ent x1 _ rfl rfl)

end Cert.GuRefIdeal.Product

namespace Cert.GuIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![8192, 5632]⟩ : Shape).Idx → EReal := m ((c : Thread nD τ).loc main_arg1)

theorem idxs : ∀ t : Fin cfg0.N, win0_0.index t = ![t.val % 8, t.val / 32] ∧ win0_1.index t = ![t.val % 8, t.val / 8 % 4] ∧ win0_2.index t = ![t.val / 32, t.val / 8 % 4] :=
  (by decide +kernel : ∀ t : Fin grid0.N, _)

theorem pt : t.val < 32 := lt_of_lt_of_eq t.isLt N_0

theorem blkA (y : S1024x1024.Idx) :
    (iblk m c 0 t : S1024x1024.Idx → EReal) y = ent (A m c) (1024 * (t.val % 8) + (y 0).val) (1024 * (t.val / 32) + (y 1).val) := by
  have := pt t; have := idx2_lt0 y; have := idx2_lt1 y
  refine Eq.trans ?_ (ent_ix (A m c) (by omega) (by omega))
  blk_ext [iblk, V, (idxs t).1]

theorem blkB (y : S1024x1408.Idx) :
    (iblk m c 1 t : S1024x1408.Idx → EReal) y = ent (B m c) (1024 * (t.val % 8) + (y 0).val) (1408 * (t.val / 8 % 4) + (y 1).val) := by
  have := pt t; have := idx2_lt0 y; have := idx2_lt1 y
  refine Eq.trans ?_ (ent_ix (B m c) (by omega) (by omega))
  blk_ext [iblk, V, (idxs t).2.1]

theorem part (y : S1024x1408.Idx) :
    k0_pay1 (F := Ideal) (iblk m c 0 t) (iblk m c 1 t) y
      = tnFrom (A m c) (B m c) (1024 * (t.val % 8)) 1024 (1024 * (t.val / 32) + (y 0).val) (1408 * (t.val / 8 % 4) + (y 1).val) := by
  unfold k0_pay1
  pointwise
  unfold tnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 8 = 0) (y : S1024x1408.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 8 ∧ t.val % 8 ≤ 6) (y : S1024x1408.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 8 = 7) (y : S1024x1408.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 8 = 7) (y : S1024x1408.Idx) :
    (outsAt0 m c t.val t.isLt).1 y = tnFrom (A m c) (B m c) 0 8192 (1024 * (t.val / 32) + (y 0).val) (1408 * (t.val / 8 % 4) + (y 1).val) := by
  have at_ : ∀ n (h : n < cfg0.N) {k : ℕ}, 1024 * (n / 32) = 1024 * (t.val / 32) ∧ 1408 * (n / 8 % 4) = 1408 * (t.val / 8 % 4) → n % 8 = k → k0_pay1 (F := Ideal) (iblk m c 0 ⟨n, h⟩) (iblk m c 1 ⟨n, h⟩) y
      = tnFrom (A m c) (B m c) (1024 * k) 1024 (1024 * (t.val / 32) + (y 0).val) (1408 * (t.val / 8 % 4) + (y 1).val) := fun n h _ i e => by
    subst e; rw [← i.1, ← i.2]; exact part m c ⟨n, h⟩ y
  refine (tile_total 8 (by omega) (fun n h => (outsAt0 m c n h).2 y) (fun n h => (outsAt0 m c n h).1 y)
    (fun k => tnFrom (A m c) (B m c) (1024 * k) 1024 (1024 * (t.val / 32) + (y 0).val) (1408 * (t.val / 8 % 4) + (y 1).val)) (fun n => 1024 * (n / 32) = 1024 * (t.val / 32) ∧ 1408 * (n / 8 % 4) = 1408 * (t.val / 8 % 4)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (tn_tiles _ _ 8 1024 _ _)
  omega

theorem flushes : ∀ t : Fin cfg0.N, (cfg0.win 2).flush t = true → t.val % 8 = 7 :=
  (by decide +kernel : ∀ t : Fin grid0.N, _)

theorem value : (dats m 0 c).arrAt 2 cfg0.N = fun i : S1024x5632.Idx => tnFrom (A m c) (B m c) 0 8192 (i 0).val (i 1).val := by
  refine (dats m 0 c).arrAt_eq_of_covers 2 _ (by decide +kernel) fun t hf y => ?_
  blk_simp
  rw [after0_2]
  refine (term m c t (flushes t hf) y).trans (congrArg₂ (tnFrom (A m c) (B m c) 0 8192) ?_ ?_)
  · show 1024 * (t.val / 32) + (y 0).val = win0_2.index t 0 * 1024 + (y 0).val
    rw [(idxs t).2.2, Nat.mul_comm]
    rfl
  · show 1408 * (t.val / 8 % 4) + (y 1).val = win0_2.index t 1 * 1408 + (y 1).val
    rw [(idxs t).2.2, Nat.mul_comm]
    rfl

open Idealize.SL.Sem

theorem algebraic : algebraic_GuIdeal_GuRefIdeal := by
  intro m ρ m' ρ' _ hagree
  refine ⟨fun c => (Gen.dats m 0 c).arrAt 2 cfg0.N, Value.run_blocks m ρ, ?_⟩
  refine (θ_run GuRefIdeal.defs _ _).mono (fun r h c => ⟨(h c).1.trans ?_, (h c).2⟩)
    (GuRefIdeal.Value.run (F := Ideal) m' ρ')
  refine (GuRefIdeal.Read.val_main_v5_eq _ _).trans ((GuRefIdeal.Product.value _ _).trans ?_)
  refine Eq.trans ?_ (value m c).symm
  rw [(hagree c).1, (hagree c).2]

theorem frame_ref : quiescent_GuRefIdeal := fun m ρ _ =>
  (θ_run GuRefIdeal.defs _ _).mono
    (fun r h => ⟨fun c => (h c).2, sem_eq_zero_of_no_sems (by decide) r.2⟩)
    (GuRefIdeal.Value.run (F := Ideal) m ρ)

end Cert.GuIdeal.Product

namespace Cert.QuRefIdeal.Product

open Read

theorem value (x0 : (⟨S8192x3072, .bf16⟩ : BufTy).Contents (Elt Ideal)) (x1 : (⟨S1024x3072, .bf16⟩ : BufTy).Contents (Elt Ideal)) :
    val_main_v4 x0 x1 = fun i : S8192x1024.Idx => ntFrom x0 x1 0 3072 (i 0).val (i 1).val := by
  funext i
  rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.QuRefIdeal.Product

namespace Cert.QuIdeal.Product

open Gen Value

variable (m : (ℓ : Loc nD τ sig) → Buf (Elt Ideal) ℓ) (c : Dev nD) (t : Fin cfg0.N)

abbrev A : (⟨2, ![8192, 3072]⟩ : Shape).Idx → EReal := m ((c : Thread nD τ).loc main_arg0)
abbrev B : (⟨2, ![1024, 3072]⟩ : Shape).Idx → EReal := m ((c : Thread nD τ).loc main_arg1)

theorem idxs : ∀ t : Fin cfg0.N, win0_0.index t = ![t.val / 2, t.val % 2] ∧ win0_1.index t = ![0, t.val % 2] ∧ win0_2.index t = ![t.val / 2, 0] :=
  (by decide +kernel : ∀ t : Fin grid0.N, _)

theorem pt : t.val < 16 := lt_of_lt_of_eq t.isLt N_0

theorem blkA (y : S1024x1536.Idx) :
    (iblk m c 0 t : S1024x1536.Idx → EReal) y = ent (A m c) (1024 * (t.val / 2) + (y 0).val) (1536 * (t.val % 2) + (y 1).val) := by
  have := pt t; have := idx2_lt0 y; have := idx2_lt1 y
  refine Eq.trans ?_ (ent_ix (A m c) (by omega) (by omega))
  blk_ext [iblk, V, (idxs t).1]

theorem blkB (y : S1024x1536.Idx) :
    (iblk m c 1 t : S1024x1536.Idx → EReal) y = ent (B m c) (1024 * (0) + (y 0).val) (1536 * (t.val % 2) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = ntFrom (A m c) (B m c) (1536 * (t.val % 2)) 1536 (1024 * (t.val / 2) + (y 0).val) (1024 * (0) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 2 = 0) (y : S1024x1024.Idx) :
    (outsAt0 m c t.val t.isLt).2 y = k0_pay1 (F := Ideal) (iblk m c 0 t) (iblk m c 1 t) y := by
  rw [outsAt0_A m c t h0 (by omega)]
  frame_out
  unfold k0_pay2
  pointwise

theorem term_C (h0 : t.val % 2 = 1) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_B m c t (by omega) h0]
  frame_out
  unfold k0_pay4
  pointwise
  exact congrArg (· + _) (congrFun ((Memref.isWhole_whole cc0_scratch0).read_unread _) y)

theorem term (h0 : t.val % 2 = 1) (y : S1024x1024.Idx) :
    (outsAt0 m c t.val t.isLt).1 y = ntFrom (A m c) (B m c) 0 3072 (1024 * (t.val / 2) + (y 0).val) (1024 * (0) + (y 1).val) := by
  have at_ : ∀ n (h : n < cfg0.N) {k : ℕ}, 1024 * (n / 2) = 1024 * (t.val / 2) ∧ 1024 * (0) = 1024 * (0) → n % 2 = k → k0_pay1 (F := Ideal) (iblk m c 0 ⟨n, h⟩) (iblk m c 1 ⟨n, h⟩) y
      = ntFrom (A m c) (B m c) (1536 * k) 1536 (1024 * (t.val / 2) + (y 0).val) (1024 * (0) + (y 1).val) := fun n h _ i e => by
    subst e; rw [← i.1, ← i.2]; exact part m c ⟨n, h⟩ y
  refine (tile_total 2 (by omega) (fun n h => (outsAt0 m c n h).2 y) (fun n h => (outsAt0 m c n h).1 y)
    (fun k => ntFrom (A m c) (B m c) (1536 * k) 1536 (1024 * (t.val / 2) + (y 0).val) (1024 * (0) + (y 1).val)) (fun n => 1024 * (n / 2) = 1024 * (t.val / 2) ∧ 1024 * (0) = 1024 * (0)) (fun n e i => ?_)
    (fun n h e i => (term_A m c ⟨n, h⟩ e y).trans (at_ n h i e)) (fun n h e i => absurd e (by omega))
    (fun n h e i => (term_C m c ⟨n, h⟩ e y).trans (congrArg (_ + ·) (at_ n h i e))) t.val t.isLt h0 ⟨rfl, rfl⟩).trans (nt_tiles _ _ 2 1536 _ _)
  omega

theorem flushes : ∀ t : Fin cfg0.N, (cfg0.win 2).flush t = true → t.val % 2 = 1 :=
  (by decide +kernel : ∀ t : Fin grid0.N, _)

theorem value : (dats m 0 c).arrAt 2 cfg0.N = fun i : S8192x1024.Idx => ntFrom (A m c) (B m c) 0 3072 (i 0).val (i 1).val := by
  refine (dats m 0 c).arrAt_eq_of_covers 2 _ (by decide +kernel) fun t hf y => ?_
  blk_simp
  rw [after0_2]
  refine (term m c t (flushes t hf) y).trans (congrArg₂ (ntFrom (A m c) (B m c) 0 3072) ?_ ?_)
  · show 1024 * (t.val / 2) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_QuIdeal_QuRefIdeal := by
  intro m ρ m' ρ' _ hagree
  refine ⟨fun c => (Gen.dats m 0 c).arrAt 2 cfg0.N, Value.run_blocks m ρ, ?_⟩
  refine (θ_run QuRefIdeal.defs _ _).mono (fun r h c => ⟨(h c).1.trans ?_, (h c).2⟩)
    (QuRefIdeal.Value.run (F := Ideal) m' ρ')
  refine (QuRefIdeal.Read.val_main_v4_eq _ _).trans ((QuRefIdeal.Product.value _ _).trans ?_)
  refine Eq.trans ?_ (value m c).symm
  rw [(hagree c).1, (hagree c).2]

theorem frame_ref : quiescent_QuRefIdeal := fun m ρ _ =>
  (θ_run QuRefIdeal.defs _ _).mono
    (fun r h => ⟨fun c => (h c).2, sem_eq_zero_of_no_sems (by decide) r.2⟩)
    (QuRefIdeal.Value.run (F := Ideal) m ρ)

end Cert.QuIdeal.Product

namespace Cert.GyRefIdeal.Product

open Read

theorem value (x0 : (⟨S8192x2048, .bf16⟩ : BufTy).Contents (Elt Ideal)) (x1 : (⟨S1024x2048, .bf16⟩ : BufTy).Contents (Elt Ideal)) :
    val_main_v4 x0 x1 = fun i : S8192x1024.Idx => ntFrom x0 x1 0 2048 (i 0).val (i 1).val := by
  funext i
  rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.GyRefIdeal.Product

namespace Cert.GyIdeal.Product

open Gen Value

variable (m : (ℓ : Loc nD τ sig) → Buf (Elt Ideal) ℓ) (c : Dev nD) (t : Fin cfg0.N)

abbrev A : (⟨2, ![8192, 2048]⟩ : Shape).Idx → EReal := m ((c : Thread nD τ).loc main_arg0)
abbrev B : (⟨2, ![1024, 2048]⟩ : Shape).Idx → EReal := m ((c : Thread nD τ).loc main_arg1)

theorem idxs : ∀ t : Fin cfg0.N, win0_0.index t = ![t.val / 2, t.val % 2] ∧ win0_1.index t = ![0, t.val % 2] ∧ win0_2.index t = ![t.val / 2, 0] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val / 2) + (y 0).val) (1024 * (t.val % 2) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (0) + (y 0).val) (1024 * (t.val % 2) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = ntFrom (A m c) (B m c) (1024 * (t.val % 2)) 1024 (1024 * (t.val / 2) + (y 0).val) (1024 * (0) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 2 = 0) (y : S1024x1024.Idx) :
    (outsAt0 m c t.val t.isLt).2 y = k0_pay1 (F := Ideal) (iblk m c 0 t) (iblk m c 1 t) y := by
  rw [outsAt0_A m c t h0 (by omega)]
  frame_out
  unfold k0_pay2
  pointwise

theorem term_C (h0 : t.val % 2 = 1) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_B m c t (by omega) h0]
  frame_out
  unfold k0_pay4
  pointwise
  exact congrArg (· + _) (congrFun ((Memref.isWhole_whole cc0_scratch0).read_unread _) y)

theorem term (h0 : t.val % 2 = 1) (y : S1024x1024.Idx) :
    (outsAt0 m c t.val t.isLt).1 y = ntFrom (A m c) (B m c) 0 2048 (1024 * (t.val / 2) + (y 0).val) (1024 * (0) + (y 1).val) := by
  have at_ : ∀ n (h : n < cfg0.N) {k : ℕ}, 1024 * (n / 2) = 1024 * (t.val / 2) ∧ 1024 * (0) = 1024 * (0) → n % 2 = k → k0_pay1 (F := Ideal) (iblk m c 0 ⟨n, h⟩) (iblk m c 1 ⟨n, h⟩) y
      = ntFrom (A m c) (B m c) (1024 * k) 1024 (1024 * (t.val / 2) + (y 0).val) (1024 * (0) + (y 1).val) := fun n h _ i e => by
    subst e; rw [← i.1, ← i.2]; exact part m c ⟨n, h⟩ y
  refine (tile_total 2 (by omega) (fun n h => (outsAt0 m c n h).2 y) (fun n h => (outsAt0 m c n h).1 y)
    (fun k => ntFrom (A m c) (B m c) (1024 * k) 1024 (1024 * (t.val / 2) + (y 0).val) (1024 * (0) + (y 1).val)) (fun n => 1024 * (n / 2) = 1024 * (t.val / 2) ∧ 1024 * (0) = 1024 * (0)) (fun n e i => ?_)
    (fun n h e i => (term_A m c ⟨n, h⟩ e y).trans (at_ n h i e)) (fun n h e i => absurd e (by omega))
    (fun n h e i => (term_C m c ⟨n, h⟩ e y).trans (congrArg (_ + ·) (at_ n h i e))) t.val t.isLt h0 ⟨rfl, rfl⟩).trans (nt_tiles _ _ 2 1024 _ _)
  omega

theorem flushes : ∀ t : Fin cfg0.N, (cfg0.win 2).flush t = true → t.val % 2 = 1 :=
  (by decide +kernel : ∀ t : Fin grid0.N, _)

theorem value : (dats m 0 c).arrAt 2 cfg0.N = fun i : S8192x1024.Idx => ntFrom (A m c) (B m c) 0 2048 (i 0).val (i 1).val := by
  refine (dats m 0 c).arrAt_eq_of_covers 2 _ (by decide +kernel) fun t hf y => ?_
  blk_simp
  rw [after0_2]
  refine (term m c t (flushes t hf) y).trans (congrArg₂ (ntFrom (A m c) (B m c) 0 2048) ?_ ?_)
  · show 1024 * (t.val / 2) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_GyIdeal_GyRefIdeal := by
  intro m ρ m' ρ' _ hagree
  refine ⟨fun c => (Gen.dats m 0 c).arrAt 2 cfg0.N, Value.run_blocks m ρ, ?_⟩
  refine (θ_run GyRefIdeal.defs _ _).mono (fun r h c => ⟨(h c).1.trans ?_, (h c).2⟩)
    (GyRefIdeal.Value.run (F := Ideal) m' ρ')
  refine (GyRefIdeal.Read.val_main_v4_eq _ _).trans ((GyRefIdeal.Product.value _ _).trans ?_)
  refine Eq.trans ?_ (value m c).symm
  rw [(hagree c).1, (hagree c).2]

theorem frame_ref : quiescent_GyRefIdeal := fun m ρ _ =>
  (θ_run GyRefIdeal.defs _ _).mono
    (fun r h => ⟨fun c => (h c).2, sem_eq_zero_of_no_sems (by decide) r.2⟩)
    (GyRefIdeal.Value.run (F := Ideal) m ρ)

end Cert.GyIdeal.Product

namespace Cert.FgluRefIdeal.Product

open Read

theorem value (x0 : (⟨S8192x1024, .bf16⟩ : BufTy).Contents (Elt Ideal)) (x1 : (⟨S1024x2048, .bf16⟩ : BufTy).Contents (Elt Ideal)) :
    val_main_v2 x0 x1 = fun i : S8192x2048.Idx => nnFrom x0 x1 0 1024 (i 0).val (i 1).val := by
  funext i
  rw [val_main_v2_apply]
  unfold nnFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.FgluRefIdeal.Product

namespace Cert.FgluIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 2048]⟩ : Shape).Idx → EReal := m ((c : Thread nD τ).loc main_arg1)

theorem idxs : ∀ t : Fin cfg0.N, win0_0.index t = ![t.val / 2, 0] ∧ win0_1.index t = ![0, t.val % 2] ∧ win0_2.index t = ![t.val / 2, t.val % 2] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val / 2) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (0) + (y 0).val) (1024 * (t.val % 2) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = nnFrom (A m c) (B m c) (1024 * (0)) 1024 (1024 * (t.val / 2) + (y 0).val) (1024 * (t.val % 2) + (y 1).val) := by
  unfold k0_pay1
  pointwise
  unfold nnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1024.Idx) :
    out0_2 (F := Ideal) (iblk m c 0 t) (iblk m c 1 t) y = nnFrom (A m c) (B m c) 0 1024 (1024 * (t.val / 2) + (y 0).val) (1024 * (t.val % 2) + (y 1).val) := by
  refine Eq.trans ?_ (part m c t y)
  unfold out0_2
  frame_out

theorem value : (dats m 0 c).arrAt 2 cfg0.N = fun i : S8192x2048.Idx => nnFrom (A m c) (B m c) 0 1024 (i 0).val (i 1).val := by
  refine (dats m 0 c).arrAt_eq_of_covers 2 _ (by decide +kernel) fun t hf y => ?_
  blk_simp
  rw [after0_2]
  refine (term m c t y).trans (congrArg₂ (nnFrom (A m c) (B m c) 0 1024) ?_ ?_)
  · show 1024 * (t.val / 2) + (y 0).val = win0_2.index t 0 * 1024 + (y 0).val
    rw [(idxs t).2.2, Nat.mul_comm]
    rfl
  · show 1024 * (t.val % 2) + (y 1).val = win0_2.index t 1 * 1024 + (y 1).val
    rw [(idxs t).2.2, Nat.mul_comm]
    rfl

open Idealize.SL.Sem

theorem algebraic : algebraic_FgluIdeal_FgluRefIdeal := by
  intro m ρ m' ρ' _ hagree
  refine ⟨fun c => (Gen.dats m 0 c).arrAt 2 cfg0.N, Value.run_blocks m ρ, ?_⟩
  refine (θ_run FgluRefIdeal.defs _ _).mono (fun r h c => ⟨(h c).1.trans ?_, (h c).2⟩)
    (FgluRefIdeal.Value.run (F := Ideal) m' ρ')
  refine (FgluRefIdeal.Read.val_main_v2_eq _ _).trans ((FgluRefIdeal.Product.value _ _).trans ?_)
  refine Eq.trans ?_ (value m c).symm
  rw [(hagree c).1, (hagree c).2]

theorem frame_ref : quiescent_FgluRefIdeal := fun m ρ _ =>
  (θ_run FgluRefIdeal.defs _ _).mono
    (fun r h => ⟨fun c => (h c).2, sem_eq_zero_of_no_sems (by decide) r.2⟩)
    (FgluRefIdeal.Value.run (F := Ideal) m ρ)

end Cert.FgluIdeal.Product

end
-- ==== Proof.Prod2.lean ====
/- The tiled products `Qkv`, `Down`, `Act`, `Fm` compute the whole ones. -/
module

public import proofs.«01_k».proof.Proof.ProdSpec
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.ActIdeal.Value
public import proofs.«01_k».proof.Proof.Gen.ActRefIdeal.Run
public import proofs.«01_k».proof.Proof.Gen.ActRefIdeal.Read
public import proofs.«01_k».proof.Proof.Gen.FmIdeal.Value
public import proofs.«01_k».proof.Proof.Gen.FmRefIdeal.Run
public import proofs.«01_k».proof.Proof.Gen.FmRefIdeal.Read

@[expose] public section

set_option maxRecDepth 16384

noncomputable section

open Idealize.ShloMosaic Idealize.ShloMosaic.ValueIdx Idealize.ShloMosaic.TcCoe Finset Prod

namespace Cert.QkvRefIdeal.Product

open Read

theorem value (x0 : (⟨S8192x1024, .bf16⟩ : BufTy).Contents (Elt Ideal)) (x1 : (⟨S8192x3072, .bf16⟩ : BufTy).Contents (Elt Ideal)) :
    val_main_v5 x0 x1 = fun i : S1024x3072.Idx => tnFrom x0 x1 0 8192 (i 0).val (i 1).val := by
  funext i
  rw [val_main_v5_apply, val_main_v4_apply]
  unfold tnFrom
  rw [Finset.sum_range]
  refine Finset.sum_congr rfl fun k _ => (mul_comm _ _).trans ?_
  rw [val_main_v0_apply, val_main_v1_apply, Nat.zero_add]
  exact congrArg₂ (· * ·) (at_ent x0 _ rfl rfl) (at_ent x1 _ rfl rfl)

end Cert.QkvRefIdeal.Product

namespace Cert.QkvIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![8192, 3072]⟩ : Shape).Idx → EReal := m ((c : Thread nD τ).loc main_arg1)

theorem idxs : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val % 8) + (y 0).val) (1024 * (t.val / 16) + (y 1).val) := by
  have := pt t; have := idx2_lt0 y; have := idx2_lt1 y
  refine Eq.trans ?_ (ent_ix (A m c) (by omega) (by omega))
  blk_ext [iblk, V, (idxs t).1]

theorem blkB (y : S1024x1536.Idx) :
    (iblk m c 1 t : S1024x1536.Idx → EReal) y = ent (B m c) (1024 * (t.val % 8) + (y 0).val) (1536 * (t.val / 8 % 2) + (y 1).val) := by
  have := pt t; have := idx2_lt0 y; have := idx2_lt1 y
  refine Eq.trans ?_ (ent_ix (B m c) (by omega) (by omega))
  blk_ext [iblk, V, (idxs t).2.1]

theorem part (y : S1024x1536.Idx) :
    k0_pay1 (F := Ideal) (iblk m c 0 t) (iblk m c 1 t) y
      = tnFrom (A m c) (B m c) (1024 * (t.val % 8)) 1024 (1024 * (t.val / 16) + (y 0).val) (1536 * (t.val / 8 % 2) + (y 1).val) := by
  unfold k0_pay1
  pointwise
  unfold tnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 8 = 0) (y : S1024x1536.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 8 ∧ t.val % 8 ≤ 6) (y : S1024x1536.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 8 = 7) (y : S1024x1536.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 8 = 7) (y : S1024x1536.Idx) :
    (outsAt0 m c t.val t.isLt).1 y = tnFrom (A m c) (B m c) 0 8192 (1024 * (t.val / 16) + (y 0).val) (1536 * (t.val / 8 % 2) + (y 1).val) := by
  have at_ : ∀ n (h : n < cfg0.N) {k : ℕ}, 1024 * (n / 16) = 1024 * (t.val / 16) ∧ 1536 * (n / 8 % 2) = 1536 * (t.val / 8 % 2) → n % 8 = k → k0_pay1 (F := Ideal) (iblk m c 0 ⟨n, h⟩) (iblk m c 1 ⟨n, h⟩) y
      = tnFrom (A m c) (B m c) (1024 * k) 1024 (1024 * (t.val / 16) + (y 0).val) (1536 * (t.val / 8 % 2) + (y 1).val) := fun n h _ i e => by
    subst e; rw [← i.1, ← i.2]; exact part m c ⟨n, h⟩ y
  refine (tile_total 8 (by omega) (fun n h => (outsAt0 m c n h).2 y) (fun n h => (outsAt0 m c n h).1 y)
    (fun k => tnFrom (A m c) (B m c) (1024 * k) 1024 (1024 * (t.val / 16) + (y 0).val) (1536 * (t.val / 8 % 2) + (y 1).val)) (fun n => 1024 * (n / 16) = 1024 * (t.val / 16) ∧ 1536 * (n / 8 % 2) = 1536 * (t.val / 8 % 2)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (tn_tiles _ _ 8 1024 _ _)
  omega

theorem flushes : ∀ t : Fin cfg0.N, (cfg0.win 2).flush t = true → t.val % 8 = 7 :=
  (by decide +kernel : ∀ t : Fin grid0.N, _)

theorem value : (dats m 0 c).arrAt 2 cfg0.N = fun i : S1024x3072.Idx => tnFrom (A m c) (B m c) 0 8192 (i 0).val (i 1).val := by
  refine (dats m 0 c).arrAt_eq_of_covers 2 _ (by decide +kernel) fun t hf y => ?_
  blk_simp
  rw [after0_2]
  refine (term m c t (flushes t hf) y).trans (congrArg₂ (tnFrom (A m c) (B m c) 0 8192) ?_ ?_)
  · show 1024 * (t.val / 16) + (y 0).val = win0_2.index t 0 * 1024 + (y 0).val
    rw [(idxs t).2.2, Nat.mul_comm]
    rfl
  · show 1536 * (t.val / 8 % 2) + (y 1).val = win0_2.index t 1 * 1536 + (y 1).val
    rw [(idxs t).2.2, Nat.mul_comm]
    rfl

open Idealize.SL.Sem

theorem algebraic : algebraic_QkvIdeal_QkvRefIdeal := by
  intro m ρ m' ρ' _ hagree
  refine ⟨fun c => (Gen.dats m 0 c).arrAt 2 cfg0.N, Value.run_blocks m ρ, ?_⟩
  refine (θ_run QkvRefIdeal.defs _ _).mono (fun r h c => ⟨(h c).1.trans ?_, (h c).2⟩)
    (QkvRefIdeal.Value.run (F := Ideal) m' ρ')
  refine (QkvRefIdeal.Read.val_main_v5_eq _ _).trans ((QkvRefIdeal.Product.value _ _).trans ?_)
  refine Eq.trans ?_ (value m c).symm
  rw [(hagree c).1, (hagree c).2]

theorem frame_ref : quiescent_QkvRefIdeal := fun m ρ _ =>
  (θ_run QkvRefIdeal.defs _ _).mono
    (fun r h => ⟨fun c => (h c).2, sem_eq_zero_of_no_sems (by decide) r.2⟩)
    (QkvRefIdeal.Value.run (F := Ideal) m ρ)

end Cert.QkvIdeal.Product

namespace Cert.DownRefIdeal.Product

open Read

theorem value (x0 : (⟨S8192x2816, .bf16⟩ : BufTy).Contents (Elt Ideal)) (x1 : (⟨S8192x1024, .bf16⟩ : BufTy).Contents (Elt Ideal)) :
    val_main_v5 x0 x1 = fun i : S2816x1024.Idx => tnFrom x0 x1 0 8192 (i 0).val (i 1).val := by
  funext i
  rw [val_main_v5_apply, val_main_v4_apply]
  unfold tnFrom
  rw [Finset.sum_range]
  refine Finset.sum_congr rfl fun k _ => (mul_comm _ _).trans ?_
  rw [val_main_v0_apply, val_main_v1_apply, Nat.zero_add]
  exact congrArg₂ (· * ·) (at_ent x0 _ rfl rfl) (at_ent x1 _ rfl rfl)

end Cert.DownRefIdeal.Product

namespace Cert.DownIdeal.Product

open Gen Value

variable (m : (ℓ : Loc nD τ sig) → Buf (Elt Ideal) ℓ) (c : Dev nD) (t : Fin cfg0.N)

abbrev A : (⟨2, ![8192, 2816]⟩ : Shape).Idx → EReal := m ((c : Thread nD τ).loc main_arg0)
abbrev B : (⟨2, ![8192, 1024]⟩ : Shape).Idx → EReal := m ((c : Thread nD τ).loc main_arg1)

theorem idxs : ∀ t : Fin cfg0.N, win0_0.index t = ![t.val % 8, t.val / 8] ∧ win0_1.index t = ![t.val % 8, 0] ∧ win0_2.index t = ![t.val / 8, 0] :=
  (by decide +kernel : ∀ t : Fin grid0.N, _)

theorem pt : t.val < 16 := lt_of_lt_of_eq t.isLt N_0

theorem blkA (y : S1024x1408.Idx) :
    (iblk m c 0 t : S1024x1408.Idx → EReal) y = ent (A m c) (1024 * (t.val % 8) + (y 0).val) (1408 * (t.val / 8) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (t.val % 8) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1408x1024.Idx) :
    k0_pay1 (F := Ideal) (iblk m c 0 t) (iblk m c 1 t) y
      = tnFrom (A m c) (B m c) (1024 * (t.val % 8)) 1024 (1408 * (t.val / 8) + (y 0).val) (1024 * (0) + (y 1).val) := by
  unfold k0_pay1
  pointwise
  unfold tnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 8 = 0) (y : S1408x1024.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 8 ∧ t.val % 8 ≤ 6) (y : S1408x1024.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 8 = 7) (y : S1408x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 8 = 7) (y : S1408x1024.Idx) :
    (outsAt0 m c t.val t.isLt).1 y = tnFrom (A m c) (B m c) 0 8192 (1408 * (t.val / 8) + (y 0).val) (1024 * (0) + (y 1).val) := by
  have at_ : ∀ n (h : n < cfg0.N) {k : ℕ}, 1408 * (n / 8) = 1408 * (t.val / 8) ∧ 1024 * (0) = 1024 * (0) → n % 8 = k → k0_pay1 (F := Ideal) (iblk m c 0 ⟨n, h⟩) (iblk m c 1 ⟨n, h⟩) y
      = tnFrom (A m c) (B m c) (1024 * k) 1024 (1408 * (t.val / 8) + (y 0).val) (1024 * (0) + (y 1).val) := fun n h _ i e => by
    subst e; rw [← i.1, ← i.2]; exact part m c ⟨n, h⟩ y
  refine (tile_total 8 (by omega) (fun n h => (outsAt0 m c n h).2 y) (fun n h => (outsAt0 m c n h).1 y)
    (fun k => tnFrom (A m c) (B m c) (1024 * k) 1024 (1408 * (t.val / 8) + (y 0).val) (1024 * (0) + (y 1).val)) (fun n => 1408 * (n / 8) = 1408 * (t.val / 8) ∧ 1024 * (0) = 1024 * (0)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (tn_tiles _ _ 8 1024 _ _)
  omega

theorem flushes : ∀ t : Fin cfg0.N, (cfg0.win 2).flush t = true → t.val % 8 = 7 :=
  (by decide +kernel : ∀ t : Fin grid0.N, _)

theorem value : (dats m 0 c).arrAt 2 cfg0.N = fun i : S2816x1024.Idx => tnFrom (A m c) (B m c) 0 8192 (i 0).val (i 1).val := by
  refine (dats m 0 c).arrAt_eq_of_covers 2 _ (by decide +kernel) fun t hf y => ?_
  blk_simp
  rw [after0_2]
  refine (term m c t (flushes t hf) y).trans (congrArg₂ (tnFrom (A m c) (B m c) 0 8192) ?_ ?_)
  · show 1408 * (t.val / 8) + (y 0).val = win0_2.index t 0 * 1408 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_DownIdeal_DownRefIdeal := by
  intro m ρ m' ρ' _ hagree
  refine ⟨fun c => (Gen.dats m 0 c).arrAt 2 cfg0.N, Value.run_blocks m ρ, ?_⟩
  refine (θ_run DownRefIdeal.defs _ _).mono (fun r h c => ⟨(h c).1.trans ?_, (h c).2⟩)
    (DownRefIdeal.Value.run (F := Ideal) m' ρ')
  refine (DownRefIdeal.Read.val_main_v5_eq _ _).trans ((DownRefIdeal.Product.value _ _).trans ?_)
  refine Eq.trans ?_ (value m c).symm
  rw [(hagree c).1, (hagree c).2]

theorem frame_ref : quiescent_DownRefIdeal := fun m ρ _ =>
  (θ_run DownRefIdeal.defs _ _).mono
    (fun r h => ⟨fun c => (h c).2, sem_eq_zero_of_no_sems (by decide) r.2⟩)
    (DownRefIdeal.Value.run (F := Ideal) m ρ)

end Cert.DownIdeal.Product

namespace Cert.ActRefIdeal.Product

open Read

theorem value (x0 : (⟨S8192x1024, .bf16⟩ : BufTy).Contents (Elt Ideal)) (x1 : (⟨S2816x1024, .bf16⟩ : BufTy).Contents (Elt Ideal)) :
    val_main_v5 x0 x1 = fun i : S8192x2816.Idx => ntFrom x0 x1 0 1024 (i 0).val (i 1).val := by
  funext i
  rw [val_main_v5_apply]; show val_main_v4 x0 x1 i = _; rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.ActRefIdeal.Product

namespace Cert.ActIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![2816, 1024]⟩ : Shape).Idx → EReal := m ((c : Thread nD τ).loc main_arg1)

theorem idxs : ∀ t : Fin cfg0.N, win0_0.index t = ![t.val / 2, 0] ∧ win0_1.index t = ![t.val % 2, 0] ∧ win0_2.index t = ![t.val / 2, t.val % 2] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val / 2) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1408x1024.Idx) :
    (iblk m c 1 t : S1408x1024.Idx → EReal) y = ent (B m c) (1408 * (t.val % 2) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1408.Idx) :
    k0_pay1 (F := Ideal) (iblk m c 0 t) (iblk m c 1 t) y
      = ntFrom (A m c) (B m c) (1024 * (0)) 1024 (1024 * (t.val / 2) + (y 0).val) (1408 * (t.val % 2) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1408.Idx) :
    out0_2 (F := Ideal) (iblk m c 0 t) (iblk m c 1 t) y = ntFrom (A m c) (B m c) 0 1024 (1024 * (t.val / 2) + (y 0).val) (1408 * (t.val % 2) + (y 1).val) := by
  refine Eq.trans ?_ (part m c t y)
  unfold out0_2
  frame_out

theorem value : (dats m 0 c).arrAt 2 cfg0.N = fun i : S8192x2816.Idx => ntFrom (A m c) (B m c) 0 1024 (i 0).val (i 1).val := by
  refine (dats m 0 c).arrAt_eq_of_covers 2 _ (by decide +kernel) fun t hf y => ?_
  blk_simp
  rw [after0_2]
  refine (term m c t y).trans (congrArg₂ (ntFrom (A m c) (B m c) 0 1024) ?_ ?_)
  · show 1024 * (t.val / 2) + (y 0).val = win0_2.index t 0 * 1024 + (y 0).val
    rw [(idxs t).2.2, Nat.mul_comm]
    rfl
  · show 1408 * (t.val % 2) + (y 1).val = win0_2.index t 1 * 1408 + (y 1).val
    rw [(idxs t).2.2, Nat.mul_comm]
    rfl

open Idealize.SL.Sem

theorem algebraic : algebraic_ActIdeal_ActRefIdeal := by
  intro m ρ m' ρ' _ hagree
  refine ⟨fun c => (Gen.dats m 0 c).arrAt 2 cfg0.N, Value.run_blocks m ρ, ?_⟩
  refine (θ_run ActRefIdeal.defs _ _).mono (fun r h c => ⟨(h c).1.trans ?_, (h c).2⟩)
    (ActRefIdeal.Value.run (F := Ideal) m' ρ')
  refine (ActRefIdeal.Read.val_main_v5_eq _ _).trans ((ActRefIdeal.Product.value _ _).trans ?_)
  refine Eq.trans ?_ (value m c).symm
  rw [(hagree c).1, (hagree c).2]

theorem frame_ref : quiescent_ActRefIdeal := fun m ρ _ =>
  (θ_run ActRefIdeal.defs _ _).mono
    (fun r h => ⟨fun c => (h c).2, sem_eq_zero_of_no_sems (by decide) r.2⟩)
    (ActRefIdeal.Value.run (F := Ideal) m ρ)

end Cert.ActIdeal.Product

namespace Cert.FmRefIdeal.Product

open Read

theorem value (x0 : (⟨S8192x1024, .bf16⟩ : BufTy).Contents (Elt Ideal)) (x1 : (⟨S1024x1024, .bf16⟩ : BufTy).Contents (Elt Ideal)) :
    val_main_v2 x0 x1 = fun i : S8192x1024.Idx => nnFrom x0 x1 0 1024 (i 0).val (i 1).val := by
  funext i
  rw [val_main_v2_apply]
  unfold nnFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.FmRefIdeal.Product

namespace Cert.FmIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 1024]⟩ : Shape).Idx → EReal := m ((c : Thread nD τ).loc main_arg1)

theorem idxs : ∀ t : Fin cfg0.N, win0_0.index t = ![t.val, 0] ∧ win0_1.index t = ![0, 0] ∧ win0_2.index t = ![t.val, 0] :=
  (by decide +kernel : ∀ t : Fin grid0.N, _)

theorem pt : t.val < 8 := lt_of_lt_of_eq t.isLt N_0

theorem blkA (y : S1024x1024.Idx) :
    (iblk m c 0 t : S1024x1024.Idx → EReal) y = ent (A m c) (1024 * (t.val) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (0) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = nnFrom (A m c) (B m c) (1024 * (0)) 1024 (1024 * (t.val) + (y 0).val) (1024 * (0) + (y 1).val) := by
  unfold k0_pay1
  pointwise
  unfold nnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1024.Idx) :
    out0_2 (F := Ideal) (iblk m c 0 t) (iblk m c 1 t) y = nnFrom (A m c) (B m c) 0 1024 (1024 * (t.val) + (y 0).val) (1024 * (0) + (y 1).val) := by
  refine Eq.trans ?_ (part m c t y)
  unfold out0_2
  frame_out

theorem value : (dats m 0 c).arrAt 2 cfg0.N = fun i : S8192x1024.Idx => nnFrom (A m c) (B m c) 0 1024 (i 0).val (i 1).val := by
  refine (dats m 0 c).arrAt_eq_of_covers 2 _ (by decide +kernel) fun t hf y => ?_
  blk_simp
  rw [after0_2]
  refine (term m c t y).trans (congrArg₂ (nnFrom (A m c) (B m c) 0 1024) ?_ ?_)
  · show 1024 * (t.val) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_FmIdeal_FmRefIdeal := by
  intro m ρ m' ρ' _ hagree
  refine ⟨fun c => (Gen.dats m 0 c).arrAt 2 cfg0.N, Value.run_blocks m ρ, ?_⟩
  refine (θ_run FmRefIdeal.defs _ _).mono (fun r h c => ⟨(h c).1.trans ?_, (h c).2⟩)
    (FmRefIdeal.Value.run (F := Ideal) m' ρ')
  refine (FmRefIdeal.Read.val_main_v2_eq _ _).trans ((FmRefIdeal.Product.value _ _).trans ?_)
  refine Eq.trans ?_ (value m c).symm
  rw [(hagree c).1, (hagree c).2]

theorem frame_ref : quiescent_FmRefIdeal := fun m ρ _ =>
  (θ_run FmRefIdeal.defs _ _).mono
    (fun r h => ⟨fun c => (h c).2, sem_eq_zero_of_no_sems (by decide) r.2⟩)
    (FmRefIdeal.Value.run (F := Ideal) m ρ)

end Cert.FmIdeal.Product

end
-- ==== Proof.Prod4.lean ====
/- The tiled products `Wo`, `U2`, `Ff`, `O` compute the whole ones. -/
module

public import proofs.«01_k».proof.Proof.ProdSpec
public import proofs.«01_k».proof.Proof.Gen.WoIdeal.Value
public import proofs.«01_k».proof.Proof.Gen.WoRefIdeal.Run
public import proofs.«01_k».proof.Proof.Gen.WoRefIdeal.Read
public import proofs.«01_k».proof.Proof.Gen.U2Ideal.Value
public import proofs.«01_k».proof.Proof.Gen.U2RefIdeal.Run
public import proofs.«01_k».proof.Proof.Gen.U2RefIdeal.Read
public import proofs.«01_k».proof.Proof.Gen.FfIdeal.Value
public import proofs.«01_k».proof.Proof.Gen.FfRefIdeal.Run
public import proofs.«01_k».proof.Proof.Gen.FfRefIdeal.Read
public import proofs.«01_k».proof.Proof.Gen.OIdeal.Value
public import proofs.«01_k».proof.Proof.Gen.ORefIdeal.Run
public import proofs.«01_k».proof.Proof.Gen.ORefIdeal.Read

@[expose] public section

set_option maxRecDepth 16384

noncomputable section

open Idealize.ShloMosaic Idealize.ShloMosaic.ValueIdx Idealize.ShloMosaic.TcCoe Finset Prod

namespace Cert.WoRefIdeal.Product

open Read

theorem value (x0 : (⟨S8192x1024, .bf16⟩ : BufTy).Contents (Elt Ideal)) (x1 : (⟨S8192x1024, .bf16⟩ : BufTy).Contents (Elt Ideal)) :
    val_main_v5 x0 x1 = fun i : S1024x1024.Idx => tnFrom x0 x1 0 8192 (i 0).val (i 1).val := by
  funext i
  rw [val_main_v5_apply, val_main_v4_apply]
  unfold tnFrom
  rw [Finset.sum_range]
  refine Finset.sum_congr rfl fun k _ => (mul_comm _ _).trans ?_
  rw [val_main_v0_apply, val_main_v1_apply, Nat.zero_add]
  exact congrArg₂ (· * ·) (at_ent x0 _ rfl rfl) (at_ent x1 _ rfl rfl)

end Cert.WoRefIdeal.Product

namespace Cert.WoIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![8192, 1024]⟩ : Shape).Idx → EReal := m ((c : Thread nD τ).loc main_arg1)

theorem idxs : ∀ t : Fin cfg0.N, win0_0.index t = ![t.val % 8, t.val / 8] ∧ win0_1.index t = ![t.val % 8, 0] ∧ win0_2.index t = ![t.val / 8, 0] :=
  (by decide +kernel : ∀ t : Fin grid0.N, _)

theorem pt : t.val < 8 := lt_of_lt_of_eq t.isLt N_0

theorem blkA (y : S1024x1024.Idx) :
    (iblk m c 0 t : S1024x1024.Idx → EReal) y = ent (A m c) (1024 * (t.val % 8) + (y 0).val) (1024 * (t.val / 8) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (t.val % 8) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = tnFrom (A m c) (B m c) (1024 * (t.val % 8)) 1024 (1024 * (t.val / 8) + (y 0).val) (1024 * (0) + (y 1).val) := by
  unfold k0_pay1
  pointwise
  unfold tnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 8 = 0) (y : S1024x1024.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 8 ∧ t.val % 8 ≤ 6) (y : S1024x1024.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 8 = 7) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 8 = 7) (y : S1024x1024.Idx) :
    (outsAt0 m c t.val t.isLt).1 y = tnFrom (A m c) (B m c) 0 8192 (1024 * (t.val / 8) + (y 0).val) (1024 * (0) + (y 1).val) := by
  have at_ : ∀ n (h : n < cfg0.N) {k : ℕ}, 1024 * (n / 8) = 1024 * (t.val / 8) ∧ 1024 * (0) = 1024 * (0) → n % 8 = k → k0_pay1 (F := Ideal) (iblk m c 0 ⟨n, h⟩) (iblk m c 1 ⟨n, h⟩) y
      = tnFrom (A m c) (B m c) (1024 * k) 1024 (1024 * (t.val / 8) + (y 0).val) (1024 * (0) + (y 1).val) := fun n h _ i e => by
    subst e; rw [← i.1, ← i.2]; exact part m c ⟨n, h⟩ y
  refine (tile_total 8 (by omega) (fun n h => (outsAt0 m c n h).2 y) (fun n h => (outsAt0 m c n h).1 y)
    (fun k => tnFrom (A m c) (B m c) (1024 * k) 1024 (1024 * (t.val / 8) + (y 0).val) (1024 * (0) + (y 1).val)) (fun n => 1024 * (n / 8) = 1024 * (t.val / 8) ∧ 1024 * (0) = 1024 * (0)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (tn_tiles _ _ 8 1024 _ _)
  omega

theorem flushes : ∀ t : Fin cfg0.N, (cfg0.win 2).flush t = true → t.val % 8 = 7 :=
  (by decide +kernel : ∀ t : Fin grid0.N, _)

theorem value : (dats m 0 c).arrAt 2 cfg0.N = fun i : S1024x1024.Idx => tnFrom (A m c) (B m c) 0 8192 (i 0).val (i 1).val := by
  refine (dats m 0 c).arrAt_eq_of_covers 2 _ (by decide +kernel) fun t hf y => ?_
  blk_simp
  rw [after0_2]
  refine (term m c t (flushes t hf) y).trans (congrArg₂ (tnFrom (A m c) (B m c) 0 8192) ?_ ?_)
  · show 1024 * (t.val / 8) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_WoIdeal_WoRefIdeal := by
  intro m ρ m' ρ' _ hagree
  refine ⟨fun c => (Gen.dats m 0 c).arrAt 2 cfg0.N, Value.run_blocks m ρ, ?_⟩
  refine (θ_run WoRefIdeal.defs _ _).mono (fun r h c => ⟨(h c).1.trans ?_, (h c).2⟩)
    (WoRefIdeal.Value.run (F := Ideal) m' ρ')
  refine (WoRefIdeal.Read.val_main_v5_eq _ _).trans ((WoRefIdeal.Product.value _ _).trans ?_)
  refine Eq.trans ?_ (value m c).symm
  rw [(hagree c).1, (hagree c).2]

theorem frame_ref : quiescent_WoRefIdeal := fun m ρ _ =>
  (θ_run WoRefIdeal.defs _ _).mono
    (fun r h => ⟨fun c => (h c).2, sem_eq_zero_of_no_sems (by decide) r.2⟩)
    (WoRefIdeal.Value.run (F := Ideal) m ρ)

end Cert.WoIdeal.Product

namespace Cert.U2RefIdeal.Product

open Read

theorem value (x0 : (⟨S8192x5632, .bf16⟩ : BufTy).Contents (Elt Ideal)) (x1 : (⟨S1024x5632, .bf16⟩ : BufTy).Contents (Elt Ideal)) :
    val_main_v4 x0 x1 = fun i : S8192x1024.Idx => ntFrom x0 x1 0 5632 (i 0).val (i 1).val := by
  funext i
  rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.U2RefIdeal.Product

namespace Cert.U2Ideal.Product

open Gen Value

variable (m : (ℓ : Loc nD τ sig) → Buf (Elt Ideal) ℓ) (c : Dev nD) (t : Fin cfg0.N)

abbrev A : (⟨2, ![8192, 5632]⟩ : Shape).Idx → EReal := m ((c : Thread nD τ).loc main_arg0)
abbrev B : (⟨2, ![1024, 5632]⟩ : Shape).Idx → EReal := m ((c : Thread nD τ).loc main_arg1)

theorem idxs : ∀ t : Fin cfg0.N, win0_0.index t = ![t.val / 4, t.val % 4] ∧ win0_1.index t = ![0, t.val % 4] ∧ win0_2.index t = ![t.val / 4, 0] :=
  (by decide +kernel : ∀ t : Fin grid0.N, _)

theorem pt : t.val < 32 := lt_of_lt_of_eq t.isLt N_0

theorem blkA (y : S1024x1408.Idx) :
    (iblk m c 0 t : S1024x1408.Idx → EReal) y = ent (A m c) (1024 * (t.val / 4) + (y 0).val) (1408 * (t.val % 4) + (y 1).val) := by
  have := pt t; have := idx2_lt0 y; have := idx2_lt1 y
  refine Eq.trans ?_ (ent_ix (A m c) (by omega) (by omega))
  blk_ext [iblk, V, (idxs t).1]

theorem blkB (y : S1024x1408.Idx) :
    (iblk m c 1 t : S1024x1408.Idx → EReal) y = ent (B m c) (1024 * (0) + (y 0).val) (1408 * (t.val % 4) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = ntFrom (A m c) (B m c) (1408 * (t.val % 4)) 1408 (1024 * (t.val / 4) + (y 0).val) (1024 * (0) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 4 = 0) (y : S1024x1024.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 4 = 3) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 4 = 3) (y : S1024x1024.Idx) :
    (outsAt0 m c t.val t.isLt).1 y = ntFrom (A m c) (B m c) 0 5632 (1024 * (t.val / 4) + (y 0).val) (1024 * (0) + (y 1).val) := by
  have at_ : ∀ n (h : n < cfg0.N) {k : ℕ}, 1024 * (n / 4) = 1024 * (t.val / 4) ∧ 1024 * (0) = 1024 * (0) → n % 4 = k → k0_pay1 (F := Ideal) (iblk m c 0 ⟨n, h⟩) (iblk m c 1 ⟨n, h⟩) y
      = ntFrom (A m c) (B m c) (1408 * k) 1408 (1024 * (t.val / 4) + (y 0).val) (1024 * (0) + (y 1).val) := fun n h _ i e => by
    subst e; rw [← i.1, ← i.2]; exact part m c ⟨n, h⟩ y
  refine (tile_total 4 (by omega) (fun n h => (outsAt0 m c n h).2 y) (fun n h => (outsAt0 m c n h).1 y)
    (fun k => ntFrom (A m c) (B m c) (1408 * k) 1408 (1024 * (t.val / 4) + (y 0).val) (1024 * (0) + (y 1).val)) (fun n => 1024 * (n / 4) = 1024 * (t.val / 4) ∧ 1024 * (0) = 1024 * (0)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (nt_tiles _ _ 4 1408 _ _)
  omega

theorem flushes : ∀ t : Fin cfg0.N, (cfg0.win 2).flush t = true → t.val % 4 = 3 :=
  (by decide +kernel : ∀ t : Fin grid0.N, _)

theorem value : (dats m 0 c).arrAt 2 cfg0.N = fun i : S8192x1024.Idx => ntFrom (A m c) (B m c) 0 5632 (i 0).val (i 1).val := by
  refine (dats m 0 c).arrAt_eq_of_covers 2 _ (by decide +kernel) fun t hf y => ?_
  blk_simp
  rw [after0_2]
  refine (term m c t (flushes t hf) y).trans (congrArg₂ (ntFrom (A m c) (B m c) 0 5632) ?_ ?_)
  · show 1024 * (t.val / 4) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_U2Ideal_U2RefIdeal := by
  intro m ρ m' ρ' _ hagree
  refine ⟨fun c => (Gen.dats m 0 c).arrAt 2 cfg0.N, Value.run_blocks m ρ, ?_⟩
  refine (θ_run U2RefIdeal.defs _ _).mono (fun r h c => ⟨(h c).1.trans ?_, (h c).2⟩)
    (U2RefIdeal.Value.run (F := Ideal) m' ρ')
  refine (U2RefIdeal.Read.val_main_v4_eq _ _).trans ((U2RefIdeal.Product.value _ _).trans ?_)
  refine Eq.trans ?_ (value m c).symm
  rw [(hagree c).1, (hagree c).2]

theorem frame_ref : quiescent_U2RefIdeal := fun m ρ _ =>
  (θ_run U2RefIdeal.defs _ _).mono
    (fun r h => ⟨fun c => (h c).2, sem_eq_zero_of_no_sems (by decide) r.2⟩)
    (U2RefIdeal.Value.run (F := Ideal) m ρ)

end Cert.U2Ideal.Product

namespace Cert.FfRefIdeal.Product

open Read

theorem value (x0 : (⟨S8192x2816, .bf16⟩ : BufTy).Contents (Elt Ideal)) (x1 : (⟨S2816x1024, .bf16⟩ : BufTy).Contents (Elt Ideal)) :
    val_main_v2 x0 x1 = fun i : S8192x1024.Idx => nnFrom x0 x1 0 2816 (i 0).val (i 1).val := by
  funext i
  rw [val_main_v2_apply]
  unfold nnFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.FfRefIdeal.Product

namespace Cert.FfIdeal.Product

open Gen Value

variable (m : (ℓ : Loc nD τ sig) → Buf (Elt Ideal) ℓ) (c : Dev nD) (t : Fin cfg0.N)

abbrev A : (⟨2, ![8192, 2816]⟩ : Shape).Idx → EReal := m ((c : Thread nD τ).loc main_arg0)
abbrev B : (⟨2, ![2816, 1024]⟩ : Shape).Idx → EReal := m ((c : Thread nD τ).loc main_arg1)

theorem idxs : ∀ t : Fin cfg0.N, win0_0.index t = ![t.val / 2, t.val % 2] ∧ win0_1.index t = ![t.val % 2, 0] ∧ win0_2.index t = ![t.val / 2, 0] :=
  (by decide +kernel : ∀ t : Fin grid0.N, _)

theorem pt : t.val < 16 := lt_of_lt_of_eq t.isLt N_0

theorem blkA (y : S1024x1408.Idx) :
    (iblk m c 0 t : S1024x1408.Idx → EReal) y = ent (A m c) (1024 * (t.val / 2) + (y 0).val) (1408 * (t.val % 2) + (y 1).val) := by
  have := pt t; have := idx2_lt0 y; have := idx2_lt1 y
  refine Eq.trans ?_ (ent_ix (A m c) (by omega) (by omega))
  blk_ext [iblk, V, (idxs t).1]

theorem blkB (y : S1408x1024.Idx) :
    (iblk m c 1 t : S1408x1024.Idx → EReal) y = ent (B m c) (1408 * (t.val % 2) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = nnFrom (A m c) (B m c) (1408 * (t.val % 2)) 1408 (1024 * (t.val / 2) + (y 0).val) (1024 * (0) + (y 1).val) := by
  unfold k0_pay1
  pointwise
  unfold nnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 2 = 0) (y : S1024x1024.Idx) :
    (outsAt0 m c t.val t.isLt).2 y = k0_pay1 (F := Ideal) (iblk m c 0 t) (iblk m c 1 t) y := by
  rw [outsAt0_A m c t h0 (by omega)]
  frame_out
  unfold k0_pay2
  pointwise

theorem term_C (h0 : t.val % 2 = 1) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_B m c t (by omega) h0]
  frame_out
  unfold k0_pay4
  pointwise
  exact congrArg (· + _) (congrFun ((Memref.isWhole_whole cc0_scratch0).read_unread _) y)

theorem term (h0 : t.val % 2 = 1) (y : S1024x1024.Idx) :
    (outsAt0 m c t.val t.isLt).1 y = nnFrom (A m c) (B m c) 0 2816 (1024 * (t.val / 2) + (y 0).val) (1024 * (0) + (y 1).val) := by
  have at_ : ∀ n (h : n < cfg0.N) {k : ℕ}, 1024 * (n / 2) = 1024 * (t.val / 2) ∧ 1024 * (0) = 1024 * (0) → n % 2 = k → k0_pay1 (F := Ideal) (iblk m c 0 ⟨n, h⟩) (iblk m c 1 ⟨n, h⟩) y
      = nnFrom (A m c) (B m c) (1408 * k) 1408 (1024 * (t.val / 2) + (y 0).val) (1024 * (0) + (y 1).val) := fun n h _ i e => by
    subst e; rw [← i.1, ← i.2]; exact part m c ⟨n, h⟩ y
  refine (tile_total 2 (by omega) (fun n h => (outsAt0 m c n h).2 y) (fun n h => (outsAt0 m c n h).1 y)
    (fun k => nnFrom (A m c) (B m c) (1408 * k) 1408 (1024 * (t.val / 2) + (y 0).val) (1024 * (0) + (y 1).val)) (fun n => 1024 * (n / 2) = 1024 * (t.val / 2) ∧ 1024 * (0) = 1024 * (0)) (fun n e i => ?_)
    (fun n h e i => (term_A m c ⟨n, h⟩ e y).trans (at_ n h i e)) (fun n h e i => absurd e (by omega))
    (fun n h e i => (term_C m c ⟨n, h⟩ e y).trans (congrArg (_ + ·) (at_ n h i e))) t.val t.isLt h0 ⟨rfl, rfl⟩).trans (nn_tiles _ _ 2 1408 _ _)
  omega

theorem flushes : ∀ t : Fin cfg0.N, (cfg0.win 2).flush t = true → t.val % 2 = 1 :=
  (by decide +kernel : ∀ t : Fin grid0.N, _)

theorem value : (dats m 0 c).arrAt 2 cfg0.N = fun i : S8192x1024.Idx => nnFrom (A m c) (B m c) 0 2816 (i 0).val (i 1).val := by
  refine (dats m 0 c).arrAt_eq_of_covers 2 _ (by decide +kernel) fun t hf y => ?_
  blk_simp
  rw [after0_2]
  refine (term m c t (flushes t hf) y).trans (congrArg₂ (nnFrom (A m c) (B m c) 0 2816) ?_ ?_)
  · show 1024 * (t.val / 2) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_FfIdeal_FfRefIdeal := by
  intro m ρ m' ρ' _ hagree
  refine ⟨fun c => (Gen.dats m 0 c).arrAt 2 cfg0.N, Value.run_blocks m ρ, ?_⟩
  refine (θ_run FfRefIdeal.defs _ _).mono (fun r h c => ⟨(h c).1.trans ?_, (h c).2⟩)
    (FfRefIdeal.Value.run (F := Ideal) m' ρ')
  refine (FfRefIdeal.Read.val_main_v2_eq _ _).trans ((FfRefIdeal.Product.value _ _).trans ?_)
  refine Eq.trans ?_ (value m c).symm
  rw [(hagree c).1, (hagree c).2]

theorem frame_ref : quiescent_FfRefIdeal := fun m ρ _ =>
  (θ_run FfRefIdeal.defs _ _).mono
    (fun r h => ⟨fun c => (h c).2, sem_eq_zero_of_no_sems (by decide) r.2⟩)
    (FfRefIdeal.Value.run (F := Ideal) m ρ)

end Cert.FfIdeal.Product

namespace Cert.ORefIdeal.Product

open Read

theorem value (x0 : (⟨S8192x1024, .bf16⟩ : BufTy).Contents (Elt Ideal)) (x1 : (⟨S1024x1024, .bf16⟩ : BufTy).Contents (Elt Ideal)) :
    val_main_v5 x0 x1 = fun i : S8192x1024.Idx => ntFrom x0 x1 0 1024 (i 0).val (i 1).val := by
  funext i
  rw [val_main_v5_apply]; show val_main_v4 x0 x1 i = _; rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.ORefIdeal.Product

namespace Cert.OIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 1024]⟩ : Shape).Idx → EReal := m ((c : Thread nD τ).loc main_arg1)

theorem idxs : ∀ t : Fin cfg0.N, win0_0.index t = ![t.val, 0] ∧ win0_1.index t = ![0, 0] ∧ win0_2.index t = ![t.val, 0] :=
  (by decide +kernel : ∀ t : Fin grid0.N, _)

theorem pt : t.val < 8 := lt_of_lt_of_eq t.isLt N_0

theorem blkA (y : S1024x1024.Idx) :
    (iblk m c 0 t : S1024x1024.Idx → EReal) y = ent (A m c) (1024 * (t.val) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (0) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = ntFrom (A m c) (B m c) (1024 * (0)) 1024 (1024 * (t.val) + (y 0).val) (1024 * (0) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1024.Idx) :
    out0_2 (F := Ideal) (iblk m c 0 t) (iblk m c 1 t) y = ntFrom (A m c) (B m c) 0 1024 (1024 * (t.val) + (y 0).val) (1024 * (0) + (y 1).val) := by
  refine Eq.trans ?_ (part m c t y)
  unfold out0_2
  frame_out

theorem value : (dats m 0 c).arrAt 2 cfg0.N = fun i : S8192x1024.Idx => ntFrom (A m c) (B m c) 0 1024 (i 0).val (i 1).val := by
  refine (dats m 0 c).arrAt_eq_of_covers 2 _ (by decide +kernel) fun t hf y => ?_
  blk_simp
  rw [after0_2]
  refine (term m c t y).trans (congrArg₂ (ntFrom (A m c) (B m c) 0 1024) ?_ ?_)
  · show 1024 * (t.val) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_OIdeal_ORefIdeal := by
  intro m ρ m' ρ' _ hagree
  refine ⟨fun c => (Gen.dats m 0 c).arrAt 2 cfg0.N, Value.run_blocks m ρ, ?_⟩
  refine (θ_run ORefIdeal.defs _ _).mono (fun r h c => ⟨(h c).1.trans ?_, (h c).2⟩)
    (ORefIdeal.Value.run (F := Ideal) m' ρ')
  refine (ORefIdeal.Read.val_main_v5_eq _ _).trans ((ORefIdeal.Product.value _ _).trans ?_)
  refine Eq.trans ?_ (value m c).symm
  rw [(hagree c).1, (hagree c).2]

theorem frame_ref : quiescent_ORefIdeal := fun m ρ _ =>
  (θ_run ORefIdeal.defs _ _).mono
    (fun r h => ⟨fun c => (h c).2, sem_eq_zero_of_no_sems (by decide) r.2⟩)
    (ORefIdeal.Value.run (F := Ideal) m ρ)

end Cert.OIdeal.Product

end
-- ==== Proof.Prod1.lean ====
/- The tiled products `Wglu`, `Fqkv`, `Fup`, `Hs` compute the whole ones. -/
module

public import proofs.«01_k».proof.Proof.ProdSpec
public import proofs.«01_k».proof.Proof.Gen.WgluIdeal.Value
public import proofs.«01_k».proof.Proof.Gen.WgluRefIdeal.Run
public import proofs.«01_k».proof.Proof.Gen.WgluRefIdeal.Read
public import proofs.«01_k».proof.Proof.Gen.FqkvIdeal.Value
public import proofs.«01_k».proof.Proof.Gen.FqkvRefIdeal.Run
public import proofs.«01_k».proof.Proof.Gen.FqkvRefIdeal.Read
public import proofs.«01_k».proof.Proof.Gen.FupIdeal.Value
public import proofs.«01_k».proof.Proof.Gen.FupRefIdeal.Run
public import proofs.«01_k».proof.Proof.Gen.FupRefIdeal.Read
public import proofs.«01_k».proof.Proof.Gen.HsIdeal.Value
public import proofs.«01_k».proof.Proof.Gen.HsRefIdeal.Run
public import proofs.«01_k».proof.Proof.Gen.HsRefIdeal.Read

@[expose] public section

set_option maxRecDepth 16384

noncomputable section

open Idealize.ShloMosaic Idealize.ShloMosaic.ValueIdx Idealize.ShloMosaic.TcCoe Finset Prod

namespace Cert.WgluRefIdeal.Product

open Read

theorem value (x0 : (⟨S8192x1024, .bf16⟩ : BufTy).Contents (Elt Ideal)) (x1 : (⟨S8192x2048, .bf16⟩ : BufTy).Contents (Elt Ideal)) :
    val_main_v5 x0 x1 = fun i : S1024x2048.Idx => tnFrom x0 x1 0 8192 (i 0).val (i 1).val := by
  funext i
  rw [val_main_v5_apply, val_main_v4_apply]
  unfold tnFrom
  rw [Finset.sum_range]
  refine Finset.sum_congr rfl fun k _ => (mul_comm _ _).trans ?_
  rw [val_main_v0_apply, val_main_v1_apply, Nat.zero_add]
  exact congrArg₂ (· * ·) (at_ent x0 _ rfl rfl) (at_ent x1 _ rfl rfl)

end Cert.WgluRefIdeal.Product

namespace Cert.WgluIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![8192, 2048]⟩ : Shape).Idx → EReal := m ((c : Thread nD τ).loc main_arg1)

theorem idxs : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val % 8) + (y 0).val) (1024 * (t.val / 16) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (t.val % 8) + (y 0).val) (1024 * (t.val / 8 % 2) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = tnFrom (A m c) (B m c) (1024 * (t.val % 8)) 1024 (1024 * (t.val / 16) + (y 0).val) (1024 * (t.val / 8 % 2) + (y 1).val) := by
  unfold k0_pay1
  pointwise
  unfold tnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term_A (h0 : t.val % 8 = 0) (y : S1024x1024.Idx) :
    (outsAt0 m c t.val t.isLt).2 y = k0_pay1 (F := Ideal) (iblk m c 0 t) (iblk m c 1 t) y := by
  rw [outsAt0_A m c t h0 (by omega) (by omega)]
  frame_out
  unfold k0_pay2
  pointwise

theorem term_B (h0 : 1 ≤ t.val % 8 ∧ t.val % 8 ≤ 6) (y : S1024x1024.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t (by omega) h0 (by omega)]
  frame_out
  unfold k0_pay3
  pointwise
  exact congrArg (· + _) (congrFun ((Memref.isWhole_whole cc0_scratch0).read_unread _) y)

theorem term_C (h0 : t.val % 8 = 7) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h0]
  frame_out
  unfold k0_pay4
  pointwise
  exact congrArg (· + _) (congrFun ((Memref.isWhole_whole cc0_scratch0).read_unread _) y)

theorem term (h0 : t.val % 8 = 7) (y : S1024x1024.Idx) :
    (outsAt0 m c t.val t.isLt).1 y = tnFrom (A m c) (B m c) 0 8192 (1024 * (t.val / 16) + (y 0).val) (1024 * (t.val / 8 % 2) + (y 1).val) := by
  have at_ : ∀ n (h : n < cfg0.N) {k : ℕ}, 1024 * (n / 16) = 1024 * (t.val / 16) ∧ 1024 * (n / 8 % 2) = 1024 * (t.val / 8 % 2) → n % 8 = k → k0_pay1 (F := Ideal) (iblk m c 0 ⟨n, h⟩) (iblk m c 1 ⟨n, h⟩) y
      = tnFrom (A m c) (B m c) (1024 * k) 1024 (1024 * (t.val / 16) + (y 0).val) (1024 * (t.val / 8 % 2) + (y 1).val) := fun n h _ i e => by
    subst e; rw [← i.1, ← i.2]; exact part m c ⟨n, h⟩ y
  refine (tile_total 8 (by omega) (fun n h => (outsAt0 m c n h).2 y) (fun n h => (outsAt0 m c n h).1 y)
    (fun k => tnFrom (A m c) (B m c) (1024 * k) 1024 (1024 * (t.val / 16) + (y 0).val) (1024 * (t.val / 8 % 2) + (y 1).val)) (fun n => 1024 * (n / 16) = 1024 * (t.val / 16) ∧ 1024 * (n / 8 % 2) = 1024 * (t.val / 8 % 2)) (fun n e i => ?_)
    (fun n h e i => (term_A m c ⟨n, h⟩ e y).trans (at_ n h i e)) (fun n h e i => (term_B m c ⟨n, h⟩ e y).trans (congrArg (_ + ·) (at_ n h i rfl)))
    (fun n h e i => (term_C m c ⟨n, h⟩ e y).trans (congrArg (_ + ·) (at_ n h i e))) t.val t.isLt h0 ⟨rfl, rfl⟩).trans (tn_tiles _ _ 8 1024 _ _)
  omega

theorem flushes : ∀ t : Fin cfg0.N, (cfg0.win 2).flush t = true → t.val % 8 = 7 :=
  (by decide +kernel : ∀ t : Fin grid0.N, _)

theorem value : (dats m 0 c).arrAt 2 cfg0.N = fun i : S1024x2048.Idx => tnFrom (A m c) (B m c) 0 8192 (i 0).val (i 1).val := by
  refine (dats m 0 c).arrAt_eq_of_covers 2 _ (by decide +kernel) fun t hf y => ?_
  blk_simp
  rw [after0_2]
  refine (term m c t (flushes t hf) y).trans (congrArg₂ (tnFrom (A m c) (B m c) 0 8192) ?_ ?_)
  · show 1024 * (t.val / 16) + (y 0).val = win0_2.index t 0 * 1024 + (y 0).val
    rw [(idxs t).2.2, Nat.mul_comm]
    rfl
  · show 1024 * (t.val / 8 % 2) + (y 1).val = win0_2.index t 1 * 1024 + (y 1).val
    rw [(idxs t).2.2, Nat.mul_comm]
    rfl

open Idealize.SL.Sem

theorem algebraic : algebraic_WgluIdeal_WgluRefIdeal := by
  intro m ρ m' ρ' _ hagree
  refine ⟨fun c => (Gen.dats m 0 c).arrAt 2 cfg0.N, Value.run_blocks m ρ, ?_⟩
  refine (θ_run WgluRefIdeal.defs _ _).mono (fun r h c => ⟨(h c).1.trans ?_, (h c).2⟩)
    (WgluRefIdeal.Value.run (F := Ideal) m' ρ')
  refine (WgluRefIdeal.Read.val_main_v5_eq _ _).trans ((WgluRefIdeal.Product.value _ _).trans ?_)
  refine Eq.trans ?_ (value m c).symm
  rw [(hagree c).1, (hagree c).2]

theorem frame_ref : quiescent_WgluRefIdeal := fun m ρ _ =>
  (θ_run WgluRefIdeal.defs _ _).mono
    (fun r h => ⟨fun c => (h c).2, sem_eq_zero_of_no_sems (by decide) r.2⟩)
    (WgluRefIdeal.Value.run (F := Ideal) m ρ)

end Cert.WgluIdeal.Product

namespace Cert.FqkvRefIdeal.Product

open Read

theorem value (x0 : (⟨S8192x1024, .bf16⟩ : BufTy).Contents (Elt Ideal)) (x1 : (⟨S1024x3072, .bf16⟩ : BufTy).Contents (Elt Ideal)) :
    val_main_v3 x0 x1 = fun i : S8192x3072.Idx => nnFrom x0 x1 0 1024 (i 0).val (i 1).val := by
  funext i
  rw [val_main_v3_apply]; show val_main_v2 x0 x1 i = _; rw [val_main_v2_apply]
  unfold nnFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.FqkvRefIdeal.Product

namespace Cert.FqkvIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 3072]⟩ : Shape).Idx → EReal := m ((c : Thread nD τ).loc main_arg1)

theorem idxs : ∀ t : Fin cfg0.N, win0_0.index t = ![t.val / 2, 0] ∧ win0_1.index t = ![0, t.val % 2] ∧ win0_2.index t = ![t.val / 2, t.val % 2] :=
  (by decide +kernel : ∀ t : Fin grid0.N, _)

theorem pt : t.val < 16 := lt_of_lt_of_eq t.isLt N_0

theorem blkA (y : S1024x1024.Idx) :
    (iblk m c 0 t : S1024x1024.Idx → EReal) y = ent (A m c) (1024 * (t.val / 2) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1024x1536.Idx) :
    (iblk m c 1 t : S1024x1536.Idx → EReal) y = ent (B m c) (1024 * (0) + (y 0).val) (1536 * (t.val % 2) + (y 1).val) := by
  have := pt t; have := idx2_lt0 y; have := idx2_lt1 y
  refine Eq.trans ?_ (ent_ix (B m c) (by omega) (by omega))
  blk_ext [iblk, V, (idxs t).2.1]

theorem part (y : S1024x1536.Idx) :
    k0_pay1 (F := Ideal) (iblk m c 0 t) (iblk m c 1 t) y
      = nnFrom (A m c) (B m c) (1024 * (0)) 1024 (1024 * (t.val / 2) + (y 0).val) (1536 * (t.val % 2) + (y 1).val) := by
  unfold k0_pay1
  pointwise
  unfold nnFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1536.Idx) :
    out0_2 (F := Ideal) (iblk m c 0 t) (iblk m c 1 t) y = nnFrom (A m c) (B m c) 0 1024 (1024 * (t.val / 2) + (y 0).val) (1536 * (t.val % 2) + (y 1).val) := by
  refine Eq.trans ?_ (part m c t y)
  unfold out0_2
  frame_out

theorem value : (dats m 0 c).arrAt 2 cfg0.N = fun i : S8192x3072.Idx => nnFrom (A m c) (B m c) 0 1024 (i 0).val (i 1).val := by
  refine (dats m 0 c).arrAt_eq_of_covers 2 _ (by decide +kernel) fun t hf y => ?_
  blk_simp
  rw [after0_2]
  refine (term m c t y).trans (congrArg₂ (nnFrom (A m c) (B m c) 0 1024) ?_ ?_)
  · show 1024 * (t.val / 2) + (y 0).val = win0_2.index t 0 * 1024 + (y 0).val
    rw [(idxs t).2.2, Nat.mul_comm]
    rfl
  · show 1536 * (t.val % 2) + (y 1).val = win0_2.index t 1 * 1536 + (y 1).val
    rw [(idxs t).2.2, Nat.mul_comm]
    rfl

open Idealize.SL.Sem

theorem algebraic : algebraic_FqkvIdeal_FqkvRefIdeal := by
  intro m ρ m' ρ' _ hagree
  refine ⟨fun c => (Gen.dats m 0 c).arrAt 2 cfg0.N, Value.run_blocks m ρ, ?_⟩
  refine (θ_run FqkvRefIdeal.defs _ _).mono (fun r h c => ⟨(h c).1.trans ?_, (h c).2⟩)
    (FqkvRefIdeal.Value.run (F := Ideal) m' ρ')
  refine (FqkvRefIdeal.Read.val_main_v3_eq _ _).trans ((FqkvRefIdeal.Product.value _ _).trans ?_)
  refine Eq.trans ?_ (value m c).symm
  rw [(hagree c).1, (hagree c).2]

theorem frame_ref : quiescent_FqkvRefIdeal := fun m ρ _ =>
  (θ_run FqkvRefIdeal.defs _ _).mono
    (fun r h => ⟨fun c => (h c).2, sem_eq_zero_of_no_sems (by decide) r.2⟩)
    (FqkvRefIdeal.Value.run (F := Ideal) m ρ)

end Cert.FqkvIdeal.Product

/- The forward gated product: each point computes a tile of the gate and of the up half from one block of rows, and their
  activation; the two halves are columns of one array, the up half 2816 columns further on. -/
namespace Cert.FupIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 5632]⟩ : Shape).Idx → EReal := m ((c : Thread nD τ).loc main_arg1)

/-- The gate's and the up half's entry, and the activation of the two. -/
def gate (a : (⟨2, ![8192, 1024]⟩ : Shape).Idx → EReal) (b : (⟨2, ![1024, 5632]⟩ : Shape).Idx → EReal) (r s : ℕ) : EReal :=
  nnFrom a b 0 1024 r s
def up (a : (⟨2, ![8192, 1024]⟩ : Shape).Idx → EReal) (b : (⟨2, ![1024, 5632]⟩ : Shape).Idx → EReal) (r s : ℕ) : EReal :=
  nnFrom a b 0 1024 r (2816 + s)
def swish (x y : EReal) : EReal := (x * Ideal.logistic x) * y
def act (a : (⟨2, ![8192, 1024]⟩ : Shape).Idx → EReal) (b : (⟨2, ![1024, 5632]⟩ : Shape).Idx → EReal) (r s : ℕ) : EReal :=
  swish (gate a b r s) (up a b r s)

theorem idxs : ∀ t : Fin cfg0.N, win0_0.index t = ![t.val / 2, 0] ∧ win0_1.index t = ![0, t.val % 2] ∧ win0_2.index t = ![0, 2 + t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem pt : t.val < 32 := lt_of_lt_of_eq t.isLt N_0

theorem blkA (y : S512x1024.Idx) :
    (iblk m c 0 t : S512x1024.Idx → EReal) y = ent (A m c) (512 * (t.val / 2) + (y 0).val) (y 1).val := by
  have := pt t; have := idx2_lt0 y; have := idx2_lt1 y
  refine Eq.trans ?_ (ent_ix (A m c) (by omega) (by omega))
  blk_ext [iblk, V, (idxs t).1]

theorem blkG (y : S1024x1408.Idx) :
    (iblk m c 1 t : S1024x1408.Idx → EReal) y = ent (B m c) (y 0).val (1408 * (t.val % 2) + (y 1).val) := by
  have := pt t; have := idx2_lt0 y; have := idx2_lt1 y
  refine Eq.trans ?_ (ent_ix (B m c) (by omega) (by omega))
  blk_ext [iblk, V, (idxs t).2.1]

theorem blkU (y : S1024x1408.Idx) :
    (iblk m c 2 t : S1024x1408.Idx → EReal) y = ent (B m c) (y 0).val (1408 * (2 + t.val % 2) + (y 1).val) := by
  have := pt t; have := idx2_lt0 y; have := idx2_lt1 y
  refine Eq.trans ?_ (ent_ix (B m c) (by omega) (by omega))
  blk_ext [iblk, V, (idxs t).2.2.1]

theorem pay_gate (y : S512x1408.Idx) :
    k0_pay1 (F := Ideal) (iblk m c 0 t) (iblk m c 1 t) y = gate (A m c) (B m c) (512 * (t.val / 2) + (y 0).val) (1408 * (t.val % 2) + (y 1).val) := by
  unfold k0_pay1
  pointwise
  unfold gate nnFrom
  rw [Finset.sum_range]
  refine Finset.sum_congr rfl fun k _ => congrArg₂ (· * ·) ((blkA m c t _).trans (ent_congr _ ?_ ?_)) ((blkG m c t _).trans (ent_congr _ ?_ ?_)) <;>
    first | rfl | simp

theorem pay_up (y : S512x1408.Idx) :
    k0_pay2 (F := Ideal) (iblk m c 0 t) (iblk m c 2 t) y = up (A m c) (B m c) (512 * (t.val / 2) + (y 0).val) (1408 * (t.val % 2) + (y 1).val) := by
  unfold k0_pay2
  pointwise
  unfold up nnFrom
  rw [Finset.sum_range]
  exact sum_congr rfl fun k _ => congrArg₂ (· * ·) ((blkA m c t _).trans (ent_congr _ (by first | rfl | simp) (by first | rfl | simp)))
    ((blkU m c t _).trans (ent_congr _ (by first | rfl | simp) (show _ = _ from by
      show 1408 * (2 + t.val % 2) + (y 1).val = 2816 + (1408 * (t.val % 2) + (y 1).val); omega)))

theorem one_eq : (FloatOps.ofBits (F := Ideal) .f32 0x3F800000#32 : EReal) = 1 :=
  Ideal.ofBits_one_f32

theorem pay_act (y : S512x1408.Idx) :
    k0_pay3 (F := Ideal) (iblk m c 0 t) (iblk m c 1 t) (iblk m c 0 t) (iblk m c 2 t) y
      = act (A m c) (B m c) (512 * (t.val / 2) + (y 0).val) (1408 * (t.val % 2) + (y 1).val) := by
  unfold act
  rw [← pay_gate m c t y, ← pay_up m c t y]
  rfl

theorem value3 : (dats m 0 c).arrAt 3 cfg0.N = fun i : S8192x2816.Idx => gate (A m c) (B m c) (i 0).val (i 1).val := by
  refine (dats m 0 c).arrAt_eq_of_covers 3 _ (by decide +kernel) fun t hf y => ?_
  blk_simp
  rw [after0_3]
  refine Eq.trans (b := k0_pay1 (F := Ideal) (iblk m c 0 t) (iblk m c 1 t) y) ?_ ((pay_gate m c t y).trans (congrArg₂ (gate (A m c) (B m c)) ?_ ?_))
  · unfold out0_3
    frame_out
  · show 512 * (t.val / 2) + (y 0).val = win0_3.index t 0 * 512 + (y 0).val
    rw [(idxs t).2.2.2.1, Nat.mul_comm]
    rfl
  · show 1408 * (t.val % 2) + (y 1).val = win0_3.index t 1 * 1408 + (y 1).val
    rw [(idxs t).2.2.2.1, Nat.mul_comm]
    rfl

theorem value4 : (dats m 0 c).arrAt 4 cfg0.N = fun i : S8192x2816.Idx => up (A m c) (B m c) (i 0).val (i 1).val := by
  refine (dats m 0 c).arrAt_eq_of_covers 4 _ (by decide +kernel) fun t hf y => ?_
  blk_simp
  rw [after0_4]
  refine Eq.trans (b := k0_pay2 (F := Ideal) (iblk m c 0 t) (iblk m c 2 t) y) ?_ ((pay_up m c t y).trans (congrArg₂ (up (A m c) (B m c)) ?_ ?_))
  · unfold out0_4
    frame_out
  · show 512 * (t.val / 2) + (y 0).val = win0_4.index t 0 * 512 + (y 0).val
    rw [(idxs t).2.2.2.2.1, Nat.mul_comm]
    rfl
  · show 1408 * (t.val % 2) + (y 1).val = win0_4.index t 1 * 1408 + (y 1).val
    rw [(idxs t).2.2.2.2.1, Nat.mul_comm]
    rfl

theorem value5 : (dats m 0 c).arrAt 5 cfg0.N = fun i : S8192x2816.Idx => act (A m c) (B m c) (i 0).val (i 1).val := by
  refine (dats m 0 c).arrAt_eq_of_covers 5 _ (by decide +kernel) fun t hf y => ?_
  blk_simp
  rw [after0_5]
  refine Eq.trans (b := k0_pay3 (F := Ideal) (iblk m c 0 t) (iblk m c 1 t) (iblk m c 0 t) (iblk m c 2 t) y) ?_
    ((pay_act m c t y).trans (congrArg₂ (act (A m c) (B m c)) ?_ ?_))
  · unfold out0_5
    frame_out
  · show 512 * (t.val / 2) + (y 0).val = win0_5.index t 0 * 512 + (y 0).val
    rw [(idxs t).2.2.2.2.2, Nat.mul_comm]
    rfl
  · show 1408 * (t.val % 2) + (y 1).val = win0_5.index t 1 * 1408 + (y 1).val
    rw [(idxs t).2.2.2.2.2, Nat.mul_comm]
    rfl

end Cert.FupIdeal.Product

namespace Cert.FupRefIdeal.Product

open Cert.FupRefIdeal FupRefIdeal.Read FupIdeal.Product

variable (x0 : (⟨S8192x1024, .bf16⟩ : BufTy).Contents (Elt Ideal)) (x1 : (⟨S1024x5632, .bf16⟩ : BufTy).Contents (Elt Ideal))

theorem gate_eq (i : S8192x2816.Idx) : val_main_v3 x0 x1 i = gate x0 x1 (i 0).val (i 1).val := by
  rw [val_main_v3_apply]
  unfold gate nnFrom
  rw [Finset.sum_range]
  refine Finset.sum_congr rfl fun k _ => ?_
  rw [val_main_v1_apply, val_main_v2_apply, val_main_v0_apply, Nat.zero_add]
  exact congrArg₂ (· * ·) (at_ent x0 _ rfl rfl) (at_ent x1 _ rfl rfl)

theorem up_eq (i : S8192x2816.Idx) : val_main_v7 x0 x1 i = up x0 x1 (i 0).val (i 1).val := by
  rw [val_main_v7_apply]
  unfold up nnFrom
  rw [Finset.sum_range]
  refine Finset.sum_congr rfl fun k _ => ?_
  rw [val_main_v5_apply, val_main_v6_apply, val_main_v4_apply, Nat.zero_add]
  exact congrArg₂ (· * ·) (at_ent x0 _ rfl rfl) (at_ent x1 _ rfl (by first | rfl | exact Nat.add_comm _ _))

theorem act_eq (i : S8192x2816.Idx) : val_main_v12 x0 x1 i = act x0 x1 (i 0).val (i 1).val := by
  unfold act
  rw [← gate_eq x0 x1 i, ← up_eq x0 x1 i, val_main_v12_apply, val_main_v11_apply, val_main_v10_apply, val_main_call0_v5_apply,
    val_main_call0_v4_apply, val_main_call0_v3_apply, val_main_call0_v2_apply, val_main_call0_v1_apply, val_main_call0_v0_apply,
    val_main_call0_cst_apply, val_main_call0_cst_0_apply, one_eq]
  rfl

end Cert.FupRefIdeal.Product

namespace Cert.FupIdeal.Product

open Gen Value
open Idealize.SL.Sem

theorem algebraic : algebraic_FupIdeal_FupRefIdeal := by
  intro m ρ m' ρ' _ hagree
  refine ⟨fun c => (Gen.dats m 0 c).arrAt 3 cfg0.N, fun c => (Gen.dats m 0 c).arrAt 4 cfg0.N,
    fun c => (Gen.dats m 0 c).arrAt 5 cfg0.N, Value.run_blocks m ρ, ?_⟩
  refine (θ_run FupRefIdeal.defs _ _).mono (fun r h c => ⟨(h c).1.trans ?_, (h c).2.1.trans ?_, (h c).2.2.1.trans ?_, (h c).2.2.2⟩)
    (FupRefIdeal.Value.run (F := Ideal) m' ρ')
  · refine (FupRefIdeal.Read.val_main_v8_eq _ _).trans (Eq.trans ?_ (value3 m c).symm)
    rw [(hagree c).1, (hagree c).2]
    exact funext fun i => FupRefIdeal.Product.gate_eq _ _ i
  · refine (FupRefIdeal.Read.val_main_v9_eq _ _).trans (Eq.trans ?_ (value4 m c).symm)
    rw [(hagree c).1, (hagree c).2]
    exact funext fun i => FupRefIdeal.Product.up_eq _ _ i
  · refine (FupRefIdeal.Read.val_main_v12_eq _ _).trans (Eq.trans ?_ (value5 m c).symm)
    rw [(hagree c).1, (hagree c).2]
    exact funext fun i => FupRefIdeal.Product.act_eq _ _ i

theorem frame_ref : quiescent_FupRefIdeal := fun m ρ _ =>
  (θ_run FupRefIdeal.defs _ _).mono
    (fun r h => ⟨fun c => (h c).2.2.2, sem_eq_zero_of_no_sems (by decide) r.2⟩)
    (FupRefIdeal.Value.run (F := Ideal) m ρ)

end Cert.FupIdeal.Product

namespace Cert.HsRefIdeal.Product

open Read

theorem value (x0 : (⟨S8192x1024, .bf16⟩ : BufTy).Contents (Elt Ideal)) (x1 : (⟨S1024x1024, .bf16⟩ : BufTy).Contents (Elt Ideal)) :
    val_main_v4 x0 x1 = fun i : S8192x1024.Idx => ntFrom x0 x1 0 1024 (i 0).val (i 1).val := by
  funext i
  rw [val_main_v4_apply]
  unfold ntFrom
  rw [Finset.sum_range]
  refine Finset.sum_congr rfl fun k _ => ?_
  rw [val_main_v0_apply, val_main_v1_apply, Nat.zero_add]
  exact congrArg₂ (· * ·) (at_ent x0 _ rfl rfl) (at_ent x1 _ rfl rfl)

end Cert.HsRefIdeal.Product

namespace Cert.HsIdeal.Product

open Gen Value

variable (m : (ℓ : Loc nD τ sig) → Buf (Elt Ideal) ℓ) (c : Dev nD) (t : Fin cfg0.N)

abbrev A : (⟨2, ![8192, 1024]⟩ : Shape).Idx → EReal := m ((c : Thread nD τ).loc main_arg0)
abbrev B : (⟨2, ![1024, 1024]⟩ : Shape).Idx → EReal := m ((c : Thread nD τ).loc main_arg1)

theorem idxs : ∀ t : Fin cfg0.N, win0_0.index t = ![t.val, 0] ∧ win0_1.index t = ![0, 0] ∧ win0_2.index t = ![t.val, 0] :=
  (by decide +kernel : ∀ t : Fin grid0.N, _)

theorem pt : t.val < 8 := lt_of_lt_of_eq t.isLt N_0

theorem blkA (y : S1024x1024.Idx) :
    (iblk m c 0 t : S1024x1024.Idx → EReal) y = ent (A m c) (1024 * (t.val) + (y 0).val) (1024 * (0) + (y 1).val) := by
  have := pt t; have := idx2_lt0 y; have := idx2_lt1 y
  refine Eq.trans ?_ (ent_ix (A m c) (by omega) (by omega))
  blk_ext [iblk, V, (idxs t).1]

theorem blkB (y : S1024x1024.Idx) :
    (iblk m c 1 t : S1024x1024.Idx → EReal) y = ent (B m c) (1024 * (0) + (y 0).val) (1024 * (0) + (y 1).val) := by
  have := pt t; have := idx2_lt0 y; have := idx2_lt1 y
  refine Eq.trans ?_ (ent_ix (B m c) (by omega) (by omega))
  blk_ext [iblk, V, (idxs t).2.1]

theorem part (y : S1024x1024.Idx) :
    k0_pay1 (F := Ideal) (iblk m c 0 t) (iblk m c 1 t) y
      = ntFrom (A m c) (B m c) (1024 * (0)) 1024 (1024 * (t.val) + (y 0).val) (1024 * (0) + (y 1).val) := by
  unfold k0_pay1
  pointwise
  unfold ntFrom
  rw [Finset.sum_range]
  refine Finset.sum_congr rfl fun k _ => congrArg₂ (· * ·) ((blkA m c t _).trans (ent_congr _ ?_ ?_)) ((blkB m c t _).trans (ent_congr _ ?_ ?_)) <;>
    first | rfl | simp

theorem term (y : S1024x1024.Idx) :
    out0_2 (F := Ideal) (iblk m c 0 t) (iblk m c 1 t) y = ntFrom (A m c) (B m c) 0 1024 (1024 * (t.val) + (y 0).val) (1024 * (0) + (y 1).val) := by
  refine Eq.trans ?_ (part m c t y)
  unfold out0_2
  frame_out

theorem value : (dats m 0 c).arrAt 2 cfg0.N = fun i : S8192x1024.Idx => ntFrom (A m c) (B m c) 0 1024 (i 0).val (i 1).val := by
  refine (dats m 0 c).arrAt_eq_of_covers 2 _ (by decide +kernel) fun t hf y => ?_
  blk_simp
  rw [after0_2]
  refine (term m c t y).trans (congrArg₂ (ntFrom (A m c) (B m c) 0 1024) ?_ ?_)
  · show 1024 * (t.val) + (y 0).val = win0_2.index t 0 * 1024 + (y 0).val
    rw [(idxs t).2.2, Nat.mul_comm]
    rfl
  · show 1024 * (0) + (y 1).val = win0_2.index t 1 * 1024 + (y 1).val
    rw [(idxs t).2.2, Nat.mul_comm]
    rfl

open Idealize.SL.Sem

theorem algebraic : algebraic_HsIdeal_HsRefIdeal := by
  intro m ρ m' ρ' _ hagree
  refine ⟨fun c => (Gen.dats m 0 c).arrAt 2 cfg0.N, Value.run_blocks m ρ, ?_⟩
  refine (θ_run HsRefIdeal.defs _ _).mono (fun r h c => ⟨(h c).1.trans ?_, (h c).2⟩)
    (HsRefIdeal.Value.run (F := Ideal) m' ρ')
  refine (HsRefIdeal.Read.val_main_v4_eq _ _).trans ((HsRefIdeal.Product.value _ _).trans ?_)
  refine Eq.trans ?_ (value m c).symm
  rw [(hagree c).1, (hagree c).2]

theorem frame_ref : quiescent_HsRefIdeal := fun m ρ _ =>
  (θ_run HsRefIdeal.defs _ _).mono
    (fun r h => ⟨fun c => (h c).2, sem_eq_zero_of_no_sems (by decide) r.2⟩)
    (HsRefIdeal.Value.run (F := Ideal) m ρ)

end Cert.HsIdeal.Product

end
-- ==== Proof.AttnReal.lean ====
/-
  One head of the stick-breaking attention and of its gradient over the reals, row `t` against key `s`, and the tiles of
  these functions that the kernel's values are.
-/
module

public import proofs.«01_k».proof.Proof.Gen.AttnIdeal.Skeleton
public import Idealize.ShloMosaic.Lib.Pipeline.ReadBack
public import Idealize.ShloMosaic.Lib.Pipeline.ValueKit
public import Idealize.ShloMosaic.Lib.Pointwise
public import Idealize.ShloMosaic.Lib.WordCmp
public import Idealize.ShloMosaic.Lib.IdealHost
public import Idealize.ShloMosaic.PureOps.Ideal

@[expose] public section

set_option maxRecDepth 16384

noncomputable section

open Idealize.ShloMosaic Idealize.ShloMosaic.ValueIdx Idealize.ShloMosaic.TcCoe Finset

/-- The rows of one head: queries, keys, values and the output's gradient, on the 128 lanes the kernel works on. -/
structure Hd where
  q : ℕ → ℕ → ℝ
  k : ℕ → ℕ → ℝ
  v : ℕ → ℕ → ℝ
  d : ℕ → ℕ → ℝ

namespace Hd

variable (H : Hd)

def z (t s : ℕ) : ℝ := (∑ c ∈ range 128, H.q t c * H.k s c) * (1 / 8)
def sp (t s : ℕ) : ℝ := max (H.z t s) 0 + Real.log (1 + Real.exp (0 - max (H.z t s) (-(H.z t s))))
def lk (t s : ℕ) : ℝ := if s < t then 0 - H.sp t s else 0
def lb (t s : ℕ) : ℝ := H.z t s - H.sp t s
def w (t s : ℕ) : ℝ := if s < t then Real.exp (H.lb t s + ∑ j ∈ Ico (s + 1) 8192, H.lk t j) else 0
def o (t s : ℕ) : ℝ := ∑ c ∈ range 128, H.d t c * H.v s c
def de (t s : ℕ) : ℝ := H.o t s * H.w t s
def dz (t s : ℕ) : ℝ :=
  (if s < t then H.de t s * Real.exp (H.lk t s) - Real.exp (H.lb t s) * ∑ j ∈ range s, H.de t j else 0) * (1 / 8)

end Hd

namespace Cert.AttnIdeal.Run

open Cert.AttnIdeal Cert.AttnIdeal.Gen

/-- The tile at row `r` and column `c`, and the column from row `r` on. -/
def T {φ : FTy} (M : ℕ → ℕ → ℝ) (r c : ℕ) : FVec Ideal S128x128 φ := fun y => ((M (r + (y 0).val) (c + (y 1).val) : ℝ) : EReal)
def C {φ : FTy} (f : ℕ → ℝ) (r : ℕ) : FVec Ideal S128x1 φ := fun y => ((f (r + (y 0).val) : ℝ) : EReal)

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem eighth : Ideal.ofBits .f32 0x3E000000#32 = (((1 : ℝ) / 8 : ℝ) : EReal) := by
  simp [Ideal.ofBits, Ideal.ieee, -EReal.coe_mul]; norm_num

theorem coe_max (x y : ℝ) : max (x : EReal) (y : EReal) = ((max x y : ℝ) : EReal) := (EReal.coe_strictMono.monotone.map_max).symm

abbrev TB (M : ℕ → ℕ → ℝ) (r c : ℕ) : FVec Ideal S128x128 .bf16 := T M r c
abbrev TF (M : ℕ → ℕ → ℝ) (r c : ℕ) : FVec Ideal S128x128 .f32 := T M r c
abbrev CF (f : ℕ → ℝ) (r : ℕ) : FVec Ideal S128x1 .f32 := C f r

variable (H : Hd) (r c : ℕ)

/-- Sums of products of tiles are sums over ranges. -/
theorem sum_prod (f g : ℕ → ℝ) : ∑ k : Fin 128, ((f k.val : ℝ) : EReal) * ((g k.val : ℝ) : EReal) = ((∑ k ∈ range 128, f k * g k : ℝ) : EReal) := by
  rw [Finset.sum_range, ← coe_sum]
  exact Finset.sum_congr rfl fun k _ => (EReal.coe_mul _ _).symm

theorem sum_row (f : ℕ → ℝ) : ∑ k : Fin 128, ((f (c + k.val) : ℝ) : EReal) = ((∑ j ∈ Ico c (c + 128), f j : ℝ) : EReal) := by
  rw [Finset.sum_Ico_eq_sum_range, coe_sum, ← Finset.sum_range fun k => f (c + k), Nat.add_sub_cancel_left]

theorem lo_sum (f : Fin 128 → ℝ) (g : Fin 128 → EReal) : ∑ k : Fin 128, (((f k : ℝ) : EReal) - ((f k : ℝ) : EReal)) * g k = 0 := by
  refine Finset.sum_eq_zero fun k _ => ?_
  rw [← EReal.coe_sub, sub_self, EReal.coe_zero, zero_mul]

theorem select_lt (y : S128x128.Idx) (a b : EReal) :
    Scalar.select (IntOp.cmpi CmpIPredicate.slt (BitVec.ofNat 32 (y 1).val) (BitVec.ofNat 32 (y 0).val)) a b = if (y 1).val < (y 0).val then a else b := by
  have h0 : (y 0).val < 128 := (y 0).isLt
  have h1 : (y 1).val < 128 := (y 1).isLt
  rw [WordCmp.cmpi_slt_ofNat (by omega) (by omega)]
  by_cases h : (y 1).val < (y 0).val <;> simp [h] <;> rfl

theorem later_apply (y : S128x128.Idx) : k0_pay22 (F := Ideal) y = (((if (y 1).val < (y 0).val then 1 else 0 : ℝ)) : EReal) := by
  have h0 : (y 0).val < 128 := (y 0).isLt
  have h1 : (y 1).val < 128 := (y 1).isLt
  unfold k0_pay22
  pointwise
  rw [WordCmp.cmpi_sgt_ofNat (by omega) (by omega)]
  by_cases h : (y 1).val < (y 0).val <;> simp [h, show ∀ b : BitVec 32, (FloatOps.sitofp (F := Ideal) FTy.f32 b) = ((b.toInt : ℝ) : EReal) from fun _ => rfl]

theorem from_apply (y : S128x128.Idx) : k0_pay23 (F := Ideal) y = (((if (y 1).val ≤ (y 0).val then 1 else 0 : ℝ)) : EReal) := by
  have h0 : (y 0).val < 128 := (y 0).isLt
  have h1 : (y 1).val < 128 := (y 1).isLt
  unfold k0_pay23
  pointwise
  rw [WordCmp.cmpi_sge_ofNat (by omega) (by omega)]
  by_cases h : (y 1).val ≤ (y 0).val <;> simp [h, show ∀ b : BitVec 32, (FloatOps.sitofp (F := Ideal) FTy.f32 b) = ((b.toInt : ℝ) : EReal) from fun _ => rfl]

theorem later_sum (f : ℕ → ℝ) (p : ℕ) : ∑ k ∈ range 128, f (c + k) * (if p < k then 1 else 0) = ∑ j ∈ Ico (c + p + 1) (c + 128), f j := by
  have e : ∀ k ∈ range 128, f (c + k) * (if p < k then (1 : ℝ) else 0) = if p < k then f (c + k) else 0 := fun k _ => by split <;> simp
  rw [Finset.sum_congr rfl e, ← Finset.sum_filter]
  refine Finset.sum_bij (fun k _ => c + k) ?_ ?_ ?_ ?_
  · intro k h
    simp only [Finset.mem_filter, Finset.mem_range, Finset.mem_Ico] at h ⊢
    omega
  · intro a _ b _ h
    omega
  · intro j h
    simp only [Finset.mem_Ico] at h
    exact ⟨j - c, by simp only [Finset.mem_filter, Finset.mem_range]; omega, by omega⟩
  · intro k _
    rfl

theorem from_sum (f : ℕ → ℝ) (p : ℕ) : ∑ k ∈ range 128, f (c + k) * (if p ≤ k then 1 else 0) = ∑ j ∈ Ico (c + p) (c + 128), f j := by
  have e : ∀ k ∈ range 128, f (c + k) * (if p ≤ k then (1 : ℝ) else 0) = if p ≤ k then f (c + k) else 0 := fun k _ => by split <;> simp
  rw [Finset.sum_congr rfl e, ← Finset.sum_filter]
  refine Finset.sum_bij (fun k _ => c + k) ?_ ?_ ?_ ?_
  · intro k h
    simp only [Finset.mem_filter, Finset.mem_range, Finset.mem_Ico] at h ⊢
    omega
  · intro a _ b _ h
    omega
  · intro j h
    simp only [Finset.mem_Ico] at h
    exact ⟨j - c, by simp only [Finset.mem_filter, Finset.mem_range]; omega, by omega⟩
  · intro k _
    rfl

theorem later_tile (M : ℕ → ℕ → ℝ) (y : S128x128.Idx) :
    ∑ x : Fin 128, TF M r c (Idealize.ShloMosaic.ix2 (y 0) x) * k0_pay22 (F := Ideal) (Idealize.ShloMosaic.ix2 x (y 1))
      = ((∑ j ∈ Ico (c + (y 1).val + 1) (c + 128), M (r + (y 0).val) j : ℝ) : EReal) := by
  rw [← later_sum, ← sum_prod (fun k => M (r + (y 0).val) (c + k)) (fun k => if (y 1).val < k then 1 else 0)]
  exact Finset.sum_congr rfl fun x _ => congrArg (_ * ·) (later_apply _)

theorem from_tile (M : ℕ → ℕ → ℝ) (y : S128x128.Idx) :
    ∑ x : Fin 128, TF M r c (Idealize.ShloMosaic.ix2 (y 0) x) * k0_pay23 (F := Ideal) (Idealize.ShloMosaic.ix2 x (y 1))
      = ((∑ j ∈ Ico (c + (y 1).val) (c + 128), M (r + (y 0).val) j : ℝ) : EReal) := by
  rw [← from_sum, ← sum_prod (fun k => M (r + (y 0).val) (c + k)) (fun k => if (y 1).val ≤ k then 1 else 0)]
  exact Finset.sum_congr rfl fun x _ => congrArg (_ * ·) (from_apply _)

theorem lo_tile (M : ℕ → ℕ → ℝ) (y : S128x128.Idx) (g : FVec Ideal S128x128 .bf16) :
    ∑ x : Fin 128, (TF M r c (Idealize.ShloMosaic.ix2 (y 0) x) - TF M r c (Idealize.ShloMosaic.ix2 (y 0) x)) * g (Idealize.ShloMosaic.ix2 x (y 1)) = 0 :=
  lo_sum (fun x => M (r + (y 0).val) (c + x.val)) _

theorem z_tile : k0_pay28 (F := Ideal) (TB H.q r 0) (TB H.k c 0) = TF H.z r c := by
  funext y
  unfold k0_pay28
  pointwise
  rw [eighth]
  refine (congrArg (· * _) (sum_prod (fun k => H.q (r + (y 0).val) (0 + k)) (fun k => H.k (c + (y 1).val) (0 + k)))).trans ?_
  rw [← EReal.coe_mul]
  simp only [Nat.zero_add]
  rfl

theorem sp_tile : k0_pay29 (F := Ideal) (TB H.q r 0) (TB H.k c 0) = TF H.sp r c := by
  unfold k0_pay29
  rw [z_tile]
  funext y
  pointwise
  show max ((H.z (r + (y 0).val) (c + (y 1).val) : ℝ) : EReal) 0 + Ideal.log (1 + Ideal.exp (0 - max ((H.z (r + (y 0).val) (c + (y 1).val) : ℝ) : EReal) (-((H.z (r + (y 0).val) (c + (y 1).val) : ℝ) : EReal)))) = ((H.sp (r + (y 0).val) (c + (y 1).val) : ℝ) : EReal)
  rw [← EReal.coe_zero, ← EReal.coe_one, ← EReal.coe_neg, coe_max, coe_max, ← EReal.coe_sub, Ideal.exp_coe, ← EReal.coe_add, Ideal.log_coe,
    if_neg (not_le.2 (add_pos one_pos (Real.exp_pos _))), ← EReal.coe_add]
  rfl

theorem lb_tile : k0_pay31 (F := Ideal) (TB H.q r 0) (TB H.k c 0) = TF H.lb r c := by
  unfold k0_pay31
  rw [sp_tile, z_tile]
  funext y
  exact (EReal.coe_sub _ _).symm

theorem coe_ite {p : Prop} [Decidable p] (a b : ℝ) : (((if p then a else b : ℝ)) : EReal) = if p then (a : EReal) else (b : EReal) := by
  split <;> rfl

theorem lk_diag : k0_pay30 (F := Ideal) (TB H.q r 0) k0_pay24 (TB H.k r 0) = TF H.lk r r := by
  unfold k0_pay30
  rw [sp_tile]
  funext y
  unfold k0_pay24
  pointwise
  rw [select_lt]
  show _ = ((if r + (y 1).val < r + (y 0).val then 0 - H.sp (r + (y 0).val) (r + (y 1).val) else 0 : ℝ) : EReal)
  simp only [Nat.add_lt_add_iff_left]
  rw [coe_ite, EReal.coe_sub]
  rfl

theorem lk_off (h : c + 128 ≤ r) : k0_pay157 (F := Ideal) (TB H.q r 0) (TB H.k c 0) = TF H.lk r c := by
  unfold k0_pay157
  rw [show k0_pay156 (F := Ideal) (TB H.q r 0) (TB H.k c 0) = TF H.sp r c from sp_tile H r c]
  funext y
  pointwise
  have h1 : (y 1).val < 128 := (y 1).isLt
  show (0 : EReal) - ((H.sp (r + (y 0).val) (c + (y 1).val) : ℝ) : EReal) = ((if c + (y 1).val < r + (y 0).val then 0 - H.sp (r + (y 0).val) (c + (y 1).val) else 0 : ℝ) : EReal)
  rw [if_pos (by omega), ← EReal.coe_zero, ← EReal.coe_sub]

theorem zero_col (y : S128x1.Idx) : k0_pay27 (F := Ideal) y = 0 := by
  unfold k0_pay27
  pointwise

/-- A function that is zero from the row on sums to its sum up to the end of the row's tile. -/
theorem sum_cut (f : ℕ → ℝ) (t a b : ℕ) (h0 : ∀ j, t ≤ j → f j = 0) (hb : t ≤ b) (hb' : b ≤ 8192) (hab : a ≤ b) : ∑ j ∈ Ico a 8192, f j = ∑ j ∈ Ico a b, f j := by
  rw [← Finset.sum_Ico_consecutive f hab hb', Finset.sum_eq_zero (s := Ico b 8192) fun j hj => h0 j (by simp only [Finset.mem_Ico] at hj; omega), add_zero]

theorem lk_zero (t j : ℕ) (h : t ≤ j) : H.lk t j = 0 := if_neg (by omega)
theorem w_zero (t j : ℕ) (h : t ≤ j) : H.w t j = 0 := if_neg (by omega)
theorem de_zero (t j : ℕ) (h : t ≤ j) : H.de t j = 0 := by unfold Hd.de; rw [w_zero H t j h, mul_zero]
theorem dz_zero (t j : ℕ) (h : t ≤ j) : H.dz t j = 0 := by unfold Hd.dz; rw [if_neg (by omega), zero_mul]

/-- The sum of a row's values from column `a` on. -/
def cs (M : ℕ → ℕ → ℝ) (a t : ℕ) : ℝ := ∑ j ∈ Ico a 8192, M t j

theorem w_diag (h : r + 128 ≤ 8192) : k0_pay32 (F := Ideal) (TB H.q r 0) k0_pay22 k0_pay24 (TB H.k r 0) = TF H.w r r := by
  unfold k0_pay32
  rw [lk_diag, lb_tile]
  funext y
  unfold k0_pay24
  pointwise
  rw [select_lt, later_tile, lo_tile, zero_col, add_zero, add_zero]
  have h0 : (y 0).val < 128 := (y 0).isLt
  have h1 : (y 1).val < 128 := (y 1).isLt
  show _ = ((if r + (y 1).val < r + (y 0).val then Real.exp (H.lb (r + (y 0).val) (r + (y 1).val) + ∑ j ∈ Ico (r + (y 1).val + 1) 8192, H.lk (r + (y 0).val) j) else 0 : ℝ) : EReal)
  rw [sum_cut _ (r + (y 0).val) _ (r + 128) (lk_zero H _) (by omega) h (by omega)]
  simp only [Nat.add_lt_add_iff_left]
  rw [coe_ite, ← Ideal.exp_coe, EReal.coe_add]
  rfl

theorem w_off (h : c + 128 ≤ r) (h' : r ≤ 8192) : k0_pay159 (F := Ideal) (TB H.q r 0) k0_pay22 (CF (cs H.lk (c + 128)) r) (TB H.k c 0) = TF H.w r c := by
  unfold k0_pay159
  rw [lk_off H r c h, show k0_pay158 (F := Ideal) (TB H.q r 0) (TB H.k c 0) = TF H.lb r c from lb_tile H r c]
  funext y
  pointwise
  rw [later_tile, lo_tile, add_zero]
  have h1 : (y 1).val < 128 := (y 1).isLt
  show Ideal.exp (((H.lb (r + (y 0).val) (c + (y 1).val) : ℝ) : EReal) + _ + ((∑ j ∈ Ico (c + 128) 8192, H.lk (r + (y 0).val) j : ℝ) : EReal)) = ((if c + (y 1).val < r + (y 0).val then Real.exp (H.lb (r + (y 0).val) (c + (y 1).val) + ∑ j ∈ Ico (c + (y 1).val + 1) 8192, H.lk (r + (y 0).val) j) else 0 : ℝ) : EReal)
  rw [if_pos (by omega), ← EReal.coe_add, ← EReal.coe_add, Ideal.exp_coe, add_assoc, Finset.sum_Ico_consecutive _ (by omega) (by omega)]

theorem de_of (w : FVec Ideal S128x128 .f32) (hw : w = TF H.w r c) :
    mulf (matmul dot_S128x128_S128x128_S128x128_1_1_0_0_n_n none (TB H.d r 0) (TB H.v c 0) (constant (F := Ideal) S128x128 .f32 0x00000000#32)) w = TF H.de r c := by
  subst hw
  funext y
  pointwise
  refine (congrArg (· * _) (sum_prod (fun k => H.d (r + (y 0).val) (0 + k)) (fun k => H.v (c + (y 1).val) (0 + k)))).trans ?_
  refine (EReal.coe_mul _ _).symm.trans ?_
  simp only [Nat.zero_add]
  rfl

theorem de_diag (h : r + 128 ≤ 8192) : k0_pay33 (F := Ideal) (TB H.q r 0) (TB H.d r 0) k0_pay22 k0_pay24 (TB H.k r 0) (TB H.v r 0) = TF H.de r r :=
  de_of H r r _ (w_diag H r h)

theorem de_off (h : c + 128 ≤ r) (h' : r ≤ 8192) : k0_pay160 (F := Ideal) (TB H.q r 0) k0_pay22 (TB H.d r 0) (CF (cs H.lk (c + 128)) r) (TB H.k c 0) (TB H.v c 0) = TF H.de r c :=
  de_of H r c _ (w_off H r c h h')

theorem rowsum (f : ℕ → ℝ) (M : ℕ → ℕ → ℝ) : k0_pay38 (F := Ideal) (CF f r) (TF M r c) = CF (fun t => f t + ∑ j ∈ Ico c (c + 128), M t j) r := by
  unfold k0_pay38
  funext y
  pointwise
  refine (congrArg (_ + ·) (sum_row c fun j => M (r + (y 0).val) j)).trans ?_
  exact (EReal.coe_add _ _).symm

theorem rowsum_zero (M : ℕ → ℕ → ℝ) (hM : ∀ t j, t ≤ j → M t j = 0) (h : r + 128 ≤ 8192) : k0_pay38 (F := Ideal) k0_pay27 (TF M r r) = CF (cs M r) r := by
  rw [show k0_pay27 (F := Ideal) = CF (fun _ => 0) r from funext fun y => zero_col y, rowsum]
  funext y
  have h0 : (y 0).val < 128 := (y 0).isLt
  show ((0 + ∑ j ∈ Ico r (r + 128), M (r + (y 0).val) j : ℝ) : EReal) = ((∑ j ∈ Ico r 8192, M (r + (y 0).val) j : ℝ) : EReal)
  rw [zero_add, sum_cut _ (r + (y 0).val) r (r + 128) (hM _) (by omega) h (by omega)]

theorem rowsum_next (M : ℕ → ℕ → ℝ) (h : c + 128 ≤ 8192) : k0_pay38 (F := Ideal) (CF (cs M (c + 128)) r) (TF M r c) = CF (cs M c) r := by
  rw [rowsum]
  refine congrArg (CF · r) (funext fun t => ?_)
  show ∑ j ∈ Ico (c + 128) 8192, M t j + ∑ j ∈ Ico c (c + 128), M t j = ∑ j ∈ Ico c 8192, M t j
  rw [add_comm, Finset.sum_Ico_consecutive _ (by omega) h]

/-- The sum of a row's values before each column: the whole sum without the sums from the column on. -/
theorem before_tile (M : ℕ → ℕ → ℝ) (h : c + 128 ≤ 8192) :
    k0_pay92 (F := Ideal) k0_pay23 (CF (cs M (c + 128)) r) (CF (cs M 0) r) (TF M r c) = TF (fun t s => ∑ j ∈ range s, M t j) r c := by
  unfold k0_pay92
  funext y
  pointwise
  rw [from_tile, lo_tile, add_zero]
  have h1 : (y 1).val < 128 := (y 1).isLt
  show ((∑ j ∈ Ico 0 8192, M (r + (y 0).val) j : ℝ) : EReal) - (((∑ j ∈ Ico (c + 128) 8192, M (r + (y 0).val) j : ℝ) : EReal) + _) = ((∑ j ∈ range (c + (y 1).val), M (r + (y 0).val) j : ℝ) : EReal)
  rw [← EReal.coe_add, ← EReal.coe_sub, add_comm (∑ j ∈ Ico (c + 128) 8192, _), Finset.sum_Ico_consecutive _ (by omega) h, Finset.range_eq_Ico,
    ← Finset.sum_Ico_consecutive _ (Nat.zero_le (c + (y 1).val)) (by omega : c + (y 1).val ≤ 8192), add_sub_cancel_right]

theorem before_diag (M : ℕ → ℕ → ℝ) (hM : ∀ t j, t ≤ j → M t j = 0) (h : r + 128 ≤ 8192) :
    k0_pay92 (F := Ideal) k0_pay23 k0_pay27 (CF (cs M 0) r) (TF M r r) = TF (fun t s => ∑ j ∈ range s, M t j) r r := by
  rw [← before_tile r r M h]
  refine congrArg (fun f => k0_pay92 (F := Ideal) k0_pay23 f (CF (cs M 0) r) (TF M r r)) (funext fun y => ?_)
  have h0 : (y 0).val < 128 := (y 0).isLt
  rw [zero_col]
  show (0 : EReal) = ((∑ j ∈ Ico (r + 128) 8192, M (r + (y 0).val) j : ℝ) : EReal)
  rw [Finset.sum_eq_zero fun j hj => hM _ j (by simp only [Finset.mem_Ico] at hj; omega), EReal.coe_zero]

theorem dz_diag (h : r + 128 ≤ 8192) :
    k0_pay94 (F := Ideal) k0_pay24 (TF H.lb r r) (k0_pay92 (F := Ideal) k0_pay23 k0_pay27 (CF (cs H.de 0) r) (TF H.de r r)) (k0_pay93 (F := Ideal) (TF H.lk r r) (TF H.de r r)) = TB H.dz r r := by
  rw [before_diag r H.de (de_zero H) h]
  unfold k0_pay94 k0_pay93 k0_pay24
  funext y
  pointwise
  rw [select_lt, eighth]
  show (if (y 1).val < (y 0).val then (((H.de (r + (y 0).val) (r + (y 1).val) : ℝ) : EReal) * Ideal.exp ((H.lk (r + (y 0).val) (r + (y 1).val) : ℝ) : EReal) - Ideal.exp ((H.lb (r + (y 0).val) (r + (y 1).val) : ℝ) : EReal) * ((∑ j ∈ range (r + (y 1).val), H.de (r + (y 0).val) j : ℝ) : EReal)) * (((1 : ℝ) / 8 : ℝ) : EReal) else 0) = ((H.dz (r + (y 0).val) (r + (y 1).val) : ℝ) : EReal)
  unfold Hd.dz
  simp only [Nat.add_lt_add_iff_left]
  rw [Ideal.exp_coe, Ideal.exp_coe, ← EReal.coe_mul, ← EReal.coe_mul, ← EReal.coe_sub, ← EReal.coe_mul, ← EReal.coe_zero, ← coe_ite, ite_mul, zero_mul]

theorem dz_off (h : c + 128 ≤ r) (h' : r ≤ 8192) :
    k0_pay213 (F := Ideal) k0_pay23 (CF (cs H.de 0) r) (CF (cs H.de (c + 128)) r) (TF H.lk r c) (TF H.lb r c) (TF H.de r c) = TB H.dz r c := by
  have e := before_tile r c H.de (by omega)
  unfold k0_pay92 at e
  unfold k0_pay213
  dsimp only at e ⊢
  rw [e]
  funext y
  pointwise
  rw [eighth]
  have h1 : (y 1).val < 128 := (y 1).isLt
  show (((H.de (r + (y 0).val) (c + (y 1).val) : ℝ) : EReal) * Ideal.exp ((H.lk (r + (y 0).val) (c + (y 1).val) : ℝ) : EReal) - Ideal.exp ((H.lb (r + (y 0).val) (c + (y 1).val) : ℝ) : EReal) * ((∑ j ∈ range (c + (y 1).val), H.de (r + (y 0).val) j : ℝ) : EReal)) * (((1 : ℝ) / 8 : ℝ) : EReal) = ((H.dz (r + (y 0).val) (c + (y 1).val) : ℝ) : EReal)
  unfold Hd.dz
  rw [if_pos (by omega), Ideal.exp_coe, Ideal.exp_coe, ← EReal.coe_mul, ← EReal.coe_mul, ← EReal.coe_sub, ← EReal.coe_mul]

/-- The tile of a transposed product: the sum over the rows of the tile. -/
def tp (M N : ℕ → ℕ → ℝ) (r s l : ℕ) : ℝ := ∑ t ∈ range 128, M (r + t) s * N (r + t) l

theorem tp_tile (M N : ℕ → ℕ → ℝ) :
    matmul dot_S128x128_S128x128_S128x128_0_0_1_1_n_n none (TB M r c) (TB N r 0) (constant (F := Ideal) S128x128 .f32 0x00000000#32) = TF (tp M N r) c 0 := by
  funext y
  pointwise
  exact sum_prod (fun k => M (r + k) (c + (y 0).val)) (fun k => N (r + k) (0 + (y 1).val))

/-- A partial sum of the query's gradient: the keys from column `a` on. -/
def qs (M N : ℕ → ℕ → ℝ) (a t l : ℕ) : ℝ := ∑ s ∈ Ico a 8192, M t s * N s l

theorem qs_tile (M N : ℕ → ℕ → ℝ) (h : c + 128 ≤ 8192) :
    addf (TF (qs M N (c + 128)) r 0) (matmul dot_S128x128_S128x128_S128x128_1_0_0_1_n_n none (TB M r c) (TB N c 0) (constant (F := Ideal) S128x128 .f32 0x00000000#32)) = TF (qs M N c) r 0 := by
  funext y
  pointwise
  refine (congrArg (_ + ·) (sum_prod (fun k => M (r + (y 0).val) (c + k)) (fun k => N (c + k) (0 + (y 1).val)))).trans ?_
  refine (EReal.coe_add _ _).symm.trans (congrArg _ ?_)
  show ∑ s ∈ Ico (c + 128) 8192, M (r + (y 0).val) s * N s (0 + (y 1).val) + _ = ∑ s ∈ Ico c 8192, M (r + (y 0).val) s * N s (0 + (y 1).val)
  rw [add_comm, ← Finset.sum_Ico_consecutive _ (by omega : c ≤ c + 128) h, Finset.sum_Ico_eq_sum_range _ c, Nat.add_sub_cancel_left]

end Cert.AttnIdeal.Run

end
-- ==== Proof.AttnKept.lean ====
/-
  The tiles the attention gradient kernel picks and keeps, and the test of its walks over the reals.
-/
module

public import proofs.«01_k».proof.Proof.AttnReal
public import proofs.«01_k».proof.Proof.AttnModel
public import Idealize.ShloMosaic.PureOps.Reduce
public import Idealize.ShloMosaic.PureOps.Ideal.Laws

@[expose] public section

set_option maxRecDepth 16384

noncomputable section

namespace Cert.AttnIdeal.Run

open Cert.AttnIdeal Cert.AttnIdeal.Gen
open Idealize.ShloMosaic Idealize.ShloMosaic.ValueIdx Idealize.ShloMosaic.TcCoe Finset

/-! ### Whole arrays of reals and their tiles -/

def A {s0 s1 : ℕ} {φ : FTy} (M : ℕ → ℕ → ℝ) : FVec Ideal ⟨2, ![s0, s1]⟩ φ := fun y => ((M (y 0).val (y 1).val : ℝ) : EReal)

theorem pick_tile {s0 s1 : ℕ} {φ : FTy} (M : ℕ → ℕ → ℝ) (r o : ℕ) (off : Fin 2 → ℕ) (h : off = ![r, o])
    (inb : ∀ a, off a + S128x128.size a ≤ (⟨2, ![s0, s1]⟩ : Shape).size a) :
    Own.pick (Rect.unit (s := ⟨2, ![s0, s1]⟩) off S128x128.size inb) (A (φ := φ) M) = T (φ := φ) (fun t l => M t (o + l)) r 0 := by
  subst h
  funext y
  show ((M (r + 1 * (y 0).val) (o + 1 * (y 1).val) : ℝ) : EReal) = ((M (r + (y 0).val) (o + (0 + (y 1).val)) : ℝ) : EReal)
  rw [Nat.one_mul, Nat.one_mul, Nat.zero_add]

/-- Adding a tile in place. -/
theorem overlay_tile {s0 s1 : ℕ} (M N : ℕ → ℕ → ℝ) (r o : ℕ) (off : Fin 2 → ℕ) (h : off = ![r, o])
    (inb : ∀ a, off a + S128x128.size a ≤ (⟨2, ![s0, s1]⟩ : Shape).size a) :
    Rect.overlay (Rect.unit (s := ⟨2, ![s0, s1]⟩) off S128x128.size inb) (A (φ := .f32) M) (TF N r 0)
      = A (φ := .f32) (fun t l => if r ≤ t ∧ t < r + 128 ∧ o ≤ l ∧ l < o + 128 then N t (l - o) else M t l) := by
  subst h
  funext y
  by_cases hy : y ∈ (Rect.unit (s := ⟨2, ![s0, s1]⟩) ![r, o] S128x128.size inb).set
  · obtain ⟨i, rfl⟩ := LoadRect.exists_idx_of_mem _ hy
    refine (Rect.overlay_emb _ _ _ i).trans ?_
    have h0 : (i 0).val < 128 := (i 0).isLt
    have h1 : (i 1).val < 128 := (i 1).isLt
    show ((N (r + (i 0).val) (0 + (i 1).val) : ℝ) : EReal) = ((if r ≤ r + 1 * (i 0).val ∧ r + 1 * (i 0).val < r + 128 ∧ o ≤ o + 1 * (i 1).val ∧ o + 1 * (i 1).val < o + 128 then N (r + 1 * (i 0).val) (o + 1 * (i 1).val - o) else M (r + 1 * (i 0).val) (o + 1 * (i 1).val) : ℝ) : EReal)
    rw [if_pos (by omega), Nat.one_mul, Nat.one_mul, Nat.zero_add, Nat.add_sub_cancel_left]
  · refine (Rect.overlay_of_not_mem _ _ _ hy).trans ?_
    show ((M (y 0).val (y 1).val : ℝ) : EReal) = ((if r ≤ (y 0).val ∧ (y 0).val < r + 128 ∧ o ≤ (y 1).val ∧ (y 1).val < o + 128 then N (y 0).val ((y 1).val - o) else M (y 0).val (y 1).val : ℝ) : EReal)
    rw [if_neg]
    intro hc
    refine hy ?_
    rw [← Rect.map_emb_univ, Finset.mem_map]
    refine ⟨(fun a => match a with | ⟨0, _⟩ => ⟨(y 0).val - r, by show _ < 128; omega⟩ | ⟨1, _⟩ => ⟨(y 1).val - o, by show _ < 128; omega⟩), Finset.mem_univ _, ?_⟩
    funext a
    match a with
    | ⟨0, _⟩ => exact Fin.ext (by show r + 1 * ((y 0).val - r) = (y 0).val; omega)
    | ⟨1, _⟩ => exact Fin.ext (by show o + 1 * ((y 1).val - o) = (y 1).val; omega)

/-! ### The kept tiles -/

/-- The kept tile number `k`. -/
def slot (X : S64x128x128.Idx → EReal) (k : Fin 64) : FVec Ideal S128x128 .f32 := fun y => X (ValueIdx.ix3 k (y 0) (y 1))

theorem slot_pick (X : S64x128x128.Idx → EReal) (k : Fin 64) (off : Fin 3 → ℕ) (h : off = ![k.val, 0, 0])
    (inb : ∀ a, off a + S1x128x128.size a ≤ S64x128x128.size a) :
    k0_pay82 (F := Ideal) (Own.pick (Rect.unit (s := S64x128x128) off S1x128x128.size inb) X) = slot X k := by
  subst h
  unfold k0_pay82
  funext y
  pointwise
  refine congrArg X (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem slot_store (X : S64x128x128.Idx → EReal) (k m : Fin 64) (off : Fin 3 → ℕ) (h : off = ![m.val, 0, 0])
    (inb : ∀ a, off a + S1x128x128.size a ≤ S64x128x128.size a) (v : FVec Ideal S128x128 .f32) :
    slot (Rect.overlay (Rect.unit (s := S64x128x128) off S1x128x128.size inb) X (k0_pay34 v)) k = if k = m then v else slot X k := by
  subst h
  funext y
  by_cases hk : k = m
  · subst hk
    rw [if_pos rfl]
    have e : (ValueIdx.ix3 k (y 0) (y 1) : S64x128x128.Idx) = (Rect.unit (s := S64x128x128) ![k.val, 0, 0] S1x128x128.size inb).emb (ValueIdx.ix3 0 (y 0) (y 1)) := by
      funext a
      match a with
      | ⟨0, _⟩ => exact Fin.ext (by show k.val = k.val + 1 * 0; omega)
      | ⟨1, _⟩ => exact Fin.ext (by show (y 0).val = 0 + 1 * (y 0).val; omega)
      | ⟨2, _⟩ => exact Fin.ext (by show (y 1).val = 0 + 1 * (y 1).val; omega)
    unfold slot
    rw [e]
    refine (Rect.overlay_emb _ _ _ _).trans ?_
    unfold k0_pay34
    pointwise
    exact congrArg v (funext fun a => match a with | ⟨0, _⟩ => rfl | ⟨1, _⟩ => rfl)
  · rw [if_neg hk]
    refine Rect.overlay_of_not_mem _ _ _ fun hm => hk ?_
    rw [← Rect.map_emb_univ, Finset.mem_map] at hm
    obtain ⟨i, -, hi⟩ := hm
    have h0 : (i 0).val < 1 := (i 0).isLt
    have := congrArg (fun j : S64x128x128.Idx => (j 0).val) hi
    have e : m.val + 1 * (i 0).val = k.val := this
    exact Fin.ext (by omega)

theorem one_idx (p q : S1.Idx) : p = q := funext fun a => match a with
  | ⟨0, _⟩ => Fin.ext (by
    have h1 : (p 0).val < 1 := (p 0).isLt
    have h2 : (q 0).val < 1 := (q 0).isLt
    show (p 0).val = (q 0).val
    omega)

/-- The test's maximum over rows of reals is above the floor. -/
theorem pay1_pos (f0 f1 f2 f3 : ℕ → ℝ) (r : ℕ) : (⊥ : EReal) < k0_pay1 (F := Ideal) (CF f0 r) (CF f1 r) (CF f2 r) (CF f3 r) := by
  unfold k0_pay1
  dsimp only
  refine lt_of_lt_of_le ?_ (le_max_left (_ : EReal) _)
  refine lt_of_lt_of_le ?_ (le_max_left (_ : EReal) _)
  refine lt_of_lt_of_le ?_ (le_max_left (_ : EReal) _)
  unfold extractAt
  refine lt_of_lt_of_eq ?_ (multiReduction_maximumf_eq_fold (F := Ideal) (φ := .f32) (axes := [1, 2]) (t := S1) (shapeCast S1x128x1 (CF f0 r) shapeCasts_S128x1_S1x128x1) 0xFF800000#32 reduces_S1x128x1_S1 (.inl rfl) rfl _).symm
  refine (Finset.lt_fold_max _).2 (Or.inr ⟨ValueIdx.ix3 0 0 0, ?_, ?_⟩)
  · rw [Finset.mem_filter]
    exact ⟨Finset.mem_univ _, one_idx _ _⟩
  · exact EReal.bot_lt_coe _

/-! ### The four heads of a column group -/

/-- The real rows of one column group: queries, the output's gradient, keys and values, 256 columns. -/
structure Mats where
  Q : ℕ → ℕ → ℝ
  D : ℕ → ℕ → ℝ
  K : ℕ → ℕ → ℝ
  V : ℕ → ℕ → ℝ

/-- The head on one half of the 128 lanes from column `o` on: its queries and gradient are zero on the other half. -/
def Mats.hd (M : Mats) (o : ℕ) (b : Bool) : Hd where
  q t c := if decide (c < 64) = b then M.Q t (o + c) else 0
  k s c := M.K s (o + c)
  v s c := M.V s (o + c)
  d t c := if decide (c < 64) = b then M.D t (o + c) else 0

def Mats.h (M : Mats) : Fin 4 → Hd
  | ⟨0, _⟩ => M.hd 0 true
  | ⟨1, _⟩ => M.hd 0 false
  | ⟨2, _⟩ => M.hd 128 true
  | ⟨_ + 3, _⟩ => M.hd 128 false

/-- The four values kept of a tile. -/
def qty (H : Hd) : Fin 4 → ℕ → ℕ → ℝ
  | ⟨0, _⟩ => H.lk
  | ⟨1, _⟩ => H.lb
  | ⟨2, _⟩ => H.w
  | ⟨_ + 3, _⟩ => H.de

def slotIdx (h d a : Fin 4) : Fin 64 := ⟨(h.val * 4 + d.val) * 4 + a.val, by omega⟩

theorem slotIdx_iff (h d a h' d' a' : Fin 4) : slotIdx h d a = slotIdx h' d' a' ↔ h = h' ∧ d = d' ∧ a = a' := by
  unfold slotIdx
  simp only [Fin.ext_iff]
  omega

/-- The four tiles of head `h` at distance `d` from the diagonal are kept. -/
def Kept (M : Mats) (n : ℕ) (h d : Fin 4) (X : S64x128x128.Idx → EReal) : Prop :=
  ∀ a, slot X (slotIdx h d a) = TF (qty (M.h h) a) (128 * n) (128 * (n - d.val))

section Store

variable (M : Mats) (n y : ℕ) (g : Fin 4) {p : Prop} [Decidable p] (hp : p ↔ y < 4) (X : S64x128x128.Idx → EReal)
  (v0 v1 v2 v3 : FVec Ideal S128x128 .f32) (o0 o1 o2 o3 : Fin 3 → ℕ)
  (i0 : p → ∀ a, o0 a + S1x128x128.size a ≤ S64x128x128.size a) (i1 : p → ∀ a, o1 a + S1x128x128.size a ≤ S64x128x128.size a)
  (i2 : p → ∀ a, o2 a + S1x128x128.size a ≤ S64x128x128.size a) (i3 : p → ∀ a, o3 a + S1x128x128.size a ≤ S64x128x128.size a)
  (e0 : o0 = ![(g.val * 4 + y) * 4 + 0, 0, 0]) (e1 : o1 = ![(g.val * 4 + y) * 4 + 1, 0, 0])
  (e2 : o2 = ![(g.val * 4 + y) * 4 + 2, 0, 0]) (e3 : o3 = ![(g.val * 4 + y) * 4 + 3, 0, 0])

/-- The kept tiles after a store of four. -/
def stored : S64x128x128.Idx → EReal :=
  if h : p then
    Rect.overlay (Rect.unit (s := S64x128x128) o3 S1x128x128.size (i3 h)) (Rect.overlay (Rect.unit (s := S64x128x128) o2 S1x128x128.size (i2 h))
      (Rect.overlay (Rect.unit (s := S64x128x128) o1 S1x128x128.size (i1 h)) (Rect.overlay (Rect.unit (s := S64x128x128) o0 S1x128x128.size (i0 h)) X
        (k0_pay34 (F := Ideal) v0)) (k0_pay34 (F := Ideal) v1)) (k0_pay34 (F := Ideal) v2)) (k0_pay34 (F := Ideal) v3)
  else X

include e0 e1 e2 e3

theorem stored_slot (h : p) (hy : y < 4) (k : Fin 64) :
    slot (stored X v0 v1 v2 v3 o0 o1 o2 o3 i0 i1 i2 i3) k
      = if k = slotIdx g ⟨y, hy⟩ 3 then v3 else if k = slotIdx g ⟨y, hy⟩ 2 then v2 else if k = slotIdx g ⟨y, hy⟩ 1 then v1
        else if k = slotIdx g ⟨y, hy⟩ 0 then v0 else slot X k := by
  unfold stored
  rw [dif_pos h, slot_store _ k (slotIdx g ⟨y, hy⟩ 3) o3 e3, slot_store _ k (slotIdx g ⟨y, hy⟩ 2) o2 e2, slot_store _ k (slotIdx g ⟨y, hy⟩ 1) o1 e1,
    slot_store _ k (slotIdx g ⟨y, hy⟩ 0) o0 e0]

include hp

theorem kept_new (h0 : v0 = TF (M.h g).lk (128 * n) (128 * (n - y))) (h1 : v1 = TF (M.h g).lb (128 * n) (128 * (n - y)))
    (h2 : v2 = TF (M.h g).w (128 * n) (128 * (n - y))) (h3 : v3 = TF (M.h g).de (128 * n) (128 * (n - y)))
    (d : Fin 4) (hd : d.val = y) : Kept M n g d (stored X v0 v1 v2 v3 o0 o1 o2 o3 i0 i1 i2 i3) := by
  intro a
  subst hd
  rw [stored_slot d.val g X v0 v1 v2 v3 o0 o1 o2 o3 i0 i1 i2 i3 e0 e1 e2 e3 (hp.2 d.isLt) d.isLt]
  simp only [slotIdx_iff, true_and]
  subst h0 h1 h2 h3
  match a with
  | ⟨0, _⟩ => rfl
  | ⟨1, _⟩ => rfl
  | ⟨2, _⟩ => rfl
  | ⟨3, _⟩ => rfl

theorem kept_old (h' d : Fin 4) (hd : ¬(h' = g ∧ d.val = y)) (hX : Kept M n h' d X) :
    Kept M n h' d (stored X v0 v1 v2 v3 o0 o1 o2 o3 i0 i1 i2 i3) := by
  intro a
  by_cases h : p
  · have hy := hp.1 h
    rw [stored_slot y g X v0 v1 v2 v3 o0 o1 o2 o3 i0 i1 i2 i3 e0 e1 e2 e3 h hy]
    have hne : ∀ b, ¬(slotIdx h' d a = slotIdx g ⟨y, hy⟩ b) := fun b hb => hd ⟨((slotIdx_iff _ _ _ _ _ _).1 hb).1, congrArg Fin.val ((slotIdx_iff _ _ _ _ _ _).1 hb).2.1⟩
    rw [if_neg (hne 3), if_neg (hne 2), if_neg (hne 1), if_neg (hne 0)]
    exact hX a
  · unfold stored
    rw [dif_neg h]
    exact hX a

end Store

/-- One head's four tiles. -/
abbrev Tiles (H : Hd) (r c : ℕ) (v0 v1 v2 v3 : FVec Ideal S128x128 .f32) (R : Prop) : Prop := v0 = TF H.lk r c ∧ v1 = TF H.lb r c ∧ v2 = TF H.w r c ∧ v3 = TF H.de r c ∧ R

abbrev four (H : Hd) (r c : ℕ) : FVec Ideal S128x128 .f32 × FVec Ideal S128x128 .f32 × FVec Ideal S128x128 .f32 × FVec Ideal S128x128 .f32 :=
  (TF H.lk r c, TF H.lb r c, TF H.w r c, TF H.de r c)

/-- Every tile nearer than `y` is kept, and those at distance `y` of the heads before `g`. -/
def KeptTo (M : Mats) (n y g : ℕ) (X : S64x128x128.Idx → EReal) : Prop := ∀ h' d : Fin 4, (d.val < y ∨ d.val = y ∧ h'.val < g) → Kept M n h' d X

section Family

variable (M : Mats) (n y : ℕ) (g : Fin 4) {p : Prop} [Decidable p] (hp : p ↔ y < 4) (X : S64x128x128.Idx → EReal) (o : BitVec 32 → Fin 3 → ℕ)
  (i : p → ∀ r : Fin 4, ∀ a, o (BitVec.ofNat 32 r.val) a + S1x128x128.size a ≤ S64x128x128.size a)
  (e : ∀ r : Fin 4, o (BitVec.ofNat 32 r.val) = ![(g.val * 4 + y) * 4 + r.val, 0, 0])
include hp e

theorem kept_step {v0 v1 v2 v3 : FVec Ideal S128x128 .f32} {R : Prop} (E : Tiles (M.h g) (128 * n) (128 * (n - y)) v0 v1 v2 v3 R) (hX : KeptTo M n y g.val X) :
    KeptTo M n y (g.val + 1) (stored X v0 v1 v2 v3 (o 0#32) (o 1#32) (o 2#32) (o 3#32) (fun h => i h 0) (fun h => i h 1) (fun h => i h 2) (fun h => i h 3)) := by
  intro h' d hd
  by_cases hn : h' = g ∧ d.val = y
  · obtain ⟨rfl, hd'⟩ := hn
    exact kept_new M n y _ hp X _ _ _ _ _ _ _ _ _ _ _ _ (e 0) (e 1) (e 2) (e 3) E.1 E.2.1 E.2.2.1 E.2.2.2.1 d hd'
  · refine kept_old M n y g hp X _ _ _ _ _ _ _ _ _ _ _ _ (e 0) (e 1) (e 2) (e 3) h' d hn (hX h' d ?_)
    have : ¬(h'.val = g.val ∧ d.val = y) := fun hh => hn ⟨Fin.ext hh.1, hh.2⟩
    omega

theorem tuple_of (hX : ∀ d : Fin 4, d.val = y → Kept M n g d X) {w0 w1 w2 : FVec Ideal S128x128 .f32} {w3 : ¬p → FVec Ideal S128x128 .f32} {R : ¬p → Prop}
    (E : ∀ h : ¬p, Tiles (M.h g) (128 * n) (128 * (n - y)) w0 w1 w2 (w3 h) (R h)) :
    (if h : p then (k0_pay82 (F := Ideal) (Own.pick (Rect.unit (s := S64x128x128) (o 0#32) S1x128x128.size (i h 0)) X),
        k0_pay82 (F := Ideal) (Own.pick (Rect.unit (s := S64x128x128) (o 1#32) S1x128x128.size (i h 1)) X),
        k0_pay82 (F := Ideal) (Own.pick (Rect.unit (s := S64x128x128) (o 2#32) S1x128x128.size (i h 2)) X),
        k0_pay82 (F := Ideal) (Own.pick (Rect.unit (s := S64x128x128) (o 3#32) S1x128x128.size (i h 3)) X))
      else (w0, w1, w2, w3 h)) = four (M.h g) (128 * n) (128 * (n - y)) := by
  split
  · next h =>
    have hy := hp.1 h
    have hk := hX ⟨y, hy⟩ rfl
    rw [slot_pick X (slotIdx g ⟨y, hy⟩ 0) (o 0#32) (e 0), slot_pick X (slotIdx g ⟨y, hy⟩ 1) (o 1#32) (e 1), slot_pick X (slotIdx g ⟨y, hy⟩ 2) (o 2#32) (e 2),
      slot_pick X (slotIdx g ⟨y, hy⟩ 3) (o 3#32) (e 3), hk 0, hk 1, hk 2, hk 3]
    rfl
  · next h =>
    obtain ⟨h0, h1, h2, h3, -⟩ := E h
    rw [h0, h1, h2, h3]

end Family

theorem pick_of {N : ℕ → ℕ → ℝ} {c o : ℕ} {off : Fin 2 → ℕ} {X : S8192x256.Idx → EReal} (hX : X = A (φ := .bf16) N) (h : off = ![c, o])
    (inb : ∀ a, off a + S128x128.size a ≤ S8192x256.size a) :
    Own.pick (Rect.unit (s := S8192x256) off S128x128.size inb) X = TB (fun t l => N t (o + l)) c 0 := by
  subst hX
  exact pick_tile N _ o _ h _

end Cert.AttnIdeal.Run

end
-- ==== Proof.AttnOffs.lean ====
/-
  Where the attention gradient kernel reads and writes: its tiles' rows and columns and the numbers of the kept tiles, by
  the row's tile and the trips made.
-/
module

public import proofs.«01_k».proof.Proof.AttnModel

@[expose] public section

set_option maxRecDepth 16384

namespace Cert.AttnIdeal.Run

open Cert.AttnIdeal Cert.AttnIdeal.Gen
open Idealize.ShloMosaic

theorem k0_off1_all : ∀ n : Fin 64, k0_off1 (pt n) = ![128 * n.val, 0] := by decide +kernel
theorem k0_off1_eq (i : grid0.Coords) : k0_off1 i = ![128 * (i 1).val, 0] := k0_off1_all (i 1)
theorem k0_off4_all : ∀ n : Fin 64, k0_off4 (pt n) = ![128 * n.val, 128] := by decide +kernel
theorem k0_off4_eq (i : grid0.Coords) : k0_off4 i = ![128 * (i 1).val, 128] := k0_off4_all (i 1)
theorem k0_off14_all : ∀ n : Fin 64, k0_off14 (pt n) = ![128 * n.val, 0] := by decide +kernel
theorem k0_off14_eq (i : grid0.Coords) : k0_off14 i = ![128 * (i 1).val, 0] := k0_off14_all (i 1)
theorem k0_off16_all : ∀ n : Fin 64, k0_off16 (pt n) = ![128 * n.val, 0] := by decide +kernel
theorem k0_off16_eq (i : grid0.Coords) : k0_off16 i = ![128 * (i 1).val, 0] := k0_off16_all (i 1)
theorem k0_off18_all : ∀ n : Fin 64, k0_off18 (pt n) = ![128 * n.val, 128] := by decide +kernel
theorem k0_off18_eq (i : grid0.Coords) : k0_off18 i = ![128 * (i 1).val, 128] := k0_off18_all (i 1)
theorem k0_off20_all : ∀ n : Fin 64, k0_off20 (pt n) = ![128 * n.val, 128] := by decide +kernel
theorem k0_off20_eq (i : grid0.Coords) : k0_off20 i = ![128 * (i 1).val, 128] := k0_off20_all (i 1)
theorem k0_off7_all : ∀ n x : Fin 64, x.val < n.val → k0_off7 (pt n) (BitVec.ofNat 32 x.val) = ![128 * (n.val - (x.val + 1)), 0] := by decide +kernel
theorem k0_off7_eq (i : grid0.Coords) (x : ℕ) (h : x < (i 1).val) : k0_off7 i (BitVec.ofNat 32 x) = ![128 * ((i 1).val - (x + 1)), 0] :=
  k0_off7_all (i 1) ⟨x, lt_trans h (i 1).isLt⟩ h
theorem k0_off10_all : ∀ n x : Fin 64, x.val < n.val → k0_off10 (pt n) (BitVec.ofNat 32 x.val) = ![128 * (n.val - (x.val + 1)), 128] := by decide +kernel
theorem k0_off10_eq (i : grid0.Coords) (x : ℕ) (h : x < (i 1).val) : k0_off10 i (BitVec.ofNat 32 x) = ![128 * ((i 1).val - (x + 1)), 128] :=
  k0_off10_all (i 1) ⟨x, lt_trans h (i 1).isLt⟩ h
theorem k0_off21_all : ∀ n x : Fin 64, x.val < n.val → k0_off21 (pt n) (BitVec.ofNat 32 x.val) = ![128 * (n.val - (x.val + 1)), 0] := by decide +kernel
theorem k0_off21_eq (i : grid0.Coords) (x : ℕ) (h : x < (i 1).val) : k0_off21 i (BitVec.ofNat 32 x) = ![128 * ((i 1).val - (x + 1)), 0] :=
  k0_off21_all (i 1) ⟨x, lt_trans h (i 1).isLt⟩ h
theorem k0_off23_all : ∀ n x : Fin 64, x.val < n.val → k0_off23 (pt n) (BitVec.ofNat 32 x.val) = ![128 * (n.val - (x.val + 1)), 0] := by decide +kernel
theorem k0_off23_eq (i : grid0.Coords) (x : ℕ) (h : x < (i 1).val) : k0_off23 i (BitVec.ofNat 32 x) = ![128 * ((i 1).val - (x + 1)), 0] :=
  k0_off23_all (i 1) ⟨x, lt_trans h (i 1).isLt⟩ h
theorem k0_off25_all : ∀ n x : Fin 64, x.val < n.val → k0_off25 (pt n) (BitVec.ofNat 32 x.val) = ![128 * (n.val - (x.val + 1)), 0] := by decide +kernel
theorem k0_off25_eq (i : grid0.Coords) (x : ℕ) (h : x < (i 1).val) : k0_off25 i (BitVec.ofNat 32 x) = ![128 * ((i 1).val - (x + 1)), 0] :=
  k0_off25_all (i 1) ⟨x, lt_trans h (i 1).isLt⟩ h
theorem k0_off26_all : ∀ n x : Fin 64, x.val < n.val → k0_off26 (pt n) (BitVec.ofNat 32 x.val) = ![128 * (n.val - (x.val + 1)), 128] := by decide +kernel
theorem k0_off26_eq (i : grid0.Coords) (x : ℕ) (h : x < (i 1).val) : k0_off26 i (BitVec.ofNat 32 x) = ![128 * ((i 1).val - (x + 1)), 128] :=
  k0_off26_all (i 1) ⟨x, lt_trans h (i 1).isLt⟩ h
theorem k0_off28_all : ∀ n x : Fin 64, x.val < n.val → k0_off28 (pt n) (BitVec.ofNat 32 x.val) = ![128 * (n.val - (x.val + 1)), 128] := by decide +kernel
theorem k0_off28_eq (i : grid0.Coords) (x : ℕ) (h : x < (i 1).val) : k0_off28 i (BitVec.ofNat 32 x) = ![128 * ((i 1).val - (x + 1)), 128] :=
  k0_off28_all (i 1) ⟨x, lt_trans h (i 1).isLt⟩ h
theorem k0_off30_all : ∀ n x : Fin 64, x.val < n.val → k0_off30 (pt n) (BitVec.ofNat 32 x.val) = ![128 * (n.val - (x.val + 1)), 128] := by decide +kernel
theorem k0_off30_eq (i : grid0.Coords) (x : ℕ) (h : x < (i 1).val) : k0_off30 i (BitVec.ofNat 32 x) = ![128 * ((i 1).val - (x + 1)), 128] :=
  k0_off30_all (i 1) ⟨x, lt_trans h (i 1).isLt⟩ h
theorem k0_off2_all : ∀ n : Fin 64, ∀ a : Fin 4, k0_off2 (pt n) (BitVec.ofNat 32 a.val) = ![(0 * 4 + 0) * 4 + a.val, 0, 0] := by decide +kernel
theorem k0_off2_eq (i : grid0.Coords) (a : Fin 4) : k0_off2 i (BitVec.ofNat 32 a.val) = ![(0 * 4 + 0) * 4 + a.val, 0, 0] := k0_off2_all (i 1) a
theorem k0_off13_all : ∀ n : Fin 64, ∀ a : Fin 4, k0_off13 (pt n) (BitVec.ofNat 32 a.val) = ![(0 * 4 + 0) * 4 + a.val, 0, 0] := by decide +kernel
theorem k0_off13_eq (i : grid0.Coords) (a : Fin 4) : k0_off13 i (BitVec.ofNat 32 a.val) = ![(0 * 4 + 0) * 4 + a.val, 0, 0] := k0_off13_all (i 1) a
theorem k0_off3_all : ∀ n : Fin 64, ∀ a : Fin 4, k0_off3 (pt n) (BitVec.ofNat 32 a.val) = ![(1 * 4 + 0) * 4 + a.val, 0, 0] := by decide +kernel
theorem k0_off3_eq (i : grid0.Coords) (a : Fin 4) : k0_off3 i (BitVec.ofNat 32 a.val) = ![(1 * 4 + 0) * 4 + a.val, 0, 0] := k0_off3_all (i 1) a
theorem k0_off15_all : ∀ n : Fin 64, ∀ a : Fin 4, k0_off15 (pt n) (BitVec.ofNat 32 a.val) = ![(1 * 4 + 0) * 4 + a.val, 0, 0] := by decide +kernel
theorem k0_off15_eq (i : grid0.Coords) (a : Fin 4) : k0_off15 i (BitVec.ofNat 32 a.val) = ![(1 * 4 + 0) * 4 + a.val, 0, 0] := k0_off15_all (i 1) a
theorem k0_off5_all : ∀ n : Fin 64, ∀ a : Fin 4, k0_off5 (pt n) (BitVec.ofNat 32 a.val) = ![(2 * 4 + 0) * 4 + a.val, 0, 0] := by decide +kernel
theorem k0_off5_eq (i : grid0.Coords) (a : Fin 4) : k0_off5 i (BitVec.ofNat 32 a.val) = ![(2 * 4 + 0) * 4 + a.val, 0, 0] := k0_off5_all (i 1) a
theorem k0_off17_all : ∀ n : Fin 64, ∀ a : Fin 4, k0_off17 (pt n) (BitVec.ofNat 32 a.val) = ![(2 * 4 + 0) * 4 + a.val, 0, 0] := by decide +kernel
theorem k0_off17_eq (i : grid0.Coords) (a : Fin 4) : k0_off17 i (BitVec.ofNat 32 a.val) = ![(2 * 4 + 0) * 4 + a.val, 0, 0] := k0_off17_all (i 1) a
theorem k0_off6_all : ∀ n : Fin 64, ∀ a : Fin 4, k0_off6 (pt n) (BitVec.ofNat 32 a.val) = ![(3 * 4 + 0) * 4 + a.val, 0, 0] := by decide +kernel
theorem k0_off6_eq (i : grid0.Coords) (a : Fin 4) : k0_off6 i (BitVec.ofNat 32 a.val) = ![(3 * 4 + 0) * 4 + a.val, 0, 0] := k0_off6_all (i 1) a
theorem k0_off19_all : ∀ n : Fin 64, ∀ a : Fin 4, k0_off19 (pt n) (BitVec.ofNat 32 a.val) = ![(3 * 4 + 0) * 4 + a.val, 0, 0] := by decide +kernel
theorem k0_off19_eq (i : grid0.Coords) (a : Fin 4) : k0_off19 i (BitVec.ofNat 32 a.val) = ![(3 * 4 + 0) * 4 + a.val, 0, 0] := k0_off19_all (i 1) a
theorem k0_off8_all : ∀ n x : Fin 64, x.val < n.val → ∀ a : Fin 4, k0_off8 (pt n) (BitVec.ofNat 32 x.val) (BitVec.ofNat 32 a.val) = ![(0 * 4 + (x.val + 1)) * 4 + a.val, 0, 0] := by decide +kernel
theorem k0_off8_eq (i : grid0.Coords) (x : ℕ) (h : x < (i 1).val) (a : Fin 4) : k0_off8 i (BitVec.ofNat 32 x) (BitVec.ofNat 32 a.val) = ![(0 * 4 + (x + 1)) * 4 + a.val, 0, 0] :=
  k0_off8_all (i 1) ⟨x, lt_trans h (i 1).isLt⟩ h a
theorem k0_off22_all : ∀ n x : Fin 64, x.val < n.val → ∀ a : Fin 4, k0_off22 (pt n) (BitVec.ofNat 32 x.val) (BitVec.ofNat 32 a.val) = ![(0 * 4 + (x.val + 1)) * 4 + a.val, 0, 0] := by decide +kernel
theorem k0_off22_eq (i : grid0.Coords) (x : ℕ) (h : x < (i 1).val) (a : Fin 4) : k0_off22 i (BitVec.ofNat 32 x) (BitVec.ofNat 32 a.val) = ![(0 * 4 + (x + 1)) * 4 + a.val, 0, 0] :=
  k0_off22_all (i 1) ⟨x, lt_trans h (i 1).isLt⟩ h a
theorem k0_off9_all : ∀ n x : Fin 64, x.val < n.val → ∀ a : Fin 4, k0_off9 (pt n) (BitVec.ofNat 32 x.val) (BitVec.ofNat 32 a.val) = ![(1 * 4 + (x.val + 1)) * 4 + a.val, 0, 0] := by decide +kernel
theorem k0_off9_eq (i : grid0.Coords) (x : ℕ) (h : x < (i 1).val) (a : Fin 4) : k0_off9 i (BitVec.ofNat 32 x) (BitVec.ofNat 32 a.val) = ![(1 * 4 + (x + 1)) * 4 + a.val, 0, 0] :=
  k0_off9_all (i 1) ⟨x, lt_trans h (i 1).isLt⟩ h a
theorem k0_off24_all : ∀ n x : Fin 64, x.val < n.val → ∀ a : Fin 4, k0_off24 (pt n) (BitVec.ofNat 32 x.val) (BitVec.ofNat 32 a.val) = ![(1 * 4 + (x.val + 1)) * 4 + a.val, 0, 0] := by decide +kernel
theorem k0_off24_eq (i : grid0.Coords) (x : ℕ) (h : x < (i 1).val) (a : Fin 4) : k0_off24 i (BitVec.ofNat 32 x) (BitVec.ofNat 32 a.val) = ![(1 * 4 + (x + 1)) * 4 + a.val, 0, 0] :=
  k0_off24_all (i 1) ⟨x, lt_trans h (i 1).isLt⟩ h a
theorem k0_off11_all : ∀ n x : Fin 64, x.val < n.val → ∀ a : Fin 4, k0_off11 (pt n) (BitVec.ofNat 32 x.val) (BitVec.ofNat 32 a.val) = ![(2 * 4 + (x.val + 1)) * 4 + a.val, 0, 0] := by decide +kernel
theorem k0_off11_eq (i : grid0.Coords) (x : ℕ) (h : x < (i 1).val) (a : Fin 4) : k0_off11 i (BitVec.ofNat 32 x) (BitVec.ofNat 32 a.val) = ![(2 * 4 + (x + 1)) * 4 + a.val, 0, 0] :=
  k0_off11_all (i 1) ⟨x, lt_trans h (i 1).isLt⟩ h a
theorem k0_off27_all : ∀ n x : Fin 64, x.val < n.val → ∀ a : Fin 4, k0_off27 (pt n) (BitVec.ofNat 32 x.val) (BitVec.ofNat 32 a.val) = ![(2 * 4 + (x.val + 1)) * 4 + a.val, 0, 0] := by decide +kernel
theorem k0_off27_eq (i : grid0.Coords) (x : ℕ) (h : x < (i 1).val) (a : Fin 4) : k0_off27 i (BitVec.ofNat 32 x) (BitVec.ofNat 32 a.val) = ![(2 * 4 + (x + 1)) * 4 + a.val, 0, 0] :=
  k0_off27_all (i 1) ⟨x, lt_trans h (i 1).isLt⟩ h a
theorem k0_off12_all : ∀ n x : Fin 64, x.val < n.val → ∀ a : Fin 4, k0_off12 (pt n) (BitVec.ofNat 32 x.val) (BitVec.ofNat 32 a.val) = ![(3 * 4 + (x.val + 1)) * 4 + a.val, 0, 0] := by decide +kernel
theorem k0_off12_eq (i : grid0.Coords) (x : ℕ) (h : x < (i 1).val) (a : Fin 4) : k0_off12 i (BitVec.ofNat 32 x) (BitVec.ofNat 32 a.val) = ![(3 * 4 + (x + 1)) * 4 + a.val, 0, 0] :=
  k0_off12_all (i 1) ⟨x, lt_trans h (i 1).isLt⟩ h a
theorem k0_off29_all : ∀ n x : Fin 64, x.val < n.val → ∀ a : Fin 4, k0_off29 (pt n) (BitVec.ofNat 32 x.val) (BitVec.ofNat 32 a.val) = ![(3 * 4 + (x.val + 1)) * 4 + a.val, 0, 0] := by decide +kernel
theorem k0_off29_eq (i : grid0.Coords) (x : ℕ) (h : x < (i 1).val) (a : Fin 4) : k0_off29 i (BitVec.ofNat 32 x) (BitVec.ofNat 32 a.val) = ![(3 * 4 + (x + 1)) * 4 + a.val, 0, 0] :=
  k0_off29_all (i 1) ⟨x, lt_trans h (i 1).isLt⟩ h a
theorem k0_cond2_all : ∀ n : Fin 64, k0_cond2 (pt n) = 1#1 := by decide +kernel
theorem k0_cond2_eq (i : grid0.Coords) : k0_cond2 i = 1#1 := k0_cond2_all (i 1)
theorem k0_cond3_all : ∀ n : Fin 64, k0_cond3 (pt n) = 1#1 := by decide +kernel
theorem k0_cond3_eq (i : grid0.Coords) : k0_cond3 i = 1#1 := k0_cond3_all (i 1)
theorem k0_cond4_all : ∀ n : Fin 64, k0_cond4 (pt n) = 1#1 := by decide +kernel
theorem k0_cond4_eq (i : grid0.Coords) : k0_cond4 i = 1#1 := k0_cond4_all (i 1)
theorem k0_cond5_all : ∀ n : Fin 64, k0_cond5 (pt n) = 1#1 := by decide +kernel
theorem k0_cond5_eq (i : grid0.Coords) : k0_cond5 i = 1#1 := k0_cond5_all (i 1)
theorem k0_cond10_all : ∀ n : Fin 64, k0_cond10 (pt n) = 1#1 := by decide +kernel
theorem k0_cond10_eq (i : grid0.Coords) : k0_cond10 i = 1#1 := k0_cond10_all (i 1)
theorem k0_cond11_all : ∀ n : Fin 64, k0_cond11 (pt n) = 1#1 := by decide +kernel
theorem k0_cond11_eq (i : grid0.Coords) : k0_cond11 i = 1#1 := k0_cond11_all (i 1)
theorem k0_cond12_all : ∀ n : Fin 64, k0_cond12 (pt n) = 1#1 := by decide +kernel
theorem k0_cond12_eq (i : grid0.Coords) : k0_cond12 i = 1#1 := k0_cond12_all (i 1)
theorem k0_cond13_all : ∀ n : Fin 64, k0_cond13 (pt n) = 1#1 := by decide +kernel
theorem k0_cond13_eq (i : grid0.Coords) : k0_cond13 i = 1#1 := k0_cond13_all (i 1)
theorem k0_cond6_all : ∀ n x : Fin 64, x.val < n.val → (k0_cond6 (pt n) (BitVec.ofNat 32 x.val) = 1#1 ↔ x.val + 1 < 4) := by decide +kernel
theorem k0_cond6_iff (i : grid0.Coords) (x : ℕ) (h : x < (i 1).val) : k0_cond6 i (BitVec.ofNat 32 x) = 1#1 ↔ x + 1 < 4 := k0_cond6_all (i 1) ⟨x, lt_trans h (i 1).isLt⟩ h
theorem k0_cond7_all : ∀ n x : Fin 64, x.val < n.val → (k0_cond7 (pt n) (BitVec.ofNat 32 x.val) = 1#1 ↔ x.val + 1 < 4) := by decide +kernel
theorem k0_cond7_iff (i : grid0.Coords) (x : ℕ) (h : x < (i 1).val) : k0_cond7 i (BitVec.ofNat 32 x) = 1#1 ↔ x + 1 < 4 := k0_cond7_all (i 1) ⟨x, lt_trans h (i 1).isLt⟩ h
theorem k0_cond8_all : ∀ n x : Fin 64, x.val < n.val → (k0_cond8 (pt n) (BitVec.ofNat 32 x.val) = 1#1 ↔ x.val + 1 < 4) := by decide +kernel
theorem k0_cond8_iff (i : grid0.Coords) (x : ℕ) (h : x < (i 1).val) : k0_cond8 i (BitVec.ofNat 32 x) = 1#1 ↔ x + 1 < 4 := k0_cond8_all (i 1) ⟨x, lt_trans h (i 1).isLt⟩ h
theorem k0_cond9_all : ∀ n x : Fin 64, x.val < n.val → (k0_cond9 (pt n) (BitVec.ofNat 32 x.val) = 1#1 ↔ x.val + 1 < 4) := by decide +kernel
theorem k0_cond9_iff (i : grid0.Coords) (x : ℕ) (h : x < (i 1).val) : k0_cond9 i (BitVec.ofNat 32 x) = 1#1 ↔ x + 1 < 4 := k0_cond9_all (i 1) ⟨x, lt_trans h (i 1).isLt⟩ h
theorem k0_cond14_all : ∀ n x : Fin 64, x.val < n.val → (k0_cond14 (pt n) (BitVec.ofNat 32 x.val) = 1#1 ↔ x.val + 1 < 4) := by decide +kernel
theorem k0_cond14_iff (i : grid0.Coords) (x : ℕ) (h : x < (i 1).val) : k0_cond14 i (BitVec.ofNat 32 x) = 1#1 ↔ x + 1 < 4 := k0_cond14_all (i 1) ⟨x, lt_trans h (i 1).isLt⟩ h
theorem k0_cond15_all : ∀ n x : Fin 64, x.val < n.val → (k0_cond15 (pt n) (BitVec.ofNat 32 x.val) = 1#1 ↔ x.val + 1 < 4) := by decide +kernel
theorem k0_cond15_iff (i : grid0.Coords) (x : ℕ) (h : x < (i 1).val) : k0_cond15 i (BitVec.ofNat 32 x) = 1#1 ↔ x + 1 < 4 := k0_cond15_all (i 1) ⟨x, lt_trans h (i 1).isLt⟩ h
theorem k0_cond16_all : ∀ n x : Fin 64, x.val < n.val → (k0_cond16 (pt n) (BitVec.ofNat 32 x.val) = 1#1 ↔ x.val + 1 < 4) := by decide +kernel
theorem k0_cond16_iff (i : grid0.Coords) (x : ℕ) (h : x < (i 1).val) : k0_cond16 i (BitVec.ofNat 32 x) = 1#1 ↔ x + 1 < 4 := k0_cond16_all (i 1) ⟨x, lt_trans h (i 1).isLt⟩ h
theorem k0_cond17_all : ∀ n x : Fin 64, x.val < n.val → (k0_cond17 (pt n) (BitVec.ofNat 32 x.val) = 1#1 ↔ x.val + 1 < 4) := by decide +kernel
theorem k0_cond17_iff (i : grid0.Coords) (x : ℕ) (h : x < (i 1).val) : k0_cond17 i (BitVec.ofNat 32 x) = 1#1 ↔ x + 1 < 4 := k0_cond17_all (i 1) ⟨x, lt_trans h (i 1).isLt⟩ h

end Cert.AttnIdeal.Run

end
-- ==== Proof.AttnVal1.lean ====
/-
  The first walk of the attention gradient kernel over the reals: it visits every tile below the diagonal, and at its end
  carries the sums of the rows.
-/
module

public import proofs.«01_k».proof.Proof.AttnKept
public import proofs.«01_k».proof.Proof.AttnOffs

@[expose] public section

set_option maxRecDepth 16384

noncomputable section

namespace Cert.AttnIdeal.Run

open Cert.AttnIdeal Cert.AttnIdeal.Gen
open Idealize.ShloMosaic Idealize.ShloMosaic.ValueIdx Idealize.ShloMosaic.TcCoe Finset

/-- What one head computes at a tile below the diagonal, and at the diagonal. -/
abbrev Off (H : Hd) (r c : ℕ) (q k d v m : FVec Ideal S128x128 .bf16) (a b : FVec Ideal S128x1 .f32) : Prop :=
  Tiles H r c (k0_pay157 q k) (k0_pay158 q k) (k0_pay159 q m a k) (k0_pay160 q m d a k v)
    (k0_pay38 a (k0_pay157 q k) = CF (cs H.lk c) r ∧ k0_pay38 b (k0_pay160 q m d a k v) = CF (cs H.de c) r)
abbrev Diag (H : Hd) (r : ℕ) (q k d v m : FVec Ideal S128x128 .bf16) (l : IVec S128x128 1) (z : FVec Ideal S128x1 .f32) : Prop :=
  Tiles H r r (k0_pay30 q l k) (k0_pay31 q k) (k0_pay32 q m l k) (k0_pay33 q d m l k v)
    (k0_pay38 z (k0_pay30 q l k) = CF (cs H.lk r) r ∧ k0_pay38 z (k0_pay33 q d m l k v) = CF (cs H.de r) r)

theorem head_off (H : Hd) (r c : ℕ) (q k d v m : FVec Ideal S128x128 .bf16) (a b : FVec Ideal S128x1 .f32) (hq : q = TB H.q r 0) (hk : k = TB H.k c 0)
    (hd : d = TB H.d r 0) (hv : v = TB H.v c 0) (hm : m = k0_pay22) (ha : a = CF (cs H.lk (c + 128)) r) (hb : b = CF (cs H.de (c + 128)) r)
    (h : c + 128 ≤ r) (h' : r ≤ 8192) :
    Off H r c q k d v m a b := by
  subst hq hk hd hv hm ha hb
  unfold Off
  rw [lk_off H r c h, w_off H r c h h', de_off H r c h h', rowsum_next r c H.lk (by omega), rowsum_next r c H.de (by omega)]
  exact ⟨rfl, lb_tile H r c, rfl, rfl, rfl, rfl⟩

theorem head_diag (H : Hd) (r : ℕ) (q k d v m : FVec Ideal S128x128 .bf16) (l : IVec S128x128 1) (z : FVec Ideal S128x1 .f32) (hq : q = TB H.q r 0) (hk : k = TB H.k r 0)
    (hd : d = TB H.d r 0) (hv : v = TB H.v r 0) (hm : m = k0_pay22) (hl : l = k0_pay24) (hz : z = k0_pay27) (h : r + 128 ≤ 8192) :
    Diag H r q k d v m l z := by
  subst hq hk hd hv hm hl hz
  unfold Diag
  rw [lk_diag H r, w_diag H r h, de_diag H r h, rowsum_zero r H.lk (lk_zero H) h, rowsum_zero r H.de (de_zero H) h]
  exact ⟨rfl, lb_tile H r r, rfl, rfl, rfl, rfl⟩

/-- What the first walk holds after `x` trips. -/
structure Inv1 (M : Mats) (n x : ℕ) (c : W1C Ideal) : Prop where
  i1 : (c.i 1).val = n
  X3 : c.X3 = A (φ := .bf16) M.K
  X4 : c.X4 = A (φ := .bf16) M.V
  v33 : c.v33 = k0_pay22
  v5 : c.v5 = TB (M.h 0).q (128 * n) 0
  v19 : c.v19 = TB (M.h 0).d (128 * n) 0
  v6 : c.v6 = TB (M.h 1).q (128 * n) 0
  v20 : c.v20 = TB (M.h 1).d (128 * n) 0
  v12 : c.v12 = TB (M.h 2).q (128 * n) 0
  v26 : c.v26 = TB (M.h 2).d (128 * n) 0
  v13 : c.v13 = TB (M.h 3).q (128 * n) 0
  v27 : c.v27 = TB (M.h 3).d (128 * n) 0
  arg13 : c.arg13 = BitVec.ofNat 32 x
  le : x ≤ n
  arg14 : c.arg14 = CF (cs (M.h 0).lk (128 * (n - x))) (128 * n)
  arg18 : c.arg18 = CF (cs (M.h 0).de (128 * (n - x))) (128 * n)
  arg15 : c.arg15 = CF (cs (M.h 1).lk (128 * (n - x))) (128 * n)
  arg19 : c.arg19 = CF (cs (M.h 1).de (128 * (n - x))) (128 * n)
  arg16 : c.arg16 = CF (cs (M.h 2).lk (128 * (n - x))) (128 * n)
  arg20 : c.arg20 = CF (cs (M.h 2).de (128 * (n - x))) (128 * n)
  arg17 : c.arg17 = CF (cs (M.h 3).lk (128 * (n - x))) (128 * n)
  arg21 : c.arg21 = CF (cs (M.h 3).de (128 * (n - x))) (128 * n)
  kept : ∀ h d : Fin 4, d.val ≤ x → Kept M n h d c.X11

theorem test_iff (x n : ℕ) (hx : x < n) (hn : n < 64) (y : EReal) (hy : ⊥ < y) :
    Scalar.andi (Scalar.cmpi .slt (BitVec.ofNat 32 x) (BitVec.ofNat 32 n)) (Scalar.cmpf (F := Ideal) (φ := .f32) .ogt y (Named.named (F := Ideal) (φ := .f32) κ "floor" 0xC2D00000#32)) = 1#1 := by
  have e1 : Scalar.cmpi .slt (BitVec.ofNat 32 x) (BitVec.ofNat 32 n) = 1#1 := by
    show IntOp.cmpi .slt _ _ = _
    rw [WordCmp.cmpi_slt_ofNat (by omega) (by omega), decide_eq_true hx]
    rfl
  have e2 : (Named.named (F := Ideal) (φ := .f32) κ "floor" 0xC2D00000#32 : EReal) = ⊥ := rfl
  have e3 : Scalar.cmpf (F := Ideal) (φ := .f32) .ogt y (Named.named (F := Ideal) (φ := .f32) κ "floor" 0xC2D00000#32) = 1#1 := by
    show BitVec.ofBool (decide ((Named.named (F := Ideal) (φ := .f32) κ "floor" 0xC2D00000#32 : EReal) < y)) = _
    rw [e2, decide_eq_true hy]
    rfl
  rw [e1, e3]
  decide

namespace Inv1

variable {M : Mats} {n x : ℕ} {c : W1C Ideal} (I : Inv1 M n x c)
include I

theorem n_lt : n < 64 := by
  have := (c.i 1).isLt
  have e := I.i1
  have : (c.i 1).val < 64 := this
  omega

theorem test (hx : x < n) : c.test := by
  unfold W1C.test
  rw [I.arg13, I.i1, I.arg14, I.arg15, I.arg16, I.arg17]
  exact test_iff x n hx I.n_lt _ (pay1_pos _ _ _ _ _)

theorem not_test (hx : x = n) : ¬c.test := by
  intro h
  have := c.lt h
  rw [I.arg13, I.i1, BitVec.toNat_ofNat] at this
  have := I.n_lt
  omega

variable (h : c.test)
include h

theorem x_lt : x < n := by
  have := c.lt h
  rw [I.arg13, I.i1, BitVec.toNat_ofNat] at this
  have := I.n_lt
  have := I.le
  omega

theorem next : 128 * (n - x) = 128 * (n - (x + 1)) + 128 := by
  have := I.x_lt h
  omega

theorem lt : x < (c.i 1).val := by
  rw [I.i1]
  exact I.x_lt h

theorem off7 : k0_off7 c.i c.arg13 = ![128 * (n - (x + 1)), 0] := by rw [I.arg13, k0_off7_eq _ _ (I.lt h), I.i1]
theorem off10 : k0_off10 c.i c.arg13 = ![128 * (n - (x + 1)), 128] := by rw [I.arg13, k0_off10_eq _ _ (I.lt h), I.i1]

theorem head0 : Off (M.h 0) (128 * n) (128 * (n - (x + 1))) c.v5 (c.v439 h) c.v19 (c.v441 h) c.v33 c.arg14 c.arg18 := by
  have hx := I.x_lt h
  have hn := I.n_lt
  exact head_off (M.h 0) _ _ _ _ _ _ _ _ _ I.v5 (pick_of I.X3 (I.off7 h) _) I.v19 (pick_of I.X4 (I.off7 h) _) I.v33 (I.arg14.trans (by rw [I.next h])) (I.arg18.trans (by rw [I.next h])) (by omega) (by omega)

theorem kept0 (hX : KeptTo M n (x + 1) 0 c.X11) : KeptTo M n (x + 1) 1 (c.X11_1 h) :=
  kept_step M n (x + 1) 0 (by rw [I.arg13]; exact k0_cond6_iff _ _ (I.lt h)) _ (k0_off8 c.i c.arg13) (k0_off8_inb c.i c.arg13 (c.chk h))
    (fun a => by rw [I.arg13]; exact k0_off8_eq _ _ (I.lt h) a) (I.head0 h) hX

theorem head1 : Off (M.h 1) (128 * n) (128 * (n - (x + 1))) c.v6 (c.v482 h) c.v20 (c.v484 h) c.v33 c.arg15 c.arg19 := by
  have hx := I.x_lt h
  have hn := I.n_lt
  exact head_off (M.h 1) _ _ _ _ _ _ _ _ _ I.v6 (pick_of I.X3 (I.off7 h) _) I.v20 (pick_of I.X4 (I.off7 h) _) I.v33 (I.arg15.trans (by rw [I.next h])) (I.arg19.trans (by rw [I.next h])) (by omega) (by omega)

theorem kept1 (hX : KeptTo M n (x + 1) 1 (c.X11_1 h)) : KeptTo M n (x + 1) 2 (c.X11_2 h) :=
  kept_step M n (x + 1) 1 (by rw [I.arg13]; exact k0_cond7_iff _ _ (I.lt h)) _ (k0_off9 c.i c.arg13) (k0_off9_inb c.i c.arg13 (c.chk h))
    (fun a => by rw [I.arg13]; exact k0_off9_eq _ _ (I.lt h) a) (I.head1 h) hX

theorem head2 : Off (M.h 2) (128 * n) (128 * (n - (x + 1))) c.v12 (c.v525 h) c.v26 (c.v527 h) c.v33 c.arg16 c.arg20 := by
  have hx := I.x_lt h
  have hn := I.n_lt
  exact head_off (M.h 2) _ _ _ _ _ _ _ _ _ I.v12 (pick_of I.X3 (I.off10 h) _) I.v26 (pick_of I.X4 (I.off10 h) _) I.v33 (I.arg16.trans (by rw [I.next h])) (I.arg20.trans (by rw [I.next h])) (by omega) (by omega)

theorem kept2 (hX : KeptTo M n (x + 1) 2 (c.X11_2 h)) : KeptTo M n (x + 1) 3 (c.X11_3 h) :=
  kept_step M n (x + 1) 2 (by rw [I.arg13]; exact k0_cond8_iff _ _ (I.lt h)) _ (k0_off11 c.i c.arg13) (k0_off11_inb c.i c.arg13 (c.chk h))
    (fun a => by rw [I.arg13]; exact k0_off11_eq _ _ (I.lt h) a) (I.head2 h) hX

theorem head3 : Off (M.h 3) (128 * n) (128 * (n - (x + 1))) c.v13 (c.v568 h) c.v27 (c.v570 h) c.v33 c.arg17 c.arg21 := by
  have hx := I.x_lt h
  have hn := I.n_lt
  exact head_off (M.h 3) _ _ _ _ _ _ _ _ _ I.v13 (pick_of I.X3 (I.off10 h) _) I.v27 (pick_of I.X4 (I.off10 h) _) I.v33 (I.arg17.trans (by rw [I.next h])) (I.arg21.trans (by rw [I.next h])) (by omega) (by omega)

theorem kept3 (hX : KeptTo M n (x + 1) 3 (c.X11_3 h)) : KeptTo M n (x + 1) 4 (c.X11_4 h) :=
  kept_step M n (x + 1) 3 (by rw [I.arg13]; exact k0_cond9_iff _ _ (I.lt h)) _ (k0_off12 c.i c.arg13) (k0_off12_inb c.i c.arg13 (c.chk h))
    (fun a => by rw [I.arg13]; exact k0_off12_eq _ _ (I.lt h) a) (I.head3 h) hX

theorem step : Inv1 M n (x + 1) (c.step h) where
  i1 := I.i1
  X3 := I.X3
  X4 := I.X4
  v33 := I.v33
  v5 := I.v5
  v19 := I.v19
  v6 := I.v6
  v20 := I.v20
  v12 := I.v12
  v26 := I.v26
  v13 := I.v13
  v27 := I.v27
  arg13 := by
    show Scalar.addi c.arg13 1#32 = _
    rw [I.arg13]
    exact (BitVec.ofNat_add x 1).symm
  le := I.x_lt h
  arg14 := (I.head0 h).2.2.2.2.1
  arg18 := (I.head0 h).2.2.2.2.2
  arg15 := (I.head1 h).2.2.2.2.1
  arg19 := (I.head1 h).2.2.2.2.2
  arg16 := (I.head2 h).2.2.2.2.1
  arg20 := (I.head2 h).2.2.2.2.2
  arg17 := (I.head3 h).2.2.2.2.1
  arg21 := (I.head3 h).2.2.2.2.2
  kept := fun h' d hd => I.kept3 h (I.kept2 h (I.kept1 h (I.kept0 h fun h' d hd => I.kept h' d (by omega)))) h' d (by omega)

end Inv1

/-- At its end the first walk has made a trip for every tile below the diagonal. -/
theorem Inv1.final {M : Mats} {n : ℕ} : ∀ (k x : ℕ) (c : W1C Ideal), Inv1 M n x c → n - x = k → Inv1 M n n c.final
  | 0, x, c, I, hk => by
    have hx : x = n := by have := I.le; omega
    rw [c.final_neg (I.not_test hx)]
    subst hx
    exact I
  | k + 1, x, c, I, hk => by
    have ht := I.test (by omega)
    rw [c.final_pos ht]
    exact Inv1.final k (x + 1) _ (I.step ht) (by omega)

end Cert.AttnIdeal.Run

end
-- ==== Proof.AttnVal2.lean ====
/-
  The second walk of the attention gradient kernel over the reals: at its end the gradients of the keys, of the values and
  of the queries have gained every tile up to the diagonal.
-/
module

public import proofs.«01_k».proof.Proof.AttnVal1

@[expose] public section

set_option maxRecDepth 16384

noncomputable section

namespace Cert.AttnIdeal.Run

open Cert.AttnIdeal Cert.AttnIdeal.Gen
open Idealize.ShloMosaic Idealize.ShloMosaic.ValueIdx Idealize.ShloMosaic.TcCoe Finset

theorem add_tile (M N : ℕ → ℕ → ℝ) (r c : ℕ) : addf (TF M r c) (TF N r c) = TF (fun t l => M t l + N t l) r c :=
  funext fun y => (EReal.coe_add _ _).symm

/-- What one head adds to the gradients at a tile below the diagonal, and at the diagonal. -/
abbrev GradOff (H : Hd) (r c : ℕ) (q k d m : FVec Ideal S128x128 .bf16) (tot a b : FVec Ideal S128x1 .f32) (lk lb w de acc : FVec Ideal S128x128 .f32) : Prop :=
    k0_pay214 q m tot b lk lb de = TF (tp H.dz H.q r) c 0 ∧ k0_pay215 d w = TF (tp H.w H.d r) c 0 ∧ k0_pay216 m tot b acc k lk lb de = TF (qs H.dz H.k c) r 0
      ∧ k0_pay38 a lk = CF (cs H.lk c) r ∧ k0_pay38 b de = CF (cs H.de c) r
abbrev GradDiag (H : Hd) (r : ℕ) (q k d m : FVec Ideal S128x128 .bf16) (l : IVec S128x128 1) (z tot : FVec Ideal S128x1 .f32) (lk lb w de acc : FVec Ideal S128x128 .f32) : Prop :=
    k0_pay95 q l lb (k0_pay92 m z tot de) (k0_pay93 lk de) = TF (tp H.dz H.q r) r 0 ∧ k0_pay96 d w = TF (tp H.w H.d r) r 0
      ∧ k0_pay97 l acc k lb (k0_pay92 m z tot de) (k0_pay93 lk de) = TF (qs H.dz H.k r) r 0
      ∧ k0_pay38 z lk = CF (cs H.lk r) r ∧ k0_pay38 z de = CF (cs H.de r) r

theorem grad_off (H : Hd) (r c : ℕ) (q k d m : FVec Ideal S128x128 .bf16) (tot a b : FVec Ideal S128x1 .f32) (lk lb w de acc : FVec Ideal S128x128 .f32)
    (hq : q = TB H.q r 0) (hk : k = TB H.k c 0) (hd : d = TB H.d r 0) (hm : m = k0_pay23) (ht : tot = CF (cs H.de 0) r)
    (ha : a = CF (cs H.lk (c + 128)) r) (hb : b = CF (cs H.de (c + 128)) r)
    (h0 : lk = TF H.lk r c) (h1 : lb = TF H.lb r c) (h2 : w = TF H.w r c) (h3 : de = TF H.de r c) (h4 : acc = TF (qs H.dz H.k (c + 128)) r 0)
    (h : c + 128 ≤ r) (h' : r ≤ 8192) :
    GradOff H r c q k d m tot a b lk lb w de acc := by
  subst hq hk hd hm ht ha hb h0 h1 h2 h3 h4
  unfold GradOff k0_pay214 k0_pay216
  rw [dz_off H r c h h', rowsum_next r c H.lk (by omega), rowsum_next r c H.de (by omega)]
  exact ⟨tp_tile r c H.dz H.q, tp_tile r c H.w H.d, qs_tile r c H.dz H.k (by omega), rfl, rfl⟩

theorem zero_acc (H : Hd) (r : ℕ) (h : r + 128 ≤ 8192) : k0_pay81 (F := Ideal) = TF (qs H.dz H.k (r + 128)) r 0 := by
  funext y
  have h0 : (y 0).val < 128 := (y 0).isLt
  show Ideal.ofBits .f32 0#32 = ((∑ s ∈ Ico (r + 128) 8192, H.dz (r + (y 0).val) s * H.k s (0 + (y 1).val) : ℝ) : EReal)
  rw [Finset.sum_eq_zero fun s hs => by rw [dz_zero H _ s (by simp only [Finset.mem_Ico] at hs; omega), zero_mul], EReal.coe_zero]
  exact Ideal.ofBits_zero_f32

theorem grad_diag (H : Hd) (r : ℕ) (q k d m : FVec Ideal S128x128 .bf16) (l : IVec S128x128 1) (z tot : FVec Ideal S128x1 .f32) (lk lb w de acc : FVec Ideal S128x128 .f32)
    (hq : q = TB H.q r 0) (hk : k = TB H.k r 0) (hd : d = TB H.d r 0) (hm : m = k0_pay23) (hl : l = k0_pay24) (hz : z = k0_pay27) (ht : tot = CF (cs H.de 0) r)
    (h0 : lk = TF H.lk r r) (h1 : lb = TF H.lb r r) (h2 : w = TF H.w r r) (h3 : de = TF H.de r r) (h4 : acc = k0_pay81) (h : r + 128 ≤ 8192) :
    GradDiag H r q k d m l z tot lk lb w de acc := by
  subst hq hk hd hm hl hz ht h0 h1 h2 h3 h4
  unfold GradDiag k0_pay95 k0_pay97
  rw [dz_diag H r h, rowsum_zero r H.lk (lk_zero H) h, rowsum_zero r H.de (de_zero H) h, zero_acc H r h]
  exact ⟨tp_tile r r H.dz H.q, tp_tile r r H.w H.d, qs_tile r r H.dz H.k h, rfl, rfl⟩

theorem A_congr {s0 s1 : ℕ} {φ : FTy} (M N : ℕ → ℕ → ℝ) (h : ∀ t l, t < s0 → l < s1 → M t l = N t l) : A (s0 := s0) (s1 := s1) (φ := φ) M = A N :=
  funext fun y => congrArg _ (h _ _ (y 0).isLt (y 1).isLt)

/-- Adding a tile in place to what an array holds there. -/
theorem add_at (F N : ℕ → ℕ → ℝ) (c o : ℕ) (off : Fin 2 → ℕ) (h : off = ![c, o]) (inb : ∀ a, off a + S128x128.size a ≤ S8192x256.size a) :
    Rect.overlay (Rect.unit (s := S8192x256) off S128x128.size inb) (A (φ := .f32) F)
        (k0_pay149 (F := Ideal) (TF N c 0) (Own.pick (Rect.unit (s := S8192x256) off S128x128.size inb) (A (φ := .f32) F)))
      = A (φ := .f32) (fun t l => if c ≤ t ∧ t < c + 128 ∧ o ≤ l ∧ l < o + 128 then F t l + N t (l - o) else F t l) := by
  have e : k0_pay149 (F := Ideal) (TF N c 0) (Own.pick (Rect.unit (s := S8192x256) off S128x128.size inb) (A (φ := .f32) F)) = TF (fun t l => F t (o + l) + N t l) c 0 := by
    rw [show Own.pick (Rect.unit (s := S8192x256) off S128x128.size inb) (A (φ := .f32) F) = TF (fun t l => F t (o + l)) c 0 from pick_tile F c o off h inb]
    unfold k0_pay149
    funext y
    pointwise
    exact (EReal.coe_add _ _).symm
  rw [e]
  refine (overlay_tile F _ c o off h inb).trans (A_congr _ _ fun t l _ _ => ?_)
  split
  · next hh => rw [show o + (l - o) = l by omega]
  · rfl

/-- What a column group's row tile `n` adds to the gradients of the keys and of the values. -/
def pair (M : Mats) (f g : Hd → ℕ → ℕ → ℝ) (n t l : ℕ) : ℝ :=
  if l < 128 then tp (f (M.h 0)) (g (M.h 0)) (128 * n) t l + tp (f (M.h 1)) (g (M.h 1)) (128 * n) t l
  else tp (f (M.h 2)) (g (M.h 2)) (128 * n) t (l - 128) + tp (f (M.h 3)) (g (M.h 3)) (128 * n) t (l - 128)
abbrev g9 (M : Mats) : ℕ → ℕ → ℕ → ℝ := pair M Hd.dz Hd.q
abbrev g10 (M : Mats) : ℕ → ℕ → ℕ → ℝ := pair M Hd.w Hd.d

/-- An array that has gained `g` on the rows of some tiles. -/
def gained (lo hi : ℕ) (F g : ℕ → ℕ → ℝ) (t l : ℕ) : ℝ := if lo ≤ t ∧ t < hi then F t l + g t l else F t l

/-- The two tiles of a row tile added in place. -/
theorem gained_step (M : Mats) (f g : Hd → ℕ → ℕ → ℝ) (n c hi : ℕ) (F : ℕ → ℕ → ℝ) (hc : c + 128 ≤ hi) (X : S8192x256.Idx → EReal)
    (hX : X = A (φ := .f32) (gained (c + 128) hi F (pair M f g n)))
    (N0 N1 : FVec Ideal S128x128 .f32) (h0 : N0 = TF (fun t l => tp (f (M.h 0)) (g (M.h 0)) (128 * n) t l + tp (f (M.h 1)) (g (M.h 1)) (128 * n) t l) c 0)
    (h1 : N1 = TF (fun t l => tp (f (M.h 2)) (g (M.h 2)) (128 * n) t l + tp (f (M.h 3)) (g (M.h 3)) (128 * n) t l) c 0)
    (o0 o1 : Fin 2 → ℕ) (e0 : o0 = ![c, 0]) (e1 : o1 = ![c, 128]) (i0 : ∀ a, o0 a + S128x128.size a ≤ S8192x256.size a)
    (i1 : ∀ a, o1 a + S128x128.size a ≤ S8192x256.size a) (Y Z : S8192x256.Idx → EReal)
    (hY : Y = Rect.overlay (Rect.unit (s := S8192x256) o0 S128x128.size i0) X (k0_pay149 (F := Ideal) N0 (Own.pick (Rect.unit (s := S8192x256) o0 S128x128.size i0) X)))
    (hZ : Z = Rect.overlay (Rect.unit (s := S8192x256) o1 S128x128.size i1) Y (k0_pay149 (F := Ideal) N1 (Own.pick (Rect.unit (s := S8192x256) o1 S128x128.size i1) Y))) :
    Z = A (φ := .f32) (gained c hi F (pair M f g n)) := by
  subst hX h0 h1
  rw [hZ, hY, add_at _ _ c 0 o0 e0 i0, add_at _ _ c 128 o1 e1 i1]
  refine A_congr _ _ fun t l _ hl => ?_
  unfold gained pair
  by_cases ht : c ≤ t ∧ t < c + 128
  · rw [if_neg (show ¬(c + 128 ≤ t ∧ t < hi) by omega), if_pos (show c ≤ t ∧ t < hi by omega)]
    by_cases hl' : l < 128
    · rw [if_neg (by omega), if_pos (by omega), if_pos hl']
      rfl
    · rw [if_pos (by omega), if_neg (by omega), if_neg hl']
  · rw [if_neg (show ¬(c ≤ t ∧ t < c + 128 ∧ 128 ≤ l ∧ l < 128 + 128) by omega), if_neg (show ¬(c ≤ t ∧ t < c + 128 ∧ 0 ≤ l ∧ l < 0 + 128) by omega)]
    by_cases hh : c + 128 ≤ t ∧ t < hi
    · rw [if_pos hh, if_pos (show c ≤ t ∧ t < hi by omega)]
    · rw [if_neg hh, if_neg (show ¬(c ≤ t ∧ t < hi) by omega)]

/-- What the second walk holds after `x` trips. -/
structure Inv2 (M : Mats) (n x : ℕ) (F9 F10 : ℕ → ℕ → ℝ) (c : W2C Ideal) : Prop where
  i1 : (c.i 1).val = n
  X3 : c.X3 = A (φ := .bf16) M.K
  X4 : c.X4 = A (φ := .bf16) M.V
  v33 : c.v33 = k0_pay22
  v37 : c.v37 = k0_pay23
  v5 : c.v5 = TB (M.h 0).q (128 * n) 0
  v19 : c.v19 = TB (M.h 0).d (128 * n) 0
  v233_5 : c.v233_5 = CF (cs (M.h 0).de 0) (128 * n)
  v6 : c.v6 = TB (M.h 1).q (128 * n) 0
  v20 : c.v20 = TB (M.h 1).d (128 * n) 0
  v233_6 : c.v233_6 = CF (cs (M.h 1).de 0) (128 * n)
  v12 : c.v12 = TB (M.h 2).q (128 * n) 0
  v26 : c.v26 = TB (M.h 2).d (128 * n) 0
  v233_7 : c.v233_7 = CF (cs (M.h 2).de 0) (128 * n)
  v13 : c.v13 = TB (M.h 3).q (128 * n) 0
  v27 : c.v27 = TB (M.h 3).d (128 * n) 0
  v233_8 : c.v233_8 = CF (cs (M.h 3).de 0) (128 * n)
  arg13 : c.arg13 = BitVec.ofNat 32 x
  le : x ≤ n
  arg14 : c.arg14 = CF (cs (M.h 0).lk (128 * (n - x))) (128 * n)
  arg18 : c.arg18 = CF (cs (M.h 0).de (128 * (n - x))) (128 * n)
  arg22 : c.arg22 = TF (qs (M.h 0).dz (M.h 0).k (128 * (n - x))) (128 * n) 0
  arg15 : c.arg15 = CF (cs (M.h 1).lk (128 * (n - x))) (128 * n)
  arg19 : c.arg19 = CF (cs (M.h 1).de (128 * (n - x))) (128 * n)
  arg23 : c.arg23 = TF (qs (M.h 1).dz (M.h 1).k (128 * (n - x))) (128 * n) 0
  arg16 : c.arg16 = CF (cs (M.h 2).lk (128 * (n - x))) (128 * n)
  arg20 : c.arg20 = CF (cs (M.h 2).de (128 * (n - x))) (128 * n)
  arg24 : c.arg24 = TF (qs (M.h 2).dz (M.h 2).k (128 * (n - x))) (128 * n) 0
  arg17 : c.arg17 = CF (cs (M.h 3).lk (128 * (n - x))) (128 * n)
  arg21 : c.arg21 = CF (cs (M.h 3).de (128 * (n - x))) (128 * n)
  arg25 : c.arg25 = TF (qs (M.h 3).dz (M.h 3).k (128 * (n - x))) (128 * n) 0
  kept : ∀ h d : Fin 4, d.val ≤ n → Kept M n h d c.X11
  X9 : c.X9 = A (φ := .f32) (gained (128 * (n - x)) (128 * n + 128) F9 (g9 M n))
  X10 : c.X10 = A (φ := .f32) (gained (128 * (n - x)) (128 * n + 128) F10 (g10 M n))

namespace Inv2

variable {M : Mats} {n x : ℕ} {F9 F10 : ℕ → ℕ → ℝ} {c : W2C Ideal} (I : Inv2 M n x F9 F10 c)
include I

theorem n_lt : n < 64 := by
  have := (c.i 1).isLt
  have e := I.i1
  have : (c.i 1).val < 64 := this
  omega

theorem test (hx : x < n) : c.test := by
  unfold W2C.test
  rw [I.arg13, I.i1, I.arg14, I.arg15, I.arg16, I.arg17]
  exact test_iff x n hx I.n_lt _ (pay1_pos _ _ _ _ _)

theorem not_test (hx : x = n) : ¬c.test := by
  intro h
  have := c.lt h
  rw [I.arg13, I.i1, BitVec.toNat_ofNat] at this
  have := I.n_lt
  omega

variable (h : c.test)
include h

theorem x_lt : x < n := by
  have := c.lt h
  rw [I.arg13, I.i1, BitVec.toNat_ofNat] at this
  have := I.n_lt
  have := I.le
  omega

theorem next : 128 * (n - x) = 128 * (n - (x + 1)) + 128 := by
  have := I.x_lt h
  omega

theorem lt : x < (c.i 1).val := by
  rw [I.i1]
  exact I.x_lt h

theorem off21 : k0_off21 c.i c.arg13 = ![128 * (n - (x + 1)), 0] := by rw [I.arg13, k0_off21_eq _ _ (I.lt h), I.i1]
theorem off26 : k0_off26 c.i c.arg13 = ![128 * (n - (x + 1)), 128] := by rw [I.arg13, k0_off26_eq _ _ (I.lt h), I.i1]

theorem key0 : c.v439 h = TB (M.h 0).k (128 * (n - (x + 1))) 0 := pick_of I.X3 (I.off21 h) _

theorem tuple0 : c.v444 h = four (M.h 0) (128 * n) (128 * (n - (x + 1))) := by
  have hx := I.x_lt h
  have hn := I.n_lt
  exact tuple_of M n (x + 1) 0 (p := k0_cond14 c.i c.arg13 = 1#1) (by rw [I.arg13]; exact k0_cond14_iff _ _ (I.lt h)) c.X11 (k0_off22 c.i c.arg13) (k0_off22_inb c.i c.arg13 (c.chk h))
    (fun a => by rw [I.arg13]; exact k0_off22_eq _ _ (I.lt h) a) (fun d hd => I.kept 0 d (by omega))
    (fun hp => head_off (M.h 0) _ _ _ _ _ _ _ _ c.arg18 I.v5 (I.key0 h) I.v19 (pick_of I.X4 (by rw [I.arg13, k0_off23_eq _ _ (I.lt h), I.i1]) (k0_off23_inb c.i c.arg13 (c.chk h) hp)) I.v33 (I.arg14.trans (by rw [I.next h])) (I.arg18.trans (by rw [I.next h])) (by omega) (by omega))

theorem grad0 : GradOff (M.h 0) (128 * n) (128 * (n - (x + 1))) c.v5 (c.v439 h) c.v19 c.v37 c.v233_5 c.arg14 c.arg18 (c.v444_0 h) (c.v444_1 h) (c.v444_2 h) (c.v444_3 h) c.arg22 := by
  have hx := I.x_lt h
  have hn := I.n_lt
  have E := I.tuple0 h
  exact grad_off (M.h 0) _ _ _ _ _ _ _ _ _ _ _ _ _ _ I.v5 (I.key0 h) I.v19 I.v37 I.v233_5 (I.arg14.trans (by rw [I.next h])) (I.arg18.trans (by rw [I.next h]))
    (congrArg (fun p => p.1) E) (congrArg (fun p => p.2.1) E) (congrArg (fun p => p.2.2.1) E) (congrArg (fun p => p.2.2.2) E) (I.arg22.trans (by rw [I.next h])) (by omega) (by omega)

theorem key1 : c.v476 h = TB (M.h 1).k (128 * (n - (x + 1))) 0 := pick_of I.X3 (I.off21 h) _

theorem tuple1 : c.v481 h = four (M.h 1) (128 * n) (128 * (n - (x + 1))) := by
  have hx := I.x_lt h
  have hn := I.n_lt
  exact tuple_of M n (x + 1) 1 (p := k0_cond15 c.i c.arg13 = 1#1) (by rw [I.arg13]; exact k0_cond15_iff _ _ (I.lt h)) c.X11 (k0_off24 c.i c.arg13) (k0_off24_inb c.i c.arg13 (c.chk h))
    (fun a => by rw [I.arg13]; exact k0_off24_eq _ _ (I.lt h) a) (fun d hd => I.kept 1 d (by omega))
    (fun hp => head_off (M.h 1) _ _ _ _ _ _ _ _ c.arg19 I.v6 (I.key1 h) I.v20 (pick_of I.X4 (by rw [I.arg13, k0_off25_eq _ _ (I.lt h), I.i1]) (k0_off25_inb c.i c.arg13 (c.chk h) hp)) I.v33 (I.arg15.trans (by rw [I.next h])) (I.arg19.trans (by rw [I.next h])) (by omega) (by omega))

theorem grad1 : GradOff (M.h 1) (128 * n) (128 * (n - (x + 1))) c.v6 (c.v476 h) c.v20 c.v37 c.v233_6 c.arg15 c.arg19 (c.v481_0 h) (c.v481_1 h) (c.v481_2 h) (c.v481_3 h) c.arg23 := by
  have hx := I.x_lt h
  have hn := I.n_lt
  have E := I.tuple1 h
  exact grad_off (M.h 1) _ _ _ _ _ _ _ _ _ _ _ _ _ _ I.v6 (I.key1 h) I.v20 I.v37 I.v233_6 (I.arg15.trans (by rw [I.next h])) (I.arg19.trans (by rw [I.next h]))
    (congrArg (fun p => p.1) E) (congrArg (fun p => p.2.1) E) (congrArg (fun p => p.2.2.1) E) (congrArg (fun p => p.2.2.2) E) (I.arg23.trans (by rw [I.next h])) (by omega) (by omega)

theorem key2 : c.v515 h = TB (M.h 2).k (128 * (n - (x + 1))) 0 := pick_of I.X3 (I.off26 h) _

theorem tuple2 : c.v520 h = four (M.h 2) (128 * n) (128 * (n - (x + 1))) := by
  have hx := I.x_lt h
  have hn := I.n_lt
  exact tuple_of M n (x + 1) 2 (p := k0_cond16 c.i c.arg13 = 1#1) (by rw [I.arg13]; exact k0_cond16_iff _ _ (I.lt h)) c.X11 (k0_off27 c.i c.arg13) (k0_off27_inb c.i c.arg13 (c.chk h))
    (fun a => by rw [I.arg13]; exact k0_off27_eq _ _ (I.lt h) a) (fun d hd => I.kept 2 d (by omega))
    (fun hp => head_off (M.h 2) _ _ _ _ _ _ _ _ c.arg20 I.v12 (I.key2 h) I.v26 (pick_of I.X4 (by rw [I.arg13, k0_off28_eq _ _ (I.lt h), I.i1]) (k0_off28_inb c.i c.arg13 (c.chk h) hp)) I.v33 (I.arg16.trans (by rw [I.next h])) (I.arg20.trans (by rw [I.next h])) (by omega) (by omega))

theorem grad2 : GradOff (M.h 2) (128 * n) (128 * (n - (x + 1))) c.v12 (c.v515 h) c.v26 c.v37 c.v233_7 c.arg16 c.arg20 (c.v520_0 h) (c.v520_1 h) (c.v520_2 h) (c.v520_3 h) c.arg24 := by
  have hx := I.x_lt h
  have hn := I.n_lt
  have E := I.tuple2 h
  exact grad_off (M.h 2) _ _ _ _ _ _ _ _ _ _ _ _ _ _ I.v12 (I.key2 h) I.v26 I.v37 I.v233_7 (I.arg16.trans (by rw [I.next h])) (I.arg20.trans (by rw [I.next h]))
    (congrArg (fun p => p.1) E) (congrArg (fun p => p.2.1) E) (congrArg (fun p => p.2.2.1) E) (congrArg (fun p => p.2.2.2) E) (I.arg24.trans (by rw [I.next h])) (by omega) (by omega)

theorem key3 : c.v552 h = TB (M.h 3).k (128 * (n - (x + 1))) 0 := pick_of I.X3 (I.off26 h) _

theorem tuple3 : c.v557 h = four (M.h 3) (128 * n) (128 * (n - (x + 1))) := by
  have hx := I.x_lt h
  have hn := I.n_lt
  exact tuple_of M n (x + 1) 3 (p := k0_cond17 c.i c.arg13 = 1#1) (by rw [I.arg13]; exact k0_cond17_iff _ _ (I.lt h)) c.X11 (k0_off29 c.i c.arg13) (k0_off29_inb c.i c.arg13 (c.chk h))
    (fun a => by rw [I.arg13]; exact k0_off29_eq _ _ (I.lt h) a) (fun d hd => I.kept 3 d (by omega))
    (fun hp => head_off (M.h 3) _ _ _ _ _ _ _ _ c.arg21 I.v13 (I.key3 h) I.v27 (pick_of I.X4 (by rw [I.arg13, k0_off30_eq _ _ (I.lt h), I.i1]) (k0_off30_inb c.i c.arg13 (c.chk h) hp)) I.v33 (I.arg17.trans (by rw [I.next h])) (I.arg21.trans (by rw [I.next h])) (by omega) (by omega))

theorem grad3 : GradOff (M.h 3) (128 * n) (128 * (n - (x + 1))) c.v13 (c.v552 h) c.v27 c.v37 c.v233_8 c.arg17 c.arg21 (c.v557_0 h) (c.v557_1 h) (c.v557_2 h) (c.v557_3 h) c.arg25 := by
  have hx := I.x_lt h
  have hn := I.n_lt
  have E := I.tuple3 h
  exact grad_off (M.h 3) _ _ _ _ _ _ _ _ _ _ _ _ _ _ I.v13 (I.key3 h) I.v27 I.v37 I.v233_8 (I.arg17.trans (by rw [I.next h])) (I.arg21.trans (by rw [I.next h]))
    (congrArg (fun p => p.1) E) (congrArg (fun p => p.2.1) E) (congrArg (fun p => p.2.2.1) E) (congrArg (fun p => p.2.2.2) E) (I.arg25.trans (by rw [I.next h])) (by omega) (by omega)

theorem X9_step : c.X9_2 h = A (φ := .f32) (gained (128 * (n - (x + 1))) (128 * n + 128) F9 (g9 M n)) := by
  have hx := I.x_lt h
  exact gained_step M Hd.dz Hd.q n (128 * (n - (x + 1))) (128 * n + 128) F9 (by omega) c.X9 (I.X9.trans (by rw [I.next h]))
    _ _ ((congrArg₂ addf (I.grad0 h).1 (I.grad1 h).1).trans (add_tile _ _ _ _)) ((congrArg₂ addf (I.grad2 h).1 (I.grad3 h).1).trans (add_tile _ _ _ _))
    _ _ (I.off21 h) (I.off26 h) (k0_off21_inb c.i c.arg13 (c.chk h)) (k0_off26_inb c.i c.arg13 (c.chk h)) (c.X9_1 h) (c.X9_2 h) rfl rfl

theorem X10_step : c.X10_2 h = A (φ := .f32) (gained (128 * (n - (x + 1))) (128 * n + 128) F10 (g10 M n)) := by
  have hx := I.x_lt h
  exact gained_step M Hd.w Hd.d n (128 * (n - (x + 1))) (128 * n + 128) F10 (by omega) c.X10 (I.X10.trans (by rw [I.next h]))
    _ _ ((congrArg₂ addf (I.grad0 h).2.1 (I.grad1 h).2.1).trans (add_tile _ _ _ _)) ((congrArg₂ addf (I.grad2 h).2.1 (I.grad3 h).2.1).trans (add_tile _ _ _ _))
    _ _ (I.off21 h) (I.off26 h) (k0_off21_inb c.i c.arg13 (c.chk h)) (k0_off26_inb c.i c.arg13 (c.chk h)) (c.X10_1 h) (c.X10_2 h) rfl rfl

set_option maxHeartbeats 2000000 in
theorem step : Inv2 M n (x + 1) F9 F10 (c.step h) where
  i1 := I.i1
  X3 := I.X3
  X4 := I.X4
  v33 := I.v33
  v37 := I.v37
  v5 := I.v5
  v19 := I.v19
  v233_5 := I.v233_5
  v6 := I.v6
  v20 := I.v20
  v233_6 := I.v233_6
  v12 := I.v12
  v26 := I.v26
  v233_7 := I.v233_7
  v13 := I.v13
  v27 := I.v27
  v233_8 := I.v233_8
  arg13 := by
    show Scalar.addi c.arg13 1#32 = _
    rw [I.arg13]
    exact (BitVec.ofNat_add x 1).symm
  le := I.x_lt h
  arg14 := (I.grad0 h).2.2.2.1
  arg18 := (I.grad0 h).2.2.2.2
  arg22 := (I.grad0 h).2.2.1
  arg15 := (I.grad1 h).2.2.2.1
  arg19 := (I.grad1 h).2.2.2.2
  arg23 := (I.grad1 h).2.2.1
  arg16 := (I.grad2 h).2.2.2.1
  arg20 := (I.grad2 h).2.2.2.2
  arg24 := (I.grad2 h).2.2.1
  arg17 := (I.grad3 h).2.2.2.1
  arg21 := (I.grad3 h).2.2.2.2
  arg25 := (I.grad3 h).2.2.1
  kept := I.kept
  X9 := I.X9_step h
  X10 := I.X10_step h

end Inv2

theorem Inv2.final {M : Mats} {n : ℕ} {F9 F10 : ℕ → ℕ → ℝ} : ∀ (k x : ℕ) (c : W2C Ideal), Inv2 M n x F9 F10 c → n - x = k → Inv2 M n n F9 F10 c.final
  | 0, x, c, I, hk => by
    have hx : x = n := by have := I.le; omega
    rw [c.final_neg (I.not_test hx)]
    subst hx
    exact I
  | k + 1, x, c, I, hk => by
    have ht := I.test (by omega)
    rw [c.final_pos ht]
    exact Inv2.final k (x + 1) _ (I.step ht) (by omega)

end Cert.AttnIdeal.Run

end
-- ==== Proof.AttnVal3.lean ====
/-
  One grid step of the attention gradient kernel over the reals, from the diagonal tile to the end of the second walk.
-/
module

public import proofs.«01_k».proof.Proof.AttnVal2

@[expose] public section

set_option maxRecDepth 16384

noncomputable section

namespace Cert.AttnIdeal.Run

open Cert.AttnIdeal Cert.AttnIdeal.Gen
open Idealize.ShloMosaic Idealize.ShloMosaic.ValueIdx Idealize.ShloMosaic.TcCoe Finset

theorem select_lane (y : S128x128.Idx) (a b : EReal) :
    Scalar.select (IntOp.cmpi CmpIPredicate.slt (BitVec.ofNat 32 (y 1).val) 64#32) a b = if (y 1).val < 64 then a else b := by
  have h1 : (y 1).val < 128 := (y 1).isLt
  rw [show (64#32 : BitVec 32) = BitVec.ofNat 32 64 from rfl, WordCmp.cmpi_slt_ofNat (by omega) (by omega)]
  by_cases h : (y 1).val < 64 <;> simp [h] <;> rfl

theorem lanes_apply (y : S128x128.Idx) (a b : FVec Ideal S128x128 .f32) : select k0_pay6 a b y = if (y 1).val < 64 then a y else b y := by
  unfold k0_pay6
  pointwise
  exact select_lane y _ _

theorem lo_mask (M : ℕ → ℕ → ℝ) (r o : ℕ) : k0_pay8 (F := Ideal) (TB (fun t l => M t (o + l)) r 0) = TB (fun t c => if decide (c < 64) = true then M t (o + c) else 0) r 0 := by
  funext y
  unfold k0_pay8 k0_pay6 k0_pay7
  pointwise
  rw [select_lane]
  show _ = (((if decide (0 + (y 1).val < 64) = true then M (r + (y 0).val) (o + (0 + (y 1).val)) else 0 : ℝ)) : EReal)
  rw [Nat.zero_add]
  by_cases h : (y 1).val < 64
  · rw [if_pos h, if_pos (decide_eq_true h)]
    show ((M (r + (y 0).val) (o + (0 + (y 1).val)) : ℝ) : EReal) = _
    rw [Nat.zero_add]
  · rw [if_neg h, if_neg (by simpa using h)]
    exact EReal.coe_zero.symm

theorem hi_mask (M : ℕ → ℕ → ℝ) (r o : ℕ) : k0_pay9 (F := Ideal) (TB (fun t l => M t (o + l)) r 0) = TB (fun t c => if decide (c < 64) = false then M t (o + c) else 0) r 0 := by
  funext y
  unfold k0_pay9 k0_pay6 k0_pay7
  pointwise
  rw [select_lane]
  show _ = (((if decide (0 + (y 1).val < 64) = false then M (r + (y 0).val) (o + (0 + (y 1).val)) else 0 : ℝ)) : EReal)
  rw [Nat.zero_add]
  by_cases h : (y 1).val < 64
  · rw [if_pos h, if_neg (by simpa using h)]
    exact EReal.coe_zero.symm
  · rw [if_neg h, if_pos (by simpa using h)]
    show ((M (r + (y 0).val) (o + (0 + (y 1).val)) : ℝ) : EReal) = _
    rw [Nat.zero_add]

/-- A row tile's two column halves, masked. -/
theorem lo_rows (M : ℕ → ℕ → ℝ) (n o : ℕ) (off : Fin 2 → ℕ) (h : off = ![0, o]) (inb : ∀ a, off a + S128x128.size a ≤ S128x256.size a) (X : S128x256.Idx → EReal)
    (hX : X = A (φ := .bf16) (fun t l => M (128 * n + t) l)) :
    k0_pay8 (F := Ideal) (Own.pick (Rect.unit (s := S128x256) off S128x128.size inb) X) = TB (fun t c => if decide (c < 64) = true then M t (o + c) else 0) (128 * n) 0 := by
  subst hX
  refine Eq.trans (congrArg (k0_pay8 (F := Ideal)) ((pick_tile (φ := .bf16) _ 0 o off h inb).trans ?_)) (lo_mask M (128 * n) o)
  funext y
  show ((M (128 * n + (0 + (y 0).val)) _ : ℝ) : EReal) = _
  rw [Nat.zero_add]
  rfl

theorem hi_rows (M : ℕ → ℕ → ℝ) (n o : ℕ) (off : Fin 2 → ℕ) (h : off = ![0, o]) (inb : ∀ a, off a + S128x128.size a ≤ S128x256.size a) (X : S128x256.Idx → EReal)
    (hX : X = A (φ := .bf16) (fun t l => M (128 * n + t) l)) :
    k0_pay9 (F := Ideal) (Own.pick (Rect.unit (s := S128x256) off S128x128.size inb) X) = TB (fun t c => if decide (c < 64) = false then M t (o + c) else 0) (128 * n) 0 := by
  subst hX
  refine Eq.trans (congrArg (k0_pay9 (F := Ideal)) ((pick_tile (φ := .bf16) _ 0 o off h inb).trans ?_)) (hi_mask M (128 * n) o)
  funext y
  show ((M (128 * n + (0 + (y 0).val)) _ : ℝ) : EReal) = _
  rw [Nat.zero_add]
  rfl

/-- The two column halves written cover the array. -/
theorem halves (X : S128x256.Idx → EReal) (N0 N1 : FVec Ideal S128x128 .f32) (y : S128x256.Idx) :
    Rect.overlay (Rect.unit (s := S128x256) ![0, 128] S128x128.size inb_S128x256_S128x128_0_128)
        (Rect.overlay (Rect.unit (s := S128x256) ![0, 0] S128x128.size inb_S128x256_S128x128_0_0) X N0) N1 y
      = if h : (y 1).val < 128 then N0 (Idealize.ShloMosaic.ix2 (y 0) ⟨(y 1).val, h⟩) else N1 (Idealize.ShloMosaic.ix2 (y 0) ⟨(y 1).val - 128, by have h1 : (y 1).val < 256 := (y 1).isLt; omega⟩) := by
  have h1 : (y 1).val < 256 := (y 1).isLt
  split
  · next h =>
    refine (Rect.overlay_of_not_mem _ _ _ fun hc => ?_).trans ?_
    · obtain ⟨i, hi⟩ := LoadRect.exists_idx_of_mem _ hc
      have e := congrArg (fun z : S128x256.Idx => (z 1).val) hi
      have e' : 128 + 1 * (i 1).val = (y 1).val := e
      omega
    · have e : y = (Rect.unit (s := S128x256) ![0, 0] S128x128.size inb_S128x256_S128x128_0_0).emb (Idealize.ShloMosaic.ix2 (y 0) ⟨(y 1).val, h⟩) := by
        funext a
        match a with
        | ⟨0, _⟩ => exact Fin.ext (by show (y 0).val = 0 + 1 * (y 0).val; omega)
        | ⟨1, _⟩ => exact Fin.ext (by show (y 1).val = 0 + 1 * (y 1).val; omega)
      exact (congrArg (Rect.overlay (Rect.unit (s := S128x256) ![0, 0] S128x128.size inb_S128x256_S128x128_0_0) X N0) e).trans (Rect.overlay_emb (Rect.unit (s := S128x256) ![0, 0] S128x128.size inb_S128x256_S128x128_0_0) X N0 (Idealize.ShloMosaic.ix2 (y 0) ⟨(y 1).val, h⟩))
  · next h =>
    have e : y = (Rect.unit (s := S128x256) ![0, 128] S128x128.size inb_S128x256_S128x128_0_128).emb (Idealize.ShloMosaic.ix2 (y 0) ⟨(y 1).val - 128, by omega⟩) := by
      funext a
      match a with
      | ⟨0, _⟩ => exact Fin.ext (by show (y 0).val = 0 + 1 * (y 0).val; omega)
      | ⟨1, _⟩ => exact Fin.ext (by show (y 1).val = 128 + 1 * ((y 1).val - 128); omega)
    exact (congrArg (Rect.overlay (Rect.unit (s := S128x256) ![0, 128] S128x128.size inb_S128x256_S128x128_0_128) _ N1) e).trans (Rect.overlay_emb (Rect.unit (s := S128x256) ![0, 128] S128x128.size inb_S128x256_S128x128_0_128) _ N1 (Idealize.ShloMosaic.ix2 (y 0) ⟨(y 1).val - 128, by omega⟩))

/-- The queries' gradient, at a row and a column of the group. -/
def gq (M : Mats) (t l : ℕ) : ℝ :=
  if l < 128 then (if l < 64 then qs (M.h 0).dz (M.h 0).k 0 t l else qs (M.h 1).dz (M.h 1).k 0 t l)
  else if l - 128 < 64 then qs (M.h 2).dz (M.h 2).k 0 t (l - 128) else qs (M.h 3).dz (M.h 3).k 0 t (l - 128)

/-- What one grid step starts from. -/
structure Start (M : Mats) (n : ℕ) (F9 F10 : ℕ → ℕ → ℝ) (b : BodyC Ideal) : Prop where
  i1 : (b.i 1).val = n
  X2 : b.X2 = A (φ := .bf16) (fun t l => M.Q (128 * n + t) l)
  X3 : b.X3 = A (φ := .bf16) M.K
  X4 : b.X4 = A (φ := .bf16) M.V
  X5 : b.X5 = A (φ := .bf16) (fun t l => M.D (128 * n + t) l)
  X9 : b.X9_1 = A (φ := .f32) F9
  X10 : b.X10_1 = A (φ := .f32) F10

theorem first_iff : ∀ n : Fin 64, (Scalar.cmpi .ne (Scalar.extui (Scalar.cmpi .eq (BitVec.ofNat 32 n.val) 0#32) : BitVec 32) 0#32 = 1#1) ↔ n.val = 0 := by decide

theorem whole_zero (X : S8192x256.Idx → EReal) :
    Rect.overlay (Rect.unit (s := S8192x256) ![0, 0] S8192x256.size inb_S8192x256_S8192x256_0_0) X (k0_pay25 (F := Ideal)) = A (φ := .f32) (fun _ _ => 0) := by
  funext y
  have e : y = (Rect.unit (s := S8192x256) ![0, 0] S8192x256.size inb_S8192x256_S8192x256_0_0).emb y := by
    funext a
    match a with
    | ⟨0, _⟩ => exact Fin.ext (by show (y 0).val = 0 + 1 * (y 0).val; omega)
    | ⟨1, _⟩ => exact Fin.ext (by show (y 1).val = 0 + 1 * (y 1).val; omega)
  refine (congrArg (Rect.overlay (Rect.unit (s := S8192x256) ![0, 0] S8192x256.size inb_S8192x256_S8192x256_0_0) X (k0_pay25 (F := Ideal))) e).trans ((Rect.overlay_emb (Rect.unit (s := S8192x256) ![0, 0] S8192x256.size inb_S8192x256_S8192x256_0_0) X (k0_pay25 (F := Ideal)) y).trans ?_)
  · unfold k0_pay25
    pointwise
    exact EReal.coe_zero.symm

theorem X9_1_of (b : BodyC Ideal) (F9 : ℕ → ℕ → ℝ) (h : (b.i 1).val ≠ 0 → b.X9 = A (φ := .f32) F9) :
    b.X9_1 = A (φ := .f32) (fun t l => if (b.i 1).val = 0 then 0 else F9 t l) := by
  have hh := first_iff (b.i 1)
  unfold BodyC.X9_1
  by_cases hn : (b.i 1).val = 0
  · simp only [hn, if_true]
    exact (dif_pos (hh.2 hn)).trans (whole_zero _)
  · simp only [hn, if_false]
    exact (dif_neg fun hc => hn (hh.1 hc)).trans (h hn)

theorem X10_1_of (b : BodyC Ideal) (F10 : ℕ → ℕ → ℝ) (h : (b.i 1).val ≠ 0 → b.X10 = A (φ := .f32) F10) :
    b.X10_1 = A (φ := .f32) (fun t l => if (b.i 1).val = 0 then 0 else F10 t l) := by
  have hh := first_iff (b.i 1)
  unfold BodyC.X10_1
  by_cases hn : (b.i 1).val = 0
  · simp only [hn, if_true]
    exact (dif_pos (hh.2 hn)).trans (whole_zero _)
  · simp only [hn, if_false]
    exact (dif_neg fun hc => hn (hh.1 hc)).trans (h hn)

namespace Start

variable {M : Mats} {n : ℕ} {F9 F10 : ℕ → ℕ → ℝ} {b : BodyC Ideal} (I : Start M n F9 F10 b)
include I

theorem n_lt : n < 64 := by
  have e := I.i1
  have : (b.i 1).val < 64 := (b.i 1).isLt
  omega

theorem off1 : k0_off1 b.i = ![128 * n, 0] := by rw [k0_off1_eq, I.i1]
theorem off4 : k0_off4 b.i = ![128 * n, 128] := by rw [k0_off4_eq, I.i1]

theorem v5 : b.v5 = TB (M.h 0).q (128 * n) 0 := lo_rows M.Q n 0 _ rfl inb_S128x256_S128x128_0_0 b.X2 I.X2
theorem v19 : b.v19 = TB (M.h 0).d (128 * n) 0 := lo_rows M.D n 0 _ rfl inb_S128x256_S128x128_0_0 b.X5 I.X5
theorem v6 : b.v6 = TB (M.h 1).q (128 * n) 0 := hi_rows M.Q n 0 _ rfl inb_S128x256_S128x128_0_0 b.X2 I.X2
theorem v20 : b.v20 = TB (M.h 1).d (128 * n) 0 := hi_rows M.D n 0 _ rfl inb_S128x256_S128x128_0_0 b.X5 I.X5
theorem v12 : b.v12 = TB (M.h 2).q (128 * n) 0 := lo_rows M.Q n 128 _ rfl inb_S128x256_S128x128_0_128 b.X2 I.X2
theorem v26 : b.v26 = TB (M.h 2).d (128 * n) 0 := lo_rows M.D n 128 _ rfl inb_S128x256_S128x128_0_128 b.X5 I.X5
theorem v13 : b.v13 = TB (M.h 3).q (128 * n) 0 := hi_rows M.Q n 128 _ rfl inb_S128x256_S128x128_0_128 b.X2 I.X2
theorem v27 : b.v27 = TB (M.h 3).d (128 * n) 0 := hi_rows M.D n 128 _ rfl inb_S128x256_S128x128_0_128 b.X5 I.X5

theorem head0 : Diag (M.h 0) (128 * n) b.v5 b.v46 b.v19 b.v48 b.v33 b.v38 b.v42 := by
  have hn := I.n_lt
  exact head_diag (M.h 0) _ _ _ _ _ _ _ _ I.v5 (pick_of I.X3 I.off1 _) I.v19 (pick_of I.X4 I.off1 _) rfl rfl rfl (by omega)

theorem kept0 (hX : KeptTo M n 0 0 b.X11) : KeptTo M n 0 1 b.X11_1 :=
  kept_step M n 0 0 ⟨fun _ => by decide, fun _ => k0_cond2_eq b.i⟩ _ (k0_off2 b.i) (k0_off2_inb b.i) (k0_off2_eq b.i) I.head0 hX

theorem head1 : Diag (M.h 1) (128 * n) b.v6 b.v93 b.v20 b.v95 b.v33 b.v38 b.v42 := by
  have hn := I.n_lt
  exact head_diag (M.h 1) _ _ _ _ _ _ _ _ I.v6 (pick_of I.X3 I.off1 _) I.v20 (pick_of I.X4 I.off1 _) rfl rfl rfl (by omega)

theorem kept1 (hX : KeptTo M n 0 1 b.X11_1) : KeptTo M n 0 2 b.X11_2 :=
  kept_step M n 0 1 ⟨fun _ => by decide, fun _ => k0_cond3_eq b.i⟩ _ (k0_off3 b.i) (k0_off3_inb b.i) (k0_off3_eq b.i) I.head1 hX

theorem head2 : Diag (M.h 2) (128 * n) b.v12 b.v140 b.v26 b.v142 b.v33 b.v38 b.v42 := by
  have hn := I.n_lt
  exact head_diag (M.h 2) _ _ _ _ _ _ _ _ I.v12 (pick_of I.X3 I.off4 _) I.v26 (pick_of I.X4 I.off4 _) rfl rfl rfl (by omega)

theorem kept2 (hX : KeptTo M n 0 2 b.X11_2) : KeptTo M n 0 3 b.X11_3 :=
  kept_step M n 0 2 ⟨fun _ => by decide, fun _ => k0_cond4_eq b.i⟩ _ (k0_off5 b.i) (k0_off5_inb b.i) (k0_off5_eq b.i) I.head2 hX

theorem head3 : Diag (M.h 3) (128 * n) b.v13 b.v187 b.v27 b.v189 b.v33 b.v38 b.v42 := by
  have hn := I.n_lt
  exact head_diag (M.h 3) _ _ _ _ _ _ _ _ I.v13 (pick_of I.X3 I.off4 _) I.v27 (pick_of I.X4 I.off4 _) rfl rfl rfl (by omega)

theorem kept3 (hX : KeptTo M n 0 3 b.X11_3) : KeptTo M n 0 4 b.X11_4 :=
  kept_step M n 0 3 ⟨fun _ => by decide, fun _ => k0_cond5_eq b.i⟩ _ (k0_off6 b.i) (k0_off6_inb b.i) (k0_off6_eq b.i) I.head3 hX

set_option maxHeartbeats 2000000 in
theorem walk1 : Inv1 M n 0 b.w1 where
  i1 := I.i1
  X3 := I.X3
  X4 := I.X4
  v33 := rfl
  v5 := I.v5
  v19 := I.v19
  v6 := I.v6
  v20 := I.v20
  v12 := I.v12
  v26 := I.v26
  v13 := I.v13
  v27 := I.v27
  arg13 := rfl
  le := Nat.zero_le _
  arg14 := I.head0.2.2.2.2.1
  arg18 := I.head0.2.2.2.2.2
  arg15 := I.head1.2.2.2.2.1
  arg19 := I.head1.2.2.2.2.2
  arg16 := I.head2.2.2.2.2.1
  arg20 := I.head2.2.2.2.2.2
  arg17 := I.head3.2.2.2.2.1
  arg21 := I.head3.2.2.2.2.2
  kept := fun h' d hd => I.kept3 (I.kept2 (I.kept1 (I.kept0 fun h' d hd => absurd hd (by omega)))) h' d (Or.inr ⟨Nat.le_zero.1 hd, h'.isLt⟩)

theorem end1 : Inv1 M n n b.w1e := Inv1.final n 0 b.w1 I.walk1 rfl

theorem tot (H : Hd) (a : FVec Ideal S128x1 .f32) (h : a = CF (cs H.de (128 * (n - n))) (128 * n)) : a = CF (cs H.de 0) (128 * n) := by
  rw [h, Nat.sub_self, Nat.mul_zero]

theorem v233_5 : b.v233_5 = CF (cs (M.h 0).de 0) (128 * n) := I.tot _ _ I.end1.arg18
theorem v233_6 : b.v233_6 = CF (cs (M.h 1).de 0) (128 * n) := I.tot _ _ I.end1.arg19
theorem v233_7 : b.v233_7 = CF (cs (M.h 2).de 0) (128 * n) := I.tot _ _ I.end1.arg20
theorem v233_8 : b.v233_8 = CF (cs (M.h 3).de 0) (128 * n) := I.tot _ _ I.end1.arg21

theorem key0 : b.v238 = TB (M.h 0).k (128 * n) 0 := pick_of I.X3 I.off1 _

theorem tuple0 : b.v243 = four (M.h 0) (128 * n) (128 * n) := by
  have hn := I.n_lt
  exact tuple_of M n 0 0 (p := k0_cond10 b.i = 1#1) ⟨fun _ => by decide, fun _ => k0_cond10_eq b.i⟩ b.X11_5 (k0_off13 b.i) (k0_off13_inb b.i) (k0_off13_eq b.i) (fun d hd => I.end1.kept 0 d (by omega))
    (fun hp => head_diag (M.h 0) _ _ _ _ _ _ _ _ I.v5 I.key0 I.v19 (pick_of I.X4 (by rw [k0_off14_eq, I.i1]) (k0_off14_inb b.i hp)) rfl rfl rfl (by omega))

theorem grad0 : GradDiag (M.h 0) (128 * n) b.v5 b.v238 b.v19 b.v37 b.v38 b.v42 b.v233_5 b.v243_0 b.v243_1 b.v243_2 b.v243_3 b.v234 := by
  have hn := I.n_lt
  have E := I.tuple0
  exact grad_diag (M.h 0) _ _ _ _ _ _ _ _ _ _ _ _ _ I.v5 I.key0 I.v19 rfl rfl rfl I.v233_5
    (congrArg (fun p => p.1) E) (congrArg (fun p => p.2.1) E) (congrArg (fun p => p.2.2.1) E) (congrArg (fun p => p.2.2.2) E) rfl (by omega)

theorem key1 : b.v277 = TB (M.h 1).k (128 * n) 0 := pick_of I.X3 I.off1 _

theorem tuple1 : b.v282 = four (M.h 1) (128 * n) (128 * n) := by
  have hn := I.n_lt
  exact tuple_of M n 0 1 (p := k0_cond11 b.i = 1#1) ⟨fun _ => by decide, fun _ => k0_cond11_eq b.i⟩ b.X11_5 (k0_off15 b.i) (k0_off15_inb b.i) (k0_off15_eq b.i) (fun d hd => I.end1.kept 1 d (by omega))
    (fun hp => head_diag (M.h 1) _ _ _ _ _ _ _ _ I.v6 I.key1 I.v20 (pick_of I.X4 (by rw [k0_off16_eq, I.i1]) (k0_off16_inb b.i hp)) rfl rfl rfl (by omega))

theorem grad1 : GradDiag (M.h 1) (128 * n) b.v6 b.v277 b.v20 b.v37 b.v38 b.v42 b.v233_6 b.v282_0 b.v282_1 b.v282_2 b.v282_3 b.v234 := by
  have hn := I.n_lt
  have E := I.tuple1
  exact grad_diag (M.h 1) _ _ _ _ _ _ _ _ _ _ _ _ _ I.v6 I.key1 I.v20 rfl rfl rfl I.v233_6
    (congrArg (fun p => p.1) E) (congrArg (fun p => p.2.1) E) (congrArg (fun p => p.2.2.1) E) (congrArg (fun p => p.2.2.2) E) rfl (by omega)

theorem key2 : b.v318 = TB (M.h 2).k (128 * n) 0 := pick_of I.X3 I.off4 _

theorem tuple2 : b.v323 = four (M.h 2) (128 * n) (128 * n) := by
  have hn := I.n_lt
  exact tuple_of M n 0 2 (p := k0_cond12 b.i = 1#1) ⟨fun _ => by decide, fun _ => k0_cond12_eq b.i⟩ b.X11_5 (k0_off17 b.i) (k0_off17_inb b.i) (k0_off17_eq b.i) (fun d hd => I.end1.kept 2 d (by omega))
    (fun hp => head_diag (M.h 2) _ _ _ _ _ _ _ _ I.v12 I.key2 I.v26 (pick_of I.X4 (by rw [k0_off18_eq, I.i1]) (k0_off18_inb b.i hp)) rfl rfl rfl (by omega))

theorem grad2 : GradDiag (M.h 2) (128 * n) b.v12 b.v318 b.v26 b.v37 b.v38 b.v42 b.v233_7 b.v323_0 b.v323_1 b.v323_2 b.v323_3 b.v234 := by
  have hn := I.n_lt
  have E := I.tuple2
  exact grad_diag (M.h 2) _ _ _ _ _ _ _ _ _ _ _ _ _ I.v12 I.key2 I.v26 rfl rfl rfl I.v233_7
    (congrArg (fun p => p.1) E) (congrArg (fun p => p.2.1) E) (congrArg (fun p => p.2.2.1) E) (congrArg (fun p => p.2.2.2) E) rfl (by omega)

theorem key3 : b.v357 = TB (M.h 3).k (128 * n) 0 := pick_of I.X3 I.off4 _

theorem tuple3 : b.v362 = four (M.h 3) (128 * n) (128 * n) := by
  have hn := I.n_lt
  exact tuple_of M n 0 3 (p := k0_cond13 b.i = 1#1) ⟨fun _ => by decide, fun _ => k0_cond13_eq b.i⟩ b.X11_5 (k0_off19 b.i) (k0_off19_inb b.i) (k0_off19_eq b.i) (fun d hd => I.end1.kept 3 d (by omega))
    (fun hp => head_diag (M.h 3) _ _ _ _ _ _ _ _ I.v13 I.key3 I.v27 (pick_of I.X4 (by rw [k0_off20_eq, I.i1]) (k0_off20_inb b.i hp)) rfl rfl rfl (by omega))

theorem grad3 : GradDiag (M.h 3) (128 * n) b.v13 b.v357 b.v27 b.v37 b.v38 b.v42 b.v233_8 b.v362_0 b.v362_1 b.v362_2 b.v362_3 b.v234 := by
  have hn := I.n_lt
  have E := I.tuple3
  exact grad_diag (M.h 3) _ _ _ _ _ _ _ _ _ _ _ _ _ I.v13 I.key3 I.v27 rfl rfl rfl I.v233_8
    (congrArg (fun p => p.1) E) (congrArg (fun p => p.2.1) E) (congrArg (fun p => p.2.2.1) E) (congrArg (fun p => p.2.2.2) E) rfl (by omega)

theorem not_gained (F g : ℕ → ℕ → ℝ) (a : ℕ) : gained a a F g = F := by
  funext t l
  unfold gained
  rw [if_neg (by omega)]

theorem X9_3 : b.X9_3 = A (φ := .f32) (gained (128 * n) (128 * n + 128) F9 (g9 M n)) := by
  exact gained_step M Hd.dz Hd.q n (128 * n) (128 * n + 128) F9 (by omega) b.X9_1 (I.X9.trans (by rw [I.not_gained]))
    _ _ ((congrArg₂ addf I.grad0.1 I.grad1.1).trans (add_tile _ _ _ _)) ((congrArg₂ addf I.grad2.1 I.grad3.1).trans (add_tile _ _ _ _))
    _ _ I.off1 I.off4 (k0_off1_inb b.i) (k0_off4_inb b.i) b.X9_2 b.X9_3 rfl rfl

theorem X10_3 : b.X10_3 = A (φ := .f32) (gained (128 * n) (128 * n + 128) F10 (g10 M n)) := by
  exact gained_step M Hd.w Hd.d n (128 * n) (128 * n + 128) F10 (by omega) b.X10_1 (I.X10.trans (by rw [I.not_gained]))
    _ _ ((congrArg₂ addf I.grad0.2.1 I.grad1.2.1).trans (add_tile _ _ _ _)) ((congrArg₂ addf I.grad2.2.1 I.grad3.2.1).trans (add_tile _ _ _ _))
    _ _ I.off1 I.off4 (k0_off1_inb b.i) (k0_off4_inb b.i) b.X10_2 b.X10_3 rfl rfl

set_option maxHeartbeats 2000000 in
theorem walk2 : Inv2 M n 0 F9 F10 b.w2 where
  i1 := I.i1
  X3 := I.X3
  X4 := I.X4
  v33 := rfl
  v37 := rfl
  v5 := I.v5
  v19 := I.v19
  v233_5 := I.v233_5
  v6 := I.v6
  v20 := I.v20
  v233_6 := I.v233_6
  v12 := I.v12
  v26 := I.v26
  v233_7 := I.v233_7
  v13 := I.v13
  v27 := I.v27
  v233_8 := I.v233_8
  arg13 := rfl
  le := Nat.zero_le _
  arg14 := I.grad0.2.2.2.1
  arg18 := I.grad0.2.2.2.2
  arg22 := I.grad0.2.2.1
  arg15 := I.grad1.2.2.2.1
  arg19 := I.grad1.2.2.2.2
  arg23 := I.grad1.2.2.1
  arg16 := I.grad2.2.2.2.1
  arg20 := I.grad2.2.2.2.2
  arg24 := I.grad2.2.2.1
  arg17 := I.grad3.2.2.2.1
  arg21 := I.grad3.2.2.2.2
  arg25 := I.grad3.2.2.1
  kept := I.end1.kept
  X9 := I.X9_3
  X10 := I.X10_3

theorem end2 : Inv2 M n n F9 F10 b.w2e := Inv2.final n 0 b.w2 I.walk2 rfl

theorem end_X9 : b.X9_4 = A (φ := .f32) (gained 0 (128 * n + 128) F9 (g9 M n)) := by
  have h := I.end2.X9
  rw [Nat.sub_self, Nat.mul_zero] at h
  exact h

theorem end_X10 : b.X10_4 = A (φ := .f32) (gained 0 (128 * n + 128) F10 (g10 M n)) := by
  have h := I.end2.X10
  rw [Nat.sub_self, Nat.mul_zero] at h
  exact h

theorem acc0 : b.w2e.arg22 = TF (qs (M.h 0).dz (M.h 0).k 0) (128 * n) 0 := by
  have h := I.end2.arg22
  rw [Nat.sub_self, Nat.mul_zero] at h
  exact h

theorem acc1 : b.w2e.arg23 = TF (qs (M.h 1).dz (M.h 1).k 0) (128 * n) 0 := by
  have h := I.end2.arg23
  rw [Nat.sub_self, Nat.mul_zero] at h
  exact h

theorem acc2 : b.w2e.arg24 = TF (qs (M.h 2).dz (M.h 2).k 0) (128 * n) 0 := by
  have h := I.end2.arg24
  rw [Nat.sub_self, Nat.mul_zero] at h
  exact h

theorem acc3 : b.w2e.arg25 = TF (qs (M.h 3).dz (M.h 3).k 0) (128 * n) 0 := by
  have h := I.end2.arg25
  rw [Nat.sub_self, Nat.mul_zero] at h
  exact h

theorem end_X6 : b.X6_2 = A (φ := .f32) (fun t l => gq M (128 * n + t) l) := by
  funext y
  refine (halves b.X6 (select k0_pay6 b.w2e.arg22 b.w2e.arg23) (select k0_pay6 b.w2e.arg24 b.w2e.arg25) y).trans ?_
  rw [I.acc0, I.acc1, I.acc2, I.acc3]
  show _ = ((gq M (128 * n + (y 0).val) (y 1).val : ℝ) : EReal)
  unfold gq
  split
  · next h =>
    rw [lanes_apply]
    show (if (y 1).val < 64 then ((qs (M.h 0).dz (M.h 0).k 0 (128 * n + (y 0).val) (0 + (y 1).val) : ℝ) : EReal) else ((qs (M.h 1).dz (M.h 1).k 0 (128 * n + (y 0).val) (0 + (y 1).val) : ℝ) : EReal)) = _
    rw [Nat.zero_add]
    split <;> rfl
  · next h =>
    rw [lanes_apply]
    show (if (y 1).val - 128 < 64 then ((qs (M.h 2).dz (M.h 2).k 0 (128 * n + (y 0).val) (0 + ((y 1).val - 128)) : ℝ) : EReal) else ((qs (M.h 3).dz (M.h 3).k 0 (128 * n + (y 0).val) (0 + ((y 1).val - 128)) : ℝ) : EReal)) = _
    rw [Nat.zero_add]
    split <;> rfl

end Start

end Cert.AttnIdeal.Run

end
-- ==== Proof.AttnRun.lean ====
/-
  The attention gradient kernel's run over the reals: what each point's windows hold, what the scratch sums and the two
  copied results hold between points, and what the three results are at the end.
-/
module

public import proofs.«01_k».proof.Proof.AttnVal3
public import proofs.«01_k».proof.Proof.AttnFrame
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AttnIdeal.Run

open Cert.AttnIdeal Cert.AttnIdeal.Gen

open Idealize.ShloMosaic Idealize.ShloMosaic.ValueIdx Finset
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (Pipeline.UD sig nD τ) ℕ

/-! ### The arguments as real matrices -/

/-- What the arguments hold on each device. -/
structure Args where
  X : Dev nD → ℕ → ℕ → ℝ
  D : Dev nD → ℕ → ℕ → ℝ

/-- A group's matrices. -/
def Args.mats (a : Args) (c : Dev nD) (g : ℕ) : Mats where
  Q t l := a.X c t (256 * g + l)
  K t l := a.X c t (1024 + 256 * g + l)
  V t l := a.X c t (2048 + 256 * g + l)
  D t l := a.D c t (256 * g + l)

/-- The row tiles' contributions below tile `n` added up. -/
def acc (f : ℕ → ℕ → ℕ → ℝ) (n t l : ℕ) : ℝ := ∑ n' ∈ range n, if t < 128 * n' + 128 then f n' t l else 0

theorem acc_step (f : ℕ → ℕ → ℕ → ℝ) (n : ℕ) :
    gained 0 (128 * n + 128) (fun t l => if n = 0 then 0 else acc f n t l) (f n) = acc f (n + 1) := by
  funext t l
  unfold gained
  have e : (if n = 0 then 0 else acc f n t l) = acc f n t l := by
    by_cases h : n = 0
    · rw [if_pos h, h]; rfl
    · rw [if_neg h]
  dsimp only
  rw [e]
  unfold acc
  rw [Finset.sum_range_succ]
  by_cases h : t < 128 * n + 128
  · rw [if_pos ⟨Nat.zero_le _, h⟩, if_pos h]
  · rw [if_neg fun hc => h hc.2, if_neg h, add_zero]

/-- The keys' and the values' gradient, and the queries'. -/
def Args.gk (a : Args) (c : Dev nD) (t l : ℕ) : ℝ := acc (g9 (a.mats c (l / 256))) 64 t (l % 256)
def Args.gv (a : Args) (c : Dev nD) (t l : ℕ) : ℝ := acc (g10 (a.mats c (l / 256))) 64 t (l % 256)
def Args.gq (a : Args) (c : Dev nD) (t l : ℕ) : ℝ := Run.gq (a.mats c (l / 256)) t (l % 256)

/-! ### What is held between points -/

/-- After `k` points: the scratch sums within a group, the finished groups' columns. -/
structure Args.St (a : Args) (c : Dev nD) (k : ℕ) (X9 X10 : S8192x256.Idx → EReal) (Y7 Y8 : S8192x1024.Idx → EReal) : Prop where
  x9 : k % 64 ≠ 0 → X9 = A (φ := .f32) (acc (g9 (a.mats c (k / 64))) (k % 64))
  x10 : k % 64 ≠ 0 → X10 = A (φ := .f32) (acc (g10 (a.mats c (k / 64))) (k % 64))
  y7 : ∀ y : S8192x1024.Idx, (y 1).val < 256 * (k / 64) → Y7 y = ((a.gk c (y 0).val (y 1).val : ℝ) : EReal)
  y8 : ∀ y : S8192x1024.Idx, (y 1).val < 256 * (k / 64) → Y8 y = ((a.gv c (y 0).val (y 1).val : ℝ) : EReal)

def grp (g : Fin 4) : grid0.Coords := fun a => match a with | ⟨0, _⟩ => g | ⟨1, _⟩ => (0 : Fin 64)
theorem k0_off31_all : ∀ g : Fin 4, k0_off31 (grp g) = ![0, 256 * g.val] := by decide +kernel
theorem k0_off31_eq (i : grid0.Coords) : k0_off31 i = ![0, 256 * (i 0).val] := k0_off31_all (i 0)
theorem last_all : ∀ n : Fin 64, k0_cond18 (pt n) = 1#1 ↔ n.val = 63 := by decide +kernel
theorem last_iff (i : grid0.Coords) : k0_cond18 i = 1#1 ↔ (i 1).val = 63 := last_all (i 1)

theorem outCols_last (i : grid0.Coords) (Y : S8192x1024.Idx → EReal) (f : ℕ → ℕ → ℝ) (h : (i 1).val = 63) (y : S8192x1024.Idx) :
    outCols (F := Ideal) i Y (A (φ := .f32) f) y
      = if 256 * (i 0).val ≤ (y 1).val ∧ (y 1).val < 256 * (i 0).val + 256 then ((f (y 0).val ((y 1).val - 256 * (i 0).val) : ℝ) : EReal) else Y y := by
  have hc := (last_iff i).2 h
  have inb := k0_off31_inb i hc
  have e1 : outCols (F := Ideal) i Y (A (φ := .f32) f)
      = (Rect.unit (s := S8192x1024) (k0_off31 i) S8192x256.size inb).overlay Y (A (φ := .f32) f) := dif_pos hc
  rw [e1]
  have e2 := k0_off31_eq i
  generalize k0_off31 i = o at inb e2
  subst e2
  have hy0 : (y 0).val < 8192 := (y 0).isLt
  by_cases hy : 256 * (i 0).val ≤ (y 1).val ∧ (y 1).val < 256 * (i 0).val + 256
  · rw [if_pos hy]
    have e : y = (Rect.unit (s := S8192x1024) ![0, 256 * (i 0).val] S8192x256.size inb).emb
        (Idealize.ShloMosaic.ix2 ⟨(y 0).val, hy0⟩ ⟨(y 1).val - 256 * (i 0).val, by show _ < 256; omega⟩) := by
      funext a
      match a with
      | ⟨0, _⟩ => exact Fin.ext (by show (y 0).val = 0 + 1 * (y 0).val; omega)
      | ⟨1, _⟩ => exact Fin.ext (by show (y 1).val = 256 * (i 0).val + 1 * ((y 1).val - 256 * (i 0).val); omega)
    exact (congrArg (Rect.overlay (Rect.unit (s := S8192x1024) ![0, 256 * (i 0).val] S8192x256.size inb) Y (A (φ := .f32) f)) e).trans
      (Rect.overlay_emb (Rect.unit (s := S8192x1024) ![0, 256 * (i 0).val] S8192x256.size inb) Y (A (φ := .f32) f) _)
  · rw [if_neg hy]
    refine Rect.overlay_of_not_mem _ _ _ fun hm => hy ?_
    rw [← Rect.map_emb_univ, Finset.mem_map] at hm
    obtain ⟨j, -, hj⟩ := hm
    have h1 : (j 1).val < 256 := (j 1).isLt
    have e : 256 * (i 0).val + 1 * (j 1).val = (y 1).val := congrArg (fun q : S8192x1024.Idx => (q 1).val) hj
    omega

theorem outCols_not (i : grid0.Coords) (Y : S8192x1024.Idx → EReal) (X : S8192x256.Idx → EReal) (h : (i 1).val ≠ 63) :
    outCols (F := Ideal) i Y X = Y := dif_neg fun hc => h ((last_iff i).1 hc)

/-- One copied result after a step. -/
theorem cols_step (a : Args) (c : Dev nD) (F : Args → Dev nD → ℕ → ℕ → ℝ) (f : ℕ → ℕ → ℕ → ℝ)
    (k : ℕ) (hk : k < 256) (i : grid0.Coords) (h0 : (i 0).val = k / 64) (h1 : (i 1).val = k % 64)
    (hF : ∀ t l, l < 256 → F a c t (256 * (k / 64) + l) = acc f 64 t l)
    (Y : S8192x1024.Idx → EReal) (hY : ∀ y : S8192x1024.Idx, (y 1).val < 256 * (k / 64) → Y y = ((F a c (y 0).val (y 1).val : ℝ) : EReal))
    (X : S8192x256.Idx → EReal) (hX : X = A (φ := .f32) (acc f (k % 64 + 1)))
    (y : S8192x1024.Idx) (hy : (y 1).val < 256 * ((k + 1) / 64)) :
    outCols (F := Ideal) i Y X y = ((F a c (y 0).val (y 1).val : ℝ) : EReal) := by
  by_cases h : k % 64 = 63
  · subst hX
    rw [outCols_last i Y _ (h1.trans h), h0]
    split
    · next hc =>
      rw [h, ← hF _ _ (by omega)]
      congr 2
      omega
    · next hc => exact hY y (by omega)
  · rw [outCols_not i Y X (by omega)]
    exact hY y (by omega)

/-! ### The windows' blocks -/

variable (m : (ℓ : Loc nD τ sig) → Buf (Elt Ideal) ℓ) (ρ : Dev nD → PrngReg)

/-- The memory's arguments are the reals named. -/
structure Args.Is (a : Args) : Prop where
  x : ∀ c : Dev nD, (m ((c.tc : Thread nD τ).loc main_arg0) : S8192x3072.Idx → EReal) = A (φ := .bf16) (a.X c)
  d : ∀ c : Dev nD, (m ((c.tc : Thread nD τ).loc main_arg1) : S8192x1024.Idx → EReal) = A (φ := .bf16) (a.D c)

theorem idxs : ∀ t : Fin (cfg0 (F := Ideal)).N, win0_0.index t = ![t.val % 64, t.val / 64] ∧ win0_1.index t = ![0, 4 + t.val / 64]
    ∧ win0_2.index t = ![0, 8 + t.val / 64] ∧ win0_3.index t = ![t.val % 64, t.val / 64] ∧ win0_4.index t = ![t.val % 64, t.val / 64] :=
  (by decide +kernel : ∀ t : Fin grid0.N, _)

theorem crds : ∀ t : Fin grid0.N, (grid0.coords t 0).val = t.val / 64 ∧ (grid0.coords t 1).val = t.val % 64 := by decide +kernel

theorem lt256 (t : Fin (cfg0 (F := Ideal)).N) : t.val < 256 := lt_of_lt_of_eq t.isLt N_0

/-- The block of window `w` of core `c` at point `t`. -/
def iblk (c : Dev nD) (w : Fin (cfg0 (F := Ideal)).W) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V m c (Pipeline.arrRef spec0 w))

section Blocks

variable {m} {a : Args} (H : a.Is m)
include H

theorem blk0 (c : Dev nD) (t : Fin (cfg0 (F := Ideal)).N) :
    (iblk m c 0 t : S128x256.Idx → EReal) = A (φ := .bf16) (fun r l => (a.mats c (t.val / 64)).Q (128 * (t.val % 64) + r) l) := by
  funext y
  have := lt256 t; have := idx2_lt0 y; have := idx2_lt1 y
  refine Eq.trans (b := (m ((c.tc : Thread nD τ).loc main_arg0) : S8192x3072.Idx → EReal)
    (ValueIdx.ix2 ⟨128 * (t.val % 64) + (y 0).val, by omega⟩ ⟨256 * (t.val / 64) + (y 1).val, by omega⟩)) ?_ (congrFun (H.x c) _)
  blk_ext [iblk, V, (idxs t).1]

theorem blk1 (c : Dev nD) (t : Fin (cfg0 (F := Ideal)).N) :
    (iblk m c 1 t : S8192x256.Idx → EReal) = A (φ := .bf16) (a.mats c (t.val / 64)).K := by
  funext y
  have := lt256 t; have := idx2_lt0 y; have := idx2_lt1 y
  refine Eq.trans (b := (m ((c.tc : Thread nD τ).loc main_arg0) : S8192x3072.Idx → EReal)
    (ValueIdx.ix2 ⟨(y 0).val, by omega⟩ ⟨1024 + 256 * (t.val / 64) + (y 1).val, by omega⟩)) ?_ (congrFun (H.x c) _)
  blk_ext [iblk, V, (idxs t).2.1]

theorem blk2 (c : Dev nD) (t : Fin (cfg0 (F := Ideal)).N) :
    (iblk m c 2 t : S8192x256.Idx → EReal) = A (φ := .bf16) (a.mats c (t.val / 64)).V := by
  funext y
  have := lt256 t; have := idx2_lt0 y; have := idx2_lt1 y
  refine Eq.trans (b := (m ((c.tc : Thread nD τ).loc main_arg0) : S8192x3072.Idx → EReal)
    (ValueIdx.ix2 ⟨(y 0).val, by omega⟩ ⟨2048 + 256 * (t.val / 64) + (y 1).val, by omega⟩)) ?_ (congrFun (H.x c) _)
  blk_ext [iblk, V, (idxs t).2.2.1]

theorem blk3 (c : Dev nD) (t : Fin (cfg0 (F := Ideal)).N) :
    (iblk m c 3 t : S128x256.Idx → EReal) = A (φ := .bf16) (fun r l => (a.mats c (t.val / 64)).D (128 * (t.val % 64) + r) l) := by
  funext y
  have := lt256 t; have := idx2_lt0 y; have := idx2_lt1 y
  refine Eq.trans (b := (m ((c.tc : Thread nD τ).loc main_arg1) : S8192x1024.Idx → EReal)
    (ValueIdx.ix2 ⟨128 * (t.val % 64) + (y 0).val, by omega⟩ ⟨256 * (t.val / 64) + (y 1).val, by omega⟩)) ?_ (congrFun (H.d c) _)
  blk_ext [iblk, V, (idxs t).2.2.2.1]

/-- The step at a point starts from its blocks and from what is held. -/
theorem start (c : Dev nD) (t : Fin (cfg0 (F := Ideal)).N) (X6 : S128x256.Idx → EReal) (X9 X10 : S8192x256.Idx → EReal)
    (X11 : S64x128x128.Idx → EReal) (Y7 Y8 : S8192x1024.Idx → EReal) (S : a.St c t.val X9 X10 Y7 Y8) :
    Start (a.mats c (t.val / 64)) (t.val % 64)
      (fun r l => if t.val % 64 = 0 then 0 else acc (g9 (a.mats c (t.val / 64))) (t.val % 64) r l)
      (fun r l => if t.val % 64 = 0 then 0 else acc (g10 (a.mats c (t.val / 64))) (t.val % 64) r l)
      ⟨grid0.coords t, iblk m c 0 t, iblk m c 1 t, iblk m c 2 t, iblk m c 3 t, X6, X9, X10, X11⟩ where
  i1 := (crds t).2
  X2 := blk0 H c t
  X3 := blk1 H c t
  X4 := blk2 H c t
  X5 := blk3 H c t
  X9 := by
    refine (X9_1_of _ _ fun h => S.x9 ?_).trans ?_
    · exact fun hc => h ((crds t).2.trans hc)
    · show A (φ := .f32) (fun r l => if (grid0.coords t 1).val = 0 then 0 else _) = _
      rw [(crds t).2]
  X10 := by
    refine (X10_1_of _ _ fun h => S.x10 ?_).trans ?_
    · exact fun hc => h ((crds t).2.trans hc)
    · show A (φ := .f32) (fun r l => if (grid0.coords t 1).val = 0 then 0 else _) = _
      rw [(crds t).2]

/-- and ends with what is held next. -/
theorem stepped (c : Dev nD) (t : Fin (cfg0 (F := Ideal)).N) (X6 : S128x256.Idx → EReal) (X9 X10 : S8192x256.Idx → EReal)
    (X11 : S64x128x128.Idx → EReal) (Y7 Y8 : S8192x1024.Idx → EReal) (S : a.St c t.val X9 X10 Y7 Y8)
    (b : BodyC Ideal) (hb : b = ⟨grid0.coords t, iblk m c 0 t, iblk m c 1 t, iblk m c 2 t, iblk m c 3 t, X6, X9, X10, X11⟩) :
    a.St c (t.val + 1) b.X9_4 b.X10_4 (outCols (F := Ideal) b.i Y7 b.X9_4) (outCols (F := Ideal) b.i Y8 b.X10_4) := by
  have I := start H c t X6 X9 X10 X11 Y7 Y8 S
  rw [← hb] at I
  have e9 := I.end_X9
  have e10 := I.end_X10
  rw [acc_step] at e9 e10
  have ht := lt256 t
  have i0 : (b.i 0).val = t.val / 64 := by subst hb; exact (crds t).1
  have i1 : (b.i 1).val = t.val % 64 := I.i1
  have hg : ∀ l, l < 256 → (256 * (t.val / 64) + l) / 256 = t.val / 64 ∧ (256 * (t.val / 64) + l) % 256 = l := fun l hl => by omega
  constructor
  · intro h
    rw [e9, show (t.val + 1) / 64 = t.val / 64 by omega, show (t.val + 1) % 64 = t.val % 64 + 1 by omega]
  · intro h
    rw [e10, show (t.val + 1) / 64 = t.val / 64 by omega, show (t.val + 1) % 64 = t.val % 64 + 1 by omega]
  · exact cols_step a c Args.gk (g9 (a.mats c (t.val / 64))) t.val ht b.i i0 i1
      (fun r l hl => by unfold Args.gk; rw [(hg l hl).1, (hg l hl).2]) Y7 S.y7 _ e9
  · exact cols_step a c Args.gv (g10 (a.mats c (t.val / 64))) t.val ht b.i i0 i1
      (fun r l hl => by unfold Args.gv; rw [(hg l hl).1, (hg l hl).2]) Y8 S.y8 _ e10

/-- The queries' block a step leaves. -/
theorem stepped6 (c : Dev nD) (t : Fin (cfg0 (F := Ideal)).N) (X6 : S128x256.Idx → EReal) (X9 X10 : S8192x256.Idx → EReal)
    (X11 : S64x128x128.Idx → EReal) (Y7 Y8 : S8192x1024.Idx → EReal) (S : a.St c t.val X9 X10 Y7 Y8)
    (b : BodyC Ideal) (hb : b = ⟨grid0.coords t, iblk m c 0 t, iblk m c 1 t, iblk m c 2 t, iblk m c 3 t, X6, X9, X10, X11⟩) :
    b.X6_2 = A (φ := .f32) (fun r l => gq (a.mats c (t.val / 64)) (128 * (t.val % 64) + r) l) := by
  subst hb
  exact (start H c t X6 X9 X10 X11 Y7 Y8 S).end_X6

end Blocks

/-! ### The proof data -/

variable (a : Args)

/-- What a core holds before point `k`. -/
def Held (c : Dev nD) (k : ℕ) : sProp 𝕄 :=
  iprop((∃ X9 X10 X11 Y7 Y8, ⌜a.St c k X9 X10 Y7 Y8⌝ ∗ owns (c : Thread nD τ) scM9 fullShare X9 ∗ owns (c : Thread nD τ) scM10 fullShare X10
        ∗ owns (c : Thread nD τ) scM11 fullShare X11 ∗ owns (c : Thread nD τ) hbM7 fullShare Y7 ∗ owns (c : Thread nD τ) hbM8 fullShare Y8)
    ∗ (∃ r, prngReg c r)
    ∗ iprop(semVal ((c : Thread nD τ), SemLoc.dma 10) 0 ∗ semVal ((c : Thread nD τ), SemLoc.dma 11) 0)
    ∗ (BI.emp : sProp 𝕄))

def qblk (c : Dev nD) (t : Fin (cfg0 (F := Ideal)).N) : S128x256.Idx → EReal :=
  A (φ := .f32) (fun r l => gq (a.mats c (t.val / 64)) (128 * (t.val % 64) + r) l)

def vdats (_ : Fin 1) (c : Dev nD) : Dat τ (Elt Ideal) Unit ℕ (Pipeline.UD sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qblk a c t
  Φ k := Held a c k.val
  q w := Pipeline.shareOf spec0 w
  owed _ := 0

theorem vafter0 (c : Dev nD) (t) : (vdats m a 0 c).after 0 t = iblk m c 0 t := by dsimp only [vdats]
theorem vafter1 (c : Dev nD) (t) : (vdats m a 0 c).after 1 t = iblk m c 1 t := by dsimp only [vdats]
theorem vafter2 (c : Dev nD) (t) : (vdats m a 0 c).after 2 t = iblk m c 2 t := by dsimp only [vdats]
theorem vafter3 (c : Dev nD) (t) : (vdats m a 0 c).after 3 t = iblk m c 3 t := by dsimp only [vdats]
theorem vafter4 (c : Dev nD) (t) : (vdats m a 0 c).after 4 t = qblk a c t := by dsimp only [vdats]

theorem vbefore0 (c : Dev nD) (t : Fin (cfg0 (F := Ideal)).N) (d) : (vdats m a 0 c).before 0 t d = iblk m c 0 t :=
  ((vdats m a 0 c).before_in_eq_fetched 0 rfl (fun _ => rfl) (fun _ _ _ => rfl) (fun t => by rw [vafter0]; unfold Dat.blockOf iblk; try rfl) t d).trans (by unfold Dat.fetched Dat.blockOf iblk; try rfl)
theorem vbefore1 (c : Dev nD) (t : Fin (cfg0 (F := Ideal)).N) (d) : (vdats m a 0 c).before 1 t d = iblk m c 1 t :=
  ((vdats m a 0 c).before_in_eq_fetched 1 rfl (fun _ => rfl) (fun _ _ _ => rfl) (fun t => by rw [vafter1]; unfold Dat.blockOf iblk; try rfl) t d).trans (by unfold Dat.fetched Dat.blockOf iblk; try rfl)
theorem vbefore2 (c : Dev nD) (t : Fin (cfg0 (F := Ideal)).N) (d) : (vdats m a 0 c).before 2 t d = iblk m c 2 t :=
  ((vdats m a 0 c).before_in_eq_fetched 2 rfl (fun _ => rfl) (fun _ _ _ => rfl) (fun t => by rw [vafter2]; unfold Dat.blockOf iblk; try rfl) t d).trans (by unfold Dat.fetched Dat.blockOf iblk; try rfl)
theorem vbefore3 (c : Dev nD) (t : Fin (cfg0 (F := Ideal)).N) (d) : (vdats m a 0 c).before 3 t d = iblk m c 3 t :=
  ((vdats m a 0 c).before_in_eq_fetched 3 rfl (fun _ => rfl) (fun _ _ _ => rfl) (fun t => by rw [vafter3]; unfold Dat.blockOf iblk; try rfl) t d).trans (by unfold Dat.fetched Dat.blockOf iblk; try rfl)

def vPre (c : Dev nD) (t : Fin (cfg0 (F := Ideal)).N) : sProp 𝕄 :=
  iprop((vdats m a 0 c).Φ t.castSucc ∗ (vdats m a 0 c).owesAt () t.castSucc
    ∗ (∃ d, owns (c : Thread nD τ) (st0_0 (F := Ideal) t) fullShare ((vdats m a 0 c).before 0 t d))
    ∗ (∃ d, owns (c : Thread nD τ) (st0_1 (F := Ideal) t) fullShare ((vdats m a 0 c).before 1 t d))
    ∗ (∃ d, owns (c : Thread nD τ) (st0_2 (F := Ideal) t) fullShare ((vdats m a 0 c).before 2 t d))
    ∗ (∃ d, owns (c : Thread nD τ) (st0_3 (F := Ideal) t) fullShare ((vdats m a 0 c).before 3 t d))
    ∗ (∃ d, owns (c : Thread nD τ) (st0_4 (F := Ideal) t) fullShare ((vdats m a 0 c).before 4 t d)))
def vPost (c : Dev nD) (t : Fin (cfg0 (F := Ideal)).N) : sProp 𝕄 :=
  iprop((vdats m a 0 c).Φ t.succ ∗ (vdats m a 0 c).owesAt () t.succ
    ∗ owns (c : Thread nD τ) (st0_0 (F := Ideal) t) fullShare ((vdats m a 0 c).after 0 t)
    ∗ owns (c : Thread nD τ) (st0_1 (F := Ideal) t) fullShare ((vdats m a 0 c).after 1 t)
    ∗ owns (c : Thread nD τ) (st0_2 (F := Ideal) t) fullShare ((vdats m a 0 c).after 2 t)
    ∗ owns (c : Thread nD τ) (st0_3 (F := Ideal) t) fullShare ((vdats m a 0 c).after 3 t)
    ∗ owns (c : Thread nD τ) (st0_4 (F := Ideal) t) fullShare ((vdats m a 0 c).after 4 t))

theorem vsound (H : a.Is m) (c : Dev nD) (t : Fin (cfg0 (F := Ideal)).N) :
    vPre m a c t ⊢ wp Idealize.ShloMosaic.frame (wpE (defs₀ (F := Ideal)) 𝒱₀ c none) Set.univ (bodyAt0 t) (fun _ => vPost m a c t) := by
  unfold vPre vPost bodyAt0
  simp only [vbefore0, vbefore1, vbefore2, vbefore3]
  rw [vafter0, vafter1, vafter2, vafter3, vafter4]
  rw [show (vdats m a 0 c).Φ t.succ = Held a c (t.val + 1) from rfl]
  rw [show (vdats m a 0 c).Φ t.castSucc = Held a c t.val from rfl]
  unfold Held
  unfold Dat.owesAt Pipeline.owesWithin
  rw [show (vdats m a 0 c).owed t.castSucc = 0 from rfl, show (vdats m a 0 c).owed t.succ = 0 from rfl]
  iintro ⟨⟨⟨%X9, %X10, %X11, %Y7, %Y8, %S, H9, H10, H11, H7, H8⟩, Hg, ⟨Hq0, Hq1⟩, He⟩, ⟨%W, -, HW⟩, ⟨%d0, H2⟩, ⟨%d1, H3⟩, ⟨%d2, H4⟩, ⟨%d3, H5⟩, ⟨%d4, H6⟩⟩
  iapply (body_spec ⟨grid0.coords t, iblk m c 0 t, iblk m c 1 t, iblk m c 2 t, iblk m c 3 t, (vdats m a 0 c).before 4 t d4, X9, X10, X11⟩ c _ _ _ _ _ _ _ _ _ _ _ _ _ _ _ _ _ _ _ _ _ Y7 Y8 W)
  isplitl [H2 H3 H4 H5 H6 H9 H10 H11 H7 H8 Hq0 Hq1 HW]
  · isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H7]; · iexact H7
    isplitl [H8]; · iexact H8
    isplitl [Hq0]; · iexact Hq0
    isplitl [Hq1]; · iexact Hq1
    iexact HW
  iintro ⟨H2, H3, H4, H5, H6, H9, H10, H11, H7, H8, Hq0, Hq1, ⟨%W', HW'⟩⟩
  isplitl [H9 H10 H11 Hg Hq0 Hq1 He H7 H8]
  · isplitl [H9 H10 H11 H7 H8]
    · iexists _; iexists _; iexists _; iexists _; iexists _
      isplitr
      · ipureintro
        exact stepped H c t ((vdats m a 0 c).before 4 t d4) X9 X10 X11 Y7 Y8 S _ rfl
      isplitl [H9]; · iexact H9
      isplitl [H10]; · iexact H10
      isplitl [H11]; · iexact H11
      isplitl [H7]; · iexact H7
      iexact H8
    isplitl [Hg]; · iexact Hg
    isplitl [Hq0 Hq1]
    · isplitl [Hq0]; · iexact Hq0
      iexact Hq1
    iexact He
  isplitl [HW']
  · iexists W'; isplitr; · ipureintro; exact fun _ _ => Or.inl trivial
    iexact HW'
  isplitl [H2]; · iexact H2
  isplitl [H3]; · iexact H3
  isplitl [H4]; · iexact H4
  isplitl [H5]; · iexact H5
  rw [show qblk a c t = (BodyC.mk (grid0.coords t) (iblk m c 0 t) (iblk m c 1 t) (iblk m c 2 t) (iblk m c 3 t) ((vdats m a 0 c).before 4 t d4) X9 X10 X11 : BodyC Ideal).X6_2 from
    (stepped6 H c t ((vdats m a 0 c).before 4 t d4) X9 X10 X11 Y7 Y8 S _ rfl).symm]
  iexact H6

theorem vobligation (H : a.Is m) (c : Dev nD) :
    BodyObligation (vdats m a 0 c) (defs₀ (F := Ideal)) 𝒱₀ () Set.univ := fun t => by
  rw [bigSep_W0, bigSep_W0, defs₀_row]
  exact triple_restated (vsound m a H c t) rfl .rfl fun _ => .rfl

/-! ### The launch -/

/-- What the run leaves in the results copied out. -/
def left (c : Dev nD) : (b : Ref sig .tc) → Buf (Elt Ideal) ((c.tc : Thread nD τ).loc b) :=
  Function.update (Function.update (V m c) main_v0_1 (A (φ := .f32) (s0 := 8192) (s1 := 1024) (a.gk c))) main_v0_2 (A (φ := .f32) (s0 := 8192) (s1 := 1024) (a.gv c))

theorem left7 (c : Dev nD) : left m a c main_v0_1 = A (φ := .f32) (s0 := 8192) (s1 := 1024) (a.gk c) :=
  (Function.update_of_ne (by decide) _ _).trans (Function.update_self _ _ _)
theorem left8 (c : Dev nD) : left m a c main_v0_2 = A (φ := .f32) (s0 := 8192) (s1 := 1024) (a.gv c) := Function.update_self _ _ _

theorem routed_eq (c : Dev nD) (W : (b : Ref sig .tc) → Buf (Elt Ideal) ((c.tc : Thread nD τ).loc b)) :
    (Pipeline.routed R0 c W : sProp 𝕄)
      = iprop(owns (c : Thread nD τ) hbM7 fullShare (W main_v0_1) ∗ owns (c : Thread nD τ) hbM8 fullShare (W main_v0_2)) := by
  unfold Pipeline.routed; rw [BI.bigSep_eq_bigSepL_of_eq [main_v0_1, main_v0_2] (by decide) (by decide)]
  simp only [hbM7, hbM8, owns_whole]; rfl

theorem held_in (c : Dev nD) : Pipeline.ΦDRG osem0 spec0 ∅ R0 (V m) (V m) c ⊢ Held a c 0 := by
  rw [Pipeline.ΦDRG_eq, scoped_eq, ownSems00_eq, routed_eq, BI.bigSep_empty]
  unfold Held
  iintro ⟨⟨⟨%X9, H9⟩, ⟨%X10, H10⟩, ⟨%X11, H11⟩⟩, Hg, Hq, He, H7, H8⟩
  isplitl [H9 H10 H11 H7 H8]
  · iexists X9; iexists X10; iexists X11; iexists (V m c main_v0_1); iexists (V m c main_v0_2)
    isplitr
    · ipureintro
      exact ⟨fun h => absurd rfl h, fun h => absurd rfl h, fun y h => absurd h (Nat.not_lt_zero _), fun y h => absurd h (Nat.not_lt_zero _)⟩
    isplitl [H9]; · iexact H9
    isplitl [H10]; · iexact H10
    isplitl [H11]; · iexact H11
    isplitl [H7]; · iexact H7
    iexact H8
  isplitl [Hg]; · iexact Hg
  isplitl [Hq]; · iexact Hq
  iexact He

theorem held_out (c : Dev nD) : Held a c 256 ⊢ Pipeline.ΦDRG osem0 spec0 ∅ R0 (V m) (left m a) c := by
  rw [Pipeline.ΦDRG_eq, scoped_eq, ownSems00_eq, routed_eq, BI.bigSep_empty, left7, left8]
  unfold Held
  iintro ⟨⟨%X9, %X10, %X11, %Y7, %Y8, %S, H9, H10, H11, H7, H8⟩, Hg, Hq, He⟩
  have e7 : Y7 = A (φ := .f32) (s0 := 8192) (s1 := 1024) (a.gk c) := funext fun y => S.y7 y (y 1).isLt
  have e8 : Y8 = A (φ := .f32) (s0 := 8192) (s1 := 1024) (a.gv c) := funext fun y => S.y8 y (y 1).isLt
  subst e7 e8
  isplitl [H9 H10 H11]
  · isplitl [H9]; · iexists _; iexact H9
    isplitl [H10]; · iexists _; iexact H10
    iexists _; iexact H11
  isplitl [Hg]; · iexact Hg
  isplitl [Hq]; · iexact Hq
  isplitl [He]; · iexact He
  isplitl [H7]; · iexact H7
  iexact H8

set_option backward.isDefEq.respectTransparency.types false in
theorem vrun (H : a.Is m) : θ_run defs (onTc (τ := τ) (main (F := Ideal))) (s₀ m ρ) (fun r =>
    Pipeline.FramePostRG cfgs (vdats m a) 0 R0 (V m) (left m a) r ∧ r.2.sem = fun _ => 0) :=
  Pipeline.θ_run_frame_dmaRG_shared (Q' := _) cfgs (vdats m a) (0 : Fin 1) launch₀0 osem0 defs₀ 𝒱₀ ownSemFacts0 ∅ R0
    (Finset.empty_subset _) R0_sub m ρ main
    (hbody := fun c => (vobligation m a H c).loose) (hq := fun _ _ _ => rfl)
    (howed := fun _ _ => rfl) (V := V m) (hmain := hmain m) (hA := fun _ _ => rfl) (G := left m a)
    (hin := held_in m a) (hout := held_out m a)

/-- The queries' gradient, block by block. -/
theorem value4 (c : Dev nD) : (vdats m a 0 c).arrAt 4 (cfg0 (F := Ideal)).N = fun i : S8192x1024.Idx => ((a.gq c (i 0).val (i 1).val : ℝ) : EReal) := by
  refine (vdats m a 0 c).arrAt_eq_of_covers 4 _ (by decide +kernel) fun t hf y => ?_
  blk_simp
  rw [vafter4]
  have h0 := idx2_lt0 y
  have h1 := idx2_lt1 y
  have ht := lt256 t
  have e0 : win0_4.index t 0 * 128 + (y 0).val = 128 * (t.val % 64) + (y 0).val := by
    rw [(idxs t).2.2.2.2]; show t.val % 64 * 128 + _ = _; omega
  have e1 : win0_4.index t 1 * 256 + (y 1).val = 256 * (t.val / 64) + (y 1).val := by
    rw [(idxs t).2.2.2.2]; show t.val / 64 * 256 + _ = _; omega
  show ((gq (a.mats c (t.val / 64)) (128 * (t.val % 64) + (y 0).val) (y 1).val : ℝ) : EReal)
    = ((a.gq c (win0_4.index t 0 * 128 + (y 0).val) (win0_4.index t 1 * 256 + (y 1).val) : ℝ) : EReal)
  rw [e0, e1]
  unfold Args.gq
  rw [show (256 * (t.val / 64) + (y 1).val) / 256 = t.val / 64 by omega, show (256 * (t.val / 64) + (y 1).val) % 256 = (y 1).val by omega]

/-- What the run of the kernel ends with. -/
theorem run (H : a.Is m) : θ_run defs (onTc (τ := τ) (main (F := Ideal))) ⟨m, fun _ => 0, ρ⟩ (fun r => (∀ c : Dev nD,
      r.2.mem ((c.tc : Thread nD τ).loc main_v0_0) = (A (φ := .f32) (a.gq c) : S8192x1024.Idx → EReal)
      ∧ r.2.mem ((c.tc : Thread nD τ).loc main_v0_1) = (A (φ := .f32) (a.gk c) : S8192x1024.Idx → EReal)
      ∧ r.2.mem ((c.tc : Thread nD τ).loc main_v0_2) = (A (φ := .f32) (a.gv c) : S8192x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1.toR c).1 4).trans (value4 m a c),
    (h.1.written c (by decide)).trans (left7 m a c), (h.1.written c (by decide)).trans (left8 m a c),
    ((h.1.toR c).1 0).trans ((vdats m a 0 c).arrAt_in 0 rfl _), ((h.1.toR c).1 3).trans ((vdats m a 0 c).arrAt_in 3 rfl _)⟩, h.2⟩) (vrun m ρ a H)

end Cert.AttnIdeal.Run

end
-- ==== Proof.AttnSum.lean ====
/-
  The sums of the attention's gradient: a head of the reference, 64 lanes wide, against the kernel's head on half of 128
  lanes; the reference's running sums; and the kernel's sums over row tiles as sums over all rows.
-/
module

public import proofs.«01_k».proof.Proof.AttnRun

@[expose] public section

set_option maxRecDepth 16384

noncomputable section

open Idealize.ShloMosaic Idealize.ShloMosaic.ValueIdx Finset

namespace Cert.AttnIdeal.Run

open Cert.AttnIdeal

/-- Head `h` of the reference: its 64 lanes, then nothing. -/
def rh (X D : ℕ → ℕ → ℝ) (h : ℕ) : Hd where
  q t c := if c < 64 then X t (64 * h + c) else 0
  k s c := X s (1024 + 64 * h + c)
  v s c := X s (2048 + 64 * h + c)
  d t c := if c < 64 then D t (64 * h + c) else 0

theorem sum_lo (f g : ℕ → ℝ) : ∑ c ∈ range 128, (if c < 64 then f c else 0) * g c = ∑ c ∈ range 64, f c * g c := by
  rw [show (128 : ℕ) = 64 + 64 from rfl, sum_range_add, sum_congr rfl fun c h => by rw [if_pos (mem_range.1 h)],
    sum_eq_zero (s := range 64) (f := fun x => (if 64 + x < 64 then f (64 + x) else 0) * g (64 + x)) fun c _ => by rw [if_neg (by omega), zero_mul],
    add_zero]

theorem sum_hi (f g : ℕ → ℝ) : ∑ c ∈ range 128, (if 64 ≤ c then f c else 0) * g c = ∑ c ∈ range 64, f (64 + c) * g (64 + c) := by
  rw [show (128 : ℕ) = 64 + 64 from rfl, sum_range_add,
    sum_eq_zero (s := range 64) (f := fun x => (if 64 ≤ x then f x else 0) * g x) fun c h => by
      rw [if_neg (by have := mem_range.1 h; omega), zero_mul],
    zero_add]
  exact sum_congr rfl fun c _ => by rw [if_pos (by omega)]

/-- The product of a masked row and a row is that of their 64 own lanes. -/
theorem sum_half (b : Bool) (f g : ℕ → ℝ) : ∑ c ∈ range 128, (if decide (c < 64) = b then f c else 0) * g c
    = ∑ c ∈ range 64, f ((if b then 0 else 64) + c) * g ((if b then 0 else 64) + c) := by
  cases b
  · refine Eq.trans (sum_congr rfl fun c _ => ?_) (sum_hi f g)
    by_cases h : c < 64
    · rw [if_neg (by simp [h]), if_neg (by omega)]
    · rw [if_pos (by simp [h]), if_pos (by omega)]
  · refine Eq.trans (sum_congr rfl fun c _ => ?_) ((sum_lo f g).trans (sum_congr rfl fun c _ => by simp))
    by_cases h : c < 64
    · rw [if_pos (by simp [h]), if_pos h]
    · rw [if_neg (by simp [h]), if_neg h]

/-- Two heads of the same scores and products have the same weights and gradients. -/
theorem Hd.same {H H' : Hd} (hz : H.z = H'.z) (ho : H.o = H'.o) : H.w = H'.w ∧ H.dz = H'.dz := by
  have s : H.sp = H'.sp := by funext t s; unfold Hd.sp; rw [hz]
  have k : H.lk = H'.lk := by funext t j; unfold Hd.lk; rw [s]
  have b : H.lb = H'.lb := by funext t j; unfold Hd.lb; rw [hz, s]
  have w : H.w = H'.w := by funext t j; unfold Hd.w; rw [b, k]
  have d : H.de = H'.de := by funext t j; unfold Hd.de; rw [ho, w]
  exact ⟨w, by funext t j; unfold Hd.dz; rw [d, k, b]⟩

/-- The kernel's head on the half `b` of the lanes from column `o` on is the reference's head of that column. -/
theorem hd_same (a : Args) (c : Dev nD) (g o : ℕ) (b : Bool) (h : ℕ) (e : 64 * h = 256 * g + o + (if b then 0 else 64)) :
    ((a.mats c g).hd o b).w = (rh (a.X c) (a.D c) h).w ∧ ((a.mats c g).hd o b).dz = (rh (a.X c) (a.D c) h).dz := by
  refine Hd.same ?_ ?_
  · funext t s
    unfold Hd.z
    refine congrArg (· * (1 / 8 : ℝ)) ?_
    refine (sum_half b (fun x => a.X c t (256 * g + (o + x))) fun x => a.X c s (1024 + 256 * g + (o + x))).trans (Eq.trans ?_
      (sum_lo (fun x => a.X c t (64 * h + x)) fun x => a.X c s (1024 + 64 * h + x)).symm)
    refine sum_congr rfl fun x _ => congrArg₂ (· * ·) (congrArg _ ?_) (congrArg _ ?_) <;> omega
  · funext t s
    unfold Hd.o
    refine (sum_half b (fun x => a.D c t (256 * g + (o + x))) fun x => a.X c s (2048 + 256 * g + (o + x))).trans (Eq.trans ?_
      (sum_lo (fun x => a.D c t (64 * h + x)) fun x => a.X c s (2048 + 64 * h + x)).symm)
    refine sum_congr rfl fun x _ => congrArg₂ (· * ·) (congrArg _ ?_) (congrArg _ ?_) <;> omega

/-- A sum over row tiles of sums over their rows. -/
theorem sum_tiles (f : ℕ → ℝ) (n : ℕ) : ∑ i ∈ range n, ∑ r ∈ range 128, f (128 * i + r) = ∑ s ∈ range (128 * n), f s := by
  induction n with
  | zero => simp
  | succ n ih => rw [sum_range_succ, ih, Nat.mul_succ, sum_range_add]

/-- The sum over the tiles that reach row `t` is that over all rows, where `M` is zero on rows up to `t`. -/
theorem sum_acc (M N : ℕ → ℕ → ℝ) (hM : ∀ r t, r ≤ t → M r t = 0) (t l : ℕ) :
    ∑ n ∈ range 64, (if t < 128 * n + 128 then tp M N (128 * n) t l else 0) = ∑ s ∈ range 8192, M s t * N s l := by
  rw [show (8192 : ℕ) = 128 * 64 from rfl, ← sum_tiles]
  refine sum_congr rfl fun n _ => ?_
  split
  · rfl
  · exact (sum_eq_zero fun r hr => by rw [hM _ _ (by have := mem_range.1 hr; omega), zero_mul]).symm

/-- The sum over all rows of `f` of a head's rows against column `t`, times the column `l` of `g`. -/
def all (f g : Hd → ℕ → ℕ → ℝ) (H : Hd) (t l : ℕ) : ℝ := ∑ s ∈ range 8192, f H s t * g H s l

theorem acc_pair (M : Mats) (f g : Hd → ℕ → ℕ → ℝ) (hf : ∀ H r t, r ≤ t → f H r t = 0) (t l : ℕ) :
    acc (pair M f g) 64 t l = if l < 128 then all f g (M.h 0) t l + all f g (M.h 1) t l
      else all f g (M.h 2) t (l - 128) + all f g (M.h 3) t (l - 128) := by
  have two : ∀ (H H' : Hd) (l : ℕ), ∑ n ∈ range 64, (if t < 128 * n + 128 then tp (f H) (g H) (128 * n) t l + tp (f H') (g H') (128 * n) t l else 0)
      = all f g H t l + all f g H' t l := fun H H' l => by
    unfold all
    rw [← sum_acc _ _ (hf H), ← sum_acc _ _ (hf H'), ← sum_add_distrib]
    exact sum_congr rfl fun n _ => by split <;> simp
  unfold acc pair
  split
  · exact two _ _ _
  · exact two _ _ _

/-- Of the two heads on 128 lanes only the lane's own counts. -/
theorem all_pair (a : Args) (c : Dev nD) (f g : Hd → ℕ → ℕ → ℝ) (Y : ℕ → ℕ → ℝ) (hf : ∀ H r t, r ≤ t → f H r t = 0)
    (hs : ∀ (n o : ℕ) (b : Bool) (h : ℕ), 64 * h = 256 * n + o + (if b then 0 else 64) → f ((a.mats c n).hd o b) = f (rh (a.X c) (a.D c) h))
    (hg : ∀ n o b s x, g ((a.mats c n).hd o b) s x = if decide (x < 64) = b then Y s (256 * n + (o + x)) else 0) (t l : ℕ) :
    acc (pair (a.mats c (l / 256)) f g) 64 t (l % 256) = ∑ s ∈ range 8192, f (rh (a.X c) (a.D c) (l / 64)) s t * Y s l := by
  have one : ∀ o b x, decide (x < 64) = b → 256 * (l / 256) + (o + x) = l → 64 * (l / 64) = 256 * (l / 256) + o + (if b then 0 else 64) →
      all f g ((a.mats c (l / 256)).hd o b) t x = ∑ s ∈ range 8192, f (rh (a.X c) (a.D c) (l / 64)) s t * Y s l := fun o b x hb hx hl => by
    unfold all
    rw [hs _ _ _ _ hl]
    exact sum_congr rfl fun s _ => by rw [hg, if_pos hb, hx]
  have none : ∀ o b x, ¬decide (x < 64) = b → all f g ((a.mats c (l / 256)).hd o b) t x = 0 := fun o b x hb =>
    sum_eq_zero fun s _ => by rw [hg, if_neg hb, mul_zero]
  rw [acc_pair _ _ _ hf]
  show (if l % 256 < 128 then all f g ((a.mats c (l / 256)).hd 0 true) t (l % 256) + all f g ((a.mats c (l / 256)).hd 0 false) t (l % 256)
    else all f g ((a.mats c (l / 256)).hd 128 true) t (l % 256 - 128) + all f g ((a.mats c (l / 256)).hd 128 false) t (l % 256 - 128)) = _
  split
  · by_cases h : l % 256 < 64
    · rw [one 0 true (l % 256) (by simp [h]) (by omega) (by rw [if_pos rfl]; omega), none 0 false (l % 256) (by simp [h]), add_zero]
    · rw [none 0 true (l % 256) (by simp [h]), one 0 false (l % 256) (by simp [h]) (by omega) (by rw [if_neg (by simp)]; omega), zero_add]
  · by_cases h : l % 256 - 128 < 64
    · rw [one 128 true (l % 256 - 128) (by simp [h]) (by omega) (by rw [if_pos rfl]; omega), none 128 false (l % 256 - 128) (by simp [h]), add_zero]
    · rw [none 128 true (l % 256 - 128) (by simp [h]), one 128 false (l % 256 - 128) (by simp [h]) (by omega) (by rw [if_neg (by simp)]; omega), zero_add]

theorem gk_eq (a : Args) (c : Dev nD) (t l : ℕ) :
    a.gk c t l = ∑ s ∈ range 8192, (rh (a.X c) (a.D c) (l / 64)).dz s t * a.X c s l :=
  all_pair a c Hd.dz Hd.q (a.X c) (fun H r t h => dz_zero H r t h) (fun n o b h e => (hd_same a c n o b h e).2) (fun _ _ _ _ _ => rfl) t l

theorem gv_eq (a : Args) (c : Dev nD) (t l : ℕ) :
    a.gv c t l = ∑ s ∈ range 8192, (rh (a.X c) (a.D c) (l / 64)).w s t * a.D c s l :=
  all_pair a c Hd.w Hd.d (a.D c) (fun H r t h => w_zero H r t h) (fun n o b h e => (hd_same a c n o b h e).1) (fun _ _ _ _ _ => rfl) t l

theorem gq_eq (a : Args) (c : Dev nD) (t l : ℕ) :
    a.gq c t l = ∑ s ∈ range 8192, (rh (a.X c) (a.D c) (l / 64)).dz t s * a.X c s (1024 + l) := by
  have one : ∀ o b x, 256 * (l / 256) + (o + x) = l → 64 * (l / 64) = 256 * (l / 256) + o + (if b then 0 else 64) →
      qs ((a.mats c (l / 256)).hd o b).dz ((a.mats c (l / 256)).hd o b).k 0 t x
        = ∑ s ∈ range 8192, (rh (a.X c) (a.D c) (l / 64)).dz t s * a.X c s (1024 + l) := fun o b x hx hl => by
    unfold qs
    rw [(hd_same a c _ _ _ _ hl).2, Nat.Ico_zero_eq_range]
    refine sum_congr rfl fun s _ => congrArg₂ (· * ·) rfl ?_
    show a.X c s (1024 + 256 * (l / 256) + (o + x)) = _
    exact congrArg _ (by omega)
  unfold Args.gq Run.gq
  split
  · split
    · exact one 0 true _ (by omega) (by rw [if_pos rfl]; omega)
    · exact one 0 false _ (by omega) (by rw [if_neg (by simp)]; omega)
  · split
    · exact one 128 true _ (by omega) (by rw [if_pos rfl]; omega)
    · exact one 128 false _ (by omega) (by rw [if_neg (by simp)]; omega)

/-- A sum from row `s` on as one over offsets that stop at the end. -/
theorem sum_from (f : ℕ → EReal) (s : ℕ) (h : s < 8192) :
    ∑ n ∈ range 8192, (if s + n < 8192 then f (s + n) else 0) = ∑ j ∈ Ico s 8192, f j := by
  rw [sum_Ico_eq_sum_range]
  conv_lhs => rw [show (8192 : ℕ) = (8192 - s) + s by omega]
  rw [sum_range_add, sum_eq_zero (s := range s) fun n _ => if_neg (by omega), add_zero]
  exact sum_congr rfl fun n hn => if_pos (by have := mem_range.1 hn; omega)

/-- A sum up to row `s` as one over offsets that begin before the start. -/
theorem sum_upto (f : ℕ → EReal) (s : ℕ) (h : s < 8192) :
    ∑ n ∈ range 8192, (if 8191 ≤ s + n then f (s + n - 8191) else 0) = ∑ j ∈ range (s + 1), f j := by
  conv_lhs => rw [show (8192 : ℕ) = (8191 - s) + (s + 1) by omega]
  rw [sum_range_add, sum_eq_zero (s := range (8191 - s)) fun n hn => if_neg (by have := mem_range.1 hn; omega), zero_add]
  exact sum_congr rfl fun n hn => (if_pos (by omega)).trans (congrArg f (by omega))

theorem foldl_sum {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

theorem finRange_sum {N : ℕ} (f : ℕ → EReal) : ((List.finRange N).map fun n : Fin N => f n.val).sum = ∑ n ∈ range N, f n := by
  rw [← Fin.sum_univ_def, ← sum_range fun n => f n]

abbrev W : Shape := ⟨3, ![1, 1, 8192]⟩

theorem numelW : W.numel = 8192 := by
  show ∏ a : Fin 3, (![1, 1, 8192] : Fin 3 → ℕ) a = 8192
  rw [Fin.prod_univ_three]
  rfl

theorem symmW (n : Fin W.numel) : (W.rowMajor.symm n 0).val = 0 ∧ (W.rowMajor.symm n 1).val = 0 ∧ (W.rowMajor.symm n 2).val = n.val := by
  have e := congrArg Fin.val (W.rowMajor.apply_symm_apply n)
  rw [Shape.rowMajor_val_three] at e
  have h0 : (W.rowMajor.symm n 0).val < 1 := (W.rowMajor.symm n 0).isLt
  have h1 : (W.rowMajor.symm n 1).val < 1 := (W.rowMajor.symm n 1).isLt
  change ((W.rowMajor.symm n 0).val * 1 + (W.rowMajor.symm n 1).val) * 8192 + (W.rowMajor.symm n 2).val = n.val at e
  omega

abbrev S3 : Shape := ⟨3, ![16, 8192, 8192]⟩

theorem windowAdd {s t u : Shape} (window strides lo hi : Fin s.rank → Nat) (x : FVec Ideal s .f32) (init : u.Idx → Ideal .f32)
    (h : s.ReduceWindows window strides lo hi t) (hu : 0 < u.numel) : Host.reduceWindowAdd (F := Ideal) window strides lo hi x init h hu
      = Host.reduceWindow (fun a b : EReal => a + b) window strides lo hi x init h hu := rfl

/-- The reference's running sums along the last axis, from the end and from the start. -/
theorem window_from (x : S3.Idx → EReal) (f : ℕ → EReal) (i : S3.Idx) (hx : ∀ j : S3.Idx, (j 0).val = (i 0).val → (j 1).val = (i 1).val → x j = f (j 2).val)
    {u : Shape} (init : u.Idx → EReal) (hi : ∀ k, init k = 0) (h : S3.ReduceWindows ![1, 1, 8192] ![1, 1, 1] ![0, 0, 0] ![0, 0, 8191] S3) (hu : 0 < u.numel) :
    Host.reduceWindow (fun a b : EReal => a + b) ![1, 1, 8192] ![1, 1, 1] ![0, 0, 0] ![0, 0, 8191] x init h hu i
      = ∑ j ∈ Ico (i 2).val 8192, f j := by
  have b0 : (i 0).val < 16 := (i 0).isLt
  have b1 : (i 1).val < 8192 := (i 1).isLt
  have b2 : (i 2).val < 8192 := (i 2).isLt
  unfold Host.reduceWindow
  dsimp only
  rw [foldl_sum, hi, zero_add, ← sum_from f _ b2]
  refine Eq.trans (congrArg List.sum (List.map_congr_left fun n _ => ?_))
    ((finRange_sum (N := W.numel) fun n => if (i 2).val + n < 8192 then f ((i 2).val + n) else 0).trans (by rw [numelW]))
  obtain ⟨w0, w1, w2⟩ := symmW n
  dsimp only
  split
  · next hin =>
    have h2 := hin 2
    change 0 ≤ (i 2).val * 1 + (W.rowMajor.symm n 2).val ∧ (i 2).val * 1 + (W.rowMajor.symm n 2).val - 0 < 8192 at h2
    rw [if_pos (by omega)]
    refine (hx _ ?_ ?_).trans ?_
    · show (i 0).val * 1 + (W.rowMajor.symm n 0).val - 0 = _
      omega
    · show (i 1).val * 1 + (W.rowMajor.symm n 1).val - 0 = _
      omega
    · show f ((i 2).val * 1 + (W.rowMajor.symm n 2).val - 0) = _
      rw [w2, Nat.mul_one, Nat.sub_zero]
  · next hin =>
    rw [if_neg fun hlt => hin fun a => by
      match a with
      | ⟨0, _⟩ =>
        show 0 ≤ (i 0).val * 1 + (W.rowMajor.symm n 0).val ∧ (i 0).val * 1 + (W.rowMajor.symm n 0).val - 0 < 16
        omega
      | ⟨1, _⟩ =>
        show 0 ≤ (i 1).val * 1 + (W.rowMajor.symm n 1).val ∧ (i 1).val * 1 + (W.rowMajor.symm n 1).val - 0 < 8192
        omega
      | ⟨2, _⟩ =>
        show 0 ≤ (i 2).val * 1 + (W.rowMajor.symm n 2).val ∧ (i 2).val * 1 + (W.rowMajor.symm n 2).val - 0 < 8192
        omega]

theorem window_upto (x : S3.Idx → EReal) (f : ℕ → EReal) (i : S3.Idx) (hx : ∀ j : S3.Idx, (j 0).val = (i 0).val → (j 1).val = (i 1).val → x j = f (j 2).val)
    {u : Shape} (init : u.Idx → EReal) (hi : ∀ k, init k = 0) (h : S3.ReduceWindows ![1, 1, 8192] ![1, 1, 1] ![0, 0, 8191] ![0, 0, 0] S3) (hu : 0 < u.numel) :
    Host.reduceWindow (fun a b : EReal => a + b) ![1, 1, 8192] ![1, 1, 1] ![0, 0, 8191] ![0, 0, 0] x init h hu i
      = ∑ j ∈ range ((i 2).val + 1), f j := by
  have b0 : (i 0).val < 16 := (i 0).isLt
  have b1 : (i 1).val < 8192 := (i 1).isLt
  have b2 : (i 2).val < 8192 := (i 2).isLt
  unfold Host.reduceWindow
  dsimp only
  rw [foldl_sum, hi, zero_add, ← sum_upto f _ b2]
  refine Eq.trans (congrArg List.sum (List.map_congr_left fun n _ => ?_))
    ((finRange_sum (N := W.numel) fun n => if 8191 ≤ (i 2).val + n then f ((i 2).val + n - 8191) else 0).trans (by rw [numelW]))
  obtain ⟨w0, w1, w2⟩ := symmW n
  have hn : n.val < 8192 := lt_of_lt_of_eq n.isLt numelW
  dsimp only
  split
  · next hin =>
    have h2 := hin 2
    change 8191 ≤ (i 2).val * 1 + (W.rowMajor.symm n 2).val ∧ (i 2).val * 1 + (W.rowMajor.symm n 2).val - 8191 < 8192 at h2
    rw [if_pos (by omega)]
    refine (hx _ ?_ ?_).trans ?_
    · show (i 0).val * 1 + (W.rowMajor.symm n 0).val - 0 = _
      omega
    · show (i 1).val * 1 + (W.rowMajor.symm n 1).val - 0 = _
      omega
    · show f ((i 2).val * 1 + (W.rowMajor.symm n 2).val - 8191) = _
      rw [w2, Nat.mul_one]
  · next hin =>
    rw [if_neg fun hlt => hin fun a => by
      match a with
      | ⟨0, _⟩ =>
        show 0 ≤ (i 0).val * 1 + (W.rowMajor.symm n 0).val ∧ (i 0).val * 1 + (W.rowMajor.symm n 0).val - 0 < 16
        omega
      | ⟨1, _⟩ =>
        show 0 ≤ (i 1).val * 1 + (W.rowMajor.symm n 1).val ∧ (i 1).val * 1 + (W.rowMajor.symm n 1).val - 0 < 8192
        omega
      | ⟨2, _⟩ =>
        show 8191 ≤ (i 2).val * 1 + (W.rowMajor.symm n 2).val ∧ (i 2).val * 1 + (W.rowMajor.symm n 2).val - 8191 < 8192
        omega]

end Cert.AttnIdeal.Run

end
-- ==== Proof.AttnRefVal.lean ====
/-
  The reference of the attention's gradient read over the reals: each of its arrays as a function of the arguments' entries.
-/
module

public import proofs.«01_k».proof.Proof.AttnSum
public import proofs.«01_k».proof.Proof.Gen.AttnRefIdeal.Read

@[expose] public section

set_option maxRecDepth 16384

noncomputable section

open Idealize.ShloMosaic Idealize.ShloMosaic.ValueIdx Finset

namespace Cert.AttnRefIdeal.Reals

open Cert.AttnRefIdeal Cert.AttnRefIdeal.Gen Cert.AttnRefIdeal.Read Cert.AttnIdeal.Run

/-- The softplus of a real. -/
def spl (x : ℝ) : ℝ := max x 0 + Real.log (1 + Real.exp (0 - max x (-x)))

theorem spl_neg (x : ℝ) : spl (-x) = spl x - x := by
  unfold spl
  rw [neg_neg, max_comm (-x) x]
  rcases le_total x 0 with h | h
  · rw [max_eq_left (by linarith : (0 : ℝ) ≤ -x), max_eq_right h]; ring
  · rw [max_eq_right (by linarith : -x ≤ (0 : ℝ)), max_eq_left h]; ring

theorem zero_val : FloatOps.ofBits (F := Ideal) .f32 0x00000000#32 = (0 : EReal) := Ideal.ofBits_zero_f32

theorem inf_val : FloatOps.ofBits (F := Ideal) .f32 0x7F800000#32 = (⊤ : EReal) := by
  show Ideal.ofBits .f32 0x7F800000#32 = _
  simp [Ideal.ofBits, Ideal.ieee]

theorem softplus_val (x : Ideal .f32) (r : ℝ) (h : x = ((r : ℝ) : EReal)) :
    Scalar.select (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32)) (FloatOps.hostUnary .log1p (FloatOps.hostUnary .exp
        (FloatOps.hostNegf (FloatOps.hostAbsf (FloatOps.subf x (FloatOps.ofBits .f32 0x00000000#32))))))) = ((spl r : ℝ) : EReal) := by
  rw [zero_val]
  subst h
  have c : ∀ y : EReal, Ideal.cmp .une y y = 0#1 := fun y => by simp [Ideal.cmp]
  show Scalar.select (Ideal.cmp .une (((r : ℝ) : EReal) - 0) (((r : ℝ) : EReal) - 0)) (((r : ℝ) : EReal) + 0)
    (max ((r : ℝ) : EReal) 0 + Ideal.log (1 + Ideal.exp (-(max (((r : ℝ) : EReal) - 0) (-(((r : ℝ) : EReal) - 0)))))) = _
  rw [c]
  show max ((r : ℝ) : EReal) 0 + Ideal.log (1 + Ideal.exp (-(max (((r : ℝ) : EReal) - 0) (-(((r : ℝ) : EReal) - 0))))) = _
  rw [← EReal.coe_zero, ← EReal.coe_sub, sub_zero, ← EReal.coe_neg, coe_max, coe_max, ← EReal.coe_neg, Ideal.exp_coe, ← EReal.coe_one, ← EReal.coe_add,
    Ideal.log_coe, if_neg (not_le.2 (by positivity)), ← EReal.coe_add]
  unfold spl
  rw [zero_sub]

/-- The guard against an infinite argument does nothing on reals. -/
theorem finite_val (x y : Ideal .f32) (r : ℝ) (h : x = ((r : ℝ) : EReal)) :
    Scalar.select (FloatOps.cmpf .oeq x (FloatOps.ofBits .f32 0x7F800000#32)) y x = ((r : ℝ) : EReal) := by
  rw [inf_val]
  subst h
  have c : Ideal.cmp .oeq ((r : ℝ) : EReal) ⊤ = 0#1 := by simp [Ideal.cmp]
  show Scalar.select (Ideal.cmp .oeq ((r : ℝ) : EReal) ⊤) y ((r : ℝ) : EReal) = _
  rw [c]
  rfl

theorem call0_sp (x0 : (⟨S8192x3072, .bf16⟩ : BufTy).Contents (Elt Ideal)) (i : S16x8192x8192.Idx) (r : ℝ)
    (h : val_main_call0_v0 (F := Ideal) x0 i = ((r : ℝ) : EReal)) : val_main_call0_v1_0 (F := Ideal) x0 i = ((spl r : ℝ) : EReal) := by
  simp only [val_main_call0_v1_0_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply]
  exact softplus_val _ r h

theorem call0_grad (x0 : (⟨S8192x3072, .bf16⟩ : BufTy).Contents (Elt Ideal)) (i : S16x8192x8192.Idx) (r : ℝ)
    (h : val_main_call0_v0 (F := Ideal) x0 i = ((r : ℝ) : EReal)) : val_main_call0_call0_v21 (F := Ideal) x0 i = ((r - spl r : ℝ) : EReal) := by
  rw [val_main_call0_call0_v21_apply, val_main_call0_call0_v16_apply, val_main_call0_call0_v20_apply, val_main_call0_call0_v14_apply,
    val_main_call0_call0_v18_apply, val_main_call0_call0_v13_apply, val_main_call0_call0_v17_apply, val_main_call0_call0_cst_0_apply,
    val_main_call0_call0_cst_2_apply, finite_val _ _ r h, finite_val _ _ _ (call0_sp x0 i r h)]
  exact (EReal.coe_sub _ _).symm

theorem call1_sp (x0 : (⟨S8192x3072, .bf16⟩ : BufTy).Contents (Elt Ideal)) (i : S16x8192x8192.Idx) (r : ℝ)
    (h : val_main_call1_v0 (F := Ideal) x0 i = ((r : ℝ) : EReal)) : val_main_call1_v1_0 (F := Ideal) x0 i = ((spl r : ℝ) : EReal) := by
  simp only [val_main_call1_v1_0_apply, val_main_call1_call0_v11_apply, val_main_call1_call0_v10_apply, val_main_call1_call0_v9_apply,
    val_main_call1_call0_v8_apply, val_main_call1_call0_v7_apply, val_main_call1_call0_v6_apply, val_main_call1_call0_v5_apply,
    val_main_call1_call0_v4_apply, val_main_call1_call0_v3_apply, val_main_call1_call0_v2_apply, val_main_call1_call0_v1_apply,
    val_main_call1_call0_v0_apply, val_main_call1_call0_cst_apply]
  exact softplus_val _ r h

theorem call1_grad (x0 : (⟨S8192x3072, .bf16⟩ : BufTy).Contents (Elt Ideal)) (i : S16x8192x8192.Idx) (r : ℝ)
    (h : val_main_call1_v0 (F := Ideal) x0 i = ((r : ℝ) : EReal)) : val_main_call1_call0_v21 (F := Ideal) x0 i = ((r - spl r : ℝ) : EReal) := by
  rw [val_main_call1_call0_v21_apply, val_main_call1_call0_v16_apply, val_main_call1_call0_v20_apply, val_main_call1_call0_v14_apply,
    val_main_call1_call0_v18_apply, val_main_call1_call0_v13_apply, val_main_call1_call0_v17_apply, val_main_call1_call0_cst_0_apply,
    val_main_call1_call0_cst_2_apply, finite_val _ _ r h, finite_val _ _ _ (call1_sp x0 i r h)]
  exact (EReal.coe_sub _ _).symm

theorem mask_val (i : S16x8192x8192.Idx) (j : S8192x8192.Idx) (h0 : (j 0).val = (i 1).val) (h1 : (j 1).val = (i 2).val) (a b : EReal) :
    Scalar.select (val_main_v19 (F := Ideal) j) a b = if (i 2).val < (i 1).val then a else b := by
  have b1 : (i 1).val < 8192 := (i 1).isLt
  have b2 : (i 2).val < 8192 := (i 2).isLt
  rw [val_main_v19_apply, val_main_v17_apply, val_main_v14_apply, val_main_v13_apply, val_main_v18_apply, val_main_v16_apply, val_main_v15_apply]
  show Scalar.select (IntOp.cmpi CmpIPredicate.slt (BitVec.ofNat 32 (j 1).val) (BitVec.ofNat 32 (j 0).val)) a b = _
  rw [h0, h1, WordCmp.cmpi_slt_ofNat (by omega) (by omega)]
  by_cases h : (i 2).val < (i 1).val <;> simp [h] <;> rfl

theorem mask23 (i : S16x8192x8192.Idx) (a b : EReal) :
    Scalar.select (val_main_v23_1 (F := Ideal) i) a b = if (i 2).val < (i 1).val then a else b := by
  rw [val_main_v23_1_apply]
  exact mask_val i _ rfl rfl a b

theorem mask28 (i : S16x8192x8192.Idx) (a b : EReal) :
    Scalar.select (val_main_v28_1 (F := Ideal) i) a b = if (i 2).val < (i 1).val then a else b := by
  rw [val_main_v28_1_apply]
  exact mask_val i _ rfl rfl a b

section

variable (X D : ℕ → ℕ → ℝ)

abbrev ax : (⟨S8192x3072, .bf16⟩ : BufTy).Contents (Elt Ideal) := A (s0 := 8192) (s1 := 3072) (φ := .bf16) X
abbrev ad : (⟨S8192x1024, .bf16⟩ : BufTy).Contents (Elt Ideal) := A (s0 := 8192) (s1 := 1024) (φ := .bf16) D

theorem q_val (i : S16x8192x64.Idx) : val_main_v5 (F := Ideal) (ax X) i = ((X (i 1).val (64 * (i 0).val + (i 2).val) : ℝ) : EReal) := by
  have b0 : (i 0).val < 16 := (i 0).isLt
  have b1 : (i 1).val < 8192 := (i 1).isLt
  have b2 : (i 2).val < 64 := (i 2).isLt
  rw [val_main_v5_apply, val_main_v4_apply, val_main_v1_apply, val_main_v0_apply]
  refine congrArg₂ (fun a b => ((X a b : ℝ) : EReal)) (?_ : (((i 1).val * 16 + (i 0).val) * 64 + (i 2).val) / 1024 = _)
    (?_ : (((i 1).val * 16 + (i 0).val) * 64 + (i 2).val) % 1024 = _) <;> omega

theorem k_val (i : S16x8192x64.Idx) : val_main_v7 (F := Ideal) (ax X) i = ((X (i 1).val (1024 + 64 * (i 0).val + (i 2).val) : ℝ) : EReal) := by
  have b0 : (i 0).val < 16 := (i 0).isLt
  have b1 : (i 1).val < 8192 := (i 1).isLt
  have b2 : (i 2).val < 64 := (i 2).isLt
  rw [val_main_v7_apply, val_main_v6_apply, val_main_v2_apply, val_main_v0_apply]
  refine congrArg₂ (fun a b => ((X a b : ℝ) : EReal)) (?_ : (((i 1).val * 16 + (i 0).val) * 64 + (i 2).val) / 1024 = _)
    (?_ : 1024 + (((i 1).val * 16 + (i 0).val) * 64 + (i 2).val) % 1024 = _) <;> omega

theorem v_val (i : S16x8192x64.Idx) : val_main_v9 (F := Ideal) (ax X) i = ((X (i 1).val (2048 + 64 * (i 0).val + (i 2).val) : ℝ) : EReal) := by
  have b0 : (i 0).val < 16 := (i 0).isLt
  have b1 : (i 1).val < 8192 := (i 1).isLt
  have b2 : (i 2).val < 64 := (i 2).isLt
  rw [val_main_v9_apply, val_main_v8_apply, val_main_v3_apply, val_main_v0_apply]
  refine congrArg₂ (fun a b => ((X a b : ℝ) : EReal)) (?_ : (((i 1).val * 16 + (i 0).val) * 64 + (i 2).val) / 1024 = _)
    (?_ : 2048 + (((i 1).val * 16 + (i 0).val) * 64 + (i 2).val) % 1024 = _) <;> omega

theorem d_val (i : S16x8192x64.Idx) : val_main_v34 (F := Ideal) (ad D) i = ((D (i 1).val (64 * (i 0).val + (i 2).val) : ℝ) : EReal) := by
  have b0 : (i 0).val < 16 := (i 0).isLt
  have b1 : (i 1).val < 8192 := (i 1).isLt
  have b2 : (i 2).val < 64 := (i 2).isLt
  rw [val_main_v34_apply, val_main_v33_apply, val_main_v32_apply]
  refine congrArg₂ (fun a b => ((D a b : ℝ) : EReal)) (?_ : (((i 1).val * 16 + (i 0).val) * 64 + (i 2).val) / 1024 = _)
    (?_ : (((i 1).val * 16 + (i 0).val) * 64 + (i 2).val) % 1024 = _) <;> omega

/-- A sum of products of reals. -/
theorem sum_val {N : ℕ} (f g : ℕ → ℝ) : ∑ k : Fin N, ((f k.val : ℝ) : EReal) * ((g k.val : ℝ) : EReal) = ((∑ k ∈ range N, f k * g k : ℝ) : EReal) := by
  rw [Finset.sum_range, ← coe_sum]
  exact Finset.sum_congr rfl fun k _ => (EReal.coe_mul _ _).symm

variable (i : S16x8192x8192.Idx)

theorem z_val : val_main_v12 (F := Ideal) (ax X) i = ((Hd.z (rh X D (i 0).val) (i 1).val (i 2).val : ℝ) : EReal) := by
  rw [val_main_v12_apply, val_main_v10_apply, val_main_v11_apply, val_main_cst_apply,
    Finset.sum_congr rfl fun k _ => by rw [q_val, k_val]]
  have e := sum_val (N := 64) (fun k => X (i 1).val (64 * (i 0).val + k)) fun k => X (i 2).val (1024 + 64 * (i 0).val + k)
  refine (congrArg₂ (fun a b : EReal => a * b) e eighth).trans ?_
  rw [← EReal.coe_mul]
  exact congrArg (fun a : ℝ => ((a * (1 / 8) : ℝ) : EReal)) (sum_lo _ _).symm

theorem o_val : val_main_v37 (F := Ideal) (ax X) (ad D) i = ((Hd.o (rh X D (i 0).val) (i 1).val (i 2).val : ℝ) : EReal) := by
  rw [val_main_v37_apply, Finset.sum_congr rfl fun k _ => by rw [d_val, v_val]]
  have e := sum_val (N := 64) (fun k => D (i 1).val (64 * (i 0).val + k)) fun k => X (i 2).val (2048 + 64 * (i 0).val + k)
  exact e.trans (congrArg (fun a : ℝ => ((a : ℝ) : EReal)) (sum_lo _ _).symm)

theorem neg_z_val : val_main_call0_v0 (F := Ideal) (ax X) i = ((-(Hd.z (rh X D (i 0).val) (i 1).val (i 2).val) : ℝ) : EReal) := by
  rw [val_main_call0_v0_apply, z_val X D i]
  exact (EReal.coe_neg _).symm

theorem pos_z_val : val_main_call1_v0 (F := Ideal) (ax X) i = ((Hd.z (rh X D (i 0).val) (i 1).val (i 2).val : ℝ) : EReal) := by
  rw [val_main_call1_v0_apply, val_main_v21_apply, z_val X D i]
  exact neg_neg _

theorem lb_val : val_main_v20_0 (F := Ideal) (ax X) i = ((Hd.lb (rh X D (i 0).val) (i 1).val (i 2).val : ℝ) : EReal) := by
  rw [val_main_v20_0_apply, call0_sp _ _ _ (neg_z_val X D i)]
  refine (EReal.coe_neg _).symm.trans (congrArg (fun a : ℝ => ((a : ℝ) : EReal)) ?_)
  rw [spl_neg]
  unfold Hd.lb Hd.sp spl
  ring

theorem lk_val : val_main_v23_0 (F := Ideal) (ax X) i = ((Hd.lk (rh X D (i 0).val) (i 1).val (i 2).val : ℝ) : EReal) := by
  rw [val_main_v23_0_apply, mask23, val_main_v22_0_apply, call1_sp _ _ _ (pos_z_val X D i), val_main_call2_v2_apply, val_main_call2_v0_apply,
    val_main_cst_0_apply, zero_val]
  unfold Hd.lk
  split
  · refine (EReal.coe_neg _).symm.trans (congrArg (fun a : ℝ => ((a : ℝ) : EReal)) ?_)
    rw [zero_sub]
    rfl
  · exact EReal.coe_zero.symm

theorem exp_lb_val : val_main_v22_1 (F := Ideal) (ax X) i = ((Real.exp (Hd.lb (rh X D (i 0).val) (i 1).val (i 2).val) : ℝ) : EReal) := by
  rw [val_main_v22_1_apply, call1_grad _ _ _ (pos_z_val X D i)]
  rfl

theorem exp_lk_val : val_main_v20_1 (F := Ideal) (ax X) i = ((Real.exp (0 - Hd.sp (rh X D (i 0).val) (i 1).val (i 2).val) : ℝ) : EReal) := by
  rw [val_main_v20_1_apply, call0_grad _ _ _ (neg_z_val X D i)]
  refine congrArg (fun a : ℝ => ((Real.exp a : ℝ) : EReal)) ?_
  rw [spl_neg]
  unfold Hd.sp spl
  ring

theorem later_val : val_main_v25 (F := Ideal) (ax X) i = ((∑ j ∈ Ico ((i 2).val + 1) 8192, Hd.lk (rh X D (i 0).val) (i 1).val j : ℝ) : EReal) := by
  have b2 : (i 2).val < 8192 := (i 2).isLt
  have e : val_main_v24 (F := Ideal) (ax X) i = ((∑ j ∈ Ico (i 2).val 8192, Hd.lk (rh X D (i 0).val) (i 1).val j : ℝ) : EReal) := by
    unfold val_main_v24
    rw [windowAdd]
    refine Eq.trans ?_ (coe_sum _ _)
    exact window_from (val_main_v23_0 (F := Ideal) (ax X)) (fun j => ((Hd.lk (rh X D (i 0).val) (i 1).val j : ℝ) : EReal)) i (fun j h0 h1 => by rw [lk_val X D j, h0, h1])
      (val_main_call3_v0 (F := Ideal)) (fun k => by rw [val_main_call3_v0_apply, val_main_call3_cst_apply]; exact zero_val) _ _
  rw [val_main_v25_apply, e, lk_val X D i, Finset.sum_eq_sum_Ico_succ_bot b2]
  refine (EReal.coe_sub _ _).symm.trans (congrArg (fun a : ℝ => ((a : ℝ) : EReal)) ?_)
  ring

theorem exp_val : val_main_v27 (F := Ideal) (ax X) i
    = ((Real.exp (Hd.lb (rh X D (i 0).val) (i 1).val (i 2).val + ∑ j ∈ Ico ((i 2).val + 1) 8192, Hd.lk (rh X D (i 0).val) (i 1).val j) : ℝ) : EReal) := by
  rw [val_main_v27_apply, val_main_v26_apply, lb_val X D i, later_val X D i]
  exact congrArg Ideal.exp (EReal.coe_add _ _).symm

theorem w_val : val_main_v28_0 (F := Ideal) (ax X) i = ((Hd.w (rh X D (i 0).val) (i 1).val (i 2).val : ℝ) : EReal) := by
  rw [val_main_v28_0_apply, mask28, exp_val X D i, val_main_call4_v2_apply, val_main_call4_v0_apply, val_main_cst_1_apply, zero_val]
  unfold Hd.w
  split
  · rfl
  · exact EReal.coe_zero.symm

theorem de_val : val_main_v39 (F := Ideal) (ax X) (ad D) i = ((Hd.de (rh X D (i 0).val) (i 1).val (i 2).val : ℝ) : EReal) := by
  rw [val_main_v39_apply, val_main_v38_apply, mask28, exp_val X D i, o_val X D i, val_main_call5_v0_apply, val_main_call5_cst_apply, zero_val]
  unfold Hd.de Hd.w
  split
  · exact (EReal.coe_mul _ _).symm
  · rw [mul_zero]
    exact zero_mul _

theorem before_val : val_main_v42 (F := Ideal) (ax X) (ad D) i = ((∑ j ∈ range (i 2).val, Hd.de (rh X D (i 0).val) (i 1).val j : ℝ) : EReal) := by
  have b2 : (i 2).val < 8192 := (i 2).isLt
  have e : val_main_v41 (F := Ideal) (ax X) (ad D) i = ((∑ j ∈ range ((i 2).val + 1), Hd.de (rh X D (i 0).val) (i 1).val j : ℝ) : EReal) := by
    unfold val_main_v41
    rw [windowAdd]
    refine Eq.trans ?_ (coe_sum _ _)
    exact window_upto (val_main_v39 (F := Ideal) (ax X) (ad D)) (fun j => ((Hd.de (rh X D (i 0).val) (i 1).val j : ℝ) : EReal)) i (fun j h0 h1 => by rw [de_val X D j, h0, h1])
      (val_main_call6_v0 (F := Ideal)) (fun k => by rw [val_main_call6_v0_apply, val_main_call6_cst_apply]; exact zero_val) _ _
  rw [val_main_v42_apply, e, val_main_v40_apply, de_val X D i, Finset.sum_range_succ]
  show -((Hd.de (rh X D (i 0).val) (i 1).val (i 2).val : ℝ) : EReal) + _ = _
  rw [← EReal.coe_neg, ← EReal.coe_add]
  refine congrArg (fun a : ℝ => ((a : ℝ) : EReal)) ?_
  ring

theorem dz_val : val_main_v49 (F := Ideal) (ax X) (ad D) i = ((Hd.dz (rh X D (i 0).val) (i 1).val (i 2).val : ℝ) : EReal) := by
  rw [val_main_v49_apply, val_main_v47_apply, val_main_v45_apply, val_main_v44_apply, val_main_call8_v1_apply, val_main_call8_v0_apply,
    val_main_v43_apply, mask23, before_val X D i, val_main_call7_v0_apply, val_main_call7_cst_apply, zero_val, exp_lb_val X D i,
    val_main_v46_apply, val_main_call9_v1_apply, val_main_call9_v0_apply, de_val X D i, exp_lk_val X D i, val_main_v48_apply, val_main_cst_2_apply]
  have e : (if (i 2).val < (i 1).val then ((∑ j ∈ range (i 2).val, Hd.de (rh X D (i 0).val) (i 1).val j : ℝ) : EReal) else 0)
      = (((if (i 2).val < (i 1).val then ∑ j ∈ range (i 2).val, Hd.de (rh X D (i 0).val) (i 1).val j else 0 : ℝ)) : EReal) := by
    split
    · rfl
    · exact EReal.coe_zero.symm
  rw [e]
  refine (congrArg (fun b : EReal => (-(-(-((((if (i 2).val < (i 1).val then ∑ j ∈ range (i 2).val, Hd.de (rh X D (i 0).val) (i 1).val j else 0 : ℝ)) : EReal)) *
      ((Real.exp (Hd.lb (rh X D (i 0).val) (i 1).val (i 2).val) : ℝ) : EReal)))
    + -(-((Hd.de (rh X D (i 0).val) (i 1).val (i 2).val : ℝ) : EReal) * ((Real.exp (0 - Hd.sp (rh X D (i 0).val) (i 1).val (i 2).val) : ℝ) : EReal))) * b) eighth).trans ?_
  simp only [← EReal.coe_neg, ← EReal.coe_mul, ← EReal.coe_add]
  refine congrArg (fun a : ℝ => ((a : ℝ) : EReal)) ?_
  unfold Hd.dz
  refine congrArg (· * (1 / 8 : ℝ)) ?_
  by_cases h : (i 2).val < (i 1).val
  · rw [if_pos h, if_pos h]
    have k : Hd.lk (rh X D (i 0).val) (i 1).val (i 2).val = 0 - Hd.sp (rh X D (i 0).val) (i 1).val (i 2).val := if_pos h
    rw [k]
    ring
  · rw [if_neg h, if_neg h, de_zero _ _ _ (not_lt.1 h)]
    ring

end

variable (a : Args) (c : Dev nD)

theorem dv_val : val_main_v53 (F := Ideal) (ax (a.X c)) (ad (a.D c)) = A (s0 := 8192) (s1 := 1024) (φ := .f32) (a.gv c) := by
  funext i
  have b0 : (i 0).val < 8192 := (i 0).isLt
  have b1 : (i 1).val < 1024 := (i 1).isLt
  rw [val_main_v53_apply, val_main_v52_apply, val_main_v36_apply, val_main_v35_apply,
    Finset.sum_congr rfl fun k _ => by rw [d_val, w_val (a.X c) (a.D c), mul_comm]]
  show _ = ((a.gv c (i 0).val (i 1).val : ℝ) : EReal)
  rw [gv_eq, ← sum_val (N := 8192)]
  refine Finset.sum_congr rfl fun k _ => ?_
  refine congrArg₂ (fun x y : ℝ => ((x : ℝ) : EReal) * ((y : ℝ) : EReal)) ?_ ?_
  · show (rh (a.X c) (a.D c) (((i 0).val * 1024 + (i 1).val) / 64 % 16)).w k.val (((i 0).val * 1024 + (i 1).val) / 1024) = _
    rw [show ((i 0).val * 1024 + (i 1).val) / 64 % 16 = (i 1).val / 64 by omega, show ((i 0).val * 1024 + (i 1).val) / 1024 = (i 0).val by omega]
  · show a.D c k.val (64 * (((i 0).val * 1024 + (i 1).val) / 64 % 16) + ((i 0).val * 1024 + (i 1).val) % 64) = _
    exact congrArg _ (by omega)

theorem dk_val : val_main_v55 (F := Ideal) (ax (a.X c)) (ad (a.D c)) = A (s0 := 8192) (s1 := 1024) (φ := .f32) (a.gk c) := by
  funext i
  have b0 : (i 0).val < 8192 := (i 0).isLt
  have b1 : (i 1).val < 1024 := (i 1).isLt
  rw [val_main_v55_apply, val_main_v54_apply, val_main_v50_apply, Finset.sum_congr rfl fun k _ => by rw [dz_val (a.X c) (a.D c), q_val]]
  show _ = ((a.gk c (i 0).val (i 1).val : ℝ) : EReal)
  rw [gk_eq, ← sum_val (N := 8192)]
  refine Finset.sum_congr rfl fun k _ => ?_
  refine congrArg₂ (fun x y : ℝ => ((x : ℝ) : EReal) * ((y : ℝ) : EReal)) ?_ ?_
  · show (rh (a.X c) (a.D c) (((i 0).val * 1024 + (i 1).val) / 64 % 16)).dz k.val (((i 0).val * 1024 + (i 1).val) / 1024) = _
    rw [show ((i 0).val * 1024 + (i 1).val) / 64 % 16 = (i 1).val / 64 by omega, show ((i 0).val * 1024 + (i 1).val) / 1024 = (i 0).val by omega]
  · show a.X c k.val (64 * (((i 0).val * 1024 + (i 1).val) / 64 % 16) + ((i 0).val * 1024 + (i 1).val) % 64) = _
    exact congrArg _ (by omega)

theorem dq_val : val_main_v57 (F := Ideal) (ax (a.X c)) (ad (a.D c)) = A (s0 := 8192) (s1 := 1024) (φ := .f32) (a.gq c) := by
  funext i
  have b0 : (i 0).val < 8192 := (i 0).isLt
  have b1 : (i 1).val < 1024 := (i 1).isLt
  rw [val_main_v57_apply, val_main_v56_apply, val_main_v51_apply, Finset.sum_congr rfl fun k _ => by rw [dz_val (a.X c) (a.D c), k_val]]
  show _ = ((a.gq c (i 0).val (i 1).val : ℝ) : EReal)
  rw [gq_eq, ← sum_val (N := 8192)]
  refine Finset.sum_congr rfl fun k _ => ?_
  refine congrArg₂ (fun x y : ℝ => ((x : ℝ) : EReal) * ((y : ℝ) : EReal)) ?_ ?_
  · show (rh (a.X c) (a.D c) (((i 0).val * 1024 + (i 1).val) / 64 % 16)).dz (((i 0).val * 1024 + (i 1).val) / 1024) k.val = _
    rw [show ((i 0).val * 1024 + (i 1).val) / 64 % 16 = (i 1).val / 64 by omega, show ((i 0).val * 1024 + (i 1).val) / 1024 = (i 0).val by omega]
  · show a.X c k.val (1024 + 64 * (((i 0).val * 1024 + (i 1).val) / 64 % 16) + ((i 0).val * 1024 + (i 1).val) % 64) = _
    exact congrArg _ (by omega)

end Cert.AttnRefIdeal.Reals

end
-- ==== Proof.AttnAlg.lean ====
/-
  The attention's gradient under finite arguments: kernel and reference end with equal results.
-/
module

public import proofs.«01_k».proof.Proof.AttnRefVal
public import proofs.«01_k».proof.Proof.AttnBits
public import proofs.«01_k».proof.Proof.Gen.Pre_finite
public import Idealize.ShloMosaic.Adequacy

@[expose] public section

set_option maxRecDepth 16384

noncomputable section

namespace Cert.AttnIdeal.Run

open Cert.AttnIdeal Idealize.ShloMosaic Idealize.ShloMosaic.TcCoe Idealize.SL.Sem

theorem frame_attnIdeal_pre : Cert.quiescent_AttnIdeal_pre_finite := fun m ρ _ => frame (F := Ideal) m ρ
theorem frame_attnRef_pre : Cert.quiescent_AttnRefIdeal_pre_finite := fun m ρ _ => frame_attnRef m ρ trivial

/-- An entry below infinity in absolute value is a real. -/
theorem real_of_lt (x : EReal) (h : Ideal.cmp .olt (max x (-x)) ⊤ = 1#1) : x = ((x.toReal : ℝ) : EReal) := by
  have l : max x (-x) < ⊤ := by
    by_contra n
    simp [Ideal.cmp, n] at h
  refine (EReal.coe_toReal (fun e => ?_) (fun e => ?_)).symm
  · rw [e] at l; simp at l
  · rw [e] at l; simp at l

/-- The array of the real entries of a finite array. -/
def entries {s0 s1 : ℕ} (x : (⟨2, ![s0, s1]⟩ : Shape).Idx → EReal) (t l : ℕ) : ℝ :=
  if h : t < s0 ∧ l < s1 then (x (ix2 ⟨t, h.1⟩ ⟨l, h.2⟩)).toReal else 0

theorem entries_eq {s0 s1 : ℕ} {φ : FTy} (x : (⟨2, ![s0, s1]⟩ : Shape).Idx → EReal)
    (h : ∀ i, Ideal.cmp .olt (max (x i) (-x i)) ⊤ = 1#1) : x = A (φ := φ) (entries x) := by
  funext i
  have h0 : (i 0).val < s0 := (i 0).isLt
  have h1 : (i 1).val < s1 := (i 1).isLt
  show x i = ((entries x (i 0).val (i 1).val : ℝ) : EReal)
  unfold entries
  rw [dif_pos ⟨h0, h1⟩, show (ix2 ⟨(i 0).val, h0⟩ ⟨(i 1).val, h1⟩ : (⟨2, ![s0, s1]⟩ : Shape).Idx) = i from (ValueIdx.eq_ix2 i).symm]
  exact real_of_lt _ (h i)

theorem args_is (m : (ℓ : Loc nD τ sig) → Buf (Elt Ideal) ℓ) (H : Cert.Pre_AttnIdeal_finite m) : ∃ a : Args, a.Is m := by
  refine ⟨⟨fun c => entries (s0 := 8192) (s1 := 3072) (m (c.tc.loc main_arg0)), fun c => entries (s0 := 8192) (s1 := 1024) (m (c.tc.loc main_arg1))⟩,
    fun c => ?_, fun c => ?_⟩
  · refine entries_eq _ fun i => ?_
    have e := congrFun (H c).1 i
    rw [← Cert.AttnRefIdeal.Reals.inf_val]
    exact e
  · refine entries_eq _ fun i => ?_
    have e := congrFun (H c).2 i
    rw [← Cert.AttnRefIdeal.Reals.inf_val]
    exact e

theorem algebraic : Cert.algebraic_AttnIdeal_AttnRefIdeal_pre_finite := by
  intro m ρ m' ρ' hpre hagree
  obtain ⟨a, H⟩ := args_is m hpre
  refine ⟨fun c => (A (s0 := 8192) (s1 := 1024) (φ := .f32) (a.gq c) : S8192x1024.Idx → EReal),
    fun c => (A (s0 := 8192) (s1 := 1024) (φ := .f32) (a.gk c) : S8192x1024.Idx → EReal),
    fun c => (A (s0 := 8192) (s1 := 1024) (φ := .f32) (a.gv c) : S8192x1024.Idx → EReal),
    (θ_run defs _ _).mono (fun r h c => h.1 c) (run m ρ a H), ?_⟩
  refine (θ_run Cert.AttnRefIdeal.defs _ _).mono (fun r h c => ⟨(h c).1.trans ?_, (h c).2.1.trans ?_, (h c).2.2.1.trans ?_, (h c).2.2.2⟩)
    (Cert.AttnRefIdeal.Value.run (F := Ideal) m' ρ')
  · refine (Cert.AttnRefIdeal.Read.val_main_v57_eq _ _).trans ?_
    rw [(hagree c).1, (hagree c).2]
    exact (congrArg₂ (Cert.AttnRefIdeal.Read.val_main_v57 (F := Ideal)) (H.x c) (H.d c)).trans (Cert.AttnRefIdeal.Reals.dq_val a c)
  · refine (Cert.AttnRefIdeal.Read.val_main_v55_eq _ _).trans ?_
    rw [(hagree c).1, (hagree c).2]
    exact (congrArg₂ (Cert.AttnRefIdeal.Read.val_main_v55 (F := Ideal)) (H.x c) (H.d c)).trans (Cert.AttnRefIdeal.Reals.dk_val a c)
  · refine (Cert.AttnRefIdeal.Read.val_main_v53_eq _ _).trans ?_
    rw [(hagree c).1, (hagree c).2]
    exact (congrArg₂ (Cert.AttnRefIdeal.Read.val_main_v53 (F := Ideal)) (H.x c) (H.d c)).trans (Cert.AttnRefIdeal.Reals.dv_val a c)

end Cert.AttnIdeal.Run

end
-- ==== Proof.FattModel.lean ====
/-
  The attention kernel as functions of the values in its buffers: what a grid point writes, and its walk as a recursion on
  the tiles left.
-/
module

public import proofs.«01_k».proof.Proof.Gen.FattIdeal.Skeleton
public import proofs.«01_k».proof.Proof.AttnModel

@[expose] public section

noncomputable section

namespace Cert.FattIdeal.Run

open Cert.FattIdeal Cert.FattIdeal.Gen
open Cert.AttnIdeal.Run (lt_of_test toNat_addi toNat_addi_le ofNat_toNat64)
open Idealize.ShloMosaic

variable {F : FTy → Type} [FloatOps F] [Named F]

/-- The point of the first column group at the row's tile `n`. -/
def pt (n : Fin 64) : grid0.Coords := fun a => match a with | ⟨0, _⟩ => (0 : Fin 2) | ⟨1, _⟩ => n

theorem chk1_all : ∀ n : Fin 64, ∀ j : Fin 64, j.val < n.val → k0_chk1 (pt n) (BitVec.ofNat 32 j.val) := by
  decide +kernel

theorem chk1_of_lt (i : grid0.Coords) (x : BitVec 32) (h : x.toNat < (i 1).val) : k0_chk1 i x := by
  have := chk1_all (i 1) ⟨x.toNat, lt_trans h (i 1).isLt⟩ h
  rw [← ofNat_toNat64 x (i 1) h] at this
  exact this

/-- The values the walk is called with: the point, the keys and values, the triangle, the heads' queries, the counter, and
    each head's row sums and output. -/
structure FC (F : FTy → Type) where
  i : grid0.Coords
  X3 : S8192x512.Idx → Elt F .bf16
  X4 : S8192x512.Idx → Elt F .bf16
  m : FVec F S128x128 .bf16
  q : Fin 8 → FVec F S128x128 .bf16
  x : BitVec 32
  c : Fin 8 → FVec F S128x1 .f32
  a : Fin 8 → FVec F S128x128 .f32
  hx : x.toNat ≤ (i 1).val

namespace FC

/-- The test of the walk: the counter below the row's tile, and some row not yet at the floor. -/
def test (c : FC F) : Prop :=
  Scalar.andi (Scalar.cmpi .slt c.x (BitVec.ofNat 32 (c.i 1).val))
    (Scalar.cmpf .ogt (k0_pay7 (c.c 0) (c.c 1) (c.c 2) (c.c 3) (c.c 4) (c.c 5) (c.c 6) (c.c 7)) (Named.named κ "floor" 0xC2D00000#32)) = 1#1

variable (c : FC F)

theorem lt (h : c.test) : c.x.toNat < (c.i 1).val := lt_of_test _ (c.i 1) _ c.hx h
theorem chk (h : c.test) : k0_chk1 c.i c.x := chk1_of_lt _ _ (c.lt h)

/-- The pair of heads' columns of the walk's tile. -/
def tile (h : c.test) (X : S8192x512.Idx → Elt F .bf16) : Fin 4 → Vec F S128x128 .bf16 :=
  ![Cert.Own.pick (Rect.unit (s := S8192x512) (k0_off5 c.i c.x) S128x128.size (k0_off5_inb c.i c.x (c.chk h))) X,
    Cert.Own.pick (Rect.unit (s := S8192x512) (k0_off6 c.i c.x) S128x128.size (k0_off6_inb c.i c.x (c.chk h))) X,
    Cert.Own.pick (Rect.unit (s := S8192x512) (k0_off7 c.i c.x) S128x128.size (k0_off7_inb c.i c.x (c.chk h))) X,
    Cert.Own.pick (Rect.unit (s := S8192x512) (k0_off8 c.i c.x) S128x128.size (k0_off8_inb c.i c.x (c.chk h))) X]

end FC

/-- A head's pair. -/
def half : Fin 8 → Fin 4 := ![0, 0, 1, 1, 2, 2, 3, 3]

namespace FC
variable (c : FC F)

/-- One trip. -/
def step (h : c.test) : FC F where
  i := c.i
  X3 := c.X3
  X4 := c.X4
  m := c.m
  q := c.q
  x := Scalar.addi c.x 1#32
  c j := k0_pay88 (c.q j) (c.c j) (c.tile h c.X3 (half j))
  a j := k0_pay87 (c.q j) c.m (c.c j) (c.a j) (c.tile h c.X3 (half j)) (c.tile h c.X4 (half j))
  hx := toNat_addi_le _ (c.i 1) (c.lt h)

theorem step_lt (h : c.test) : ((c.step h).i 1).val - (c.step h).x.toNat < (c.i 1).val - c.x.toNat := by
  have := c.lt h
  show (c.i 1).val - (Scalar.addi c.x 1#32).toNat < _
  rw [toNat_addi _ (c.i 1) this]; omega

/-- The walk's end. -/
def final (c : FC F) : FC F := open Classical in if h : c.test then (c.step h).final else c
termination_by (c.i 1).val - c.x.toNat
decreasing_by exact c.step_lt h

theorem final_pos (h : c.test) : c.final = (c.step h).final := by rw [final, dif_pos h]
theorem final_neg (h : ¬c.test) : c.final = c := by rw [final, dif_neg h]

/-- The trips left. -/
def left : ℕ := (c.i 1).val - c.x.toNat

end FC

/-- The values a grid point starts from. -/
structure FB (F : FTy → Type) where
  i : grid0.Coords
  X2 : S128x512.Idx → Elt F .bf16
  X3 : S8192x512.Idx → Elt F .bf16
  X4 : S8192x512.Idx → Elt F .bf16

namespace FB
variable (b : FB F)

/-- The pair of heads' columns of the point's rows. -/
def rows (X : S128x512.Idx → Elt F .bf16) : Fin 4 → Vec F S128x128 .bf16 :=
  ![Cert.Own.pick (Rect.unit (s := S128x512) ![0, 0] S128x128.size inb_S128x512_S128x128_0_0) X,
    Cert.Own.pick (Rect.unit (s := S128x512) ![0, 128] S128x128.size inb_S128x512_S128x128_0_128) X,
    Cert.Own.pick (Rect.unit (s := S128x512) ![0, 256] S128x128.size inb_S128x512_S128x128_0_256) X,
    Cert.Own.pick (Rect.unit (s := S128x512) ![0, 384] S128x128.size inb_S128x512_S128x128_0_384) X]

/-- The heads' queries. -/
def q : Fin 8 → FVec F S128x128 .bf16 :=
  ![k0_pay14 (rows b.X2 0), k0_pay15 (rows b.X2 0), k0_pay14 (rows b.X2 1), k0_pay15 (rows b.X2 1),
    k0_pay14 (rows b.X2 2), k0_pay15 (rows b.X2 2), k0_pay14 (rows b.X2 3), k0_pay15 (rows b.X2 3)]

/-- The pair of heads' columns of the diagonal tile. -/
def tile (X : S8192x512.Idx → Elt F .bf16) : Fin 4 → Vec F S128x128 .bf16 :=
  ![Cert.Own.pick (Rect.unit (s := S8192x512) (k0_off1 b.i) S128x128.size (k0_off1_inb b.i)) X,
    Cert.Own.pick (Rect.unit (s := S8192x512) (k0_off2 b.i) S128x128.size (k0_off2_inb b.i)) X,
    Cert.Own.pick (Rect.unit (s := S8192x512) (k0_off3 b.i) S128x128.size (k0_off3_inb b.i)) X,
    Cert.Own.pick (Rect.unit (s := S8192x512) (k0_off4 b.i) S128x128.size (k0_off4_inb b.i)) X]

/-- The walk's start, the diagonal tile done. -/
def w : FC F where
  i := b.i
  X3 := b.X3
  X4 := b.X4
  m := k0_pay28
  q := b.q
  x := 0#32
  c j := k0_pay36 (b.q j) k0_pay29 k0_pay30 (b.tile b.X3 (half j))
  a j := k0_pay35 (b.q j) k0_pay28 k0_pay29 k0_pay30 k0_pay31 (b.tile b.X3 (half j)) (b.tile b.X4 (half j))
  hx := Nat.zero_le _

/-- What the point writes. -/
def out (X : S128x512.Idx → Elt F .bf16) : S128x512.Idx → Elt F .bf16 :=
  (Rect.unit (s := S128x512) ![0, 384] S128x128.size inb_S128x512_S128x128_0_384).overlay
    ((Rect.unit (s := S128x512) ![0, 256] S128x128.size inb_S128x512_S128x128_0_256).overlay
      ((Rect.unit (s := S128x512) ![0, 128] S128x128.size inb_S128x512_S128x128_0_128).overlay
        ((Rect.unit (s := S128x512) ![0, 0] S128x128.size inb_S128x512_S128x128_0_0).overlay X
          (k0_pay3 k0_pay12 (b.w.final.a 0) (b.w.final.a 1)))
        (k0_pay3 k0_pay12 (b.w.final.a 2) (b.w.final.a 3)))
      (k0_pay3 k0_pay12 (b.w.final.a 4) (b.w.final.a 5)))
    (k0_pay3 k0_pay12 (b.w.final.a 6) (b.w.final.a 7))

end FB

end Cert.FattIdeal.Run

end
-- ==== Proof.FattWalk.lean ====
/-
  The attention kernel's walk, run to its end, and its body at a grid point.
-/
module

public import proofs.«01_k».proof.Proof.FattModel
public import proofs.«01_k».proof.Proof.Gen.FattIdeal.Launch
public import proofs.«01_k».proof.Proof.Gen.FattIdeal.Points
public import Idealize.ShloMosaic.Lib.Pipeline.Frame
public import Idealize.ShloMosaic.Lib.Pipeline.FrameBody
public import Idealize.ShloMosaic.Lib.Pipeline.FrameValue

@[expose] public section

noncomputable section

namespace Cert.FattIdeal.Run

open Cert.FattIdeal Cert.FattIdeal.Gen
open Cert.AttnIdeal.Run (𝒱₀)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (d : Dev nD) (E : Set ℕ) (q3 q4 : PosShare TreeShare) (arg3 : Memref sig .tc .vmem S8192x512 .bf16) (harg3 : arg3.IsWhole) (arg4 : Memref sig .tc .vmem S8192x512 .bf16) (harg4 : arg4.IsWhole)

/-- What a walk returns. -/
abbrev Ret (F : FTy → Type) [FloatOps F] : Type := BitVec 32 × FVec F S128x1 .f32 × FVec F S128x1 .f32 × FVec F S128x1 .f32 × FVec F S128x1 .f32 × FVec F S128x1 .f32 × FVec F S128x1 .f32 × FVec F S128x1 .f32 × FVec F S128x1 .f32 × FVec F S128x128 .f32 × FVec F S128x128 .f32 × FVec F S128x128 .f32 × FVec F S128x128 .f32 × FVec F S128x128 .f32 × FVec F S128x128 .f32 × FVec F S128x128 .f32 × FVec F S128x128 .f32
@[reducible] def ret (c : FC F) : Ret F := (c.x, c.c 0, c.c 1, c.c 2, c.c 3, c.c 4, c.c 5, c.c 6, c.c 7, c.a 0, c.a 1, c.a 2, c.a 3, c.a 4, c.a 5, c.a 6, c.a 7)

/-- The walk from `c`: it gives its buffers back and returns the values at the walk's end. -/
def spec (c : FC F) : sWPT 𝕄 (Ret F) := do
  sWPT.consume iprop(ownsTc d arg3 q3 c.X3 ∗ ownsTc d arg4 q4 c.X4)
  sWPT.produce iprop(ownsTc d arg3 q3 c.X3 ∗ ownsTc d arg4 q4 c.X4)
  pure (ret c.final)

theorem spec_apply (c : FC F) (K : Ret F → sProp 𝕄) : spec d q3 q4 arg3 arg4 c K
    = iprop((ownsTc d arg3 q3 c.X3 ∗ ownsTc d arg4 q4 c.X4) ∗ ((ownsTc d arg3 q3 c.X3 ∗ ownsTc d arg4 q4 c.X4) -∗ K (ret c.final))) := rfl

/-- The walk as it is called. -/
abbrev entry (c : FC F) : Prog (TpuEff nD τ sig (Elt F) (Λ₀ F) .tc) (Ret F) :=
  defs₀ (F := F) .tc 1 ⟨c.i, arg3, harg3, c.q 0, c.m, arg4, harg4, c.q 1, c.q 2, c.q 3, c.q 4, c.q 5, c.q 6, c.q 7, c.x, c.c 0, c.c 1, c.c 2, c.c 3, c.c 4, c.c 5, c.c 6, c.c 7, c.a 0, c.a 1, c.a 2, c.a 3, c.a 4, c.a 5, c.a 6, c.a 7⟩

theorem body_le (c : FC F) (n : ℕ) (ih : ∀ c' : FC F, c'.left < n → spec d q3 q4 arg3 arg4 c'
      ≤ wp frame (wpE (defs₀ (F := F)) 𝒱₀ (d : Thread nD τ) (some c'.left)) E (entry arg3 harg3 arg4 harg4 c'))
    (hn : c.left = n) (K : Ret F → sProp 𝕄) : spec d q3 q4 arg3 arg4 c K
      ⊢ wp frame (wpE (defs₀ (F := F)) 𝒱₀ (d : Thread nD τ) (some n)) E (cc0_while1 c.i arg3 harg3 (c.q 0) c.m arg4 harg4 (c.q 1) (c.q 2) (c.q 3) (c.q 4) (c.q 5) (c.q 6) (c.q 7) c.x (c.c 0) (c.c 1) (c.c 2) (c.c 3) (c.c 4) (c.c 5) (c.c 6) (c.c 7) (c.a 0) (c.a 1) (c.a 2) (c.a 3) (c.a 4) (c.a 5) (c.a 6) (c.a 7)) K := by
  rw [spec_apply, cc0_while1_eq_skeleton]; unfold cc0_while1_skel
  iintro ⟨⟨H3, H4⟩, HK⟩
  by_cases h : c.test
  on_goal 1 =>
    have h' := h
    unfold FC.test at h'
    have hs := c.step_lt h
    simp only [k0_part9_eq_skeleton, k0_part10_eq_skeleton, k0_part11_eq_skeleton, k0_part12_eq_skeleton, k0_part13_eq_skeleton, k0_part14_eq_skeleton,
      k0_part9_skel, k0_part10_skel, k0_part11_skel, k0_part12_skel, k0_part13_skel, k0_part14_skel,
      Prog.lift, Prog.bind_op, Prog.bind_ret, Prog.pure_eq_ret]
    rw [if_pos h', c.final_pos h]
    iapply (wp_assume _ _ _ _ (c.chk h))
    iterate 8
      iapply Cert.Own.ld $$ H3; iintro H3
      iapply Cert.Own.ld $$ H4; iintro H4
    iapply (wp_call_spec 𝒱₀ (d : Thread nD τ) (some n) E (spec d q3 q4 arg3 arg4 (c.step h)) (c.step h).left
      (fun u hu => by cases hu; exact hn ▸ hs) (ih (c.step h) (hn ▸ hs)))
    rw [spec_apply]
    isplitl [H3 H4]
    · isplitl [H3]; iexact H3; iexact H4
    iintro ⟨H3, H4⟩
  on_goal 2 =>
    have h' := h
    unfold FC.test at h'
    simp only [Prog.lift, Prog.bind_op, Prog.bind_ret, Prog.pure_eq_ret]
    rw [if_neg h', c.final_neg h]
  all_goals
    rw [wp_ret]; imodintro
    iapply HK
    isplitl [H3]; iexact H3; iexact H4

theorem spec_le (c : FC F) : spec d q3 q4 arg3 arg4 c
      ≤ wp frame (wpE (defs₀ (F := F)) 𝒱₀ (d : Thread nD τ) (some c.left)) E (entry arg3 harg3 arg4 harg4 c) := by
  suffices h : ∀ n, ∀ c : FC F, c.left = n → spec d q3 q4 arg3 arg4 c
      ≤ wp frame (wpE (defs₀ (F := F)) 𝒱₀ (d : Thread nD τ) (some c.left)) E (entry arg3 harg3 arg4 harg4 c) from h _ c rfl
  intro n
  induction n using Nat.strong_induction_on with
  | _ n ih =>
    intro c hc K
    have := body_le d E q3 q4 arg3 harg3 arg4 harg4 c n (fun c' h => ih _ h c' rfl) hc K
    rw [hc]
    exact this

end

/-- The body at a grid point. -/
theorem body_spec (b : FB F) (d : Dev nD) (arg2 : Memref sig .tc .vmem S128x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S128x512 .bf16) (harg5 : arg5.IsWhole)
    {q2 q3 q4 : PosShare TreeShare} (X5 : S128x512.Idx → Elt F .bf16) (K : PUnit → sProp 𝕄) :
    iprop((ownsTc d arg2 q2 b.X2 ∗ ownsTc d arg3 q3 b.X3 ∗ ownsTc d arg4 q4 b.X4 ∗ ownsTc d arg5 fullShare X5)
      ∗ ((ownsTc d arg2 q2 b.X2 ∗ ownsTc d arg3 q3 b.X3 ∗ ownsTc d arg4 q4 b.X4 ∗ ownsTc d arg5 fullShare (b.out X5)) -∗ K ⟨⟩))
      ⊢ wp frame (wpE (defs₀ (F := F)) 𝒱₀ (d : Thread nD τ) none) Set.univ (cc0_sb_fwd_38 b.i arg2 harg2 arg3 harg3 arg4 harg4 arg5 harg5) K := by
  rw [cc0_sb_fwd_38_eq_skeleton]; unfold cc0_sb_fwd_38_skel
  iintro ⟨⟨H2, H3, H4, H5⟩, HK⟩
  simp only [k0_part1_eq_skeleton, k0_part2_eq_skeleton, k0_part3_eq_skeleton, k0_part4_eq_skeleton, k0_part5_eq_skeleton, k0_part6_eq_skeleton, k0_part7_eq_skeleton, k0_part8_eq_skeleton,
    k0_part1_skel, k0_part2_skel, k0_part3_skel, k0_part4_skel, k0_part5_skel, k0_part6_skel, k0_part7_skel, k0_part8_skel,
    Prog.lift, Prog.bind_op, Prog.bind_ret, Prog.pure_eq_ret]
  iterate 4 (iapply Cert.Own.ld $$ H2; iintro H2)
  iterate 8
    iapply Cert.Own.ld $$ H3; iintro H3
    iapply Cert.Own.ld $$ H4; iintro H4
  iapply (wp_call_spec 𝒱₀ (d : Thread nD τ) none Set.univ (spec d q3 q4 arg3 arg4 b.w) b.w.left
    (fun u hu => by cases hu) (spec_le d Set.univ q3 q4 arg3 harg3 arg4 harg4 b.w))
  rw [spec_apply]
  isplitl [H3 H4]
  · isplitl [H3]; iexact H3; iexact H4
  iintro ⟨H3, H4⟩
  unfold ret
  dsimp only
  iterate 4 (iapply Cert.Own.ld $$ H5; iintro H5; iapply Cert.Own.st $$ H5; iintro H5)
  rw [wp_ret]; imodintro
  iapply HK
  isplitl [H2]; iexact H2
  isplitl [H3]; iexact H3
  isplitl [H4]; iexact H4
  iexact H5

end Cert.FattIdeal.Run

end
-- ==== Proof.FattFrame.lean ====
/-
  The attention kernel's run: every grid point's block of the result, and the frame.
-/
module

public import proofs.«01_k».proof.Proof.FattWalk
public import Idealize.ShloMosaic.Lib.ValueIdx

@[expose] public section

set_option maxRecDepth 16384

noncomputable section

namespace Cert.FattIdeal.Run

open Cert.FattIdeal Cert.FattIdeal.Gen
open Cert.AttnIdeal.Run (𝒱₀)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

--MODEL
section
variable {α : Type} (o : ℕ) (inb : ∀ a, (![0, o] : Fin 2 → ℕ) a + S128x128.size a ≤ S128x512.size a) (X : S128x512.Idx → α) (N : S128x128.Idx → α) (y : S128x512.Idx)

/-- Writing 128 columns of a block: a column written, and another. -/
theorem cols_in (l : Fin 128) (h : (y 1).val = o + l.val) : (Rect.unit (s := S128x512) ![0, o] S128x128.size inb).overlay X N y = N (ValueIdx.ix2 (y 0) l) := by
  have e : y = (Rect.unit (s := S128x512) ![0, o] S128x128.size inb).emb (ValueIdx.ix2 (y 0) l) := by
    funext a
    match a with
    | ⟨0, _⟩ => exact Fin.ext (by show (y 0).val = 0 + 1 * (y 0).val; omega)
    | ⟨1, _⟩ => exact Fin.ext (by show (y 1).val = o + 1 * l.val; omega)
  exact (congrArg ((Rect.unit (s := S128x512) ![0, o] S128x128.size inb).overlay X N) e).trans (Rect.overlay_emb (Rect.unit (s := S128x512) ![0, o] S128x128.size inb) X N (ValueIdx.ix2 (y 0) l))

theorem cols_out (h : (y 1).val < o) : (Rect.unit (s := S128x512) ![0, o] S128x128.size inb).overlay X N y = X y := by
  refine Rect.overlay_of_not_mem _ _ _ fun hc => ?_
  obtain ⟨i, hi⟩ := LoadRect.exists_idx_of_mem _ hc
  have e : o + 1 * (i 1).val = (y 1).val := congrArg (fun z : S128x512.Idx => (z 1).val) hi
  omega

end

/-- The point's block, per group of 128 columns. -/
theorem FB.out_at (b : FB F) (X : S128x512.Idx → Elt F .bf16) (y : S128x512.Idx) (g : Fin 4) (l : Fin 128) (h : (y 1).val = 128 * g.val + l.val) :
    b.out X y = k0_pay3 k0_pay12 (b.w.final.a ⟨2 * g.val, by omega⟩) (b.w.final.a ⟨2 * g.val + 1, by omega⟩) (ValueIdx.ix2 (y 0) l) := by
  unfold FB.out
  obtain ⟨g, hg⟩ := g
  simp only at h
  have hl := l.isLt
  rcases (by omega : g = 0 ∨ g = 1 ∨ g = 2 ∨ g = 3) with rfl | rfl | rfl | rfl
  · exact (cols_out _ _ _ _ _ (by omega)).trans ((cols_out _ _ _ _ _ (by omega)).trans ((cols_out _ _ _ _ _ (by omega)).trans (cols_in _ _ _ _ _ l (by omega))))
  · exact (cols_out _ _ _ _ _ (by omega)).trans ((cols_out _ _ _ _ _ (by omega)).trans (cols_in _ _ _ _ _ l (by omega)))
  · exact (cols_out _ _ _ _ _ (by omega)).trans (cols_in _ _ _ _ _ l (by omega))
  · exact cols_in _ _ _ _ _ l (by omega)

/-- It does not depend on what its buffer held. -/
theorem FB.out_congr (b : FB F) (X Y : S128x512.Idx → Elt F .bf16) : b.out X = b.out Y := by
  funext y
  have h1 : (y 1).val < 512 := (y 1).isLt
  have h := (Nat.div_add_mod (y 1).val 128).symm
  exact (b.out_at X y ⟨(y 1).val / 128, by omega⟩ ⟨(y 1).val % 128, by omega⟩ h).trans (b.out_at Y y ⟨(y 1).val / 128, by omega⟩ ⟨(y 1).val % 128, by omega⟩ h).symm

--END
variable (m : (ℓ : Loc nD τ sig) → Buf (Elt F) ℓ) (ρ : Dev nD → PrngReg)

/-- The buffers as the region finds them. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The values of a point. -/
abbrev pts (c : Dev nD) (t : Fin (cfg0 (F := F)).N) : FB F := ⟨grid0.coords t, iblk m c 0 t, iblk m c 1 t, iblk m c 2 t⟩

/-- The point's block of the result. -/
def oblk (c : Dev nD) (t : Fin (cfg0 (F := F)).N) : S128x512.Idx → Elt F .bf16 := (pts m c t).out fun _ => FloatOps.ofBits .bf16 0#16

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q w := Pipeline.shareOf spec0 w
  owed _ := 0

theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem after3 (c : Dev nD) (t) : (dats m 0 c).after 3 t = oblk m c t := by dsimp only [dats]; try rfl

theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rfl) t d).trans (by unfold Dat.fetched Dat.blockOf iblk; rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rfl) t d).trans (by unfold Dat.fetched Dat.blockOf iblk; rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rfl) t d).trans (by unfold Dat.fetched Dat.blockOf iblk; rfl)

def Pre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d)))
def Post (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t))

theorem sound (c : Dev nD) (t : Fin (cfg0 (F := F)).N) :
    Pre m c t ⊢ wp frame (wpE (defs₀ (F := F)) 𝒱₀ c none) Set.univ (bodyAt0 t) (fun _ => Post m c t) := by
  unfold Pre Post bodyAt0
  simp only [before0, before1, before2]
  rw [after0, after1, after2, after3]
  rw [show (dats m 0 c).Φ t.succ = (dats m 0 c).Φ t.castSucc from rfl]
  rw [show (dats m 0 c).owesAt () t.succ = (dats m 0 c).owesAt () t.castSucc from rfl]
  iintro ⟨HP, HW, ⟨%d0, H2⟩, ⟨%d1, H3⟩, ⟨%d2, H4⟩, ⟨%d3, H5⟩⟩
  iapply (body_spec (pts m c t) c _ _ _ _ _ _ _ _ ((dats m 0 c).before 3 t d3))
  isplitl [H2 H3 H4 H5]
  · isplitl [H2]; · iexact H2
    isplitl [H3]; · iexact H3
    isplitl [H4]; · iexact H4
    iexact H5
  iintro ⟨H2, H3, H4, H5⟩
  isplitl [HP]; · iexact HP
  isplitl [HW]; · iexact HW
  isplitl [H2]; · iexact H2
  isplitl [H3]; · iexact H3
  isplitl [H4]; · iexact H4
  rw [show oblk m c t = (pts m c t).out ((dats m 0 c).before 3 t d3) from FB.out_congr _ _ _]
  iapply (Entails.of_eq ?_) $$ H5; rfl

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, defs₀_row]
  exact triple_restated (sound m c t) rfl .rfl fun _ => .rfl

set_option backward.isDefEq.respectTransparency.types false in
theorem run : θ_run defs (onTc (τ := τ) (main (F := F))) (s₀ m ρ) (fun r => Pipeline.FramePost cfgs (dats m) 0 (V m) r ∧ r.2.sem = fun _ => 0) :=
  Pipeline.θ_run_frame_shared (cfgs := cfgs) (dats := dats m) (p := (0 : Fin 1)) (kit₀ := launch₀0) (defs₀ := defs₀) (𝒱₀ := 𝒱₀) (m := m) (g := ρ) (main := main)
    (hbody := fun c => (obligation m c).loose) (hq := fun _ _ _ => rfl)
    (howed := fun _ _ => rfl) (V := V m) (hmain := hmain m) (hA := fun _ _ => rfl) (hΦ := fun _ _ => rfl)
    (Q' := fun r => Pipeline.FramePost cfgs (dats m) 0 (V m) r ∧ r.2.sem = fun _ => 0) (hQ' := fun _ h => h)

/-- The frame: the run ends, the argument is as it was, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 0).trans ((dats m 0 c).arrAt_in 0 rfl _), h.2⟩) (run m ρ)

end Cert.FattIdeal.Run

end
-- ==== Proof.FattHead.lean ====
/-
  One head of the stick-breaking attention over the extended reals, as a function of its scores, and the tiles of it that the
  kernel's values are.
-/
module

public import proofs.«01_k».proof.Proof.AttnVal3
public import proofs.«01_k».proof.Proof.AttnRefVal

@[expose] public section

set_option maxRecDepth 16384

noncomputable section

namespace Cert.AttnIdeal.Ext

open Cert.AttnIdeal Cert.AttnIdeal.Gen Cert.AttnIdeal.Run
open Cert.AttnRefIdeal.Reals (spl spl_neg)
open Idealize.ShloMosaic Idealize.ShloMosaic.ValueIdx Idealize.ShloMosaic.TcCoe Finset

/-! ### The softplus and the logarithms of a stick's fraction and of its rest -/

def sp (z : EReal) : EReal := max z 0 + Ideal.log (1 + Ideal.exp (0 - max z (-z)))

theorem log_one : Ideal.log 1 = 0 := by
  rw [← EReal.coe_one, Ideal.log_coe, if_neg (by norm_num), Real.log_one, EReal.coe_zero]
theorem sp_top : sp ⊤ = ⊤ := by simp [sp, log_one]
theorem sp_bot : sp ⊥ = 0 := by simp [sp, log_one]
theorem sp_coe (r : ℝ) : sp r = (spl r : EReal) := by
  unfold sp spl
  rw [← EReal.coe_zero, ← EReal.coe_one, ← EReal.coe_neg, coe_max, coe_max, ← EReal.coe_sub, Ideal.exp_coe, ← EReal.coe_add, Ideal.log_coe,
    if_neg (not_le.2 (add_pos one_pos (Real.exp_pos _))), ← EReal.coe_add]

/-- Splitting the logarithm of the rest into two halves changes nothing. -/
theorem split_sp (z : EReal) : (0 - sp z) + ((0 - sp z) - (0 - sp z)) = 0 - sp z := by
  induction z using EReal.rec with
  | bot => simp [sp_bot]
  | top => simp [sp_top]
  | coe r => rw [sp_coe, ← EReal.coe_zero, ← EReal.coe_sub, ← EReal.coe_sub, sub_self, ← EReal.coe_add, add_zero]

/-- The two ways to the logarithm of a weight. -/
theorem two_ways (z S : EReal) : -sp (-z) + ((-sp z + S) - -sp z) = z - sp z + S := by
  induction z using EReal.rec with
  | bot => simp [sp_bot, sp_top]
  | top => simp [sp_bot, sp_top]
  | coe r =>
    rw [sp_coe, ← EReal.coe_neg, sp_coe, spl_neg, ← EReal.coe_neg, ← EReal.coe_neg, ← EReal.coe_sub]
    induction S using EReal.rec with
    | bot => simp
    | top => simp
    | coe s =>
      norm_cast
      ring

variable (Z : ℕ → ℕ → EReal)

def lk (t s : ℕ) : EReal := if s < t then 0 - sp (Z t s) else 0
def lb (t s : ℕ) : EReal := Z t s - sp (Z t s)
def w (t s : ℕ) : EReal := if s < t then Ideal.exp (lb Z t s + ∑ j ∈ Ico (s + 1) 8192, lk Z t j) else 0
def cs (M : ℕ → ℕ → EReal) (a t : ℕ) : EReal := ∑ j ∈ Ico a 8192, M t j
def qs (M N : ℕ → ℕ → EReal) (a t l : ℕ) : EReal := ∑ s ∈ Ico a 8192, M t s * N s l

theorem split_lk (t s : ℕ) : lk Z t s + (lk Z t s - lk Z t s) = lk Z t s := by
  unfold lk
  split
  · exact split_sp _
  · simp

theorem lk_zero (t j : ℕ) (h : t ≤ j) : lk Z t j = 0 := if_neg (by omega)
theorem w_zero (t j : ℕ) (h : t ≤ j) : w Z t j = 0 := if_neg (by omega)

/-- Once a row's logarithms from column `a` on sum to minus infinity, the weights before it are zero. -/
theorem w_done (t a s : ℕ) (h : cs (lk Z) a t = ⊥) (ha : a ≤ 8192) (hs : s < a) : w Z t s = 0 := by
  unfold w
  split
  · rw [← sum_Ico_consecutive _ (by omega : s + 1 ≤ a) ha]
    rw [show ∑ j ∈ Ico a 8192, lk Z t j = ⊥ from h, EReal.add_bot, EReal.add_bot, Ideal.exp_bot]
  · rfl

theorem qs_done (N : ℕ → ℕ → EReal) (t a l : ℕ) (h : cs (lk Z) a t = ⊥) (ha : a ≤ 8192) : qs (w Z) N a t l = qs (w Z) N 0 t l := by
  unfold qs
  rw [← sum_Ico_consecutive _ (Nat.zero_le a) ha, sum_eq_zero (s := Ico 0 a) fun s hs => by rw [w_done Z t a s h ha (mem_Ico.1 hs).2, zero_mul], zero_add]

/-! ### Tiles -/

def T {φ : FTy} (M : ℕ → ℕ → EReal) (r c : ℕ) : FVec Ideal S128x128 φ := fun y => M (r + (y 0).val) (c + (y 1).val)
def C (f : ℕ → EReal) (r : ℕ) : FVec Ideal S128x1 .f32 := fun y => f (r + (y 0).val)
def A {s0 s1 : ℕ} {φ : FTy} (M : ℕ → ℕ → EReal) : FVec Ideal ⟨2, ![s0, s1]⟩ φ := fun y => M (y 0).val (y 1).val
abbrev TB (M : ℕ → ℕ → EReal) (r c : ℕ) : FVec Ideal S128x128 .bf16 := T M r c
abbrev TF (M : ℕ → ℕ → EReal) (r c : ℕ) : FVec Ideal S128x128 .f32 := T M r c

theorem pick_tile {s0 s1 : ℕ} {φ : FTy} (M : ℕ → ℕ → EReal) (r o : ℕ) (off : Fin 2 → ℕ) (h : off = ![r, o])
    (inb : ∀ a, off a + S128x128.size a ≤ (⟨2, ![s0, s1]⟩ : Shape).size a) :
    Own.pick (Rect.unit (s := ⟨2, ![s0, s1]⟩) off S128x128.size inb) (A (φ := φ) M) = T (φ := φ) (fun t l => M t (o + l)) r 0 := by
  subst h
  funext y
  show M (r + 1 * (y 0).val) (o + 1 * (y 1).val) = M (r + (y 0).val) (o + (0 + (y 1).val))
  rw [Nat.one_mul, Nat.one_mul, Nat.zero_add]

/-- The scores of queries and keys. -/
def zz (q k : ℕ → ℕ → EReal) (t s : ℕ) : EReal := (∑ c ∈ range 128, q t c * k s c) * Ideal.ofBits .f32 0x3E000000#32

variable (q k : ℕ → ℕ → EReal) (r c : ℕ)

theorem z_tile : k0_pay28 (F := Ideal) (TB q r 0) (TB k c 0) = TF (zz q k) r c := by
  funext y
  unfold k0_pay28
  pointwise
  refine congrArg (fun x : EReal => x * _) ?_
  rw [sum_range]
  exact sum_congr rfl fun i _ => congrArg₂ (fun a b : EReal => a * b) (congrArg (q _) (Nat.zero_add _)) (congrArg (k _) (Nat.zero_add _))

theorem sp_tile : k0_pay29 (F := Ideal) (TB q r 0) (TB k c 0) = TF (fun t s => sp (zz q k t s)) r c := by
  unfold k0_pay29
  rw [z_tile]
  funext y
  pointwise
  rfl

theorem lb_tile : k0_pay31 (F := Ideal) (TB q r 0) (TB k c 0) = TF (lb (zz q k)) r c := by
  unfold k0_pay31
  rw [sp_tile, z_tile]
  rfl

theorem lk_diag : k0_pay30 (F := Ideal) (TB q r 0) k0_pay24 (TB k r 0) = TF (lk (zz q k)) r r := by
  unfold k0_pay30
  rw [sp_tile]
  funext y
  unfold k0_pay24
  pointwise
  rw [select_lt]
  show _ = if r + (y 1).val < r + (y 0).val then 0 - sp (zz q k (r + (y 0).val) (r + (y 1).val)) else 0
  simp only [Nat.add_lt_add_iff_left]
  rfl

theorem lk_off (h : c + 128 ≤ r) : k0_pay157 (F := Ideal) (TB q r 0) (TB k c 0) = TF (lk (zz q k)) r c := by
  unfold k0_pay157
  rw [show k0_pay156 (F := Ideal) (TB q r 0) (TB k c 0) = _ from sp_tile q k r c]
  funext y
  pointwise
  have h1 : (y 1).val < 128 := (y 1).isLt
  exact (if_pos (by omega)).symm

/-- The sum over the later keys of a tile, taken in two halves. -/
theorem later (y : S128x128.Idx) :
    ∑ x : Fin 128, TF (lk Z) r c (Idealize.ShloMosaic.ix2 (y 0) x) * k0_pay22 (F := Ideal) (Idealize.ShloMosaic.ix2 x (y 1))
      + ∑ x : Fin 128, (TF (lk Z) r c (Idealize.ShloMosaic.ix2 (y 0) x) - TF (lk Z) r c (Idealize.ShloMosaic.ix2 (y 0) x)) * k0_pay22 (F := Ideal) (Idealize.ShloMosaic.ix2 x (y 1))
      = ∑ j ∈ Ico (c + (y 1).val + 1) (c + 128), lk Z (r + (y 0).val) j := by
  have h1 : (y 1).val < 128 := (y 1).isLt
  rw [← sum_add_distrib]
  have e : ∀ x : Fin 128, TF (lk Z) r c (Idealize.ShloMosaic.ix2 (y 0) x) * k0_pay22 (F := Ideal) (Idealize.ShloMosaic.ix2 x (y 1))
      + (TF (lk Z) r c (Idealize.ShloMosaic.ix2 (y 0) x) - TF (lk Z) r c (Idealize.ShloMosaic.ix2 (y 0) x)) * k0_pay22 (F := Ideal) (Idealize.ShloMosaic.ix2 x (y 1))
      = if (y 1).val < x.val then lk Z (r + (y 0).val) (c + x.val) else 0 := fun x => by
    rw [later_apply]
    show lk Z (r + (y 0).val) (c + x.val) * (((if (y 1).val < x.val then 1 else 0 : ℝ)) : EReal) + (lk Z (r + (y 0).val) (c + x.val) - lk Z (r + (y 0).val) (c + x.val)) * (((if (y 1).val < x.val then 1 else 0 : ℝ)) : EReal) = _
    split
    · rw [EReal.coe_one, mul_one, mul_one]; exact split_lk Z _ _
    · rw [EReal.coe_zero, mul_zero, mul_zero, add_zero]
  rw [sum_congr rfl fun x _ => e x, ← sum_range fun x => if (y 1).val < x then lk Z (r + (y 0).val) (c + x) else 0,
    ← sum_range_add_sum_Ico _ (by omega : (y 1).val + 1 ≤ 128), sum_eq_zero (s := range _) fun x hx => if_neg (by have := mem_range.1 hx; omega), zero_add,
    sum_congr rfl fun x hx => if_pos (by have := (mem_Ico.1 hx).1; omega), sum_Ico_add (fun j => lk Z (r + (y 0).val) j), add_comm _ c, add_comm 128 c, ← add_assoc]

theorem sum_cut (f : ℕ → EReal) (t a b : ℕ) (h0 : ∀ j, t ≤ j → f j = 0) (hb : t ≤ b) (hb' : b ≤ 8192) (hab : a ≤ b) : ∑ j ∈ Ico a 8192, f j = ∑ j ∈ Ico a b, f j := by
  rw [← sum_Ico_consecutive f hab hb', sum_eq_zero (s := Ico b 8192) fun j hj => h0 j (by simp only [mem_Ico] at hj; omega), add_zero]

theorem w_diag (h : r + 128 ≤ 8192) : k0_pay32 (F := Ideal) (TB q r 0) k0_pay22 k0_pay24 (TB k r 0) = TF (w (zz q k)) r r := by
  unfold k0_pay32
  rw [lk_diag, lb_tile]
  funext y
  unfold k0_pay24
  pointwise
  rw [select_lt, later, zero_col, add_zero]
  have h0 : (y 0).val < 128 := (y 0).isLt
  have h1 : (y 1).val < 128 := (y 1).isLt
  show _ = if r + (y 1).val < r + (y 0).val then Ideal.exp (lb (zz q k) (r + (y 0).val) (r + (y 1).val) + ∑ j ∈ Ico (r + (y 1).val + 1) 8192, lk (zz q k) (r + (y 0).val) j) else 0
  rw [sum_cut _ (r + (y 0).val) _ (r + 128) (lk_zero _ _) (by omega) h (by omega)]
  simp only [Nat.add_lt_add_iff_left]
  rfl

theorem w_off (h : c + 128 ≤ r) (h' : r ≤ 8192) : k0_pay159 (F := Ideal) (TB q r 0) k0_pay22 (C (cs (lk (zz q k)) (c + 128)) r) (TB k c 0) = TF (w (zz q k)) r c := by
  unfold k0_pay159
  rw [lk_off q k r c h, show k0_pay158 (F := Ideal) (TB q r 0) (TB k c 0) = _ from lb_tile q k r c]
  funext y
  pointwise
  rw [later]
  have h1 : (y 1).val < 128 := (y 1).isLt
  show Ideal.exp (lb (zz q k) (r + (y 0).val) (c + (y 1).val) + _ + ∑ j ∈ Ico (c + 128) 8192, lk (zz q k) (r + (y 0).val) j)
    = if c + (y 1).val < r + (y 0).val then Ideal.exp (lb (zz q k) (r + (y 0).val) (c + (y 1).val) + ∑ j ∈ Ico (c + (y 1).val + 1) 8192, lk (zz q k) (r + (y 0).val) j) else 0
  rw [if_pos (by omega), add_assoc, sum_Ico_consecutive _ (by omega) (by omega)]

theorem sum_row (f : ℕ → EReal) : ∑ k : Fin 128, f (c + k.val) = ∑ j ∈ Ico c (c + 128), f j := by
  rw [sum_Ico_eq_sum_range, ← sum_range fun k => f (c + k), Nat.add_sub_cancel_left]

theorem rowsum_zero (M : ℕ → ℕ → EReal) (hM : ∀ t j, t ≤ j → M t j = 0) (h : r + 128 ≤ 8192) : k0_pay38 (F := Ideal) k0_pay27 (TF M r r) = C (cs M r) r := by
  unfold k0_pay38
  funext y
  have h0 : (y 0).val < 128 := (y 0).isLt
  pointwise
  rw [zero_col]
  refine (zero_add _).trans ((sum_row r fun j => M (r + (y 0).val) j).trans ?_)
  exact (sum_cut _ (r + (y 0).val) r (r + 128) (hM _) (by omega) h (by omega)).symm

theorem rowsum_next (M : ℕ → ℕ → EReal) (h : c + 128 ≤ 8192) : k0_pay38 (F := Ideal) (C (cs M (c + 128)) r) (TF M r c) = C (cs M c) r := by
  unfold k0_pay38
  funext y
  pointwise
  refine (congrArg (fun x : EReal => _ + x) (sum_row c fun j => M (r + (y 0).val) j)).trans ?_
  exact (add_comm _ _).trans (sum_Ico_consecutive _ (by omega) h)

theorem qs_tile (M N : ℕ → ℕ → EReal) (h : c + 128 ≤ 8192) :
    addf (TF (qs M N (c + 128)) r 0) (matmul dot_S128x128_S128x128_S128x128_1_0_0_1_n_n none (TB M r c) (TB N c 0) (constant (F := Ideal) S128x128 .f32 0x00000000#32)) = TF (qs M N c) r 0 := by
  funext y
  pointwise
  refine (congrArg (fun x : EReal => _ + x) (sum_row c fun j => M (r + (y 0).val) j * N j (0 + (y 1).val))).trans ?_
  exact (add_comm _ _).trans (sum_Ico_consecutive (fun s => M (r + (y 0).val) s * N s (0 + (y 1).val)) (by omega) h)

/-! ### The two halves of 128 lanes -/

/-- Queries on one half of the lanes from column `o` on. -/
def onHalf (M : ℕ → ℕ → EReal) (o : ℕ) (b : Bool) (t c : ℕ) : EReal := if decide (c < 64) = b then M t (o + c) else 0

theorem lo_mask (M : ℕ → ℕ → EReal) (r o : ℕ) : k0_pay8 (F := Ideal) (TB (fun t l => M t (o + l)) r 0) = TB (onHalf M o true) r 0 := by
  funext y
  unfold k0_pay8 k0_pay6 k0_pay7
  pointwise
  rw [select_lane]
  show _ = if decide (0 + (y 1).val < 64) = true then M (r + (y 0).val) (o + (0 + (y 1).val)) else 0
  rw [Nat.zero_add]
  by_cases h : (y 1).val < 64
  · rw [if_pos h, if_pos (decide_eq_true h)]
    exact congrArg (fun x => M _ (o + x)) (Nat.zero_add _)
  · rw [if_neg h, if_neg (by simpa using h)]

theorem hi_mask (M : ℕ → ℕ → EReal) (r o : ℕ) : k0_pay9 (F := Ideal) (TB (fun t l => M t (o + l)) r 0) = TB (onHalf M o false) r 0 := by
  funext y
  unfold k0_pay9 k0_pay6 k0_pay7
  pointwise
  rw [select_lane]
  show _ = if decide (0 + (y 1).val < 64) = false then M (r + (y 0).val) (o + (0 + (y 1).val)) else 0
  rw [Nat.zero_add]
  by_cases h : (y 1).val < 64
  · rw [if_pos h, if_neg (by simpa using h)]
  · rw [if_neg h, if_pos (by simpa using h)]
    exact congrArg (fun x => M _ (o + x)) (Nat.zero_add _)

/-- The scores on a half are sums over its 64 lanes. -/
theorem zz_half (M N : ℕ → ℕ → EReal) (o : ℕ) (b : Bool) (t s : ℕ) : zz (onHalf M o b) (fun s c => N s (o + c)) t s
    = (∑ c : Fin 64, M t (o + ((if b then 0 else 64) + c.val)) * N s (o + ((if b then 0 else 64) + c.val))) * Ideal.ofBits .f32 0x3E000000#32 := by
  unfold zz onHalf
  refine congrArg (fun x : EReal => x * _) ?_
  rw [← sum_range fun c => M t (o + ((if b then 0 else 64) + c)) * N s (o + ((if b then 0 else 64) + c)), show (128 : ℕ) = 64 + 64 from rfl, sum_range_add]
  cases b
  · rw [sum_eq_zero (s := range 64) fun c hc => by rw [if_neg (by simpa using hc), zero_mul], zero_add]
    exact sum_congr rfl fun c _ => by rw [if_pos (by simp)]; rfl
  · rw [sum_eq_zero (s := range 64) (f := fun c => _ * N s (o + (64 + c))) fun c _ => by rw [if_neg (by simp), zero_mul], add_zero]
    exact sum_congr rfl fun c hc => by rw [if_pos (by simpa using hc), if_pos rfl, Nat.zero_add]

end Cert.AttnIdeal.Ext

end
-- ==== Proof.FattVal.lean ====
/-
  The attention kernel over the extended reals: its walk ends with every row's output over all its keys
  (it stops early only where all the weights left are zero), so a grid point writes its
  rows of the heads' outputs, and the run ends with the whole result.
-/
module

public import proofs.«01_k».proof.Proof.FattFrame
public import proofs.«01_k».proof.Proof.FattHead

@[expose] public section

set_option maxRecDepth 16384

noncomputable section

namespace Cert.FattIdeal.Run

open Cert.FattIdeal Cert.FattIdeal.Gen
open Cert.AttnIdeal.Run (test_iff one_idx lanes_apply)
open Cert.AttnIdeal.Ext
open Idealize.ShloMosaic Idealize.ShloMosaic.ValueIdx Idealize.ShloMosaic.TcCoe Finset
open Idealize.SL.Sem
open Idealize.ShloMosaic.Pipeline (Dat)

/-! ### Where a point reads -/

theorem off1_all : ∀ n : Fin 64, k0_off1 (pt n) = ![128 * n.val, 128 * 0] ∧ k0_off2 (pt n) = ![128 * n.val, 128 * 1]
    ∧ k0_off3 (pt n) = ![128 * n.val, 128 * 2] ∧ k0_off4 (pt n) = ![128 * n.val, 128 * 3] := by decide +kernel

theorem off5_all : ∀ n x : Fin 64, x.val < n.val → k0_off5 (pt n) (BitVec.ofNat 32 x.val) = ![128 * (n.val - (x.val + 1)), 128 * 0]
    ∧ k0_off6 (pt n) (BitVec.ofNat 32 x.val) = ![128 * (n.val - (x.val + 1)), 128 * 1]
    ∧ k0_off7 (pt n) (BitVec.ofNat 32 x.val) = ![128 * (n.val - (x.val + 1)), 128 * 2]
    ∧ k0_off8 (pt n) (BitVec.ofNat 32 x.val) = ![128 * (n.val - (x.val + 1)), 128 * 3] := by decide +kernel

/-! ### One head -/

structure Hd where
  (q k v : ℕ → ℕ → EReal)

abbrev Hd.z (H : Hd) : ℕ → ℕ → EReal := zz H.q H.k

/-- A head's sums and output after a tile below the diagonal. -/
theorem head_off (H : Hd) (r c : ℕ) (q k v m : FVec Ideal S128x128 .bf16) (a : FVec Ideal S128x1 .f32) (o : FVec Ideal S128x128 .f32)
    (hq : q = TB H.q r 0) (hk : k = TB H.k c 0) (hv : v = TB H.v c 0) (hm : m = k0_pay28) (ha : a = C (cs (lk H.z) (c + 128)) r)
    (ho : o = TF (qs (w H.z) H.v (c + 128)) r 0) (h : c + 128 ≤ r) (h' : r ≤ 8192) :
    k0_pay88 (F := Ideal) q a k = C (cs (lk H.z) c) r ∧ k0_pay87 (F := Ideal) q m a o k v = TF (qs (w H.z) H.v c) r 0 := by
  subst hq hk hv hm ha ho
  constructor
  · refine Eq.trans (b := Cert.AttnIdeal.Gen.k0_pay38 (F := Ideal) (C (cs (lk H.z) (c + 128)) r) (Cert.AttnIdeal.Gen.k0_pay157 (TB H.q r 0) (TB H.k c 0))) rfl ?_
    rw [lk_off H.q H.k r c h]
    exact rowsum_next r c (lk H.z) (by omega)
  · refine Eq.trans ?_ (qs_tile r c (w H.z) H.v (by omega))
    have e : truncf (F := Ideal) .bf16 (Cert.AttnIdeal.Gen.k0_pay159 (F := Ideal) (TB H.q r 0) Cert.AttnIdeal.Gen.k0_pay22 (C (cs (lk H.z) (c + 128)) r) (TB H.k c 0)) bitsLt_bf16_f32 = TB (w H.z) r c := by
      rw [w_off H.q H.k r c h h']; rfl
    rw [← e]
    rfl

/-- The same at the diagonal tile. -/
theorem head_diag (H : Hd) (r : ℕ) (q k v : FVec Ideal S128x128 .bf16)
    (hq : q = TB H.q r 0) (hk : k = TB H.k r 0) (hv : v = TB H.v r 0) (h : r + 128 ≤ 8192) :
    k0_pay36 (F := Ideal) q k0_pay29 k0_pay30 k = C (cs (lk H.z) r) r
      ∧ k0_pay35 (F := Ideal) q k0_pay28 k0_pay29 k0_pay30 k0_pay31 k v = TF (qs (w H.z) H.v r) r 0 := by
  subst hq hk hv
  constructor
  · refine Eq.trans (b := Cert.AttnIdeal.Gen.k0_pay38 (F := Ideal) Cert.AttnIdeal.Gen.k0_pay27 (Cert.AttnIdeal.Gen.k0_pay30 (TB H.q r 0) Cert.AttnIdeal.Gen.k0_pay24 (TB H.k r 0))) rfl ?_
    rw [lk_diag H.q H.k r]
    exact rowsum_zero r (lk H.z) (lk_zero H.z) h
  · refine Eq.trans ?_ (qs_tile r r (w H.z) H.v h)
    have e : truncf (F := Ideal) .bf16 (Cert.AttnIdeal.Gen.k0_pay32 (F := Ideal) (TB H.q r 0) Cert.AttnIdeal.Gen.k0_pay22 Cert.AttnIdeal.Gen.k0_pay24 (TB H.k r 0)) bitsLt_bf16_f32 = TB (w H.z) r r := by
      rw [w_diag H.q H.k r h]; rfl
    have z : k0_pay31 (F := Ideal) = TF (qs (w H.z) H.v (r + 128)) r 0 := by
      funext y
      have h0 : (y 0).val < 128 := (y 0).isLt
      show Ideal.ofBits .f32 0#32 = ∑ s ∈ Ico (r + 128) 8192, w H.z (r + (y 0).val) s * H.v s (0 + (y 1).val)
      rw [Finset.sum_eq_zero fun s hs => by rw [w_zero H.z _ s (by simp only [Finset.mem_Ico] at hs; omega), zero_mul]]
      exact Ideal.ofBits_zero_f32
    rw [← e, ← z]
    rfl

/-- The maximum of a column. -/
def top (a : FVec Ideal S128x1 .f32) : EReal :=
  extractAt ![0, 0, 0] (shapeCast S1x1x1 (multiReduction (F := Ideal) .maximumf [1, 2] S1 (shapeCast S1x128x1 a shapeCasts_S128x1_S1x128x1) 0xFF800000#32
    reduces_S1x128x1_S1 (.inl rfl) rfl) shapeCasts_S1_S1x1x1) inpos_S1x1x1_p0_0_0

theorem lt_top (a : FVec Ideal S128x1 .f32) (i : Fin 128) (h : (⊥ : EReal) < a (ValueIdx.ix2 i 0)) : ⊥ < top a := by
  unfold top extractAt
  refine lt_of_lt_of_eq ?_ (multiReduction_maximumf_eq_fold (F := Ideal) (φ := .f32) (axes := [1, 2]) (t := S1) (shapeCast S1x128x1 a shapeCasts_S128x1_S1x128x1) 0xFF800000#32 reduces_S1x128x1_S1 (.inl rfl) rfl _).symm
  refine (Finset.lt_fold_max _).2 (Or.inr ⟨ValueIdx.ix3 0 i 0, ?_, ?_⟩)
  · rw [Finset.mem_filter]
    exact ⟨Finset.mem_univ _, one_idx _ _⟩
  · refine lt_of_lt_of_eq h (shapeCast_apply a _ _ _ ?_).symm
    rw [Shape.rowMajor_val_two, Shape.rowMajor_val_three]
    show i.val * 1 + 0 = (0 * 128 + i.val) * 1 + 0
    omega

theorem lt_max (m : Fin 8 → EReal) (b : EReal) (j : Fin 8) (h : b < m j) :
    b < max (max (max (max (max (max (max (m 0) (m 1)) (m 2)) (m 3)) (m 4)) (m 5)) (m 6)) (m 7) := by
  fin_cases j <;> simp only [lt_max_iff] <;> tauto

/-- Where the test's maximum is at the floor, so is every row of every head. -/
theorem pay7_bot (a : Fin 8 → FVec Ideal S128x1 .f32)
    (h : ¬(⊥ : EReal) < k0_pay7 (F := Ideal) (a 0) (a 1) (a 2) (a 3) (a 4) (a 5) (a 6) (a 7)) (j : Fin 8) (i : Fin 128) : a j (ValueIdx.ix2 i 0) = (⊥ : EReal) :=
  by_contra fun hn => h (lt_max (fun j => top (a j)) ⊥ j (lt_top _ i (bot_lt_iff_ne_bot.2 hn)))

/-! ### The eight heads of a column group -/

/-- A group's queries, keys and values. -/
structure Mats where
  (Q K V : ℕ → ℕ → EReal)

def Mats.hd (M : Mats) (o : ℕ) (b : Bool) : Hd := ⟨onHalf M.Q o b, fun s c => M.K s (o + c), fun s c => M.V s (o + c)⟩

/-- Head `j` of a group: a half of a pair's 128 lanes. -/
def hd (M : Mats) (j : Fin 8) : Hd := M.hd (128 * (half j).val) (decide (j.val % 2 = 0))

/-- What the walk holds after `x` trips. -/
structure Inv (M : Mats) (n x : ℕ) (c : FC Ideal) : Prop where
  i1 : (c.i 1).val = n
  X3 : c.X3 = A (φ := .bf16) M.K
  X4 : c.X4 = A (φ := .bf16) M.V
  m : c.m = k0_pay28
  q : ∀ j, c.q j = TB (hd M j).q (128 * n) 0
  cx : c.x = BitVec.ofNat 32 x
  le : x ≤ n
  cc : ∀ j, c.c j = C (cs (lk (hd M j).z) (128 * (n - x))) (128 * n)
  ca : ∀ j, c.a j = TF (qs (w (hd M j).z) (hd M j).v (128 * (n - x))) (128 * n) 0

namespace Inv

variable {M : Mats} {n x : ℕ} {c : FC Ideal} (I : Inv M n x c)
include I

theorem n_lt : n < 64 := by
  have : (c.i 1).val < 64 := (c.i 1).isLt
  have e := I.i1
  omega

/-- Where the walk stops, every row's output is already that over all its keys. -/
theorem stop (h : ¬c.test) (j : Fin 8) : c.a j = TF (qs (w (hd M j).z) (hd M j).v 0) (128 * n) 0 := by
  rw [I.ca]
  have hn := I.n_lt
  rcases I.le.lt_or_eq with hx | rfl
  · funext y
    refine qs_done _ _ _ _ _ ?_ (by omega)
    refine Eq.trans ?_ (pay7_bot c.c (fun hp => h ?_) j (y 0))
    · rw [I.cc]; rfl
    · unfold FC.test
      rw [I.cx, I.i1]
      exact test_iff x n hx hn _ hp
  · rw [Nat.sub_self, Nat.mul_zero]

variable (h : c.test)
include h

theorem x_lt : x < n := by
  have := c.lt h
  rw [I.cx, I.i1, BitVec.toNat_ofNat] at this
  have := I.n_lt
  have := I.le
  omega

theorem tile (N : ℕ → ℕ → EReal) (g : Fin 4) : c.tile h (A (φ := .bf16) N) g = TB (fun t l => N t (128 * g.val + l)) (128 * (n - (x + 1))) 0 := by
  have hx : x < (c.i 1).val := by rw [I.i1]; exact I.x_lt h
  have o := off5_all (c.i 1) ⟨x, lt_trans hx (c.i 1).isLt⟩ hx
  simp only [I.i1] at o
  have hi : pt (c.i 1) = pt (c.i 1) := rfl
  unfold FC.tile
  match g with
  | ⟨0, _⟩ => exact pick_tile N _ _ _ ((congrArg (k0_off5 c.i) I.cx).trans o.1) _
  | ⟨1, _⟩ => exact pick_tile N _ _ _ ((congrArg (k0_off6 c.i) I.cx).trans o.2.1) _
  | ⟨2, _⟩ => exact pick_tile N _ _ _ ((congrArg (k0_off7 c.i) I.cx).trans o.2.2.1) _
  | ⟨3, _⟩ => exact pick_tile N _ _ _ ((congrArg (k0_off8 c.i) I.cx).trans o.2.2.2) _

theorem step : Inv M n (x + 1) (c.step h) := by
  have hx := I.x_lt h
  have hn := I.n_lt
  have hs : 128 * (n - x) = 128 * (n - (x + 1)) + 128 := by omega
  have E : ∀ j, _ := fun j => head_off (hd M j) (128 * n) (128 * (n - (x + 1))) (c.q j) (c.tile h c.X3 (half j)) (c.tile h c.X4 (half j)) c.m (c.c j) (c.a j)
    (I.q j) (by rw [I.X3]; exact I.tile h M.K _) (by rw [I.X4]; exact I.tile h M.V _) I.m ((I.cc j).trans (by rw [hs])) ((I.ca j).trans (by rw [hs])) (by omega) (by omega)
  exact ⟨I.i1, I.X3, I.X4, I.m, I.q, by show Scalar.addi c.x 1#32 = _; rw [I.cx]; exact (BitVec.ofNat_add x 1).symm, hx, fun j => (E j).1, fun j => (E j).2⟩

end Inv

/-- At its end every head's output is that over all keys. -/
theorem Inv.final {M : Mats} {n : ℕ} : ∀ (k x : ℕ) (c : FC Ideal), Inv M n x c → n - x = k → ∀ j, c.final.a j = TF (qs (w (hd M j).z) (hd M j).v 0) (128 * n) 0
  | 0, x, c, I, hk => by
    rw [c.final_neg fun h => absurd (I.x_lt h) (by omega)]
    exact I.stop fun h => absurd (I.x_lt h) (by omega)
  | k + 1, x, c, I, hk => by
    by_cases ht : c.test
    · rw [c.final_pos ht]
      exact Inv.final k (x + 1) _ (I.step ht) (by omega)
    · rw [c.final_neg ht]
      exact I.stop ht

/-! ### A grid point -/

/-- A group's output. -/
def outAt (M : Mats) (t l : ℕ) : EReal :=
  qs (w (M.hd (128 * (l / 128)) (decide (l % 128 < 64))).z) (M.hd (128 * (l / 128)) (decide (l % 128 < 64))).v 0 t (l % 128)

/-- What a grid point starts from. -/
structure Start (M : Mats) (n : ℕ) (b : FB Ideal) : Prop where
  i1 : (b.i 1).val = n
  X2 : b.X2 = A (φ := .bf16) (fun t l => M.Q (128 * n + t) l)
  X3 : b.X3 = A (φ := .bf16) M.K
  X4 : b.X4 = A (φ := .bf16) M.V

theorem halves : ∀ g : Fin 4, (half ⟨2 * g.val, by omega⟩).val = g.val ∧ (half ⟨2 * g.val + 1, by omega⟩).val = g.val := by decide

namespace Start

variable {M : Mats} {n : ℕ} {b : FB Ideal} (S : Start M n b)
include S

theorem tile (N : ℕ → ℕ → EReal) (g : Fin 4) : b.tile (A (φ := .bf16) N) g = TB (fun t l => N t (128 * g.val + l)) (128 * n) 0 := by
  have o := off1_all (b.i 1)
  rw [S.i1] at o
  unfold FB.tile
  match g with
  | ⟨0, _⟩ => exact pick_tile N _ _ _ o.1 _
  | ⟨1, _⟩ => exact pick_tile N _ _ _ o.2.1 _
  | ⟨2, _⟩ => exact pick_tile N _ _ _ o.2.2.1 _
  | ⟨3, _⟩ => exact pick_tile N _ _ _ o.2.2.2 _

theorem rows (g : Fin 4) : FB.rows b.X2 g = TB (fun t l => M.Q t (128 * g.val + l)) (128 * n) 0 := by
  have z (o : ℕ) : T (φ := .bf16) (fun t l => M.Q (128 * n + t) (o + l)) 0 0 = TB (fun t l => M.Q t (o + l)) (128 * n) 0 := by
    funext y
    show M.Q (128 * n + (0 + (y 0).val)) _ = _
    rw [Nat.zero_add]; rfl
  rw [S.X2]
  unfold FB.rows
  match g with
  | ⟨0, _⟩ => exact (pick_tile _ 0 (128 * 0) _ rfl _).trans (z _)
  | ⟨1, _⟩ => exact (pick_tile _ 0 (128 * 1) _ rfl _).trans (z _)
  | ⟨2, _⟩ => exact (pick_tile _ 0 (128 * 2) _ rfl _).trans (z _)
  | ⟨3, _⟩ => exact (pick_tile _ 0 (128 * 3) _ rfl _).trans (z _)

theorem queries (j : Fin 8) : b.q j = TB (hd M j).q (128 * n) 0 := by
  have lo (g : Fin 4) : k0_pay14 (F := Ideal) (FB.rows b.X2 g) = TB (M.hd (128 * g.val) true).q (128 * n) 0 := by
    rw [S.rows g]; exact lo_mask M.Q (128 * n) (128 * g.val)
  have hi (g : Fin 4) : k0_pay15 (F := Ideal) (FB.rows b.X2 g) = TB (M.hd (128 * g.val) false).q (128 * n) 0 := by
    rw [S.rows g]; exact hi_mask M.Q (128 * n) (128 * g.val)
  fin_cases j
  exacts [lo 0, hi 0, lo 1, hi 1, lo 2, hi 2, lo 3, hi 3]

theorem walk : Inv M n 0 b.w := by
  have hn : n < 64 := by have : (b.i 1).val < 64 := (b.i 1).isLt; have e := S.i1; omega
  have E : ∀ j, _ := fun j => head_diag (hd M j) (128 * n) (b.q j) (b.tile b.X3 (half j)) (b.tile b.X4 (half j)) (S.queries j)
    (by rw [S.X3]; exact S.tile M.K _) (by rw [S.X4]; exact S.tile M.V _) (by omega)
  exact ⟨S.i1, S.X3, S.X4, rfl, S.queries, rfl, Nat.zero_le _, fun j => (E j).1, fun j => (E j).2⟩

/-- The point's block. -/
theorem out (X : S128x512.Idx → EReal) : b.out X = A (φ := .bf16) (fun t l => outAt M (128 * n + t) l) := by
  have I := Inv.final n 0 b.w S.walk (Nat.sub_zero n)
  funext y
  have h1 : (y 1).val < 512 := (y 1).isLt
  refine (b.out_at X y ⟨(y 1).val / 128, by omega⟩ ⟨(y 1).val % 128, by omega⟩ (Nat.div_add_mod (y 1).val 128).symm).trans ?_
  rw [I, I]
  have hl := lanes_apply (ValueIdx.ix2 (y 0) ⟨(y 1).val % 128, by omega⟩)
  refine Eq.trans (hl _ _) ?_
  have e (j : Fin 8) (g : ℕ) (p : Bool) (hg : (half j).val = g) (hp : decide (j.val % 2 = 0) = p) : hd M j = M.hd (128 * g) p := by
    unfold hd; rw [hg, hp]
  have e0 := e ⟨2 * ((y 1).val / 128), by omega⟩ _ true (halves ⟨(y 1).val / 128, by omega⟩).1 (decide_eq_true (by show 2 * _ % 2 = 0; omega))
  have e1 := e ⟨2 * ((y 1).val / 128) + 1, by omega⟩ _ false (halves ⟨(y 1).val / 128, by omega⟩).2 (decide_eq_false (by show ¬(2 * _ + 1) % 2 = 0; omega))
  show (if (y 1).val % 128 < 64 then _ else _) = outAt M (128 * n + (y 0).val) (y 1).val
  unfold outAt
  by_cases hp : (y 1).val % 128 < 64
  · rw [if_pos hp, decide_eq_true hp]
    exact (congrArg (fun H : Hd => qs (w H.z) H.v 0 (128 * n + (y 0).val) (0 + (y 1).val % 128)) e0).trans (by rw [Nat.zero_add])
  · rw [if_neg hp, decide_eq_false hp]
    exact (congrArg (fun H : Hd => qs (w H.z) H.v 0 (128 * n + (y 0).val) (0 + (y 1).val % 128)) e1).trans (by rw [Nat.zero_add])

end Start

/-! ### The run -/

/-- A group's matrices. -/
def mats (X : ℕ → ℕ → EReal) (g : ℕ) : Mats where
  Q t l := X t (512 * g + l)
  K t l := X t (1024 + 512 * g + l)
  V t l := X t (2048 + 512 * g + l)

/-- The whole result. -/
def att (X : ℕ → ℕ → EReal) (t l : ℕ) : EReal := outAt (mats X (l / 512)) t (l % 512)

theorem idxs : ∀ t : Fin (cfg0 (F := Ideal)).N, win0_0.index t = ![t.val % 64, t.val / 64] ∧ win0_1.index t = ![0, 2 + t.val / 64]
    ∧ win0_2.index t = ![0, 4 + t.val / 64] ∧ win0_3.index t = ![t.val % 64, t.val / 64] :=
  (by decide +kernel : ∀ t : Fin grid0.N, _)

theorem crds : ∀ t : Fin grid0.N, (grid0.coords t 1).val = t.val % 64 := by decide +kernel

theorem lt128 (t : Fin (cfg0 (F := Ideal)).N) : t.val < 128 := lt_of_lt_of_eq t.isLt N_0

variable (m : (ℓ : Loc nD τ sig) → Buf (Elt Ideal) ℓ) (ρ : Dev nD → PrngReg) (X : Dev nD → ℕ → ℕ → EReal)
  (H : ∀ c : Dev nD, (m ((c.tc : Thread nD τ).loc main_arg0) : S8192x3072.Idx → EReal) = A (φ := .bf16) (X c))
include H

theorem blk0 (c : Dev nD) (t : Fin (cfg0 (F := Ideal)).N) :
    (iblk m c 0 t : S128x512.Idx → EReal) = A (φ := .bf16) (fun r l => (mats (X c) (t.val / 64)).Q (128 * (t.val % 64) + r) l) := by
  funext y
  have := lt128 t; have := idx2_lt0 y; have := idx2_lt1 y
  refine Eq.trans (b := (m ((c.tc : Thread nD τ).loc main_arg0) : S8192x3072.Idx → EReal)
    (ValueIdx.ix2 ⟨128 * (t.val % 64) + (y 0).val, by omega⟩ ⟨512 * (t.val / 64) + (y 1).val, by omega⟩)) ?_ (congrFun (H c) _)
  blk_ext [iblk, V, (idxs t).1]

theorem blk1 (c : Dev nD) (t : Fin (cfg0 (F := Ideal)).N) :
    (iblk m c 1 t : S8192x512.Idx → EReal) = A (φ := .bf16) (mats (X c) (t.val / 64)).K := by
  funext y
  have := lt128 t; have := idx2_lt0 y; have := idx2_lt1 y
  refine Eq.trans (b := (m ((c.tc : Thread nD τ).loc main_arg0) : S8192x3072.Idx → EReal)
    (ValueIdx.ix2 ⟨(y 0).val, by omega⟩ ⟨1024 + 512 * (t.val / 64) + (y 1).val, by omega⟩)) ?_ (congrFun (H c) _)
  blk_ext [iblk, V, (idxs t).2.1]

theorem blk2 (c : Dev nD) (t : Fin (cfg0 (F := Ideal)).N) :
    (iblk m c 2 t : S8192x512.Idx → EReal) = A (φ := .bf16) (mats (X c) (t.val / 64)).V := by
  funext y
  have := lt128 t; have := idx2_lt0 y; have := idx2_lt1 y
  refine Eq.trans (b := (m ((c.tc : Thread nD τ).loc main_arg0) : S8192x3072.Idx → EReal)
    (ValueIdx.ix2 ⟨(y 0).val, by omega⟩ ⟨2048 + 512 * (t.val / 64) + (y 1).val, by omega⟩)) ?_ (congrFun (H c) _)
  blk_ext [iblk, V, (idxs t).2.2.1]

theorem oblk_eq (c : Dev nD) (t : Fin (cfg0 (F := Ideal)).N) :
    (oblk m c t : S128x512.Idx → EReal) = A (φ := .bf16) (fun r l => outAt (mats (X c) (t.val / 64)) (128 * (t.val % 64) + r) l) :=
  Start.out (b := pts m c t) ⟨crds t, blk0 m X H c t, blk1 m X H c t, blk2 m X H c t⟩ _

theorem result (c : Dev nD) : (dats m 0 c).arrAt 3 (cfg0 (F := Ideal)).N = fun i : S8192x1024.Idx => att (X c) (i 0).val (i 1).val := by
  refine (dats m 0 c).arrAt_eq_of_covers 3 _ (by decide +kernel) fun t hf y => ?_
  blk_simp
  rw [after3, oblk_eq m X H]
  have h0 := idx2_lt0 y
  have h1 := idx2_lt1 y
  have ht := lt128 t
  have e0 : win0_3.index t 0 * 128 + (y 0).val = 128 * (t.val % 64) + (y 0).val := by
    rw [(idxs t).2.2.2]; show t.val % 64 * 128 + _ = _; omega
  have e1 : win0_3.index t 1 * 512 + (y 1).val = 512 * (t.val / 64) + (y 1).val := by
    rw [(idxs t).2.2.2]; show t.val / 64 * 512 + _ = _; omega
  show outAt (mats (X c) (t.val / 64)) (128 * (t.val % 64) + (y 0).val) (y 1).val
    = att (X c) (win0_3.index t 0 * 128 + (y 0).val) (win0_3.index t 1 * 512 + (y 1).val)
  rw [e0, e1]
  unfold att
  rw [show (512 * (t.val / 64) + (y 1).val) / 512 = t.val / 64 by omega, show (512 * (t.val / 64) + (y 1).val) % 512 = (y 1).val by omega]

/-- The run ends with the heads' outputs. -/
theorem value : θ_run defs (onTc (τ := τ) (main (F := Ideal))) ⟨m, fun _ => 0, ρ⟩ (fun r => ∀ c : Dev nD,
      r.2.mem ((c.tc : Thread nD τ).loc main_v0) = (A (φ := .bf16) (att (X c)) : S8192x1024.Idx → EReal)
      ∧ r.2.mem ((c.tc : Thread nD τ).loc main_arg0) = m ((c.tc : Thread nD τ).loc main_arg0)) :=
  (θ_run defs _ _).mono (fun _ h c => ⟨((h.1 c).1 3).trans (result m X H c), ((h.1 c).1 0).trans ((dats m 0 c).arrAt_in 0 rfl _)⟩) (run m ρ)

end Cert.FattIdeal.Run

end
-- ==== Proof.FattBits.lean ====
/-
  The printed attention kernel: its walk, its body, and the frame.
-/
module

public import proofs.«01_k».proof.Proof.FattFrame
public import proofs.«01_k».proof.Proof.BitsModel
public import proofs.«01_k».proof.Proof.Gen.Fatt.Skeleton
public import proofs.«01_k».proof.Proof.Gen.Fatt.Launch
public import proofs.«01_k».proof.Proof.Gen.Fatt.Points
public import Idealize.ShloMosaic.Lib.Pipeline.Frame
public import Idealize.ShloMosaic.Lib.Pipeline.FrameBody
public import Idealize.ShloMosaic.Lib.Pipeline.FrameValue

@[expose] public section

set_option maxRecDepth 16384

noncomputable section

namespace Cert.Fatt.Run

open Cert.Fatt Cert.Fatt.Gen
open Cert.FattIdeal.Run (FC FB Ret ret)
open Cert.AttnIdeal.Run (𝒱₀)
open Idealize.ShloMosaic
open Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

attribute [local instance] Cert.Attn.Run.plain

local notation "𝕄" => MT nD τ sig Unit (Elt F) ℕ (UR sig nD τ) ℕ

section
variable (d : Dev nD) (E : Set ℕ) (q3 q4 : PosShare TreeShare) (arg3 : Memref sig .tc .vmem S8192x512 .bf16) (harg3 : arg3.IsWhole) (arg4 : Memref sig .tc .vmem S8192x512 .bf16) (harg4 : arg4.IsWhole)

/-- The walk from `c`: it gives its buffers back and returns the values at the walk's end. -/
def spec (c : FC F) : sWPT 𝕄 (Ret F) := do
  sWPT.consume iprop(ownsTc d arg3 q3 c.X3 ∗ ownsTc d arg4 q4 c.X4)
  sWPT.produce iprop(ownsTc d arg3 q3 c.X3 ∗ ownsTc d arg4 q4 c.X4)
  pure (ret c.final)

theorem spec_apply (c : FC F) (K : Ret F → sProp 𝕄) : spec d q3 q4 arg3 arg4 c K
    = iprop((ownsTc d arg3 q3 c.X3 ∗ ownsTc d arg4 q4 c.X4) ∗ ((ownsTc d arg3 q3 c.X3 ∗ ownsTc d arg4 q4 c.X4) -∗ K (ret c.final))) := rfl

/-- The walk as it is called. -/
abbrev entry (c : FC F) : Prog (TpuEff nD τ sig (Elt F) (Λ₀ F) .tc) (Ret F) :=
  defs₀ (F := F) .tc 1 ⟨c.i, arg3, harg3, c.q 0, c.m, arg4, harg4, c.q 1, c.q 2, c.q 3, c.q 4, c.q 5, c.q 6, c.q 7, c.x, c.c 0, c.c 1, c.c 2, c.c 3, c.c 4, c.c 5, c.c 6, c.c 7, c.a 0, c.a 1, c.a 2, c.a 3, c.a 4, c.a 5, c.a 6, c.a 7⟩

theorem body_le (c : FC F) (n : ℕ) (ih : ∀ c' : FC F, c'.left < n → spec d q3 q4 arg3 arg4 c'
      ≤ wp frame (wpE (defs₀ (F := F)) 𝒱₀ (d : Thread nD τ) (some c'.left)) E (entry arg3 harg3 arg4 harg4 c'))
    (hn : c.left = n) (K : Ret F → sProp 𝕄) : spec d q3 q4 arg3 arg4 c K
      ⊢ wp frame (wpE (defs₀ (F := F)) 𝒱₀ (d : Thread nD τ) (some n)) E (cc0_while1 c.i arg3 harg3 (c.q 0) c.m arg4 harg4 (c.q 1) (c.q 2) (c.q 3) (c.q 4) (c.q 5) (c.q 6) (c.q 7) c.x (c.c 0) (c.c 1) (c.c 2) (c.c 3) (c.c 4) (c.c 5) (c.c 6) (c.c 7) (c.a 0) (c.a 1) (c.a 2) (c.a 3) (c.a 4) (c.a 5) (c.a 6) (c.a 7)) K := by
  rw [spec_apply, cc0_while1_eq_skeleton]; unfold cc0_while1_skel
  iintro ⟨⟨H3, H4⟩, HK⟩
  by_cases h : c.test
  on_goal 1 =>
    have h' : Scalar.andi (Scalar.cmpi .slt c.x (BitVec.ofNat 32 (c.i 1).val))
      (Scalar.cmpf .ogt (k0_pay7 (c.c 0) (c.c 1) (c.c 2) (c.c 3) (c.c 4) (c.c 5) (c.c 6) (c.c 7)) (Scalar.ofBits .f32 0xC2D00000#32)) = 1#1 := h
    have hs := c.step_lt h
    simp only [k0_part9_eq_skeleton, k0_part10_eq_skeleton, k0_part11_eq_skeleton, k0_part12_eq_skeleton, k0_part13_eq_skeleton, k0_part14_eq_skeleton,
      k0_part9_skel, k0_part10_skel, k0_part11_skel, k0_part12_skel, k0_part13_skel, k0_part14_skel,
      Prog.lift, Prog.bind_op, Prog.bind_ret, Prog.pure_eq_ret]
    rw [if_pos h', c.final_pos h]
    iapply (wp_assume _ _ _ _ (c.chk h))
    iterate 8
      iapply Cert.Own.ld $$ H3; iintro H3
      iapply Cert.Own.ld $$ H4; iintro H4
    iapply (wp_call_spec 𝒱₀ (d : Thread nD τ) (some n) E (spec d q3 q4 arg3 arg4 (c.step h)) (c.step h).left
      (fun u hu => by cases hu; exact hn ▸ hs) (ih (c.step h) (hn ▸ hs)))
    rw [spec_apply]
    isplitl [H3 H4]
    · isplitl [H3]; iexact H3; iexact H4
    iintro ⟨H3, H4⟩
  on_goal 2 =>
    have h' : ¬Scalar.andi (Scalar.cmpi .slt c.x (BitVec.ofNat 32 (c.i 1).val))
      (Scalar.cmpf .ogt (k0_pay7 (c.c 0) (c.c 1) (c.c 2) (c.c 3) (c.c 4) (c.c 5) (c.c 6) (c.c 7)) (Scalar.ofBits .f32 0xC2D00000#32)) = 1#1 := h
    simp only [Prog.lift, Prog.bind_op, Prog.bind_ret, Prog.pure_eq_ret]
    rw [if_neg h', c.final_neg h]
  all_goals
    rw [wp_ret]; imodintro
    iapply HK
    isplitl [H3]; iexact H3; iexact H4

theorem spec_le (c : FC F) : spec d q3 q4 arg3 arg4 c
      ≤ wp frame (wpE (defs₀ (F := F)) 𝒱₀ (d : Thread nD τ) (some c.left)) E (entry arg3 harg3 arg4 harg4 c) := by
  suffices h : ∀ n, ∀ c : FC F, c.left = n → spec d q3 q4 arg3 arg4 c
      ≤ wp frame (wpE (defs₀ (F := F)) 𝒱₀ (d : Thread nD τ) (some c.left)) E (entry arg3 harg3 arg4 harg4 c) from h _ c rfl
  intro n
  induction n using Nat.strong_induction_on with
  | _ n ih =>
    intro c hc K
    have := body_le d E q3 q4 arg3 harg3 arg4 harg4 c n (fun c' h => ih _ h c' rfl) hc K
    rw [hc]
    exact this

end

/-- The body at a grid point. -/
theorem body_spec (b : FB F) (d : Dev nD) (arg2 : Memref sig .tc .vmem S128x512 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S128x512 .bf16) (harg5 : arg5.IsWhole)
    {q2 q3 q4 : PosShare TreeShare} (X5 : S128x512.Idx → Elt F .bf16) (K : PUnit → sProp 𝕄) :
    iprop((ownsTc d arg2 q2 b.X2 ∗ ownsTc d arg3 q3 b.X3 ∗ ownsTc d arg4 q4 b.X4 ∗ ownsTc d arg5 fullShare X5)
      ∗ ((ownsTc d arg2 q2 b.X2 ∗ ownsTc d arg3 q3 b.X3 ∗ ownsTc d arg4 q4 b.X4 ∗ ownsTc d arg5 fullShare (b.out X5)) -∗ K ⟨⟩))
      ⊢ wp frame (wpE (defs₀ (F := F)) 𝒱₀ (d : Thread nD τ) none) Set.univ (cc0_sb_fwd_37 b.i arg2 harg2 arg3 harg3 arg4 harg4 arg5 harg5) K := by
  rw [cc0_sb_fwd_37_eq_skeleton]; unfold cc0_sb_fwd_37_skel
  iintro ⟨⟨H2, H3, H4, H5⟩, HK⟩
  simp only [k0_part1_eq_skeleton, k0_part2_eq_skeleton, k0_part3_eq_skeleton, k0_part4_eq_skeleton, k0_part5_eq_skeleton, k0_part6_eq_skeleton, k0_part7_eq_skeleton, k0_part8_eq_skeleton,
    k0_part1_skel, k0_part2_skel, k0_part3_skel, k0_part4_skel, k0_part5_skel, k0_part6_skel, k0_part7_skel, k0_part8_skel,
    Prog.lift, Prog.bind_op, Prog.bind_ret, Prog.pure_eq_ret]
  iterate 4 (iapply Cert.Own.ld $$ H2; iintro H2)
  iterate 8
    iapply Cert.Own.ld $$ H3; iintro H3
    iapply Cert.Own.ld $$ H4; iintro H4
  iapply (wp_call_spec 𝒱₀ (d : Thread nD τ) none Set.univ (spec d q3 q4 arg3 arg4 b.w) b.w.left
    (fun u hu => by cases hu) (spec_le d Set.univ q3 q4 arg3 harg3 arg4 harg4 b.w))
  rw [spec_apply]
  isplitl [H3 H4]
  · isplitl [H3]; iexact H3; iexact H4
  iintro ⟨H3, H4⟩
  unfold ret
  dsimp only
  iterate 4 (iapply Cert.Own.ld $$ H5; iintro H5; iapply Cert.Own.st $$ H5; iintro H5)
  rw [wp_ret]; imodintro
  iapply HK
  isplitl [H2]; iexact H2
  isplitl [H3]; iexact H3
  isplitl [H4]; iexact H4
  iexact H5

variable (m : (ℓ : Loc nD τ sig) → Buf (Elt F) ℓ) (ρ : Dev nD → PrngReg)

/-- The buffers as the region finds them. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The values of a point. -/
abbrev pts (c : Dev nD) (t : Fin (cfg0 (F := F)).N) : FB F := ⟨grid0.coords t, iblk m c 0 t, iblk m c 1 t, iblk m c 2 t⟩

/-- The point's block of the result. -/
def oblk (c : Dev nD) (t : Fin (cfg0 (F := F)).N) : S128x512.Idx → Elt F .bf16 := (pts m c t).out fun _ => FloatOps.ofBits .bf16 0#16

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q w := Pipeline.shareOf spec0 w
  owed _ := 0

theorem after0 (c : Dev nD) (t) : (dats m 0 c).after 0 t = iblk m c 0 t := by dsimp only [dats]; try rfl
theorem after1 (c : Dev nD) (t) : (dats m 0 c).after 1 t = iblk m c 1 t := by dsimp only [dats]; try rfl
theorem after2 (c : Dev nD) (t) : (dats m 0 c).after 2 t = iblk m c 2 t := by dsimp only [dats]; try rfl
theorem after3 (c : Dev nD) (t) : (dats m 0 c).after 3 t = oblk m c t := by dsimp only [dats]; try rfl

theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rfl) t d).trans (by unfold Dat.fetched Dat.blockOf iblk; rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rfl) t d).trans (by unfold Dat.fetched Dat.blockOf iblk; rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rfl) t d).trans (by unfold Dat.fetched Dat.blockOf iblk; rfl)

def Pre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d)))
def Post (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t))

theorem sound (c : Dev nD) (t : Fin (cfg0 (F := F)).N) :
    Pre m c t ⊢ wp frame (wpE (defs₀ (F := F)) 𝒱₀ c none) Set.univ (bodyAt0 t) (fun _ => Post m c t) := by
  unfold Pre Post bodyAt0
  simp only [before0, before1, before2]
  rw [after0, after1, after2, after3]
  rw [show (dats m 0 c).Φ t.succ = (dats m 0 c).Φ t.castSucc from rfl]
  rw [show (dats m 0 c).owesAt () t.succ = (dats m 0 c).owesAt () t.castSucc from rfl]
  iintro ⟨HP, HW, ⟨%d0, H2⟩, ⟨%d1, H3⟩, ⟨%d2, H4⟩, ⟨%d3, H5⟩⟩
  iapply (body_spec (pts m c t) c _ _ _ _ _ _ _ _ ((dats m 0 c).before 3 t d3))
  isplitl [H2 H3 H4 H5]
  · isplitl [H2]; · iexact H2
    isplitl [H3]; · iexact H3
    isplitl [H4]; · iexact H4
    iexact H5
  iintro ⟨H2, H3, H4, H5⟩
  isplitl [HP]; · iexact HP
  isplitl [HW]; · iexact HW
  isplitl [H2]; · iexact H2
  isplitl [H3]; · iexact H3
  isplitl [H4]; · iexact H4
  rw [show oblk m c t = (pts m c t).out ((dats m 0 c).before 3 t d3) from Cert.FattIdeal.Run.FB.out_congr _ _ _]
  iapply (Entails.of_eq ?_) $$ H5; rfl

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, defs₀_row]
  exact triple_restated (sound m c t) rfl .rfl fun _ => .rfl

set_option backward.isDefEq.respectTransparency.types false in
theorem run : θ_run defs (onTc (τ := τ) (main (F := F))) (s₀ m ρ) (fun r => Pipeline.FramePost cfgs (dats m) 0 (V m) r ∧ r.2.sem = fun _ => 0) :=
  Pipeline.θ_run_frame_shared (cfgs := cfgs) (dats := dats m) (p := (0 : Fin 1)) (kit₀ := launch₀0) (defs₀ := defs₀) (𝒱₀ := 𝒱₀) (m := m) (g := ρ) (main := main)
    (hbody := fun c => (obligation m c).loose) (hq := fun _ _ _ => rfl)
    (howed := fun _ _ => rfl) (V := V m) (hmain := hmain m) (hA := fun _ _ => rfl) (hΦ := fun _ _ => rfl)
    (Q' := fun r => Pipeline.FramePost cfgs (dats m) 0 (V m) r ∧ r.2.sem = fun _ => 0) (hQ' := fun _ h => h)

/-- The frame: the run ends, the argument is as it was, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 0).trans ((dats m 0 c).arrAt_in 0 rfl _), h.2⟩) (run m ρ)

end Cert.Fatt.Run

end
-- ==== Proof.FattAlg.lean ====
/-
  The attention: its reference over the extended reals, and that it and the kernel end with equal results.
-/
module

public import proofs.«01_k».proof.Proof.AttnAlg
public import proofs.«01_k».proof.Proof.FattVal
public import proofs.«01_k».proof.Proof.FattBits
public import proofs.«01_k».proof.Proof.Gen.FattRefIdeal.Read

@[expose] public section

set_option maxRecDepth 16384

noncomputable section

open Idealize.ShloMosaic Idealize.ShloMosaic.TcCoe Idealize.ShloMosaic.ValueIdx Idealize.SL.Sem Finset
open Cert.AttnIdeal.Ext

namespace Cert.FattRefIdeal.Ext

open Cert.AttnRefIdeal.Read
open Cert.AttnRefIdeal (S16x8192x64 S16x8192x8192)
open Cert.AttnRefIdeal.Reals (zero_val mask23 mask28)

theorem softplus_val (x : Ideal .f32) :
    Scalar.select (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32)) (FloatOps.hostUnary .log1p (FloatOps.hostUnary .exp
        (FloatOps.hostNegf (FloatOps.hostAbsf (FloatOps.subf x (FloatOps.ofBits .f32 0x00000000#32))))))) = sp x := by
  rw [zero_val]
  have c : ∀ y : EReal, Ideal.cmp .une y y = 0#1 := fun y => by simp [Ideal.cmp]
  show Scalar.select (Ideal.cmp .une ((x : EReal) - 0) ((x : EReal) - 0)) ((x : EReal) + 0)
    (max (x : EReal) 0 + Ideal.log (1 + Ideal.exp (-(max ((x : EReal) - 0) (-((x : EReal) - 0)))))) = _
  rw [c, sub_zero]
  unfold sp
  rw [zero_sub]
  rfl

section

variable (X : ℕ → ℕ → EReal)

abbrev ax : (⟨S8192x3072, .bf16⟩ : BufTy).Contents (Elt Ideal) := A (s0 := 8192) (s1 := 3072) (φ := .bf16) X

theorem q_val (i : S16x8192x64.Idx) : val_main_v5 (F := Ideal) (ax X) i = X (i 1).val (64 * (i 0).val + (i 2).val) := by
  have b0 : (i 0).val < 16 := (i 0).isLt
  have b1 : (i 1).val < 8192 := (i 1).isLt
  have b2 : (i 2).val < 64 := (i 2).isLt
  rw [val_main_v5_apply, val_main_v4_apply, val_main_v1_apply, val_main_v0_apply]
  refine congrArg₂ X (?_ : (((i 1).val * 16 + (i 0).val) * 64 + (i 2).val) / 1024 = _)
    (?_ : (((i 1).val * 16 + (i 0).val) * 64 + (i 2).val) % 1024 = _) <;> omega

theorem k_val (i : S16x8192x64.Idx) : val_main_v7 (F := Ideal) (ax X) i = X (i 1).val (1024 + 64 * (i 0).val + (i 2).val) := by
  have b0 : (i 0).val < 16 := (i 0).isLt
  have b1 : (i 1).val < 8192 := (i 1).isLt
  have b2 : (i 2).val < 64 := (i 2).isLt
  rw [val_main_v7_apply, val_main_v6_apply, val_main_v2_apply, val_main_v0_apply]
  refine congrArg₂ X (?_ : (((i 1).val * 16 + (i 0).val) * 64 + (i 2).val) / 1024 = _)
    (?_ : 1024 + (((i 1).val * 16 + (i 0).val) * 64 + (i 2).val) % 1024 = _) <;> omega

theorem v_val (i : S16x8192x64.Idx) : val_main_v9 (F := Ideal) (ax X) i = X (i 1).val (2048 + 64 * (i 0).val + (i 2).val) := by
  have b0 : (i 0).val < 16 := (i 0).isLt
  have b1 : (i 1).val < 8192 := (i 1).isLt
  have b2 : (i 2).val < 64 := (i 2).isLt
  rw [val_main_v9_apply, val_main_v8_apply, val_main_v3_apply, val_main_v0_apply]
  refine congrArg₂ X (?_ : (((i 1).val * 16 + (i 0).val) * 64 + (i 2).val) / 1024 = _)
    (?_ : 2048 + (((i 1).val * 16 + (i 0).val) * 64 + (i 2).val) % 1024 = _) <;> omega

/-- A head's scores. -/
def sc (h t s : ℕ) : EReal := (∑ c : Fin 64, X t (64 * h + c.val) * X s (1024 + 64 * h + c.val)) * Ideal.ofBits .f32 0x3E000000#32

variable (i : S16x8192x8192.Idx)

theorem z_val : val_main_v12 (F := Ideal) (ax X) i = sc X (i 0).val (i 1).val (i 2).val := by
  rw [val_main_v12_apply, val_main_v10_apply, val_main_v11_apply, val_main_cst_apply, Finset.sum_congr rfl fun k _ => by rw [q_val, k_val]]
  rfl

theorem lb_val : val_main_v20_0 (F := Ideal) (ax X) i = (-sp (-sc X (i 0).val (i 1).val (i 2).val) : EReal) := by
  simp only [val_main_v20_0_apply, val_main_call0_v1_0_apply, val_main_call0_call0_v11_apply, val_main_call0_call0_v10_apply, val_main_call0_call0_v9_apply,
    val_main_call0_call0_v8_apply, val_main_call0_call0_v7_apply, val_main_call0_call0_v6_apply, val_main_call0_call0_v5_apply,
    val_main_call0_call0_v4_apply, val_main_call0_call0_v3_apply, val_main_call0_call0_v2_apply, val_main_call0_call0_v1_apply,
    val_main_call0_call0_v0_apply, val_main_call0_call0_cst_apply]
  rw [softplus_val, val_main_call0_v0_apply, z_val]
  rfl

theorem lk_val : val_main_v23_0 (F := Ideal) (ax X) i = lk (sc X (i 0).val) (i 1).val (i 2).val := by
  rw [val_main_v23_0_apply, mask23]
  simp only [val_main_v22_0_apply, val_main_call1_v1_0_apply, val_main_call1_call0_v11_apply, val_main_call1_call0_v10_apply, val_main_call1_call0_v9_apply,
    val_main_call1_call0_v8_apply, val_main_call1_call0_v7_apply, val_main_call1_call0_v6_apply, val_main_call1_call0_v5_apply,
    val_main_call1_call0_v4_apply, val_main_call1_call0_v3_apply, val_main_call1_call0_v2_apply, val_main_call1_call0_v1_apply,
    val_main_call1_call0_v0_apply, val_main_call1_call0_cst_apply]
  rw [softplus_val, val_main_call1_v0_apply, val_main_v21_apply, z_val, val_main_call2_v2_apply, val_main_call2_v0_apply, val_main_cst_0_apply, zero_val]
  unfold lk
  rw [zero_sub]
  exact congrArg (fun a : EReal => if (i 2).val < (i 1).val then -sp a else 0) (neg_neg _)

theorem later_val : val_main_v25 (F := Ideal) (ax X) i
    = (lk (sc X (i 0).val) (i 1).val (i 2).val + ∑ j ∈ Ico ((i 2).val + 1) 8192, lk (sc X (i 0).val) (i 1).val j - lk (sc X (i 0).val) (i 1).val (i 2).val : EReal) := by
  have b2 : (i 2).val < 8192 := (i 2).isLt
  have e : val_main_v24 (F := Ideal) (ax X) i = ∑ j ∈ Ico (i 2).val 8192, lk (sc X (i 0).val) (i 1).val j := by
    unfold val_main_v24
    rw [Cert.AttnIdeal.Run.windowAdd]
    exact Cert.AttnIdeal.Run.window_from (val_main_v23_0 (F := Ideal) (ax X)) (lk (sc X (i 0).val) (i 1).val) i (fun j h0 h1 => by rw [lk_val X j, h0, h1])
      (val_main_call3_v0 (F := Ideal)) (fun k => by rw [val_main_call3_v0_apply, val_main_call3_cst_apply]; exact zero_val) _ _
  rw [val_main_v25_apply, e, lk_val X i, Finset.sum_eq_sum_Ico_succ_bot b2]
  rfl

theorem w_val : val_main_v28_0 (F := Ideal) (ax X) i = w (sc X (i 0).val) (i 1).val (i 2).val := by
  rw [val_main_v28_0_apply, mask28, val_main_v27_apply, val_main_v26_apply, lb_val X i, later_val X i, val_main_call4_v2_apply, val_main_call4_v0_apply,
    val_main_cst_1_apply, zero_val]
  unfold w
  split
  · next h =>
    refine congrArg Ideal.exp ?_
    rw [show lk (sc X (i 0).val) (i 1).val (i 2).val = -sp (sc X (i 0).val (i 1).val (i 2).val) from (if_pos h).trans (zero_sub _)]
    exact two_ways _ _
  · rfl

end

section

variable (x : (⟨S8192x3072, .bf16⟩ : BufTy).Contents (Elt Ideal))

theorem e9 : Cert.FattRefIdeal.Read.val_main_v9 (F := Ideal) x = val_main_v9 (F := Ideal) x := rfl
theorem e28 : Cert.FattRefIdeal.Read.val_main_v28 (F := Ideal) x = val_main_v28_0 (F := Ideal) x := rfl

end

/-- The result. -/
theorem out_val (X : ℕ → ℕ → EReal) : Cert.FattRefIdeal.Read.val_main_v32 (F := Ideal) (ax X)
    = A (s0 := 8192) (s1 := 1024) (φ := .bf16) (fun t l => ∑ s ∈ range 8192, w (sc X (l / 64)) t s * X s (2048 + l)) := by
  funext i
  have b0 : (i 0).val < 8192 := (i 0).isLt
  have b1 : (i 1).val < 1024 := (i 1).isLt
  rw [Cert.FattRefIdeal.Read.val_main_v32_apply, Cert.FattRefIdeal.Read.val_main_v31_apply, Cert.FattRefIdeal.Read.val_main_v30_apply, Cert.FattRefIdeal.Read.val_main_v29_apply, e28, e9,
    Finset.sum_congr rfl fun k _ => congrArg₂ (fun a b : EReal => a * b) (w_val X _) (v_val X _)]
  show _ = ∑ s ∈ range 8192, w (sc X ((i 1).val / 64)) (i 0).val s * X s (2048 + (i 1).val)
  rw [sum_range]
  refine Finset.sum_congr rfl fun k _ => congrArg₂ (fun a b : EReal => a * b) ?_ ?_
  · show w (sc X (((i 0).val * 1024 + (i 1).val) / 64 % 16)) (((i 0).val * 1024 + (i 1).val) / 1024) k.val = _
    rw [show ((i 0).val * 1024 + (i 1).val) / 64 % 16 = (i 1).val / 64 by omega, show ((i 0).val * 1024 + (i 1).val) / 1024 = (i 0).val by omega]
  · show X k.val (2048 + 64 * (((i 0).val * 1024 + (i 1).val) / 64 % 16) + ((i 0).val * 1024 + (i 1).val) % 64) = _
    exact congrArg _ (by omega)

end Cert.FattRefIdeal.Ext

namespace Cert.FattIdeal.Run

open Cert.FattIdeal

theorem frame_fatt : Cert.quiescent_Fatt := fun m ρ _ => Cert.Fatt.Run.frame (F := Bits) m ρ
theorem frame_fattIdeal : Cert.quiescent_FattIdeal := fun m ρ _ => frame (F := Ideal) m ρ
theorem frame_fattRef : Cert.quiescent_FattRefIdeal := fun m ρ _ => (θ_run Cert.FattRefIdeal.defs _ _).mono
  (fun r h => ⟨fun c => (h c).2, Idealize.ShloMosaic.sem_eq_zero_of_no_sems (by decide) r.2⟩) (Cert.FattRefIdeal.Value.run (F := Ideal) m ρ)
theorem preserves_fatt : Cert.preserves_Fatt_FattIdeal := ⟨rfl, fun _ => rfl, rfl⟩

/-- A head's output on its own columns is the reference's. -/
theorem att_eq (X : ℕ → ℕ → EReal) (t l : ℕ) : att X t l = ∑ s ∈ range 8192, w (Cert.FattRefIdeal.Ext.sc X (l / 64)) t s * X s (2048 + l) := by
  have z (b : Bool) (e : 64 * (l / 64) = 512 * (l / 512) + 128 * (l % 512 / 128) + (if b then 0 else 64)) :
      ((mats X (l / 512)).hd (128 * (l % 512 / 128)) b).z = Cert.FattRefIdeal.Ext.sc X (l / 64) := by
    funext t s
    refine (zz_half (mats X (l / 512)).Q (mats X (l / 512)).K (128 * (l % 512 / 128)) b t s).trans (congrArg (fun x : EReal => x * _) ?_)
    refine sum_congr rfl fun x _ => congrArg₂ (fun a b : EReal => a * b) (congrArg (X t) ?_) (congrArg (X s) ?_) <;> omega
  unfold att outAt qs
  rw [Nat.Ico_zero_eq_range]
  refine sum_congr rfl fun s _ => congrArg₂ (fun a b : EReal => a * b) (congrArg (fun Z => w Z t s) (z _ ?_)) ?_
  · by_cases h : l % 512 % 128 < 64
    · rw [if_pos (decide_eq_true h)]; omega
    · rw [if_neg (by simpa using h)]; omega
  · show X s (2048 + 512 * (l / 512) + (128 * (l % 512 / 128) + l % 512 % 128)) = _
    exact congrArg _ (by omega)

/-- An array's entries by row and column. -/
def entries (x : S8192x3072.Idx → EReal) (t l : ℕ) : EReal := if h : t < 8192 ∧ l < 3072 then x (ValueIdx.ix2 ⟨t, h.1⟩ ⟨l, h.2⟩) else 0

theorem algebraic : Cert.algebraic_FattIdeal_FattRefIdeal := by
  intro m ρ m' ρ' _ hagree
  have H (c : Dev nD) : (m (c.tc.loc main_arg0) : S8192x3072.Idx → EReal) = A (φ := .bf16) (entries (m (c.tc.loc main_arg0))) :=
    funext fun i => ((dif_pos ⟨(i 0).isLt, (i 1).isLt⟩).trans (congrArg (m (c.tc.loc main_arg0) : S8192x3072.Idx → EReal) (ValueIdx.eq_ix2 i).symm)).symm
  refine ⟨fun c => (A (s0 := 8192) (s1 := 1024) (φ := .bf16) (att (entries (m (c.tc.loc main_arg0)))) : S8192x1024.Idx → EReal), value m ρ _ H, ?_⟩
  refine (θ_run Cert.FattRefIdeal.defs _ _).mono (fun r h c => ⟨(h c).1.trans ?_, (h c).2⟩) (Cert.FattRefIdeal.Value.run (F := Ideal) m' ρ')
  refine (Cert.FattRefIdeal.Read.val_main_v32_eq _ _).trans ?_
  rw [hagree c]
  refine (congrArg (Cert.FattRefIdeal.Read.val_main_v32 (F := Ideal)) (H c)).trans ((Cert.FattRefIdeal.Ext.out_val _).trans ?_)
  exact congrArg (A (s0 := 8192) (s1 := 1024) (φ := .bf16)) (funext fun t => funext fun l => (att_eq _ t l).symm)

end Cert.FattIdeal.Run

end
-- ==== Proof.lean ====
/-
  The claims, each from its module.
-/
module

public import proofs.«01_k».proof.Defs
public import proofs.«01_k».proof.Proof.Gen.Kernel.Frame
public import proofs.«01_k».proof.Proof.Gen.KernelIdeal.Frame
public import proofs.«01_k».proof.Proof.Gen.Down.Frame
public import proofs.«01_k».proof.Proof.Gen.Act.Frame
public import proofs.«01_k».proof.Proof.Gen.Gu.Frame
public import proofs.«01_k».proof.Proof.Gen.U2.Frame
public import proofs.«01_k».proof.Proof.Gen.Qkv.Frame
public import proofs.«01_k».proof.Proof.Gen.Qu.Frame
public import proofs.«01_k».proof.Proof.Gen.Wo.Frame
public import proofs.«01_k».proof.Proof.Gen.O.Frame
public import proofs.«01_k».proof.Proof.Gen.Wglu.Frame
public import proofs.«01_k».proof.Proof.Gen.Gy.Frame
public import proofs.«01_k».proof.Proof.Gen.Hs.Frame
public import proofs.«01_k».proof.Proof.Gen.Fqkv.Frame
public import proofs.«01_k».proof.Proof.Gen.Fm.Frame
public import proofs.«01_k».proof.Proof.Gen.Fglu.Frame
public import proofs.«01_k».proof.Proof.Gen.Ff.Frame
public import proofs.«01_k».proof.Proof.Gen.Fup.Frame
public import proofs.«01_k».proof.Proof.Gen.Fconv.Frame
public import proofs.«01_k».proof.Proof.Gen.FconvIdeal.Frame
public import proofs.«01_k».proof.Proof.Fconv
public import proofs.«01_k».proof.Proof.Elem
public import proofs.«01_k».proof.Proof.ConvRef
public import proofs.«01_k».proof.Proof.ConvKer
public import proofs.«01_k».proof.Proof.AttnBits
public import proofs.«01_k».proof.Proof.Prod3
public import proofs.«01_k».proof.Proof.Prod2
public import proofs.«01_k».proof.Proof.Prod4
public import proofs.«01_k».proof.Proof.Prod1
public import proofs.«01_k».proof.Proof.AttnAlg
public import proofs.«01_k».proof.Proof.FattAlg
public import Idealize.ShloMosaic.Adequacy
public import Idealize.ShloMosaic.Init

@[expose] public section

noncomputable section

namespace Cert.Proof

open Idealize.ShloMosaic Idealize.SL.Sem Cert.Kernel

/-- The reference has no counters, so its run's arguments are all there is to say. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Both programs end with the convolution's gradients `Conv.dhAt`, `Conv.dwAt`, `Conv.dbAt` of the same three arrays. -/
theorem conv_algebraic : Cert.algebraic_KernelIdeal_ReferenceIdeal := by
  intro m ρ m' ρ' _ hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m ρ, ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v567_eq]
    funext i
    refine (Cert.ReferenceIdeal.Taps.dh_eq _ _ i).trans ((Cert.KernelIdeal.Taps.dh_eq m c i).trans ?_).symm
    exact congrArg₂ (fun d w => Conv.dhAt d w (i 0).val (i 1)) (hagree c).2.1.symm (hagree c).2.2.symm
  · rw [Cert.ReferenceIdeal.Read.val_main_v565_eq]
    funext i
    refine (Cert.ReferenceIdeal.Taps.dw_eq _ _ i).trans ((Cert.KernelIdeal.Taps.dw_eq m c i).trans ?_).symm
    exact congrArg₂ (fun h d => Conv.dwAt h d (i 0).val (i 1)) (hagree c).1.symm (hagree c).2.1.symm
  · rw [Cert.ReferenceIdeal.Read.val_main_v226_eq]
    funext i
    refine (Cert.ReferenceIdeal.Taps.db_eq _ i).trans ((Cert.KernelIdeal.Taps.db_eq m c i).trans ?_).symm
    exact congrArg (fun d => Conv.dbAt d (i 1)) (hagree c).2.1.symm

theorem claim : Cert.Claim :=
  ⟨Cert.Kernel.Gen.facts, Cert.KernelIdeal.Gen.facts, Cert.ReferenceIdeal.Gen.facts, Cert.Attn.Gen.facts, Cert.AttnIdeal.Gen.facts, Cert.AttnRefIdeal.Gen.facts, Cert.Down.Gen.facts, Cert.DownIdeal.Gen.facts, Cert.DownRefIdeal.Gen.facts, Cert.Act.Gen.facts, Cert.ActIdeal.Gen.facts, Cert.ActRefIdeal.Gen.facts, Cert.Gu.Gen.facts, Cert.GuIdeal.Gen.facts, Cert.GuRefIdeal.Gen.facts, Cert.U2.Gen.facts, Cert.U2Ideal.Gen.facts, Cert.U2RefIdeal.Gen.facts, Cert.Qkv.Gen.facts, Cert.QkvIdeal.Gen.facts, Cert.QkvRefIdeal.Gen.facts, Cert.Qu.Gen.facts, Cert.QuIdeal.Gen.facts, Cert.QuRefIdeal.Gen.facts, Cert.Wo.Gen.facts, Cert.WoIdeal.Gen.facts, Cert.WoRefIdeal.Gen.facts, Cert.O.Gen.facts, Cert.OIdeal.Gen.facts, Cert.ORefIdeal.Gen.facts, Cert.Wglu.Gen.facts, Cert.WgluIdeal.Gen.facts, Cert.WgluRefIdeal.Gen.facts, Cert.Gy.Gen.facts, Cert.GyIdeal.Gen.facts, Cert.GyRefIdeal.Gen.facts, Cert.Hs.Gen.facts, Cert.HsIdeal.Gen.facts, Cert.HsRefIdeal.Gen.facts, Cert.Fqkv.Gen.facts, Cert.FqkvIdeal.Gen.facts, Cert.FqkvRefIdeal.Gen.facts, Cert.Fm.Gen.facts, Cert.FmIdeal.Gen.facts, Cert.FmRefIdeal.Gen.facts, Cert.Fglu.Gen.facts, Cert.FgluIdeal.Gen.facts, Cert.FgluRefIdeal.Gen.facts, Cert.Ff.Gen.facts, Cert.FfIdeal.Gen.facts, Cert.FfRefIdeal.Gen.facts, Cert.Fup.Gen.facts, Cert.FupIdeal.Gen.facts, Cert.FupRefIdeal.Gen.facts, Cert.Fatt.Gen.facts, Cert.FattIdeal.Gen.facts, Cert.FattRefIdeal.Gen.facts, Cert.Fconv.Gen.facts, Cert.FconvIdeal.Gen.facts, Cert.FconvRefIdeal.Gen.facts, Cert.ActB.Gen.facts, Cert.ActBIdeal.Gen.facts, Cert.ActBRefIdeal.Gen.facts, Cert.GeluB.Gen.facts, Cert.GeluBIdeal.Gen.facts, Cert.GeluBRefIdeal.Gen.facts, Cert.Gate.Gen.facts, Cert.GateIdeal.Gen.facts, Cert.GateRefIdeal.Gen.facts, Cert.Pre_finite.Gen.facts,
  fun m ρ _ => Cert.Kernel.Gen.frame m ρ, fun m ρ _ => Cert.KernelIdeal.Gen.frame m ρ, frame_reference,
  Cert.AttnIdeal.Run.frame_attn, Cert.AttnIdeal.Run.frame_attnIdeal, Cert.AttnIdeal.Run.frame_attnIdeal_pre,
  Cert.AttnIdeal.Run.frame_attnRef, Cert.AttnIdeal.Run.frame_attnRef_pre,
  fun m ρ _ => Cert.Down.Gen.frame m ρ, fun m ρ _ => Cert.DownIdeal.Gen.frame m ρ, Cert.DownIdeal.Product.frame_ref,
  fun m ρ _ => Cert.Act.Gen.frame m ρ, fun m ρ _ => Cert.ActIdeal.Gen.frame m ρ, Cert.ActIdeal.Product.frame_ref,
  fun m ρ _ => Cert.Gu.Gen.frame m ρ, fun m ρ _ => Cert.GuIdeal.Gen.frame m ρ, Cert.GuIdeal.Product.frame_ref,
  fun m ρ _ => Cert.U2.Gen.frame m ρ, fun m ρ _ => Cert.U2Ideal.Gen.frame m ρ, Cert.U2Ideal.Product.frame_ref,
  fun m ρ _ => Cert.Qkv.Gen.frame m ρ, fun m ρ _ => Cert.QkvIdeal.Gen.frame m ρ, Cert.QkvIdeal.Product.frame_ref,
  fun m ρ _ => Cert.Qu.Gen.frame m ρ, fun m ρ _ => Cert.QuIdeal.Gen.frame m ρ, Cert.QuIdeal.Product.frame_ref,
  fun m ρ _ => Cert.Wo.Gen.frame m ρ, fun m ρ _ => Cert.WoIdeal.Gen.frame m ρ, Cert.WoIdeal.Product.frame_ref,
  fun m ρ _ => Cert.O.Gen.frame m ρ, fun m ρ _ => Cert.OIdeal.Gen.frame m ρ, Cert.OIdeal.Product.frame_ref,
  fun m ρ _ => Cert.Wglu.Gen.frame m ρ, fun m ρ _ => Cert.WgluIdeal.Gen.frame m ρ, Cert.WgluIdeal.Product.frame_ref,
  fun m ρ _ => Cert.Gy.Gen.frame m ρ, fun m ρ _ => Cert.GyIdeal.Gen.frame m ρ, Cert.GyIdeal.Product.frame_ref,
  fun m ρ _ => Cert.Hs.Gen.frame m ρ, fun m ρ _ => Cert.HsIdeal.Gen.frame m ρ, Cert.HsIdeal.Product.frame_ref,
  fun m ρ _ => Cert.Fqkv.Gen.frame m ρ, fun m ρ _ => Cert.FqkvIdeal.Gen.frame m ρ, Cert.FqkvIdeal.Product.frame_ref,
  fun m ρ _ => Cert.Fm.Gen.frame m ρ, fun m ρ _ => Cert.FmIdeal.Gen.frame m ρ, Cert.FmIdeal.Product.frame_ref,
  fun m ρ _ => Cert.Fglu.Gen.frame m ρ, fun m ρ _ => Cert.FgluIdeal.Gen.frame m ρ, Cert.FgluIdeal.Product.frame_ref,
  fun m ρ _ => Cert.Ff.Gen.frame m ρ, fun m ρ _ => Cert.FfIdeal.Gen.frame m ρ, Cert.FfIdeal.Product.frame_ref,
  fun m ρ _ => Cert.Fup.Gen.frame m ρ, fun m ρ _ => Cert.FupIdeal.Gen.frame m ρ, Cert.FupIdeal.Product.frame_ref,
  Cert.FattIdeal.Run.frame_fatt, Cert.FattIdeal.Run.frame_fattIdeal,
  Cert.FattIdeal.Run.frame_fattRef,
  fun m ρ _ => Cert.Fconv.Gen.frame m ρ, fun m ρ _ => Cert.FconvIdeal.Gen.frame m ρ, Cert.FconvIdeal.Taps.frame_ref,
    fun m ρ _ => Cert.ActB.Gen.frame m ρ, fun m ρ _ => Cert.ActBIdeal.Gen.frame m ρ, Cert.ActBIdeal.Rows.frame_ref,
    fun m ρ _ => Cert.GeluB.Gen.frame m ρ, fun m ρ _ => Cert.GeluBIdeal.Gen.frame m ρ, Cert.GeluBIdeal.Rows.frame_ref,
    fun m ρ _ => Cert.Gate.Gen.frame m ρ, fun m ρ _ => Cert.GateIdeal.Gen.frame m ρ, Cert.GateIdeal.Rows.frame_ref,
  trivial, conv_algebraic, Cert.AttnIdeal.Run.preserves_attn, Cert.AttnIdeal.Run.algebraic,
  trivial, Cert.DownIdeal.Product.algebraic,
  trivial, Cert.ActIdeal.Product.algebraic,
  trivial, Cert.GuIdeal.Product.algebraic,
  trivial, Cert.U2Ideal.Product.algebraic,
  trivial, Cert.QkvIdeal.Product.algebraic,
  trivial, Cert.QuIdeal.Product.algebraic,
  trivial, Cert.WoIdeal.Product.algebraic,
  trivial, Cert.OIdeal.Product.algebraic,
  trivial, Cert.WgluIdeal.Product.algebraic,
  trivial, Cert.GyIdeal.Product.algebraic,
  trivial, Cert.HsIdeal.Product.algebraic,
  trivial, Cert.FqkvIdeal.Product.algebraic,
  trivial, Cert.FmIdeal.Product.algebraic,
  trivial, Cert.FgluIdeal.Product.algebraic,
  trivial, Cert.FfIdeal.Product.algebraic,
  trivial, Cert.FupIdeal.Product.algebraic, Cert.FattIdeal.Run.preserves_fatt, Cert.FattIdeal.Run.algebraic, trivial, Cert.FconvIdeal.Taps.algebraic, trivial, Cert.ActBIdeal.Rows.algebraic, trivial, Cert.GeluBIdeal.Rows.algebraic, trivial, Cert.GateIdeal.Rows.algebraic⟩

end Cert.Proof

end
